-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Kernel11Ideal_finite11 [hPre_finite11 : Cert.Pre_finite11.Facts] (m : (ℓ : Loc Cert.Kernel11Ideal.nD Cert.Kernel11Ideal.τ Cert.Kernel11Ideal.sig) → Buf (Elt Ideal) ℓ) : Prop :=
  ∀ c : Dev Cert.Kernel11Ideal.nD,
    (Cert.Pre_finite11.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4))) = (fun _ => 1#1)

def Pre_Reference11Ideal (m : (ℓ : Loc Cert.Reference11Ideal.nD Cert.Reference11Ideal.τ Cert.Reference11Ideal.sig) → Buf (Elt Ideal) ℓ) : Prop :=
  True

def Pre_Reference11Ideal_finite11 [hPre_finite11 : Cert.Pre_finite11.Facts] (m : (ℓ : Loc Cert.Reference11Ideal.nD Cert.Reference11Ideal.τ Cert.Reference11Ideal.sig) → Buf (Elt Ideal) ℓ) : Prop :=
  ∀ c : Dev Cert.Reference11Ideal.nD,
    (Cert.Pre_finite11.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4))) = (fun _ => 1#1)

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ r.2.sem = fun _ => 0)

def quiescent_Kernel11Ideal_pre_finite11 [hKernel11Ideal : Cert.Kernel11Ideal.Facts] [hPre_finite11 : Cert.Pre_finite11.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal_finite11 m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4))
      ∧ r.2.sem = fun _ => 0)

def quiescent_Reference11Ideal_pre_finite11 [hReference11Ideal : Cert.Reference11Ideal.Facts] [hPre_finite11 : Cert.Pre_finite11.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal_finite11 m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4)
      ∧ r.2.mem ((c.tc : Thread Cert.Kernel12.nD Cert.Kernel12.τ).loc Cert.Kernel12.main_arg5) = m ((c.tc : Thread Cert.Kernel12.nD Cert.Kernel12.τ).loc Cert.Kernel12.main_arg5)
      ∧ r.2.mem ((c.tc : Thread Cert.Kernel12.nD Cert.Kernel12.τ).loc Cert.Kernel12.main_arg6) = m ((c.tc : Thread Cert.Kernel12.nD Cert.Kernel12.τ).loc Cert.Kernel12.main_arg6)
      ∧ r.2.mem ((c.tc : Thread Cert.Kernel12.nD Cert.Kernel12.τ).loc Cert.Kernel12.main_arg7) = m ((c.tc : Thread Cert.Kernel12.nD Cert.Kernel12.τ).loc Cert.Kernel12.main_arg7)
      ∧ r.2.mem ((c.tc : Thread Cert.Kernel12.nD Cert.Kernel12.τ).loc Cert.Kernel12.main_arg8) = m ((c.tc : Thread Cert.Kernel12.nD Cert.Kernel12.τ).loc Cert.Kernel12.main_arg8)
      ∧ r.2.mem ((c.tc : Thread Cert.Kernel12.nD Cert.Kernel12.τ).loc Cert.Kernel12.main_arg9) = m ((c.tc : Thread Cert.Kernel12.nD Cert.Kernel12.τ).loc Cert.Kernel12.main_arg9))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
      ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6)
      ∧ r.2.mem ((c.tc : Thread Cert.Kernel12Ideal.nD Cert.Kernel12Ideal.τ).loc Cert.Kernel12Ideal.main_arg7) = m ((c.tc : Thread Cert.Kernel12Ideal.nD Cert.Kernel12Ideal.τ).loc Cert.Kernel12Ideal.main_arg7)
      ∧ r.2.mem ((c.tc : Thread Cert.Kernel12Ideal.nD Cert.Kernel12Ideal.τ).loc Cert.Kernel12Ideal.main_arg8) = m ((c.tc : Thread Cert.Kernel12Ideal.nD Cert.Kernel12Ideal.τ).loc Cert.Kernel12Ideal.main_arg8)
      ∧ r.2.mem ((c.tc : Thread Cert.Kernel12Ideal.nD Cert.Kernel12Ideal.τ).loc Cert.Kernel12Ideal.main_arg9) = m ((c.tc : Thread Cert.Kernel12Ideal.nD Cert.Kernel12Ideal.τ).loc Cert.Kernel12Ideal.main_arg9))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5)
      ∧ r.2.mem ((c.tc : Thread Cert.Reference12Ideal.nD Cert.Reference12Ideal.τ).loc Cert.Reference12Ideal.main_arg6) = m ((c.tc : Thread Cert.Reference12Ideal.nD Cert.Reference12Ideal.τ).loc Cert.Reference12Ideal.main_arg6)
      ∧ r.2.mem ((c.tc : Thread Cert.Reference12Ideal.nD Cert.Reference12Ideal.τ).loc Cert.Reference12Ideal.main_arg7) = m ((c.tc : Thread Cert.Reference12Ideal.nD Cert.Reference12Ideal.τ).loc Cert.Reference12Ideal.main_arg7)
      ∧ r.2.mem ((c.tc : Thread Cert.Reference12Ideal.nD Cert.Reference12Ideal.τ).loc Cert.Reference12Ideal.main_arg8) = m ((c.tc : Thread Cert.Reference12Ideal.nD Cert.Reference12Ideal.τ).loc Cert.Reference12Ideal.main_arg8)
      ∧ r.2.mem ((c.tc : Thread Cert.Reference12Ideal.nD Cert.Reference12Ideal.τ).loc Cert.Reference12Ideal.main_arg9) = m ((c.tc : Thread Cert.Reference12Ideal.nD Cert.Reference12Ideal.τ).loc Cert.Reference12Ideal.main_arg9))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3)
      ∧ r.2.mem ((c.tc : Thread Cert.Kernel21.nD Cert.Kernel21.τ).loc Cert.Kernel21.main_arg4) = m ((c.tc : Thread Cert.Kernel21.nD Cert.Kernel21.τ).loc Cert.Kernel21.main_arg4)
      ∧ r.2.mem ((c.tc : Thread Cert.Kernel21.nD Cert.Kernel21.τ).loc Cert.Kernel21.main_arg5) = m ((c.tc : Thread Cert.Kernel21.nD Cert.Kernel21.τ).loc Cert.Kernel21.main_arg5)
      ∧ r.2.mem ((c.tc : Thread Cert.Kernel21.nD Cert.Kernel21.τ).loc Cert.Kernel21.main_arg6) = m ((c.tc : Thread Cert.Kernel21.nD Cert.Kernel21.τ).loc Cert.Kernel21.main_arg6))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
      ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4)
      ∧ r.2.mem ((c.tc : Thread Cert.Kernel21Ideal.nD Cert.Kernel21Ideal.τ).loc Cert.Kernel21Ideal.main_arg5) = m ((c.tc : Thread Cert.Kernel21Ideal.nD Cert.Kernel21Ideal.τ).loc Cert.Kernel21Ideal.main_arg5)
      ∧ r.2.mem ((c.tc : Thread Cert.Kernel21Ideal.nD Cert.Kernel21Ideal.τ).loc Cert.Kernel21Ideal.main_arg6) = m ((c.tc : Thread Cert.Kernel21Ideal.nD Cert.Kernel21Ideal.τ).loc Cert.Kernel21Ideal.main_arg6))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3)
      ∧ r.2.mem ((c.tc : Thread Cert.Reference21Ideal.nD Cert.Reference21Ideal.τ).loc Cert.Reference21Ideal.main_arg4) = m ((c.tc : Thread Cert.Reference21Ideal.nD Cert.Reference21Ideal.τ).loc Cert.Reference21Ideal.main_arg4)
      ∧ r.2.mem ((c.tc : Thread Cert.Reference21Ideal.nD Cert.Reference21Ideal.τ).loc Cert.Reference21Ideal.main_arg5) = m ((c.tc : Thread Cert.Reference21Ideal.nD Cert.Reference21Ideal.τ).loc Cert.Reference21Ideal.main_arg5)
      ∧ r.2.mem ((c.tc : Thread Cert.Reference21Ideal.nD Cert.Reference21Ideal.τ).loc Cert.Reference21Ideal.main_arg6) = m ((c.tc : Thread Cert.Reference21Ideal.nD Cert.Reference21Ideal.τ).loc Cert.Reference21Ideal.main_arg6))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3)
      ∧ r.2.mem ((c.tc : Thread Cert.Kernel22.nD Cert.Kernel22.τ).loc Cert.Kernel22.main_arg4) = m ((c.tc : Thread Cert.Kernel22.nD Cert.Kernel22.τ).loc Cert.Kernel22.main_arg4)
      ∧ r.2.mem ((c.tc : Thread Cert.Kernel22.nD Cert.Kernel22.τ).loc Cert.Kernel22.main_arg5) = m ((c.tc : Thread Cert.Kernel22.nD Cert.Kernel22.τ).loc Cert.Kernel22.main_arg5)
      ∧ r.2.mem ((c.tc : Thread Cert.Kernel22.nD Cert.Kernel22.τ).loc Cert.Kernel22.main_arg6) = m ((c.tc : Thread Cert.Kernel22.nD Cert.Kernel22.τ).loc Cert.Kernel22.main_arg6))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
      ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4)
      ∧ r.2.mem ((c.tc : Thread Cert.Kernel22Ideal.nD Cert.Kernel22Ideal.τ).loc Cert.Kernel22Ideal.main_arg5) = m ((c.tc : Thread Cert.Kernel22Ideal.nD Cert.Kernel22Ideal.τ).loc Cert.Kernel22Ideal.main_arg5)
      ∧ r.2.mem ((c.tc : Thread Cert.Kernel22Ideal.nD Cert.Kernel22Ideal.τ).loc Cert.Kernel22Ideal.main_arg6) = m ((c.tc : Thread Cert.Kernel22Ideal.nD Cert.Kernel22Ideal.τ).loc Cert.Kernel22Ideal.main_arg6))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3)
      ∧ r.2.mem ((c.tc : Thread Cert.Reference22Ideal.nD Cert.Reference22Ideal.τ).loc Cert.Reference22Ideal.main_arg4) = m ((c.tc : Thread Cert.Reference22Ideal.nD Cert.Reference22Ideal.τ).loc Cert.Reference22Ideal.main_arg4)
      ∧ r.2.mem ((c.tc : Thread Cert.Reference22Ideal.nD Cert.Reference22Ideal.τ).loc Cert.Reference22Ideal.main_arg5) = m ((c.tc : Thread Cert.Reference22Ideal.nD Cert.Reference22Ideal.τ).loc Cert.Reference22Ideal.main_arg5)
      ∧ r.2.mem ((c.tc : Thread Cert.Reference22Ideal.nD Cert.Reference22Ideal.τ).loc Cert.Reference22Ideal.main_arg6) = m ((c.tc : Thread Cert.Reference22Ideal.nD Cert.Reference22Ideal.τ).loc Cert.Reference22Ideal.main_arg6))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3)
      ∧ r.2.mem ((c.tc : Thread Cert.Kernel23.nD Cert.Kernel23.τ).loc Cert.Kernel23.main_arg4) = m ((c.tc : Thread Cert.Kernel23.nD Cert.Kernel23.τ).loc Cert.Kernel23.main_arg4)
      ∧ r.2.mem ((c.tc : Thread Cert.Kernel23.nD Cert.Kernel23.τ).loc Cert.Kernel23.main_arg5) = m ((c.tc : Thread Cert.Kernel23.nD Cert.Kernel23.τ).loc Cert.Kernel23.main_arg5)
      ∧ r.2.mem ((c.tc : Thread Cert.Kernel23.nD Cert.Kernel23.τ).loc Cert.Kernel23.main_arg6) = m ((c.tc : Thread Cert.Kernel23.nD Cert.Kernel23.τ).loc Cert.Kernel23.main_arg6))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
      ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4)
      ∧ r.2.mem ((c.tc : Thread Cert.Kernel23Ideal.nD Cert.Kernel23Ideal.τ).loc Cert.Kernel23Ideal.main_arg5) = m ((c.tc : Thread Cert.Kernel23Ideal.nD Cert.Kernel23Ideal.τ).loc Cert.Kernel23Ideal.main_arg5)
      ∧ r.2.mem ((c.tc : Thread Cert.Kernel23Ideal.nD Cert.Kernel23Ideal.τ).loc Cert.Kernel23Ideal.main_arg6) = m ((c.tc : Thread Cert.Kernel23Ideal.nD Cert.Kernel23Ideal.τ).loc Cert.Kernel23Ideal.main_arg6))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3)
      ∧ r.2.mem ((c.tc : Thread Cert.Reference23Ideal.nD Cert.Reference23Ideal.τ).loc Cert.Reference23Ideal.main_arg4) = m ((c.tc : Thread Cert.Reference23Ideal.nD Cert.Reference23Ideal.τ).loc Cert.Reference23Ideal.main_arg4)
      ∧ r.2.mem ((c.tc : Thread Cert.Reference23Ideal.nD Cert.Reference23Ideal.τ).loc Cert.Reference23Ideal.main_arg5) = m ((c.tc : Thread Cert.Reference23Ideal.nD Cert.Reference23Ideal.τ).loc Cert.Reference23Ideal.main_arg5)
      ∧ r.2.mem ((c.tc : Thread Cert.Reference23Ideal.nD Cert.Reference23Ideal.τ).loc Cert.Reference23Ideal.main_arg6) = m ((c.tc : Thread Cert.Reference23Ideal.nD Cert.Reference23Ideal.τ).loc Cert.Reference23Ideal.main_arg6))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3)
      ∧ r.2.mem ((c.tc : Thread Cert.Kernel24.nD Cert.Kernel24.τ).loc Cert.Kernel24.main_arg4) = m ((c.tc : Thread Cert.Kernel24.nD Cert.Kernel24.τ).loc Cert.Kernel24.main_arg4)
      ∧ r.2.mem ((c.tc : Thread Cert.Kernel24.nD Cert.Kernel24.τ).loc Cert.Kernel24.main_arg5) = m ((c.tc : Thread Cert.Kernel24.nD Cert.Kernel24.τ).loc Cert.Kernel24.main_arg5)
      ∧ r.2.mem ((c.tc : Thread Cert.Kernel24.nD Cert.Kernel24.τ).loc Cert.Kernel24.main_arg6) = m ((c.tc : Thread Cert.Kernel24.nD Cert.Kernel24.τ).loc Cert.Kernel24.main_arg6))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
      ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4)
      ∧ r.2.mem ((c.tc : Thread Cert.Kernel24Ideal.nD Cert.Kernel24Ideal.τ).loc Cert.Kernel24Ideal.main_arg5) = m ((c.tc : Thread Cert.Kernel24Ideal.nD Cert.Kernel24Ideal.τ).loc Cert.Kernel24Ideal.main_arg5)
      ∧ r.2.mem ((c.tc : Thread Cert.Kernel24Ideal.nD Cert.Kernel24Ideal.τ).loc Cert.Kernel24Ideal.main_arg6) = m ((c.tc : Thread Cert.Kernel24Ideal.nD Cert.Kernel24Ideal.τ).loc Cert.Kernel24Ideal.main_arg6))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3)
      ∧ r.2.mem ((c.tc : Thread Cert.Reference24Ideal.nD Cert.Reference24Ideal.τ).loc Cert.Reference24Ideal.main_arg4) = m ((c.tc : Thread Cert.Reference24Ideal.nD Cert.Reference24Ideal.τ).loc Cert.Reference24Ideal.main_arg4)
      ∧ r.2.mem ((c.tc : Thread Cert.Reference24Ideal.nD Cert.Reference24Ideal.τ).loc Cert.Reference24Ideal.main_arg5) = m ((c.tc : Thread Cert.Reference24Ideal.nD Cert.Reference24Ideal.τ).loc Cert.Reference24Ideal.main_arg5)
      ∧ r.2.mem ((c.tc : Thread Cert.Reference24Ideal.nD Cert.Reference24Ideal.τ).loc Cert.Reference24Ideal.main_arg6) = m ((c.tc : Thread Cert.Reference24Ideal.nD Cert.Reference24Ideal.τ).loc Cert.Reference24Ideal.main_arg6))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3)
      ∧ r.2.mem ((c.tc : Thread Cert.Kernel25.nD Cert.Kernel25.τ).loc Cert.Kernel25.main_arg4) = m ((c.tc : Thread Cert.Kernel25.nD Cert.Kernel25.τ).loc Cert.Kernel25.main_arg4)
      ∧ r.2.mem ((c.tc : Thread Cert.Kernel25.nD Cert.Kernel25.τ).loc Cert.Kernel25.main_arg5) = m ((c.tc : Thread Cert.Kernel25.nD Cert.Kernel25.τ).loc Cert.Kernel25.main_arg5)
      ∧ r.2.mem ((c.tc : Thread Cert.Kernel25.nD Cert.Kernel25.τ).loc Cert.Kernel25.main_arg6) = m ((c.tc : Thread Cert.Kernel25.nD Cert.Kernel25.τ).loc Cert.Kernel25.main_arg6))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3)
      ∧ r.2.mem ((c.tc : Thread Cert.Kernel25Ideal.nD Cert.Kernel25Ideal.τ).loc Cert.Kernel25Ideal.main_arg4) = m ((c.tc : Thread Cert.Kernel25Ideal.nD Cert.Kernel25Ideal.τ).loc Cert.Kernel25Ideal.main_arg4)
      ∧ r.2.mem ((c.tc : Thread Cert.Kernel25Ideal.nD Cert.Kernel25Ideal.τ).loc Cert.Kernel25Ideal.main_arg5) = m ((c.tc : Thread Cert.Kernel25Ideal.nD Cert.Kernel25Ideal.τ).loc Cert.Kernel25Ideal.main_arg5)
      ∧ r.2.mem ((c.tc : Thread Cert.Kernel25Ideal.nD Cert.Kernel25Ideal.τ).loc Cert.Kernel25Ideal.main_arg6) = m ((c.tc : Thread Cert.Kernel25Ideal.nD Cert.Kernel25Ideal.τ).loc Cert.Kernel25Ideal.main_arg6))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3)
      ∧ r.2.mem ((c.tc : Thread Cert.Reference25Ideal.nD Cert.Reference25Ideal.τ).loc Cert.Reference25Ideal.main_arg4) = m ((c.tc : Thread Cert.Reference25Ideal.nD Cert.Reference25Ideal.τ).loc Cert.Reference25Ideal.main_arg4)
      ∧ r.2.mem ((c.tc : Thread Cert.Reference25Ideal.nD Cert.Reference25Ideal.τ).loc Cert.Reference25Ideal.main_arg5) = m ((c.tc : Thread Cert.Reference25Ideal.nD Cert.Reference25Ideal.τ).loc Cert.Reference25Ideal.main_arg5)
      ∧ r.2.mem ((c.tc : Thread Cert.Reference25Ideal.nD Cert.Reference25Ideal.τ).loc Cert.Reference25Ideal.main_arg6) = m ((c.tc : Thread Cert.Reference25Ideal.nD Cert.Reference25Ideal.τ).loc Cert.Reference25Ideal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v39) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel3_Kernel3Ideal : Prop :=
  True

def algebraic_Kernel3Ideal_Reference3Ideal_on_pool_blocks_pre_finite3 [hKernel3Ideal : Cert.Kernel3Ideal.Facts] [hReference3Ideal : Cert.Reference3Ideal.Facts] [hPre_finite3 : Cert.Pre_finite3.Facts] [hOn_pool_blocks : Cert.On_pool_blocks.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v19_0)) (v1 : (c : Dev Cert.Kernel3Ideal.nD) → Buf (Elt Ideal) ((c.tc : Thread Cert.Kernel3Ideal.nD Cert.Kernel3Ideal.τ).loc Cert.Kernel3Ideal.main_v19_1)) (v2 : (c : Dev Cert.Kernel3Ideal.nD) → Buf (Elt Ideal) ((c.tc : Thread Cert.Kernel3Ideal.nD Cert.Kernel3Ideal.τ).loc Cert.Kernel3Ideal.main_v19_2)) (v3 : (c : Dev Cert.Kernel3Ideal.nD) → Buf (Elt Ideal) ((c.tc : Thread Cert.Kernel3Ideal.nD Cert.Kernel3Ideal.τ).loc Cert.Kernel3Ideal.main_v19_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          (∀ i : (⟨2, ![4096, 6912]⟩ : Shape).Idx, (Cert.On_pool_blocks.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))).1 i = 1#1 → r.2.mem ((c.tc : Thread Cert.Kernel3Ideal.nD Cert.Kernel3Ideal.τ).loc Cert.Kernel3Ideal.main_v19_0) i = v0 c i)
          ∧ (∀ i : (⟨2, ![1, 384]⟩ : Shape).Idx, (Cert.On_pool_blocks.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))).2.1 i = 1#1 → r.2.mem ((c.tc : Thread Cert.Kernel3Ideal.nD Cert.Kernel3Ideal.τ).loc Cert.Kernel3Ideal.main_v19_1) i = v1 c i)
          ∧ (∀ i : (⟨2, ![384, 384]⟩ : Shape).Idx, (Cert.On_pool_blocks.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))).2.2.1 i = 1#1 → r.2.mem ((c.tc : Thread Cert.Kernel3Ideal.nD Cert.Kernel3Ideal.τ).loc Cert.Kernel3Ideal.main_v19_2) i = v2 c i)
          ∧ (∀ i : (⟨2, ![3, 384]⟩ : Shape).Idx, (Cert.On_pool_blocks.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))).2.2.2 i = 1#1 → r.2.mem ((c.tc : Thread Cert.Kernel3Ideal.nD Cert.Kernel3Ideal.τ).loc Cert.Kernel3Ideal.main_v19_3) i = v3 c i)
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          (∀ i : (⟨2, ![4096, 6912]⟩ : Shape).Idx, (Cert.On_pool_blocks.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))).1 i = 1#1 → r.2.mem ((c.tc : Thread Cert.Reference3Ideal.nD Cert.Reference3Ideal.τ).loc Cert.Reference3Ideal.main_v233) i = v0 c i)
          ∧ (∀ i : (⟨2, ![1, 384]⟩ : Shape).Idx, (Cert.On_pool_blocks.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))).2.1 i = 1#1 → r.2.mem ((c.tc : Thread Cert.Reference3Ideal.nD Cert.Reference3Ideal.τ).loc Cert.Reference3Ideal.main_v234) i = v1 c i)
          ∧ (∀ i : (⟨2, ![384, 384]⟩ : Shape).Idx, (Cert.On_pool_blocks.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))).2.2.1 i = 1#1 → r.2.mem ((c.tc : Thread Cert.Reference3Ideal.nD Cert.Reference3Ideal.τ).loc Cert.Reference3Ideal.main_v236) i = v2 c i)
          ∧ (∀ i : (⟨2, ![3, 384]⟩ : Shape).Idx, (Cert.On_pool_blocks.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))).2.2.2 i = 1#1 → r.2.mem ((c.tc : Thread Cert.Reference3Ideal.nD Cert.Reference3Ideal.τ).loc Cert.Reference3Ideal.main_v147) i = v3 c i)
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v4_0)) (v1 : (c : Dev Cert.Kernel4Ideal.nD) → Buf (Elt Ideal) ((c.tc : Thread Cert.Kernel4Ideal.nD Cert.Kernel4Ideal.τ).loc Cert.Kernel4Ideal.main_v4_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4_0) = v0 c
          ∧ r.2.mem ((c.tc : Thread Cert.Kernel4Ideal.nD Cert.Kernel4Ideal.τ).loc Cert.Kernel4Ideal.main_v4_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v38) = v0 c
          ∧ r.2.mem ((c.tc : Thread Cert.Reference4Ideal.nD Cert.Reference4Ideal.τ).loc Cert.Reference4Ideal.main_v39) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v18)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v18) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v17) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v15)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v15) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v17) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v3) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v3_0)) (v1 : (c : Dev Cert.Kernel8Ideal.nD) → Buf (Elt Ideal) ((c.tc : Thread Cert.Kernel8Ideal.nD Cert.Kernel8Ideal.τ).loc Cert.Kernel8Ideal.main_v3_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v3_0) = v0 c
          ∧ r.2.mem ((c.tc : Thread Cert.Kernel8Ideal.nD Cert.Kernel8Ideal.τ).loc Cert.Kernel8Ideal.main_v3_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v14) = v0 c
          ∧ r.2.mem ((c.tc : Thread Cert.Reference8Ideal.nD Cert.Reference8Ideal.τ).loc Cert.Reference8Ideal.main_v15) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v3_0)) (v1 : (c : Dev Cert.Kernel9Ideal.nD) → Buf (Elt Ideal) ((c.tc : Thread Cert.Kernel9Ideal.nD Cert.Kernel9Ideal.τ).loc Cert.Kernel9Ideal.main_v3_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v3_0) = v0 c
          ∧ r.2.mem ((c.tc : Thread Cert.Kernel9Ideal.nD Cert.Kernel9Ideal.τ).loc Cert.Kernel9Ideal.main_v3_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v17) = v0 c
          ∧ r.2.mem ((c.tc : Thread Cert.Reference9Ideal.nD Cert.Reference9Ideal.τ).loc Cert.Reference9Ideal.main_v18) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)) →
    ∃ (v0 : (c : Dev Cert.Kernel10Ideal.nD) → Buf (Elt Ideal) ((c.tc : Thread Cert.Kernel10Ideal.nD Cert.Kernel10Ideal.τ).loc Cert.Kernel10Ideal.main_v3_0)) (v1 : (c : Dev Cert.Kernel10Ideal.nD) → Buf (Elt Ideal) ((c.tc : Thread Cert.Kernel10Ideal.nD Cert.Kernel10Ideal.τ).loc Cert.Kernel10Ideal.main_v3_1)) (v2 : (c : Dev Cert.Kernel10Ideal.nD) → Buf (Elt Ideal) ((c.tc : Thread Cert.Kernel10Ideal.nD Cert.Kernel10Ideal.τ).loc Cert.Kernel10Ideal.main_v3_2)) (v3 : (c : Dev Cert.Kernel10Ideal.nD) → Buf (Elt Ideal) ((c.tc : Thread Cert.Kernel10Ideal.nD Cert.Kernel10Ideal.τ).loc Cert.Kernel10Ideal.main_v3_3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v3_0) = v0 c
          ∧ r.2.mem ((c.tc : Thread Cert.Kernel10Ideal.nD Cert.Kernel10Ideal.τ).loc Cert.Kernel10Ideal.main_v3_1) = v1 c
          ∧ r.2.mem ((c.tc : Thread Cert.Kernel10Ideal.nD Cert.Kernel10Ideal.τ).loc Cert.Kernel10Ideal.main_v3_2) = v2 c
          ∧ r.2.mem ((c.tc : Thread Cert.Kernel10Ideal.nD Cert.Kernel10Ideal.τ).loc Cert.Kernel10Ideal.main_v3_3) = v3 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v27) = v0 c
          ∧ r.2.mem ((c.tc : Thread Cert.Reference10Ideal.nD Cert.Reference10Ideal.τ).loc Cert.Reference10Ideal.main_v26) = v1 c
          ∧ r.2.mem ((c.tc : Thread Cert.Reference10Ideal.nD Cert.Reference10Ideal.τ).loc Cert.Reference10Ideal.main_v41) = v2 c
          ∧ r.2.mem ((c.tc : Thread Cert.Reference10Ideal.nD Cert.Reference10Ideal.τ).loc Cert.Reference10Ideal.main_v42) = v3 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4))

def preserves_Kernel11_Kernel11Ideal : Prop :=
  True

def algebraic_Kernel11Ideal_Reference11Ideal_pre_finite11 [hKernel11Ideal : Cert.Kernel11Ideal.Facts] [hReference11Ideal : Cert.Reference11Ideal.Facts] [hPre_finite11 : Cert.Pre_finite11.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal_finite11 m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)) →
    ∃ (v0 : (c : Dev Cert.Kernel11Ideal.nD) → Buf (Elt Ideal) ((c.tc : Thread Cert.Kernel11Ideal.nD Cert.Kernel11Ideal.τ).loc Cert.Kernel11Ideal.main_v53_0)) (v1 : (c : Dev Cert.Kernel11Ideal.nD) → Buf (Elt Ideal) ((c.tc : Thread Cert.Kernel11Ideal.nD Cert.Kernel11Ideal.τ).loc Cert.Kernel11Ideal.main_v53_1)) (v2 : (c : Dev Cert.Kernel11Ideal.nD) → Buf (Elt Ideal) ((c.tc : Thread Cert.Kernel11Ideal.nD Cert.Kernel11Ideal.τ).loc Cert.Kernel11Ideal.main_v53_2)) (v3 : (c : Dev Cert.Kernel11Ideal.nD) → Buf (Elt Ideal) ((c.tc : Thread Cert.Kernel11Ideal.nD Cert.Kernel11Ideal.τ).loc Cert.Kernel11Ideal.main_v53_3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v53_0) = v0 c
          ∧ r.2.mem ((c.tc : Thread Cert.Kernel11Ideal.nD Cert.Kernel11Ideal.τ).loc Cert.Kernel11Ideal.main_v53_1) = v1 c
          ∧ r.2.mem ((c.tc : Thread Cert.Kernel11Ideal.nD Cert.Kernel11Ideal.τ).loc Cert.Kernel11Ideal.main_v53_2) = v2 c
          ∧ r.2.mem ((c.tc : Thread Cert.Kernel11Ideal.nD Cert.Kernel11Ideal.τ).loc Cert.Kernel11Ideal.main_v53_3) = v3 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v102) = v0 c
          ∧ r.2.mem ((c.tc : Thread Cert.Reference11Ideal.nD Cert.Reference11Ideal.τ).loc Cert.Reference11Ideal.main_v104) = v1 c
          ∧ r.2.mem ((c.tc : Thread Cert.Reference11Ideal.nD Cert.Reference11Ideal.τ).loc Cert.Reference11Ideal.main_v105) = v2 c
          ∧ r.2.mem ((c.tc : Thread Cert.Reference11Ideal.nD Cert.Reference11Ideal.τ).loc Cert.Reference11Ideal.main_v99) = v3 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)
      ∧ m' ((c.tc : Thread Cert.Reference12Ideal.nD Cert.Reference12Ideal.τ).loc Cert.Reference12Ideal.main_arg5) = m ((c.tc : Thread Cert.Kernel12Ideal.nD Cert.Kernel12Ideal.τ).loc Cert.Kernel12Ideal.main_arg5)
      ∧ m' ((c.tc : Thread Cert.Reference12Ideal.nD Cert.Reference12Ideal.τ).loc Cert.Reference12Ideal.main_arg6) = m ((c.tc : Thread Cert.Kernel12Ideal.nD Cert.Kernel12Ideal.τ).loc Cert.Kernel12Ideal.main_arg6)
      ∧ m' ((c.tc : Thread Cert.Reference12Ideal.nD Cert.Reference12Ideal.τ).loc Cert.Reference12Ideal.main_arg7) = m ((c.tc : Thread Cert.Kernel12Ideal.nD Cert.Kernel12Ideal.τ).loc Cert.Kernel12Ideal.main_arg7)
      ∧ m' ((c.tc : Thread Cert.Reference12Ideal.nD Cert.Reference12Ideal.τ).loc Cert.Reference12Ideal.main_arg8) = m ((c.tc : Thread Cert.Kernel12Ideal.nD Cert.Kernel12Ideal.τ).loc Cert.Kernel12Ideal.main_arg8)
      ∧ m' ((c.tc : Thread Cert.Reference12Ideal.nD Cert.Reference12Ideal.τ).loc Cert.Reference12Ideal.main_arg9) = m ((c.tc : Thread Cert.Kernel12Ideal.nD Cert.Kernel12Ideal.τ).loc Cert.Kernel12Ideal.main_arg9)) →
    ∃ (v0 : (c : Dev Cert.Kernel12Ideal.nD) → Buf (Elt Ideal) ((c.tc : Thread Cert.Kernel12Ideal.nD Cert.Kernel12Ideal.τ).loc Cert.Kernel12Ideal.main_v15_0)) (v1 : (c : Dev Cert.Kernel12Ideal.nD) → Buf (Elt Ideal) ((c.tc : Thread Cert.Kernel12Ideal.nD Cert.Kernel12Ideal.τ).loc Cert.Kernel12Ideal.main_v15_1)) (v2 : (c : Dev Cert.Kernel12Ideal.nD) → Buf (Elt Ideal) ((c.tc : Thread Cert.Kernel12Ideal.nD Cert.Kernel12Ideal.τ).loc Cert.Kernel12Ideal.main_v15_2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v15_0) = v0 c
          ∧ r.2.mem ((c.tc : Thread Cert.Kernel12Ideal.nD Cert.Kernel12Ideal.τ).loc Cert.Kernel12Ideal.main_v15_1) = v1 c
          ∧ r.2.mem ((c.tc : Thread Cert.Kernel12Ideal.nD Cert.Kernel12Ideal.τ).loc Cert.Kernel12Ideal.main_v15_2) = v2 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
          ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
          ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6)
          ∧ r.2.mem ((c.tc : Thread Cert.Kernel12Ideal.nD Cert.Kernel12Ideal.τ).loc Cert.Kernel12Ideal.main_arg7) = m ((c.tc : Thread Cert.Kernel12Ideal.nD Cert.Kernel12Ideal.τ).loc Cert.Kernel12Ideal.main_arg7)
          ∧ r.2.mem ((c.tc : Thread Cert.Kernel12Ideal.nD Cert.Kernel12Ideal.τ).loc Cert.Kernel12Ideal.main_arg8) = m ((c.tc : Thread Cert.Kernel12Ideal.nD Cert.Kernel12Ideal.τ).loc Cert.Kernel12Ideal.main_arg8)
          ∧ r.2.mem ((c.tc : Thread Cert.Kernel12Ideal.nD Cert.Kernel12Ideal.τ).loc Cert.Kernel12Ideal.main_arg9) = m ((c.tc : Thread Cert.Kernel12Ideal.nD Cert.Kernel12Ideal.τ).loc Cert.Kernel12Ideal.main_arg9))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v19) = v0 c
          ∧ r.2.mem ((c.tc : Thread Cert.Reference12Ideal.nD Cert.Reference12Ideal.τ).loc Cert.Reference12Ideal.main_v18) = v1 c
          ∧ r.2.mem ((c.tc : Thread Cert.Reference12Ideal.nD Cert.Reference12Ideal.τ).loc Cert.Reference12Ideal.main_v33) = v2 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4)
          ∧ r.2.mem ((c.tc : Thread Cert.Reference12Ideal.nD Cert.Reference12Ideal.τ).loc Cert.Reference12Ideal.main_arg5) = m' ((c.tc : Thread Cert.Reference12Ideal.nD Cert.Reference12Ideal.τ).loc Cert.Reference12Ideal.main_arg5)
          ∧ r.2.mem ((c.tc : Thread Cert.Reference12Ideal.nD Cert.Reference12Ideal.τ).loc Cert.Reference12Ideal.main_arg6) = m' ((c.tc : Thread Cert.Reference12Ideal.nD Cert.Reference12Ideal.τ).loc Cert.Reference12Ideal.main_arg6)
          ∧ r.2.mem ((c.tc : Thread Cert.Reference12Ideal.nD Cert.Reference12Ideal.τ).loc Cert.Reference12Ideal.main_arg7) = m' ((c.tc : Thread Cert.Reference12Ideal.nD Cert.Reference12Ideal.τ).loc Cert.Reference12Ideal.main_arg7)
          ∧ r.2.mem ((c.tc : Thread Cert.Reference12Ideal.nD Cert.Reference12Ideal.τ).loc Cert.Reference12Ideal.main_arg8) = m' ((c.tc : Thread Cert.Reference12Ideal.nD Cert.Reference12Ideal.τ).loc Cert.Reference12Ideal.main_arg8)
          ∧ r.2.mem ((c.tc : Thread Cert.Reference12Ideal.nD Cert.Reference12Ideal.τ).loc Cert.Reference12Ideal.main_arg9) = m' ((c.tc : Thread Cert.Reference12Ideal.nD Cert.Reference12Ideal.τ).loc Cert.Reference12Ideal.main_arg9))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v23) = v0 c
          ∧ r.2.mem ((c.tc : Thread Cert.Reference13Ideal.nD Cert.Reference13Ideal.τ).loc Cert.Reference13Ideal.main_v4) = v1 c
          ∧ r.2.mem ((c.tc : Thread Cert.Reference13Ideal.nD Cert.Reference13Ideal.τ).loc Cert.Reference13Ideal.main_v10) = v2 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v23) = v0 c
          ∧ r.2.mem ((c.tc : Thread Cert.Reference14Ideal.nD Cert.Reference14Ideal.τ).loc Cert.Reference14Ideal.main_v4) = v1 c
          ∧ r.2.mem ((c.tc : Thread Cert.Reference14Ideal.nD Cert.Reference14Ideal.τ).loc Cert.Reference14Ideal.main_v10) = v2 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v23) = v0 c
          ∧ r.2.mem ((c.tc : Thread Cert.Reference15Ideal.nD Cert.Reference15Ideal.τ).loc Cert.Reference15Ideal.main_v4) = v1 c
          ∧ r.2.mem ((c.tc : Thread Cert.Reference15Ideal.nD Cert.Reference15Ideal.τ).loc Cert.Reference15Ideal.main_v10) = v2 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v23) = v0 c
          ∧ r.2.mem ((c.tc : Thread Cert.Reference16Ideal.nD Cert.Reference16Ideal.τ).loc Cert.Reference16Ideal.main_v4) = v1 c
          ∧ r.2.mem ((c.tc : Thread Cert.Reference16Ideal.nD Cert.Reference16Ideal.τ).loc Cert.Reference16Ideal.main_v10) = v2 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v23) = v0 c
          ∧ r.2.mem ((c.tc : Thread Cert.Reference17Ideal.nD Cert.Reference17Ideal.τ).loc Cert.Reference17Ideal.main_v4) = v1 c
          ∧ r.2.mem ((c.tc : Thread Cert.Reference17Ideal.nD Cert.Reference17Ideal.τ).loc Cert.Reference17Ideal.main_v10) = v2 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v23) = v0 c
          ∧ r.2.mem ((c.tc : Thread Cert.Reference18Ideal.nD Cert.Reference18Ideal.τ).loc Cert.Reference18Ideal.main_v4) = v1 c
          ∧ r.2.mem ((c.tc : Thread Cert.Reference18Ideal.nD Cert.Reference18Ideal.τ).loc Cert.Reference18Ideal.main_v10) = v2 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v23) = v0 c
          ∧ r.2.mem ((c.tc : Thread Cert.Reference19Ideal.nD Cert.Reference19Ideal.τ).loc Cert.Reference19Ideal.main_v4) = v1 c
          ∧ r.2.mem ((c.tc : Thread Cert.Reference19Ideal.nD Cert.Reference19Ideal.τ).loc Cert.Reference19Ideal.main_v10) = v2 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v23) = v0 c
          ∧ r.2.mem ((c.tc : Thread Cert.Reference20Ideal.nD Cert.Reference20Ideal.τ).loc Cert.Reference20Ideal.main_v4) = v1 c
          ∧ r.2.mem ((c.tc : Thread Cert.Reference20Ideal.nD Cert.Reference20Ideal.τ).loc Cert.Reference20Ideal.main_v10) = v2 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)
      ∧ m' ((c.tc : Thread Cert.Reference21Ideal.nD Cert.Reference21Ideal.τ).loc Cert.Reference21Ideal.main_arg4) = m ((c.tc : Thread Cert.Kernel21Ideal.nD Cert.Kernel21Ideal.τ).loc Cert.Kernel21Ideal.main_arg4)
      ∧ m' ((c.tc : Thread Cert.Reference21Ideal.nD Cert.Reference21Ideal.τ).loc Cert.Reference21Ideal.main_arg5) = m ((c.tc : Thread Cert.Kernel21Ideal.nD Cert.Kernel21Ideal.τ).loc Cert.Kernel21Ideal.main_arg5)
      ∧ m' ((c.tc : Thread Cert.Reference21Ideal.nD Cert.Reference21Ideal.τ).loc Cert.Reference21Ideal.main_arg6) = m ((c.tc : Thread Cert.Kernel21Ideal.nD Cert.Kernel21Ideal.τ).loc Cert.Kernel21Ideal.main_arg6)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)) (v3 : (c : Dev Cert.Kernel21Ideal.nD) → Buf (Elt Ideal) ((c.tc : Thread Cert.Kernel21Ideal.nD Cert.Kernel21Ideal.τ).loc Cert.Kernel21Ideal.main_v0_3)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_v0_3) = v3 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
          ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4)
          ∧ r.2.mem ((c.tc : Thread Cert.Kernel21Ideal.nD Cert.Kernel21Ideal.τ).loc Cert.Kernel21Ideal.main_arg5) = m ((c.tc : Thread Cert.Kernel21Ideal.nD Cert.Kernel21Ideal.τ).loc Cert.Kernel21Ideal.main_arg5)
          ∧ r.2.mem ((c.tc : Thread Cert.Kernel21Ideal.nD Cert.Kernel21Ideal.τ).loc Cert.Kernel21Ideal.main_arg6) = m ((c.tc : Thread Cert.Kernel21Ideal.nD Cert.Kernel21Ideal.τ).loc Cert.Kernel21Ideal.main_arg6))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v12) = v0 c
          ∧ r.2.mem ((c.tc : Thread Cert.Reference21Ideal.nD Cert.Reference21Ideal.τ).loc Cert.Reference21Ideal.main_v36) = v1 c
          ∧ r.2.mem ((c.tc : Thread Cert.Reference21Ideal.nD Cert.Reference21Ideal.τ).loc Cert.Reference21Ideal.main_v17) = v2 c
          ∧ r.2.mem ((c.tc : Thread Cert.Reference21Ideal.nD Cert.Reference21Ideal.τ).loc Cert.Reference21Ideal.main_v23) = v3 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3)
          ∧ r.2.mem ((c.tc : Thread Cert.Reference21Ideal.nD Cert.Reference21Ideal.τ).loc Cert.Reference21Ideal.main_arg4) = m' ((c.tc : Thread Cert.Reference21Ideal.nD Cert.Reference21Ideal.τ).loc Cert.Reference21Ideal.main_arg4)
          ∧ r.2.mem ((c.tc : Thread Cert.Reference21Ideal.nD Cert.Reference21Ideal.τ).loc Cert.Reference21Ideal.main_arg5) = m' ((c.tc : Thread Cert.Reference21Ideal.nD Cert.Reference21Ideal.τ).loc Cert.Reference21Ideal.main_arg5)
          ∧ r.2.mem ((c.tc : Thread Cert.Reference21Ideal.nD Cert.Reference21Ideal.τ).loc Cert.Reference21Ideal.main_arg6) = m' ((c.tc : Thread Cert.Reference21Ideal.nD Cert.Reference21Ideal.τ).loc Cert.Reference21Ideal.main_arg6))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)
      ∧ m' ((c.tc : Thread Cert.Reference22Ideal.nD Cert.Reference22Ideal.τ).loc Cert.Reference22Ideal.main_arg4) = m ((c.tc : Thread Cert.Kernel22Ideal.nD Cert.Kernel22Ideal.τ).loc Cert.Kernel22Ideal.main_arg4)
      ∧ m' ((c.tc : Thread Cert.Reference22Ideal.nD Cert.Reference22Ideal.τ).loc Cert.Reference22Ideal.main_arg5) = m ((c.tc : Thread Cert.Kernel22Ideal.nD Cert.Kernel22Ideal.τ).loc Cert.Kernel22Ideal.main_arg5)
      ∧ m' ((c.tc : Thread Cert.Reference22Ideal.nD Cert.Reference22Ideal.τ).loc Cert.Reference22Ideal.main_arg6) = m ((c.tc : Thread Cert.Kernel22Ideal.nD Cert.Kernel22Ideal.τ).loc Cert.Kernel22Ideal.main_arg6)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)) (v2 : (c : Dev Cert.Kernel22Ideal.nD) → Buf (Elt Ideal) ((c.tc : Thread Cert.Kernel22Ideal.nD Cert.Kernel22Ideal.τ).loc Cert.Kernel22Ideal.main_v0_2)) (v3 : (c : Dev Cert.Kernel22Ideal.nD) → Buf (Elt Ideal) ((c.tc : Thread Cert.Kernel22Ideal.nD Cert.Kernel22Ideal.τ).loc Cert.Kernel22Ideal.main_v0_3)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_v0_2) = v2 c
          ∧ r.2.mem ((c.tc : Thread Cert.Kernel22Ideal.nD Cert.Kernel22Ideal.τ).loc Cert.Kernel22Ideal.main_v0_3) = v3 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
          ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4)
          ∧ r.2.mem ((c.tc : Thread Cert.Kernel22Ideal.nD Cert.Kernel22Ideal.τ).loc Cert.Kernel22Ideal.main_arg5) = m ((c.tc : Thread Cert.Kernel22Ideal.nD Cert.Kernel22Ideal.τ).loc Cert.Kernel22Ideal.main_arg5)
          ∧ r.2.mem ((c.tc : Thread Cert.Kernel22Ideal.nD Cert.Kernel22Ideal.τ).loc Cert.Kernel22Ideal.main_arg6) = m ((c.tc : Thread Cert.Kernel22Ideal.nD Cert.Kernel22Ideal.τ).loc Cert.Kernel22Ideal.main_arg6))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v12) = v0 c
          ∧ r.2.mem ((c.tc : Thread Cert.Reference22Ideal.nD Cert.Reference22Ideal.τ).loc Cert.Reference22Ideal.main_v36) = v1 c
          ∧ r.2.mem ((c.tc : Thread Cert.Reference22Ideal.nD Cert.Reference22Ideal.τ).loc Cert.Reference22Ideal.main_v17) = v2 c
          ∧ r.2.mem ((c.tc : Thread Cert.Reference22Ideal.nD Cert.Reference22Ideal.τ).loc Cert.Reference22Ideal.main_v23) = v3 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3)
          ∧ r.2.mem ((c.tc : Thread Cert.Reference22Ideal.nD Cert.Reference22Ideal.τ).loc Cert.Reference22Ideal.main_arg4) = m' ((c.tc : Thread Cert.Reference22Ideal.nD Cert.Reference22Ideal.τ).loc Cert.Reference22Ideal.main_arg4)
          ∧ r.2.mem ((c.tc : Thread Cert.Reference22Ideal.nD Cert.Reference22Ideal.τ).loc Cert.Reference22Ideal.main_arg5) = m' ((c.tc : Thread Cert.Reference22Ideal.nD Cert.Reference22Ideal.τ).loc Cert.Reference22Ideal.main_arg5)
          ∧ r.2.mem ((c.tc : Thread Cert.Reference22Ideal.nD Cert.Reference22Ideal.τ).loc Cert.Reference22Ideal.main_arg6) = m' ((c.tc : Thread Cert.Reference22Ideal.nD Cert.Reference22Ideal.τ).loc Cert.Reference22Ideal.main_arg6))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)
      ∧ m' ((c.tc : Thread Cert.Reference23Ideal.nD Cert.Reference23Ideal.τ).loc Cert.Reference23Ideal.main_arg4) = m ((c.tc : Thread Cert.Kernel23Ideal.nD Cert.Kernel23Ideal.τ).loc Cert.Kernel23Ideal.main_arg4)
      ∧ m' ((c.tc : Thread Cert.Reference23Ideal.nD Cert.Reference23Ideal.τ).loc Cert.Reference23Ideal.main_arg5) = m ((c.tc : Thread Cert.Kernel23Ideal.nD Cert.Kernel23Ideal.τ).loc Cert.Kernel23Ideal.main_arg5)
      ∧ m' ((c.tc : Thread Cert.Reference23Ideal.nD Cert.Reference23Ideal.τ).loc Cert.Reference23Ideal.main_arg6) = m ((c.tc : Thread Cert.Kernel23Ideal.nD Cert.Kernel23Ideal.τ).loc Cert.Kernel23Ideal.main_arg6)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)) (v2 : (c : Dev Cert.Kernel23Ideal.nD) → Buf (Elt Ideal) ((c.tc : Thread Cert.Kernel23Ideal.nD Cert.Kernel23Ideal.τ).loc Cert.Kernel23Ideal.main_v0_2)) (v3 : (c : Dev Cert.Kernel23Ideal.nD) → Buf (Elt Ideal) ((c.tc : Thread Cert.Kernel23Ideal.nD Cert.Kernel23Ideal.τ).loc Cert.Kernel23Ideal.main_v0_3)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_v0_2) = v2 c
          ∧ r.2.mem ((c.tc : Thread Cert.Kernel23Ideal.nD Cert.Kernel23Ideal.τ).loc Cert.Kernel23Ideal.main_v0_3) = v3 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
          ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4)
          ∧ r.2.mem ((c.tc : Thread Cert.Kernel23Ideal.nD Cert.Kernel23Ideal.τ).loc Cert.Kernel23Ideal.main_arg5) = m ((c.tc : Thread Cert.Kernel23Ideal.nD Cert.Kernel23Ideal.τ).loc Cert.Kernel23Ideal.main_arg5)
          ∧ r.2.mem ((c.tc : Thread Cert.Kernel23Ideal.nD Cert.Kernel23Ideal.τ).loc Cert.Kernel23Ideal.main_arg6) = m ((c.tc : Thread Cert.Kernel23Ideal.nD Cert.Kernel23Ideal.τ).loc Cert.Kernel23Ideal.main_arg6))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v12) = v0 c
          ∧ r.2.mem ((c.tc : Thread Cert.Reference23Ideal.nD Cert.Reference23Ideal.τ).loc Cert.Reference23Ideal.main_v36) = v1 c
          ∧ r.2.mem ((c.tc : Thread Cert.Reference23Ideal.nD Cert.Reference23Ideal.τ).loc Cert.Reference23Ideal.main_v17) = v2 c
          ∧ r.2.mem ((c.tc : Thread Cert.Reference23Ideal.nD Cert.Reference23Ideal.τ).loc Cert.Reference23Ideal.main_v23) = v3 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3)
          ∧ r.2.mem ((c.tc : Thread Cert.Reference23Ideal.nD Cert.Reference23Ideal.τ).loc Cert.Reference23Ideal.main_arg4) = m' ((c.tc : Thread Cert.Reference23Ideal.nD Cert.Reference23Ideal.τ).loc Cert.Reference23Ideal.main_arg4)
          ∧ r.2.mem ((c.tc : Thread Cert.Reference23Ideal.nD Cert.Reference23Ideal.τ).loc Cert.Reference23Ideal.main_arg5) = m' ((c.tc : Thread Cert.Reference23Ideal.nD Cert.Reference23Ideal.τ).loc Cert.Reference23Ideal.main_arg5)
          ∧ r.2.mem ((c.tc : Thread Cert.Reference23Ideal.nD Cert.Reference23Ideal.τ).loc Cert.Reference23Ideal.main_arg6) = m' ((c.tc : Thread Cert.Reference23Ideal.nD Cert.Reference23Ideal.τ).loc Cert.Reference23Ideal.main_arg6))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)
      ∧ m' ((c.tc : Thread Cert.Reference24Ideal.nD Cert.Reference24Ideal.τ).loc Cert.Reference24Ideal.main_arg4) = m ((c.tc : Thread Cert.Kernel24Ideal.nD Cert.Kernel24Ideal.τ).loc Cert.Kernel24Ideal.main_arg4)
      ∧ m' ((c.tc : Thread Cert.Reference24Ideal.nD Cert.Reference24Ideal.τ).loc Cert.Reference24Ideal.main_arg5) = m ((c.tc : Thread Cert.Kernel24Ideal.nD Cert.Kernel24Ideal.τ).loc Cert.Kernel24Ideal.main_arg5)
      ∧ m' ((c.tc : Thread Cert.Reference24Ideal.nD Cert.Reference24Ideal.τ).loc Cert.Reference24Ideal.main_arg6) = m ((c.tc : Thread Cert.Kernel24Ideal.nD Cert.Kernel24Ideal.τ).loc Cert.Kernel24Ideal.main_arg6)) →
    ∃ (v0 : (c : Dev Cert.Kernel24Ideal.nD) → Buf (Elt Ideal) ((c.tc : Thread Cert.Kernel24Ideal.nD Cert.Kernel24Ideal.τ).loc Cert.Kernel24Ideal.main_v0_0)) (v1 : (c : Dev Cert.Kernel24Ideal.nD) → Buf (Elt Ideal) ((c.tc : Thread Cert.Kernel24Ideal.nD Cert.Kernel24Ideal.τ).loc Cert.Kernel24Ideal.main_v0_1)) (v2 : (c : Dev Cert.Kernel24Ideal.nD) → Buf (Elt Ideal) ((c.tc : Thread Cert.Kernel24Ideal.nD Cert.Kernel24Ideal.τ).loc Cert.Kernel24Ideal.main_v0_2)) (v3 : (c : Dev Cert.Kernel24Ideal.nD) → Buf (Elt Ideal) ((c.tc : Thread Cert.Kernel24Ideal.nD Cert.Kernel24Ideal.τ).loc Cert.Kernel24Ideal.main_v0_3)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_0) = v0 c
          ∧ r.2.mem ((c.tc : Thread Cert.Kernel24Ideal.nD Cert.Kernel24Ideal.τ).loc Cert.Kernel24Ideal.main_v0_1) = v1 c
          ∧ r.2.mem ((c.tc : Thread Cert.Kernel24Ideal.nD Cert.Kernel24Ideal.τ).loc Cert.Kernel24Ideal.main_v0_2) = v2 c
          ∧ r.2.mem ((c.tc : Thread Cert.Kernel24Ideal.nD Cert.Kernel24Ideal.τ).loc Cert.Kernel24Ideal.main_v0_3) = v3 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
          ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4)
          ∧ r.2.mem ((c.tc : Thread Cert.Kernel24Ideal.nD Cert.Kernel24Ideal.τ).loc Cert.Kernel24Ideal.main_arg5) = m ((c.tc : Thread Cert.Kernel24Ideal.nD Cert.Kernel24Ideal.τ).loc Cert.Kernel24Ideal.main_arg5)
          ∧ r.2.mem ((c.tc : Thread Cert.Kernel24Ideal.nD Cert.Kernel24Ideal.τ).loc Cert.Kernel24Ideal.main_arg6) = m ((c.tc : Thread Cert.Kernel24Ideal.nD Cert.Kernel24Ideal.τ).loc Cert.Kernel24Ideal.main_arg6))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v12) = v0 c
          ∧ r.2.mem ((c.tc : Thread Cert.Reference24Ideal.nD Cert.Reference24Ideal.τ).loc Cert.Reference24Ideal.main_v36) = v1 c
          ∧ r.2.mem ((c.tc : Thread Cert.Reference24Ideal.nD Cert.Reference24Ideal.τ).loc Cert.Reference24Ideal.main_v17) = v2 c
          ∧ r.2.mem ((c.tc : Thread Cert.Reference24Ideal.nD Cert.Reference24Ideal.τ).loc Cert.Reference24Ideal.main_v23) = v3 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3)
          ∧ r.2.mem ((c.tc : Thread Cert.Reference24Ideal.nD Cert.Reference24Ideal.τ).loc Cert.Reference24Ideal.main_arg4) = m' ((c.tc : Thread Cert.Reference24Ideal.nD Cert.Reference24Ideal.τ).loc Cert.Reference24Ideal.main_arg4)
          ∧ r.2.mem ((c.tc : Thread Cert.Reference24Ideal.nD Cert.Reference24Ideal.τ).loc Cert.Reference24Ideal.main_arg5) = m' ((c.tc : Thread Cert.Reference24Ideal.nD Cert.Reference24Ideal.τ).loc Cert.Reference24Ideal.main_arg5)
          ∧ r.2.mem ((c.tc : Thread Cert.Reference24Ideal.nD Cert.Reference24Ideal.τ).loc Cert.Reference24Ideal.main_arg6) = m' ((c.tc : Thread Cert.Reference24Ideal.nD Cert.Reference24Ideal.τ).loc Cert.Reference24Ideal.main_arg6))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)
      ∧ m' ((c.tc : Thread Cert.Reference25Ideal.nD Cert.Reference25Ideal.τ).loc Cert.Reference25Ideal.main_arg4) = m ((c.tc : Thread Cert.Kernel25Ideal.nD Cert.Kernel25Ideal.τ).loc Cert.Kernel25Ideal.main_arg4)
      ∧ m' ((c.tc : Thread Cert.Reference25Ideal.nD Cert.Reference25Ideal.τ).loc Cert.Reference25Ideal.main_arg5) = m ((c.tc : Thread Cert.Kernel25Ideal.nD Cert.Kernel25Ideal.τ).loc Cert.Kernel25Ideal.main_arg5)
      ∧ m' ((c.tc : Thread Cert.Reference25Ideal.nD Cert.Reference25Ideal.τ).loc Cert.Reference25Ideal.main_arg6) = m ((c.tc : Thread Cert.Kernel25Ideal.nD Cert.Kernel25Ideal.τ).loc Cert.Kernel25Ideal.main_arg6)) →
    ∃ (v0 : (c : Dev Cert.Kernel25Ideal.nD) → Buf (Elt Ideal) ((c.tc : Thread Cert.Kernel25Ideal.nD Cert.Kernel25Ideal.τ).loc Cert.Kernel25Ideal.main_v0_0)) (v1 : (c : Dev Cert.Kernel25Ideal.nD) → Buf (Elt Ideal) ((c.tc : Thread Cert.Kernel25Ideal.nD Cert.Kernel25Ideal.τ).loc Cert.Kernel25Ideal.main_v0_1)) (v2 : (c : Dev Cert.Kernel25Ideal.nD) → Buf (Elt Ideal) ((c.tc : Thread Cert.Kernel25Ideal.nD Cert.Kernel25Ideal.τ).loc Cert.Kernel25Ideal.main_v0_2)) (v3 : (c : Dev Cert.Kernel25Ideal.nD) → Buf (Elt Ideal) ((c.tc : Thread Cert.Kernel25Ideal.nD Cert.Kernel25Ideal.τ).loc Cert.Kernel25Ideal.main_v0_3)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0_0) = v0 c
          ∧ r.2.mem ((c.tc : Thread Cert.Kernel25Ideal.nD Cert.Kernel25Ideal.τ).loc Cert.Kernel25Ideal.main_v0_1) = v1 c
          ∧ r.2.mem ((c.tc : Thread Cert.Kernel25Ideal.nD Cert.Kernel25Ideal.τ).loc Cert.Kernel25Ideal.main_v0_2) = v2 c
          ∧ r.2.mem ((c.tc : Thread Cert.Kernel25Ideal.nD Cert.Kernel25Ideal.τ).loc Cert.Kernel25Ideal.main_v0_3) = v3 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3)
          ∧ r.2.mem ((c.tc : Thread Cert.Kernel25Ideal.nD Cert.Kernel25Ideal.τ).loc Cert.Kernel25Ideal.main_arg4) = m ((c.tc : Thread Cert.Kernel25Ideal.nD Cert.Kernel25Ideal.τ).loc Cert.Kernel25Ideal.main_arg4)
          ∧ r.2.mem ((c.tc : Thread Cert.Kernel25Ideal.nD Cert.Kernel25Ideal.τ).loc Cert.Kernel25Ideal.main_arg5) = m ((c.tc : Thread Cert.Kernel25Ideal.nD Cert.Kernel25Ideal.τ).loc Cert.Kernel25Ideal.main_arg5)
          ∧ r.2.mem ((c.tc : Thread Cert.Kernel25Ideal.nD Cert.Kernel25Ideal.τ).loc Cert.Kernel25Ideal.main_arg6) = m ((c.tc : Thread Cert.Kernel25Ideal.nD Cert.Kernel25Ideal.τ).loc Cert.Kernel25Ideal.main_arg6))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v12) = v0 c
          ∧ r.2.mem ((c.tc : Thread Cert.Reference25Ideal.nD Cert.Reference25Ideal.τ).loc Cert.Reference25Ideal.main_v36) = v1 c
          ∧ r.2.mem ((c.tc : Thread Cert.Reference25Ideal.nD Cert.Reference25Ideal.τ).loc Cert.Reference25Ideal.main_v17) = v2 c
          ∧ r.2.mem ((c.tc : Thread Cert.Reference25Ideal.nD Cert.Reference25Ideal.τ).loc Cert.Reference25Ideal.main_v23) = v3 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3)
          ∧ r.2.mem ((c.tc : Thread Cert.Reference25Ideal.nD Cert.Reference25Ideal.τ).loc Cert.Reference25Ideal.main_arg4) = m' ((c.tc : Thread Cert.Reference25Ideal.nD Cert.Reference25Ideal.τ).loc Cert.Reference25Ideal.main_arg4)
          ∧ r.2.mem ((c.tc : Thread Cert.Reference25Ideal.nD Cert.Reference25Ideal.τ).loc Cert.Reference25Ideal.main_arg5) = m' ((c.tc : Thread Cert.Reference25Ideal.nD Cert.Reference25Ideal.τ).loc Cert.Reference25Ideal.main_arg5)
          ∧ r.2.mem ((c.tc : Thread Cert.Reference25Ideal.nD Cert.Reference25Ideal.τ).loc Cert.Reference25Ideal.main_arg6) = m' ((c.tc : Thread Cert.Reference25Ideal.nD Cert.Reference25Ideal.τ).loc Cert.Reference25Ideal.main_arg6))

def Claim : Prop :=
  ∃ (hKernel : Cert.Kernel.Facts) (hKernelIdeal : Cert.KernelIdeal.Facts) (hReferenceIdeal : Cert.ReferenceIdeal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hPre_finite3 : Cert.Pre_finite3.Facts) (hPre_finite11 : Cert.Pre_finite11.Facts) (hOn_pool_blocks : Cert.On_pool_blocks.Facts),
    quiescent_Kernel (hKernel := hKernel)
    ∧ quiescent_KernelIdeal (hKernelIdeal := hKernelIdeal)
    ∧ quiescent_ReferenceIdeal (hReferenceIdeal := hReferenceIdeal)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Kernel11Ideal_pre_finite11 (hKernel11Ideal := hKernel11Ideal) (hPre_finite11 := hPre_finite11)
    ∧ quiescent_Reference11Ideal (hReference11Ideal := hReference11Ideal)
    ∧ quiescent_Reference11Ideal_pre_finite11 (hReference11Ideal := hReference11Ideal) (hPre_finite11 := hPre_finite11)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ preserves_Kernel_KernelIdeal
    ∧ algebraic_KernelIdeal_ReferenceIdeal (hKernelIdeal := hKernelIdeal) (hReferenceIdeal := hReferenceIdeal)
    ∧ preserves_Kernel3_Kernel3Ideal
    ∧ algebraic_Kernel3Ideal_Reference3Ideal_on_pool_blocks_pre_finite3 (hKernel3Ideal := hKernel3Ideal) (hReference3Ideal := hReference3Ideal) (hPre_finite3 := hPre_finite3) (hOn_pool_blocks := hOn_pool_blocks)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal_pre_finite11 (hKernel11Ideal := hKernel11Ideal) (hReference11Ideal := hReference11Ideal) (hPre_finite11 := hPre_finite11)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
-- ==== On_pool_blocks.lean ====
abbrev S4096x6912 : Shape := ⟨2, ![4096, 6912]⟩
abbrev S4096x384 : Shape := ⟨2, ![4096, 384]⟩
abbrev S4x96x96 : Shape := ⟨3, ![4, 96, 96]⟩
abbrev S384 : Shape := ⟨1, ![384]⟩
abbrev S3x384 : Shape := ⟨2, ![3, 384]⟩
abbrev S_ : Shape := ⟨0, ![]⟩
abbrev S1x384 : Shape := ⟨2, ![1, 384]⟩
abbrev S384x384 : Shape := ⟨2, ![384, 384]⟩

class Facts : Prop where
  bcast_S_S4096x6912 : S_.BroadcastsInDim S4096x6912 (![] : Fin 0 → Fin S4096x6912.rank)
  bcast_S_S1x384 : S_.BroadcastsInDim S1x384 (![] : Fin 0 → Fin S1x384.rank)
  bcast_S_S384x384 : S_.BroadcastsInDim S384x384 (![] : Fin 0 → Fin S384x384.rank)
  bcast_S_S3x384 : S_.BroadcastsInDim S3x384 (![] : Fin 0 → Fin S3x384.rank)

variable [Facts]

def fn_where {F : FTy → Type} [FloatOps F] (arg0 : IVec S384x384 1) (arg1 : IVec S384x384 32) (arg2 : IVec S384x384 32) : IVec S384x384 32 :=
  let v0 : IVec S384x384 32 := select arg0 arg1 arg2
  v0

def fn_floor_divide {F : FTy → Type} [FloatOps F] (arg0 : IVec S384x384 32) (arg1 : IVec S_ 32) : IVec S384x384 32 :=
  let v0 : IVec S_ 32 := id arg1
  let v1 : IVec S384x384 32 := broadcastInDim S384x384 ![] bcast_S_S384x384 v0
  let v2 : IVec S384x384 32 := Host.divsi arg0 v1
  let v3 : IVec S384x384 32 := signi arg0
  let v4 : IVec S_ 32 := signi v0
  let v5 : IVec S384x384 32 := broadcastInDim S384x384 ![] bcast_S_S384x384 v4
  let v6 : IVec S384x384 1 := cmpi .ne v3 v5
  let v7 : IVec S384x384 32 := broadcastInDim S384x384 ![] bcast_S_S384x384 v0
  let v8 : IVec S384x384 32 := Host.remsi arg0 v7
  let c : IVec S_ 32 := constantI S_ 32 0#32
  let v9 : IVec S384x384 32 := broadcastInDim S384x384 ![] bcast_S_S384x384 c
  let v10 : IVec S384x384 1 := cmpi .ne v8 v9
  let v11 : IVec S384x384 1 := andi v6 v10
  let c_0 : IVec S_ 32 := constantI S_ 32 1#32
  let v12 : IVec S384x384 32 := broadcastInDim S384x384 ![] bcast_S_S384x384 c_0
  let v13 : IVec S384x384 32 := subi v2 v12
  let v14 : IVec S384x384 32 := fn_where (F := F) v11 v13 v2
  v14

def fn {F : FTy → Type} [FloatOps F] (main_arg0 : FVec F S4096x6912 .f32) (main_arg1 : FVec F S4096x384 .f32) (main_arg2 : FVec F S4096x384 .f32) (main_arg3 : FVec F S4096x6912 .bf16) (main_arg4 : FVec F S4x96x96 .f32) (main_arg5 : FVec F S384 .f32) (main_arg6 : FVec F S3x384 .f32) : IVec S4096x6912 1 × IVec S1x384 1 × IVec S384x384 1 × IVec S3x384 1 :=
  let main_c : IVec S_ 1 := constantI S_ 1 1#1
  let main_v0 : IVec S4096x6912 1 := broadcastInDim S4096x6912 ![] bcast_S_S4096x6912 main_c
  let main_c_0 : IVec S_ 1 := constantI S_ 1 1#1
  let main_v1 : IVec S1x384 1 := broadcastInDim S1x384 ![] bcast_S_S1x384 main_c_0
  let main_v2 : IVec S384x384 32 := iotaInDim S384x384 32 0
  let main_c_1 : IVec S_ 32 := constantI S_ 32 96#32
  let main_v3 : IVec S384x384 32 := fn_floor_divide (F := F) main_v2 main_c_1
  let main_v4 : IVec S384x384 32 := iotaInDim S384x384 32 1
  let main_c_2 : IVec S_ 32 := constantI S_ 32 96#32
  let main_v5 : IVec S384x384 32 := fn_floor_divide (F := F) main_v4 main_c_2
  let main_v6 : IVec S384x384 1 := cmpi .eq main_v3 main_v5
  let main_c_3 : IVec S_ 1 := constantI S_ 1 1#1
  let main_v7 : IVec S3x384 1 := broadcastInDim S3x384 ![] bcast_S_S3x384 main_c_3
  (main_v0, main_v1, main_v6, main_v7)
-- ==== Pre_finite11.lean ====
abbrev S4096x1024 : Shape := ⟨2, ![4096, 1024]⟩
abbrev S4096x5632 : Shape := ⟨2, ![4096, 5632]⟩
abbrev S3x2816 : Shape := ⟨2, ![3, 2816]⟩
abbrev S2816x1024 : Shape := ⟨2, ![2816, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096x5632 : S_.BroadcastsInDim S4096x5632 (![] : Fin 0 → Fin S4096x5632.rank)
  reducesTo_S4096x5632_S_d0_1 : S4096x5632.ReducesTo [0, 1] S_
  bcast_S_S3x2816 : S_.BroadcastsInDim S3x2816 (![] : Fin 0 → Fin S3x2816.rank)
  reducesTo_S3x2816_S_d0_1 : S3x2816.ReducesTo [0, 1] S_
  bcast_S_S2816x1024 : S_.BroadcastsInDim S2816x1024 (![] : Fin 0 → Fin S2816x1024.rank)
  reducesTo_S2816x1024_S_d0_1 : S2816x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v13 : IVec S_ 1) (main_v16 : IVec S2816x1024 1) : IVec S_ 1 :=
  let main_c_5 : IVec S_ 1 := constantI S_ 1 1#1
  let main_v17 : IVec S_ 1 := (fun x v => Host.reduce IntOp.andi x v reducesTo_S2816x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S4096x1024 .f32) (main_arg1 : FVec F S4096x5632 .f32) (main_arg2 : FVec F S3x2816 .f32) (main_arg3 : FVec F S2816x1024 .f32) (main_arg4 : FVec F S1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x5632 .f32 := Host.absf main_arg1
  let main_cst_0 : FVec F S_ .f32 := constant S_ .f32 0x7F800000#32
  let main_v5 : FVec F S4096x5632 .f32 := broadcastInDim S4096x5632 ![] bcast_S_S4096x5632 main_cst_0
  let main_v6 : IVec S4096x5632 1 := cmpf .olt main_v4 main_v5
  let main_c_1 : IVec S_ 1 := constantI S_ 1 1#1
  let main_v7 : IVec S_ 1 := (fun x v => Host.reduce IntOp.andi x v reducesTo_S4096x5632_S_d0_1 h_S_) main_v6 main_c_1
  let main_v8 : IVec S_ 1 := andi main_v3 main_v7
  let main_v9 : FVec F S3x2816 .f32 := Host.absf main_arg2
  let main_cst_2 : FVec F S_ .f32 := constant S_ .f32 0x7F800000#32
  let main_v10 : FVec F S3x2816 .f32 := broadcastInDim S3x2816 ![] bcast_S_S3x2816 main_cst_2
  let main_v11 : IVec S3x2816 1 := cmpf .olt main_v9 main_v10
  let main_c_3 : IVec S_ 1 := constantI S_ 1 1#1
  let main_v12 : IVec S_ 1 := (fun x v => Host.reduce IntOp.andi x v reducesTo_S3x2816_S_d0_1 h_S_) main_v11 main_c_3
  let main_v13 : IVec S_ 1 := andi main_v8 main_v12
  let main_v14 : FVec F S2816x1024 .f32 := Host.absf main_arg3
  let main_cst_4 : FVec F S_ .f32 := constant S_ .f32 0x7F800000#32
  let main_v15 : FVec F S2816x1024 .f32 := broadcastInDim S2816x1024 ![] bcast_S_S2816x1024 main_cst_4
  let main_v16 : IVec S2816x1024 1 := cmpf .olt main_v14 main_v15
  fn_part1 (F := F) main_arg4 main_v13 main_v16
-- ==== Pre_finite3.lean ====
abbrev S4096x6912 : Shape := ⟨2, ![4096, 6912]⟩
abbrev S4096x384 : Shape := ⟨2, ![4096, 384]⟩
abbrev S4x96x96 : Shape := ⟨3, ![4, 96, 96]⟩
abbrev S384 : Shape := ⟨1, ![384]⟩
abbrev S3x384 : Shape := ⟨2, ![3, 384]⟩
abbrev S_ : Shape := ⟨0, ![]⟩

class Facts : Prop where
  bcast_S_S4096x6912 : S_.BroadcastsInDim S4096x6912 (![] : Fin 0 → Fin S4096x6912.rank)
  reducesTo_S4096x6912_S_d0_1 : S4096x6912.ReducesTo [0, 1] S_
  h_S_ : 0 < S_.numel
  bcast_S_S4096x384 : S_.BroadcastsInDim S4096x384 (![] : Fin 0 → Fin S4096x384.rank)
  reducesTo_S4096x384_S_d0_1 : S4096x384.ReducesTo [0, 1] S_
  bcast_S_S4x96x96 : S_.BroadcastsInDim S4x96x96 (![] : Fin 0 → Fin S4x96x96.rank)
  reducesTo_S4x96x96_S_d0_1_2 : S4x96x96.ReducesTo [0, 1, 2] S_
  bcast_S_S384 : S_.BroadcastsInDim S384 (![] : Fin 0 → Fin S384.rank)
  reducesTo_S384_S_d0 : S384.ReducesTo [0] S_

variable [Facts]

def fn_part1 {F : FTy → Type} [FloatOps F] (main_v13 : IVec S_ 1) (main_v16 : IVec S384 1) : IVec S_ 1 :=
  let main_c_5 : IVec S_ 1 := constantI S_ 1 1#1
  let main_v17 : IVec S_ 1 := (fun x v => Host.reduce IntOp.andi x v reducesTo_S384_S_d0 h_S_) main_v16 main_c_5
  let main_v18 : IVec S_ 1 := andi main_v13 main_v17
  main_v18

def fn {F : FTy → Type} [FloatOps F] (main_arg0 : FVec F S4096x6912 .f32) (main_arg1 : FVec F S4096x384 .f32) (main_arg2 : FVec F S4096x384 .f32) (main_arg3 : FVec F S4096x6912 .bf16) (main_arg4 : FVec F S4x96x96 .f32) (main_arg5 : FVec F S384 .f32) (main_arg6 : FVec F S3x384 .f32) : IVec S_ 1 :=
  let main_v0 : FVec F S4096x6912 .f32 := Host.absf main_arg0
  let main_cst : FVec F S_ .f32 := constant S_ .f32 0x7F800000#32
  let main_v1 : FVec F S4096x6912 .f32 := broadcastInDim S4096x6912 ![] bcast_S_S4096x6912 main_cst
  let main_v2 : IVec S4096x6912 1 := cmpf .olt main_v0 main_v1
  let main_c : IVec S_ 1 := constantI S_ 1 1#1
  let main_v3 : IVec S_ 1 := (fun x v => Host.reduce IntOp.andi x v reducesTo_S4096x6912_S_d0_1 h_S_) main_v2 main_c
  let main_v4 : FVec F S4096x384 .f32 := Host.absf main_arg1
  let main_cst_0 : FVec F S_ .f32 := constant S_ .f32 0x7F800000#32
  let main_v5 : FVec F S4096x384 .f32 := broadcastInDim S4096x384 ![] bcast_S_S4096x384 main_cst_0
  let main_v6 : IVec S4096x384 1 := cmpf .olt main_v4 main_v5
  let main_c_1 : IVec S_ 1 := constantI S_ 1 1#1
  let main_v7 : IVec S_ 1 := (fun x v => Host.reduce IntOp.andi x v reducesTo_S4096x384_S_d0_1 h_S_) main_v6 main_c_1
  let main_v8 : IVec S_ 1 := andi main_v3 main_v7
  let main_v9 : FVec F S4x96x96 .f32 := Host.absf main_arg4
  let main_cst_2 : FVec F S_ .f32 := constant S_ .f32 0x7F800000#32
  let main_v10 : FVec F S4x96x96 .f32 := broadcastInDim S4x96x96 ![] bcast_S_S4x96x96 main_cst_2
  let main_v11 : IVec S4x96x96 1 := cmpf .olt main_v9 main_v10
  let main_c_3 : IVec S_ 1 := constantI S_ 1 1#1
  let main_v12 : IVec S_ 1 := (fun x v => Host.reduce IntOp.andi x v reducesTo_S4x96x96_S_d0_1_2 h_S_) main_v11 main_c_3
  let main_v13 : IVec S_ 1 := andi main_v8 main_v12
  let main_v14 : FVec F S384 .f32 := Host.absf main_arg5
  let main_cst_4 : FVec F S_ .f32 := constant S_ .f32 0x7F800000#32
  let main_v15 : FVec F S384 .f32 := broadcastInDim S384 ![] bcast_S_S384 main_cst_4
  let main_v16 : IVec S384 1 := cmpf .olt main_v14 main_v15
  fn_part1 (F := F) main_v13 main_v16
-- ==== Kernel.lean ====
abbrev S4096x1024 : Shape := ⟨2, ![4096, 1024]⟩
abbrev S4096x6912 : Shape := ⟨2, ![4096, 6912]⟩
abbrev S1024x6912 : Shape := ⟨2, ![1024, 6912]⟩
abbrev S1024 : Shape := ⟨1, ![1024]⟩
abbrev S4096x3072 : Shape := ⟨2, ![4096, 3072]⟩
abbrev S4096x3840 : Shape := ⟨2, ![4096, 3840]⟩
abbrev S6912x1024 : Shape := ⟨2, ![6912, 1024]⟩
abbrev S1x1024 : Shape := ⟨2, ![1, 1024]⟩
abbrev S256x1024 : Shape := ⟨2, ![256, 1024]⟩
abbrev S256x6912 : Shape := ⟨2, ![256, 6912]⟩
abbrev S256x3072 : Shape := ⟨2, ![256, 3072]⟩
abbrev S3072x1024 : Shape := ⟨2, ![3072, 1024]⟩
abbrev S256x3840 : Shape := ⟨2, ![256, 3840]⟩
abbrev S3840x1024 : Shape := ⟨2, ![3840, 1024]⟩
abbrev S256 : Shape := ⟨1, ![256]⟩
abbrev S256x1 : Shape := ⟨2, ![256, 1]⟩

abbrev nBuf : Space → Nat
  | .hbm => 14
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S4096x6912, .f32⟩
  | .hbm, ⟨2, _⟩ => ⟨S1024x6912, .f32⟩
  | .hbm, ⟨3, _⟩ => ⟨S4096x1024, .f32⟩
  | .hbm, ⟨4, _⟩ => ⟨S1024, .f32⟩
  | .hbm, ⟨5, _⟩ => ⟨S4096x3072, .f32⟩
  | .hbm, ⟨6, _⟩ => ⟨S4096x3840, .f32⟩
  | .hbm, ⟨7, _⟩ => ⟨S4096x6912, .f32⟩
  | .hbm, ⟨8, _⟩ => ⟨S4096x6912, .bf16⟩
  | .hbm, ⟨9, _⟩ => ⟨S6912x1024, .f32⟩
  | .hbm, ⟨10, _⟩ => ⟨S6912x1024, .bf16⟩
  | .hbm, ⟨11, _⟩ => ⟨S1x1024, .f32⟩
  | .hbm, ⟨12, _⟩ => ⟨S4096x1024, .f32⟩
  | .hbm, ⟨13, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x6912, .bf16⟩
  | .local _ .vmem, ⟨3, _⟩ => ⟨S256x6912, .bf16⟩
  | .local _ .vmem, ⟨4, _⟩ => ⟨S6912x1024, .bf16⟩
  | .local _ .vmem, ⟨5, _⟩ => ⟨S256x1024, .f32⟩
  | .local _ .vmem, ⟨6, _⟩ => ⟨S256x1024, .f32⟩
  | .local _ .vmem, ⟨7, _⟩ => ⟨S1x1024, .f32⟩
  | .local _ .vmem, ⟨8, _⟩ => ⟨S256x1024, .f32⟩
  | .local _ .vmem, ⟨9, _⟩ => ⟨S256x1024, .f32⟩
  | .local _ .vmem, ⟨10, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v46 : BitVec 1 := Scalar.cmpi .eq arg0 c0_i32
  let v47 : BitVec 32 := Scalar.extui v46
  let c0_i32_20 : BitVec 32 := 0#32
  let v48 : BitVec 1 := Scalar.cmpi .ne v47 c0_i32_20
  v48

def k0_cond2 (i : grid0.Coords) : BitVec 1 :=
  let arg0 : BitVec 32 := BitVec.ofNat 32 (i 0).val
  let c0_i32_21 : BitVec 32 := 0#32
  let v49 : BitVec 1 := Scalar.cmpi .ne arg0 c0_i32_21
  let v50 : BitVec 32 := Scalar.extui v49
  let c0_i32_22 : BitVec 32 := 0#32
  let v51 : BitVec 1 := Scalar.cmpi .ne v50 c0_i32_22
  v51

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x6912 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S6912x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S4096x1024 : Shape := ⟨2, ![4096, 1024]⟩
abbrev S4096x6912 : Shape := ⟨2, ![4096, 6912]⟩
abbrev S1024x6912 : Shape := ⟨2, ![1024, 6912]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x6912, .f32⟩
  | .hbm, ⟨2, _⟩ => ⟨S1024x6912, .f32⟩
  | .hbm, ⟨3, _⟩ => ⟨S4096x1024, .f32⟩
  | .hbm, ⟨4, _⟩ => ⟨S1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x6912, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x1024, .f32⟩
  | .hbm, ⟨40, _⟩ => ⟨S4096x1024, .f32⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S_, .f32⟩
  | .hbm, ⟨46, _⟩ => ⟨S4096, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_cst_7 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== Kernel3.lean ====
abbrev S4096x6912 : Shape := ⟨2, ![4096, 6912]⟩
abbrev S4096x384 : Shape := ⟨2, ![4096, 384]⟩
abbrev S4x96x96 : Shape := ⟨3, ![4, 96, 96]⟩
abbrev S384 : Shape := ⟨1, ![384]⟩
abbrev S3x384 : Shape := ⟨2, ![3, 384]⟩
abbrev S4096x3072 : Shape := ⟨2, ![4096, 3072]⟩
abbrev S4096x3840 : Shape := ⟨2, ![4096, 3840]⟩
abbrev S_ : Shape := ⟨0, ![]⟩
abbrev S384x384 : Shape := ⟨2, ![384, 384]⟩
abbrev S1x96x96 : Shape := ⟨3, ![1, 96, 96]⟩
abbrev S96x96 : Shape := ⟨2, ![96, 96]⟩
abbrev S1x384 : Shape := ⟨2, ![1, 384]⟩
abbrev S512x384 : Shape := ⟨2, ![512, 384]⟩
abbrev S16x384 : Shape := ⟨2, ![16, 384]⟩
abbrev S512x1536 : Shape := ⟨2, ![512, 1536]⟩
abbrev S8x384 : Shape := ⟨2, ![8, 384]⟩
abbrev S528x384 : Shape := ⟨2, ![528, 384]⟩
abbrev S520x384 : Shape := ⟨2, ![520, 384]⟩

abbrev nBuf : Space → Nat
  | .hbm => 39
  | .vmem => 28
  | .smem => 0
  | _ => 0

abbrev bufTy : (tb : Table) → Fin (tcTables nBuf tb) → BufTy
  | .hbm, ⟨0, _⟩ => ⟨S4096x6912, .f32⟩
  | .hbm, ⟨1, _⟩ => ⟨S4096x384, .f32⟩
  | .hbm, ⟨2, _⟩ => ⟨S4096x384, .f32⟩
  | .hbm, ⟨3, _⟩ => ⟨S4096x6912, .bf16⟩
  | .hbm, ⟨4, _⟩ => ⟨S4x96x96, .f32⟩
  | .hbm, ⟨5, _⟩ => ⟨S384, .f32⟩
  | .hbm, ⟨6, _⟩ => ⟨S3x384, .f32⟩
  | .hbm, ⟨7, _⟩ => ⟨S4096x3072, .f32⟩
  | .hbm, ⟨8, _⟩ => ⟨S4096x3840, .f32⟩
  | .hbm, ⟨9, _⟩ => ⟨S4096x6912, .f32⟩
  | .hbm, ⟨10, _⟩ => ⟨S4096x6912, .bf16⟩
  | .hbm, ⟨11, _⟩ => ⟨S4x96x96, .bf16⟩
  | .hbm, ⟨12, _⟩ => ⟨S_, .bf16⟩
  | .hbm, ⟨13, _⟩ => ⟨S384x384, .bf16⟩
  | .hbm, ⟨14, _⟩ => ⟨S1x96x96, .bf16⟩
  | .hbm, ⟨15, _⟩ => ⟨S96x96, .bf16⟩
  | .hbm, ⟨16, _⟩ => ⟨S_, .i32⟩
  | .hbm, ⟨17, _⟩ => ⟨S_, .i32⟩
  | .hbm, ⟨18, _⟩ => ⟨S384x384, .bf16⟩
  | .hbm, ⟨19, _⟩ => ⟨S1x96x96, .bf16⟩
  | .hbm, ⟨20, _⟩ => ⟨S96x96, .bf16⟩
  | .hbm, ⟨21, _⟩ => ⟨S_, .i32⟩
  | .hbm, ⟨22, _⟩ => ⟨S_, .i32⟩
  | .hbm, ⟨23, _⟩ => ⟨S384x384, .bf16⟩
  | .hbm, ⟨24, _⟩ => ⟨S1x96x96, .bf16⟩
  | .hbm, ⟨25, _⟩ => ⟨S96x96, .bf16⟩
  | .hbm, ⟨26, _⟩ => ⟨S_, .i32⟩
  | .hbm, ⟨27, _⟩ => ⟨S_, .i32⟩
  | .hbm, ⟨28, _⟩ => ⟨S384x384, .bf16⟩
  | .hbm, ⟨29, _⟩ => ⟨S1x96x96, .bf16⟩
  | .hbm, ⟨30, _⟩ => ⟨S96x96, .bf16⟩
  | .hbm, ⟨31, _⟩ => ⟨S_, .i32⟩
  | .hbm, ⟨32, _⟩ => ⟨S_, .i32⟩
  | .hbm, ⟨33, _⟩ => ⟨S384x384, .bf16⟩
  | .hbm, ⟨34, _⟩ => ⟨S1x384, .f32⟩
  | .hbm, ⟨35, _⟩ => ⟨S4096x6912, .bf16⟩
  | .hbm, ⟨36, _⟩ => ⟨S1x384, .f32⟩
  | .hbm, ⟨37, _⟩ => ⟨S384x384, .f32⟩
  | .hbm, ⟨38, _⟩ => ⟨S3x384, .f32⟩
  | .local _ .vmem, ⟨0, _⟩ => ⟨S512x384, .bf16⟩
  | .local _ .vmem, ⟨1, _⟩ => ⟨S512x384, .bf16⟩
  | .local _ .vmem, ⟨2, _⟩ => ⟨S512x384, .bf16⟩
  | .local _ .vmem, ⟨3, _⟩ => ⟨S512x384, .bf16⟩
  | .local _ .vmem, ⟨4, _⟩ => ⟨S512x384, .bf16⟩
  | .local _ .vmem, ⟨5, _⟩ => ⟨S512x384, .bf16⟩
  | .local _ .vmem, ⟨6, _⟩ => ⟨S512x384, .bf16⟩
  | .local _ .vmem, ⟨7, _⟩ => ⟨S512x384, .bf16⟩
  | .local _ .vmem, ⟨8, _⟩ => ⟨S16x384, .bf16⟩
  | .local _ .vmem, ⟨9, _⟩ => ⟨S16x384, .bf16⟩
  | .local _ .vmem, ⟨10, _⟩ => ⟨S16x384, .bf16⟩
  | .local _ .vmem, ⟨11, _⟩ => ⟨S16x384, .bf16⟩
  | .local _ .vmem, ⟨12, _⟩ => ⟨S16x384, .bf16⟩
  | .local _ .vmem, ⟨13, _⟩ => ⟨S16x384, .bf16⟩
  | .local _ .vmem, ⟨14, _⟩ => ⟨S512x384, .f32⟩
  | .local _ .vmem, ⟨15, _⟩ => ⟨S512x384, .f32⟩
  | .local _ .vmem, ⟨16, _⟩ => ⟨S512x384, .f32⟩
  | .local _ .vmem, ⟨17, _⟩ => ⟨S512x384, .f32⟩
  | .local _ .vmem, ⟨18, _⟩ => ⟨S384x384, .bf16⟩
  | .local _ .vmem, ⟨19, _⟩ => ⟨S1x384, .f32⟩
  | .local _ .vmem, ⟨20, _⟩ => ⟨S3x384, .f32⟩
  | .local _ .vmem, ⟨21, _⟩ => ⟨S512x1536, .bf16⟩
  | .local _ .vmem, ⟨22, _⟩ => ⟨S512x1536, .bf16⟩
  | .local _ .vmem, ⟨23, _⟩ => ⟨S1x384, .f32⟩
  | .local _ .vmem, ⟨24, _⟩ => ⟨S384x384, .f32⟩
  | .local _ .vmem, ⟨25, _⟩ => ⟨S3x384, .f32⟩
  | .local _ .vmem, ⟨26, _⟩ => ⟨S16x384, .f32⟩
  | .local _ .vmem, ⟨27, _⟩ => ⟨S8x384, .f32⟩
  | _, _ => ⟨S4096x6912, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c : Ref sig .tc := ⟨.hbm, 16, rfl⟩
abbrev main_c_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c_1 : Ref sig .tc := ⟨.hbm, 21, rfl⟩
abbrev main_c_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c_3 : Ref sig .tc := ⟨.hbm, 26, rfl⟩
abbrev main_c_4 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_c_5 : Ref sig .tc := ⟨.hbm, 31, rfl⟩
abbrev main_c_6 : Ref sig .tc := ⟨.hbm, 32, rfl⟩
abbrev main_v17 : Ref sig .tc := ⟨.hbm, 33, rfl⟩
abbrev main_v18 : Ref sig .tc := ⟨.hbm, 34, rfl⟩
abbrev main_v19_0 : Ref sig .tc := ⟨.hbm, 35, rfl⟩
abbrev main_v19_1 : Ref sig .tc := ⟨.hbm, 36, rfl⟩
abbrev main_v19_2 : Ref sig .tc := ⟨.hbm, 37, rfl⟩
abbrev main_v19_3 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg15_0 : Ref sig .tc := ⟨.vmem, 25, rfl⟩
abbrev cc0_scratch0 : Ref sig .tc := ⟨.vmem, 26, rfl⟩
abbrev cc0_scratch1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem12_1 : DmaSem sig := 22
abbrev cc0_sem13_0 : DmaSem sig := 23
abbrev cc0_sem14_0 : DmaSem sig := 24
abbrev cc0_sem15_0 : DmaSem sig := 25

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c0_i32_22 : BitVec 32 := 0#32
  let v75 : BitVec 1 := Scalar.cmpi .eq arg0 c0_i32_22
  let v76 : BitVec 32 := Scalar.extui v75
  let c0_i32_23 : BitVec 32 := 0#32
  let v77 : BitVec 1 := Scalar.cmpi .ne v76 c0_i32_23
  v77

def k0_cond3 (i : grid0.Coords) : BitVec 1 :=
  let arg0 : BitVec 32 := BitVec.ofNat 32 (i 0).val
  let c0_i32_24 : BitVec 32 := 0#32
  let v78 : BitVec 1 := Scalar.cmpi .ne arg0 c0_i32_24
  let v79 : BitVec 32 := Scalar.extui v78
  let c0_i32_25 : BitVec 32 := 0#32
  let v80 : BitVec 1 := Scalar.cmpi .ne v79 c0_i32_25
  v80

def k0_cond4 (i : grid0.Coords) : BitVec 1 :=
  let arg0 : BitVec 32 := BitVec.ofNat 32 (i 0).val
  let c0_i32_27 : BitVec 32 := 0#32
  let v82 : BitVec 1 := Scalar.cmpi .eq arg0 c0_i32_27
  let v83 : BitVec 32 := Scalar.extui v82
  let c0_i32_28 : BitVec 32 := 0#32
  let v84 : BitVec 1 := Scalar.cmpi .ne v83 c0_i32_28
  v84

def k0_cond5 (i : grid0.Coords) : BitVec 1 :=
  let arg0 : BitVec 32 := BitVec.ofNat 32 (i 0).val
  let c0_i32_29 : BitVec 32 := 0#32
  let v85 : BitVec 1 := Scalar.cmpi .ne arg0 c0_i32_29
  let v86 : BitVec 32 := Scalar.extui v85
  let c0_i32_30 : BitVec 32 := 0#32
  let v87 : BitVec 1 := Scalar.cmpi .ne v86 c0_i32_30
  v87

def k0_cond6 (i : grid0.Coords) : BitVec 1 :=
  let arg0 : BitVec 32 := BitVec.ofNat 32 (i 0).val
  let c0_i32_73 : BitVec 32 := 0#32
  let v214 : BitVec 1 := Scalar.cmpi .eq arg0 c0_i32_73
  let v215 : BitVec 32 := Scalar.extui v214
  let c0_i32_74 : BitVec 32 := 0#32
  let v216 : BitVec 1 := Scalar.cmpi .ne v215 c0_i32_74
  v216

def k0_cond7 (i : grid0.Coords) : BitVec 1 :=
  let arg0 : BitVec 32 := BitVec.ofNat 32 (i 0).val
  let c0_i32_75 : BitVec 32 := 0#32
  let v217 : BitVec 1 := Scalar.cmpi .ne arg0 c0_i32_75
  let v218 : BitVec 32 := Scalar.extui v217
  let c0_i32_76 : BitVec 32 := 0#32
  let v219 : BitVec 1 := Scalar.cmpi .ne v218 c0_i32_76
  v219

def cc0_transform_0 (i : grid0.Coords) : Fin 2 → Nat :=
  let arg0 : BitVec 32 := BitVec.ofNat 32 (i 0).val
  let c7_i32 : BitVec 32 := 7#32
  let v0 : BitVec 32 := Scalar.subi c7_i32 arg0
  let c8_i32 : BitVec 32 := 8#32
  let c0_i32 : BitVec 32 := 0#32
  ![v0.toNat, c8_i32.toNat]

def cc0_transform_1 (i : grid0.Coords) : Fin 2 → Nat :=
  let arg0 : BitVec 32 := BitVec.ofNat 32 (i 0).val
  let c7_i32 : BitVec 32 := 7#32
  let v0 : BitVec 32 := Scalar.subi c7_i32 arg0
  let c9_i32 : BitVec 32 := 9#32
  let c0_i32 : BitVec 32 := 0#32
  ![v0.toNat, c9_i32.toNat]

def cc0_transform_2 (i : grid0.Coords) : Fin 2 → Nat :=
  let arg0 : BitVec 32 := BitVec.ofNat 32 (i 0).val
  let c7_i32 : BitVec 32 := 7#32
  let v0 : BitVec 32 := Scalar.subi c7_i32 arg0
  let c10_i32 : BitVec 32 := 10#32
  let c0_i32 : BitVec 32 := 0#32
  ![v0.toNat, c10_i32.toNat]

def cc0_transform_3 (i : grid0.Coords) : Fin 2 → Nat :=
  let arg0 : BitVec 32 := BitVec.ofNat 32 (i 0).val
  let c7_i32 : BitVec 32 := 7#32
  let v0 : BitVec 32 := Scalar.subi c7_i32 arg0
  let c11_i32 : BitVec 32 := 11#32
  let c0_i32 : BitVec 32 := 0#32
  ![v0.toNat, c11_i32.toNat]

def cc0_transform_4 (i : grid0.Coords) : Fin 2 → Nat :=
  let arg0 : BitVec 32 := BitVec.ofNat 32 (i 0).val
  let c7_i32 : BitVec 32 := 7#32
  let v0 : BitVec 32 := Scalar.subi c7_i32 arg0
  let c32_i32 : BitVec 32 := 32#32
  let v1 : BitVec 32 := Scalar.muli v0 c32_i32
  let c1_i32 : BitVec 32 := 1#32
  let v2 : BitVec 32 := Scalar.subi v1 c1_i32
  let c0_i32 : BitVec 32 := 0#32
  let v3 : BitVec 32 := Scalar.maxsi v2 c0_i32
  let c8_i32 : BitVec 32 := 8#32
  let c0_i32_0 : BitVec 32 := 0#32
  ![v3.toNat, c8_i32.toNat]

def cc0_transform_5 (i : grid0.Coords) : Fin 2 → Nat :=
  let arg0 : BitVec 32 := BitVec.ofNat 32 (i 0).val
  let c7_i32 : BitVec 32 := 7#32
  let v0 : BitVec 32 := Scalar.subi c7_i32 arg0
  let c32_i32 : BitVec 32 := 32#32
  let v1 : BitVec 32 := Scalar.muli v0 c32_i32
  let c1_i32 : BitVec 32 := 1#32
  let v2 : BitVec 32 := Scalar.subi v1 c1_i32
  let c0_i32 : BitVec 32 := 0#32
  let v3 : BitVec 32 := Scalar.maxsi v2 c0_i32
  let c9_i32 : BitVec 32 := 9#32
  let c0_i32_0 : BitVec 32 := 0#32
  ![v3.toNat, c9_i32.toNat]

def cc0_transform_6 (i : grid0.Coords) : Fin 2 → Nat :=
  let arg0 : BitVec 32 := BitVec.ofNat 32 (i 0).val
  let c7_i32 : BitVec 32 := 7#32
  let v0 : BitVec 32 := Scalar.subi c7_i32 arg0
  let c32_i32 : BitVec 32 := 32#32
  let v1 : BitVec 32 := Scalar.muli v0 c32_i32
  let c1_i32 : BitVec 32 := 1#32
  let v2 : BitVec 32 := Scalar.subi v1 c1_i32
  let c0_i32 : BitVec 32 := 0#32
  let v3 : BitVec 32 := Scalar.maxsi v2 c0_i32
  let c11_i32 : BitVec 32 := 11#32
  let c0_i32_0 : BitVec 32 := 0#32
  ![v3.toNat, c11_i32.toNat]

def cc0_transform_7 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c7_i32 : BitVec 32 := 7#32
  let v0 : BitVec 32 := Scalar.subi c7_i32 arg0
  let c2_i32 : BitVec 32 := 2#32
  let c0_i32 : BitVec 32 := 0#32
  ![v0.toNat, c2_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x384 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x384 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x384 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x384 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x384 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S384x384 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x384 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S3x384 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1536 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x384 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S384x384 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S3x384 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== Reference3Ideal.lean ====
abbrev S4096x6912 : Shape := ⟨2, ![4096, 6912]⟩
abbrev S4096x384 : Shape := ⟨2, ![4096, 384]⟩
abbrev S4x96x96 : Shape := ⟨3, ![4, 96, 96]⟩
abbrev S384 : Shape := ⟨1, ![384]⟩
abbrev S3x384 : Shape := ⟨2, ![3, 384]⟩
abbrev S4096x4x96 : Shape := ⟨3, ![4096, 4, 96]⟩
abbrev S_ : Shape := ⟨0, ![]⟩
abbrev S4096 : Shape := ⟨1, ![4096]⟩
abbrev S4096x1x96 : Shape := ⟨3, ![4096, 1, 96]⟩
abbrev S4096x96 : Shape := ⟨2, ![4096, 96]⟩
abbrev S2x96 : Shape := ⟨2, ![2, 96]⟩
abbrev S4094x96 : Shape := ⟨2, ![4094, 96]⟩
abbrev S4096x1 : Shape := ⟨2, ![4096, 1]⟩
abbrev S4x96 : Shape := ⟨2, ![4, 96]⟩
abbrev S4092x96 : Shape := ⟨2, ![4092, 96]⟩
abbrev S8x96 : Shape := ⟨2, ![8, 96]⟩
abbrev S4088x96 : Shape := ⟨2, ![4088, 96]⟩
abbrev S16x96 : Shape := ⟨2, ![16, 96]⟩
abbrev S4080x96 : Shape := ⟨2, ![4080, 96]⟩
abbrev S4x96x4096 : Shape := ⟨3, ![4, 96, 4096]⟩
abbrev S1x384 : Shape := ⟨2, ![1, 384]⟩
abbrev S2x384 : Shape := ⟨2, ![2, 384]⟩
abbrev S4098x384 : Shape := ⟨2, ![4098, 384]⟩
abbrev S4x4096x96 : Shape := ⟨3, ![4, 4096, 96]⟩
abbrev S4096x1536 : Shape := ⟨2, ![4096, 1536]⟩
abbrev S4096x3072 : Shape := ⟨2, ![4096, 3072]⟩
abbrev S4096x2304 : Shape := ⟨2, ![4096, 2304]⟩
abbrev S384x96 : Shape := ⟨2, ![384, 96]⟩
abbrev S384x384 : Shape := ⟨2, ![384, 384]⟩

abbrev nBuf : Space → Nat
  | .hbm => 292
  | .vmem => 0
  | .smem => 0
  | _ => 0

abbrev hbmTy0_0 (i : Nat) : BufTy := match i % 128 with
  | 0 => ⟨S4096x6912, .f32⟩
  | 1 => ⟨S4096x384, .f32⟩
  | 2 => ⟨S4096x384, .f32⟩
  | 3 => ⟨S4096x6912, .bf16⟩
  | 4 => ⟨S4x96x96, .f32⟩
  | 5 => ⟨S384, .f32⟩
  | 6 => ⟨S3x384, .f32⟩
  | 7 => ⟨S4096x384, .f32⟩
  | 8 => ⟨S4096x384, .f32⟩
  | 9 => ⟨S4096x384, .f32⟩
  | 10 => ⟨S4096x384, .f32⟩
  | 11 => ⟨S4096x4x96, .f32⟩
  | 12 => ⟨S_, .f32⟩
  | 13 => ⟨S_, .f32⟩
  | 14 => ⟨S4096x4x96, .f32⟩
  | 15 => ⟨S4096, .i32⟩
  | 16 => ⟨S4096x1x96, .f32⟩
  | 17 => ⟨S4096x96, .f32⟩
  | 18 => ⟨S_, .f32⟩
  | 19 => ⟨S2x96, .f32⟩
  | 20 => ⟨S4094x96, .f32⟩
  | 21 => ⟨S4096x96, .f32⟩
  | 22 => ⟨S_, .f32⟩
  | 23 => ⟨S2x96, .f32⟩
  | 24 => ⟨S_, .i32⟩
  | 25 => ⟨S4096, .i32⟩
  | 26 => ⟨S4096, .i32⟩
  | 27 => ⟨S_, .i32⟩
  | 28 => ⟨S4096, .i32⟩
  | 29 => ⟨S4096, .i32⟩
  | 30 => ⟨S4096, .f32⟩
  | 31 => ⟨S4096x1, .f32⟩
  | 32 => ⟨S4096x96, .f32⟩
  | 33 => ⟨S4096x96, .f32⟩
  | 34 => ⟨S4096x96, .f32⟩
  | 35 => ⟨S4096x1x96, .f32⟩
  | 36 => ⟨S4096x96, .f32⟩
  | 37 => ⟨S4096x96, .f32⟩
  | 38 => ⟨S4096x1x96, .f32⟩
  | 39 => ⟨S4096x96, .f32⟩
  | 40 => ⟨S_, .f32⟩
  | 41 => ⟨S4x96, .f32⟩
  | 42 => ⟨S4092x96, .f32⟩
  | 43 => ⟨S4096x96, .f32⟩
  | 44 => ⟨S_, .f32⟩
  | 45 => ⟨S4x96, .f32⟩
  | 46 => ⟨S_, .i32⟩
  | 47 => ⟨S4096, .i32⟩
  | 48 => ⟨S4096, .i32⟩
  | 49 => ⟨S_, .i32⟩
  | 50 => ⟨S4096, .i32⟩
  | 51 => ⟨S4096, .i32⟩
  | 52 => ⟨S4096, .f32⟩
  | 53 => ⟨S4096x1, .f32⟩
  | 54 => ⟨S4096x96, .f32⟩
  | 55 => ⟨S4096x96, .f32⟩
  | 56 => ⟨S4096x96, .f32⟩
  | 57 => ⟨S4096x1x96, .f32⟩
  | 58 => ⟨S4096x96, .f32⟩
  | 59 => ⟨S4096x96, .f32⟩
  | 60 => ⟨S4096x1x96, .f32⟩
  | 61 => ⟨S4096x96, .f32⟩
  | 62 => ⟨S_, .f32⟩
  | 63 => ⟨S8x96, .f32⟩
  | 64 => ⟨S4088x96, .f32⟩
  | 65 => ⟨S4096x96, .f32⟩
  | 66 => ⟨S_, .f32⟩
  | 67 => ⟨S8x96, .f32⟩
  | 68 => ⟨S_, .i32⟩
  | 69 => ⟨S4096, .i32⟩
  | 70 => ⟨S4096, .i32⟩
  | 71 => ⟨S_, .i32⟩
  | 72 => ⟨S4096, .i32⟩
  | 73 => ⟨S4096, .i32⟩
  | 74 => ⟨S4096, .f32⟩
  | 75 => ⟨S4096x1, .f32⟩
  | 76 => ⟨S4096x96, .f32⟩
  | 77 => ⟨S4096x96, .f32⟩
  | 78 => ⟨S4096x96, .f32⟩
  | 79 => ⟨S4096x1x96, .f32⟩
  | 80 => ⟨S4096x96, .f32⟩
  | 81 => ⟨S4096x96, .f32⟩
  | 82 => ⟨S4096x1x96, .f32⟩
  | 83 => ⟨S4096x96, .f32⟩
  | 84 => ⟨S_, .f32⟩
  | 85 => ⟨S16x96, .f32⟩
  | 86 => ⟨S4080x96, .f32⟩
  | 87 => ⟨S4096x96, .f32⟩
  | 88 => ⟨S_, .f32⟩
  | 89 => ⟨S16x96, .f32⟩
  | 90 => ⟨S_, .i32⟩
  | 91 => ⟨S4096, .i32⟩
  | 92 => ⟨S4096, .i32⟩
  | 93 => ⟨S_, .i32⟩
  | 94 => ⟨S4096, .i32⟩
  | 95 => ⟨S4096, .i32⟩
  | 96 => ⟨S4096, .f32⟩
  | 97 => ⟨S4096x1, .f32⟩
  | 98 => ⟨S4096x96, .f32⟩
  | 99 => ⟨S4096x96, .f32⟩
  | 100 => ⟨S4096x96, .f32⟩
  | 101 => ⟨S4096x1x96, .f32⟩
  | 102 => ⟨S4096x96, .f32⟩
  | 103 => ⟨S4096x96, .f32⟩
  | 104 => ⟨S4096x1x96, .f32⟩
  | 105 => ⟨S4096x1x96, .f32⟩
  | 106 => ⟨S4096x1x96, .f32⟩
  | 107 => ⟨S4096x1x96, .f32⟩
  | 108 => ⟨S4096x4x96, .f32⟩
  | 109 => ⟨S4x96x4096, .f32⟩
  | 110 => ⟨S4096x4x96, .f32⟩
  | 111 => ⟨S4096x384, .f32⟩
  | 112 => ⟨S1x384, .f32⟩
  | 113 => ⟨S4096x384, .f32⟩
  | 114 => ⟨S4096x384, .f32⟩
  | 115 => ⟨S4096x384, .f32⟩
  | 116 => ⟨S_, .f32⟩
  | 117 => ⟨S2x384, .f32⟩
  | 118 => ⟨S4098x384, .f32⟩
  | 119 => ⟨S_, .f32⟩
  | 120 => ⟨S2x384, .f32⟩
  | 121 => ⟨S1x384, .f32⟩
  | 122 => ⟨S384, .f32⟩
  | 123 => ⟨S4096x384, .f32⟩
  | 124 => ⟨S1x384, .f32⟩
  | 125 => ⟨S4096x384, .f32⟩
  | 126 => ⟨S4096x384, .f32⟩
  | 127 => ⟨S1x384, .f32⟩
  | _ => ⟨S4096x6912, .f32⟩

abbrev hbmTy0_1 (i : Nat) : BufTy := match i % 128 with
  | 0 => ⟨S384, .f32⟩
  | 1 => ⟨S4096x384, .f32⟩
  | 2 => ⟨S1x384, .f32⟩
  | 3 => ⟨S4096x384, .f32⟩
  | 4 => ⟨S4096x384, .f32⟩
  | 5 => ⟨S4096x384, .f32⟩
  | 6 => ⟨S1x384, .f32⟩
  | 7 => ⟨S384, .f32⟩
  | 8 => ⟨S4096x384, .f32⟩
  | 9 => ⟨S1x384, .f32⟩
  | 10 => ⟨S4096x384, .f32⟩
  | 11 => ⟨S4096x384, .f32⟩
  | 12 => ⟨S4096x384, .f32⟩
  | 13 => ⟨S4096x384, .f32⟩
  | 14 => ⟨S4096x384, .f32⟩
  | 15 => ⟨S4096x384, .f32⟩
  | 16 => ⟨S4096x384, .f32⟩
  | 17 => ⟨S4096x384, .f32⟩
  | 18 => ⟨S4096x384, .f32⟩
  | 19 => ⟨S_, .f32⟩
  | 20 => ⟨S384, .f32⟩
  | 21 => ⟨S1x384, .f32⟩
  | 22 => ⟨S_, .f32⟩
  | 23 => ⟨S384, .f32⟩
  | 24 => ⟨S_, .f32⟩
  | 25 => ⟨S4098x384, .f32⟩
  | 26 => ⟨S1x384, .f32⟩
  | 27 => ⟨S_, .f32⟩
  | 28 => ⟨S3x384, .f32⟩
  | 29 => ⟨S4096x384, .f32⟩
  | 30 => ⟨S4096x384, .f32⟩
  | 31 => ⟨S4096x384, .f32⟩
  | 32 => ⟨S_, .f32⟩
  | 33 => ⟨S384, .f32⟩
  | 34 => ⟨S1x384, .f32⟩
  | 35 => ⟨S_, .f32⟩
  | 36 => ⟨S384, .f32⟩
  | 37 => ⟨S_, .f32⟩
  | 38 => ⟨S4098x384, .f32⟩
  | 39 => ⟨S4098x384, .f32⟩
  | 40 => ⟨S1x384, .f32⟩
  | 41 => ⟨S_, .f32⟩
  | 42 => ⟨S3x384, .f32⟩
  | 43 => ⟨S3x384, .f32⟩
  | 44 => ⟨S4096x384, .f32⟩
  | 45 => ⟨S4096x384, .f32⟩
  | 46 => ⟨S4096x384, .f32⟩
  | 47 => ⟨S_, .f32⟩
  | 48 => ⟨S384, .f32⟩
  | 49 => ⟨S1x384, .f32⟩
  | 50 => ⟨S_, .f32⟩
  | 51 => ⟨S384, .f32⟩
  | 52 => ⟨S_, .f32⟩
  | 53 => ⟨S4098x384, .f32⟩
  | 54 => ⟨S4098x384, .f32⟩
  | 55 => ⟨S1x384, .f32⟩
  | 56 => ⟨S_, .f32⟩
  | 57 => ⟨S3x384, .f32⟩
  | 58 => ⟨S3x384, .f32⟩
  | 59 => ⟨S2x384, .f32⟩
  | 60 => ⟨S4096x384, .f32⟩
  | 61 => ⟨S4096x384, .f32⟩
  | 62 => ⟨S4096x384, .f32⟩
  | 63 => ⟨S4096x384, .f32⟩
  | 64 => ⟨S_, .f32⟩
  | 65 => ⟨S384, .f32⟩
  | 66 => ⟨S1x384, .f32⟩
  | 67 => ⟨S4096x384, .f32⟩
  | 68 => ⟨S4096x384, .f32⟩
  | 69 => ⟨S_, .f32⟩
  | 70 => ⟨S384, .f32⟩
  | 71 => ⟨S4096x4x96, .f32⟩
  | 72 => ⟨S4x96x4096, .f32⟩
  | 73 => ⟨S4x4096x96, .f32⟩
  | 74 => ⟨S4096x4x96, .f32⟩
  | 75 => ⟨S4x96x96, .f32⟩
  | 76 => ⟨S4x96x96, .f32⟩
  | 77 => ⟨S4096x1x96, .f32⟩
  | 78 => ⟨S4096x96, .f32⟩
  | 79 => ⟨S4096x1x96, .f32⟩
  | 80 => ⟨S4096x96, .f32⟩
  | 81 => ⟨S4096x1x96, .f32⟩
  | 82 => ⟨S4096x96, .f32⟩
  | 83 => ⟨S4096x1x96, .f32⟩
  | 84 => ⟨S4096x96, .f32⟩
  | 85 => ⟨S4096x96, .f32⟩
  | 86 => ⟨S4096x1x96, .f32⟩
  | 87 => ⟨S_, .f32⟩
  | 88 => ⟨S4096x4x96, .f32⟩
  | 89 => ⟨S4096x96, .f32⟩
  | 90 => ⟨S4096x96, .f32⟩
  | 91 => ⟨S4096x96, .f32⟩
  | 92 => ⟨S16x96, .f32⟩
  | 93 => ⟨S4080x96, .f32⟩
  | 94 => ⟨S_, .f32⟩
  | 95 => ⟨S4096x96, .f32⟩
  | 96 => ⟨S4096x96, .f32⟩
  | 97 => ⟨S4096x1x96, .f32⟩
  | 98 => ⟨S_, .f32⟩
  | 99 => ⟨S4096x4x96, .f32⟩
  | 100 => ⟨S4096x96, .f32⟩
  | 101 => ⟨S4096x1x96, .f32⟩
  | 102 => ⟨S_, .f32⟩
  | 103 => ⟨S4096x4x96, .f32⟩
  | 104 => ⟨S4096x4x96, .f32⟩
  | 105 => ⟨S4096x96, .f32⟩
  | 106 => ⟨S4096x96, .f32⟩
  | 107 => ⟨S4096x96, .f32⟩
  | 108 => ⟨S8x96, .f32⟩
  | 109 => ⟨S4088x96, .f32⟩
  | 110 => ⟨S_, .f32⟩
  | 111 => ⟨S4096x96, .f32⟩
  | 112 => ⟨S4096x96, .f32⟩
  | 113 => ⟨S4096x1x96, .f32⟩
  | 114 => ⟨S_, .f32⟩
  | 115 => ⟨S4096x4x96, .f32⟩
  | 116 => ⟨S4096x4x96, .f32⟩
  | 117 => ⟨S4096x96, .f32⟩
  | 118 => ⟨S4096x1x96, .f32⟩
  | 119 => ⟨S_, .f32⟩
  | 120 => ⟨S4096x4x96, .f32⟩
  | 121 => ⟨S4096x4x96, .f32⟩
  | 122 => ⟨S4096x96, .f32⟩
  | 123 => ⟨S4096x96, .f32⟩
  | 124 => ⟨S4096x96, .f32⟩
  | 125 => ⟨S4x96, .f32⟩
  | 126 => ⟨S4092x96, .f32⟩
  | 127 => ⟨S_, .f32⟩
  | _ => ⟨S4096x6912, .f32⟩

abbrev hbmTy0_2 (i : Nat) : BufTy := match i % 128 with
  | 0 => ⟨S4096x96, .f32⟩
  | 1 => ⟨S4096x96, .f32⟩
  | 2 => ⟨S4096x1x96, .f32⟩
  | 3 => ⟨S_, .f32⟩
  | 4 => ⟨S4096x4x96, .f32⟩
  | 5 => ⟨S4096x4x96, .f32⟩
  | 6 => ⟨S4096x96, .f32⟩
  | 7 => ⟨S4096x1x96, .f32⟩
  | 8 => ⟨S_, .f32⟩
  | 9 => ⟨S4096x4x96, .f32⟩
  | 10 => ⟨S4096x4x96, .f32⟩
  | 11 => ⟨S4096x96, .f32⟩
  | 12 => ⟨S4096x96, .f32⟩
  | 13 => ⟨S4096x96, .f32⟩
  | 14 => ⟨S2x96, .f32⟩
  | 15 => ⟨S4094x96, .f32⟩
  | 16 => ⟨S_, .f32⟩
  | 17 => ⟨S4096x96, .f32⟩
  | 18 => ⟨S4096x96, .f32⟩
  | 19 => ⟨S4096x1x96, .f32⟩
  | 20 => ⟨S_, .f32⟩
  | 21 => ⟨S4096x4x96, .f32⟩
  | 22 => ⟨S4096x4x96, .f32⟩
  | 23 => ⟨S_, .f32⟩
  | 24 => ⟨S_, .f32⟩
  | 25 => ⟨S4096x4x96, .f32⟩
  | 26 => ⟨S4096x4x96, .f32⟩
  | 27 => ⟨S4096x384, .f32⟩
  | 28 => ⟨S4096x1536, .f32⟩
  | 29 => ⟨S4096x1536, .bf16⟩
  | 30 => ⟨S4096x3072, .bf16⟩
  | 31 => ⟨S4096x2304, .bf16⟩
  | 32 => ⟨S4096x6912, .bf16⟩
  | 33 => ⟨S1x384, .f32⟩
  | 34 => ⟨S384x96, .f32⟩
  | 35 => ⟨S384x384, .f32⟩
  | _ => ⟨S4096x6912, .f32⟩

abbrev hbmTy (i : Nat) : BufTy := match i / 128 with
  | 0 => hbmTy0_0 i
  | 1 => hbmTy0_1 i
  | 2 => hbmTy0_2 i
  | _ => ⟨S4096x6912, .f32⟩

abbrev bufTy : (tb : Table) → Fin (tcTables nBuf tb) → BufTy
  | .hbm, ⟨i, _⟩ => hbmTy i
  | _, _ => ⟨S4096x6912, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call0_call0_cst : Ref sig .tc := ⟨.hbm, 12, rfl⟩
abbrev main_call0_call0_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_0 : Ref sig .tc := ⟨.hbm, 22, rfl⟩
abbrev main_v12 : Ref sig .tc := ⟨.hbm, 23, rfl⟩
abbrev main_c : Ref sig .tc := ⟨.hbm, 24, rfl⟩
abbrev main_v13 : Ref sig .tc := ⟨.hbm, 25, rfl⟩
abbrev main_v14 : Ref sig .tc := ⟨.hbm, 26, rfl⟩
abbrev main_c_1 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_2 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_3 : Ref sig .tc := ⟨.hbm, 44, rfl⟩
abbrev main_v30 : Ref sig .tc := ⟨.hbm, 45, rfl⟩
abbrev main_c_4 : Ref sig .tc := ⟨.hbm, 46, rfl⟩
abbrev main_v31 : Ref sig .tc := ⟨.hbm, 47, rfl⟩
abbrev main_v32 : Ref sig .tc := ⟨.hbm, 48, rfl⟩
abbrev main_c_5 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_6 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_7 : Ref sig .tc := ⟨.hbm, 66, rfl⟩
abbrev main_v48 : Ref sig .tc := ⟨.hbm, 67, rfl⟩
abbrev main_c_8 : Ref sig .tc := ⟨.hbm, 68, rfl⟩
abbrev main_v49 : Ref sig .tc := ⟨.hbm, 69, rfl⟩
abbrev main_v50 : Ref sig .tc := ⟨.hbm, 70, rfl⟩
abbrev main_c_9 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_cst_10 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_cst_11 : Ref sig .tc := ⟨.hbm, 88, rfl⟩
abbrev main_v66 : Ref sig .tc := ⟨.hbm, 89, rfl⟩
abbrev main_c_12 : Ref sig .tc := ⟨.hbm, 90, rfl⟩
abbrev main_v67 : Ref sig .tc := ⟨.hbm, 91, rfl⟩
abbrev main_v68 : Ref sig .tc := ⟨.hbm, 92, rfl⟩
abbrev main_c_13 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_cst_14 : Ref sig .tc := ⟨.hbm, 116, rfl⟩
abbrev main_v91 : Ref sig .tc := ⟨.hbm, 117, rfl⟩
abbrev main_v92 : Ref sig .tc := ⟨.hbm, 118, rfl⟩
abbrev main_cst_15 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_v116 : Ref sig .tc := ⟨.hbm, 143, rfl⟩
abbrev main_v117 : Ref sig .tc := ⟨.hbm, 144, rfl⟩
abbrev main_v118 : Ref sig .tc := ⟨.hbm, 145, rfl⟩
abbrev main_v119 : Ref sig .tc := ⟨.hbm, 146, rfl⟩
abbrev main_cst_16 : Ref sig .tc := ⟨.hbm, 147, rfl⟩
abbrev main_v120 : Ref sig .tc := ⟨.hbm, 148, rfl⟩
abbrev main_v121 : Ref sig .tc := ⟨.hbm, 149, rfl⟩
abbrev main_cst_17 : Ref sig .tc := ⟨.hbm, 150, rfl⟩
abbrev main_v122 : Ref sig .tc := ⟨.hbm, 151, rfl⟩
abbrev main_cst_18 : Ref sig .tc := ⟨.hbm, 152, rfl⟩
abbrev main_v123 : Ref sig .tc := ⟨.hbm, 153, rfl⟩
abbrev main_v124 : Ref sig .tc := ⟨.hbm, 154, rfl⟩
abbrev main_cst_19 : Ref sig .tc := ⟨.hbm, 155, rfl⟩
abbrev main_v125 : Ref sig .tc := ⟨.hbm, 156, rfl⟩
abbrev main_v126 : Ref sig .tc := ⟨.hbm, 157, rfl⟩
abbrev main_v127 : Ref sig .tc := ⟨.hbm, 158, rfl⟩
abbrev main_v128 : Ref sig .tc := ⟨.hbm, 159, rfl⟩
abbrev main_cst_20 : Ref sig .tc := ⟨.hbm, 160, rfl⟩
abbrev main_v129 : Ref sig .tc := ⟨.hbm, 161, rfl⟩
abbrev main_v130 : Ref sig .tc := ⟨.hbm, 162, rfl⟩
abbrev main_cst_21 : Ref sig .tc := ⟨.hbm, 163, rfl⟩
abbrev main_v131 : Ref sig .tc := ⟨.hbm, 164, rfl⟩
abbrev main_cst_22 : Ref sig .tc := ⟨.hbm, 165, rfl⟩
abbrev main_v132 : Ref sig .tc := ⟨.hbm, 166, rfl⟩
abbrev main_v133 : Ref sig .tc := ⟨.hbm, 167, rfl⟩
abbrev main_v134 : Ref sig .tc := ⟨.hbm, 168, rfl⟩
abbrev main_cst_23 : Ref sig .tc := ⟨.hbm, 169, rfl⟩
abbrev main_v135 : Ref sig .tc := ⟨.hbm, 170, rfl⟩
abbrev main_v136 : Ref sig .tc := ⟨.hbm, 171, rfl⟩
abbrev main_v137 : Ref sig .tc := ⟨.hbm, 172, rfl⟩
abbrev main_v138 : Ref sig .tc := ⟨.hbm, 173, rfl⟩
abbrev main_v139 : Ref sig .tc := ⟨.hbm, 174, rfl⟩
abbrev main_cst_24 : Ref sig .tc := ⟨.hbm, 175, rfl⟩
abbrev main_v140 : Ref sig .tc := ⟨.hbm, 176, rfl⟩
abbrev main_v141 : Ref sig .tc := ⟨.hbm, 177, rfl⟩
abbrev main_cst_25 : Ref sig .tc := ⟨.hbm, 178, rfl⟩
abbrev main_v142 : Ref sig .tc := ⟨.hbm, 179, rfl⟩
abbrev main_cst_26 : Ref sig .tc := ⟨.hbm, 180, rfl⟩
abbrev main_v143 : Ref sig .tc := ⟨.hbm, 181, rfl⟩
abbrev main_v144 : Ref sig .tc := ⟨.hbm, 182, rfl⟩
abbrev main_v145 : Ref sig .tc := ⟨.hbm, 183, rfl⟩
abbrev main_cst_27 : Ref sig .tc := ⟨.hbm, 184, rfl⟩
abbrev main_v146 : Ref sig .tc := ⟨.hbm, 185, rfl⟩
abbrev main_v147 : Ref sig .tc := ⟨.hbm, 186, rfl⟩
abbrev main_v148 : Ref sig .tc := ⟨.hbm, 187, rfl⟩
abbrev main_v149 : Ref sig .tc := ⟨.hbm, 188, rfl⟩
abbrev main_v150 : Ref sig .tc := ⟨.hbm, 189, rfl⟩
abbrev main_v151 : Ref sig .tc := ⟨.hbm, 190, rfl⟩
abbrev main_v152 : Ref sig .tc := ⟨.hbm, 191, rfl⟩
abbrev main_cst_28 : Ref sig .tc := ⟨.hbm, 192, rfl⟩
abbrev main_v153 : Ref sig .tc := ⟨.hbm, 193, rfl⟩
abbrev main_v154 : Ref sig .tc := ⟨.hbm, 194, rfl⟩
abbrev main_v155 : Ref sig .tc := ⟨.hbm, 195, rfl⟩
abbrev main_v156 : Ref sig .tc := ⟨.hbm, 196, rfl⟩
abbrev main_cst_29 : Ref sig .tc := ⟨.hbm, 197, rfl⟩
abbrev main_v157 : Ref sig .tc := ⟨.hbm, 198, rfl⟩
abbrev main_v158 : Ref sig .tc := ⟨.hbm, 199, rfl⟩
abbrev main_v159 : Ref sig .tc := ⟨.hbm, 200, rfl⟩
abbrev main_v160 : Ref sig .tc := ⟨.hbm, 201, rfl⟩
abbrev main_v161 : Ref sig .tc := ⟨.hbm, 202, rfl⟩
abbrev main_v162 : Ref sig .tc := ⟨.hbm, 203, rfl⟩
abbrev main_v163 : Ref sig .tc := ⟨.hbm, 204, rfl⟩
abbrev main_v164 : Ref sig .tc := ⟨.hbm, 205, rfl⟩
abbrev main_v165 : Ref sig .tc := ⟨.hbm, 206, rfl⟩
abbrev main_v166 : Ref sig .tc := ⟨.hbm, 207, rfl⟩
abbrev main_v167 : Ref sig .tc := ⟨.hbm, 208, rfl⟩
abbrev main_v168 : Ref sig .tc := ⟨.hbm, 209, rfl⟩
abbrev main_v169 : Ref sig .tc := ⟨.hbm, 210, rfl⟩
abbrev main_v170 : Ref sig .tc := ⟨.hbm, 211, rfl⟩
abbrev main_v171 : Ref sig .tc := ⟨.hbm, 212, rfl⟩
abbrev main_v172 : Ref sig .tc := ⟨.hbm, 213, rfl⟩
abbrev main_v173 : Ref sig .tc := ⟨.hbm, 214, rfl⟩
abbrev main_cst_30 : Ref sig .tc := ⟨.hbm, 215, rfl⟩
abbrev main_v174 : Ref sig .tc := ⟨.hbm, 216, rfl⟩
abbrev main_v175 : Ref sig .tc := ⟨.hbm, 217, rfl⟩
abbrev main_v176 : Ref sig .tc := ⟨.hbm, 218, rfl⟩
abbrev main_v177 : Ref sig .tc := ⟨.hbm, 219, rfl⟩
abbrev main_v178 : Ref sig .tc := ⟨.hbm, 220, rfl⟩
abbrev main_v179 : Ref sig .tc := ⟨.hbm, 221, rfl⟩
abbrev main_cst_31 : Ref sig .tc := ⟨.hbm, 222, rfl⟩
abbrev main_v180 : Ref sig .tc := ⟨.hbm, 223, rfl⟩
abbrev main_v181 : Ref sig .tc := ⟨.hbm, 224, rfl⟩
abbrev main_v182 : Ref sig .tc := ⟨.hbm, 225, rfl⟩
abbrev main_cst_32 : Ref sig .tc := ⟨.hbm, 226, rfl⟩
abbrev main_v183 : Ref sig .tc := ⟨.hbm, 227, rfl⟩
abbrev main_v184 : Ref sig .tc := ⟨.hbm, 228, rfl⟩
abbrev main_v185 : Ref sig .tc := ⟨.hbm, 229, rfl⟩
abbrev main_cst_33 : Ref sig .tc := ⟨.hbm, 230, rfl⟩
abbrev main_v186 : Ref sig .tc := ⟨.hbm, 231, rfl⟩
abbrev main_v187 : Ref sig .tc := ⟨.hbm, 232, rfl⟩
abbrev main_v188 : Ref sig .tc := ⟨.hbm, 233, rfl⟩
abbrev main_v189 : Ref sig .tc := ⟨.hbm, 234, rfl⟩
abbrev main_v190 : Ref sig .tc := ⟨.hbm, 235, rfl⟩
abbrev main_v191 : Ref sig .tc := ⟨.hbm, 236, rfl⟩
abbrev main_v192 : Ref sig .tc := ⟨.hbm, 237, rfl⟩
abbrev main_cst_34 : Ref sig .tc := ⟨.hbm, 238, rfl⟩
abbrev main_v193 : Ref sig .tc := ⟨.hbm, 239, rfl⟩
abbrev main_v194 : Ref sig .tc := ⟨.hbm, 240, rfl⟩
abbrev main_v195 : Ref sig .tc := ⟨.hbm, 241, rfl⟩
abbrev main_cst_35 : Ref sig .tc := ⟨.hbm, 242, rfl⟩
abbrev main_v196 : Ref sig .tc := ⟨.hbm, 243, rfl⟩
abbrev main_v197 : Ref sig .tc := ⟨.hbm, 244, rfl⟩
abbrev main_v198 : Ref sig .tc := ⟨.hbm, 245, rfl⟩
abbrev main_v199 : Ref sig .tc := ⟨.hbm, 246, rfl⟩
abbrev main_cst_36 : Ref sig .tc := ⟨.hbm, 247, rfl⟩
abbrev main_v200 : Ref sig .tc := ⟨.hbm, 248, rfl⟩
abbrev main_v201 : Ref sig .tc := ⟨.hbm, 249, rfl⟩
abbrev main_v202 : Ref sig .tc := ⟨.hbm, 250, rfl⟩
abbrev main_v203 : Ref sig .tc := ⟨.hbm, 251, rfl⟩
abbrev main_v204 : Ref sig .tc := ⟨.hbm, 252, rfl⟩
abbrev main_v205 : Ref sig .tc := ⟨.hbm, 253, rfl⟩
abbrev main_v206 : Ref sig .tc := ⟨.hbm, 254, rfl⟩
abbrev main_cst_37 : Ref sig .tc := ⟨.hbm, 255, rfl⟩
abbrev main_v207 : Ref sig .tc := ⟨.hbm, 256, rfl⟩
abbrev main_v208 : Ref sig .tc := ⟨.hbm, 257, rfl⟩
abbrev main_v209 : Ref sig .tc := ⟨.hbm, 258, rfl⟩
abbrev main_cst_38 : Ref sig .tc := ⟨.hbm, 259, rfl⟩
abbrev main_v210 : Ref sig .tc := ⟨.hbm, 260, rfl⟩
abbrev main_v211 : Ref sig .tc := ⟨.hbm, 261, rfl⟩
abbrev main_v212 : Ref sig .tc := ⟨.hbm, 262, rfl⟩
abbrev main_v213 : Ref sig .tc := ⟨.hbm, 263, rfl⟩
abbrev main_cst_39 : Ref sig .tc := ⟨.hbm, 264, rfl⟩
abbrev main_v214 : Ref sig .tc := ⟨.hbm, 265, rfl⟩
abbrev main_v215 : Ref sig .tc := ⟨.hbm, 266, rfl⟩
abbrev main_v216 : Ref sig .tc := ⟨.hbm, 267, rfl⟩
abbrev main_v217 : Ref sig .tc := ⟨.hbm, 268, rfl⟩
abbrev main_v218 : Ref sig .tc := ⟨.hbm, 269, rfl⟩
abbrev main_v219 : Ref sig .tc := ⟨.hbm, 270, rfl⟩
abbrev main_v220 : Ref sig .tc := ⟨.hbm, 271, rfl⟩
abbrev main_cst_40 : Ref sig .tc := ⟨.hbm, 272, rfl⟩
abbrev main_v221 : Ref sig .tc := ⟨.hbm, 273, rfl⟩
abbrev main_v222 : Ref sig .tc := ⟨.hbm, 274, rfl⟩
abbrev main_v223 : Ref sig .tc := ⟨.hbm, 275, rfl⟩
abbrev main_cst_41 : Ref sig .tc := ⟨.hbm, 276, rfl⟩
abbrev main_v224 : Ref sig .tc := ⟨.hbm, 277, rfl⟩
abbrev main_v225 : Ref sig .tc := ⟨.hbm, 278, rfl⟩
abbrev main_call1_call0_cst : Ref sig .tc := ⟨.hbm, 279, rfl⟩
abbrev main_call1_call0_v0 : Ref sig .tc := ⟨.hbm, 280, rfl⟩
abbrev main_v226 : Ref sig .tc := ⟨.hbm, 281, rfl⟩
abbrev main_v227 : Ref sig .tc := ⟨.hbm, 282, rfl⟩
abbrev main_v228 : Ref sig .tc := ⟨.hbm, 283, rfl⟩
abbrev main_v229 : Ref sig .tc := ⟨.hbm, 284, rfl⟩
abbrev main_v230 : Ref sig .tc := ⟨.hbm, 285, rfl⟩
abbrev main_v231 : Ref sig .tc := ⟨.hbm, 286, rfl⟩
abbrev main_v232 : Ref sig .tc := ⟨.hbm, 287, rfl⟩
abbrev main_v233 : Ref sig .tc := ⟨.hbm, 288, rfl⟩
abbrev main_v234 : Ref sig .tc := ⟨.hbm, 289, rfl⟩
abbrev main_v235 : Ref sig .tc := ⟨.hbm, 290, rfl⟩
abbrev main_v236 : Ref sig .tc := ⟨.hbm, 291, rfl⟩

abbrev nD : Nat := 1
abbrev τ : Topo := Topo.v7x

variable {F : FTy → Type} [FloatOps F]
-- ==== Kernel4.lean ====
abbrev S4096x1024 : Shape := ⟨2, ![4096, 1024]⟩
abbrev S4096x5632 : Shape := ⟨2, ![4096, 5632]⟩
abbrev S1024x5632 : Shape := ⟨2, ![1024, 5632]⟩
abbrev S1024 : Shape := ⟨1, ![1024]⟩
abbrev S5632x1024 : Shape := ⟨2, ![5632, 1024]⟩
abbrev S1x1024 : Shape := ⟨2, ![1, 1024]⟩
abbrev S512x1024 : Shape := ⟨2, ![512, 1024]⟩
abbrev S512x5632 : Shape := ⟨2, ![512, 5632]⟩
abbrev S512 : Shape := ⟨1, ![512]⟩
abbrev S512x1 : Shape := ⟨2, ![512, 1]⟩

abbrev nBuf : Space → Nat
  | .hbm => 11
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S4096x5632, .f32⟩
  | .hbm, ⟨2, _⟩ => ⟨S1024x5632, .f32⟩
  | .hbm, ⟨3, _⟩ => ⟨S4096x1024, .f32⟩
  | .hbm, ⟨4, _⟩ => ⟨S1024, .f32⟩
  | .hbm, ⟨5, _⟩ => ⟨S4096x5632, .bf16⟩
  | .hbm, ⟨6, _⟩ => ⟨S5632x1024, .f32⟩
  | .hbm, ⟨7, _⟩ => ⟨S5632x1024, .bf16⟩
  | .hbm, ⟨8, _⟩ => ⟨S1x1024, .f32⟩
  | .hbm, ⟨9, _⟩ => ⟨S4096x1024, .f32⟩
  | .hbm, ⟨10, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x5632, .bf16⟩
  | .local _ .vmem, ⟨3, _⟩ => ⟨S512x5632, .bf16⟩
  | .local _ .vmem, ⟨4, _⟩ => ⟨S5632x1024, .bf16⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v40 : BitVec 1 := Scalar.cmpi .eq arg0 c0_i32
  let v41 : BitVec 32 := Scalar.extui v40
  let c0_i32_17 : BitVec 32 := 0#32
  let v42 : BitVec 1 := Scalar.cmpi .ne v41 c0_i32_17
  v42

def k0_cond2 (i : grid0.Coords) : BitVec 1 :=
  let arg0 : BitVec 32 := BitVec.ofNat 32 (i 0).val
  let c0_i32_18 : BitVec 32 := 0#32
  let v43 : BitVec 1 := Scalar.cmpi .ne arg0 c0_i32_18
  let v44 : BitVec 32 := Scalar.extui v43
  let c0_i32_19 : BitVec 32 := 0#32
  let v45 : BitVec 1 := Scalar.cmpi .ne v44 c0_i32_19
  v45

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x5632 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S5632x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference4Ideal.lean ====
abbrev S4096x1024 : Shape := ⟨2, ![4096, 1024]⟩
abbrev S4096x5632 : Shape := ⟨2, ![4096, 5632]⟩
abbrev S1024x5632 : Shape := ⟨2, ![1024, 5632]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x5632, .f32⟩
  | .hbm, ⟨2, _⟩ => ⟨S1024x5632, .f32⟩
  | .hbm, ⟨3, _⟩ => ⟨S4096x1024, .f32⟩
  | .hbm, ⟨4, _⟩ => ⟨S1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x5632, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x1024, .f32⟩
  | .hbm, ⟨40, _⟩ => ⟨S4096x1024, .f32⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S_, .f32⟩
  | .hbm, ⟨46, _⟩ => ⟨S4096, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_cst_7 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== Kernel5.lean ====
abbrev S4096x6912 : Shape := ⟨2, ![4096, 6912]⟩
abbrev S1024x6912 : Shape := ⟨2, ![1024, 6912]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x3072 : Shape := ⟨2, ![4096, 3072]⟩
abbrev S4096x3840 : Shape := ⟨2, ![4096, 3840]⟩
abbrev S6912x1024 : Shape := ⟨2, ![6912, 1024]⟩
abbrev S4096x768 : Shape := ⟨2, ![4096, 768]⟩
abbrev S768x1024 : Shape := ⟨2, ![768, 1024]⟩

abbrev nBuf : Space → Nat
  | .hbm => 26
  | .vmem => 5
  | .smem => 0
  | _ => 0

abbrev bufTy : (tb : Table) → Fin (tcTables nBuf tb) → BufTy
  | .hbm, ⟨0, _⟩ => ⟨S4096x6912, .f32⟩
  | .hbm, ⟨1, _⟩ => ⟨S1024x6912, .f32⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S1x1024, .f32⟩
  | .hbm, ⟨18, _⟩ => ⟨S4096x1024, .f32⟩
  | .hbm, ⟨19, _⟩ => ⟨S4096x1024, .f32⟩
  | .hbm, ⟨20, _⟩ => ⟨S4096x1024, .bf16⟩
  | .hbm, ⟨21, _⟩ => ⟨S4096x3072, .f32⟩
  | .hbm, ⟨22, _⟩ => ⟨S4096x3840, .f32⟩
  | .hbm, ⟨23, _⟩ => ⟨S4096x6912, .f32⟩
  | .hbm, ⟨24, _⟩ => ⟨S4096x6912, .bf16⟩
  | .hbm, ⟨25, _⟩ => ⟨S6912x1024, .bf16⟩
  | .local _ .vmem, ⟨0, _⟩ => ⟨S4096x768, .bf16⟩
  | .local _ .vmem, ⟨1, _⟩ => ⟨S4096x768, .bf16⟩
  | .local _ .vmem, ⟨2, _⟩ => ⟨S4096x1024, .bf16⟩
  | .local _ .vmem, ⟨3, _⟩ => ⟨S768x1024, .bf16⟩
  | .local _ .vmem, ⟨4, _⟩ => ⟨S768x1024, .bf16⟩
  | _, _ => ⟨S4096x6912, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![9, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.addi arg0 c5_i32
  let c9_i32 : BitVec 32 := 9#32
  let c0_i32 : BitVec 32 := 0#32
  let v1 : BitVec 1 := Scalar.cmpi .eq c9_i32 c0_i32
  let c1_i32 : BitVec 32 := 1#32
  let v2 : BitVec 32 := Scalar.select v1 c1_i32 c9_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c0_i32_3 : BitVec 32 := 0#32
  ![v10.toNat, arg1.toNat]

abbrev stage0_0 : Fin 2 → Memref sig .tc .vmem S4096x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S4096x6912 : Shape := ⟨2, ![4096, 6912]⟩
abbrev S1024x6912 : Shape := ⟨2, ![1024, 6912]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S6912x1024 : Shape := ⟨2, ![6912, 1024]⟩

abbrev nBuf : Space → Nat
  | .hbm => 25
  | .vmem => 0
  | .smem => 0
  | _ => 0

abbrev bufTy : (tb : Table) → Fin (tcTables nBuf tb) → BufTy
  | .hbm, ⟨0, _⟩ => ⟨S4096x6912, .f32⟩
  | .hbm, ⟨1, _⟩ => ⟨S1024x6912, .f32⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S1x1024, .f32⟩
  | .hbm, ⟨18, _⟩ => ⟨S4096x1024, .f32⟩
  | .hbm, ⟨19, _⟩ => ⟨S4096x1024, .f32⟩
  | .hbm, ⟨20, _⟩ => ⟨S4096x6912, .f32⟩
  | .hbm, ⟨21, _⟩ => ⟨S6912x1024, .f32⟩
  | .hbm, ⟨22, _⟩ => ⟨S1024x6912, .f32⟩
  | .hbm, ⟨23, _⟩ => ⟨S6912x1024, .f32⟩
  | .hbm, ⟨24, _⟩ => ⟨S6912x1024, .bf16⟩
  | _, _ => ⟨S4096x6912, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Kernel6.lean ====
abbrev S4096x5632 : Shape := ⟨2, ![4096, 5632]⟩
abbrev S1024x5632 : Shape := ⟨2, ![1024, 5632]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S5632x1024 : Shape := ⟨2, ![5632, 1024]⟩
abbrev S4096x512 : Shape := ⟨2, ![4096, 512]⟩
abbrev S512x1024 : Shape := ⟨2, ![512, 1024]⟩

abbrev nBuf : Space → Nat
  | .hbm => 23
  | .vmem => 5
  | .smem => 0
  | _ => 0

abbrev bufTy : (tb : Table) → Fin (tcTables nBuf tb) → BufTy
  | .hbm, ⟨0, _⟩ => ⟨S4096x5632, .f32⟩
  | .hbm, ⟨1, _⟩ => ⟨S1024x5632, .f32⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S1x1024, .f32⟩
  | .hbm, ⟨18, _⟩ => ⟨S4096x1024, .f32⟩
  | .hbm, ⟨19, _⟩ => ⟨S4096x1024, .f32⟩
  | .hbm, ⟨20, _⟩ => ⟨S4096x1024, .bf16⟩
  | .hbm, ⟨21, _⟩ => ⟨S4096x5632, .bf16⟩
  | .hbm, ⟨22, _⟩ => ⟨S5632x1024, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S512x1024, .bf16⟩
  | .local _ .vmem, ⟨4, _⟩ => ⟨S512x1024, .bf16⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![11, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c11_i32 : BitVec 32 := 11#32
  let c0_i32_0 : BitVec 32 := 0#32
  let v1 : BitVec 1 := Scalar.cmpi .eq c11_i32 c0_i32_0
  let c1_i32 : BitVec 32 := 1#32
  let v2 : BitVec 32 := Scalar.select v1 c1_i32 c11_i32
  let v3 : BitVec 32 := Scalar.remsi v0 v2
  let c0_i32_1 : BitVec 32 := 0#32
  let v4 : BitVec 1 := Scalar.cmpi .ne v3 c0_i32_1
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let v8 : BitVec 1 := Scalar.andi v7 v4
  let v9 : BitVec 32 := Scalar.addi v3 v2
  let v10 : BitVec 32 := Scalar.select v8 v9 v3
  let c0_i32_4 : BitVec 32 := 0#32
  ![v10.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S4096x5632 : Shape := ⟨2, ![4096, 5632]⟩
abbrev S1024x5632 : Shape := ⟨2, ![1024, 5632]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S5632x1024 : Shape := ⟨2, ![5632, 1024]⟩

abbrev nBuf : Space → Nat
  | .hbm => 25
  | .vmem => 0
  | .smem => 0
  | _ => 0

abbrev bufTy : (tb : Table) → Fin (tcTables nBuf tb) → BufTy
  | .hbm, ⟨0, _⟩ => ⟨S4096x5632, .f32⟩
  | .hbm, ⟨1, _⟩ => ⟨S1024x5632, .f32⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S1x1024, .f32⟩
  | .hbm, ⟨18, _⟩ => ⟨S4096x1024, .f32⟩
  | .hbm, ⟨19, _⟩ => ⟨S4096x1024, .f32⟩
  | .hbm, ⟨20, _⟩ => ⟨S4096x5632, .f32⟩
  | .hbm, ⟨21, _⟩ => ⟨S5632x1024, .f32⟩
  | .hbm, ⟨22, _⟩ => ⟨S1024x5632, .f32⟩
  | .hbm, ⟨23, _⟩ => ⟨S5632x1024, .f32⟩
  | .hbm, ⟨24, _⟩ => ⟨S5632x1024, .bf16⟩
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Kernel7.lean ====
abbrev S4096x2816 : Shape := ⟨2, ![4096, 2816]⟩
abbrev S4096x1024 : Shape := ⟨2, ![4096, 1024]⟩
abbrev S2816x1024 : Shape := ⟨2, ![2816, 1024]⟩
abbrev S4096x256 : Shape := ⟨2, ![4096, 256]⟩
abbrev S256x1024 : Shape := ⟨2, ![256, 1024]⟩

abbrev nBuf : Space → Nat
  | .hbm => 6
  | .vmem => 5
  | .smem => 0
  | _ => 0

abbrev bufTy : (tb : Table) → Fin (tcTables nBuf tb) → BufTy
  | .hbm, ⟨0, _⟩ => ⟨S4096x2816, .f32⟩
  | .hbm, ⟨1, _⟩ => ⟨S4096x1024, .f32⟩
  | .hbm, ⟨2, _⟩ => ⟨S2816x1024, .f32⟩
  | .hbm, ⟨3, _⟩ => ⟨S4096x2816, .bf16⟩
  | .hbm, ⟨4, _⟩ => ⟨S4096x1024, .bf16⟩
  | .hbm, ⟨5, _⟩ => ⟨S2816x1024, .bf16⟩
  | .local _ .vmem, ⟨0, _⟩ => ⟨S4096x256, .bf16⟩
  | .local _ .vmem, ⟨1, _⟩ => ⟨S4096x256, .bf16⟩
  | .local _ .vmem, ⟨2, _⟩ => ⟨S4096x1024, .bf16⟩
  | .local _ .vmem, ⟨3, _⟩ => ⟨S256x1024, .bf16⟩
  | .local _ .vmem, ⟨4, _⟩ => ⟨S256x1024, .bf16⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![11, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c11_i32 : BitVec 32 := 11#32
  let c0_i32_0 : BitVec 32 := 0#32
  let v1 : BitVec 1 := Scalar.cmpi .eq c11_i32 c0_i32_0
  let c1_i32 : BitVec 32 := 1#32
  let v2 : BitVec 32 := Scalar.select v1 c1_i32 c11_i32
  let v3 : BitVec 32 := Scalar.remsi v0 v2
  let c0_i32_1 : BitVec 32 := 0#32
  let v4 : BitVec 1 := Scalar.cmpi .ne v3 c0_i32_1
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let v8 : BitVec 1 := Scalar.andi v7 v4
  let v9 : BitVec 32 := Scalar.addi v3 v2
  let v10 : BitVec 32 := Scalar.select v8 v9 v3
  let c0_i32_4 : BitVec 32 := 0#32
  ![v10.toNat, arg1.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference7Ideal.lean ====
abbrev S4096x2816 : Shape := ⟨2, ![4096, 2816]⟩
abbrev S4096x1024 : Shape := ⟨2, ![4096, 1024]⟩
abbrev S2816x1024 : Shape := ⟨2, ![2816, 1024]⟩
abbrev S1024x2816 : Shape := ⟨2, ![1024, 2816]⟩

abbrev nBuf : Space → Nat
  | .hbm => 7
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S4096x1024, .f32⟩
  | .hbm, ⟨2, _⟩ => ⟨S2816x1024, .f32⟩
  | .hbm, ⟨3, _⟩ => ⟨S4096x1024, .f32⟩
  | .hbm, ⟨4, _⟩ => ⟨S1024x2816, .f32⟩
  | .hbm, ⟨5, _⟩ => ⟨S2816x1024, .f32⟩
  | .hbm, ⟨6, _⟩ => ⟨S2816x1024, .bf16⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel8.lean ====
abbrev S4096x1024 : Shape := ⟨2, ![4096, 1024]⟩
abbrev S1024 : Shape := ⟨1, ![1024]⟩
abbrev S1024x5632 : Shape := ⟨2, ![1024, 5632]⟩
abbrev S1x1024 : Shape := ⟨2, ![1, 1024]⟩
abbrev S5632x1024 : Shape := ⟨2, ![5632, 1024]⟩
abbrev S4096x5632 : Shape := ⟨2, ![4096, 5632]⟩
abbrev S2048x1024 : Shape := ⟨2, ![2048, 1024]⟩
abbrev S1408x1024 : Shape := ⟨2, ![1408, 1024]⟩
abbrev S2048x1408 : Shape := ⟨2, ![2048, 1408]⟩
abbrev S2048 : Shape := ⟨1, ![2048]⟩
abbrev S2048x1 : Shape := ⟨2, ![2048, 1]⟩

abbrev nBuf : Space → Nat
  | .hbm => 8
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x5632, .f32⟩
  | .hbm, ⟨3, _⟩ => ⟨S1x1024, .f32⟩
  | .hbm, ⟨4, _⟩ => ⟨S5632x1024, .f32⟩
  | .hbm, ⟨5, _⟩ => ⟨S5632x1024, .bf16⟩
  | .hbm, ⟨6, _⟩ => ⟨S4096x5632, .bf16⟩
  | .hbm, ⟨7, _⟩ => ⟨S4096x1024, .bf16⟩
  | .local _ .vmem, ⟨0, _⟩ => ⟨S2048x1024, .f32⟩
  | .local _ .vmem, ⟨1, _⟩ => ⟨S2048x1024, .f32⟩
  | .local _ .vmem, ⟨2, _⟩ => ⟨S1x1024, .f32⟩
  | .local _ .vmem, ⟨3, _⟩ => ⟨S1408x1024, .bf16⟩
  | .local _ .vmem, ⟨4, _⟩ => ⟨S1408x1024, .bf16⟩
  | .local _ .vmem, ⟨5, _⟩ => ⟨S2048x1408, .bf16⟩
  | .local _ .vmem, ⟨6, _⟩ => ⟨S2048x1408, .bf16⟩
  | .local _ .vmem, ⟨7, _⟩ => ⟨S2048x1024, .bf16⟩
  | .local _ .vmem, ⟨8, _⟩ => ⟨S2048x1024, .bf16⟩
  | .local _ .vmem, ⟨9, _⟩ => ⟨S2048x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c4_i32 : BitVec 32 := 4#32
  let c0_i32_0 : BitVec 32 := 0#32
  let v1 : BitVec 1 := Scalar.cmpi .eq c4_i32 c0_i32_0
  let c1_i32 : BitVec 32 := 1#32
  let v2 : BitVec 32 := Scalar.select v1 c1_i32 c4_i32
  let v3 : BitVec 32 := Scalar.remsi v0 v2
  let c0_i32_1 : BitVec 32 := 0#32
  let v4 : BitVec 1 := Scalar.cmpi .ne v3 c0_i32_1
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let v8 : BitVec 1 := Scalar.andi v7 v4
  let v9 : BitVec 32 := Scalar.addi v3 v2
  let v10 : BitVec 32 := Scalar.select v8 v9 v3
  let c0_i32_4 : BitVec 32 := 0#32
  let c0_i32_5 : BitVec 32 := 0#32
  ![v10.toNat, c0_i32_4.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference8Ideal.lean ====
abbrev S4096x1024 : Shape := ⟨2, ![4096, 1024]⟩
abbrev S1024 : Shape := ⟨1, ![1024]⟩
abbrev S1024x5632 : Shape := ⟨2, ![1024, 5632]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x5632 : Shape := ⟨2, ![4096, 5632]⟩

abbrev nBuf : Space → Nat
  | .hbm => 22
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x5632, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S4096x5632, .f32⟩
  | .hbm, ⟨20, _⟩ => ⟨S4096x5632, .bf16⟩
  | .hbm, ⟨21, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Kernel9.lean ====
abbrev S4096x1024 : Shape := ⟨2, ![4096, 1024]⟩
abbrev S1024 : Shape := ⟨1, ![1024]⟩
abbrev S1024x6912 : Shape := ⟨2, ![1024, 6912]⟩
abbrev S1x1024 : Shape := ⟨2, ![1, 1024]⟩
abbrev S6912x1024 : Shape := ⟨2, ![6912, 1024]⟩
abbrev S4096x6912 : Shape := ⟨2, ![4096, 6912]⟩
abbrev S2048x1024 : Shape := ⟨2, ![2048, 1024]⟩
abbrev S768x1024 : Shape := ⟨2, ![768, 1024]⟩
abbrev S2048x768 : Shape := ⟨2, ![2048, 768]⟩
abbrev S2048 : Shape := ⟨1, ![2048]⟩
abbrev S2048x1 : Shape := ⟨2, ![2048, 1]⟩

abbrev nBuf : Space → Nat
  | .hbm => 8
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x6912, .f32⟩
  | .hbm, ⟨3, _⟩ => ⟨S1x1024, .f32⟩
  | .hbm, ⟨4, _⟩ => ⟨S6912x1024, .f32⟩
  | .hbm, ⟨5, _⟩ => ⟨S6912x1024, .bf16⟩
  | .hbm, ⟨6, _⟩ => ⟨S4096x6912, .bf16⟩
  | .hbm, ⟨7, _⟩ => ⟨S4096x1024, .bf16⟩
  | .local _ .vmem, ⟨0, _⟩ => ⟨S2048x1024, .f32⟩
  | .local _ .vmem, ⟨1, _⟩ => ⟨S2048x1024, .f32⟩
  | .local _ .vmem, ⟨2, _⟩ => ⟨S1x1024, .f32⟩
  | .local _ .vmem, ⟨3, _⟩ => ⟨S768x1024, .bf16⟩
  | .local _ .vmem, ⟨4, _⟩ => ⟨S768x1024, .bf16⟩
  | .local _ .vmem, ⟨5, _⟩ => ⟨S2048x768, .bf16⟩
  | .local _ .vmem, ⟨6, _⟩ => ⟨S2048x768, .bf16⟩
  | .local _ .vmem, ⟨7, _⟩ => ⟨S2048x1024, .bf16⟩
  | .local _ .vmem, ⟨8, _⟩ => ⟨S2048x1024, .bf16⟩
  | .local _ .vmem, ⟨9, _⟩ => ⟨S2048x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 9], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.addi arg1 c5_i32
  let c9_i32 : BitVec 32 := 9#32
  let c0_i32 : BitVec 32 := 0#32
  let v1 : BitVec 1 := Scalar.cmpi .eq c9_i32 c0_i32
  let c1_i32 : BitVec 32 := 1#32
  let v2 : BitVec 32 := Scalar.select v1 c1_i32 c9_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c0_i32_3 : BitVec 32 := 0#32
  let c0_i32_4 : BitVec 32 := 0#32
  ![v10.toNat, c0_i32_3.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference9Ideal.lean ====
abbrev S4096x1024 : Shape := ⟨2, ![4096, 1024]⟩
abbrev S1024 : Shape := ⟨1, ![1024]⟩
abbrev S1024x6912 : Shape := ⟨2, ![1024, 6912]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x6912 : Shape := ⟨2, ![4096, 6912]⟩
abbrev S4096x3072 : Shape := ⟨2, ![4096, 3072]⟩
abbrev S4096x3840 : Shape := ⟨2, ![4096, 3840]⟩

abbrev nBuf : Space → Nat
  | .hbm => 25
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x6912, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S4096x6912, .f32⟩
  | .hbm, ⟨20, _⟩ => ⟨S4096x6912, .bf16⟩
  | .hbm, ⟨21, _⟩ => ⟨S4096x3072, .bf16⟩
  | .hbm, ⟨22, _⟩ => ⟨S4096x3840, .bf16⟩
  | .hbm, ⟨23, _⟩ => ⟨S4096x6912, .bf16⟩
  | .hbm, ⟨24, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== Kernel10.lean ====
abbrev S4096x1024 : Shape := ⟨2, ![4096, 1024]⟩
abbrev S4096x5632 : Shape := ⟨2, ![4096, 5632]⟩
abbrev S3x2816 : Shape := ⟨2, ![3, 2816]⟩
abbrev S2816x1024 : Shape := ⟨2, ![2816, 1024]⟩
abbrev S1024 : Shape := ⟨1, ![1024]⟩
abbrev S1x1024 : Shape := ⟨2, ![1, 1024]⟩
abbrev S4096x2816 : Shape := ⟨2, ![4096, 2816]⟩
abbrev S512x1024 : Shape := ⟨2, ![512, 1024]⟩
abbrev S512x2816 : Shape := ⟨2, ![512, 2816]⟩
abbrev S8x2816 : Shape := ⟨2, ![8, 2816]⟩
abbrev S520x2816 : Shape := ⟨2, ![520, 2816]⟩
abbrev S1x2816 : Shape := ⟨2, ![1, 2816]⟩
abbrev S512 : Shape := ⟨1, ![512]⟩
abbrev S512x1 : Shape := ⟨2, ![512, 1]⟩

abbrev nBuf : Space → Nat
  | .hbm => 12
  | .vmem => 18
  | .smem => 0
  | _ => 0

abbrev bufTy : (tb : Table) → Fin (tcTables nBuf tb) → BufTy
  | .hbm, ⟨0, _⟩ => ⟨S4096x1024, .f32⟩
  | .hbm, ⟨1, _⟩ => ⟨S4096x5632, .f32⟩
  | .hbm, ⟨2, _⟩ => ⟨S3x2816, .f32⟩
  | .hbm, ⟨3, _⟩ => ⟨S2816x1024, .f32⟩
  | .hbm, ⟨4, _⟩ => ⟨S1024, .f32⟩
  | .hbm, ⟨5, _⟩ => ⟨S4096x5632, .bf16⟩
  | .hbm, ⟨6, _⟩ => ⟨S2816x1024, .bf16⟩
  | .hbm, ⟨7, _⟩ => ⟨S1x1024, .f32⟩
  | .hbm, ⟨8, _⟩ => ⟨S4096x2816, .bf16⟩
  | .hbm, ⟨9, _⟩ => ⟨S4096x1024, .f32⟩
  | .hbm, ⟨10, _⟩ => ⟨S4096x1024, .f32⟩
  | .hbm, ⟨11, _⟩ => ⟨S4096x2816, .bf16⟩
  | .local _ .vmem, ⟨0, _⟩ => ⟨S512x1024, .f32⟩
  | .local _ .vmem, ⟨1, _⟩ => ⟨S512x1024, .f32⟩
  | .local _ .vmem, ⟨2, _⟩ => ⟨S512x2816, .bf16⟩
  | .local _ .vmem, ⟨3, _⟩ => ⟨S512x2816, .bf16⟩
  | .local _ .vmem, ⟨4, _⟩ => ⟨S512x2816, .bf16⟩
  | .local _ .vmem, ⟨5, _⟩ => ⟨S512x2816, .bf16⟩
  | .local _ .vmem, ⟨6, _⟩ => ⟨S3x2816, .f32⟩
  | .local _ .vmem, ⟨7, _⟩ => ⟨S2816x1024, .bf16⟩
  | .local _ .vmem, ⟨8, _⟩ => ⟨S1x1024, .f32⟩
  | .local _ .vmem, ⟨9, _⟩ => ⟨S512x2816, .bf16⟩
  | .local _ .vmem, ⟨10, _⟩ => ⟨S512x2816, .bf16⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x2816, .bf16⟩
  | .local _ .vmem, ⟨16, _⟩ => ⟨S512x2816, .bf16⟩
  | .local _ .vmem, ⟨17, _⟩ => ⟨S8x2816, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3x2816 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x2816 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference10Ideal.lean ====
abbrev S4096x1024 : Shape := ⟨2, ![4096, 1024]⟩
abbrev S4096x5632 : Shape := ⟨2, ![4096, 5632]⟩
abbrev S3x2816 : Shape := ⟨2, ![3, 2816]⟩
abbrev S2816x1024 : Shape := ⟨2, ![2816, 1024]⟩
abbrev S1024 : Shape := ⟨1, ![1024]⟩
abbrev S4096x2816 : Shape := ⟨2, ![4096, 2816]⟩
abbrev S_ : Shape := ⟨0, ![]⟩
abbrev S2x2816 : Shape := ⟨2, ![2, 2816]⟩
abbrev S4098x2816 : Shape := ⟨2, ![4098, 2816]⟩
abbrev S1x2816 : Shape := ⟨2, ![1, 2816]⟩
abbrev S2816 : Shape := ⟨1, ![2816]⟩
abbrev S4096 : Shape := ⟨1, ![4096]⟩
abbrev S4096x1 : Shape := ⟨2, ![4096, 1]⟩
abbrev S1x1024 : Shape := ⟨2, ![1, 1024]⟩

abbrev nBuf : Space → Nat
  | .hbm => 60
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x5632, .f32⟩
  | .hbm, ⟨2, _⟩ => ⟨S3x2816, .f32⟩
  | .hbm, ⟨3, _⟩ => ⟨S2816x1024, .f32⟩
  | .hbm, ⟨4, _⟩ => ⟨S1024, .f32⟩
  | .hbm, ⟨5, _⟩ => ⟨S4096x2816, .f32⟩
  | .hbm, ⟨6, _⟩ => ⟨S4096x2816, .f32⟩
  | .hbm, ⟨7, _⟩ => ⟨S_, .f32⟩
  | .hbm, ⟨8, _⟩ => ⟨S2x2816, .f32⟩
  | .hbm, ⟨9, _⟩ => ⟨S4098x2816, .f32⟩
  | .hbm, ⟨10, _⟩ => ⟨S1x2816, .f32⟩
  | .hbm, ⟨11, _⟩ => ⟨S2816, .f32⟩
  | .hbm, ⟨12, _⟩ => ⟨S4096x2816, .f32⟩
  | .hbm, ⟨13, _⟩ => ⟨S1x2816, .f32⟩
  | .hbm, ⟨14, _⟩ => ⟨S4096x2816, .f32⟩
  | .hbm, ⟨15, _⟩ => ⟨S4096x2816, .f32⟩
  | .hbm, ⟨16, _⟩ => ⟨S1x2816, .f32⟩
  | .hbm, ⟨17, _⟩ => ⟨S2816, .f32⟩
  | .hbm, ⟨18, _⟩ => ⟨S4096x2816, .f32⟩
  | .hbm, ⟨19, _⟩ => ⟨S1x2816, .f32⟩
  | .hbm, ⟨20, _⟩ => ⟨S4096x2816, .f32⟩
  | .hbm, ⟨21, _⟩ => ⟨S4096x2816, .f32⟩
  | .hbm, ⟨22, _⟩ => ⟨S4096x2816, .f32⟩
  | .hbm, ⟨23, _⟩ => ⟨S1x2816, .f32⟩
  | .hbm, ⟨24, _⟩ => ⟨S2816, .f32⟩
  | .hbm, ⟨25, _⟩ => ⟨S4096x2816, .f32⟩
  | .hbm, ⟨26, _⟩ => ⟨S1x2816, .f32⟩
  | .hbm, ⟨27, _⟩ => ⟨S4096x2816, .f32⟩
  | .hbm, ⟨28, _⟩ => ⟨S4096x2816, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S_, .f32⟩
  | .hbm, ⟨33, _⟩ => ⟨S4096x2816, .f32⟩
  | .hbm, ⟨34, _⟩ => ⟨S4096x2816, .f32⟩
  | .hbm, ⟨35, _⟩ => ⟨S_, .f32⟩
  | .hbm, ⟨36, _⟩ => ⟨S4096x2816, .f32⟩
  | .hbm, ⟨37, _⟩ => ⟨S4096x2816, .f32⟩
  | .hbm, ⟨38, _⟩ => ⟨S4096x2816, .f32⟩
  | .hbm, ⟨39, _⟩ => ⟨S4096x2816, .f32⟩
  | .hbm, ⟨40, _⟩ => ⟨S4096x1024, .f32⟩
  | .hbm, ⟨41, _⟩ => ⟨S4096x2816, .bf16⟩
  | .hbm, ⟨42, _⟩ => ⟨S4096x1024, .f32⟩
  | .hbm, ⟨43, _⟩ => ⟨S_, .f32⟩
  | .hbm, ⟨44, _⟩ => ⟨S4096, .f32⟩
  | .hbm, ⟨45, _⟩ => ⟨S4096x1, .f32⟩
  | .hbm, ⟨46, _⟩ => ⟨S_, .f32⟩
  | .hbm, ⟨47, _⟩ => ⟨S4096x1, .f32⟩
  | .hbm, ⟨48, _⟩ => ⟨S4096x1, .f32⟩
  | .hbm, ⟨49, _⟩ => ⟨S_, .f32⟩
  | .hbm, ⟨50, _⟩ => ⟨S4096x1, .f32⟩
  | .hbm, ⟨51, _⟩ => ⟨S4096x1, .f32⟩
  | .hbm, ⟨52, _⟩ => ⟨S4096x1, .f32⟩
  | .hbm, ⟨53, _⟩ => ⟨S4096x1024, .f32⟩
  | .hbm, ⟨54, _⟩ => ⟨S4096x1024, .f32⟩
  | .hbm, ⟨55, _⟩ => ⟨S1x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_0 : Ref sig .tc := ⟨.hbm, 43, rfl⟩
abbrev main_v29 : Ref sig .tc := ⟨.hbm, 44, rfl⟩
abbrev main_v30 : Ref sig .tc := ⟨.hbm, 45, rfl⟩
abbrev main_cst_1 : Ref sig .tc := ⟨.hbm, 46, rfl⟩
abbrev main_v31 : Ref sig .tc := ⟨.hbm, 47, rfl⟩
abbrev main_v32 : Ref sig .tc := ⟨.hbm, 48, rfl⟩
abbrev main_cst_2 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩

abbrev nD : Nat := 1
abbrev τ : Topo := Topo.v7x

variable {F : FTy → Type} [FloatOps F]
-- ==== Kernel11.lean ====
abbrev S4096x1024 : Shape := ⟨2, ![4096, 1024]⟩
abbrev S4096x5632 : Shape := ⟨2, ![4096, 5632]⟩
abbrev S3x2816 : Shape := ⟨2, ![3, 2816]⟩
abbrev S2816x1024 : Shape := ⟨2, ![2816, 1024]⟩
abbrev S1024 : Shape := ⟨1, ![1024]⟩
abbrev S4096x2816 : Shape := ⟨2, ![4096, 2816]⟩
abbrev S_ : Shape := ⟨0, ![]⟩
abbrev S2x2816 : Shape := ⟨2, ![2, 2816]⟩
abbrev S4098x2816 : Shape := ⟨2, ![4098, 2816]⟩
abbrev S1x2816 : Shape := ⟨2, ![1, 2816]⟩
abbrev S2816 : Shape := ⟨1, ![2816]⟩
abbrev S1x1024 : Shape := ⟨2, ![1, 1024]⟩
abbrev S256x1024 : Shape := ⟨2, ![256, 1024]⟩
abbrev S256x2816 : Shape := ⟨2, ![256, 2816]⟩
abbrev S256x5632 : Shape := ⟨2, ![256, 5632]⟩
abbrev S8x2816 : Shape := ⟨2, ![8, 2816]⟩
abbrev S256 : Shape := ⟨1, ![256]⟩
abbrev S256x1 : Shape := ⟨2, ![256, 1]⟩
abbrev S264x2816 : Shape := ⟨2, ![264, 2816]⟩

abbrev nBuf : Space → Nat
  | .hbm => 72
  | .vmem => 20
  | .smem => 0
  | _ => 0

abbrev bufTy : (tb : Table) → Fin (tcTables nBuf tb) → BufTy
  | .hbm, ⟨0, _⟩ => ⟨S4096x1024, .f32⟩
  | .hbm, ⟨1, _⟩ => ⟨S4096x5632, .f32⟩
  | .hbm, ⟨2, _⟩ => ⟨S3x2816, .f32⟩
  | .hbm, ⟨3, _⟩ => ⟨S2816x1024, .f32⟩
  | .hbm, ⟨4, _⟩ => ⟨S1024, .f32⟩
  | .hbm, ⟨5, _⟩ => ⟨S4096x2816, .f32⟩
  | .hbm, ⟨6, _⟩ => ⟨S4096x2816, .f32⟩
  | .hbm, ⟨7, _⟩ => ⟨S_, .f32⟩
  | .hbm, ⟨8, _⟩ => ⟨S2x2816, .f32⟩
  | .hbm, ⟨9, _⟩ => ⟨S4098x2816, .f32⟩
  | .hbm, ⟨10, _⟩ => ⟨S1x2816, .f32⟩
  | .hbm, ⟨11, _⟩ => ⟨S2816, .f32⟩
  | .hbm, ⟨12, _⟩ => ⟨S4096x2816, .f32⟩
  | .hbm, ⟨13, _⟩ => ⟨S1x2816, .f32⟩
  | .hbm, ⟨14, _⟩ => ⟨S4096x2816, .f32⟩
  | .hbm, ⟨15, _⟩ => ⟨S4096x2816, .f32⟩
  | .hbm, ⟨16, _⟩ => ⟨S1x2816, .f32⟩
  | .hbm, ⟨17, _⟩ => ⟨S2816, .f32⟩
  | .hbm, ⟨18, _⟩ => ⟨S4096x2816, .f32⟩
  | .hbm, ⟨19, _⟩ => ⟨S1x2816, .f32⟩
  | .hbm, ⟨20, _⟩ => ⟨S4096x2816, .f32⟩
  | .hbm, ⟨21, _⟩ => ⟨S4096x2816, .f32⟩
  | .hbm, ⟨22, _⟩ => ⟨S4096x2816, .f32⟩
  | .hbm, ⟨23, _⟩ => ⟨S1x2816, .f32⟩
  | .hbm, ⟨24, _⟩ => ⟨S2816, .f32⟩
  | .hbm, ⟨25, _⟩ => ⟨S4096x2816, .f32⟩
  | .hbm, ⟨26, _⟩ => ⟨S1x2816, .f32⟩
  | .hbm, ⟨27, _⟩ => ⟨S4096x2816, .f32⟩
  | .hbm, ⟨28, _⟩ => ⟨S4096x2816, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S_, .f32⟩
  | .hbm, ⟨33, _⟩ => ⟨S4096x2816, .f32⟩
  | .hbm, ⟨34, _⟩ => ⟨S4096x2816, .f32⟩
  | .hbm, ⟨35, _⟩ => ⟨S_, .f32⟩
  | .hbm, ⟨36, _⟩ => ⟨S4096x2816, .f32⟩
  | .hbm, ⟨37, _⟩ => ⟨S4096x2816, .f32⟩
  | .hbm, ⟨38, _⟩ => ⟨S4096x2816, .f32⟩
  | .hbm, ⟨39, _⟩ => ⟨S4096x2816, .f32⟩
  | .hbm, ⟨40, _⟩ => ⟨S4096x1024, .f32⟩
  | .hbm, ⟨41, _⟩ => ⟨S_, .f32⟩
  | .hbm, ⟨42, _⟩ => ⟨S2x2816, .f32⟩
  | .hbm, ⟨43, _⟩ => ⟨S4098x2816, .f32⟩
  | .hbm, ⟨44, _⟩ => ⟨S1x2816, .f32⟩
  | .hbm, ⟨45, _⟩ => ⟨S2816, .f32⟩
  | .hbm, ⟨46, _⟩ => ⟨S4096x2816, .f32⟩
  | .hbm, ⟨47, _⟩ => ⟨S1x2816, .f32⟩
  | .hbm, ⟨48, _⟩ => ⟨S4096x2816, .f32⟩
  | .hbm, ⟨49, _⟩ => ⟨S4096x2816, .f32⟩
  | .hbm, ⟨50, _⟩ => ⟨S1x2816, .f32⟩
  | .hbm, ⟨51, _⟩ => ⟨S2816, .f32⟩
  | .hbm, ⟨52, _⟩ => ⟨S4096x2816, .f32⟩
  | .hbm, ⟨53, _⟩ => ⟨S1x2816, .f32⟩
  | .hbm, ⟨54, _⟩ => ⟨S4096x2816, .f32⟩
  | .hbm, ⟨55, _⟩ => ⟨S4096x2816, .f32⟩
  | .hbm, ⟨56, _⟩ => ⟨S4096x2816, .f32⟩
  | .hbm, ⟨57, _⟩ => ⟨S1x2816, .f32⟩
  | .hbm, ⟨58, _⟩ => ⟨S2816, .f32⟩
  | .hbm, ⟨59, _⟩ => ⟨S4096x2816, .f32⟩
  | .hbm, ⟨60, _⟩ => ⟨S1x2816, .f32⟩
  | .hbm, ⟨61, _⟩ => ⟨S4096x2816, .f32⟩
  | .hbm, ⟨62, _⟩ => ⟨S4096x2816, .f32⟩
  | .hbm, ⟨63, _⟩ => ⟨S4096x2816, .f32⟩
  | .hbm, ⟨64, _⟩ => ⟨S4096x5632, .bf16⟩
  | .hbm, ⟨65, _⟩ => ⟨S4096x2816, .bf16⟩
  | .hbm, ⟨66, _⟩ => ⟨S2816x1024, .bf16⟩
  | .hbm, ⟨67, _⟩ => ⟨S1x1024, .f32⟩
  | .hbm, ⟨68, _⟩ => ⟨S4096x1024, .bf16⟩
  | .hbm, ⟨69, _⟩ => ⟨S4096x5632, .bf16⟩
  | .hbm, ⟨70, _⟩ => ⟨S1x1024, .f32⟩
  | .hbm, ⟨71, _⟩ => ⟨S3x2816, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x2816, .bf16⟩
  | .local _ .vmem, ⟨5, _⟩ => ⟨S256x2816, .bf16⟩
  | .local _ .vmem, ⟨6, _⟩ => ⟨S256x2816, .bf16⟩
  | .local _ .vmem, ⟨7, _⟩ => ⟨S256x2816, .bf16⟩
  | .local _ .vmem, ⟨8, _⟩ => ⟨S256x2816, .bf16⟩
  | .local _ .vmem, ⟨9, _⟩ => ⟨S256x2816, .bf16⟩
  | .local _ .vmem, ⟨10, _⟩ => ⟨S3x2816, .f32⟩
  | .local _ .vmem, ⟨11, _⟩ => ⟨S2816x1024, .bf16⟩
  | .local _ .vmem, ⟨12, _⟩ => ⟨S1x1024, .f32⟩
  | .local _ .vmem, ⟨13, _⟩ => ⟨S256x1024, .bf16⟩
  | .local _ .vmem, ⟨14, _⟩ => ⟨S256x1024, .bf16⟩
  | .local _ .vmem, ⟨15, _⟩ => ⟨S256x5632, .bf16⟩
  | .local _ .vmem, ⟨16, _⟩ => ⟨S256x5632, .bf16⟩
  | .local _ .vmem, ⟨17, _⟩ => ⟨S1x1024, .f32⟩
  | .local _ .vmem, ⟨18, _⟩ => ⟨S3x2816, .f32⟩
  | .local _ .vmem, ⟨19, _⟩ => ⟨S8x2816, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_0 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53_0 : Ref sig .tc := ⟨.hbm, 68, rfl⟩
abbrev main_v53_1 : Ref sig .tc := ⟨.hbm, 69, rfl⟩
abbrev main_v53_2 : Ref sig .tc := ⟨.hbm, 70, rfl⟩
abbrev main_v53_3 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem11_0 : DmaSem sig := 18

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c0_i32_11 : BitVec 32 := 0#32
  let v37 : BitVec 1 := Scalar.cmpi .eq arg0 c0_i32_11
  let v38 : BitVec 32 := Scalar.extui v37
  let c0_i32_12 : BitVec 32 := 0#32
  let v39 : BitVec 1 := Scalar.cmpi .ne v38 c0_i32_12
  v39

def k0_cond3 (i : grid0.Coords) : BitVec 1 :=
  let arg0 : BitVec 32 := BitVec.ofNat 32 (i 0).val
  let c0_i32_13 : BitVec 32 := 0#32
  let v40 : BitVec 1 := Scalar.cmpi .ne arg0 c0_i32_13
  let v41 : BitVec 32 := Scalar.extui v40
  let c0_i32_14 : BitVec 32 := 0#32
  let v42 : BitVec 1 := Scalar.cmpi .ne v41 c0_i32_14
  v42

def k0_cond4 (i : grid0.Coords) : BitVec 1 :=
  let arg0 : BitVec 32 := BitVec.ofNat 32 (i 0).val
  let c0_i32_38 : BitVec 32 := 0#32
  let v100 : BitVec 1 := Scalar.cmpi .eq arg0 c0_i32_38
  let v101 : BitVec 32 := Scalar.extui v100
  let c0_i32_39 : BitVec 32 := 0#32
  let v102 : BitVec 1 := Scalar.cmpi .ne v101 c0_i32_39
  v102

def k0_cond5 (i : grid0.Coords) : BitVec 1 :=
  let arg0 : BitVec 32 := BitVec.ofNat 32 (i 0).val
  let c0_i32_40 : BitVec 32 := 0#32
  let v103 : BitVec 1 := Scalar.cmpi .ne arg0 c0_i32_40
  let v104 : BitVec 32 := Scalar.extui v103
  let c0_i32_41 : BitVec 32 := 0#32
  let v105 : BitVec 1 := Scalar.cmpi .ne v104 c0_i32_41
  v105

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c15_i32 : BitVec 32 := 15#32
  let v0 : BitVec 32 := Scalar.subi c15_i32 arg0
  let c1_i32 : BitVec 32 := 1#32
  let c0_i32 : BitVec 32 := 0#32
  ![v0.toNat, c1_i32.toNat]

def cc0_transform_4 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S3x2816 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x5632 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S3x2816 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Reference11Ideal.lean ====
abbrev S4096x1024 : Shape := ⟨2, ![4096, 1024]⟩
abbrev S4096x5632 : Shape := ⟨2, ![4096, 5632]⟩
abbrev S3x2816 : Shape := ⟨2, ![3, 2816]⟩
abbrev S2816x1024 : Shape := ⟨2, ![2816, 1024]⟩
abbrev S1024 : Shape := ⟨1, ![1024]⟩
abbrev S4096x2816 : Shape := ⟨2, ![4096, 2816]⟩
abbrev S_ : Shape := ⟨0, ![]⟩
abbrev S2x2816 : Shape := ⟨2, ![2, 2816]⟩
abbrev S4098x2816 : Shape := ⟨2, ![4098, 2816]⟩
abbrev S1x2816 : Shape := ⟨2, ![1, 2816]⟩
abbrev S2816 : Shape := ⟨1, ![2816]⟩
abbrev S4096 : Shape := ⟨1, ![4096]⟩
abbrev S4096x1 : Shape := ⟨2, ![4096, 1]⟩
abbrev S1x1024 : Shape := ⟨2, ![1, 1024]⟩

abbrev nBuf : Space → Nat
  | .hbm => 149
  | .vmem => 0
  | .smem => 0
  | _ => 0

abbrev hbmTy0_0 (i : Nat) : BufTy := match i % 128 with
  | 0 => ⟨S4096x1024, .f32⟩
  | 1 => ⟨S4096x5632, .f32⟩
  | 2 => ⟨S3x2816, .f32⟩
  | 3 => ⟨S2816x1024, .f32⟩
  | 4 => ⟨S1024, .f32⟩
  | 5 => ⟨S4096x2816, .f32⟩
  | 6 => ⟨S4096x2816, .f32⟩
  | 7 => ⟨S_, .f32⟩
  | 8 => ⟨S2x2816, .f32⟩
  | 9 => ⟨S4098x2816, .f32⟩
  | 10 => ⟨S_, .f32⟩
  | 11 => ⟨S2x2816, .f32⟩
  | 12 => ⟨S1x2816, .f32⟩
  | 13 => ⟨S2816, .f32⟩
  | 14 => ⟨S4096x2816, .f32⟩
  | 15 => ⟨S1x2816, .f32⟩
  | 16 => ⟨S4096x2816, .f32⟩
  | 17 => ⟨S4096x2816, .f32⟩
  | 18 => ⟨S1x2816, .f32⟩
  | 19 => ⟨S2816, .f32⟩
  | 20 => ⟨S4096x2816, .f32⟩
  | 21 => ⟨S1x2816, .f32⟩
  | 22 => ⟨S4096x2816, .f32⟩
  | 23 => ⟨S4096x2816, .f32⟩
  | 24 => ⟨S4096x2816, .f32⟩
  | 25 => ⟨S1x2816, .f32⟩
  | 26 => ⟨S2816, .f32⟩
  | 27 => ⟨S4096x2816, .f32⟩
  | 28 => ⟨S1x2816, .f32⟩
  | 29 => ⟨S4096x2816, .f32⟩
  | 30 => ⟨S4096x2816, .f32⟩
  | 31 => ⟨S4096x2816, .f32⟩
  | 32 => ⟨S4096x2816, .f32⟩
  | 33 => ⟨S4096x2816, .f32⟩
  | 34 => ⟨S_, .f32⟩
  | 35 => ⟨S4096x2816, .f32⟩
  | 36 => ⟨S4096x2816, .f32⟩
  | 37 => ⟨S_, .f32⟩
  | 38 => ⟨S4096x2816, .f32⟩
  | 39 => ⟨S4096x2816, .f32⟩
  | 40 => ⟨S_, .f32⟩
  | 41 => ⟨S4096x2816, .f32⟩
  | 42 => ⟨S4096x2816, .f32⟩
  | 43 => ⟨S4096x2816, .f32⟩
  | 44 => ⟨S4096x2816, .f32⟩
  | 45 => ⟨S4096x2816, .f32⟩
  | 46 => ⟨S4096x1024, .f32⟩
  | 47 => ⟨S4096x1024, .f32⟩
  | 48 => ⟨S_, .f32⟩
  | 49 => ⟨S4096, .f32⟩
  | 50 => ⟨S4096x1, .f32⟩
  | 51 => ⟨S_, .f32⟩
  | 52 => ⟨S4096x1, .f32⟩
  | 53 => ⟨S4096x1, .f32⟩
  | 54 => ⟨S_, .f32⟩
  | 55 => ⟨S4096x1, .f32⟩
  | 56 => ⟨S4096x1, .f32⟩
  | 57 => ⟨S4096x1, .f32⟩
  | 58 => ⟨S4096x1, .f32⟩
  | 59 => ⟨S_, .f32⟩
  | 60 => ⟨S4096x1, .f32⟩
  | 61 => ⟨S4096x1, .f32⟩
  | 62 => ⟨S4096x1024, .f32⟩
  | 63 => ⟨S4096x1024, .f32⟩
  | 64 => ⟨S1x1024, .f32⟩
  | 65 => ⟨S4096x1024, .f32⟩
  | 66 => ⟨S4096x1024, .f32⟩
  | 67 => ⟨S4096x1024, .f32⟩
  | 68 => ⟨S_, .f32⟩
  | 69 => ⟨S1024, .f32⟩
  | 70 => ⟨S1x1024, .f32⟩
  | 71 => ⟨S4096x1024, .f32⟩
  | 72 => ⟨S4096x1024, .f32⟩
  | 73 => ⟨S_, .f32⟩
  | 74 => ⟨S1024, .f32⟩
  | 75 => ⟨S4096x1024, .f32⟩
  | 76 => ⟨S_, .f32⟩
  | 77 => ⟨S4096, .f32⟩
  | 78 => ⟨S4096x1, .f32⟩
  | 79 => ⟨S4096x1024, .f32⟩
  | 80 => ⟨S4096x1024, .f32⟩
  | 81 => ⟨S4096x1, .f32⟩
  | 82 => ⟨S_, .f32⟩
  | 83 => ⟨S4096x1, .f32⟩
  | 84 => ⟨S4096x1, .f32⟩
  | 85 => ⟨S_, .f32⟩
  | 86 => ⟨S4096, .f32⟩
  | 87 => ⟨S4096x1024, .f32⟩
  | 88 => ⟨S4096x1024, .f32⟩
  | 89 => ⟨S4096x1024, .f32⟩
  | 90 => ⟨S4096x1024, .f32⟩
  | 91 => ⟨S4096x1024, .f32⟩
  | 92 => ⟨S4096x1024, .f32⟩
  | 93 => ⟨S4096x2816, .f32⟩
  | 94 => ⟨S4096x2816, .f32⟩
  | 95 => ⟨S4096x2816, .f32⟩
  | 96 => ⟨S4096x2816, .f32⟩
  | 97 => ⟨S4096x2816, .f32⟩
  | 98 => ⟨S4096x2816, .f32⟩
  | 99 => ⟨S4096x2816, .f32⟩
  | 100 => ⟨S4096x2816, .f32⟩
  | 101 => ⟨S4096x2816, .f32⟩
  | 102 => ⟨S4096x2816, .f32⟩
  | 103 => ⟨S_, .f32⟩
  | 104 => ⟨S2816, .f32⟩
  | 105 => ⟨S1x2816, .f32⟩
  | 106 => ⟨S_, .f32⟩
  | 107 => ⟨S2816, .f32⟩
  | 108 => ⟨S_, .f32⟩
  | 109 => ⟨S4098x2816, .f32⟩
  | 110 => ⟨S1x2816, .f32⟩
  | 111 => ⟨S_, .f32⟩
  | 112 => ⟨S3x2816, .f32⟩
  | 113 => ⟨S4096x2816, .f32⟩
  | 114 => ⟨S4096x2816, .f32⟩
  | 115 => ⟨S4096x2816, .f32⟩
  | 116 => ⟨S_, .f32⟩
  | 117 => ⟨S2816, .f32⟩
  | 118 => ⟨S1x2816, .f32⟩
  | 119 => ⟨S_, .f32⟩
  | 120 => ⟨S2816, .f32⟩
  | 121 => ⟨S_, .f32⟩
  | 122 => ⟨S4098x2816, .f32⟩
  | 123 => ⟨S4098x2816, .f32⟩
  | 124 => ⟨S1x2816, .f32⟩
  | 125 => ⟨S_, .f32⟩
  | 126 => ⟨S3x2816, .f32⟩
  | 127 => ⟨S3x2816, .f32⟩
  | _ => ⟨S4096x1024, .f32⟩

abbrev hbmTy0_1 (i : Nat) : BufTy := match i % 128 with
  | 0 => ⟨S4096x2816, .f32⟩
  | 1 => ⟨S4096x2816, .f32⟩
  | 2 => ⟨S4096x2816, .f32⟩
  | 3 => ⟨S_, .f32⟩
  | 4 => ⟨S2816, .f32⟩
  | 5 => ⟨S1x2816, .f32⟩
  | 6 => ⟨S_, .f32⟩
  | 7 => ⟨S2816, .f32⟩
  | 8 => ⟨S_, .f32⟩
  | 9 => ⟨S4098x2816, .f32⟩
  | 10 => ⟨S4098x2816, .f32⟩
  | 11 => ⟨S1x2816, .f32⟩
  | 12 => ⟨S_, .f32⟩
  | 13 => ⟨S3x2816, .f32⟩
  | 14 => ⟨S3x2816, .f32⟩
  | 15 => ⟨S2x2816, .f32⟩
  | 16 => ⟨S4096x2816, .f32⟩
  | 17 => ⟨S4096x1024, .bf16⟩
  | 18 => ⟨S4096x5632, .f32⟩
  | 19 => ⟨S4096x5632, .bf16⟩
  | 20 => ⟨S1x1024, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_v25_2 : Ref sig .tc := ⟨.hbm, 39, rfl⟩
abbrev main_call0_cst_1 : Ref sig .tc := ⟨.hbm, 40, rfl⟩
abbrev main_call0_v6 : Ref sig .tc := ⟨.hbm, 41, rfl⟩
abbrev main_call0_v7 : Ref sig .tc := ⟨.hbm, 42, rfl⟩
abbrev main_v25_1 : Ref sig .tc := ⟨.hbm, 43, rfl⟩
abbrev main_v25_0 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_1 : Ref sig .tc := ⟨.hbm, 48, rfl⟩
abbrev main_v29 : Ref sig .tc := ⟨.hbm, 49, rfl⟩
abbrev main_v30 : Ref sig .tc := ⟨.hbm, 50, rfl⟩
abbrev main_cst_2 : Ref sig .tc := ⟨.hbm, 51, rfl⟩
abbrev main_v31 : Ref sig .tc := ⟨.hbm, 52, rfl⟩
abbrev main_v32 : Ref sig .tc := ⟨.hbm, 53, rfl⟩
abbrev main_cst_3 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_4 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_5 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_cst_6 : Ref sig .tc := ⟨.hbm, 73, rfl⟩
abbrev main_v49 : Ref sig .tc := ⟨.hbm, 74, rfl⟩
abbrev main_v50 : Ref sig .tc := ⟨.hbm, 75, rfl⟩
abbrev main_cst_7 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_8 : Ref sig .tc := ⟨.hbm, 82, rfl⟩
abbrev main_v56 : Ref sig .tc := ⟨.hbm, 83, rfl⟩
abbrev main_v57 : Ref sig .tc := ⟨.hbm, 84, rfl⟩
abbrev main_cst_9 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_call1_v0 : Ref sig .tc := ⟨.hbm, 96, rfl⟩
abbrev main_call1_v1 : Ref sig .tc := ⟨.hbm, 97, rfl⟩
abbrev main_call1_v2 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_cst_10 : Ref sig .tc := ⟨.hbm, 103, rfl⟩
abbrev main_v72 : Ref sig .tc := ⟨.hbm, 104, rfl⟩
abbrev main_v73 : Ref sig .tc := ⟨.hbm, 105, rfl⟩
abbrev main_cst_11 : Ref sig .tc := ⟨.hbm, 106, rfl⟩
abbrev main_v74 : Ref sig .tc := ⟨.hbm, 107, rfl⟩
abbrev main_cst_12 : Ref sig .tc := ⟨.hbm, 108, rfl⟩
abbrev main_v75 : Ref sig .tc := ⟨.hbm, 109, rfl⟩
abbrev main_v76 : Ref sig .tc := ⟨.hbm, 110, rfl⟩
abbrev main_cst_13 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_cst_14 : Ref sig .tc := ⟨.hbm, 116, rfl⟩
abbrev main_v81 : Ref sig .tc := ⟨.hbm, 117, rfl⟩
abbrev main_v82 : Ref sig .tc := ⟨.hbm, 118, rfl⟩
abbrev main_cst_15 : Ref sig .tc := ⟨.hbm, 119, rfl⟩
abbrev main_v83 : Ref sig .tc := ⟨.hbm, 120, rfl⟩
abbrev main_cst_16 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_cst_17 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_cst_18 : Ref sig .tc := ⟨.hbm, 131, rfl⟩
abbrev main_v92 : Ref sig .tc := ⟨.hbm, 132, rfl⟩
abbrev main_v93 : Ref sig .tc := ⟨.hbm, 133, rfl⟩
abbrev main_cst_19 : Ref sig .tc := ⟨.hbm, 134, rfl⟩
abbrev main_v94 : Ref sig .tc := ⟨.hbm, 135, rfl⟩
abbrev main_cst_20 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_cst_21 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩

abbrev nD : Nat := 1
abbrev τ : Topo := Topo.v7x

variable {F : FTy → Type} [FloatOps F]
-- ==== Kernel12.lean ====
abbrev S4096x1024 : Shape := ⟨2, ![4096, 1024]⟩
abbrev S4096x6912 : Shape := ⟨2, ![4096, 6912]⟩
abbrev S4096x384 : Shape := ⟨2, ![4096, 384]⟩
abbrev S4096x256 : Shape := ⟨2, ![4096, 256]⟩
abbrev S384x1024 : Shape := ⟨2, ![384, 1024]⟩
abbrev S256x1024 : Shape := ⟨2, ![256, 1024]⟩
abbrev S1024x1024 : Shape := ⟨2, ![1024, 1024]⟩
abbrev S1024 : Shape := ⟨1, ![1024]⟩
abbrev S4096x3072 : Shape := ⟨2, ![4096, 3072]⟩
abbrev S4096x3840 : Shape := ⟨2, ![4096, 3840]⟩
abbrev S1024x384 : Shape := ⟨2, ![1024, 384]⟩
abbrev S1024x256 : Shape := ⟨2, ![1024, 256]⟩
abbrev S1x1024 : Shape := ⟨2, ![1, 1024]⟩
abbrev S512x1024 : Shape := ⟨2, ![512, 1024]⟩
abbrev S512x3072 : Shape := ⟨2, ![512, 3072]⟩
abbrev S512x384 : Shape := ⟨2, ![512, 384]⟩
abbrev S512x256 : Shape := ⟨2, ![512, 256]⟩
abbrev S512 : Shape := ⟨1, ![512]⟩
abbrev S512x1 : Shape := ⟨2, ![512, 1]⟩

abbrev nBuf : Space → Nat
  | .hbm => 28
  | .vmem => 21
  | .smem => 0
  | _ => 0

abbrev bufTy : (tb : Table) → Fin (tcTables nBuf tb) → BufTy
  | .hbm, ⟨0, _⟩ => ⟨S4096x1024, .f32⟩
  | .hbm, ⟨1, _⟩ => ⟨S4096x6912, .f32⟩
  | .hbm, ⟨2, _⟩ => ⟨S4096x384, .f32⟩
  | .hbm, ⟨3, _⟩ => ⟨S4096x384, .f32⟩
  | .hbm, ⟨4, _⟩ => ⟨S4096x256, .f32⟩
  | .hbm, ⟨5, _⟩ => ⟨S384x1024, .f32⟩
  | .hbm, ⟨6, _⟩ => ⟨S384x1024, .f32⟩
  | .hbm, ⟨7, _⟩ => ⟨S256x1024, .f32⟩
  | .hbm, ⟨8, _⟩ => ⟨S1024x1024, .f32⟩
  | .hbm, ⟨9, _⟩ => ⟨S1024, .f32⟩
  | .hbm, ⟨10, _⟩ => ⟨S4096x3072, .f32⟩
  | .hbm, ⟨11, _⟩ => ⟨S4096x3840, .f32⟩
  | .hbm, ⟨12, _⟩ => ⟨S4096x6912, .f32⟩
  | .hbm, ⟨13, _⟩ => ⟨S4096x6912, .bf16⟩
  | .hbm, ⟨14, _⟩ => ⟨S4096x384, .bf16⟩
  | .hbm, ⟨15, _⟩ => ⟨S4096x384, .bf16⟩
  | .hbm, ⟨16, _⟩ => ⟨S4096x256, .bf16⟩
  | .hbm, ⟨17, _⟩ => ⟨S1024x384, .f32⟩
  | .hbm, ⟨18, _⟩ => ⟨S1024x384, .bf16⟩
  | .hbm, ⟨19, _⟩ => ⟨S1024x384, .f32⟩
  | .hbm, ⟨20, _⟩ => ⟨S1024x384, .bf16⟩
  | .hbm, ⟨21, _⟩ => ⟨S1024x256, .f32⟩
  | .hbm, ⟨22, _⟩ => ⟨S1024x256, .bf16⟩
  | .hbm, ⟨23, _⟩ => ⟨S1024x1024, .bf16⟩
  | .hbm, ⟨24, _⟩ => ⟨S1x1024, .f32⟩
  | .hbm, ⟨25, _⟩ => ⟨S4096x1024, .bf16⟩
  | .hbm, ⟨26, _⟩ => ⟨S4096x1024, .f32⟩
  | .hbm, ⟨27, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S512x3072, .bf16⟩
  | .local _ .vmem, ⟨3, _⟩ => ⟨S512x3072, .bf16⟩
  | .local _ .vmem, ⟨4, _⟩ => ⟨S512x384, .bf16⟩
  | .local _ .vmem, ⟨5, _⟩ => ⟨S512x384, .bf16⟩
  | .local _ .vmem, ⟨6, _⟩ => ⟨S512x384, .bf16⟩
  | .local _ .vmem, ⟨7, _⟩ => ⟨S512x384, .bf16⟩
  | .local _ .vmem, ⟨8, _⟩ => ⟨S512x256, .bf16⟩
  | .local _ .vmem, ⟨9, _⟩ => ⟨S512x256, .bf16⟩
  | .local _ .vmem, ⟨10, _⟩ => ⟨S1024x384, .bf16⟩
  | .local _ .vmem, ⟨11, _⟩ => ⟨S1024x384, .bf16⟩
  | .local _ .vmem, ⟨12, _⟩ => ⟨S1024x256, .bf16⟩
  | .local _ .vmem, ⟨13, _⟩ => ⟨S1024x1024, .bf16⟩
  | .local _ .vmem, ⟨14, _⟩ => ⟨S1x1024, .f32⟩
  | .local _ .vmem, ⟨15, _⟩ => ⟨S512x1024, .bf16⟩
  | .local _ .vmem, ⟨16, _⟩ => ⟨S512x1024, .bf16⟩
  | .local _ .vmem, ⟨17, _⟩ => ⟨S512x1024, .f32⟩
  | .local _ .vmem, ⟨18, _⟩ => ⟨S512x1024, .f32⟩
  | .local _ .vmem, ⟨19, _⟩ => ⟨S512x1024, .f32⟩
  | .local _ .vmem, ⟨20, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15_0 : Ref sig .tc := ⟨.hbm, 25, rfl⟩
abbrev main_v15_1 : Ref sig .tc := ⟨.hbm, 26, rfl⟩
abbrev main_v15_2 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x384 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x384 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x384 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference12Ideal.lean ====
abbrev S4096x1024 : Shape := ⟨2, ![4096, 1024]⟩
abbrev S4096x6912 : Shape := ⟨2, ![4096, 6912]⟩
abbrev S4096x384 : Shape := ⟨2, ![4096, 384]⟩
abbrev S4096x256 : Shape := ⟨2, ![4096, 256]⟩
abbrev S384x1024 : Shape := ⟨2, ![384, 1024]⟩
abbrev S256x1024 : Shape := ⟨2, ![256, 1024]⟩
abbrev S1024x1024 : Shape := ⟨2, ![1024, 1024]⟩
abbrev S1024 : Shape := ⟨1, ![1024]⟩
abbrev S4096x3072 : Shape := ⟨2, ![4096, 3072]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 49
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x6912, .f32⟩
  | .hbm, ⟨2, _⟩ => ⟨S4096x384, .f32⟩
  | .hbm, ⟨3, _⟩ => ⟨S4096x384, .f32⟩
  | .hbm, ⟨4, _⟩ => ⟨S4096x256, .f32⟩
  | .hbm, ⟨5, _⟩ => ⟨S384x1024, .f32⟩
  | .hbm, ⟨6, _⟩ => ⟨S384x1024, .f32⟩
  | .hbm, ⟨7, _⟩ => ⟨S256x1024, .f32⟩
  | .hbm, ⟨8, _⟩ => ⟨S1024x1024, .f32⟩
  | .hbm, ⟨9, _⟩ => ⟨S1024, .f32⟩
  | .hbm, ⟨10, _⟩ => ⟨S4096x3072, .f32⟩
  | .hbm, ⟨11, _⟩ => ⟨S4096x3072, .f32⟩
  | .hbm, ⟨12, _⟩ => ⟨S4096x3072, .f32⟩
  | .hbm, ⟨13, _⟩ => ⟨S_, .f32⟩
  | .hbm, ⟨14, _⟩ => ⟨S4096x3072, .f32⟩
  | .hbm, ⟨15, _⟩ => ⟨S4096x3072, .f32⟩
  | .hbm, ⟨16, _⟩ => ⟨S_, .f32⟩
  | .hbm, ⟨17, _⟩ => ⟨S4096x3072, .f32⟩
  | .hbm, ⟨18, _⟩ => ⟨S4096x3072, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .bf16⟩
  | .hbm, ⟨32, _⟩ => ⟨S4096x1024, .f32⟩
  | .hbm, ⟨33, _⟩ => ⟨S_, .f32⟩
  | .hbm, ⟨34, _⟩ => ⟨S4096, .f32⟩
  | .hbm, ⟨35, _⟩ => ⟨S4096x1, .f32⟩
  | .hbm, ⟨36, _⟩ => ⟨S_, .f32⟩
  | .hbm, ⟨37, _⟩ => ⟨S4096x1, .f32⟩
  | .hbm, ⟨38, _⟩ => ⟨S4096x1, .f32⟩
  | .hbm, ⟨39, _⟩ => ⟨S_, .f32⟩
  | .hbm, ⟨40, _⟩ => ⟨S4096x1, .f32⟩
  | .hbm, ⟨41, _⟩ => ⟨S4096x1, .f32⟩
  | .hbm, ⟨42, _⟩ => ⟨S4096x1, .f32⟩
  | .hbm, ⟨43, _⟩ => ⟨S4096x1024, .f32⟩
  | .hbm, ⟨44, _⟩ => ⟨S4096x1024, .f32⟩
  | .hbm, ⟨45, _⟩ => ⟨S1x1024, .f32⟩
  | .hbm, ⟨46, _⟩ => ⟨S4096x1024, .f32⟩
  | .hbm, ⟨47, _⟩ => ⟨S4096x1024, .f32⟩
  | .hbm, ⟨48, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_1 : Ref sig .tc := ⟨.hbm, 33, rfl⟩
abbrev main_v21 : Ref sig .tc := ⟨.hbm, 34, rfl⟩
abbrev main_v22 : Ref sig .tc := ⟨.hbm, 35, rfl⟩
abbrev main_cst_2 : Ref sig .tc := ⟨.hbm, 36, rfl⟩
abbrev main_v23 : Ref sig .tc := ⟨.hbm, 37, rfl⟩
abbrev main_v24 : Ref sig .tc := ⟨.hbm, 38, rfl⟩
abbrev main_cst_3 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩

abbrev nD : Nat := 1
abbrev τ : Topo := Topo.v7x

variable {F : FTy → Type} [FloatOps F]
-- ==== Kernel13.lean ====
abbrev S1x2x1024 : Shape := ⟨3, ![1, 2, 1024]⟩
abbrev S2x1024 : Shape := ⟨2, ![2, 1024]⟩

abbrev nBuf : Space → Nat
  | .hbm => 7
  | .vmem => 7
  | .smem => 0
  | _ => 0

abbrev bufTy : (tb : Table) → Fin (tcTables nBuf tb) → BufTy
  | .hbm, ⟨0, _⟩ => ⟨S1x2x1024, .f32⟩
  | .hbm, ⟨1, _⟩ => ⟨S1x2x1024, .f32⟩
  | .hbm, ⟨2, _⟩ => ⟨S1x2x1024, .f32⟩
  | .hbm, ⟨3, _⟩ => ⟨S1x2x1024, .f32⟩
  | .hbm, ⟨4, _⟩ => ⟨S1x2x1024, .f32⟩
  | .hbm, ⟨5, _⟩ => ⟨S1x2x1024, .f32⟩
  | .hbm, ⟨6, _⟩ => ⟨S1x2x1024, .f32⟩
  | .local _ .vmem, ⟨0, _⟩ => ⟨S1x2x1024, .f32⟩
  | .local _ .vmem, ⟨1, _⟩ => ⟨S1x2x1024, .f32⟩
  | .local _ .vmem, ⟨2, _⟩ => ⟨S1x2x1024, .f32⟩
  | .local _ .vmem, ⟨3, _⟩ => ⟨S1x2x1024, .f32⟩
  | .local _ .vmem, ⟨4, _⟩ => ⟨S1x2x1024, .f32⟩
  | .local _ .vmem, ⟨5, _⟩ => ⟨S1x2x1024, .f32⟩
  | .local _ .vmem, ⟨6, _⟩ => ⟨S1x2x1024, .f32⟩
  | _, _ => ⟨S1x2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x2x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x2x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x2x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== Reference13Ideal.lean ====
abbrev S1x2x1024 : Shape := ⟨3, ![1, 2, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x2x1024, .f32⟩
  | .hbm, ⟨1, _⟩ => ⟨S1x2x1024, .f32⟩
  | .hbm, ⟨2, _⟩ => ⟨S1x2x1024, .f32⟩
  | .hbm, ⟨3, _⟩ => ⟨S1x2x1024, .f32⟩
  | .hbm, ⟨4, _⟩ => ⟨S_, .f32⟩
  | .hbm, ⟨5, _⟩ => ⟨S1x2x1024, .f32⟩
  | .hbm, ⟨6, _⟩ => ⟨S1x2x1024, .f32⟩
  | .hbm, ⟨7, _⟩ => ⟨S_, .f32⟩
  | .hbm, ⟨8, _⟩ => ⟨S1x2x1024, .f32⟩
  | .hbm, ⟨9, _⟩ => ⟨S1x2x1024, .f32⟩
  | .hbm, ⟨10, _⟩ => ⟨S1x2x1024, .f32⟩
  | .hbm, ⟨11, _⟩ => ⟨S_, .f32⟩
  | .hbm, ⟨12, _⟩ => ⟨S1x2x1024, .f32⟩
  | .hbm, ⟨13, _⟩ => ⟨S1x2x1024, .f32⟩
  | .hbm, ⟨14, _⟩ => ⟨S1x2x1024, .f32⟩
  | .hbm, ⟨15, _⟩ => ⟨S_, .f32⟩
  | .hbm, ⟨16, _⟩ => ⟨S1x2x1024, .f32⟩
  | .hbm, ⟨17, _⟩ => ⟨S1x2x1024, .f32⟩
  | .hbm, ⟨18, _⟩ => ⟨S1x2x1024, .f32⟩
  | .hbm, ⟨19, _⟩ => ⟨S_, .f32⟩
  | .hbm, ⟨20, _⟩ => ⟨S1x2x1024, .f32⟩
  | .hbm, ⟨21, _⟩ => ⟨S1x2x1024, .f32⟩
  | .hbm, ⟨22, _⟩ => ⟨S_, .f32⟩
  | .hbm, ⟨23, _⟩ => ⟨S1x2x1024, .f32⟩
  | .hbm, ⟨24, _⟩ => ⟨S1x2x1024, .f32⟩
  | .hbm, ⟨25, _⟩ => ⟨S1x2x1024, .f32⟩
  | .hbm, ⟨26, _⟩ => ⟨S_, .f32⟩
  | .hbm, ⟨27, _⟩ => ⟨S1x2x1024, .f32⟩
  | .hbm, ⟨28, _⟩ => ⟨S1x2x1024, .f32⟩
  | .hbm, ⟨29, _⟩ => ⟨S1x2x1024, .f32⟩
  | .hbm, ⟨30, _⟩ => ⟨S_, .f32⟩
  | .hbm, ⟨31, _⟩ => ⟨S1x2x1024, .f32⟩
  | .hbm, ⟨32, _⟩ => ⟨S1x2x1024, .f32⟩
  | .hbm, ⟨33, _⟩ => ⟨S1x2x1024, .f32⟩
  | .hbm, ⟨34, _⟩ => ⟨S_, .f32⟩
  | .hbm, ⟨35, _⟩ => ⟨S1x2x1024, .f32⟩
  | .hbm, ⟨36, _⟩ => ⟨S1x2x1024, .f32⟩
  | _, _ => ⟨S1x2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel14.lean ====
abbrev S2x384x128 : Shape := ⟨3, ![2, 384, 128]⟩
abbrev S1x384x128 : Shape := ⟨3, ![1, 384, 128]⟩
abbrev S384x128 : Shape := ⟨2, ![384, 128]⟩

abbrev nBuf : Space → Nat
  | .hbm => 7
  | .vmem => 14
  | .smem => 0
  | _ => 0

abbrev bufTy : (tb : Table) → Fin (tcTables nBuf tb) → BufTy
  | .hbm, ⟨0, _⟩ => ⟨S2x384x128, .f32⟩
  | .hbm, ⟨1, _⟩ => ⟨S2x384x128, .f32⟩
  | .hbm, ⟨2, _⟩ => ⟨S2x384x128, .f32⟩
  | .hbm, ⟨3, _⟩ => ⟨S2x384x128, .f32⟩
  | .hbm, ⟨4, _⟩ => ⟨S2x384x128, .f32⟩
  | .hbm, ⟨5, _⟩ => ⟨S2x384x128, .f32⟩
  | .hbm, ⟨6, _⟩ => ⟨S2x384x128, .f32⟩
  | .local _ .vmem, ⟨0, _⟩ => ⟨S1x384x128, .f32⟩
  | .local _ .vmem, ⟨1, _⟩ => ⟨S1x384x128, .f32⟩
  | .local _ .vmem, ⟨2, _⟩ => ⟨S1x384x128, .f32⟩
  | .local _ .vmem, ⟨3, _⟩ => ⟨S1x384x128, .f32⟩
  | .local _ .vmem, ⟨4, _⟩ => ⟨S1x384x128, .f32⟩
  | .local _ .vmem, ⟨5, _⟩ => ⟨S1x384x128, .f32⟩
  | .local _ .vmem, ⟨6, _⟩ => ⟨S1x384x128, .f32⟩
  | .local _ .vmem, ⟨7, _⟩ => ⟨S1x384x128, .f32⟩
  | .local _ .vmem, ⟨8, _⟩ => ⟨S1x384x128, .f32⟩
  | .local _ .vmem, ⟨9, _⟩ => ⟨S1x384x128, .f32⟩
  | .local _ .vmem, ⟨10, _⟩ => ⟨S1x384x128, .f32⟩
  | .local _ .vmem, ⟨11, _⟩ => ⟨S1x384x128, .f32⟩
  | .local _ .vmem, ⟨12, _⟩ => ⟨S1x384x128, .f32⟩
  | .local _ .vmem, ⟨13, _⟩ => ⟨S1x384x128, .f32⟩
  | _, _ => ⟨S2x384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x384x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x384x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x384x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x384x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x384x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x384x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x384x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference14Ideal.lean ====
abbrev S2x384x128 : Shape := ⟨3, ![2, 384, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x384x128, .f32⟩
  | .hbm, ⟨1, _⟩ => ⟨S2x384x128, .f32⟩
  | .hbm, ⟨2, _⟩ => ⟨S2x384x128, .f32⟩
  | .hbm, ⟨3, _⟩ => ⟨S2x384x128, .f32⟩
  | .hbm, ⟨4, _⟩ => ⟨S_, .f32⟩
  | .hbm, ⟨5, _⟩ => ⟨S2x384x128, .f32⟩
  | .hbm, ⟨6, _⟩ => ⟨S2x384x128, .f32⟩
  | .hbm, ⟨7, _⟩ => ⟨S_, .f32⟩
  | .hbm, ⟨8, _⟩ => ⟨S2x384x128, .f32⟩
  | .hbm, ⟨9, _⟩ => ⟨S2x384x128, .f32⟩
  | .hbm, ⟨10, _⟩ => ⟨S2x384x128, .f32⟩
  | .hbm, ⟨11, _⟩ => ⟨S_, .f32⟩
  | .hbm, ⟨12, _⟩ => ⟨S2x384x128, .f32⟩
  | .hbm, ⟨13, _⟩ => ⟨S2x384x128, .f32⟩
  | .hbm, ⟨14, _⟩ => ⟨S2x384x128, .f32⟩
  | .hbm, ⟨15, _⟩ => ⟨S_, .f32⟩
  | .hbm, ⟨16, _⟩ => ⟨S2x384x128, .f32⟩
  | .hbm, ⟨17, _⟩ => ⟨S2x384x128, .f32⟩
  | .hbm, ⟨18, _⟩ => ⟨S2x384x128, .f32⟩
  | .hbm, ⟨19, _⟩ => ⟨S_, .f32⟩
  | .hbm, ⟨20, _⟩ => ⟨S2x384x128, .f32⟩
  | .hbm, ⟨21, _⟩ => ⟨S2x384x128, .f32⟩
  | .hbm, ⟨22, _⟩ => ⟨S_, .f32⟩
  | .hbm, ⟨23, _⟩ => ⟨S2x384x128, .f32⟩
  | .hbm, ⟨24, _⟩ => ⟨S2x384x128, .f32⟩
  | .hbm, ⟨25, _⟩ => ⟨S2x384x128, .f32⟩
  | .hbm, ⟨26, _⟩ => ⟨S_, .f32⟩
  | .hbm, ⟨27, _⟩ => ⟨S2x384x128, .f32⟩
  | .hbm, ⟨28, _⟩ => ⟨S2x384x128, .f32⟩
  | .hbm, ⟨29, _⟩ => ⟨S2x384x128, .f32⟩
  | .hbm, ⟨30, _⟩ => ⟨S_, .f32⟩
  | .hbm, ⟨31, _⟩ => ⟨S2x384x128, .f32⟩
  | .hbm, ⟨32, _⟩ => ⟨S2x384x128, .f32⟩
  | .hbm, ⟨33, _⟩ => ⟨S2x384x128, .f32⟩
  | .hbm, ⟨34, _⟩ => ⟨S_, .f32⟩
  | .hbm, ⟨35, _⟩ => ⟨S2x384x128, .f32⟩
  | .hbm, ⟨36, _⟩ => ⟨S2x384x128, .f32⟩
  | _, _ => ⟨S2x384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel15.lean ====
abbrev S2x256x128 : Shape := ⟨3, ![2, 256, 128]⟩
abbrev S1x256x128 : Shape := ⟨3, ![1, 256, 128]⟩
abbrev S256x128 : Shape := ⟨2, ![256, 128]⟩

abbrev nBuf : Space → Nat
  | .hbm => 7
  | .vmem => 14
  | .smem => 0
  | _ => 0

abbrev bufTy : (tb : Table) → Fin (tcTables nBuf tb) → BufTy
  | .hbm, ⟨0, _⟩ => ⟨S2x256x128, .f32⟩
  | .hbm, ⟨1, _⟩ => ⟨S2x256x128, .f32⟩
  | .hbm, ⟨2, _⟩ => ⟨S2x256x128, .f32⟩
  | .hbm, ⟨3, _⟩ => ⟨S2x256x128, .f32⟩
  | .hbm, ⟨4, _⟩ => ⟨S2x256x128, .f32⟩
  | .hbm, ⟨5, _⟩ => ⟨S2x256x128, .f32⟩
  | .hbm, ⟨6, _⟩ => ⟨S2x256x128, .f32⟩
  | .local _ .vmem, ⟨0, _⟩ => ⟨S1x256x128, .f32⟩
  | .local _ .vmem, ⟨1, _⟩ => ⟨S1x256x128, .f32⟩
  | .local _ .vmem, ⟨2, _⟩ => ⟨S1x256x128, .f32⟩
  | .local _ .vmem, ⟨3, _⟩ => ⟨S1x256x128, .f32⟩
  | .local _ .vmem, ⟨4, _⟩ => ⟨S1x256x128, .f32⟩
  | .local _ .vmem, ⟨5, _⟩ => ⟨S1x256x128, .f32⟩
  | .local _ .vmem, ⟨6, _⟩ => ⟨S1x256x128, .f32⟩
  | .local _ .vmem, ⟨7, _⟩ => ⟨S1x256x128, .f32⟩
  | .local _ .vmem, ⟨8, _⟩ => ⟨S1x256x128, .f32⟩
  | .local _ .vmem, ⟨9, _⟩ => ⟨S1x256x128, .f32⟩
  | .local _ .vmem, ⟨10, _⟩ => ⟨S1x256x128, .f32⟩
  | .local _ .vmem, ⟨11, _⟩ => ⟨S1x256x128, .f32⟩
  | .local _ .vmem, ⟨12, _⟩ => ⟨S1x256x128, .f32⟩
  | .local _ .vmem, ⟨13, _⟩ => ⟨S1x256x128, .f32⟩
  | _, _ => ⟨S2x256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference15Ideal.lean ====
abbrev S2x256x128 : Shape := ⟨3, ![2, 256, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x256x128, .f32⟩
  | .hbm, ⟨1, _⟩ => ⟨S2x256x128, .f32⟩
  | .hbm, ⟨2, _⟩ => ⟨S2x256x128, .f32⟩
  | .hbm, ⟨3, _⟩ => ⟨S2x256x128, .f32⟩
  | .hbm, ⟨4, _⟩ => ⟨S_, .f32⟩
  | .hbm, ⟨5, _⟩ => ⟨S2x256x128, .f32⟩
  | .hbm, ⟨6, _⟩ => ⟨S2x256x128, .f32⟩
  | .hbm, ⟨7, _⟩ => ⟨S_, .f32⟩
  | .hbm, ⟨8, _⟩ => ⟨S2x256x128, .f32⟩
  | .hbm, ⟨9, _⟩ => ⟨S2x256x128, .f32⟩
  | .hbm, ⟨10, _⟩ => ⟨S2x256x128, .f32⟩
  | .hbm, ⟨11, _⟩ => ⟨S_, .f32⟩
  | .hbm, ⟨12, _⟩ => ⟨S2x256x128, .f32⟩
  | .hbm, ⟨13, _⟩ => ⟨S2x256x128, .f32⟩
  | .hbm, ⟨14, _⟩ => ⟨S2x256x128, .f32⟩
  | .hbm, ⟨15, _⟩ => ⟨S_, .f32⟩
  | .hbm, ⟨16, _⟩ => ⟨S2x256x128, .f32⟩
  | .hbm, ⟨17, _⟩ => ⟨S2x256x128, .f32⟩
  | .hbm, ⟨18, _⟩ => ⟨S2x256x128, .f32⟩
  | .hbm, ⟨19, _⟩ => ⟨S_, .f32⟩
  | .hbm, ⟨20, _⟩ => ⟨S2x256x128, .f32⟩
  | .hbm, ⟨21, _⟩ => ⟨S2x256x128, .f32⟩
  | .hbm, ⟨22, _⟩ => ⟨S_, .f32⟩
  | .hbm, ⟨23, _⟩ => ⟨S2x256x128, .f32⟩
  | .hbm, ⟨24, _⟩ => ⟨S2x256x128, .f32⟩
  | .hbm, ⟨25, _⟩ => ⟨S2x256x128, .f32⟩
  | .hbm, ⟨26, _⟩ => ⟨S_, .f32⟩
  | .hbm, ⟨27, _⟩ => ⟨S2x256x128, .f32⟩
  | .hbm, ⟨28, _⟩ => ⟨S2x256x128, .f32⟩
  | .hbm, ⟨29, _⟩ => ⟨S2x256x128, .f32⟩
  | .hbm, ⟨30, _⟩ => ⟨S_, .f32⟩
  | .hbm, ⟨31, _⟩ => ⟨S2x256x128, .f32⟩
  | .hbm, ⟨32, _⟩ => ⟨S2x256x128, .f32⟩
  | .hbm, ⟨33, _⟩ => ⟨S2x256x128, .f32⟩
  | .hbm, ⟨34, _⟩ => ⟨S_, .f32⟩
  | .hbm, ⟨35, _⟩ => ⟨S2x256x128, .f32⟩
  | .hbm, ⟨36, _⟩ => ⟨S2x256x128, .f32⟩
  | _, _ => ⟨S2x256x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel16.lean ====
abbrev S2x512x128 : Shape := ⟨3, ![2, 512, 128]⟩
abbrev S1x512x128 : Shape := ⟨3, ![1, 512, 128]⟩
abbrev S512x128 : Shape := ⟨2, ![512, 128]⟩

abbrev nBuf : Space → Nat
  | .hbm => 7
  | .vmem => 14
  | .smem => 0
  | _ => 0

abbrev bufTy : (tb : Table) → Fin (tcTables nBuf tb) → BufTy
  | .hbm, ⟨0, _⟩ => ⟨S2x512x128, .f32⟩
  | .hbm, ⟨1, _⟩ => ⟨S2x512x128, .f32⟩
  | .hbm, ⟨2, _⟩ => ⟨S2x512x128, .f32⟩
  | .hbm, ⟨3, _⟩ => ⟨S2x512x128, .f32⟩
  | .hbm, ⟨4, _⟩ => ⟨S2x512x128, .f32⟩
  | .hbm, ⟨5, _⟩ => ⟨S2x512x128, .f32⟩
  | .hbm, ⟨6, _⟩ => ⟨S2x512x128, .f32⟩
  | .local _ .vmem, ⟨0, _⟩ => ⟨S1x512x128, .f32⟩
  | .local _ .vmem, ⟨1, _⟩ => ⟨S1x512x128, .f32⟩
  | .local _ .vmem, ⟨2, _⟩ => ⟨S1x512x128, .f32⟩
  | .local _ .vmem, ⟨3, _⟩ => ⟨S1x512x128, .f32⟩
  | .local _ .vmem, ⟨4, _⟩ => ⟨S1x512x128, .f32⟩
  | .local _ .vmem, ⟨5, _⟩ => ⟨S1x512x128, .f32⟩
  | .local _ .vmem, ⟨6, _⟩ => ⟨S1x512x128, .f32⟩
  | .local _ .vmem, ⟨7, _⟩ => ⟨S1x512x128, .f32⟩
  | .local _ .vmem, ⟨8, _⟩ => ⟨S1x512x128, .f32⟩
  | .local _ .vmem, ⟨9, _⟩ => ⟨S1x512x128, .f32⟩
  | .local _ .vmem, ⟨10, _⟩ => ⟨S1x512x128, .f32⟩
  | .local _ .vmem, ⟨11, _⟩ => ⟨S1x512x128, .f32⟩
  | .local _ .vmem, ⟨12, _⟩ => ⟨S1x512x128, .f32⟩
  | .local _ .vmem, ⟨13, _⟩ => ⟨S1x512x128, .f32⟩
  | _, _ => ⟨S2x512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference16Ideal.lean ====
abbrev S2x512x128 : Shape := ⟨3, ![2, 512, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x512x128, .f32⟩
  | .hbm, ⟨1, _⟩ => ⟨S2x512x128, .f32⟩
  | .hbm, ⟨2, _⟩ => ⟨S2x512x128, .f32⟩
  | .hbm, ⟨3, _⟩ => ⟨S2x512x128, .f32⟩
  | .hbm, ⟨4, _⟩ => ⟨S_, .f32⟩
  | .hbm, ⟨5, _⟩ => ⟨S2x512x128, .f32⟩
  | .hbm, ⟨6, _⟩ => ⟨S2x512x128, .f32⟩
  | .hbm, ⟨7, _⟩ => ⟨S_, .f32⟩
  | .hbm, ⟨8, _⟩ => ⟨S2x512x128, .f32⟩
  | .hbm, ⟨9, _⟩ => ⟨S2x512x128, .f32⟩
  | .hbm, ⟨10, _⟩ => ⟨S2x512x128, .f32⟩
  | .hbm, ⟨11, _⟩ => ⟨S_, .f32⟩
  | .hbm, ⟨12, _⟩ => ⟨S2x512x128, .f32⟩
  | .hbm, ⟨13, _⟩ => ⟨S2x512x128, .f32⟩
  | .hbm, ⟨14, _⟩ => ⟨S2x512x128, .f32⟩
  | .hbm, ⟨15, _⟩ => ⟨S_, .f32⟩
  | .hbm, ⟨16, _⟩ => ⟨S2x512x128, .f32⟩
  | .hbm, ⟨17, _⟩ => ⟨S2x512x128, .f32⟩
  | .hbm, ⟨18, _⟩ => ⟨S2x512x128, .f32⟩
  | .hbm, ⟨19, _⟩ => ⟨S_, .f32⟩
  | .hbm, ⟨20, _⟩ => ⟨S2x512x128, .f32⟩
  | .hbm, ⟨21, _⟩ => ⟨S2x512x128, .f32⟩
  | .hbm, ⟨22, _⟩ => ⟨S_, .f32⟩
  | .hbm, ⟨23, _⟩ => ⟨S2x512x128, .f32⟩
  | .hbm, ⟨24, _⟩ => ⟨S2x512x128, .f32⟩
  | .hbm, ⟨25, _⟩ => ⟨S2x512x128, .f32⟩
  | .hbm, ⟨26, _⟩ => ⟨S_, .f32⟩
  | .hbm, ⟨27, _⟩ => ⟨S2x512x128, .f32⟩
  | .hbm, ⟨28, _⟩ => ⟨S2x512x128, .f32⟩
  | .hbm, ⟨29, _⟩ => ⟨S2x512x128, .f32⟩
  | .hbm, ⟨30, _⟩ => ⟨S_, .f32⟩
  | .hbm, ⟨31, _⟩ => ⟨S2x512x128, .f32⟩
  | .hbm, ⟨32, _⟩ => ⟨S2x512x128, .f32⟩
  | .hbm, ⟨33, _⟩ => ⟨S2x512x128, .f32⟩
  | .hbm, ⟨34, _⟩ => ⟨S_, .f32⟩
  | .hbm, ⟨35, _⟩ => ⟨S2x512x128, .f32⟩
  | .hbm, ⟨36, _⟩ => ⟨S2x512x128, .f32⟩
  | _, _ => ⟨S2x512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel17.lean ====
abbrev S8x96x96 : Shape := ⟨3, ![8, 96, 96]⟩
abbrev S1x96x96 : Shape := ⟨3, ![1, 96, 96]⟩
abbrev S96x96 : Shape := ⟨2, ![96, 96]⟩

abbrev nBuf : Space → Nat
  | .hbm => 7
  | .vmem => 14
  | .smem => 0
  | _ => 0

abbrev bufTy : (tb : Table) → Fin (tcTables nBuf tb) → BufTy
  | .hbm, ⟨0, _⟩ => ⟨S8x96x96, .f32⟩
  | .hbm, ⟨1, _⟩ => ⟨S8x96x96, .f32⟩
  | .hbm, ⟨2, _⟩ => ⟨S8x96x96, .f32⟩
  | .hbm, ⟨3, _⟩ => ⟨S8x96x96, .f32⟩
  | .hbm, ⟨4, _⟩ => ⟨S8x96x96, .f32⟩
  | .hbm, ⟨5, _⟩ => ⟨S8x96x96, .f32⟩
  | .hbm, ⟨6, _⟩ => ⟨S8x96x96, .f32⟩
  | .local _ .vmem, ⟨0, _⟩ => ⟨S1x96x96, .f32⟩
  | .local _ .vmem, ⟨1, _⟩ => ⟨S1x96x96, .f32⟩
  | .local _ .vmem, ⟨2, _⟩ => ⟨S1x96x96, .f32⟩
  | .local _ .vmem, ⟨3, _⟩ => ⟨S1x96x96, .f32⟩
  | .local _ .vmem, ⟨4, _⟩ => ⟨S1x96x96, .f32⟩
  | .local _ .vmem, ⟨5, _⟩ => ⟨S1x96x96, .f32⟩
  | .local _ .vmem, ⟨6, _⟩ => ⟨S1x96x96, .f32⟩
  | .local _ .vmem, ⟨7, _⟩ => ⟨S1x96x96, .f32⟩
  | .local _ .vmem, ⟨8, _⟩ => ⟨S1x96x96, .f32⟩
  | .local _ .vmem, ⟨9, _⟩ => ⟨S1x96x96, .f32⟩
  | .local _ .vmem, ⟨10, _⟩ => ⟨S1x96x96, .f32⟩
  | .local _ .vmem, ⟨11, _⟩ => ⟨S1x96x96, .f32⟩
  | .local _ .vmem, ⟨12, _⟩ => ⟨S1x96x96, .f32⟩
  | .local _ .vmem, ⟨13, _⟩ => ⟨S1x96x96, .f32⟩
  | _, _ => ⟨S8x96x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x96x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x96x96 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x96x96 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x96x96 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x96x96 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x96x96 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x96x96 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference17Ideal.lean ====
abbrev S8x96x96 : Shape := ⟨3, ![8, 96, 96]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S8x96x96, .f32⟩
  | .hbm, ⟨1, _⟩ => ⟨S8x96x96, .f32⟩
  | .hbm, ⟨2, _⟩ => ⟨S8x96x96, .f32⟩
  | .hbm, ⟨3, _⟩ => ⟨S8x96x96, .f32⟩
  | .hbm, ⟨4, _⟩ => ⟨S_, .f32⟩
  | .hbm, ⟨5, _⟩ => ⟨S8x96x96, .f32⟩
  | .hbm, ⟨6, _⟩ => ⟨S8x96x96, .f32⟩
  | .hbm, ⟨7, _⟩ => ⟨S_, .f32⟩
  | .hbm, ⟨8, _⟩ => ⟨S8x96x96, .f32⟩
  | .hbm, ⟨9, _⟩ => ⟨S8x96x96, .f32⟩
  | .hbm, ⟨10, _⟩ => ⟨S8x96x96, .f32⟩
  | .hbm, ⟨11, _⟩ => ⟨S_, .f32⟩
  | .hbm, ⟨12, _⟩ => ⟨S8x96x96, .f32⟩
  | .hbm, ⟨13, _⟩ => ⟨S8x96x96, .f32⟩
  | .hbm, ⟨14, _⟩ => ⟨S8x96x96, .f32⟩
  | .hbm, ⟨15, _⟩ => ⟨S_, .f32⟩
  | .hbm, ⟨16, _⟩ => ⟨S8x96x96, .f32⟩
  | .hbm, ⟨17, _⟩ => ⟨S8x96x96, .f32⟩
  | .hbm, ⟨18, _⟩ => ⟨S8x96x96, .f32⟩
  | .hbm, ⟨19, _⟩ => ⟨S_, .f32⟩
  | .hbm, ⟨20, _⟩ => ⟨S8x96x96, .f32⟩
  | .hbm, ⟨21, _⟩ => ⟨S8x96x96, .f32⟩
  | .hbm, ⟨22, _⟩ => ⟨S_, .f32⟩
  | .hbm, ⟨23, _⟩ => ⟨S8x96x96, .f32⟩
  | .hbm, ⟨24, _⟩ => ⟨S8x96x96, .f32⟩
  | .hbm, ⟨25, _⟩ => ⟨S8x96x96, .f32⟩
  | .hbm, ⟨26, _⟩ => ⟨S_, .f32⟩
  | .hbm, ⟨27, _⟩ => ⟨S8x96x96, .f32⟩
  | .hbm, ⟨28, _⟩ => ⟨S8x96x96, .f32⟩
  | .hbm, ⟨29, _⟩ => ⟨S8x96x96, .f32⟩
  | .hbm, ⟨30, _⟩ => ⟨S_, .f32⟩
  | .hbm, ⟨31, _⟩ => ⟨S8x96x96, .f32⟩
  | .hbm, ⟨32, _⟩ => ⟨S8x96x96, .f32⟩
  | .hbm, ⟨33, _⟩ => ⟨S8x96x96, .f32⟩
  | .hbm, ⟨34, _⟩ => ⟨S_, .f32⟩
  | .hbm, ⟨35, _⟩ => ⟨S8x96x96, .f32⟩
  | .hbm, ⟨36, _⟩ => ⟨S8x96x96, .f32⟩
  | _, _ => ⟨S8x96x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel18.lean ====
abbrev S1x2x384 : Shape := ⟨3, ![1, 2, 384]⟩
abbrev S2x384 : Shape := ⟨2, ![2, 384]⟩

abbrev nBuf : Space → Nat
  | .hbm => 7
  | .vmem => 7
  | .smem => 0
  | _ => 0

abbrev bufTy : (tb : Table) → Fin (tcTables nBuf tb) → BufTy
  | .hbm, ⟨0, _⟩ => ⟨S1x2x384, .f32⟩
  | .hbm, ⟨1, _⟩ => ⟨S1x2x384, .f32⟩
  | .hbm, ⟨2, _⟩ => ⟨S1x2x384, .f32⟩
  | .hbm, ⟨3, _⟩ => ⟨S1x2x384, .f32⟩
  | .hbm, ⟨4, _⟩ => ⟨S1x2x384, .f32⟩
  | .hbm, ⟨5, _⟩ => ⟨S1x2x384, .f32⟩
  | .hbm, ⟨6, _⟩ => ⟨S1x2x384, .f32⟩
  | .local _ .vmem, ⟨0, _⟩ => ⟨S1x2x384, .f32⟩
  | .local _ .vmem, ⟨1, _⟩ => ⟨S1x2x384, .f32⟩
  | .local _ .vmem, ⟨2, _⟩ => ⟨S1x2x384, .f32⟩
  | .local _ .vmem, ⟨3, _⟩ => ⟨S1x2x384, .f32⟩
  | .local _ .vmem, ⟨4, _⟩ => ⟨S1x2x384, .f32⟩
  | .local _ .vmem, ⟨5, _⟩ => ⟨S1x2x384, .f32⟩
  | .local _ .vmem, ⟨6, _⟩ => ⟨S1x2x384, .f32⟩
  | _, _ => ⟨S1x2x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x2x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x2x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x2x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x2x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x2x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x2x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x2x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== Reference18Ideal.lean ====
abbrev S1x2x384 : Shape := ⟨3, ![1, 2, 384]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x2x384, .f32⟩
  | .hbm, ⟨1, _⟩ => ⟨S1x2x384, .f32⟩
  | .hbm, ⟨2, _⟩ => ⟨S1x2x384, .f32⟩
  | .hbm, ⟨3, _⟩ => ⟨S1x2x384, .f32⟩
  | .hbm, ⟨4, _⟩ => ⟨S_, .f32⟩
  | .hbm, ⟨5, _⟩ => ⟨S1x2x384, .f32⟩
  | .hbm, ⟨6, _⟩ => ⟨S1x2x384, .f32⟩
  | .hbm, ⟨7, _⟩ => ⟨S_, .f32⟩
  | .hbm, ⟨8, _⟩ => ⟨S1x2x384, .f32⟩
  | .hbm, ⟨9, _⟩ => ⟨S1x2x384, .f32⟩
  | .hbm, ⟨10, _⟩ => ⟨S1x2x384, .f32⟩
  | .hbm, ⟨11, _⟩ => ⟨S_, .f32⟩
  | .hbm, ⟨12, _⟩ => ⟨S1x2x384, .f32⟩
  | .hbm, ⟨13, _⟩ => ⟨S1x2x384, .f32⟩
  | .hbm, ⟨14, _⟩ => ⟨S1x2x384, .f32⟩
  | .hbm, ⟨15, _⟩ => ⟨S_, .f32⟩
  | .hbm, ⟨16, _⟩ => ⟨S1x2x384, .f32⟩
  | .hbm, ⟨17, _⟩ => ⟨S1x2x384, .f32⟩
  | .hbm, ⟨18, _⟩ => ⟨S1x2x384, .f32⟩
  | .hbm, ⟨19, _⟩ => ⟨S_, .f32⟩
  | .hbm, ⟨20, _⟩ => ⟨S1x2x384, .f32⟩
  | .hbm, ⟨21, _⟩ => ⟨S1x2x384, .f32⟩
  | .hbm, ⟨22, _⟩ => ⟨S_, .f32⟩
  | .hbm, ⟨23, _⟩ => ⟨S1x2x384, .f32⟩
  | .hbm, ⟨24, _⟩ => ⟨S1x2x384, .f32⟩
  | .hbm, ⟨25, _⟩ => ⟨S1x2x384, .f32⟩
  | .hbm, ⟨26, _⟩ => ⟨S_, .f32⟩
  | .hbm, ⟨27, _⟩ => ⟨S1x2x384, .f32⟩
  | .hbm, ⟨28, _⟩ => ⟨S1x2x384, .f32⟩
  | .hbm, ⟨29, _⟩ => ⟨S1x2x384, .f32⟩
  | .hbm, ⟨30, _⟩ => ⟨S_, .f32⟩
  | .hbm, ⟨31, _⟩ => ⟨S1x2x384, .f32⟩
  | .hbm, ⟨32, _⟩ => ⟨S1x2x384, .f32⟩
  | .hbm, ⟨33, _⟩ => ⟨S1x2x384, .f32⟩
  | .hbm, ⟨34, _⟩ => ⟨S_, .f32⟩
  | .hbm, ⟨35, _⟩ => ⟨S1x2x384, .f32⟩
  | .hbm, ⟨36, _⟩ => ⟨S1x2x384, .f32⟩
  | _, _ => ⟨S1x2x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel19.lean ====
abbrev S2x3x48 : Shape := ⟨3, ![2, 3, 48]⟩
abbrev S1x3x48 : Shape := ⟨3, ![1, 3, 48]⟩
abbrev S3x48 : Shape := ⟨2, ![3, 48]⟩

abbrev nBuf : Space → Nat
  | .hbm => 7
  | .vmem => 14
  | .smem => 0
  | _ => 0

abbrev bufTy : (tb : Table) → Fin (tcTables nBuf tb) → BufTy
  | .hbm, ⟨0, _⟩ => ⟨S2x3x48, .f32⟩
  | .hbm, ⟨1, _⟩ => ⟨S2x3x48, .f32⟩
  | .hbm, ⟨2, _⟩ => ⟨S2x3x48, .f32⟩
  | .hbm, ⟨3, _⟩ => ⟨S2x3x48, .f32⟩
  | .hbm, ⟨4, _⟩ => ⟨S2x3x48, .f32⟩
  | .hbm, ⟨5, _⟩ => ⟨S2x3x48, .f32⟩
  | .hbm, ⟨6, _⟩ => ⟨S2x3x48, .f32⟩
  | .local _ .vmem, ⟨0, _⟩ => ⟨S1x3x48, .f32⟩
  | .local _ .vmem, ⟨1, _⟩ => ⟨S1x3x48, .f32⟩
  | .local _ .vmem, ⟨2, _⟩ => ⟨S1x3x48, .f32⟩
  | .local _ .vmem, ⟨3, _⟩ => ⟨S1x3x48, .f32⟩
  | .local _ .vmem, ⟨4, _⟩ => ⟨S1x3x48, .f32⟩
  | .local _ .vmem, ⟨5, _⟩ => ⟨S1x3x48, .f32⟩
  | .local _ .vmem, ⟨6, _⟩ => ⟨S1x3x48, .f32⟩
  | .local _ .vmem, ⟨7, _⟩ => ⟨S1x3x48, .f32⟩
  | .local _ .vmem, ⟨8, _⟩ => ⟨S1x3x48, .f32⟩
  | .local _ .vmem, ⟨9, _⟩ => ⟨S1x3x48, .f32⟩
  | .local _ .vmem, ⟨10, _⟩ => ⟨S1x3x48, .f32⟩
  | .local _ .vmem, ⟨11, _⟩ => ⟨S1x3x48, .f32⟩
  | .local _ .vmem, ⟨12, _⟩ => ⟨S1x3x48, .f32⟩
  | .local _ .vmem, ⟨13, _⟩ => ⟨S1x3x48, .f32⟩
  | _, _ => ⟨S2x3x48, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x3x48 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x48 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x3x48 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x3x48 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x3x48 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x3x48 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x3x48 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference19Ideal.lean ====
abbrev S2x3x48 : Shape := ⟨3, ![2, 3, 48]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x3x48, .f32⟩
  | .hbm, ⟨1, _⟩ => ⟨S2x3x48, .f32⟩
  | .hbm, ⟨2, _⟩ => ⟨S2x3x48, .f32⟩
  | .hbm, ⟨3, _⟩ => ⟨S2x3x48, .f32⟩
  | .hbm, ⟨4, _⟩ => ⟨S_, .f32⟩
  | .hbm, ⟨5, _⟩ => ⟨S2x3x48, .f32⟩
  | .hbm, ⟨6, _⟩ => ⟨S2x3x48, .f32⟩
  | .hbm, ⟨7, _⟩ => ⟨S_, .f32⟩
  | .hbm, ⟨8, _⟩ => ⟨S2x3x48, .f32⟩
  | .hbm, ⟨9, _⟩ => ⟨S2x3x48, .f32⟩
  | .hbm, ⟨10, _⟩ => ⟨S2x3x48, .f32⟩
  | .hbm, ⟨11, _⟩ => ⟨S_, .f32⟩
  | .hbm, ⟨12, _⟩ => ⟨S2x3x48, .f32⟩
  | .hbm, ⟨13, _⟩ => ⟨S2x3x48, .f32⟩
  | .hbm, ⟨14, _⟩ => ⟨S2x3x48, .f32⟩
  | .hbm, ⟨15, _⟩ => ⟨S_, .f32⟩
  | .hbm, ⟨16, _⟩ => ⟨S2x3x48, .f32⟩
  | .hbm, ⟨17, _⟩ => ⟨S2x3x48, .f32⟩
  | .hbm, ⟨18, _⟩ => ⟨S2x3x48, .f32⟩
  | .hbm, ⟨19, _⟩ => ⟨S_, .f32⟩
  | .hbm, ⟨20, _⟩ => ⟨S2x3x48, .f32⟩
  | .hbm, ⟨21, _⟩ => ⟨S2x3x48, .f32⟩
  | .hbm, ⟨22, _⟩ => ⟨S_, .f32⟩
  | .hbm, ⟨23, _⟩ => ⟨S2x3x48, .f32⟩
  | .hbm, ⟨24, _⟩ => ⟨S2x3x48, .f32⟩
  | .hbm, ⟨25, _⟩ => ⟨S2x3x48, .f32⟩
  | .hbm, ⟨26, _⟩ => ⟨S_, .f32⟩
  | .hbm, ⟨27, _⟩ => ⟨S2x3x48, .f32⟩
  | .hbm, ⟨28, _⟩ => ⟨S2x3x48, .f32⟩
  | .hbm, ⟨29, _⟩ => ⟨S2x3x48, .f32⟩
  | .hbm, ⟨30, _⟩ => ⟨S_, .f32⟩
  | .hbm, ⟨31, _⟩ => ⟨S2x3x48, .f32⟩
  | .hbm, ⟨32, _⟩ => ⟨S2x3x48, .f32⟩
  | .hbm, ⟨33, _⟩ => ⟨S2x3x48, .f32⟩
  | .hbm, ⟨34, _⟩ => ⟨S_, .f32⟩
  | .hbm, ⟨35, _⟩ => ⟨S2x3x48, .f32⟩
  | .hbm, ⟨36, _⟩ => ⟨S2x3x48, .f32⟩
  | _, _ => ⟨S2x3x48, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel20.lean ====
abbrev S2x3x352 : Shape := ⟨3, ![2, 3, 352]⟩
abbrev S1x3x352 : Shape := ⟨3, ![1, 3, 352]⟩
abbrev S3x352 : Shape := ⟨2, ![3, 352]⟩

abbrev nBuf : Space → Nat
  | .hbm => 7
  | .vmem => 14
  | .smem => 0
  | _ => 0

abbrev bufTy : (tb : Table) → Fin (tcTables nBuf tb) → BufTy
  | .hbm, ⟨0, _⟩ => ⟨S2x3x352, .f32⟩
  | .hbm, ⟨1, _⟩ => ⟨S2x3x352, .f32⟩
  | .hbm, ⟨2, _⟩ => ⟨S2x3x352, .f32⟩
  | .hbm, ⟨3, _⟩ => ⟨S2x3x352, .f32⟩
  | .hbm, ⟨4, _⟩ => ⟨S2x3x352, .f32⟩
  | .hbm, ⟨5, _⟩ => ⟨S2x3x352, .f32⟩
  | .hbm, ⟨6, _⟩ => ⟨S2x3x352, .f32⟩
  | .local _ .vmem, ⟨0, _⟩ => ⟨S1x3x352, .f32⟩
  | .local _ .vmem, ⟨1, _⟩ => ⟨S1x3x352, .f32⟩
  | .local _ .vmem, ⟨2, _⟩ => ⟨S1x3x352, .f32⟩
  | .local _ .vmem, ⟨3, _⟩ => ⟨S1x3x352, .f32⟩
  | .local _ .vmem, ⟨4, _⟩ => ⟨S1x3x352, .f32⟩
  | .local _ .vmem, ⟨5, _⟩ => ⟨S1x3x352, .f32⟩
  | .local _ .vmem, ⟨6, _⟩ => ⟨S1x3x352, .f32⟩
  | .local _ .vmem, ⟨7, _⟩ => ⟨S1x3x352, .f32⟩
  | .local _ .vmem, ⟨8, _⟩ => ⟨S1x3x352, .f32⟩
  | .local _ .vmem, ⟨9, _⟩ => ⟨S1x3x352, .f32⟩
  | .local _ .vmem, ⟨10, _⟩ => ⟨S1x3x352, .f32⟩
  | .local _ .vmem, ⟨11, _⟩ => ⟨S1x3x352, .f32⟩
  | .local _ .vmem, ⟨12, _⟩ => ⟨S1x3x352, .f32⟩
  | .local _ .vmem, ⟨13, _⟩ => ⟨S1x3x352, .f32⟩
  | _, _ => ⟨S2x3x352, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x3x352 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x352 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x3x352 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x3x352 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x3x352 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x3x352 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x3x352 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference20Ideal.lean ====
abbrev S2x3x352 : Shape := ⟨3, ![2, 3, 352]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x3x352, .f32⟩
  | .hbm, ⟨1, _⟩ => ⟨S2x3x352, .f32⟩
  | .hbm, ⟨2, _⟩ => ⟨S2x3x352, .f32⟩
  | .hbm, ⟨3, _⟩ => ⟨S2x3x352, .f32⟩
  | .hbm, ⟨4, _⟩ => ⟨S_, .f32⟩
  | .hbm, ⟨5, _⟩ => ⟨S2x3x352, .f32⟩
  | .hbm, ⟨6, _⟩ => ⟨S2x3x352, .f32⟩
  | .hbm, ⟨7, _⟩ => ⟨S_, .f32⟩
  | .hbm, ⟨8, _⟩ => ⟨S2x3x352, .f32⟩
  | .hbm, ⟨9, _⟩ => ⟨S2x3x352, .f32⟩
  | .hbm, ⟨10, _⟩ => ⟨S2x3x352, .f32⟩
  | .hbm, ⟨11, _⟩ => ⟨S_, .f32⟩
  | .hbm, ⟨12, _⟩ => ⟨S2x3x352, .f32⟩
  | .hbm, ⟨13, _⟩ => ⟨S2x3x352, .f32⟩
  | .hbm, ⟨14, _⟩ => ⟨S2x3x352, .f32⟩
  | .hbm, ⟨15, _⟩ => ⟨S_, .f32⟩
  | .hbm, ⟨16, _⟩ => ⟨S2x3x352, .f32⟩
  | .hbm, ⟨17, _⟩ => ⟨S2x3x352, .f32⟩
  | .hbm, ⟨18, _⟩ => ⟨S2x3x352, .f32⟩
  | .hbm, ⟨19, _⟩ => ⟨S_, .f32⟩
  | .hbm, ⟨20, _⟩ => ⟨S2x3x352, .f32⟩
  | .hbm, ⟨21, _⟩ => ⟨S2x3x352, .f32⟩
  | .hbm, ⟨22, _⟩ => ⟨S_, .f32⟩
  | .hbm, ⟨23, _⟩ => ⟨S2x3x352, .f32⟩
  | .hbm, ⟨24, _⟩ => ⟨S2x3x352, .f32⟩
  | .hbm, ⟨25, _⟩ => ⟨S2x3x352, .f32⟩
  | .hbm, ⟨26, _⟩ => ⟨S_, .f32⟩
  | .hbm, ⟨27, _⟩ => ⟨S2x3x352, .f32⟩
  | .hbm, ⟨28, _⟩ => ⟨S2x3x352, .f32⟩
  | .hbm, ⟨29, _⟩ => ⟨S2x3x352, .f32⟩
  | .hbm, ⟨30, _⟩ => ⟨S_, .f32⟩
  | .hbm, ⟨31, _⟩ => ⟨S2x3x352, .f32⟩
  | .hbm, ⟨32, _⟩ => ⟨S2x3x352, .f32⟩
  | .hbm, ⟨33, _⟩ => ⟨S2x3x352, .f32⟩
  | .hbm, ⟨34, _⟩ => ⟨S_, .f32⟩
  | .hbm, ⟨35, _⟩ => ⟨S2x3x352, .f32⟩
  | .hbm, ⟨36, _⟩ => ⟨S2x3x352, .f32⟩
  | _, _ => ⟨S2x3x352, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel21.lean ====
abbrev S8x128x1024 : Shape := ⟨3, ![8, 128, 1024]⟩
abbrev S2x128x1024 : Shape := ⟨3, ![2, 128, 1024]⟩
abbrev S1x128x1024 : Shape := ⟨3, ![1, 128, 1024]⟩
abbrev S128x1024 : Shape := ⟨2, ![128, 1024]⟩

abbrev nBuf : Space → Nat
  | .hbm => 11
  | .vmem => 22
  | .smem => 0
  | _ => 0

abbrev bufTy : (tb : Table) → Fin (tcTables nBuf tb) → BufTy
  | .hbm, ⟨0, _⟩ => ⟨S8x128x1024, .bf16⟩
  | .hbm, ⟨1, _⟩ => ⟨S8x128x1024, .bf16⟩
  | .hbm, ⟨2, _⟩ => ⟨S8x128x1024, .bf16⟩
  | .hbm, ⟨3, _⟩ => ⟨S8x128x1024, .bf16⟩
  | .hbm, ⟨4, _⟩ => ⟨S2x128x1024, .f32⟩
  | .hbm, ⟨5, _⟩ => ⟨S2x128x1024, .f32⟩
  | .hbm, ⟨6, _⟩ => ⟨S2x128x1024, .f32⟩
  | .hbm, ⟨7, _⟩ => ⟨S2x128x1024, .f32⟩
  | .hbm, ⟨8, _⟩ => ⟨S2x128x1024, .f32⟩
  | .hbm, ⟨9, _⟩ => ⟨S2x128x1024, .f32⟩
  | .hbm, ⟨10, _⟩ => ⟨S2x128x1024, .f32⟩
  | .local _ .vmem, ⟨0, _⟩ => ⟨S8x128x1024, .bf16⟩
  | .local _ .vmem, ⟨1, _⟩ => ⟨S8x128x1024, .bf16⟩
  | .local _ .vmem, ⟨2, _⟩ => ⟨S1x128x1024, .bf16⟩
  | .local _ .vmem, ⟨3, _⟩ => ⟨S1x128x1024, .bf16⟩
  | .local _ .vmem, ⟨4, _⟩ => ⟨S8x128x1024, .bf16⟩
  | .local _ .vmem, ⟨5, _⟩ => ⟨S8x128x1024, .bf16⟩
  | .local _ .vmem, ⟨6, _⟩ => ⟨S1x128x1024, .bf16⟩
  | .local _ .vmem, ⟨7, _⟩ => ⟨S1x128x1024, .bf16⟩
  | .local _ .vmem, ⟨8, _⟩ => ⟨S1x128x1024, .f32⟩
  | .local _ .vmem, ⟨9, _⟩ => ⟨S1x128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | .local _ .vmem, ⟨15, _⟩ => ⟨S1x128x1024, .f32⟩
  | .local _ .vmem, ⟨16, _⟩ => ⟨S1x128x1024, .f32⟩
  | .local _ .vmem, ⟨17, _⟩ => ⟨S1x128x1024, .f32⟩
  | .local _ .vmem, ⟨18, _⟩ => ⟨S1x128x1024, .f32⟩
  | .local _ .vmem, ⟨19, _⟩ => ⟨S1x128x1024, .f32⟩
  | .local _ .vmem, ⟨20, _⟩ => ⟨S1x128x1024, .f32⟩
  | .local _ .vmem, ⟨21, _⟩ => ⟨S1x128x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![2, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c0_i32_2 : BitVec 32 := 0#32
  let v2 : BitVec 32 := Scalar.select v1 c0_i32_1 c0_i32_2
  let v3 : BitVec 32 := Scalar.select v0 arg1 v2
  let c0_i32_3 : BitVec 32 := 0#32
  let c0_i32_4 : BitVec 32 := 0#32
  let c0_i32_5 : BitVec 32 := 0#32
  ![c0_i32_3.toNat, v3.toNat, c0_i32_4.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c0_i32_2 : BitVec 32 := 0#32
  let v2 : BitVec 32 := Scalar.select v1 c0_i32_1 c0_i32_2
  let v3 : BitVec 32 := Scalar.select v0 arg1 v2
  let c0_i32_3 : BitVec 32 := 0#32
  let c0_i32_4 : BitVec 32 := 0#32
  let c0_i32_5 : BitVec 32 := 0#32
  ![c0_i32_3.toNat, v3.toNat, c0_i32_4.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c0_i32_1 : BitVec 32 := 0#32
  let v2 : BitVec 32 := Scalar.select v1 c0_i32 c0_i32_1
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c0_i32_1 : BitVec 32 := 0#32
  let v2 : BitVec 32 := Scalar.select v1 c0_i32 c0_i32_1
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x128x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x128x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference21Ideal.lean ====
abbrev S8x128x1024 : Shape := ⟨3, ![8, 128, 1024]⟩
abbrev S2x128x1024 : Shape := ⟨3, ![2, 128, 1024]⟩
abbrev S1x128x1024 : Shape := ⟨3, ![1, 128, 1024]⟩
abbrev S7x128x1024 : Shape := ⟨3, ![7, 128, 1024]⟩
abbrev S_ : Shape := ⟨0, ![]⟩
abbrev S128x1024 : Shape := ⟨2, ![128, 1024]⟩

abbrev nBuf : Space → Nat
  | .hbm => 55
  | .vmem => 0
  | .smem => 0
  | _ => 0

abbrev bufTy : (tb : Table) → Fin (tcTables nBuf tb) → BufTy
  | .hbm, ⟨0, _⟩ => ⟨S8x128x1024, .bf16⟩
  | .hbm, ⟨1, _⟩ => ⟨S8x128x1024, .bf16⟩
  | .hbm, ⟨2, _⟩ => ⟨S8x128x1024, .bf16⟩
  | .hbm, ⟨3, _⟩ => ⟨S8x128x1024, .bf16⟩
  | .hbm, ⟨4, _⟩ => ⟨S2x128x1024, .f32⟩
  | .hbm, ⟨5, _⟩ => ⟨S2x128x1024, .f32⟩
  | .hbm, ⟨6, _⟩ => ⟨S2x128x1024, .f32⟩
  | .hbm, ⟨7, _⟩ => ⟨S1x128x1024, .bf16⟩
  | .hbm, ⟨8, _⟩ => ⟨S7x128x1024, .bf16⟩
  | .hbm, ⟨9, _⟩ => ⟨S8x128x1024, .bf16⟩
  | .hbm, ⟨10, _⟩ => ⟨S8x128x1024, .f32⟩
  | .hbm, ⟨11, _⟩ => ⟨S_, .f32⟩
  | .hbm, ⟨12, _⟩ => ⟨S128x1024, .f32⟩
  | .hbm, ⟨13, _⟩ => ⟨S1x128x1024, .bf16⟩
  | .hbm, ⟨14, _⟩ => ⟨S7x128x1024, .bf16⟩
  | .hbm, ⟨15, _⟩ => ⟨S8x128x1024, .bf16⟩
  | .hbm, ⟨16, _⟩ => ⟨S8x128x1024, .f32⟩
  | .hbm, ⟨17, _⟩ => ⟨S_, .f32⟩
  | .hbm, ⟨18, _⟩ => ⟨S128x1024, .f32⟩
  | .hbm, ⟨19, _⟩ => ⟨S1x128x1024, .f32⟩
  | .hbm, ⟨20, _⟩ => ⟨S1x128x1024, .f32⟩
  | .hbm, ⟨21, _⟩ => ⟨S2x128x1024, .f32⟩
  | .hbm, ⟨22, _⟩ => ⟨S_, .f32⟩
  | .hbm, ⟨23, _⟩ => ⟨S2x128x1024, .f32⟩
  | .hbm, ⟨24, _⟩ => ⟨S2x128x1024, .f32⟩
  | .hbm, ⟨25, _⟩ => ⟨S_, .f32⟩
  | .hbm, ⟨26, _⟩ => ⟨S2x128x1024, .f32⟩
  | .hbm, ⟨27, _⟩ => ⟨S2x128x1024, .f32⟩
  | .hbm, ⟨28, _⟩ => ⟨S2x128x1024, .f32⟩
  | .hbm, ⟨29, _⟩ => ⟨S_, .f32⟩
  | .hbm, ⟨30, _⟩ => ⟨S2x128x1024, .f32⟩
  | .hbm, ⟨31, _⟩ => ⟨S2x128x1024, .f32⟩
  | .hbm, ⟨32, _⟩ => ⟨S2x128x1024, .f32⟩
  | .hbm, ⟨33, _⟩ => ⟨S_, .f32⟩
  | .hbm, ⟨34, _⟩ => ⟨S2x128x1024, .f32⟩
  | .hbm, ⟨35, _⟩ => ⟨S2x128x1024, .f32⟩
  | .hbm, ⟨36, _⟩ => ⟨S2x128x1024, .f32⟩
  | .hbm, ⟨37, _⟩ => ⟨S_, .f32⟩
  | .hbm, ⟨38, _⟩ => ⟨S2x128x1024, .f32⟩
  | .hbm, ⟨39, _⟩ => ⟨S2x128x1024, .f32⟩
  | .hbm, ⟨40, _⟩ => ⟨S_, .f32⟩
  | .hbm, ⟨41, _⟩ => ⟨S2x128x1024, .f32⟩
  | .hbm, ⟨42, _⟩ => ⟨S2x128x1024, .f32⟩
  | .hbm, ⟨43, _⟩ => ⟨S2x128x1024, .f32⟩
  | .hbm, ⟨44, _⟩ => ⟨S_, .f32⟩
  | .hbm, ⟨45, _⟩ => ⟨S2x128x1024, .f32⟩
  | .hbm, ⟨46, _⟩ => ⟨S2x128x1024, .f32⟩
  | .hbm, ⟨47, _⟩ => ⟨S2x128x1024, .f32⟩
  | .hbm, ⟨48, _⟩ => ⟨S_, .f32⟩
  | .hbm, ⟨49, _⟩ => ⟨S2x128x1024, .f32⟩
  | .hbm, ⟨50, _⟩ => ⟨S2x128x1024, .f32⟩
  | .hbm, ⟨51, _⟩ => ⟨S2x128x1024, .f32⟩
  | .hbm, ⟨52, _⟩ => ⟨S_, .f32⟩
  | .hbm, ⟨53, _⟩ => ⟨S2x128x1024, .f32⟩
  | .hbm, ⟨54, _⟩ => ⟨S2x128x1024, .f32⟩
  | _, _ => ⟨S8x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_5 : Ref sig .tc := ⟨.hbm, 37, rfl⟩
abbrev main_v24 : Ref sig .tc := ⟨.hbm, 38, rfl⟩
abbrev main_v25 : Ref sig .tc := ⟨.hbm, 39, rfl⟩
abbrev main_cst_6 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_7 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_8 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_9 : Ref sig .tc := ⟨.hbm, 52, rfl⟩
abbrev main_v35 : Ref sig .tc := ⟨.hbm, 53, rfl⟩
abbrev main_v36 : Ref sig .tc := ⟨.hbm, 54, rfl⟩

abbrev nD : Nat := 1
abbrev τ : Topo := Topo.v7x

variable {F : FTy → Type} [FloatOps F]
-- ==== Kernel22.lean ====
abbrev S8x128x512 : Shape := ⟨3, ![8, 128, 512]⟩
abbrev S2x128x512 : Shape := ⟨3, ![2, 128, 512]⟩
abbrev S1x128x512 : Shape := ⟨3, ![1, 128, 512]⟩
abbrev S128x512 : Shape := ⟨2, ![128, 512]⟩

abbrev nBuf : Space → Nat
  | .hbm => 11
  | .vmem => 22
  | .smem => 0
  | _ => 0

abbrev bufTy : (tb : Table) → Fin (tcTables nBuf tb) → BufTy
  | .hbm, ⟨0, _⟩ => ⟨S8x128x512, .bf16⟩
  | .hbm, ⟨1, _⟩ => ⟨S8x128x512, .bf16⟩
  | .hbm, ⟨2, _⟩ => ⟨S8x128x512, .bf16⟩
  | .hbm, ⟨3, _⟩ => ⟨S8x128x512, .bf16⟩
  | .hbm, ⟨4, _⟩ => ⟨S2x128x512, .f32⟩
  | .hbm, ⟨5, _⟩ => ⟨S2x128x512, .f32⟩
  | .hbm, ⟨6, _⟩ => ⟨S2x128x512, .f32⟩
  | .hbm, ⟨7, _⟩ => ⟨S2x128x512, .f32⟩
  | .hbm, ⟨8, _⟩ => ⟨S2x128x512, .f32⟩
  | .hbm, ⟨9, _⟩ => ⟨S2x128x512, .f32⟩
  | .hbm, ⟨10, _⟩ => ⟨S2x128x512, .f32⟩
  | .local _ .vmem, ⟨0, _⟩ => ⟨S8x128x512, .bf16⟩
  | .local _ .vmem, ⟨1, _⟩ => ⟨S8x128x512, .bf16⟩
  | .local _ .vmem, ⟨2, _⟩ => ⟨S1x128x512, .bf16⟩
  | .local _ .vmem, ⟨3, _⟩ => ⟨S1x128x512, .bf16⟩
  | .local _ .vmem, ⟨4, _⟩ => ⟨S8x128x512, .bf16⟩
  | .local _ .vmem, ⟨5, _⟩ => ⟨S8x128x512, .bf16⟩
  | .local _ .vmem, ⟨6, _⟩ => ⟨S1x128x512, .bf16⟩
  | .local _ .vmem, ⟨7, _⟩ => ⟨S1x128x512, .bf16⟩
  | .local _ .vmem, ⟨8, _⟩ => ⟨S1x128x512, .f32⟩
  | .local _ .vmem, ⟨9, _⟩ => ⟨S1x128x512, .f32⟩
  | .local _ .vmem, ⟨10, _⟩ => ⟨S1x128x512, .f32⟩
  | .local _ .vmem, ⟨11, _⟩ => ⟨S1x128x512, .f32⟩
  | .local _ .vmem, ⟨12, _⟩ => ⟨S1x128x512, .f32⟩
  | .local _ .vmem, ⟨13, _⟩ => ⟨S1x128x512, .f32⟩
  | .local _ .vmem, ⟨14, _⟩ => ⟨S1x128x512, .f32⟩
  | .local _ .vmem, ⟨15, _⟩ => ⟨S1x128x512, .f32⟩
  | .local _ .vmem, ⟨16, _⟩ => ⟨S1x128x512, .f32⟩
  | .local _ .vmem, ⟨17, _⟩ => ⟨S1x128x512, .f32⟩
  | .local _ .vmem, ⟨18, _⟩ => ⟨S1x128x512, .f32⟩
  | .local _ .vmem, ⟨19, _⟩ => ⟨S1x128x512, .f32⟩
  | .local _ .vmem, ⟨20, _⟩ => ⟨S1x128x512, .f32⟩
  | .local _ .vmem, ⟨21, _⟩ => ⟨S1x128x512, .f32⟩
  | _, _ => ⟨S8x128x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![2, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c0_i32_2 : BitVec 32 := 0#32
  let v2 : BitVec 32 := Scalar.select v1 c0_i32_1 c0_i32_2
  let v3 : BitVec 32 := Scalar.select v0 arg1 v2
  let c0_i32_3 : BitVec 32 := 0#32
  let c0_i32_4 : BitVec 32 := 0#32
  let c0_i32_5 : BitVec 32 := 0#32
  ![c0_i32_3.toNat, v3.toNat, c0_i32_4.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c0_i32_2 : BitVec 32 := 0#32
  let v2 : BitVec 32 := Scalar.select v1 c0_i32_1 c0_i32_2
  let v3 : BitVec 32 := Scalar.select v0 arg1 v2
  let c0_i32_3 : BitVec 32 := 0#32
  let c0_i32_4 : BitVec 32 := 0#32
  let c0_i32_5 : BitVec 32 := 0#32
  ![c0_i32_3.toNat, v3.toNat, c0_i32_4.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c0_i32_1 : BitVec 32 := 0#32
  let v2 : BitVec 32 := Scalar.select v1 c0_i32 c0_i32_1
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c0_i32_1 : BitVec 32 := 0#32
  let v2 : BitVec 32 := Scalar.select v1 c0_i32 c0_i32_1
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x128x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x128x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference22Ideal.lean ====
abbrev S8x128x512 : Shape := ⟨3, ![8, 128, 512]⟩
abbrev S2x128x512 : Shape := ⟨3, ![2, 128, 512]⟩
abbrev S1x128x512 : Shape := ⟨3, ![1, 128, 512]⟩
abbrev S7x128x512 : Shape := ⟨3, ![7, 128, 512]⟩
abbrev S_ : Shape := ⟨0, ![]⟩
abbrev S128x512 : Shape := ⟨2, ![128, 512]⟩

abbrev nBuf : Space → Nat
  | .hbm => 55
  | .vmem => 0
  | .smem => 0
  | _ => 0

abbrev bufTy : (tb : Table) → Fin (tcTables nBuf tb) → BufTy
  | .hbm, ⟨0, _⟩ => ⟨S8x128x512, .bf16⟩
  | .hbm, ⟨1, _⟩ => ⟨S8x128x512, .bf16⟩
  | .hbm, ⟨2, _⟩ => ⟨S8x128x512, .bf16⟩
  | .hbm, ⟨3, _⟩ => ⟨S8x128x512, .bf16⟩
  | .hbm, ⟨4, _⟩ => ⟨S2x128x512, .f32⟩
  | .hbm, ⟨5, _⟩ => ⟨S2x128x512, .f32⟩
  | .hbm, ⟨6, _⟩ => ⟨S2x128x512, .f32⟩
  | .hbm, ⟨7, _⟩ => ⟨S1x128x512, .bf16⟩
  | .hbm, ⟨8, _⟩ => ⟨S7x128x512, .bf16⟩
  | .hbm, ⟨9, _⟩ => ⟨S8x128x512, .bf16⟩
  | .hbm, ⟨10, _⟩ => ⟨S8x128x512, .f32⟩
  | .hbm, ⟨11, _⟩ => ⟨S_, .f32⟩
  | .hbm, ⟨12, _⟩ => ⟨S128x512, .f32⟩
  | .hbm, ⟨13, _⟩ => ⟨S1x128x512, .bf16⟩
  | .hbm, ⟨14, _⟩ => ⟨S7x128x512, .bf16⟩
  | .hbm, ⟨15, _⟩ => ⟨S8x128x512, .bf16⟩
  | .hbm, ⟨16, _⟩ => ⟨S8x128x512, .f32⟩
  | .hbm, ⟨17, _⟩ => ⟨S_, .f32⟩
  | .hbm, ⟨18, _⟩ => ⟨S128x512, .f32⟩
  | .hbm, ⟨19, _⟩ => ⟨S1x128x512, .f32⟩
  | .hbm, ⟨20, _⟩ => ⟨S1x128x512, .f32⟩
  | .hbm, ⟨21, _⟩ => ⟨S2x128x512, .f32⟩
  | .hbm, ⟨22, _⟩ => ⟨S_, .f32⟩
  | .hbm, ⟨23, _⟩ => ⟨S2x128x512, .f32⟩
  | .hbm, ⟨24, _⟩ => ⟨S2x128x512, .f32⟩
  | .hbm, ⟨25, _⟩ => ⟨S_, .f32⟩
  | .hbm, ⟨26, _⟩ => ⟨S2x128x512, .f32⟩
  | .hbm, ⟨27, _⟩ => ⟨S2x128x512, .f32⟩
  | .hbm, ⟨28, _⟩ => ⟨S2x128x512, .f32⟩
  | .hbm, ⟨29, _⟩ => ⟨S_, .f32⟩
  | .hbm, ⟨30, _⟩ => ⟨S2x128x512, .f32⟩
  | .hbm, ⟨31, _⟩ => ⟨S2x128x512, .f32⟩
  | .hbm, ⟨32, _⟩ => ⟨S2x128x512, .f32⟩
  | .hbm, ⟨33, _⟩ => ⟨S_, .f32⟩
  | .hbm, ⟨34, _⟩ => ⟨S2x128x512, .f32⟩
  | .hbm, ⟨35, _⟩ => ⟨S2x128x512, .f32⟩
  | .hbm, ⟨36, _⟩ => ⟨S2x128x512, .f32⟩
  | .hbm, ⟨37, _⟩ => ⟨S_, .f32⟩
  | .hbm, ⟨38, _⟩ => ⟨S2x128x512, .f32⟩
  | .hbm, ⟨39, _⟩ => ⟨S2x128x512, .f32⟩
  | .hbm, ⟨40, _⟩ => ⟨S_, .f32⟩
  | .hbm, ⟨41, _⟩ => ⟨S2x128x512, .f32⟩
  | .hbm, ⟨42, _⟩ => ⟨S2x128x512, .f32⟩
  | .hbm, ⟨43, _⟩ => ⟨S2x128x512, .f32⟩
  | .hbm, ⟨44, _⟩ => ⟨S_, .f32⟩
  | .hbm, ⟨45, _⟩ => ⟨S2x128x512, .f32⟩
  | .hbm, ⟨46, _⟩ => ⟨S2x128x512, .f32⟩
  | .hbm, ⟨47, _⟩ => ⟨S2x128x512, .f32⟩
  | .hbm, ⟨48, _⟩ => ⟨S_, .f32⟩
  | .hbm, ⟨49, _⟩ => ⟨S2x128x512, .f32⟩
  | .hbm, ⟨50, _⟩ => ⟨S2x128x512, .f32⟩
  | .hbm, ⟨51, _⟩ => ⟨S2x128x512, .f32⟩
  | .hbm, ⟨52, _⟩ => ⟨S_, .f32⟩
  | .hbm, ⟨53, _⟩ => ⟨S2x128x512, .f32⟩
  | .hbm, ⟨54, _⟩ => ⟨S2x128x512, .f32⟩
  | _, _ => ⟨S8x128x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_5 : Ref sig .tc := ⟨.hbm, 37, rfl⟩
abbrev main_v24 : Ref sig .tc := ⟨.hbm, 38, rfl⟩
abbrev main_v25 : Ref sig .tc := ⟨.hbm, 39, rfl⟩
abbrev main_cst_6 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_7 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_8 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_9 : Ref sig .tc := ⟨.hbm, 52, rfl⟩
abbrev main_v35 : Ref sig .tc := ⟨.hbm, 53, rfl⟩
abbrev main_v36 : Ref sig .tc := ⟨.hbm, 54, rfl⟩

abbrev nD : Nat := 1
abbrev τ : Topo := Topo.v7x

variable {F : FTy → Type} [FloatOps F]
-- ==== Kernel23.lean ====
abbrev S8x352x1024 : Shape := ⟨3, ![8, 352, 1024]⟩
abbrev S2x352x1024 : Shape := ⟨3, ![2, 352, 1024]⟩
abbrev S8x176x1024 : Shape := ⟨3, ![8, 176, 1024]⟩
abbrev S1x176x1024 : Shape := ⟨3, ![1, 176, 1024]⟩
abbrev S176x1024 : Shape := ⟨2, ![176, 1024]⟩

abbrev nBuf : Space → Nat
  | .hbm => 11
  | .vmem => 22
  | .smem => 0
  | _ => 0

abbrev bufTy : (tb : Table) → Fin (tcTables nBuf tb) → BufTy
  | .hbm, ⟨0, _⟩ => ⟨S8x352x1024, .bf16⟩
  | .hbm, ⟨1, _⟩ => ⟨S8x352x1024, .bf16⟩
  | .hbm, ⟨2, _⟩ => ⟨S8x352x1024, .bf16⟩
  | .hbm, ⟨3, _⟩ => ⟨S8x352x1024, .bf16⟩
  | .hbm, ⟨4, _⟩ => ⟨S2x352x1024, .f32⟩
  | .hbm, ⟨5, _⟩ => ⟨S2x352x1024, .f32⟩
  | .hbm, ⟨6, _⟩ => ⟨S2x352x1024, .f32⟩
  | .hbm, ⟨7, _⟩ => ⟨S2x352x1024, .f32⟩
  | .hbm, ⟨8, _⟩ => ⟨S2x352x1024, .f32⟩
  | .hbm, ⟨9, _⟩ => ⟨S2x352x1024, .f32⟩
  | .hbm, ⟨10, _⟩ => ⟨S2x352x1024, .f32⟩
  | .local _ .vmem, ⟨0, _⟩ => ⟨S8x176x1024, .bf16⟩
  | .local _ .vmem, ⟨1, _⟩ => ⟨S8x176x1024, .bf16⟩
  | .local _ .vmem, ⟨2, _⟩ => ⟨S1x176x1024, .bf16⟩
  | .local _ .vmem, ⟨3, _⟩ => ⟨S1x176x1024, .bf16⟩
  | .local _ .vmem, ⟨4, _⟩ => ⟨S8x176x1024, .bf16⟩
  | .local _ .vmem, ⟨5, _⟩ => ⟨S8x176x1024, .bf16⟩
  | .local _ .vmem, ⟨6, _⟩ => ⟨S1x176x1024, .bf16⟩
  | .local _ .vmem, ⟨7, _⟩ => ⟨S1x176x1024, .bf16⟩
  | .local _ .vmem, ⟨8, _⟩ => ⟨S1x176x1024, .f32⟩
  | .local _ .vmem, ⟨9, _⟩ => ⟨S1x176x1024, .f32⟩
  | .local _ .vmem, ⟨10, _⟩ => ⟨S1x176x1024, .f32⟩
  | .local _ .vmem, ⟨11, _⟩ => ⟨S1x176x1024, .f32⟩
  | .local _ .vmem, ⟨12, _⟩ => ⟨S1x176x1024, .f32⟩
  | .local _ .vmem, ⟨13, _⟩ => ⟨S1x176x1024, .f32⟩
  | .local _ .vmem, ⟨14, _⟩ => ⟨S1x176x1024, .f32⟩
  | .local _ .vmem, ⟨15, _⟩ => ⟨S1x176x1024, .f32⟩
  | .local _ .vmem, ⟨16, _⟩ => ⟨S1x176x1024, .f32⟩
  | .local _ .vmem, ⟨17, _⟩ => ⟨S1x176x1024, .f32⟩
  | .local _ .vmem, ⟨18, _⟩ => ⟨S1x176x1024, .f32⟩
  | .local _ .vmem, ⟨19, _⟩ => ⟨S1x176x1024, .f32⟩
  | .local _ .vmem, ⟨20, _⟩ => ⟨S1x176x1024, .f32⟩
  | .local _ .vmem, ⟨21, _⟩ => ⟨S1x176x1024, .f32⟩
  | _, _ => ⟨S8x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![2, 2], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c1_i32 : BitVec 32 := 1#32
  let v2 : BitVec 32 := Scalar.select v1 c0_i32_1 c1_i32
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c1_i32 : BitVec 32 := 1#32
  let v2 : BitVec 32 := Scalar.select v1 c0_i32_1 c1_i32
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c1_i32_1 : BitVec 32 := 1#32
  let v2 : BitVec 32 := Scalar.select v1 c0_i32 c1_i32_1
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c1_i32_1 : BitVec 32 := 1#32
  let v2 : BitVec 32 := Scalar.select v1 c0_i32 c1_i32_1
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x176x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x176x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x176x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x176x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference23Ideal.lean ====
abbrev S8x352x1024 : Shape := ⟨3, ![8, 352, 1024]⟩
abbrev S2x352x1024 : Shape := ⟨3, ![2, 352, 1024]⟩
abbrev S1x352x1024 : Shape := ⟨3, ![1, 352, 1024]⟩
abbrev S7x352x1024 : Shape := ⟨3, ![7, 352, 1024]⟩
abbrev S_ : Shape := ⟨0, ![]⟩
abbrev S352x1024 : Shape := ⟨2, ![352, 1024]⟩

abbrev nBuf : Space → Nat
  | .hbm => 55
  | .vmem => 0
  | .smem => 0
  | _ => 0

abbrev bufTy : (tb : Table) → Fin (tcTables nBuf tb) → BufTy
  | .hbm, ⟨0, _⟩ => ⟨S8x352x1024, .bf16⟩
  | .hbm, ⟨1, _⟩ => ⟨S8x352x1024, .bf16⟩
  | .hbm, ⟨2, _⟩ => ⟨S8x352x1024, .bf16⟩
  | .hbm, ⟨3, _⟩ => ⟨S8x352x1024, .bf16⟩
  | .hbm, ⟨4, _⟩ => ⟨S2x352x1024, .f32⟩
  | .hbm, ⟨5, _⟩ => ⟨S2x352x1024, .f32⟩
  | .hbm, ⟨6, _⟩ => ⟨S2x352x1024, .f32⟩
  | .hbm, ⟨7, _⟩ => ⟨S1x352x1024, .bf16⟩
  | .hbm, ⟨8, _⟩ => ⟨S7x352x1024, .bf16⟩
  | .hbm, ⟨9, _⟩ => ⟨S8x352x1024, .bf16⟩
  | .hbm, ⟨10, _⟩ => ⟨S8x352x1024, .f32⟩
  | .hbm, ⟨11, _⟩ => ⟨S_, .f32⟩
  | .hbm, ⟨12, _⟩ => ⟨S352x1024, .f32⟩
  | .hbm, ⟨13, _⟩ => ⟨S1x352x1024, .bf16⟩
  | .hbm, ⟨14, _⟩ => ⟨S7x352x1024, .bf16⟩
  | .hbm, ⟨15, _⟩ => ⟨S8x352x1024, .bf16⟩
  | .hbm, ⟨16, _⟩ => ⟨S8x352x1024, .f32⟩
  | .hbm, ⟨17, _⟩ => ⟨S_, .f32⟩
  | .hbm, ⟨18, _⟩ => ⟨S352x1024, .f32⟩
  | .hbm, ⟨19, _⟩ => ⟨S1x352x1024, .f32⟩
  | .hbm, ⟨20, _⟩ => ⟨S1x352x1024, .f32⟩
  | .hbm, ⟨21, _⟩ => ⟨S2x352x1024, .f32⟩
  | .hbm, ⟨22, _⟩ => ⟨S_, .f32⟩
  | .hbm, ⟨23, _⟩ => ⟨S2x352x1024, .f32⟩
  | .hbm, ⟨24, _⟩ => ⟨S2x352x1024, .f32⟩
  | .hbm, ⟨25, _⟩ => ⟨S_, .f32⟩
  | .hbm, ⟨26, _⟩ => ⟨S2x352x1024, .f32⟩
  | .hbm, ⟨27, _⟩ => ⟨S2x352x1024, .f32⟩
  | .hbm, ⟨28, _⟩ => ⟨S2x352x1024, .f32⟩
  | .hbm, ⟨29, _⟩ => ⟨S_, .f32⟩
  | .hbm, ⟨30, _⟩ => ⟨S2x352x1024, .f32⟩
  | .hbm, ⟨31, _⟩ => ⟨S2x352x1024, .f32⟩
  | .hbm, ⟨32, _⟩ => ⟨S2x352x1024, .f32⟩
  | .hbm, ⟨33, _⟩ => ⟨S_, .f32⟩
  | .hbm, ⟨34, _⟩ => ⟨S2x352x1024, .f32⟩
  | .hbm, ⟨35, _⟩ => ⟨S2x352x1024, .f32⟩
  | .hbm, ⟨36, _⟩ => ⟨S2x352x1024, .f32⟩
  | .hbm, ⟨37, _⟩ => ⟨S_, .f32⟩
  | .hbm, ⟨38, _⟩ => ⟨S2x352x1024, .f32⟩
  | .hbm, ⟨39, _⟩ => ⟨S2x352x1024, .f32⟩
  | .hbm, ⟨40, _⟩ => ⟨S_, .f32⟩
  | .hbm, ⟨41, _⟩ => ⟨S2x352x1024, .f32⟩
  | .hbm, ⟨42, _⟩ => ⟨S2x352x1024, .f32⟩
  | .hbm, ⟨43, _⟩ => ⟨S2x352x1024, .f32⟩
  | .hbm, ⟨44, _⟩ => ⟨S_, .f32⟩
  | .hbm, ⟨45, _⟩ => ⟨S2x352x1024, .f32⟩
  | .hbm, ⟨46, _⟩ => ⟨S2x352x1024, .f32⟩
  | .hbm, ⟨47, _⟩ => ⟨S2x352x1024, .f32⟩
  | .hbm, ⟨48, _⟩ => ⟨S_, .f32⟩
  | .hbm, ⟨49, _⟩ => ⟨S2x352x1024, .f32⟩
  | .hbm, ⟨50, _⟩ => ⟨S2x352x1024, .f32⟩
  | .hbm, ⟨51, _⟩ => ⟨S2x352x1024, .f32⟩
  | .hbm, ⟨52, _⟩ => ⟨S_, .f32⟩
  | .hbm, ⟨53, _⟩ => ⟨S2x352x1024, .f32⟩
  | .hbm, ⟨54, _⟩ => ⟨S2x352x1024, .f32⟩
  | _, _ => ⟨S8x352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_5 : Ref sig .tc := ⟨.hbm, 37, rfl⟩
abbrev main_v24 : Ref sig .tc := ⟨.hbm, 38, rfl⟩
abbrev main_v25 : Ref sig .tc := ⟨.hbm, 39, rfl⟩
abbrev main_cst_6 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_7 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_8 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_9 : Ref sig .tc := ⟨.hbm, 52, rfl⟩
abbrev main_v35 : Ref sig .tc := ⟨.hbm, 53, rfl⟩
abbrev main_v36 : Ref sig .tc := ⟨.hbm, 54, rfl⟩

abbrev nD : Nat := 1
abbrev τ : Topo := Topo.v7x

variable {F : FTy → Type} [FloatOps F]
-- ==== Kernel24.lean ====
abbrev S8x704x1024 : Shape := ⟨3, ![8, 704, 1024]⟩
abbrev S2x704x1024 : Shape := ⟨3, ![2, 704, 1024]⟩
abbrev S8x176x1024 : Shape := ⟨3, ![8, 176, 1024]⟩
abbrev S1x176x1024 : Shape := ⟨3, ![1, 176, 1024]⟩
abbrev S176x1024 : Shape := ⟨2, ![176, 1024]⟩

abbrev nBuf : Space → Nat
  | .hbm => 11
  | .vmem => 22
  | .smem => 0
  | _ => 0

abbrev bufTy : (tb : Table) → Fin (tcTables nBuf tb) → BufTy
  | .hbm, ⟨0, _⟩ => ⟨S8x704x1024, .bf16⟩
  | .hbm, ⟨1, _⟩ => ⟨S8x704x1024, .bf16⟩
  | .hbm, ⟨2, _⟩ => ⟨S8x704x1024, .bf16⟩
  | .hbm, ⟨3, _⟩ => ⟨S8x704x1024, .bf16⟩
  | .hbm, ⟨4, _⟩ => ⟨S2x704x1024, .f32⟩
  | .hbm, ⟨5, _⟩ => ⟨S2x704x1024, .f32⟩
  | .hbm, ⟨6, _⟩ => ⟨S2x704x1024, .f32⟩
  | .hbm, ⟨7, _⟩ => ⟨S2x704x1024, .f32⟩
  | .hbm, ⟨8, _⟩ => ⟨S2x704x1024, .f32⟩
  | .hbm, ⟨9, _⟩ => ⟨S2x704x1024, .f32⟩
  | .hbm, ⟨10, _⟩ => ⟨S2x704x1024, .f32⟩
  | .local _ .vmem, ⟨0, _⟩ => ⟨S8x176x1024, .bf16⟩
  | .local _ .vmem, ⟨1, _⟩ => ⟨S8x176x1024, .bf16⟩
  | .local _ .vmem, ⟨2, _⟩ => ⟨S1x176x1024, .bf16⟩
  | .local _ .vmem, ⟨3, _⟩ => ⟨S1x176x1024, .bf16⟩
  | .local _ .vmem, ⟨4, _⟩ => ⟨S8x176x1024, .bf16⟩
  | .local _ .vmem, ⟨5, _⟩ => ⟨S8x176x1024, .bf16⟩
  | .local _ .vmem, ⟨6, _⟩ => ⟨S1x176x1024, .bf16⟩
  | .local _ .vmem, ⟨7, _⟩ => ⟨S1x176x1024, .bf16⟩
  | .local _ .vmem, ⟨8, _⟩ => ⟨S1x176x1024, .f32⟩
  | .local _ .vmem, ⟨9, _⟩ => ⟨S1x176x1024, .f32⟩
  | .local _ .vmem, ⟨10, _⟩ => ⟨S1x176x1024, .f32⟩
  | .local _ .vmem, ⟨11, _⟩ => ⟨S1x176x1024, .f32⟩
  | .local _ .vmem, ⟨12, _⟩ => ⟨S1x176x1024, .f32⟩
  | .local _ .vmem, ⟨13, _⟩ => ⟨S1x176x1024, .f32⟩
  | .local _ .vmem, ⟨14, _⟩ => ⟨S1x176x1024, .f32⟩
  | .local _ .vmem, ⟨15, _⟩ => ⟨S1x176x1024, .f32⟩
  | .local _ .vmem, ⟨16, _⟩ => ⟨S1x176x1024, .f32⟩
  | .local _ .vmem, ⟨17, _⟩ => ⟨S1x176x1024, .f32⟩
  | .local _ .vmem, ⟨18, _⟩ => ⟨S1x176x1024, .f32⟩
  | .local _ .vmem, ⟨19, _⟩ => ⟨S1x176x1024, .f32⟩
  | .local _ .vmem, ⟨20, _⟩ => ⟨S1x176x1024, .f32⟩
  | .local _ .vmem, ⟨21, _⟩ => ⟨S1x176x1024, .f32⟩
  | _, _ => ⟨S8x704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c3_i32 : BitVec 32 := 3#32
  let v2 : BitVec 32 := Scalar.select v1 c0_i32_1 c3_i32
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c3_i32 : BitVec 32 := 3#32
  let v2 : BitVec 32 := Scalar.select v1 c0_i32_1 c3_i32
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c3_i32 : BitVec 32 := 3#32
  let v2 : BitVec 32 := Scalar.select v1 c0_i32 c3_i32
  let v3 : BitVec 32 := Scalar.select v0 arg1 v2
  let c0_i32_1 : BitVec 32 := 0#32
  let c0_i32_2 : BitVec 32 := 0#32
  let c0_i32_3 : BitVec 32 := 0#32
  ![c0_i32_1.toNat, v3.toNat, c0_i32_2.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c3_i32 : BitVec 32 := 3#32
  let v2 : BitVec 32 := Scalar.select v1 c0_i32 c3_i32
  let v3 : BitVec 32 := Scalar.select v0 arg1 v2
  let c0_i32_1 : BitVec 32 := 0#32
  let c0_i32_2 : BitVec 32 := 0#32
  let c0_i32_3 : BitVec 32 := 0#32
  ![c0_i32_1.toNat, v3.toNat, c0_i32_2.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x176x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x176x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x176x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x176x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference24Ideal.lean ====
abbrev S8x704x1024 : Shape := ⟨3, ![8, 704, 1024]⟩
abbrev S2x704x1024 : Shape := ⟨3, ![2, 704, 1024]⟩
abbrev S1x704x1024 : Shape := ⟨3, ![1, 704, 1024]⟩
abbrev S7x704x1024 : Shape := ⟨3, ![7, 704, 1024]⟩
abbrev S_ : Shape := ⟨0, ![]⟩
abbrev S704x1024 : Shape := ⟨2, ![704, 1024]⟩

abbrev nBuf : Space → Nat
  | .hbm => 55
  | .vmem => 0
  | .smem => 0
  | _ => 0

abbrev bufTy : (tb : Table) → Fin (tcTables nBuf tb) → BufTy
  | .hbm, ⟨0, _⟩ => ⟨S8x704x1024, .bf16⟩
  | .hbm, ⟨1, _⟩ => ⟨S8x704x1024, .bf16⟩
  | .hbm, ⟨2, _⟩ => ⟨S8x704x1024, .bf16⟩
  | .hbm, ⟨3, _⟩ => ⟨S8x704x1024, .bf16⟩
  | .hbm, ⟨4, _⟩ => ⟨S2x704x1024, .f32⟩
  | .hbm, ⟨5, _⟩ => ⟨S2x704x1024, .f32⟩
  | .hbm, ⟨6, _⟩ => ⟨S2x704x1024, .f32⟩
  | .hbm, ⟨7, _⟩ => ⟨S1x704x1024, .bf16⟩
  | .hbm, ⟨8, _⟩ => ⟨S7x704x1024, .bf16⟩
  | .hbm, ⟨9, _⟩ => ⟨S8x704x1024, .bf16⟩
  | .hbm, ⟨10, _⟩ => ⟨S8x704x1024, .f32⟩
  | .hbm, ⟨11, _⟩ => ⟨S_, .f32⟩
  | .hbm, ⟨12, _⟩ => ⟨S704x1024, .f32⟩
  | .hbm, ⟨13, _⟩ => ⟨S1x704x1024, .bf16⟩
  | .hbm, ⟨14, _⟩ => ⟨S7x704x1024, .bf16⟩
  | .hbm, ⟨15, _⟩ => ⟨S8x704x1024, .bf16⟩
  | .hbm, ⟨16, _⟩ => ⟨S8x704x1024, .f32⟩
  | .hbm, ⟨17, _⟩ => ⟨S_, .f32⟩
  | .hbm, ⟨18, _⟩ => ⟨S704x1024, .f32⟩
  | .hbm, ⟨19, _⟩ => ⟨S1x704x1024, .f32⟩
  | .hbm, ⟨20, _⟩ => ⟨S1x704x1024, .f32⟩
  | .hbm, ⟨21, _⟩ => ⟨S2x704x1024, .f32⟩
  | .hbm, ⟨22, _⟩ => ⟨S_, .f32⟩
  | .hbm, ⟨23, _⟩ => ⟨S2x704x1024, .f32⟩
  | .hbm, ⟨24, _⟩ => ⟨S2x704x1024, .f32⟩
  | .hbm, ⟨25, _⟩ => ⟨S_, .f32⟩
  | .hbm, ⟨26, _⟩ => ⟨S2x704x1024, .f32⟩
  | .hbm, ⟨27, _⟩ => ⟨S2x704x1024, .f32⟩
  | .hbm, ⟨28, _⟩ => ⟨S2x704x1024, .f32⟩
  | .hbm, ⟨29, _⟩ => ⟨S_, .f32⟩
  | .hbm, ⟨30, _⟩ => ⟨S2x704x1024, .f32⟩
  | .hbm, ⟨31, _⟩ => ⟨S2x704x1024, .f32⟩
  | .hbm, ⟨32, _⟩ => ⟨S2x704x1024, .f32⟩
  | .hbm, ⟨33, _⟩ => ⟨S_, .f32⟩
  | .hbm, ⟨34, _⟩ => ⟨S2x704x1024, .f32⟩
  | .hbm, ⟨35, _⟩ => ⟨S2x704x1024, .f32⟩
  | .hbm, ⟨36, _⟩ => ⟨S2x704x1024, .f32⟩
  | .hbm, ⟨37, _⟩ => ⟨S_, .f32⟩
  | .hbm, ⟨38, _⟩ => ⟨S2x704x1024, .f32⟩
  | .hbm, ⟨39, _⟩ => ⟨S2x704x1024, .f32⟩
  | .hbm, ⟨40, _⟩ => ⟨S_, .f32⟩
  | .hbm, ⟨41, _⟩ => ⟨S2x704x1024, .f32⟩
  | .hbm, ⟨42, _⟩ => ⟨S2x704x1024, .f32⟩
  | .hbm, ⟨43, _⟩ => ⟨S2x704x1024, .f32⟩
  | .hbm, ⟨44, _⟩ => ⟨S_, .f32⟩
  | .hbm, ⟨45, _⟩ => ⟨S2x704x1024, .f32⟩
  | .hbm, ⟨46, _⟩ => ⟨S2x704x1024, .f32⟩
  | .hbm, ⟨47, _⟩ => ⟨S2x704x1024, .f32⟩
  | .hbm, ⟨48, _⟩ => ⟨S_, .f32⟩
  | .hbm, ⟨49, _⟩ => ⟨S2x704x1024, .f32⟩
  | .hbm, ⟨50, _⟩ => ⟨S2x704x1024, .f32⟩
  | .hbm, ⟨51, _⟩ => ⟨S2x704x1024, .f32⟩
  | .hbm, ⟨52, _⟩ => ⟨S_, .f32⟩
  | .hbm, ⟨53, _⟩ => ⟨S2x704x1024, .f32⟩
  | .hbm, ⟨54, _⟩ => ⟨S2x704x1024, .f32⟩
  | _, _ => ⟨S8x704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_5 : Ref sig .tc := ⟨.hbm, 37, rfl⟩
abbrev main_v24 : Ref sig .tc := ⟨.hbm, 38, rfl⟩
abbrev main_v25 : Ref sig .tc := ⟨.hbm, 39, rfl⟩
abbrev main_cst_6 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_7 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_8 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_9 : Ref sig .tc := ⟨.hbm, 52, rfl⟩
abbrev main_v35 : Ref sig .tc := ⟨.hbm, 53, rfl⟩
abbrev main_v36 : Ref sig .tc := ⟨.hbm, 54, rfl⟩

abbrev nD : Nat := 1
abbrev τ : Topo := Topo.v7x

variable {F : FTy → Type} [FloatOps F]
-- ==== Kernel25.lean ====
abbrev S8x864x1024 : Shape := ⟨3, ![8, 864, 1024]⟩
abbrev S2x864x1024 : Shape := ⟨3, ![2, 864, 1024]⟩
abbrev S8x144x1024 : Shape := ⟨3, ![8, 144, 1024]⟩
abbrev S1x144x1024 : Shape := ⟨3, ![1, 144, 1024]⟩
abbrev S144x1024 : Shape := ⟨2, ![144, 1024]⟩

abbrev nBuf : Space → Nat
  | .hbm => 11
  | .vmem => 22
  | .smem => 0
  | _ => 0

abbrev bufTy : (tb : Table) → Fin (tcTables nBuf tb) → BufTy
  | .hbm, ⟨0, _⟩ => ⟨S8x864x1024, .bf16⟩
  | .hbm, ⟨1, _⟩ => ⟨S8x864x1024, .bf16⟩
  | .hbm, ⟨2, _⟩ => ⟨S8x864x1024, .bf16⟩
  | .hbm, ⟨3, _⟩ => ⟨S8x864x1024, .bf16⟩
  | .hbm, ⟨4, _⟩ => ⟨S2x864x1024, .f32⟩
  | .hbm, ⟨5, _⟩ => ⟨S2x864x1024, .f32⟩
  | .hbm, ⟨6, _⟩ => ⟨S2x864x1024, .f32⟩
  | .hbm, ⟨7, _⟩ => ⟨S2x864x1024, .f32⟩
  | .hbm, ⟨8, _⟩ => ⟨S2x864x1024, .f32⟩
  | .hbm, ⟨9, _⟩ => ⟨S2x864x1024, .f32⟩
  | .hbm, ⟨10, _⟩ => ⟨S2x864x1024, .f32⟩
  | .local _ .vmem, ⟨0, _⟩ => ⟨S8x144x1024, .bf16⟩
  | .local _ .vmem, ⟨1, _⟩ => ⟨S8x144x1024, .bf16⟩
  | .local _ .vmem, ⟨2, _⟩ => ⟨S1x144x1024, .bf16⟩
  | .local _ .vmem, ⟨3, _⟩ => ⟨S1x144x1024, .bf16⟩
  | .local _ .vmem, ⟨4, _⟩ => ⟨S8x144x1024, .bf16⟩
  | .local _ .vmem, ⟨5, _⟩ => ⟨S8x144x1024, .bf16⟩
  | .local _ .vmem, ⟨6, _⟩ => ⟨S1x144x1024, .bf16⟩
  | .local _ .vmem, ⟨7, _⟩ => ⟨S1x144x1024, .bf16⟩
  | .local _ .vmem, ⟨8, _⟩ => ⟨S1x144x1024, .f32⟩
  | .local _ .vmem, ⟨9, _⟩ => ⟨S1x144x1024, .f32⟩
  | .local _ .vmem, ⟨10, _⟩ => ⟨S1x144x1024, .f32⟩
  | .local _ .vmem, ⟨11, _⟩ => ⟨S1x144x1024, .f32⟩
  | .local _ .vmem, ⟨12, _⟩ => ⟨S1x144x1024, .f32⟩
  | .local _ .vmem, ⟨13, _⟩ => ⟨S1x144x1024, .f32⟩
  | .local _ .vmem, ⟨14, _⟩ => ⟨S1x144x1024, .f32⟩
  | .local _ .vmem, ⟨15, _⟩ => ⟨S1x144x1024, .f32⟩
  | .local _ .vmem, ⟨16, _⟩ => ⟨S1x144x1024, .f32⟩
  | .local _ .vmem, ⟨17, _⟩ => ⟨S1x144x1024, .f32⟩
  | .local _ .vmem, ⟨18, _⟩ => ⟨S1x144x1024, .f32⟩
  | .local _ .vmem, ⟨19, _⟩ => ⟨S1x144x1024, .f32⟩
  | .local _ .vmem, ⟨20, _⟩ => ⟨S1x144x1024, .f32⟩
  | .local _ .vmem, ⟨21, _⟩ => ⟨S1x144x1024, .f32⟩
  | _, _ => ⟨S8x864x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![2, 6], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c5_i32 : BitVec 32 := 5#32
  let v2 : BitVec 32 := Scalar.select v1 c0_i32_1 c5_i32
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c5_i32 : BitVec 32 := 5#32
  let v2 : BitVec 32 := Scalar.select v1 c0_i32_1 c5_i32
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c5_i32 : BitVec 32 := 5#32
  let v2 : BitVec 32 := Scalar.select v1 c0_i32 c5_i32
  let v3 : BitVec 32 := Scalar.select v0 arg1 v2
  let c0_i32_1 : BitVec 32 := 0#32
  let c0_i32_2 : BitVec 32 := 0#32
  let c0_i32_3 : BitVec 32 := 0#32
  ![c0_i32_1.toNat, v3.toNat, c0_i32_2.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c5_i32 : BitVec 32 := 5#32
  let v2 : BitVec 32 := Scalar.select v1 c0_i32 c5_i32
  let v3 : BitVec 32 := Scalar.select v0 arg1 v2
  let c0_i32_1 : BitVec 32 := 0#32
  let c0_i32_2 : BitVec 32 := 0#32
  let c0_i32_3 : BitVec 32 := 0#32
  ![c0_i32_1.toNat, v3.toNat, c0_i32_2.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x144x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x144x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x144x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x144x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x144x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x144x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x144x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x144x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x144x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x144x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x144x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference25Ideal.lean ====
abbrev S8x864x1024 : Shape := ⟨3, ![8, 864, 1024]⟩
abbrev S2x864x1024 : Shape := ⟨3, ![2, 864, 1024]⟩
abbrev S1x864x1024 : Shape := ⟨3, ![1, 864, 1024]⟩
abbrev S7x864x1024 : Shape := ⟨3, ![7, 864, 1024]⟩
abbrev S_ : Shape := ⟨0, ![]⟩
abbrev S864x1024 : Shape := ⟨2, ![864, 1024]⟩

abbrev nBuf : Space → Nat
  | .hbm => 55
  | .vmem => 0
  | .smem => 0
  | _ => 0

abbrev bufTy : (tb : Table) → Fin (tcTables nBuf tb) → BufTy
  | .hbm, ⟨0, _⟩ => ⟨S8x864x1024, .bf16⟩
  | .hbm, ⟨1, _⟩ => ⟨S8x864x1024, .bf16⟩
  | .hbm, ⟨2, _⟩ => ⟨S8x864x1024, .bf16⟩
  | .hbm, ⟨3, _⟩ => ⟨S8x864x1024, .bf16⟩
  | .hbm, ⟨4, _⟩ => ⟨S2x864x1024, .f32⟩
  | .hbm, ⟨5, _⟩ => ⟨S2x864x1024, .f32⟩
  | .hbm, ⟨6, _⟩ => ⟨S2x864x1024, .f32⟩
  | .hbm, ⟨7, _⟩ => ⟨S1x864x1024, .bf16⟩
  | .hbm, ⟨8, _⟩ => ⟨S7x864x1024, .bf16⟩
  | .hbm, ⟨9, _⟩ => ⟨S8x864x1024, .bf16⟩
  | .hbm, ⟨10, _⟩ => ⟨S8x864x1024, .f32⟩
  | .hbm, ⟨11, _⟩ => ⟨S_, .f32⟩
  | .hbm, ⟨12, _⟩ => ⟨S864x1024, .f32⟩
  | .hbm, ⟨13, _⟩ => ⟨S1x864x1024, .bf16⟩
  | .hbm, ⟨14, _⟩ => ⟨S7x864x1024, .bf16⟩
  | .hbm, ⟨15, _⟩ => ⟨S8x864x1024, .bf16⟩
  | .hbm, ⟨16, _⟩ => ⟨S8x864x1024, .f32⟩
  | .hbm, ⟨17, _⟩ => ⟨S_, .f32⟩
  | .hbm, ⟨18, _⟩ => ⟨S864x1024, .f32⟩
  | .hbm, ⟨19, _⟩ => ⟨S1x864x1024, .f32⟩
  | .hbm, ⟨20, _⟩ => ⟨S1x864x1024, .f32⟩
  | .hbm, ⟨21, _⟩ => ⟨S2x864x1024, .f32⟩
  | .hbm, ⟨22, _⟩ => ⟨S_, .f32⟩
  | .hbm, ⟨23, _⟩ => ⟨S2x864x1024, .f32⟩
  | .hbm, ⟨24, _⟩ => ⟨S2x864x1024, .f32⟩
  | .hbm, ⟨25, _⟩ => ⟨S_, .f32⟩
  | .hbm, ⟨26, _⟩ => ⟨S2x864x1024, .f32⟩
  | .hbm, ⟨27, _⟩ => ⟨S2x864x1024, .f32⟩
  | .hbm, ⟨28, _⟩ => ⟨S2x864x1024, .f32⟩
  | .hbm, ⟨29, _⟩ => ⟨S_, .f32⟩
  | .hbm, ⟨30, _⟩ => ⟨S2x864x1024, .f32⟩
  | .hbm, ⟨31, _⟩ => ⟨S2x864x1024, .f32⟩
  | .hbm, ⟨32, _⟩ => ⟨S2x864x1024, .f32⟩
  | .hbm, ⟨33, _⟩ => ⟨S_, .f32⟩
  | .hbm, ⟨34, _⟩ => ⟨S2x864x1024, .f32⟩
  | .hbm, ⟨35, _⟩ => ⟨S2x864x1024, .f32⟩
  | .hbm, ⟨36, _⟩ => ⟨S2x864x1024, .f32⟩
  | .hbm, ⟨37, _⟩ => ⟨S_, .f32⟩
  | .hbm, ⟨38, _⟩ => ⟨S2x864x1024, .f32⟩
  | .hbm, ⟨39, _⟩ => ⟨S2x864x1024, .f32⟩
  | .hbm, ⟨40, _⟩ => ⟨S_, .f32⟩
  | .hbm, ⟨41, _⟩ => ⟨S2x864x1024, .f32⟩
  | .hbm, ⟨42, _⟩ => ⟨S2x864x1024, .f32⟩
  | .hbm, ⟨43, _⟩ => ⟨S2x864x1024, .f32⟩
  | .hbm, ⟨44, _⟩ => ⟨S_, .f32⟩
  | .hbm, ⟨45, _⟩ => ⟨S2x864x1024, .f32⟩
  | .hbm, ⟨46, _⟩ => ⟨S2x864x1024, .f32⟩
  | .hbm, ⟨47, _⟩ => ⟨S2x864x1024, .f32⟩
  | .hbm, ⟨48, _⟩ => ⟨S_, .f32⟩
  | .hbm, ⟨49, _⟩ => ⟨S2x864x1024, .f32⟩
  | .hbm, ⟨50, _⟩ => ⟨S2x864x1024, .f32⟩
  | .hbm, ⟨51, _⟩ => ⟨S2x864x1024, .f32⟩
  | .hbm, ⟨52, _⟩ => ⟨S_, .f32⟩
  | .hbm, ⟨53, _⟩ => ⟨S2x864x1024, .f32⟩
  | .hbm, ⟨54, _⟩ => ⟨S2x864x1024, .f32⟩
  | _, _ => ⟨S8x864x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_5 : Ref sig .tc := ⟨.hbm, 37, rfl⟩
abbrev main_v24 : Ref sig .tc := ⟨.hbm, 38, rfl⟩
abbrev main_v25 : Ref sig .tc := ⟨.hbm, 39, rfl⟩
abbrev main_cst_6 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_7 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_8 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_9 : Ref sig .tc := ⟨.hbm, 52, rfl⟩
abbrev main_v35 : Ref sig .tc := ⟨.hbm, 53, rfl⟩
abbrev main_v36 : Ref sig .tc := ⟨.hbm, 54, rfl⟩

abbrev nD : Nat := 1
abbrev τ : Topo := Topo.v7x

variable {F : FTy → Type} [FloatOps F]
-- ==== Proof.Rms.lean ====
module

public import Idealize.ShloMosaic.PureOps.Ideal
public import Idealize.ShloMosaic.PureOps.Ideal.Laws

@[expose] public section

noncomputable section

/-! The gradient of the root-mean-square norm on one row, over the extended reals. -/

namespace Cert.Rms

open Idealize.ShloMosaic

open scoped BigOperators

/-- The constant 1024 of the mean. -/
abbrev cN : EReal := Ideal.ofBits .f32 0x44800000#32
/-- The constant `1e-6` added to the mean square. -/
abbrev cEps : EReal := Ideal.ofBits .f32 0x358637BD#32
/-- The constant `-1/2` of the derivative of the reciprocal root. -/
abbrev cHalf : EReal := Ideal.ofBits .f32 0xBF000000#32

theorem cN_eq : cN = ((1024 : ℝ) : EReal) := by
  simp [cN, Ideal.ofBits, Ideal.ieee, -EReal.coe_mul]; norm_num

theorem cHalf_eq : cHalf = ((-(1 / 2) : ℝ) : EReal) := by
  simp [cHalf, Ideal.ofBits, Ideal.ieee, -EReal.coe_mul, -EReal.coe_neg]; norm_num

theorem cEps_pos : ∃ e : ℝ, 0 < e ∧ cEps = (e : EReal) := by
  refine ⟨8796093 * (2 : ℝ) ^ (-43 : ℤ), by positivity, ?_⟩
  simp [cEps, Ideal.ofBits, Ideal.ieee, -EReal.coe_mul]

theorem div_cN (z : EReal) : Ideal.div z cN = z * ((1024⁻¹ : ℝ) : EReal) := by
  rw [cN_eq, Ideal.div, if_neg (by norm_num), ← EReal.coe_inv]

/-- The mean square of a row, with the small constant. -/
def msq {n : ℕ} (x : Fin n → EReal) : EReal := Ideal.div (∑ k, x k * x k) cN + cEps

/-- The reciprocal root of the mean square. -/
def rr {n : ℕ} (x : Fin n → EReal) : EReal := Ideal.rsqrt (msq x)

theorem sq_nonneg' (a : EReal) : 0 ≤ a * a := by
  induction a <;> simp [← EReal.coe_mul, mul_self_nonneg, EReal.bot_mul_bot]

/-- The mean square is positive: `⊤`, or a positive real. -/
theorem msq_cases {n : ℕ} (x : Fin n → EReal) : msq x = ⊤ ∨ ∃ v : ℝ, 0 < v ∧ msq x = (v : EReal) := by
  obtain ⟨e, he, hc⟩ := cEps_pos
  have h0 : 0 ≤ ∑ k, x k * x k := Finset.sum_nonneg fun k _ => sq_nonneg' _
  unfold msq
  rw [div_cN, hc]
  generalize (∑ k, x k * x k) = s at h0
  induction s with
  | bot => exact absurd h0 (by simp)
  | top => left; rw [EReal.top_mul_coe_of_pos (by norm_num)]; rfl
  | coe s =>
    right
    refine ⟨s * 1024⁻¹ + e, ?_, by push_cast; rfl⟩
    have : (0 : ℝ) ≤ s := by exact_mod_cast h0
    positivity

/-- `r / v = r³` where `r = v^(-1/2)`. -/
theorem div_rr {n : ℕ} (x : Fin n → EReal) : Ideal.div (rr x) (msq x) = rr x * rr x * rr x := by
  unfold rr
  rcases msq_cases x with h | ⟨v, hv, h⟩
  · rw [h]; simp [Ideal.div]
  · rw [h]
    have hr : Ideal.rsqrt (v : EReal) = (((Real.sqrt v)⁻¹ : ℝ) : EReal) := by
      simp [not_lt.mpr hv.le, hv.ne']
    rw [hr, Ideal.div, if_neg (by exact_mod_cast hv.ne'), ← EReal.coe_inv]
    norm_cast
    have : Real.sqrt v ≠ 0 := (Real.sqrt_pos.mpr hv).ne'
    conv_lhs => rw [← Real.mul_self_sqrt hv.le]
    rw [Real.sqrt_mul_self (Real.sqrt_nonneg v)]
    field_simp

theorem half_add_half (z : EReal) : cHalf * z + cHalf * z = -z := by
  rw [cHalf_eq]
  induction z with
  | bot => rw [EReal.coe_mul_bot_of_neg (by norm_num)]; rfl
  | top => rw [EReal.coe_mul_top_of_neg (by norm_num)]; rfl
  | coe z => norm_cast; ring_nf

/-- The row's gradient as the kernel writes it. -/
def bwd {n : ℕ} (x w : Fin n → EReal) (j : Fin n) : EReal :=
  rr x * w j - x j * (rr x * rr x * rr x) * Ideal.div (∑ k, w k * x k) cN

/-- The coefficient that differentiating the mean square gives. -/
def coef {n : ℕ} (x w : Fin n → EReal) : EReal :=
  Ideal.div ((∑ k, x k * w k) * (cHalf * Ideal.div (rr x) (msq x))) cN

/-- The two forms of the row's gradient agree, at every extended real. -/
theorem bwd_eq {n : ℕ} (x w : Fin n → EReal) (j : Fin n) :
    w j * rr x + x j * coef x w + coef x w * x j = bwd x w j := by
  have hs : (∑ k, x k * w k) = ∑ k, w k * x k := Finset.sum_congr rfl fun k _ => mul_comm _ _
  have h : x j * coef x w = cHalf * (x j * (rr x * rr x * rr x) * Ideal.div (∑ k, w k * x k) cN) := by
    unfold coef
    rw [div_rr, hs, div_cN, div_cN]
    ac_rfl
  rw [mul_comm (coef x w), add_assoc, h, half_add_half, mul_comm (w j)]
  rfl

end Cert.Rms

end
-- ==== Proof.MixBlock.lean ====
module

public import proofs.«01_k».proof.Proof.Gen.KernelIdeal.Frame
public import proofs.«01_k».proof.Proof.Rms
public import Idealize.ShloMosaic.Lib.Pipeline.ValueKit
public import Idealize.ShloMosaic.Lib.Pointwise

@[expose] public section

set_option maxRecDepth 16384

noncomputable section

namespace Cert.MixBlock

open Idealize.ShloMosaic Idealize.ShloMosaic.TcCoe Idealize.SL.Sem Cert.KernelIdeal Cert.KernelIdeal.Gen Cert.Rms
open Idealize.ShloMosaic.Pipeline (Dat)

open scoped BigOperators

/-- The product of one row of the block with the two parts of the weights. -/
theorem pay4_at (v0 : FVec Ideal S256x3072 .bf16) (v2 : FVec Ideal S3072x1024 .bf16) (v5 : FVec Ideal S256x3840 .bf16)
    (v7 : FVec Ideal S3840x1024 .bf16) (r : Fin 256) (k : Fin 1024) :
    k0_pay4 (F := Ideal) v0 v2 v5 v7 (ix2 r k) = (∑ l : Fin 3072, v0 (ix2 r l) * v2 (ix2 l k)) + ∑ l : Fin 3840, v5 (ix2 r l) * v7 (ix2 l k) := by
  pointwise [k0_pay4]

theorem pay6_at (v0 : FVec Ideal S256x3072 .bf16) (v2 : FVec Ideal S3072x1024 .bf16) (v5 : FVec Ideal S256x3840 .bf16)
    (v7 : FVec Ideal S3840x1024 .bf16) (v11 : FVec Ideal S256x1024 .f32) (v12 : FVec Ideal S1x1024 .f32) (r : Fin 256) (j : Fin 1024) :
    k0_pay6 (F := Ideal) v0 v2 v5 v7 v11 v12 (ix2 r j)
      = bwd (fun k => v11 (ix2 r k)) (fun k => k0_pay4 (F := Ideal) v0 v2 v5 v7 (ix2 r k) * v12 (ix2 0 k)) j := by
  pointwise [k0_pay6, k0_pay5, bwd, rr, msq]

theorem pay2_at (v10 : FVec Ideal S256x1024 .f32) (v11 : FVec Ideal S256x1024 .f32) (j : Fin 1024) :
    k0_pay2 (F := Ideal) v10 v11 (k0_pay5 v11) (ix2 0 j) = ∑ r : Fin 256, v10 (ix2 r j) * (v11 (ix2 r j) * rr fun k => v11 (ix2 r k)) := by
  pointwise [k0_pay2, k0_pay5, rr, msq]

theorem pay3_at (v10 : FVec Ideal S256x1024 .f32) (v11 : FVec Ideal S256x1024 .f32) (v23 : FVec Ideal S256x1 .f32)
    (v52 : FVec Ideal S1x1024 .f32) (j : Fin 1024) :
    k0_pay3 (F := Ideal) v10 v11 v23 v52 (ix2 0 j) = v52 (ix2 0 j) + k0_pay2 (F := Ideal) v10 v11 v23 (ix2 0 j) := by
  pointwise [k0_pay3]

end Cert.MixBlock

end
-- ==== Proof.MixRef.lean ====
module

public import proofs.«01_k».proof.Proof.Gen.ReferenceIdeal.Read
public import proofs.«01_k».proof.Proof.Rms
public import Idealize.ShloMosaic.Lib.Pipeline.ValueKit
public import Idealize.ShloMosaic.Lib.Pointwise

@[expose] public section

set_option maxRecDepth 16384

noncomputable section

namespace Cert.MixRef

open Idealize.ShloMosaic Cert.ReferenceIdeal Cert.ReferenceIdeal.Read Cert.Rms

open scoped BigOperators

theorem ref_dx (x0 : FVec Ideal S4096x1024 .f32) (x1 : FVec Ideal S4096x6912 .f32) (x2 : FVec Ideal S1024x6912 .f32)
    (x3 : FVec Ideal S4096x1024 .f32) (x4 : FVec Ideal S1024 .f32) (i : Fin 4096) (j : Fin 1024) :
    val_main_v38 (F := Ideal) x0 x1 x2 x3 x4 (ix2 i j)
      = x0 (ix2 i j) + bwd (fun k => x3 (ix2 i k)) (fun k => (∑ l : Fin 6912, x1 (ix2 i l) * x2 (ix2 k l)) * x4 (ix1 k)) j := by
  rw [← bwd_eq]
  pointwise [val_main_v38, val_main_v37, val_main_v36, val_main_v35, val_main_v34, val_main_v33, val_main_v32, val_main_v31, val_main_v30,
    val_main_v29, val_main_v28, val_main_v27, val_main_v26, val_main_v25, val_main_v24, val_main_v22, val_main_v21, val_main_v20,
    val_main_v17, val_main_v16, val_main_v15, val_main_v14, val_main_v13, val_main_v10, val_main_v9, val_main_v8, val_main_v7, val_main_v6, val_main_v5, val_main_v4, val_main_v3, val_main_v2, val_main_v1, val_main_v0, coef, rr, msq, val_main_cst, val_main_cst_0, val_main_cst_1, val_main_cst_2, val_main_cst_3, val_main_cst_4, val_main_cst_5, val_main_cst_6, val_main_cst_7]
  simp only [Finset.univ_unique, Finset.sum_singleton, Ideal.ofBits_zero_f32, zero_add]

/-- The gain's gradient, as the reference computes it: a sum over all rows. -/
theorem ref_dg (x1 : FVec Ideal S4096x6912 .f32) (x2 : FVec Ideal S1024x6912 .f32)
    (x3 : FVec Ideal S4096x1024 .f32) (j : Fin 1024) :
    val_main_v39 (F := Ideal) x1 x2 x3 (ix2 0 j)
      = ∑ i : Fin 4096, (∑ l : Fin 6912, x1 (ix2 i l) * x2 (ix2 j l)) * (x3 (ix2 i j) * rr fun k => x3 (ix2 i k)) := by
  pointwise [val_main_v39, val_main_v23, val_main_v20, val_main_v19, val_main_v18, val_main_v17, val_main_v12, val_main_v11, val_main_v7, val_main_v6, val_main_v5,
    val_main_v4, val_main_v3, val_main_v2, val_main_v1, val_main_v0, rr, msq, val_main_cst, val_main_cst_0, val_main_cst_1, val_main_cst_3,
    val_main_cst_4]
  simp only [Finset.univ_unique, Finset.sum_singleton]
  exact Finset.sum_congr rfl fun i _ => mul_comm _ _

end Cert.MixRef

end
-- ==== Proof.Sums.lean ====
module

public import Mathlib.Algebra.BigOperators.Fin
public import Mathlib.Data.EReal.Operations

@[expose] public section

/-! Sums cut in parts. -/

namespace Cert.Sums

open scoped BigOperators

variable {M : Type*} [AddCommMonoid M]

/-- A sum over `a + b` indices in two parts, the last `b` first. -/
theorem sum_rot {a b n : ℕ} (h : a + b = n) (f : Fin n → M) :
    (∑ l : Fin b, f ⟨a + l.val, by omega⟩) + ∑ l : Fin a, f ⟨l.val, by omega⟩ = ∑ l : Fin n, f l := by
  subst h
  rw [Fin.sum_univ_add, add_comm]
  rfl

/-- A sum over `A * n` indices, block by block. -/
theorem sum_blocks {A n N : ℕ} (h : A * n = N) (f : Fin N → M) :
    (∑ t : Fin A, ∑ r : Fin n, f ⟨t.val * n + r.val, by
      have h1 : t.val * n + n ≤ A * n := by rw [← Nat.succ_mul]; exact Nat.mul_le_mul_right n t.isLt
      omega⟩) = ∑ i : Fin N, f i := by
  subst h
  rw [← Fintype.sum_prod_type' (f := fun (t : Fin A) (r : Fin n) => f ⟨t.val * n + r.val, by
    have h1 : t.val * n + n ≤ A * n := by rw [← Nat.succ_mul]; exact Nat.mul_le_mul_right n t.isLt
    omega⟩)]
  refine Fintype.sum_equiv finProdFinEquiv _ _ fun p => congrArg f (Fin.ext ?_)
  simp only [finProdFinEquiv_apply_val]
  rw [Nat.mul_comm, Nat.add_comm]

end Cert.Sums
-- ==== Proof.MixValue.lean ====
module

public import proofs.«01_k».proof.Proof.MixBlock
public import proofs.«01_k».proof.Proof.MixRef
public import proofs.«01_k».proof.Proof.Sums

@[expose] public section

set_option maxRecDepth 16384

noncomputable section

namespace Cert.MixValue

open Idealize.ShloMosaic Idealize.ShloMosaic.TcCoe Idealize.SL.Sem Cert.KernelIdeal Cert.KernelIdeal.Gen Cert.Rms Cert.MixBlock
open Idealize.ShloMosaic.Pipeline (Dat)

open scoped BigOperators

variable (m : (ℓ : Loc nD τ sig) → Buf (Elt Ideal) ℓ)

theorem idx : ∀ t : Fin cfg0.N, win0_0.index t = ![t.val, 0] ∧ win0_1.index t = ![t.val, 0] ∧ win0_2.index t = ![0, 0]
    ∧ win0_3.index t = ![t.val, 0] ∧ win0_4.index t = ![0, 0] ∧ win0_5.index t = ![t.val, 0] ∧ win0_6.index t = ![0, 0] :=
  (by decide +kernel : ∀ t : Fin grid0.N, _)

/-- The array's row that row `r` of block `t` is. -/
def row (t : Fin cfg0.N) (r : Fin 256) : Fin 4096 :=
  ⟨t.val * 256 + r.val, by have := t.isLt; change t.val < 16 at this; omega⟩

/-- The arguments of the call, at their types. -/
abbrev A0 (c : Dev nD) : FVec Ideal S4096x1024 .f32 := m ((c.tc : Thread nD τ).loc main_arg0)
abbrev A1 (c : Dev nD) : FVec Ideal S4096x6912 .f32 := m ((c.tc : Thread nD τ).loc main_arg1)
abbrev A2 (c : Dev nD) : FVec Ideal S1024x6912 .f32 := m ((c.tc : Thread nD τ).loc main_arg2)
abbrev A3 (c : Dev nD) : FVec Ideal S4096x1024 .f32 := m ((c.tc : Thread nD τ).loc main_arg3)
abbrev A4 (c : Dev nD) : FVec Ideal S1024 .f32 := m ((c.tc : Thread nD τ).loc main_arg4)

theorem emb1 (t : Fin cfg0.N) (r : Fin 256) (l : Fin 6912) :
    ((cfg0.win 1).blk t).view.emb (ix2 r l) = ix2 (row t r) l := by
  blk_ext [idx t, row]

theorem emb2 (t : Fin cfg0.N) (l : Fin 6912) (k : Fin 1024) :
    ((cfg0.win 2).blk t).view.emb (ix2 l k) = ix2 l k := by
  blk_ext [idx t]

theorem emb5 (t : Fin cfg0.N) (r : Fin 256) (l : Fin 1024) :
    ((cfg0.win 5).blk t).view.emb (ix2 r l) = ix2 (row t r) l := by
  blk_ext [idx t, row]

theorem du_lo (c : Dev nD) (t : Fin cfg0.N) (r : Fin 256) (l : Fin 3072) :
    (iblk m c 1 t : FVec Ideal S256x6912 .bf16) (ix2 r ⟨l.val, by omega⟩) = A1 m c (ix2 (row t r) ⟨3840 + l.val, by omega⟩) := by
  show V m c main_v3 (((cfg0.win 1).blk t).view.emb (ix2 r ⟨l.val, _⟩)) = _
  rw [emb1]
  entry_read
  pointwise

theorem du_hi (c : Dev nD) (t : Fin cfg0.N) (r : Fin 256) (l : Fin 3840) :
    (iblk m c 1 t : FVec Ideal S256x6912 .bf16) (ix2 r ⟨3072 + l.val, by omega⟩) = A1 m c (ix2 (row t r) ⟨l.val, by omega⟩) := by
  show V m c main_v3 (((cfg0.win 1).blk t).view.emb (ix2 r ⟨3072 + l.val, _⟩)) = _
  rw [emb1]
  entry_read
  pointwise

theorem wt_at (c : Dev nD) (t : Fin cfg0.N) (l : Fin 6912) (k : Fin 1024) :
    (iblk m c 2 t : FVec Ideal S6912x1024 .bf16) (ix2 l k) = A2 m c (ix2 k l) := by
  show V m c main_v5 (((cfg0.win 2).blk t).view.emb (ix2 l k)) = _
  rw [emb2]
  entry_read
  pointwise

theorem g_at (c : Dev nD) (t : Fin cfg0.N) (k : Fin 1024) :
    (iblk m c 4 t : FVec Ideal S1x1024 .f32) (ix2 0 k) = A4 m c (ix1 k) := by
  have e : ((cfg0.win 4).blk t).view.emb (ix2 0 k) = ix2 0 k := by blk_ext [idx t]
  show V m c main_v6 (((cfg0.win 4).blk t).view.emb (ix2 0 k)) = _
  rw [e]
  entry_read
  pointwise

theorem x_at (c : Dev nD) (t : Fin cfg0.N) (r : Fin 256) (k : Fin 1024) :
    (iblk m c 3 t : FVec Ideal S256x1024 .f32) (ix2 r k) = A3 m c (ix2 (row t r) k) := by
  blk_ext [iblk, V, idx t, row]

theorem dx_at (c : Dev nD) (t : Fin cfg0.N) (r : Fin 256) (k : Fin 1024) :
    (iblk m c 0 t : FVec Ideal S256x1024 .f32) (ix2 r k) = A0 m c (ix2 (row t r) k) := by
  blk_ext [iblk, V, idx t, row]

theorem dh_at (c : Dev nD) (t : Fin cfg0.N) (r : Fin 256) (k : Fin 1024) :
    k0_pay4 (F := Ideal) (View.ld (iblk m c 1 t) (Rect.unit ![0, 0] ![256, 3072] inb_S256x6912_S256x3072_0_0))
        (View.ld (iblk m c 2 t) (Rect.unit ![3840, 0] ![3072, 1024] inb_S6912x1024_S3072x1024_3840_0))
        (View.ld (iblk m c 1 t) (Rect.unit ![0, 3072] ![256, 3840] inb_S256x6912_S256x3840_0_3072))
        (View.ld (iblk m c 2 t) (Rect.unit ![0, 0] ![3840, 1024] inb_S6912x1024_S3840x1024_0_0)) (ix2 r k)
      = ∑ l : Fin 6912, A1 m c (ix2 (row t r) l) * A2 m c (ix2 k l) := by
  rw [pay4_at]
  pointwise
  refine Eq.trans ?_ (Cert.Sums.sum_rot (a := 3840) (b := 3072) rfl fun l : Fin 6912 => A1 m c (ix2 (row t r) l) * A2 m c (ix2 k l))
  exact congrArg₂ (· + ·)
    (Finset.sum_congr rfl fun l _ => congrArg₂ (· * ·) (du_lo m c t r l) (wt_at m c t _ k))
    (Finset.sum_congr rfl fun l _ => congrArg₂ (· * ·) (du_hi m c t r l) (wt_at m c t _ k))

/-- What a point stores in its block of the input gradient. -/
theorem point5 (c : Dev nD) (t : Fin cfg0.N) (y : S256x1024.Idx) :
    k0_pay1 (k0_pay6 (F := Ideal) (View.ld (iblk m c 1 t) (Rect.unit ![0, 0] ![256, 3072] inb_S256x6912_S256x3072_0_0))
        (View.ld (iblk m c 2 t) (Rect.unit ![3840, 0] ![3072, 1024] inb_S6912x1024_S3072x1024_3840_0))
        (View.ld (iblk m c 1 t) (Rect.unit ![0, 3072] ![256, 3840] inb_S256x6912_S256x3840_0_3072))
        (View.ld (iblk m c 2 t) (Rect.unit ![0, 0] ![3840, 1024] inb_S6912x1024_S3840x1024_0_0)) (iblk m c 3 t)
        (iblk m c 4 t)) (iblk m c 0 t) y
      = Cert.ReferenceIdeal.Read.val_main_v38 (F := Ideal) (A0 m c) (A1 m c) (A2 m c) (A3 m c) (A4 m c)
          (((cfg0.win 5).blk t).view.emb y) := by
  idx_vars y
  refine Eq.trans ?_ (congrArg _ (emb5 t y0 y1).symm)
  refine Eq.trans ?_ (Cert.MixRef.ref_dx _ _ _ _ _ (row t y0) y1).symm
  refine congrArg₂ (· + ·) (dx_at m c t y0 y1) ?_
  refine (pay6_at _ _ _ _ _ _ y0 y1).trans ?_
  refine congrArg₂ (fun a b => bwd a b y1) (funext fun k => x_at m c t y0 k) (funext fun k => ?_)
  exact congrArg₂ (· * ·) (dh_at m c t y0 k) (g_at m c t k)

theorem final5 (c : Dev nD) : (dats m 0 c).arrAt 5 (cfgs 0).N
    = Cert.ReferenceIdeal.Read.val_main_v38 (F := Ideal) (A0 m c) (A1 m c) (A2 m c) (A3 m c) (A4 m c) := by
  refine (dats m 0 c).arrAt_eq_of_covers 5 _ (by decide +kernel) fun t hf y => ?_
  blk_simp
  rw [after0_5]
  by_cases h0 : t.val % 16 = 0
  · have h1 : ¬ 1 ≤ t.val := by have := t.isLt; change t.val < 16 at this; omega
    rw [outsAt0_A m c t h0 h1]
    frame_out
    exact point5 m c t y
  · have h1 : 1 ≤ t.val := by omega
    rw [outsAt0_B m c t h0 h1]
    frame_out
    exact point5 m c t y

/-- What the rows of block `t` add to the gain's gradient. -/
def term (c : Dev nD) (t : Fin cfg0.N) (j : Fin 1024) : EReal :=
  ∑ r : Fin 256, (∑ l : Fin 6912, A1 m c (ix2 (row t r) l) * A2 m c (ix2 j l))
    * (A3 m c (ix2 (row t r) j) * rr fun k => A3 m c (ix2 (row t r) k))

theorem point6 (c : Dev nD) (t : Fin cfg0.N) (j : Fin 1024) :
    k0_pay2 (k0_pay4 (F := Ideal) (View.ld (iblk m c 1 t) (Rect.unit ![0, 0] ![256, 3072] inb_S256x6912_S256x3072_0_0))
        (View.ld (iblk m c 2 t) (Rect.unit ![3840, 0] ![3072, 1024] inb_S6912x1024_S3072x1024_3840_0))
        (View.ld (iblk m c 1 t) (Rect.unit ![0, 3072] ![256, 3840] inb_S256x6912_S256x3840_0_3072))
        (View.ld (iblk m c 2 t) (Rect.unit ![0, 0] ![3840, 1024] inb_S6912x1024_S3840x1024_0_0))) (iblk m c 3 t)
        (k0_pay5 (iblk m c 3 t)) (ix2 0 j) = term m c t j := by
  refine (pay2_at _ _ j).trans (Finset.sum_congr rfl fun r _ => congrArg₂ (· * ·) (dh_at m c t r j) ?_)
  exact congrArg₂ (fun (a : EReal) (b : Fin 1024 → EReal) => a * rr b) (x_at m c t r j) (funext fun k => x_at m c t r k)

theorem final6 (c : Dev nD) : (dats m 0 c).arrAt 6 (cfgs 0).N
    = Cert.ReferenceIdeal.Read.val_main_v39 (F := Ideal) (A1 m c) (A2 m c) (A3 m c) := by
  refine (dats m 0 c).arrAt_eq_of_after_last 6 t0_15 (by decide +kernel) _ fun j => ?_
  blk_simp
  rw [after0_6]
  idx_vars j
  obtain rfl : j0 = 0 := Subsingleton.elim _ _
  refine (Pipeline.eq_sum_fin_of_reset_step_apply_last (fun n h (j : Fin 1024) => ((outsAt0 m c n h).2 : FVec Ideal S1x1024 .f32) (ix2 0 j)) 16
    (fun _ => 0) (term m c) (fun t h0 j => ?_) (fun t h0 j => ?_) (by decide) t0_15 rfl j1).trans ?_
  · have h1 : ¬ 1 ≤ t.val := by have := t.isLt; change t.val < 16 at this; omega
    simp only [outsAt0_A m c t h0 h1]
    frame_out
    rw [zero_add]
    exact point6 m c t j
  · have h1 : 1 ≤ t.val := by omega
    simp only [outsAt0_B m c t h0 h1]
    frame_out
    exact (pay3_at _ _ _ _ j).trans (congrArg _ (point6 m c t j))
  · rw [zero_add]
    refine Eq.trans ?_ (Cert.MixRef.ref_dg _ _ _ j1).symm
    exact Cert.Sums.sum_blocks (A := 16) (n := 256) rfl fun i : Fin 4096 => (∑ l : Fin 6912, A1 m c (ix2 i l) * A2 m c (ix2 j1 l))
      * (A3 m c (ix2 i j1) * rr fun k => A3 m c (ix2 i k))

end Cert.MixValue

end
-- ==== Proof.MixClaim.lean ====
module

public import proofs.«01_k».proof.Defs
public import proofs.«01_k».proof.Proof.MixValue
public import proofs.«01_k».proof.Proof.Gen.Kernel.Frame
public import proofs.«01_k».proof.Proof.Gen.KernelIdeal.Value
public import proofs.«01_k».proof.Proof.Gen.ReferenceIdeal.Read
public import Idealize.ShloMosaic.Lib.Claim

@[expose] public section

/-! The claims about the backward norm and input projection (`Kernel`). -/

namespace Cert.MixClaim

open Idealize.ShloMosaic Idealize.SL.Sem

theorem frame_kernel : Cert.quiescent_Kernel := fun m ρ _ => Cert.Kernel.Gen.frame m ρ

theorem frame_ideal : Cert.quiescent_KernelIdeal := fun m ρ _ => Cert.KernelIdeal.Gen.frame m ρ

theorem frame_reference : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run m ρ)

theorem algebraic : Cert.algebraic_KernelIdeal_ReferenceIdeal := by
  intro m g m' g' _ hagree
  refine ⟨_, _, Cert.KernelIdeal.Value.run_blocks m g, (θ_run Cert.ReferenceIdeal.defs _ _).mono (fun r h c => ?_)
    (Cert.ReferenceIdeal.Value.run m' g')⟩
  obtain ⟨h0, h1, h2, h3, h4⟩ := hagree c
  obtain ⟨r0, r1, rest⟩ := h c
  refine ⟨r0.trans ?_, r1.trans ?_, rest⟩
  · rw [Cert.ReferenceIdeal.Read.val_main_v38_eq, h0, h1, h2, h3, h4]
    exact (Cert.MixValue.final5 m c).symm
  · rw [Cert.ReferenceIdeal.Read.val_main_v39_eq, h1, h2, h3]
    exact (Cert.MixValue.final6 m c).symm

end Cert.MixClaim
-- ==== Proof.PoolSum.lean ====
module

public import Idealize.ShloMosaic.Lib.Pipeline.ValueKit
public import Idealize.ShloMosaic.Lib.Pointwise

@[expose] public section

noncomputable section

namespace Cert.PoolSum

open Idealize.ShloMosaic

open scoped BigOperators

/-- Four groups of 96 channels; group `n` pools over a window of `2 ^ (n + 1)` rows. -/
def width (j : Nat) : Nat := 2 ^ (j / 96 + 1)

/-- The column read with 16 zero rows before it. -/
def lead (x : Fin 4096 → EReal) (n : Nat) : EReal := if h : 16 ≤ n ∧ n < 4112 then x ⟨n - 16, by omega⟩ else 0

/-- The column read with zero rows after it. -/
def trail (x : Fin 4096 → EReal) (n : Nat) : EReal := if h : n < 4096 then x ⟨n, h⟩ else 0

theorem lead_of {x : Fin 4096 → EReal} {n : Nat} (t : Fin 4096) (h : n = t.val + 16) : lead x n = x t := by
  subst h
  unfold lead
  rw [dif_pos ⟨by omega, by omega⟩]
  exact congrArg x (Fin.ext (by simp))

theorem lead_zero {x : Fin 4096 → EReal} {n : Nat} (h : n < 16) : lead x n = 0 := by
  unfold lead
  rw [dif_neg (by omega)]

theorem trail_of {x : Fin 4096 → EReal} {n : Nat} (t : Fin 4096) (h : n = t.val) : trail x n = x t := by
  subst h
  unfold trail
  rw [dif_pos t.isLt]

theorem trail_zero {x : Fin 4096 → EReal} {n : Nat} (h : 4096 ≤ n) : trail x n = 0 := by
  unfold trail
  rw [dif_neg (by omega)]

/-- The sum over the window of `w` rows that ends at row `t`. -/
def backSum (x : Fin 4096 → EReal) (w t : Nat) : EReal := ∑ k ∈ Finset.range w, lead x (t + 16 - k)

/-- The sum over the window of `w` rows that begins at row `t`. -/
def fwdSum (x : Fin 4096 → EReal) (w t : Nat) : EReal := ∑ k ∈ Finset.range w, trail x (t + k)

/-- A block of 528 rows added to itself turned down by `s` rows. -/
def turn (s : Nat) (f : Fin 528 → EReal) : Fin 528 → EReal :=
  fun q => f q + f ⟨(q.val + 528 - s) % 528, Nat.mod_lt _ (by decide)⟩

theorem turn_back {s m : Nat} (hs : 0 < s) (hm : s < 528) {g : Fin 528 → EReal} {F : Nat → EReal}
    (hg : ∀ q : Fin 528, m ≤ q.val → g q = ∑ k ∈ Finset.range s, F (q.val - k)) (q : Fin 528) (hq : m + s ≤ q.val) :
    turn s g q = ∑ k ∈ Finset.range (s + s), F (q.val - k) := by
  have hlt := q.isLt
  have hr : (q.val + 528 - s) % 528 = q.val - s := by
    rw [show q.val + 528 - s = (q.val - s) + 528 by omega, Nat.add_mod_right, Nat.mod_eq_of_lt (by omega)]
  unfold turn
  rw [hg q (by omega), hg _ (by show m ≤ (q.val + 528 - s) % 528; omega), Finset.sum_range_add]
  refine congrArg₂ (· + ·) rfl (Finset.sum_congr rfl fun k _ => congrArg F ?_)
  show (q.val + 528 - s) % 528 - k = q.val - (s + k)
  omega

theorem turn_fwd {s m : Nat} (hs : 0 < s) (hm : s < 528) {g : Fin 528 → EReal} {F : Nat → EReal}
    (hg : ∀ q : Fin 528, q.val + m < 528 → g q = ∑ k ∈ Finset.range s, F (q.val + k)) (q : Fin 528) (hq : q.val + (m + s) < 528) :
    turn (528 - s) g q = ∑ k ∈ Finset.range (s + s), F (q.val + k) := by
  have hr : (q.val + 528 - (528 - s)) % 528 = q.val + s := by
    rw [show q.val + 528 - (528 - s) = q.val + s by omega, Nat.mod_eq_of_lt (by omega)]
  unfold turn
  rw [hg q (by omega), hg _ (by show (q.val + 528 - (528 - s)) % 528 + m < 528; omega), Finset.sum_range_add]
  refine congrArg₂ (· + ·) rfl (Finset.sum_congr rfl fun k _ => congrArg F ?_)
  show (q.val + 528 - (528 - s)) % 528 + k = q.val + (s + k)
  omega

/-- What the four doublings leave, for a column of group `j / 96`. -/
theorem back_select {f : Fin 528 → EReal} {F : Nat → EReal} (hf : ∀ q : Fin 528, f q = F q.val) (j : Fin 384) (q : Fin 528) (hq : 15 ≤ q.val) :
    (if j.val < 96 then turn 1 f q else if j.val < 192 then turn 2 (turn 1 f) q else
        if j.val < 288 then turn 4 (turn 2 (turn 1 f)) q else turn 8 (turn 4 (turn 2 (turn 1 f))) q)
      = ∑ k ∈ Finset.range (width j.val), F (q.val - k) := by
  have h1 := turn_back (s := 1) (m := 0) (by decide) (by decide) (g := f) (F := F) (fun q _ => by simp [hf])
  have h2 := turn_back (s := 2) (m := 1) (by decide) (by decide) (F := F) fun q h => h1 q (by omega)
  have h4 := turn_back (s := 4) (m := 3) (by decide) (by decide) (F := F) fun q h => h2 q (by omega)
  have h8 := turn_back (s := 8) (m := 7) (by decide) (by decide) (F := F) fun q h => h4 q (by omega)
  have hj := j.isLt
  unfold width
  split
  · rw [h1 q (by omega), show j.val / 96 = 0 by omega]; rfl
  split
  · rw [h2 q (by omega), show j.val / 96 = 1 by omega]; rfl
  split
  · rw [h4 q (by omega), show j.val / 96 = 2 by omega]; rfl
  · rw [h8 q (by omega), show j.val / 96 = 3 by omega]; rfl

theorem fwd_select {f : Fin 528 → EReal} {F : Nat → EReal} (hf : ∀ q : Fin 528, f q = F q.val) (j : Fin 384) (q : Fin 528) (hq : q.val < 512) :
    (if j.val < 96 then turn 527 f q else if j.val < 192 then turn 526 (turn 527 f) q else
        if j.val < 288 then turn 524 (turn 526 (turn 527 f)) q else turn 520 (turn 524 (turn 526 (turn 527 f))) q)
      = ∑ k ∈ Finset.range (width j.val), F (q.val + k) := by
  have h1 := turn_fwd (s := 1) (m := 0) (by decide) (by decide) (g := f) (F := F) (fun q _ => by simp [hf])
  have h2 := turn_fwd (s := 2) (m := 1) (by decide) (by decide) (F := F) fun q h => h1 q (by omega)
  have h4 := turn_fwd (s := 4) (m := 3) (by decide) (by decide) (F := F) fun q h => h2 q (by omega)
  have h8 := turn_fwd (s := 8) (m := 7) (by decide) (by decide) (F := F) fun q h => h4 q (by omega)
  have hj := j.isLt
  unfold width
  split
  · rw [h1 q (by omega), show j.val / 96 = 0 by omega]; rfl
  split
  · rw [h2 q (by omega), show j.val / 96 = 1 by omega]; rfl
  split
  · rw [h4 q (by omega), show j.val / 96 = 2 by omega]; rfl
  · rw [h8 q (by omega), show j.val / 96 = 3 by omega]; rfl

/-- The window's length at row `t` as the programs compute it: the window is cut at the first row. -/
def cnt (t : BitVec 32) (j : Nat) : EReal := FloatOps.sitofp (F := Ideal) .f32 (IntOp.minsi (IntOp.addi t 1#32) (BitVec.ofNat 32 (width j)))

theorem slt96 : ∀ j : Fin 384, IntOp.cmpi .slt (BitVec.ofNat 32 j.val) 96#32 = if j.val < 96 then 1#1 else 0#1 := by decide +kernel
theorem slt192 : ∀ j : Fin 384, IntOp.cmpi .slt (BitVec.ofNat 32 j.val) 192#32 = if j.val < 192 then 1#1 else 0#1 := by decide +kernel
theorem slt288 : ∀ j : Fin 384, IntOp.cmpi .slt (BitVec.ofNat 32 j.val) 288#32 = if j.val < 288 then 1#1 else 0#1 := by decide +kernel

theorem select_if {α : Type} (p : Prop) [Decidable p] (x y : α) : Scalar.select (if p then 1#1 else 0#1) x y = if p then x else y := by
  by_cases h : p <;> simp [h, Scalar.select]

theorem width_select : ∀ j : Fin 384, (if j.val < 96 then 2#32 else if j.val < 192 then 4#32 else if j.val < 288 then 8#32 else 16#32) = BitVec.ofNat 32 (width j.val) := by
  decide +kernel

end Cert.PoolSum

end
-- ==== Proof.PoolBlock.lean ====
module

public import proofs.«01_k».proof.Proof.Gen.Kernel3Ideal.Skeleton
public import proofs.«01_k».proof.Proof.PoolSum

@[expose] public section

set_option maxRecDepth 16384

noncomputable section

namespace Cert.PoolBlock

open Idealize.ShloMosaic Idealize.ShloMosaic.TcCoe Idealize.SL.Sem Cert.Kernel3Ideal Cert.Kernel3Ideal.Gen Cert.PoolSum

open scoped BigOperators

theorem turned1 (v : FVec Ideal S528x384 .f32) {f : Fin 528 → EReal} {j : Fin 384} (hv : ∀ q, v (ix2 q j) = f q) (q : Fin 528) :
    (addf v (dynamicRotate 0 1#32 none v rotates_S528x384_d0)) (ix2 q j) = turn 1 f q := by
  unfold turn
  rw [← hv, ← hv]
  pointwise

theorem turned2 (v : FVec Ideal S528x384 .f32) {f : Fin 528 → EReal} {j : Fin 384} (hv : ∀ q, v (ix2 q j) = f q) (q : Fin 528) :
    (addf v (dynamicRotate 0 2#32 none v rotates_S528x384_d0)) (ix2 q j) = turn 2 f q := by
  unfold turn
  rw [← hv, ← hv]
  pointwise

theorem turned4 (v : FVec Ideal S528x384 .f32) {f : Fin 528 → EReal} {j : Fin 384} (hv : ∀ q, v (ix2 q j) = f q) (q : Fin 528) :
    (addf v (dynamicRotate 0 4#32 none v rotates_S528x384_d0)) (ix2 q j) = turn 4 f q := by
  unfold turn
  rw [← hv, ← hv]
  pointwise

theorem turned8 (v : FVec Ideal S528x384 .f32) {f : Fin 528 → EReal} {j : Fin 384} (hv : ∀ q, v (ix2 q j) = f q) (q : Fin 528) :
    (addf v (dynamicRotate 0 8#32 none v rotates_S528x384_d0)) (ix2 q j) = turn 8 f q := by
  unfold turn
  rw [← hv, ← hv]
  pointwise

theorem turned527 (v : FVec Ideal S528x384 .f32) {f : Fin 528 → EReal} {j : Fin 384} (hv : ∀ q, v (ix2 q j) = f q) (q : Fin 528) :
    (addf v (dynamicRotate 0 527#32 none v rotates_S528x384_d0)) (ix2 q j) = turn 527 f q := by
  unfold turn
  rw [← hv, ← hv]
  pointwise

theorem turned526 (v : FVec Ideal S528x384 .f32) {f : Fin 528 → EReal} {j : Fin 384} (hv : ∀ q, v (ix2 q j) = f q) (q : Fin 528) :
    (addf v (dynamicRotate 0 526#32 none v rotates_S528x384_d0)) (ix2 q j) = turn 526 f q := by
  unfold turn
  rw [← hv, ← hv]
  pointwise

theorem turned524 (v : FVec Ideal S528x384 .f32) {f : Fin 528 → EReal} {j : Fin 384} (hv : ∀ q, v (ix2 q j) = f q) (q : Fin 528) :
    (addf v (dynamicRotate 0 524#32 none v rotates_S528x384_d0)) (ix2 q j) = turn 524 f q := by
  unfold turn
  rw [← hv, ← hv]
  pointwise

theorem turned520 (v : FVec Ideal S528x384 .f32) {f : Fin 528 → EReal} {j : Fin 384} (hv : ∀ q, v (ix2 q j) = f q) (q : Fin 528) :
    (addf v (dynamicRotate 0 520#32 none v rotates_S528x384_d0)) (ix2 q j) = turn 520 f q := by
  unfold turn
  rw [← hv, ← hv]
  pointwise

theorem sel16_at (v18 v20 v22 v24 : FVec Ideal S528x384 .f32) (r : Fin 512) (j : Fin 384) :
    (extractStridedSlice S512x384 ![16, 0] (select (cmpi .slt (iota .tc S528x384 32 [1] iota_S528x384_d1_w32) (broadcast S528x384 96#32)) v18
      (select (cmpi .slt (iota .tc S528x384 32 [1] iota_S528x384_d1_w32) (broadcast S528x384 192#32)) v20
        (select (cmpi .slt (iota .tc S528x384 32 [1] iota_S528x384_d1_w32) (broadcast S528x384 288#32)) v22 v24))) slices_S528x384_o16_0_S512x384) (ix2 r j)
      = if j.val < 96 then v18 (ix2 ⟨r.val + 16, by omega⟩ j) else if j.val < 192 then v20 (ix2 ⟨r.val + 16, by omega⟩ j) else
          if j.val < 288 then v22 (ix2 ⟨r.val + 16, by omega⟩ j) else v24 (ix2 ⟨r.val + 16, by omega⟩ j) := by
  pointwise
  all_goals simp only [slt96, slt192, slt288, select_if, Nat.add_comm 16]

theorem sel0_at (v18 v20 v22 v24 : FVec Ideal S528x384 .f32) (v71 : FVec Ideal S512x384 .f32) (r : Fin 512) (j : Fin 384) :
    (truncf .bf16 (subf (extractStridedSlice S512x384 ![0, 0] (select (cmpi .slt (iota .tc S528x384 32 [1] iota_S528x384_d1_w32) (broadcast S528x384 96#32)) v18
      (select (cmpi .slt (iota .tc S528x384 32 [1] iota_S528x384_d1_w32) (broadcast S528x384 192#32)) v20
        (select (cmpi .slt (iota .tc S528x384 32 [1] iota_S528x384_d1_w32) (broadcast S528x384 288#32)) v22 v24))) slices_S528x384_o0_0_S512x384) v71) bitsLt_bf16_f32) (ix2 r j)
      = (if j.val < 96 then v18 (ix2 ⟨r.val, by omega⟩ j) else if j.val < 192 then v20 (ix2 ⟨r.val, by omega⟩ j) else
          if j.val < 288 then v22 (ix2 ⟨r.val, by omega⟩ j) else v24 (ix2 ⟨r.val, by omega⟩ j)) - v71 (ix2 r j) := by
  pointwise
  all_goals simp only [slt96, slt192, slt288, select_if, Nat.add_comm 16]

/-- The tile's rows with the 16 rows before them. -/
def ext9 (i : grid0.Coords) (v7 : FVec Ideal S512x384 .bf16) (v10 : FVec Ideal S16x384 .bf16) (j : Fin 384) (q : Fin 528) : EReal :=
  if h : q.val < 16 then v10 (ix2 ⟨q.val, h⟩ j) * k0_pay7 (F := Ideal) i else v7 (ix2 ⟨q.val - 16, by omega⟩ j)

theorem pay9_at (i : grid0.Coords) (v7 : FVec Ideal S512x384 .bf16) (v10 : FVec Ideal S16x384 .bf16) (r : Fin 512) (j : Fin 384)
    {F : Nat → EReal} (hF : ∀ q : Fin 528, ext9 i v7 v10 j q = F q.val) :
    k0_pay9 (F := Ideal) i v7 v10 (ix2 r j) = ∑ k ∈ Finset.range (width j.val), F (r.val + 16 - k) := by
  have h0 : ∀ q : Fin 528, (concatenate S528x384 0 [⟨S16x384, mulf (extf .f32 (shapeCast S16x384 v10 shapeCasts_S16x384_S16x384) bitsLt_bf16_f32) (broadcast S16x384 (k0_pay7 (F := Ideal) i))⟩,
      ⟨S512x384, k0_pay8 (F := Ideal) v7⟩] concatenates_S16x384_S512x384_S528x384_d0 : FVec Ideal S528x384 .f32) (ix2 q j) = ext9 i v7 v10 j q := fun q => by
    unfold ext9
    pointwise [k0_pay8]
  have h1 := turned1 _ h0
  have h2 := turned2 _ h1
  have h4 := turned4 _ h2
  have h8 := turned8 _ h4
  refine (sel16_at _ _ _ _ r j).trans (Eq.trans ?_ (back_select hF j ⟨r.val + 16, by omega⟩ (by show 15 ≤ r.val + 16; omega)))
  split_ifs
  exacts [h1 _, h2 _, h4 _, h8 _]

theorem pay12_at (v9 : FVec Ideal S512x384 .f32) (v15 : BitVec 32) (v35 : FVec Ideal S512x384 .f32) (r : Fin 512) (j : Fin 384) :
    k0_pay12 v9 v15 v35 (iota .tc S512x384 32 [1] iota_S512x384_d1_w32) k0_pay10 k0_pay11 (ix2 r j)
      = Ideal.div (v35 (ix2 r j)) (cnt (IntOp.addi v15 (BitVec.ofNat 32 r.val)) j.val) - v9 (ix2 r j) := by
  unfold cnt
  pointwise [k0_pay12, k0_pay10, k0_pay11]
  all_goals simp only [slt96, slt192, slt288, select_if, width_select]

theorem pay13_at (v63 : FVec Ideal S512x384 .f32) (v64 : FVec Ideal S1x384 .f32) (r : Fin 512) (j : Fin 384) :
    k0_pay13 (F := Ideal) v63 v64 (ix2 r j) = v63 (ix2 r j) * v64 (ix2 0 j) := by
  pointwise [k0_pay13]

theorem pay14_at (v63 : FVec Ideal S512x384 .f32) (v64 : FVec Ideal S1x384 .f32) (v69 : FVec Ideal S384x384 .bf16) (r : Fin 512) (j : Fin 384) :
    k0_pay14 (F := Ideal) v63 v64 v69 (ix2 r j) = ∑ l : Fin 384, (v63 (ix2 r l) * v64 (ix2 0 l)) * v69 (ix2 j l) := by
  pointwise [k0_pay14, k0_pay13]

theorem pay15_at (v9 : FVec Ideal S512x384 .f32) (v15 : BitVec 32) (v35 : FVec Ideal S512x384 .f32) (v36 : IVec S512x384 32) (v38 : IVec S512x384 1)
    (v39 : IVec S512x384 32) (v60 : FVec Ideal S384x384 .bf16) (v63 : FVec Ideal S512x384 .f32) (j : Fin 384) :
    k0_pay15 (F := Ideal) v9 v15 v35 v36 v38 v39 v60 v63 (ix2 0 j)
      = ∑ r : Fin 512, v63 (ix2 r j) * ∑ l : Fin 384, k0_pay12 v9 v15 v35 v36 v38 v39 (ix2 r l) * v60 (ix2 l j) := by
  pointwise [k0_pay15]

theorem pay16_at (v74 v224 : FVec Ideal S1x384 .f32) (j : Fin 384) :
    k0_pay16 (F := Ideal) v74 v224 (ix2 0 j) = v224 (ix2 0 j) + v74 (ix2 0 j) := by
  pointwise [k0_pay16]

theorem pay17_at (v59 v68 : FVec Ideal S512x384 .bf16) (l j : Fin 384) :
    k0_pay17 (F := Ideal) v59 v68 (ix2 l j) = ∑ r : Fin 512, v59 (ix2 r l) * v68 (ix2 r j) := by
  pointwise [k0_pay17]

theorem pay18_at (v59 v68 : FVec Ideal S512x384 .bf16) (v224 : FVec Ideal S384x384 .f32) (l j : Fin 384) :
    k0_pay18 (F := Ideal) v59 v68 v224 (ix2 l j) = v224 (ix2 l j) + k0_pay17 (F := Ideal) v59 v68 (ix2 l j) := by
  pointwise [k0_pay18]

theorem pay19_at (v0 : BitVec 32) (v71 : FVec Ideal S512x384 .f32) (r : Fin 512) (j : Fin 384) :
    k0_pay19 (F := Ideal) v0 v71 (ix2 r j) = Ideal.div (v71 (ix2 r j)) (cnt (IntOp.addi (Scalar.muli v0 512#32) (BitVec.ofNat 32 r.val)) j.val) := by
  unfold cnt
  pointwise [k0_pay19]
  all_goals simp only [slt96, slt192, slt288, select_if, width_select]

/-- The tile's rows with the 16 rows after them. -/
def ext22 (v110 : FVec Ideal S512x384 .f32) (v111 : FVec Ideal S16x384 .f32) (j : Fin 384) (q : Fin 528) : EReal :=
  if h : q.val < 512 then v110 (ix2 ⟨q.val, h⟩ j) else v111 (ix2 ⟨q.val - 512, by omega⟩ j)

theorem pay22_at (v0 : BitVec 32) (v71 : FVec Ideal S512x384 .f32) (v111 : FVec Ideal S16x384 .f32) (r : Fin 512) (j : Fin 384)
    {F : Nat → EReal} (hF : ∀ q : Fin 528, ext22 (k0_pay19 (F := Ideal) v0 v71) v111 j q = F q.val) :
    k0_pay22 (F := Ideal) v71 (k0_pay20 (F := Ideal) v0 v71 v111) (k0_pay21 (F := Ideal) v0 v71 v111) (ix2 r j)
      = (∑ k ∈ Finset.range (width j.val), F (r.val + k)) - v71 (ix2 r j) := by
  have h0 : ∀ q : Fin 528, (concatenate S528x384 0 [⟨S512x384, k0_pay19 (F := Ideal) v0 v71⟩, ⟨S16x384, v111⟩] concatenates_S512x384_S16x384_S528x384_d0 : FVec Ideal S528x384 .f32) (ix2 q j)
      = ext22 (k0_pay19 (F := Ideal) v0 v71) v111 j q := fun q => by
    unfold ext22
    pointwise
  have h1 := turned527 _ h0
  have h2 := turned526 _ h1
  have h4 := turned524 _ h2
  have h8 := turned520 _ h4
  refine (sel0_at _ _ _ _ _ r j).trans (congrArg (· - v71 (ix2 r j)) (Eq.trans ?_ (fwd_select hF j ⟨r.val, by omega⟩ r.isLt)))
  split_ifs
  exacts [h1 _, h2 _, h4 _, h8 _]

theorem pay23_at (v110 : FVec Ideal S512x384 .f32) (r : Fin 16) (j : Fin 384) :
    k0_pay23 (F := Ideal) v110 (ix2 r j) = v110 (ix2 ⟨r.val, by omega⟩ j) := by
  pointwise [k0_pay23]

/-- The tile's rows of a column with the 8 rows before them. -/
theorem pay30_at (v6 : Ideal .f32) (v148 : FVec Ideal S512x384 .f32) (v152 : FVec Ideal S16x384 .f32) (v153 : FVec Ideal S16x384 .bf16) (r : Fin 512) (j : Fin 384)
    {F : Nat → EReal} (h0 : ∀ q : Fin 8, v152 (ix2 ⟨q.val + 8, by omega⟩ j) * v153 (ix2 ⟨q.val + 8, by omega⟩ j) * v6 = F q.val)
    (h1 : ∀ r : Fin 512, v148 (ix2 r j) = F (r.val + 8)) :
    k0_pay30 (F := Ideal) v6 v148 v152 v153 (ix2 r j) = F (r.val + 7) := by
  pointwise [k0_pay30, k0_pay29]
  split
  · next h =>
    refine Eq.trans ?_ ((h0 ⟨(8 + r.val + 520 - 1) % 520, h⟩).trans (congrArg F (show (8 + r.val + 520 - 1) % 520 = _ by omega)))
    refine congrArg₂ (· * ·) (congrArg₂ (· * ·) (congrArg v152 (congrArg (fun q => ix2 q j) (Fin.ext ?_))) (congrArg v153 (congrArg (fun q => ix2 q j) (Fin.ext ?_)))) rfl
    · show 8 + (8 + r.val + 520 - 1) % 520 = (8 + r.val + 520 - 1) % 520 + 8
      omega
    · show 8 + (8 + r.val + 520 - 1) % 520 = (8 + r.val + 520 - 1) % 520 + 8
      omega
  · exact (h1 _).trans (congrArg F (show (8 + r.val + 520 - 1) % 520 - 8 + 8 = _ by omega))

theorem pay31_at (v6 : Ideal .f32) (v148 : FVec Ideal S512x384 .f32) (v152 : FVec Ideal S16x384 .f32) (v153 : FVec Ideal S16x384 .bf16) (r : Fin 512) (j : Fin 384)
    {F : Nat → EReal} (h0 : ∀ q : Fin 8, v152 (ix2 ⟨q.val + 8, by omega⟩ j) * v153 (ix2 ⟨q.val + 8, by omega⟩ j) * v6 = F q.val)
    (h1 : ∀ r : Fin 512, v148 (ix2 r j) = F (r.val + 8)) :
    k0_pay31 (F := Ideal) v6 v148 v152 v153 (ix2 r j) = F (r.val + 6) := by
  pointwise [k0_pay31, k0_pay29]
  split
  · next h =>
    refine Eq.trans ?_ ((h0 ⟨(8 + r.val + 520 - 2) % 520, h⟩).trans (congrArg F (show (8 + r.val + 520 - 2) % 520 = _ by omega)))
    refine congrArg₂ (· * ·) (congrArg₂ (· * ·) (congrArg v152 (congrArg (fun q => ix2 q j) (Fin.ext ?_))) (congrArg v153 (congrArg (fun q => ix2 q j) (Fin.ext ?_)))) rfl
    · show 8 + (8 + r.val + 520 - 2) % 520 = (8 + r.val + 520 - 2) % 520 + 8
      omega
    · show 8 + (8 + r.val + 520 - 2) % 520 = (8 + r.val + 520 - 2) % 520 + 8
      omega
  · exact (h1 _).trans (congrArg F (show (8 + r.val + 520 - 2) % 520 - 8 + 8 = _ by omega))

theorem pay33_at (v144 : FVec Ideal S512x384 .f32) (v149 : FVec Ideal S3x384 .f32) (v176 : FVec Ideal S512x384 .f32) (v178 : FVec Ideal S8x384 .f32) (r : Fin 512) (j : Fin 384)
    {F : Nat → EReal} (h0 : ∀ r : Fin 512, v176 (ix2 r j) * v144 (ix2 r j) = F r.val) (h1 : ∀ q : Fin 8, v178 (ix2 q j) = F (q.val + 512)) :
    k0_pay33 (F := Ideal) v144 v149 v176 v178 (ix2 r j)
      = (v149 (ix2 2 j) * F r.val + v149 (ix2 1 j) * F (r.val + 1)) + v149 (ix2 0 j) * F (r.val + 2) := by
  pointwise [k0_pay33, k0_pay32]
  refine congrArg₂ (· + ·) (congrArg₂ (· + ·) (congrArg₂ (· * ·) rfl (h0 r)) (congrArg₂ (· * ·) rfl ?_)) (congrArg₂ (· * ·) rfl ?_)
  · split
    · exact (h0 _).trans (congrArg F (show (r.val + 520 - 519) % 520 = _ by omega))
    · exact (h1 _).trans (congrArg F (show (r.val + 520 - 519) % 520 - 512 + 512 = _ by omega))
  · split
    · exact (h0 _).trans (congrArg F (show (r.val + 520 - 518) % 520 = _ by omega))
    · exact (h1 _).trans (congrArg F (show (r.val + 520 - 518) % 520 - 512 + 512 = _ by omega))

theorem pay34_at (v144 v147 : FVec Ideal S512x384 .f32) (v149 : FVec Ideal S3x384 .f32) (v176 : FVec Ideal S512x384 .f32) (v178 : FVec Ideal S8x384 .f32) (r : Fin 512) (j : Fin 384) :
    k0_pay34 (F := Ideal) v144 v147 v149 v176 v178 (ix2 r j) = k0_pay33 (F := Ideal) v144 v149 v176 v178 (ix2 r j) * v147 (ix2 r j) := by
  pointwise [k0_pay34]

theorem pay35_at (v6 : Ideal .f32) (v148 : FVec Ideal S512x384 .f32) (v149 : FVec Ideal S3x384 .f32) (v152 : FVec Ideal S16x384 .f32) (v153 : FVec Ideal S16x384 .bf16)
    (v176 : FVec Ideal S512x384 .f32) (r : Fin 512) (j : Fin 384) :
    k0_pay35 (F := Ideal) v6 v148 v149 v152 v153 v176 (ix2 r j)
      = v176 (ix2 r j) * (v149 (ix2 0 j) * k0_pay31 (F := Ideal) v6 v148 v152 v153 (ix2 r j) + v149 (ix2 1 j) * k0_pay30 (F := Ideal) v6 v148 v152 v153 (ix2 r j)
        + v149 (ix2 2 j) * v148 (ix2 r j)) := by
  pointwise [k0_pay35]

theorem pay1_at (v141 v194 : FVec Ideal S512x384 .f32) (r : Fin 512) (j : Fin 384) :
    k0_pay1 (F := Ideal) v141 v194 (ix2 r j) = v194 (ix2 r j) * v141 (ix2 r j) := by
  pointwise [k0_pay1]

theorem pay2_at (v148 v162 v164 v177 : FVec Ideal S512x384 .f32) (k : Fin 3) (j : Fin 384) :
    k0_pay2 (F := Ideal) v148 v162 v164 v177 (ix2 k j)
      = ∑ r : Fin 512, v177 (ix2 r j) * (if k.val = 0 then v164 (ix2 r j) else if k.val = 1 then v162 (ix2 r j) else v148 (ix2 r j)) := by
  pointwise [k0_pay2]
  have hk := k.isLt
  by_cases h0 : k.val = 0
  · simp [h0]
  by_cases h1 : k.val = 1
  · simp [h1]
  · simp [h0, h1, show ¬k.val < 1 by omega, show ¬k.val - 1 < 1 by omega]

theorem pay3_at (v148 v162 v164 v177 : FVec Ideal S512x384 .f32) (v224 : FVec Ideal S3x384 .f32) (k : Fin 3) (j : Fin 384) :
    k0_pay3 (F := Ideal) v148 v162 v164 v177 v224 (ix2 k j) = v224 (ix2 k j) + k0_pay2 (F := Ideal) v148 v162 v164 v177 (ix2 k j) := by
  pointwise [k0_pay3]

theorem pay4_at (v177 : FVec Ideal S512x384 .f32) (r : Fin 8) (j : Fin 384) :
    k0_pay4 (F := Ideal) v177 (ix2 r j) = v177 (ix2 ⟨r.val, by omega⟩ j) := by
  pointwise [k0_pay4]

end Cert.PoolBlock

end
-- ==== Proof.PoolOuts.lean ====
/- What each output of the pooling-and-convolution backward call, and each carried scratch, holds after each grid point. -/
module

public import proofs.«01_k».proof.Proof.Gen.Kernel3Ideal.Frame.RunB
public import Idealize.ShloMosaic.Lib.Claim

@[expose] public section

set_option maxRecDepth 16384
set_option maxHeartbeats 2000000

noncomputable section

namespace Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section
variable (c : Dev nD) (i : grid0.Coords) (a1 : Memref sig .tc .vmem S512x384 .bf16) (b1 : a1.IsWhole) (a2 : Memref sig .tc .vmem S512x384 .bf16) (b2 : a2.IsWhole) (a3 : Memref sig .tc .vmem S512x384 .bf16) (b3 : a3.IsWhole) (a4 : Memref sig .tc .vmem S512x384 .bf16) (b4 : a4.IsWhole) (a5 : Memref sig .tc .vmem S16x384 .bf16) (b5 : a5.IsWhole) (a6 : Memref sig .tc .vmem S16x384 .bf16) (b6 : a6.IsWhole) (a7 : Memref sig .tc .vmem S16x384 .bf16) (b7 : a7.IsWhole) (a8 : Memref sig .tc .vmem S512x384 .f32) (b8 : a8.IsWhole) (a9 : Memref sig .tc .vmem S512x384 .f32) (b9 : a9.IsWhole) (a10 : Memref sig .tc .vmem S384x384 .bf16) (b10 : a10.IsWhole) (a11 : Memref sig .tc .vmem S1x384 .f32) (b11 : a11.IsWhole) (a12 : Memref sig .tc .vmem S3x384 .f32) (b12 : a12.IsWhole) (a14 : Memref sig .tc .vmem S512x1536 .bf16) (b14 : a14.IsWhole) (a15 : Memref sig .tc .vmem S1x384 .f32) (b15 : a15.IsWhole) (a16 : Memref sig .tc .vmem S384x384 .f32) (b16 : a16.IsWhole) (a17 : Memref sig .tc .vmem S3x384 .f32) (b17 : a17.IsWhole) (a18 : Memref sig .tc .vmem S16x384 .f32) (b18 : a18.IsWhole) (a19 : Memref sig .tc .vmem S8x384 .f32) (b19 : a19.IsWhole) (h0 : cond0_0 i) (h1 : cond0_1 i) (h2 : ¬cond0_2 i) (h3 : cond0_3 i) (h4 : ¬cond0_4 i) (h5 : cond0_5 i) (h6 : ¬cond0_6 i)
    (x0 : Vec F S512x384 .bf16) (x1 : Vec F S512x384 .bf16) (x2 : Vec F S512x384 .bf16) (x3 : Vec F S512x384 .bf16) (x4 : Vec F S16x384 .bf16) (x5 : Vec F S16x384 .bf16) (x6 : Vec F S16x384 .bf16) (x7 : Vec F S512x384 .f32) (x8 : Vec F S512x384 .f32) (x9 : Vec F S384x384 .bf16) (x10 : Vec F S1x384 .f32) (x11 : Vec F S3x384 .f32)

/-- Case A's stores cover output 12's block. -/
theorem cover0_A_12 (y : S512x1536.Idx) :
    ∃ pc ∈ (kernelRun0_A c i a1 b1 a2 b2 a3 b3 a4 b4 a5 b5 a6 b6 a7 b7 a8 b8 a9 b9 a10 b10 a11 b11 a12 b12 a14 b14 a15 b15 a16 b16 a17 b17 a18 b18 a19 b19 h0 h1 h2 h3 h4 h5 h6 x0 x1 x2 x3 x4 x5 x6 x7 x8 x9 x10 x11).1, y ∈ pc.1.set :=
  View.cover_of_tiledL (s := S512x1536) _ S512x384.size (by sl_kernel_rfl) y

/-- What case A leaves in output 12's buffer. -/
def out0_A_12 : Vec F S512x1536 .bf16 :=
  VO0_12.read (Elt F) (VO0_12.writes (Elt F) VO0_12.junk (kernelRun0_A c i a1 b1 a2 b2 a3 b3 a4 b4 a5 b5 a6 b6 a7 b7 a8 b8 a9 b9 a10 b10 a11 b11 a12 b12 a14 b14 a15 b15 a16 b16 a17 b17 a18 b18 a19 b19 h0 h1 h2 h3 h4 h5 h6 x0 x1 x2 x3 x4 x5 x6 x7 x8 x9 x10 x11).1)

/-- Case A's stores cover output 13's block. -/
theorem cover0_A_13 (y : S1x384.Idx) :
    ∃ pc ∈ (kernelRun0_A c i a1 b1 a2 b2 a3 b3 a4 b4 a5 b5 a6 b6 a7 b7 a8 b8 a9 b9 a10 b10 a11 b11 a12 b12 a14 b14 a15 b15 a16 b16 a17 b17 a18 b18 a19 b19 h0 h1 h2 h3 h4 h5 h6 x0 x1 x2 x3 x4 x5 x6 x7 x8 x9 x10 x11).2.1, y ∈ pc.1.set :=
  View.cover_of_tiledL _ S1x384.size (by sl_kernel_rfl) y

/-- What case A leaves in output 13's buffer. -/
def out0_A_13 : Vec F S1x384 .f32 :=
  VO0_13.read (Elt F) (VO0_13.writes (Elt F) VO0_13.junk (kernelRun0_A c i a1 b1 a2 b2 a3 b3 a4 b4 a5 b5 a6 b6 a7 b7 a8 b8 a9 b9 a10 b10 a11 b11 a12 b12 a14 b14 a15 b15 a16 b16 a17 b17 a18 b18 a19 b19 h0 h1 h2 h3 h4 h5 h6 x0 x1 x2 x3 x4 x5 x6 x7 x8 x9 x10 x11).2.1)

/-- Case A's stores cover output 14's block. -/
theorem cover0_A_14 (y : S384x384.Idx) :
    ∃ pc ∈ (kernelRun0_A c i a1 b1 a2 b2 a3 b3 a4 b4 a5 b5 a6 b6 a7 b7 a8 b8 a9 b9 a10 b10 a11 b11 a12 b12 a14 b14 a15 b15 a16 b16 a17 b17 a18 b18 a19 b19 h0 h1 h2 h3 h4 h5 h6 x0 x1 x2 x3 x4 x5 x6 x7 x8 x9 x10 x11).2.2.1, y ∈ pc.1.set :=
  View.cover_of_tiledL _ S384x384.size (by sl_kernel_rfl) y

/-- What case A leaves in output 14's buffer. -/
def out0_A_14 : Vec F S384x384 .f32 :=
  VO0_14.read (Elt F) (VO0_14.writes (Elt F) VO0_14.junk (kernelRun0_A c i a1 b1 a2 b2 a3 b3 a4 b4 a5 b5 a6 b6 a7 b7 a8 b8 a9 b9 a10 b10 a11 b11 a12 b12 a14 b14 a15 b15 a16 b16 a17 b17 a18 b18 a19 b19 h0 h1 h2 h3 h4 h5 h6 x0 x1 x2 x3 x4 x5 x6 x7 x8 x9 x10 x11).2.2.1)

/-- Case A's stores cover output 15's block. -/
theorem cover0_A_15 (y : S3x384.Idx) :
    ∃ pc ∈ (kernelRun0_A c i a1 b1 a2 b2 a3 b3 a4 b4 a5 b5 a6 b6 a7 b7 a8 b8 a9 b9 a10 b10 a11 b11 a12 b12 a14 b14 a15 b15 a16 b16 a17 b17 a18 b18 a19 b19 h0 h1 h2 h3 h4 h5 h6 x0 x1 x2 x3 x4 x5 x6 x7 x8 x9 x10 x11).2.2.2.1, y ∈ pc.1.set :=
  View.cover_of_tiledL _ S3x384.size (by sl_kernel_rfl) y

/-- What case A leaves in output 15's buffer. -/
def out0_A_15 : Vec F S3x384 .f32 :=
  VO0_15.read (Elt F) (VO0_15.writes (Elt F) VO0_15.junk (kernelRun0_A c i a1 b1 a2 b2 a3 b3 a4 b4 a5 b5 a6 b6 a7 b7 a8 b8 a9 b9 a10 b10 a11 b11 a12 b12 a14 b14 a15 b15 a16 b16 a17 b17 a18 b18 a19 b19 h0 h1 h2 h3 h4 h5 h6 x0 x1 x2 x3 x4 x5 x6 x7 x8 x9 x10 x11).2.2.2.1)

/-- Case A's stores cover the carried scratch `arg18`. -/
theorem scover0_A_0 (y : S16x384.Idx) :
    ∃ pc ∈ (kernelRun0_A c i a1 b1 a2 b2 a3 b3 a4 b4 a5 b5 a6 b6 a7 b7 a8 b8 a9 b9 a10 b10 a11 b11 a12 b12 a14 b14 a15 b15 a16 b16 a17 b17 a18 b18 a19 b19 h0 h1 h2 h3 h4 h5 h6 x0 x1 x2 x3 x4 x5 x6 x7 x8 x9 x10 x11).2.2.2.2.1, y ∈ pc.1.set :=
  View.cover_of_tiledL _ S16x384.size (by sl_kernel_rfl) y

/-- What case A leaves in scratch `arg18`. -/
def sout0_A_0 : Vec F S16x384 .f32 :=
  VS0_0.read (Elt F) (VS0_0.writes (Elt F) VS0_0.junk (kernelRun0_A c i a1 b1 a2 b2 a3 b3 a4 b4 a5 b5 a6 b6 a7 b7 a8 b8 a9 b9 a10 b10 a11 b11 a12 b12 a14 b14 a15 b15 a16 b16 a17 b17 a18 b18 a19 b19 h0 h1 h2 h3 h4 h5 h6 x0 x1 x2 x3 x4 x5 x6 x7 x8 x9 x10 x11).2.2.2.2.1)

/-- Case A's stores cover the carried scratch `arg19`. -/
theorem scover0_A_1 (y : S8x384.Idx) :
    ∃ pc ∈ (kernelRun0_A c i a1 b1 a2 b2 a3 b3 a4 b4 a5 b5 a6 b6 a7 b7 a8 b8 a9 b9 a10 b10 a11 b11 a12 b12 a14 b14 a15 b15 a16 b16 a17 b17 a18 b18 a19 b19 h0 h1 h2 h3 h4 h5 h6 x0 x1 x2 x3 x4 x5 x6 x7 x8 x9 x10 x11).2.2.2.2.2.1, y ∈ pc.1.set :=
  View.cover_of_tiledL _ S8x384.size (by sl_kernel_rfl) y

/-- What case A leaves in scratch `arg19`. -/
def sout0_A_1 : Vec F S8x384 .f32 :=
  VS0_1.read (Elt F) (VS0_1.writes (Elt F) VS0_1.junk (kernelRun0_A c i a1 b1 a2 b2 a3 b3 a4 b4 a5 b5 a6 b6 a7 b7 a8 b8 a9 b9 a10 b10 a11 b11 a12 b12 a14 b14 a15 b15 a16 b16 a17 b17 a18 b18 a19 b19 h0 h1 h2 h3 h4 h5 h6 x0 x1 x2 x3 x4 x5 x6 x7 x8 x9 x10 x11).2.2.2.2.2.1)

end

section
variable (c : Dev nD) (i : grid0.Coords) (a1 : Memref sig .tc .vmem S512x384 .bf16) (b1 : a1.IsWhole) (a2 : Memref sig .tc .vmem S512x384 .bf16) (b2 : a2.IsWhole) (a3 : Memref sig .tc .vmem S512x384 .bf16) (b3 : a3.IsWhole) (a4 : Memref sig .tc .vmem S512x384 .bf16) (b4 : a4.IsWhole) (a5 : Memref sig .tc .vmem S16x384 .bf16) (b5 : a5.IsWhole) (a6 : Memref sig .tc .vmem S16x384 .bf16) (b6 : a6.IsWhole) (a7 : Memref sig .tc .vmem S16x384 .bf16) (b7 : a7.IsWhole) (a8 : Memref sig .tc .vmem S512x384 .f32) (b8 : a8.IsWhole) (a9 : Memref sig .tc .vmem S512x384 .f32) (b9 : a9.IsWhole) (a10 : Memref sig .tc .vmem S384x384 .bf16) (b10 : a10.IsWhole) (a11 : Memref sig .tc .vmem S1x384 .f32) (b11 : a11.IsWhole) (a12 : Memref sig .tc .vmem S3x384 .f32) (b12 : a12.IsWhole) (a14 : Memref sig .tc .vmem S512x1536 .bf16) (b14 : a14.IsWhole) (a15 : Memref sig .tc .vmem S1x384 .f32) (b15 : a15.IsWhole) (a16 : Memref sig .tc .vmem S384x384 .f32) (b16 : a16.IsWhole) (a17 : Memref sig .tc .vmem S3x384 .f32) (b17 : a17.IsWhole) (a18 : Memref sig .tc .vmem S16x384 .f32) (b18 : a18.IsWhole) (a19 : Memref sig .tc .vmem S8x384 .f32) (b19 : a19.IsWhole) (h0 : ¬cond0_0 i) (h1 : ¬cond0_1 i) (h2 : cond0_2 i) (h3 : ¬cond0_3 i) (h4 : cond0_4 i) (h5 : ¬cond0_5 i) (h6 : cond0_6 i)
    (x0 : Vec F S512x384 .bf16) (x1 : Vec F S512x384 .bf16) (x2 : Vec F S512x384 .bf16) (x3 : Vec F S512x384 .bf16) (x4 : Vec F S16x384 .bf16) (x5 : Vec F S16x384 .bf16) (x6 : Vec F S16x384 .bf16) (x7 : Vec F S512x384 .f32) (x8 : Vec F S512x384 .f32) (x9 : Vec F S384x384 .bf16) (x10 : Vec F S1x384 .f32) (x11 : Vec F S3x384 .f32) (xo13 : Vec F S1x384 .f32) (xo14 : Vec F S384x384 .f32) (xo15 : Vec F S3x384 .f32) (xs0 : Vec F S16x384 .f32) (xs1 : Vec F S8x384 .f32)

/-- Case B's stores cover output 12's block. -/
theorem cover0_B_12 (y : S512x1536.Idx) :
    ∃ pc ∈ (kernelRun0_B c i a1 b1 a2 b2 a3 b3 a4 b4 a5 b5 a6 b6 a7 b7 a8 b8 a9 b9 a10 b10 a11 b11 a12 b12 a14 b14 a15 b15 a16 b16 a17 b17 a18 b18 a19 b19 h0 h1 h2 h3 h4 h5 h6 x0 x1 x2 x3 x4 x5 x6 x7 x8 x9 x10 x11 xo13 xo14 xo15 xs0 xs1).1, y ∈ pc.1.set :=
  View.cover_of_tiledL (s := S512x1536) _ S512x384.size (by sl_kernel_rfl) y

/-- What case B leaves in output 12's buffer. -/
def out0_B_12 : Vec F S512x1536 .bf16 :=
  VO0_12.read (Elt F) (VO0_12.writes (Elt F) VO0_12.junk (kernelRun0_B c i a1 b1 a2 b2 a3 b3 a4 b4 a5 b5 a6 b6 a7 b7 a8 b8 a9 b9 a10 b10 a11 b11 a12 b12 a14 b14 a15 b15 a16 b16 a17 b17 a18 b18 a19 b19 h0 h1 h2 h3 h4 h5 h6 x0 x1 x2 x3 x4 x5 x6 x7 x8 x9 x10 x11 xo13 xo14 xo15 xs0 xs1).1)

/-- Case B's stores cover output 13's block. -/
theorem cover0_B_13 (y : S1x384.Idx) :
    ∃ pc ∈ (kernelRun0_B c i a1 b1 a2 b2 a3 b3 a4 b4 a5 b5 a6 b6 a7 b7 a8 b8 a9 b9 a10 b10 a11 b11 a12 b12 a14 b14 a15 b15 a16 b16 a17 b17 a18 b18 a19 b19 h0 h1 h2 h3 h4 h5 h6 x0 x1 x2 x3 x4 x5 x6 x7 x8 x9 x10 x11 xo13 xo14 xo15 xs0 xs1).2.1, y ∈ pc.1.set :=
  View.cover_of_tiledL _ S1x384.size (by sl_kernel_rfl) y

/-- What case B leaves in output 13's buffer. -/
def out0_B_13 : Vec F S1x384 .f32 :=
  VO0_13.read (Elt F) (VO0_13.writes (Elt F) VO0_13.junk (kernelRun0_B c i a1 b1 a2 b2 a3 b3 a4 b4 a5 b5 a6 b6 a7 b7 a8 b8 a9 b9 a10 b10 a11 b11 a12 b12 a14 b14 a15 b15 a16 b16 a17 b17 a18 b18 a19 b19 h0 h1 h2 h3 h4 h5 h6 x0 x1 x2 x3 x4 x5 x6 x7 x8 x9 x10 x11 xo13 xo14 xo15 xs0 xs1).2.1)

/-- Case B's stores cover output 14's block. -/
theorem cover0_B_14 (y : S384x384.Idx) :
    ∃ pc ∈ (kernelRun0_B c i a1 b1 a2 b2 a3 b3 a4 b4 a5 b5 a6 b6 a7 b7 a8 b8 a9 b9 a10 b10 a11 b11 a12 b12 a14 b14 a15 b15 a16 b16 a17 b17 a18 b18 a19 b19 h0 h1 h2 h3 h4 h5 h6 x0 x1 x2 x3 x4 x5 x6 x7 x8 x9 x10 x11 xo13 xo14 xo15 xs0 xs1).2.2.1, y ∈ pc.1.set :=
  View.cover_of_tiledL _ S384x384.size (by sl_kernel_rfl) y

/-- What case B leaves in output 14's buffer. -/
def out0_B_14 : Vec F S384x384 .f32 :=
  VO0_14.read (Elt F) (VO0_14.writes (Elt F) VO0_14.junk (kernelRun0_B c i a1 b1 a2 b2 a3 b3 a4 b4 a5 b5 a6 b6 a7 b7 a8 b8 a9 b9 a10 b10 a11 b11 a12 b12 a14 b14 a15 b15 a16 b16 a17 b17 a18 b18 a19 b19 h0 h1 h2 h3 h4 h5 h6 x0 x1 x2 x3 x4 x5 x6 x7 x8 x9 x10 x11 xo13 xo14 xo15 xs0 xs1).2.2.1)

/-- Case B's stores cover output 15's block. -/
theorem cover0_B_15 (y : S3x384.Idx) :
    ∃ pc ∈ (kernelRun0_B c i a1 b1 a2 b2 a3 b3 a4 b4 a5 b5 a6 b6 a7 b7 a8 b8 a9 b9 a10 b10 a11 b11 a12 b12 a14 b14 a15 b15 a16 b16 a17 b17 a18 b18 a19 b19 h0 h1 h2 h3 h4 h5 h6 x0 x1 x2 x3 x4 x5 x6 x7 x8 x9 x10 x11 xo13 xo14 xo15 xs0 xs1).2.2.2.1, y ∈ pc.1.set :=
  View.cover_of_tiledL _ S3x384.size (by sl_kernel_rfl) y

/-- What case B leaves in output 15's buffer. -/
def out0_B_15 : Vec F S3x384 .f32 :=
  VO0_15.read (Elt F) (VO0_15.writes (Elt F) VO0_15.junk (kernelRun0_B c i a1 b1 a2 b2 a3 b3 a4 b4 a5 b5 a6 b6 a7 b7 a8 b8 a9 b9 a10 b10 a11 b11 a12 b12 a14 b14 a15 b15 a16 b16 a17 b17 a18 b18 a19 b19 h0 h1 h2 h3 h4 h5 h6 x0 x1 x2 x3 x4 x5 x6 x7 x8 x9 x10 x11 xo13 xo14 xo15 xs0 xs1).2.2.2.1)

/-- Case B's stores cover the carried scratch `arg18`. -/
theorem scover0_B_0 (y : S16x384.Idx) :
    ∃ pc ∈ (kernelRun0_B c i a1 b1 a2 b2 a3 b3 a4 b4 a5 b5 a6 b6 a7 b7 a8 b8 a9 b9 a10 b10 a11 b11 a12 b12 a14 b14 a15 b15 a16 b16 a17 b17 a18 b18 a19 b19 h0 h1 h2 h3 h4 h5 h6 x0 x1 x2 x3 x4 x5 x6 x7 x8 x9 x10 x11 xo13 xo14 xo15 xs0 xs1).2.2.2.2.1, y ∈ pc.1.set :=
  View.cover_of_tiledL _ S16x384.size (by sl_kernel_rfl) y

/-- What case B leaves in scratch `arg18`. -/
def sout0_B_0 : Vec F S16x384 .f32 :=
  VS0_0.read (Elt F) (VS0_0.writes (Elt F) VS0_0.junk (kernelRun0_B c i a1 b1 a2 b2 a3 b3 a4 b4 a5 b5 a6 b6 a7 b7 a8 b8 a9 b9 a10 b10 a11 b11 a12 b12 a14 b14 a15 b15 a16 b16 a17 b17 a18 b18 a19 b19 h0 h1 h2 h3 h4 h5 h6 x0 x1 x2 x3 x4 x5 x6 x7 x8 x9 x10 x11 xo13 xo14 xo15 xs0 xs1).2.2.2.2.1)

/-- Case B's stores cover the carried scratch `arg19`. -/
theorem scover0_B_1 (y : S8x384.Idx) :
    ∃ pc ∈ (kernelRun0_B c i a1 b1 a2 b2 a3 b3 a4 b4 a5 b5 a6 b6 a7 b7 a8 b8 a9 b9 a10 b10 a11 b11 a12 b12 a14 b14 a15 b15 a16 b16 a17 b17 a18 b18 a19 b19 h0 h1 h2 h3 h4 h5 h6 x0 x1 x2 x3 x4 x5 x6 x7 x8 x9 x10 x11 xo13 xo14 xo15 xs0 xs1).2.2.2.2.2.1, y ∈ pc.1.set :=
  View.cover_of_tiledL _ S8x384.size (by sl_kernel_rfl) y

/-- What case B leaves in scratch `arg19`. -/
def sout0_B_1 : Vec F S8x384 .f32 :=
  VS0_1.read (Elt F) (VS0_1.writes (Elt F) VS0_1.junk (kernelRun0_B c i a1 b1 a2 b2 a3 b3 a4 b4 a5 b5 a6 b6 a7 b7 a8 b8 a9 b9 a10 b10 a11 b11 a12 b12 a14 b14 a15 b15 a16 b16 a17 b17 a18 b18 a19 b19 h0 h1 h2 h3 h4 h5 h6 x0 x1 x2 x3 x4 x5 x6 x7 x8 x9 x10 x11 xo13 xo14 xo15 xs0 xs1).2.2.2.2.2.1)

/-! ## What the outputs hold after each point -/

end

/-- What the outputs' buffers and the carried scratch hold after point `n`: the contents of that point's case, over what the
    point before left where the case reads or keeps it. -/
def outsAt0 (c : Dev nD) : (n : ℕ) → n < cfg0.N → Vec F S512x1536 .bf16 × Vec F S1x384 .f32 × Vec F S384x384 .f32 × Vec F S3x384 .f32 × Vec F S16x384 .f32 × Vec F S8x384 .f32
  | 0, hn => (out0_A_12 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) scM0_0 (Memref.isWhole_whole _) scM0_1 (Memref.isWhole_whole _) ((hcond0_0 ⟨0, hn⟩).mpr (Nat.zero_mod _)) ((hcond0_1 ⟨0, hn⟩).mpr (Nat.zero_mod _)) (fun h => (fun h => by (try dsimp only at h); omega) ((hcond0_2 ⟨0, hn⟩).mp h)) ((hcond0_3 ⟨0, hn⟩).mpr (Nat.zero_mod _)) (fun h => (fun h => by (try dsimp only at h); omega) ((hcond0_4 ⟨0, hn⟩).mp h)) ((hcond0_5 ⟨0, hn⟩).mpr (Nat.zero_mod _)) (fun h => (fun h => by (try dsimp only at h); omega) ((hcond0_6 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩), out0_A_13 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) scM0_0 (Memref.isWhole_whole _) scM0_1 (Memref.isWhole_whole _) ((hcond0_0 ⟨0, hn⟩).mpr (Nat.zero_mod _)) ((hcond0_1 ⟨0, hn⟩).mpr (Nat.zero_mod _)) (fun h => (fun h => by (try dsimp only at h); omega) ((hcond0_2 ⟨0, hn⟩).mp h)) ((hcond0_3 ⟨0, hn⟩).mpr (Nat.zero_mod _)) (fun h => (fun h => by (try dsimp only at h); omega) ((hcond0_4 ⟨0, hn⟩).mp h)) ((hcond0_5 ⟨0, hn⟩).mpr (Nat.zero_mod _)) (fun h => (fun h => by (try dsimp only at h); omega) ((hcond0_6 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩), out0_A_14 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) scM0_0 (Memref.isWhole_whole _) scM0_1 (Memref.isWhole_whole _) ((hcond0_0 ⟨0, hn⟩).mpr (Nat.zero_mod _)) ((hcond0_1 ⟨0, hn⟩).mpr (Nat.zero_mod _)) (fun h => (fun h => by (try dsimp only at h); omega) ((hcond0_2 ⟨0, hn⟩).mp h)) ((hcond0_3 ⟨0, hn⟩).mpr (Nat.zero_mod _)) (fun h => (fun h => by (try dsimp only at h); omega) ((hcond0_4 ⟨0, hn⟩).mp h)) ((hcond0_5 ⟨0, hn⟩).mpr (Nat.zero_mod _)) (fun h => (fun h => by (try dsimp only at h); omega) ((hcond0_6 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩), out0_A_15 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) scM0_0 (Memref.isWhole_whole _) scM0_1 (Memref.isWhole_whole _) ((hcond0_0 ⟨0, hn⟩).mpr (Nat.zero_mod _)) ((hcond0_1 ⟨0, hn⟩).mpr (Nat.zero_mod _)) (fun h => (fun h => by (try dsimp only at h); omega) ((hcond0_2 ⟨0, hn⟩).mp h)) ((hcond0_3 ⟨0, hn⟩).mpr (Nat.zero_mod _)) (fun h => (fun h => by (try dsimp only at h); omega) ((hcond0_4 ⟨0, hn⟩).mp h)) ((hcond0_5 ⟨0, hn⟩).mpr (Nat.zero_mod _)) (fun h => (fun h => by (try dsimp only at h); omega) ((hcond0_6 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) scM0_0 (Memref.isWhole_whole _) scM0_1 (Memref.isWhole_whole _) ((hcond0_0 ⟨0, hn⟩).mpr (Nat.zero_mod _)) ((hcond0_1 ⟨0, hn⟩).mpr (Nat.zero_mod _)) (fun h => (fun h => by (try dsimp only at h); omega) ((hcond0_2 ⟨0, hn⟩).mp h)) ((hcond0_3 ⟨0, hn⟩).mpr (Nat.zero_mod _)) (fun h => (fun h => by (try dsimp only at h); omega) ((hcond0_4 ⟨0, hn⟩).mp h)) ((hcond0_5 ⟨0, hn⟩).mpr (Nat.zero_mod _)) (fun h => (fun h => by (try dsimp only at h); omega) ((hcond0_6 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) scM0_0 (Memref.isWhole_whole _) scM0_1 (Memref.isWhole_whole _) ((hcond0_0 ⟨0, hn⟩).mpr (Nat.zero_mod _)) ((hcond0_1 ⟨0, hn⟩).mpr (Nat.zero_mod _)) (fun h => (fun h => by (try dsimp only at h); omega) ((hcond0_2 ⟨0, hn⟩).mp h)) ((hcond0_3 ⟨0, hn⟩).mpr (Nat.zero_mod _)) (fun h => (fun h => by (try dsimp only at h); omega) ((hcond0_4 ⟨0, hn⟩).mp h)) ((hcond0_5 ⟨0, hn⟩).mpr (Nat.zero_mod _)) (fun h => (fun h => by (try dsimp only at h); omega) ((hcond0_6 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩))
  | n + 1, hn =>
    if h0 : (n + 1) % 8 = 0 then
      if h1 : (n + 1) % 8 = 0 then
        if h2 : 1 ≤ (n + 1) then
          False.elim (by have hN : n + 1 < 8 := lt_of_lt_of_eq hn (show cfg0.N = 8 from N_0); omega)
        else
          if h3 : (n + 1) % 8 = 0 then
            if h4 : 1 ≤ (n + 1) then
              False.elim (by have hN : n + 1 < 8 := lt_of_lt_of_eq hn (show cfg0.N = 8 from N_0); omega)
            else
              if h5 : (n + 1) % 8 = 0 then
                if h6 : 1 ≤ (n + 1) then
                  False.elim (by have hN : n + 1 < 8 := lt_of_lt_of_eq hn (show cfg0.N = 8 from N_0); omega)
                else
                  (out0_A_12 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) scM0_0 (Memref.isWhole_whole _) scM0_1 (Memref.isWhole_whole _) ((hcond0_0 ⟨n + 1, hn⟩).mpr h0) ((hcond0_1 ⟨n + 1, hn⟩).mpr h1) (fun h => h2 ((hcond0_2 ⟨n + 1, hn⟩).mp h)) ((hcond0_3 ⟨n + 1, hn⟩).mpr h3) (fun h => h4 ((hcond0_4 ⟨n + 1, hn⟩).mp h)) ((hcond0_5 ⟨n + 1, hn⟩).mpr h5) (fun h => h6 ((hcond0_6 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩), out0_A_13 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) scM0_0 (Memref.isWhole_whole _) scM0_1 (Memref.isWhole_whole _) ((hcond0_0 ⟨n + 1, hn⟩).mpr h0) ((hcond0_1 ⟨n + 1, hn⟩).mpr h1) (fun h => h2 ((hcond0_2 ⟨n + 1, hn⟩).mp h)) ((hcond0_3 ⟨n + 1, hn⟩).mpr h3) (fun h => h4 ((hcond0_4 ⟨n + 1, hn⟩).mp h)) ((hcond0_5 ⟨n + 1, hn⟩).mpr h5) (fun h => h6 ((hcond0_6 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩), out0_A_14 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) scM0_0 (Memref.isWhole_whole _) scM0_1 (Memref.isWhole_whole _) ((hcond0_0 ⟨n + 1, hn⟩).mpr h0) ((hcond0_1 ⟨n + 1, hn⟩).mpr h1) (fun h => h2 ((hcond0_2 ⟨n + 1, hn⟩).mp h)) ((hcond0_3 ⟨n + 1, hn⟩).mpr h3) (fun h => h4 ((hcond0_4 ⟨n + 1, hn⟩).mp h)) ((hcond0_5 ⟨n + 1, hn⟩).mpr h5) (fun h => h6 ((hcond0_6 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩), out0_A_15 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) scM0_0 (Memref.isWhole_whole _) scM0_1 (Memref.isWhole_whole _) ((hcond0_0 ⟨n + 1, hn⟩).mpr h0) ((hcond0_1 ⟨n + 1, hn⟩).mpr h1) (fun h => h2 ((hcond0_2 ⟨n + 1, hn⟩).mp h)) ((hcond0_3 ⟨n + 1, hn⟩).mpr h3) (fun h => h4 ((hcond0_4 ⟨n + 1, hn⟩).mp h)) ((hcond0_5 ⟨n + 1, hn⟩).mpr h5) (fun h => h6 ((hcond0_6 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) scM0_0 (Memref.isWhole_whole _) scM0_1 (Memref.isWhole_whole _) ((hcond0_0 ⟨n + 1, hn⟩).mpr h0) ((hcond0_1 ⟨n + 1, hn⟩).mpr h1) (fun h => h2 ((hcond0_2 ⟨n + 1, hn⟩).mp h)) ((hcond0_3 ⟨n + 1, hn⟩).mpr h3) (fun h => h4 ((hcond0_4 ⟨n + 1, hn⟩).mp h)) ((hcond0_5 ⟨n + 1, hn⟩).mpr h5) (fun h => h6 ((hcond0_6 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) scM0_0 (Memref.isWhole_whole _) scM0_1 (Memref.isWhole_whole _) ((hcond0_0 ⟨n + 1, hn⟩).mpr h0) ((hcond0_1 ⟨n + 1, hn⟩).mpr h1) (fun h => h2 ((hcond0_2 ⟨n + 1, hn⟩).mp h)) ((hcond0_3 ⟨n + 1, hn⟩).mpr h3) (fun h => h4 ((hcond0_4 ⟨n + 1, hn⟩).mp h)) ((hcond0_5 ⟨n + 1, hn⟩).mpr h5) (fun h => h6 ((hcond0_6 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩))
              else
                False.elim (by have hN : n + 1 < 8 := lt_of_lt_of_eq hn (show cfg0.N = 8 from N_0); omega)
          else
            False.elim (by have hN : n + 1 < 8 := lt_of_lt_of_eq hn (show cfg0.N = 8 from N_0); omega)
      else
        False.elim (by have hN : n + 1 < 8 := lt_of_lt_of_eq hn (show cfg0.N = 8 from N_0); omega)
    else
      if h1 : (n + 1) % 8 = 0 then
        False.elim (by have hN : n + 1 < 8 := lt_of_lt_of_eq hn (show cfg0.N = 8 from N_0); omega)
      else
        if h2 : 1 ≤ (n + 1) then
          if h3 : (n + 1) % 8 = 0 then
            False.elim (by have hN : n + 1 < 8 := lt_of_lt_of_eq hn (show cfg0.N = 8 from N_0); omega)
          else
            if h4 : 1 ≤ (n + 1) then
              if h5 : (n + 1) % 8 = 0 then
                False.elim (by have hN : n + 1 < 8 := lt_of_lt_of_eq hn (show cfg0.N = 8 from N_0); omega)
              else
                if h6 : 1 ≤ (n + 1) then
                  (out0_B_12 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) ((hcond0_2 ⟨n + 1, hn⟩).mpr h2) (fun h => h3 ((hcond0_3 ⟨n + 1, hn⟩).mp h)) ((hcond0_4 ⟨n + 1, hn⟩).mpr h4) (fun h => h5 ((hcond0_5 ⟨n + 1, hn⟩).mp h)) ((hcond0_6 ⟨n + 1, hn⟩).mpr h6) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2, out0_B_13 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) ((hcond0_2 ⟨n + 1, hn⟩).mpr h2) (fun h => h3 ((hcond0_3 ⟨n + 1, hn⟩).mp h)) ((hcond0_4 ⟨n + 1, hn⟩).mpr h4) (fun h => h5 ((hcond0_5 ⟨n + 1, hn⟩).mp h)) ((hcond0_6 ⟨n + 1, hn⟩).mpr h6) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2, out0_B_14 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) ((hcond0_2 ⟨n + 1, hn⟩).mpr h2) (fun h => h3 ((hcond0_3 ⟨n + 1, hn⟩).mp h)) ((hcond0_4 ⟨n + 1, hn⟩).mpr h4) (fun h => h5 ((hcond0_5 ⟨n + 1, hn⟩).mp h)) ((hcond0_6 ⟨n + 1, hn⟩).mpr h6) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2, out0_B_15 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) ((hcond0_2 ⟨n + 1, hn⟩).mpr h2) (fun h => h3 ((hcond0_3 ⟨n + 1, hn⟩).mp h)) ((hcond0_4 ⟨n + 1, hn⟩).mpr h4) (fun h => h5 ((hcond0_5 ⟨n + 1, hn⟩).mp h)) ((hcond0_6 ⟨n + 1, hn⟩).mpr h6) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) ((hcond0_2 ⟨n + 1, hn⟩).mpr h2) (fun h => h3 ((hcond0_3 ⟨n + 1, hn⟩).mp h)) ((hcond0_4 ⟨n + 1, hn⟩).mpr h4) (fun h => h5 ((hcond0_5 ⟨n + 1, hn⟩).mp h)) ((hcond0_6 ⟨n + 1, hn⟩).mpr h6) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) ((hcond0_2 ⟨n + 1, hn⟩).mpr h2) (fun h => h3 ((hcond0_3 ⟨n + 1, hn⟩).mp h)) ((hcond0_4 ⟨n + 1, hn⟩).mpr h4) (fun h => h5 ((hcond0_5 ⟨n + 1, hn⟩).mp h)) ((hcond0_6 ⟨n + 1, hn⟩).mpr h6) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2)
                else
                  False.elim (by have hN : n + 1 < 8 := lt_of_lt_of_eq hn (show cfg0.N = 8 from N_0); omega)
            else
              False.elim (by have hN : n + 1 < 8 := lt_of_lt_of_eq hn (show cfg0.N = 8 from N_0); omega)
        else
          False.elim (by have hN : n + 1 < 8 := lt_of_lt_of_eq hn (show cfg0.N = 8 from N_0); omega)

/-- `outsAt0` at a point of case A: that case's contents. -/
theorem outsAt0_A (c : Dev nD) (t : Fin cfg0.N) (h0 : t.val % 8 = 0) (h1 : t.val % 8 = 0) (h2 : ¬1 ≤ t.val) (h3 : t.val % 8 = 0) (h4 : ¬1 ≤ t.val) (h5 : t.val % 8 = 0) (h6 : ¬1 ≤ t.val) :
    outsAt0 m c t.val t.isLt = (out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) ((hcond0_0 t).mpr h0) ((hcond0_1 t).mpr h1) (fun h => h2 ((hcond0_2 t).mp h)) ((hcond0_3 t).mpr h3) (fun h => h4 ((hcond0_4 t).mp h)) ((hcond0_5 t).mpr h5) (fun h => h6 ((hcond0_6 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t), out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) ((hcond0_0 t).mpr h0) ((hcond0_1 t).mpr h1) (fun h => h2 ((hcond0_2 t).mp h)) ((hcond0_3 t).mpr h3) (fun h => h4 ((hcond0_4 t).mp h)) ((hcond0_5 t).mpr h5) (fun h => h6 ((hcond0_6 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t), out0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) ((hcond0_0 t).mpr h0) ((hcond0_1 t).mpr h1) (fun h => h2 ((hcond0_2 t).mp h)) ((hcond0_3 t).mpr h3) (fun h => h4 ((hcond0_4 t).mp h)) ((hcond0_5 t).mpr h5) (fun h => h6 ((hcond0_6 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t), out0_A_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) ((hcond0_0 t).mpr h0) ((hcond0_1 t).mpr h1) (fun h => h2 ((hcond0_2 t).mp h)) ((hcond0_3 t).mpr h3) (fun h => h4 ((hcond0_4 t).mp h)) ((hcond0_5 t).mpr h5) (fun h => h6 ((hcond0_6 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) ((hcond0_0 t).mpr h0) ((hcond0_1 t).mpr h1) (fun h => h2 ((hcond0_2 t).mp h)) ((hcond0_3 t).mpr h3) (fun h => h4 ((hcond0_4 t).mp h)) ((hcond0_5 t).mpr h5) (fun h => h6 ((hcond0_6 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) ((hcond0_0 t).mpr h0) ((hcond0_1 t).mpr h1) (fun h => h2 ((hcond0_2 t).mp h)) ((hcond0_3 t).mpr h3) (fun h => h4 ((hcond0_4 t).mp h)) ((hcond0_5 t).mpr h5) (fun h => h6 ((hcond0_6 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) := by
  obtain ⟨n, hn⟩ := t
  cases n with
  | zero => exact rfl
  | succ n => exact (dif_pos h0).trans ((dif_pos h1).trans ((dif_neg h2).trans ((dif_pos h3).trans ((dif_neg h4).trans ((dif_pos h5).trans ((dif_neg h6).trans rfl))))))

/-- `outsAt0` at a point of case B: that case's contents, over what the point before left. -/
theorem outsAt0_B (c : Dev nD) (t : Fin cfg0.N) (h0 : ¬t.val % 8 = 0) (h1 : ¬t.val % 8 = 0) (h2 : 1 ≤ t.val) (h3 : ¬t.val % 8 = 0) (h4 : 1 ≤ t.val) (h5 : ¬t.val % 8 = 0) (h6 : 1 ≤ t.val) :
    outsAt0 m c t.val t.isLt = (out0_B_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) (fun h => h0 ((hcond0_0 t).mp h)) (fun h => h1 ((hcond0_1 t).mp h)) ((hcond0_2 t).mpr h2) (fun h => h3 ((hcond0_3 t).mp h)) ((hcond0_4 t).mpr h4) (fun h => h5 ((hcond0_5 t).mp h)) ((hcond0_6 t).mpr h6) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, out0_B_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) (fun h => h0 ((hcond0_0 t).mp h)) (fun h => h1 ((hcond0_1 t).mp h)) ((hcond0_2 t).mpr h2) (fun h => h3 ((hcond0_3 t).mp h)) ((hcond0_4 t).mpr h4) (fun h => h5 ((hcond0_5 t).mp h)) ((hcond0_6 t).mpr h6) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, out0_B_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) (fun h => h0 ((hcond0_0 t).mp h)) (fun h => h1 ((hcond0_1 t).mp h)) ((hcond0_2 t).mpr h2) (fun h => h3 ((hcond0_3 t).mp h)) ((hcond0_4 t).mpr h4) (fun h => h5 ((hcond0_5 t).mp h)) ((hcond0_6 t).mpr h6) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, out0_B_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) (fun h => h0 ((hcond0_0 t).mp h)) (fun h => h1 ((hcond0_1 t).mp h)) ((hcond0_2 t).mpr h2) (fun h => h3 ((hcond0_3 t).mp h)) ((hcond0_4 t).mpr h4) (fun h => h5 ((hcond0_5 t).mp h)) ((hcond0_6 t).mpr h6) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) (fun h => h0 ((hcond0_0 t).mp h)) (fun h => h1 ((hcond0_1 t).mp h)) ((hcond0_2 t).mpr h2) (fun h => h3 ((hcond0_3 t).mp h)) ((hcond0_4 t).mpr h4) (fun h => h5 ((hcond0_5 t).mp h)) ((hcond0_6 t).mpr h6) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) (fun h => h0 ((hcond0_0 t).mp h)) (fun h => h1 ((hcond0_1 t).mp h)) ((hcond0_2 t).mpr h2) (fun h => h3 ((hcond0_3 t).mp h)) ((hcond0_4 t).mpr h4) (fun h => h5 ((hcond0_5 t).mp h)) ((hcond0_6 t).mpr h6) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2) := by
  obtain ⟨n, hn⟩ := t
  cases n with
  | zero => exact (by exfalso; (try dsimp only at h0); exact absurd (Nat.zero_mod _) h0)
  | succ n => exact (dif_neg h0).trans ((dif_neg h1).trans ((dif_pos h2).trans ((dif_neg h3).trans ((dif_pos h4).trans ((dif_neg h5).trans ((dif_pos h6).trans rfl))))))

end Cert.Kernel3Ideal.Gen

end
-- ==== Proof.PoolFrame.lean ====
/- The frame of the pooling-and-convolution backward call: the body obligation at every point, and the run. -/
module

public import proofs.«01_k».proof.Proof.PoolOuts
public import Idealize.ShloMosaic.Lib.Claim

@[expose] public section

-- membership in a rectangle of production extents (`View.cover_of_tiled`): the elaborator's structural look
-- recurses once per coordinate of the long axes
set_option maxRecDepth 16384

noncomputable section

namespace Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What holds before position `n`: at the first point every scratch is at anything; afterwards the carried scratch is at what
    the point before left in it, the others and the generator register at anything. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.2.1) ∗ owns (c : Thread nD τ) scM0_1 fullShare ((outsAt0 m c n hn).2.2.2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.2.2.1) ∗ owns (c : Thread nD τ) scM0_1 fullShare ((outsAt0 m c n hn).2.2.2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2.1) ∗ owns (c : Thread nD τ) scM0_1 fullShare ((outsAt0 m c (n - 1) (by omega)).2.2.2.2.2)) ∗ (∃ r, prngReg c r)) := by
  cases n with
  | zero => exact absurd rfl hz
  | succ n => rfl

/-! ## The pipeline's proof data -/

/-- The data of the one pipeline on core `c`: after point `t` each input's buffer at its block and the outputs' at `outsAt0`,
    under the invariant `PhiS`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => (outsAt0 m c t.val t.isLt).1
    | ⟨13, _⟩ => (outsAt0 m c t.val t.isLt).2.1
    | ⟨14, _⟩ => (outsAt0 m c t.val t.isLt).2.2.1
    | ⟨15, _⟩ => (outsAt0 m c t.val t.isLt).2.2.2.1
    | ⟨_ + 16, h⟩ => absurd h (Nat.not_lt.2 (Nat.le_add_left _ _))
  Φ t := PhiS m c t.val (Nat.le_of_lt_succ t.isLt)
  q w := Pipeline.shareOf spec0 w
  owed _ := 0

/-- The data's arrays are what the region finds. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = (outsAt0 m c t.val t.isLt).1 := by dsimp only [dats]
theorem after0_13 (c : Dev nD) (t : Fin cfg0.N) : (dats m 0 c).after 13 t = (outsAt0 m c t.val t.isLt).2.1 := by dsimp only [dats]
theorem after0_14 (c : Dev nD) (t : Fin cfg0.N) : (dats m 0 c).after 14 t = (outsAt0 m c t.val t.isLt).2.2.1 := by dsimp only [dats]
theorem after0_15 (c : Dev nD) (t : Fin cfg0.N) : (dats m 0 c).after 15 t = (outsAt0 m c t.val t.isLt).2.2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d

/-- Where a point leaves output 13 idle, its contents are those of the point before. -/
theorem hcarry0_13 (c : Dev nD) : ∀ (t : Fin cfg0.N) (_ : t.val ≠ 0), cfg0.idle 13 (grid0.coords t) = true → cfg0.fresh 13 t.val = false →
    (dats m 0 c).after 13 t = (dats m 0 c).after 13 ⟨t.val - 1, by omega⟩ := by
  intro t _ hi _
  have hN : t.val < 8 := lt_of_lt_of_eq t.isLt (show cfg0.N = 8 from N_0)
  rw [after0_13, after0_13]
  by_cases h0 : t.val % 8 = 0
  · by_cases h1 : t.val % 8 = 0
    · by_cases h2 : 1 ≤ t.val
      · exfalso; omega
      · by_cases h3 : t.val % 8 = 0
        · by_cases h4 : 1 ≤ t.val
          · exfalso; omega
          · by_cases h5 : t.val % 8 = 0
            · by_cases h6 : 1 ≤ t.val
              · exfalso; omega
              · rw [liveAt0_13_A t ((hcond0_0 t).mpr h0) ((hcond0_1 t).mpr h1) (fun h => h2 ((hcond0_2 t).mp h)) ((hcond0_3 t).mpr h3) (fun h => h4 ((hcond0_4 t).mp h)) ((hcond0_5 t).mpr h5) (fun h => h6 ((hcond0_6 t).mp h))] at hi
                exact absurd hi Bool.false_ne_true
            · exfalso; omega
        · exfalso; omega
    · exfalso; omega
  · by_cases h1 : t.val % 8 = 0
    · exfalso; omega
    · by_cases h2 : 1 ≤ t.val
      · by_cases h3 : t.val % 8 = 0
        · exfalso; omega
        · by_cases h4 : 1 ≤ t.val
          · by_cases h5 : t.val % 8 = 0
            · exfalso; omega
            · by_cases h6 : 1 ≤ t.val
              · rw [liveAt0_13_B t (fun h => h0 ((hcond0_0 t).mp h)) (fun h => h1 ((hcond0_1 t).mp h)) ((hcond0_2 t).mpr h2) (fun h => h3 ((hcond0_3 t).mp h)) ((hcond0_4 t).mpr h4) (fun h => h5 ((hcond0_5 t).mp h)) ((hcond0_6 t).mpr h6)] at hi
                exact absurd hi Bool.false_ne_true
              · exfalso; omega
          · exfalso; omega
      · exfalso; omega

/-- Where a point leaves output 14 idle, its contents are those of the point before. -/
theorem hcarry0_14 (c : Dev nD) : ∀ (t : Fin cfg0.N) (_ : t.val ≠ 0), cfg0.idle 14 (grid0.coords t) = true → cfg0.fresh 14 t.val = false →
    (dats m 0 c).after 14 t = (dats m 0 c).after 14 ⟨t.val - 1, by omega⟩ := by
  intro t _ hi _
  have hN : t.val < 8 := lt_of_lt_of_eq t.isLt (show cfg0.N = 8 from N_0)
  rw [after0_14, after0_14]
  by_cases h0 : t.val % 8 = 0
  · by_cases h1 : t.val % 8 = 0
    · by_cases h2 : 1 ≤ t.val
      · exfalso; omega
      · by_cases h3 : t.val % 8 = 0
        · by_cases h4 : 1 ≤ t.val
          · exfalso; omega
          · by_cases h5 : t.val % 8 = 0
            · by_cases h6 : 1 ≤ t.val
              · exfalso; omega
              · rw [liveAt0_14_A t ((hcond0_0 t).mpr h0) ((hcond0_1 t).mpr h1) (fun h => h2 ((hcond0_2 t).mp h)) ((hcond0_3 t).mpr h3) (fun h => h4 ((hcond0_4 t).mp h)) ((hcond0_5 t).mpr h5) (fun h => h6 ((hcond0_6 t).mp h))] at hi
                exact absurd hi Bool.false_ne_true
            · exfalso; omega
        · exfalso; omega
    · exfalso; omega
  · by_cases h1 : t.val % 8 = 0
    · exfalso; omega
    · by_cases h2 : 1 ≤ t.val
      · by_cases h3 : t.val % 8 = 0
        · exfalso; omega
        · by_cases h4 : 1 ≤ t.val
          · by_cases h5 : t.val % 8 = 0
            · exfalso; omega
            · by_cases h6 : 1 ≤ t.val
              · rw [liveAt0_14_B t (fun h => h0 ((hcond0_0 t).mp h)) (fun h => h1 ((hcond0_1 t).mp h)) ((hcond0_2 t).mpr h2) (fun h => h3 ((hcond0_3 t).mp h)) ((hcond0_4 t).mpr h4) (fun h => h5 ((hcond0_5 t).mp h)) ((hcond0_6 t).mpr h6)] at hi
                exact absurd hi Bool.false_ne_true
              · exfalso; omega
          · exfalso; omega
      · exfalso; omega

/-- Where a point leaves output 15 idle, its contents are those of the point before. -/
theorem hcarry0_15 (c : Dev nD) : ∀ (t : Fin cfg0.N) (_ : t.val ≠ 0), cfg0.idle 15 (grid0.coords t) = true → cfg0.fresh 15 t.val = false →
    (dats m 0 c).after 15 t = (dats m 0 c).after 15 ⟨t.val - 1, by omega⟩ := by
  intro t _ hi _
  have hN : t.val < 8 := lt_of_lt_of_eq t.isLt (show cfg0.N = 8 from N_0)
  rw [after0_15, after0_15]
  by_cases h0 : t.val % 8 = 0
  · by_cases h1 : t.val % 8 = 0
    · by_cases h2 : 1 ≤ t.val
      · exfalso; omega
      · by_cases h3 : t.val % 8 = 0
        · by_cases h4 : 1 ≤ t.val
          · exfalso; omega
          · by_cases h5 : t.val % 8 = 0
            · by_cases h6 : 1 ≤ t.val
              · exfalso; omega
              · rw [liveAt0_15_A t ((hcond0_0 t).mpr h0) ((hcond0_1 t).mpr h1) (fun h => h2 ((hcond0_2 t).mp h)) ((hcond0_3 t).mpr h3) (fun h => h4 ((hcond0_4 t).mp h)) ((hcond0_5 t).mpr h5) (fun h => h6 ((hcond0_6 t).mp h))] at hi
                exact absurd hi Bool.false_ne_true
            · exfalso; omega
        · exfalso; omega
    · exfalso; omega
  · by_cases h1 : t.val % 8 = 0
    · exfalso; omega
    · by_cases h2 : 1 ≤ t.val
      · by_cases h3 : t.val % 8 = 0
        · exfalso; omega
        · by_cases h4 : 1 ≤ t.val
          · by_cases h5 : t.val % 8 = 0
            · exfalso; omega
            · by_cases h6 : 1 ≤ t.val
              · rw [liveAt0_15_B t (fun h => h0 ((hcond0_0 t).mp h)) (fun h => h1 ((hcond0_1 t).mp h)) ((hcond0_2 t).mpr h2) (fun h => h3 ((hcond0_3 t).mp h)) ((hcond0_4 t).mpr h4) (fun h => h5 ((hcond0_5 t).mp h)) ((hcond0_6 t).mpr h6)] at hi
                exact absurd hi Bool.false_ne_true
              · exfalso; omega
          · exfalso; omega
      · exfalso; omega
/-- At a point of case B output 13's buffer holds what the point before left. -/
theorem before0_13_B (c : Dev nD) (t : Fin cfg0.N) (h0 : ¬t.val % 8 = 0) (h1 : ¬t.val % 8 = 0) (h2 : 1 ≤ t.val) (h3 : ¬t.val % 8 = 0) (h4 : 1 ≤ t.val) (h5 : ¬t.val % 8 = 0) (h6 : 1 ≤ t.val) (d) :
    (dats m 0 c).before 13 t d = (outsAt0 m c (t.val - 1) (Nat.lt_of_le_of_lt (Nat.sub_le _ _) t.isLt)).2.1 := by
  rw [Dat.before_out_traj _ 13 rfl (fun _ _ => rfl) (hcarry0_13 m c) t.val t rfl d,
    if_neg (by rw [notFresh0_13_B t (fun h => h0 ((hcond0_0 t).mp h)) (fun h => h1 ((hcond0_1 t).mp h)) ((hcond0_2 t).mpr h2) (fun h => h3 ((hcond0_3 t).mp h)) ((hcond0_4 t).mpr h4) (fun h => h5 ((hcond0_5 t).mp h)) ((hcond0_6 t).mpr h6)]; exact Bool.false_ne_true)]
  dsimp only [dats]
/-- At a point of case B output 14's buffer holds what the point before left. -/
theorem before0_14_B (c : Dev nD) (t : Fin cfg0.N) (h0 : ¬t.val % 8 = 0) (h1 : ¬t.val % 8 = 0) (h2 : 1 ≤ t.val) (h3 : ¬t.val % 8 = 0) (h4 : 1 ≤ t.val) (h5 : ¬t.val % 8 = 0) (h6 : 1 ≤ t.val) (d) :
    (dats m 0 c).before 14 t d = (outsAt0 m c (t.val - 1) (Nat.lt_of_le_of_lt (Nat.sub_le _ _) t.isLt)).2.2.1 := by
  rw [Dat.before_out_traj _ 14 rfl (fun _ _ => rfl) (hcarry0_14 m c) t.val t rfl d,
    if_neg (by rw [notFresh0_14_B t (fun h => h0 ((hcond0_0 t).mp h)) (fun h => h1 ((hcond0_1 t).mp h)) ((hcond0_2 t).mpr h2) (fun h => h3 ((hcond0_3 t).mp h)) ((hcond0_4 t).mpr h4) (fun h => h5 ((hcond0_5 t).mp h)) ((hcond0_6 t).mpr h6)]; exact Bool.false_ne_true)]
  dsimp only [dats]
/-- At a point of case B output 15's buffer holds what the point before left. -/
theorem before0_15_B (c : Dev nD) (t : Fin cfg0.N) (h0 : ¬t.val % 8 = 0) (h1 : ¬t.val % 8 = 0) (h2 : 1 ≤ t.val) (h3 : ¬t.val % 8 = 0) (h4 : 1 ≤ t.val) (h5 : ¬t.val % 8 = 0) (h6 : 1 ≤ t.val) (d) :
    (dats m 0 c).before 15 t d = (outsAt0 m c (t.val - 1) (Nat.lt_of_le_of_lt (Nat.sub_le _ _) t.isLt)).2.2.2.1 := by
  rw [Dat.before_out_traj _ 15 rfl (fun _ _ => rfl) (hcarry0_15 m c) t.val t rfl d,
    if_neg (by rw [notFresh0_15_B t (fun h => h0 ((hcond0_0 t).mp h)) (fun h => h1 ((hcond0_1 t).mp h)) ((hcond0_2 t).mpr h2) (fun h => h3 ((hcond0_3 t).mp h)) ((hcond0_4 t).mpr h4) (fun h => h5 ((hcond0_5 t).mp h)) ((hcond0_6 t).mpr h6)]; exact Bool.false_ne_true)]
  dsimp only [dats]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t)

set_option maxHeartbeats 12800000 in
/-- The body at any point, in either case: from the inputs' blocks and what the point before left, to this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [show (dats m 0 c).owesAt () t.succ = (dats m 0 c).owesAt () t.castSucc from rfl]
  rw [show (dats m 0 c).Φ t.succ = PhiS m c (t.val + 1) t.isLt from rfl, PhiS_succ]
  have hN : t.val < 8 := lt_of_lt_of_eq t.isLt (show cfg0.N = 8 from N_0)
  by_cases h0 : t.val % 8 = 0
  · by_cases h1 : t.val % 8 = 0
    · by_cases h2 : 1 ≤ t.val
      · exfalso; omega
      · by_cases h3 : t.val % 8 = 0
        · by_cases h4 : 1 ≤ t.val
          · exfalso; omega
          · by_cases h5 : t.val % 8 = 0
            · by_cases h6 : 1 ≤ t.val
              · exfalso; omega
              · rw [show (dats m 0 c).leavesExact 0 t = owns (c : Thread nD τ) (ms0_0 t) fullShare ((dats m 0 c).after 0 t) from by
      unfold Dat.leavesExact; rw [liveAt0_0 t], after0_0]
                rw [show (dats m 0 c).leavesExact 1 t = owns (c : Thread nD τ) (ms0_1 t) fullShare ((dats m 0 c).after 1 t) from by
      unfold Dat.leavesExact; rw [liveAt0_1 t], after0_1]
                rw [show (dats m 0 c).leavesExact 2 t = owns (c : Thread nD τ) (ms0_2 t) fullShare ((dats m 0 c).after 2 t) from by
      unfold Dat.leavesExact; rw [liveAt0_2 t], after0_2]
                rw [show (dats m 0 c).leavesExact 3 t = owns (c : Thread nD τ) (ms0_3 t) fullShare ((dats m 0 c).after 3 t) from by
      unfold Dat.leavesExact; rw [liveAt0_3 t], after0_3]
                rw [show (dats m 0 c).leavesExact 4 t = owns (c : Thread nD τ) (ms0_4 t) fullShare ((dats m 0 c).after 4 t) from by
      unfold Dat.leavesExact; rw [liveAt0_4 t], after0_4]
                rw [show (dats m 0 c).leavesExact 5 t = owns (c : Thread nD τ) (ms0_5 t) fullShare ((dats m 0 c).after 5 t) from by
      unfold Dat.leavesExact; rw [liveAt0_5 t], after0_5]
                rw [show (dats m 0 c).leavesExact 6 t = owns (c : Thread nD τ) (ms0_6 t) fullShare ((dats m 0 c).after 6 t) from by
      unfold Dat.leavesExact; rw [liveAt0_6 t], after0_6]
                rw [show (dats m 0 c).leavesExact 7 t = owns (c : Thread nD τ) (ms0_7 t) fullShare ((dats m 0 c).after 7 t) from by
      unfold Dat.leavesExact; rw [liveAt0_7 t], after0_7]
                rw [show (dats m 0 c).leavesExact 8 t = owns (c : Thread nD τ) (ms0_8 t) fullShare ((dats m 0 c).after 8 t) from by
      unfold Dat.leavesExact; rw [liveAt0_8 t], after0_8]
                rw [show (dats m 0 c).leavesExact 9 t = owns (c : Thread nD τ) (ms0_9 t) fullShare ((dats m 0 c).after 9 t) from by
      unfold Dat.leavesExact; rw [liveAt0_9 t], after0_9]
                rw [show (dats m 0 c).leavesExact 10 t = owns (c : Thread nD τ) (ms0_10 t) fullShare ((dats m 0 c).after 10 t) from by
      unfold Dat.leavesExact; rw [liveAt0_10 t], after0_10]
                rw [show (dats m 0 c).leavesExact 11 t = owns (c : Thread nD τ) (ms0_11 t) fullShare ((dats m 0 c).after 11 t) from by
      unfold Dat.leavesExact; rw [liveAt0_11 t], after0_11]
                rw [show (dats m 0 c).leavesExact 12 t = owns (c : Thread nD τ) (ms0_12 t) fullShare ((dats m 0 c).after 12 t) from by
      unfold Dat.leavesExact; rw [liveAt0_12 t], after0_12]
                rw [show (dats m 0 c).leavesExact 13 t = owns (c : Thread nD τ) (ms0_13 t) fullShare ((dats m 0 c).after 13 t) from by
      unfold Dat.leavesExact; rw [liveAt0_13_A t ((hcond0_0 t).mpr h0) ((hcond0_1 t).mpr h1) (fun h => h2 ((hcond0_2 t).mp h)) ((hcond0_3 t).mpr h3) (fun h => h4 ((hcond0_4 t).mp h)) ((hcond0_5 t).mpr h5) (fun h => h6 ((hcond0_6 t).mp h))], after0_13]
                rw [show (dats m 0 c).leavesExact 14 t = owns (c : Thread nD τ) (ms0_14 t) fullShare ((dats m 0 c).after 14 t) from by
      unfold Dat.leavesExact; rw [liveAt0_14_A t ((hcond0_0 t).mpr h0) ((hcond0_1 t).mpr h1) (fun h => h2 ((hcond0_2 t).mp h)) ((hcond0_3 t).mpr h3) (fun h => h4 ((hcond0_4 t).mp h)) ((hcond0_5 t).mpr h5) (fun h => h6 ((hcond0_6 t).mp h))], after0_14]
                rw [show (dats m 0 c).leavesExact 15 t = owns (c : Thread nD τ) (ms0_15 t) fullShare ((dats m 0 c).after 15 t) from by
      unfold Dat.leavesExact; rw [liveAt0_15_A t ((hcond0_0 t).mpr h0) ((hcond0_1 t).mpr h1) (fun h => h2 ((hcond0_2 t).mp h)) ((hcond0_3 t).mpr h3) (fun h => h4 ((hcond0_4 t).mp h)) ((hcond0_5 t).mpr h5) (fun h => h6 ((hcond0_6 t).mp h))], after0_15]
                by_cases hz : t.val = 0
                · rw [PhiS_castSucc m c t, PhiS_zero m c _ _ hz, PhiA0_eq]
                  rw [outsAt0_A m c t h0 h1 h2 h3 h4 h5 h6]
                  unfold out0_A_12 out0_A_13 out0_A_14 out0_A_15 sout0_A_0 sout0_A_1; (try dsimp only)
                  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
                  iapply ((kernelRun0_A c (grid0.coords t) _ _ _ _ _ _ _ _ _ _ _ _ _ _ _ _ _ _ _ _ _ _ _ _ _ _ _ _ _ _ _ _ _ _ _ _ ((hcond0_0 t).mpr h0) ((hcond0_1 t).mpr h1) (fun h => h2 ((hcond0_2 t).mp h)) ((hcond0_3 t).mpr h3) (fun h => h4 ((hcond0_4 t).mp h)) ((hcond0_5 t).mpr h5) (fun h => h6 ((hcond0_6 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)).2.2.2.2.2.2 Set.univ _)
                  isplitl [H0]; · iexact H0
                  isplitl [H1]; · iexact H1
                  isplitl [H2]; · iexact H2
                  isplitl [H3]; · iexact H3
                  isplitl [H4]; · iexact H4
                  isplitl [H5]; · iexact H5
                  isplitl [H6]; · iexact H6
                  isplitl [H7]; · iexact H7
                  isplitl [H8]; · iexact H8
                  isplitl [H9]; · iexact H9
                  isplitl [H10]; · iexact H10
                  isplitl [H11]; · iexact H11
                  isplitl [H12]; · iexists _; iexact H12
                  isplitl [H13]; · iexists _; iexact H13
                  isplitl [H14]; · iexists _; iexact H14
                  isplitl [H15]; · iexists _; iexact H15
                  isplitl [HS0]; · iexact HS0
                  isplitl [HS1]; · iexact HS1
                  iintro ⟨H0, H1, H2, H3, H4, H5, H6, H7, H8, H9, H10, H11, ⟨%e12, H12⟩, ⟨%e13, H13⟩, ⟨%e14, H14⟩, ⟨%e15, H15⟩, ⟨%es0, HS0⟩, ⟨%es1, HS1⟩⟩
                  isplitl [HS0 HS1 Hg]
                  · isplitl [HS0 HS1]
                    · isplitl [HS0]
                      · unfold owns; iexists _; isplitr
                        swap; · iexact HS0
                        ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _ _ _ _ _ _ _ _ _)
                      unfold owns; iexists _; isplitr
                      swap; · iexact HS1
                      ipureintro; exact View.read_writes_of_cover _ _ _ _ _ (scover0_A_1 c _ _ _ _ _ _ _ _ _ _ _ _ _ _ _ _ _ _ _ _ _ _ _ _ _ _ _ _ _ _ _ _ _ _ _ _ _ _ _ _ _ _ _ _ _ _ _ _ _ _ _ _ _ _ _ _)
                    iexact Hg
                  isplitl [Ho]; · iexact Ho
                  isplitl [H0]; · iexact H0
                  isplitl [H1]; · iexact H1
                  isplitl [H2]; · iexact H2
                  isplitl [H3]; · iexact H3
                  isplitl [H4]; · iexact H4
                  isplitl [H5]; · iexact H5
                  isplitl [H6]; · iexact H6
                  isplitl [H7]; · iexact H7
                  isplitl [H8]; · iexact H8
                  isplitl [H9]; · iexact H9
                  isplitl [H10]; · iexact H10
                  isplitl [H11]; · iexact H11
                  isplitl [H12]
                  · unfold owns; iexists _; isplitr
                    swap; · iexact H12
                    ipureintro; exact View.read_writes_of_cover _ _ _ _ _ (cover0_A_12 c _ _ _ _ _ _ _ _ _ _ _ _ _ _ _ _ _ _ _ _ _ _ _ _ _ _ _ _ _ _ _ _ _ _ _ _ _ _ _ _ _ _ _ _ _ _ _ _ _ _ _ _ _ _ _ _)
                  isplitl [H13]
                  · unfold owns; iexists _; isplitr
                    swap; · iexact H13
                    ipureintro; exact View.read_writes_of_cover _ _ _ _ _ (cover0_A_13 c _ _ _ _ _ _ _ _ _ _ _ _ _ _ _ _ _ _ _ _ _ _ _ _ _ _ _ _ _ _ _ _ _ _ _ _ _ _ _ _ _ _ _ _ _ _ _ _ _ _ _ _ _ _ _ _)
                  isplitl [H14]
                  · unfold owns; iexists _; isplitr
                    swap; · iexact H14
                    ipureintro; exact View.read_writes_of_cover _ _ _ _ _ (cover0_A_14 c _ _ _ _ _ _ _ _ _ _ _ _ _ _ _ _ _ _ _ _ _ _ _ _ _ _ _ _ _ _ _ _ _ _ _ _ _ _ _ _ _ _ _ _ _ _ _ _ _ _ _ _ _ _ _ _)
                  unfold owns; iexists _; isplitr
                  swap; · iexact H15
                  ipureintro; exact View.read_writes_of_cover _ _ _ _ _ (cover0_A_15 c _ _ _ _ _ _ _ _ _ _ _ _ _ _ _ _ _ _ _ _ _ _ _ _ _ _ _ _ _ _ _ _ _ _ _ _ _ _ _ _ _ _ _ _ _ _ _ _ _ _ _ _ _ _ _ _)
                · exfalso; have hN : t.val < 8 := lt_of_lt_of_eq t.isLt (show cfg0.N = 8 from N_0); omega
            · exfalso; omega
        · exfalso; omega
    · exfalso; omega
  · by_cases h1 : t.val % 8 = 0
    · exfalso; omega
    · by_cases h2 : 1 ≤ t.val
      · by_cases h3 : t.val % 8 = 0
        · exfalso; omega
        · by_cases h4 : 1 ≤ t.val
          · by_cases h5 : t.val % 8 = 0
            · exfalso; omega
            · by_cases h6 : 1 ≤ t.val
              · rw [show (dats m 0 c).leavesExact 0 t = owns (c : Thread nD τ) (ms0_0 t) fullShare ((dats m 0 c).after 0 t) from by
      unfold Dat.leavesExact; rw [liveAt0_0 t], after0_0]
                rw [show (dats m 0 c).leavesExact 1 t = owns (c : Thread nD τ) (ms0_1 t) fullShare ((dats m 0 c).after 1 t) from by
      unfold Dat.leavesExact; rw [liveAt0_1 t], after0_1]
                rw [show (dats m 0 c).leavesExact 2 t = owns (c : Thread nD τ) (ms0_2 t) fullShare ((dats m 0 c).after 2 t) from by
      unfold Dat.leavesExact; rw [liveAt0_2 t], after0_2]
                rw [show (dats m 0 c).leavesExact 3 t = owns (c : Thread nD τ) (ms0_3 t) fullShare ((dats m 0 c).after 3 t) from by
      unfold Dat.leavesExact; rw [liveAt0_3 t], after0_3]
                rw [show (dats m 0 c).leavesExact 4 t = owns (c : Thread nD τ) (ms0_4 t) fullShare ((dats m 0 c).after 4 t) from by
      unfold Dat.leavesExact; rw [liveAt0_4 t], after0_4]
                rw [show (dats m 0 c).leavesExact 5 t = owns (c : Thread nD τ) (ms0_5 t) fullShare ((dats m 0 c).after 5 t) from by
      unfold Dat.leavesExact; rw [liveAt0_5 t], after0_5]
                rw [show (dats m 0 c).leavesExact 6 t = owns (c : Thread nD τ) (ms0_6 t) fullShare ((dats m 0 c).after 6 t) from by
      unfold Dat.leavesExact; rw [liveAt0_6 t], after0_6]
                rw [show (dats m 0 c).leavesExact 7 t = owns (c : Thread nD τ) (ms0_7 t) fullShare ((dats m 0 c).after 7 t) from by
      unfold Dat.leavesExact; rw [liveAt0_7 t], after0_7]
                rw [show (dats m 0 c).leavesExact 8 t = owns (c : Thread nD τ) (ms0_8 t) fullShare ((dats m 0 c).after 8 t) from by
      unfold Dat.leavesExact; rw [liveAt0_8 t], after0_8]
                rw [show (dats m 0 c).leavesExact 9 t = owns (c : Thread nD τ) (ms0_9 t) fullShare ((dats m 0 c).after 9 t) from by
      unfold Dat.leavesExact; rw [liveAt0_9 t], after0_9]
                rw [show (dats m 0 c).leavesExact 10 t = owns (c : Thread nD τ) (ms0_10 t) fullShare ((dats m 0 c).after 10 t) from by
      unfold Dat.leavesExact; rw [liveAt0_10 t], after0_10]
                rw [show (dats m 0 c).leavesExact 11 t = owns (c : Thread nD τ) (ms0_11 t) fullShare ((dats m 0 c).after 11 t) from by
      unfold Dat.leavesExact; rw [liveAt0_11 t], after0_11]
                rw [show (dats m 0 c).leavesExact 12 t = owns (c : Thread nD τ) (ms0_12 t) fullShare ((dats m 0 c).after 12 t) from by
      unfold Dat.leavesExact; rw [liveAt0_12 t], after0_12]
                rw [show (dats m 0 c).leavesExact 13 t = owns (c : Thread nD τ) (ms0_13 t) fullShare ((dats m 0 c).after 13 t) from by
      unfold Dat.leavesExact; rw [liveAt0_13_B t (fun h => h0 ((hcond0_0 t).mp h)) (fun h => h1 ((hcond0_1 t).mp h)) ((hcond0_2 t).mpr h2) (fun h => h3 ((hcond0_3 t).mp h)) ((hcond0_4 t).mpr h4) (fun h => h5 ((hcond0_5 t).mp h)) ((hcond0_6 t).mpr h6)], after0_13]
                rw [show (dats m 0 c).leavesExact 14 t = owns (c : Thread nD τ) (ms0_14 t) fullShare ((dats m 0 c).after 14 t) from by
      unfold Dat.leavesExact; rw [liveAt0_14_B t (fun h => h0 ((hcond0_0 t).mp h)) (fun h => h1 ((hcond0_1 t).mp h)) ((hcond0_2 t).mpr h2) (fun h => h3 ((hcond0_3 t).mp h)) ((hcond0_4 t).mpr h4) (fun h => h5 ((hcond0_5 t).mp h)) ((hcond0_6 t).mpr h6)], after0_14]
                rw [show (dats m 0 c).leavesExact 15 t = owns (c : Thread nD τ) (ms0_15 t) fullShare ((dats m 0 c).after 15 t) from by
      unfold Dat.leavesExact; rw [liveAt0_15_B t (fun h => h0 ((hcond0_0 t).mp h)) (fun h => h1 ((hcond0_1 t).mp h)) ((hcond0_2 t).mpr h2) (fun h => h3 ((hcond0_3 t).mp h)) ((hcond0_4 t).mpr h4) (fun h => h5 ((hcond0_5 t).mp h)) ((hcond0_6 t).mpr h6)], after0_15]
                by_cases hz : t.val = 0
                · exfalso; have hN : t.val < 8 := lt_of_lt_of_eq t.isLt (show cfg0.N = 8 from N_0); omega
                · rw [PhiS_castSucc m c t, PhiS_pos m c _ _ hz]
                  rw [outsAt0_B m c t h0 h1 h2 h3 h4 h5 h6]
                  simp only [before0_13_B m c t h0 h1 h2 h3 h4 h5 h6, before0_14_B m c t h0 h1 h2 h3 h4 h5 h6, before0_15_B m c t h0 h1 h2 h3 h4 h5 h6]
                  unfold out0_B_12 out0_B_13 out0_B_14 out0_B_15 sout0_B_0 sout0_B_1; (try dsimp only)
                  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
                  iapply ((kernelRun0_B c (grid0.coords t) _ _ _ _ _ _ _ _ _ _ _ _ _ _ _ _ _ _ _ _ _ _ _ _ _ _ _ _ _ _ _ _ _ _ _ _ (fun h => h0 ((hcond0_0 t).mp h)) (fun h => h1 ((hcond0_1 t).mp h)) ((hcond0_2 t).mpr h2) (fun h => h3 ((hcond0_3 t).mp h)) ((hcond0_4 t).mpr h4) (fun h => h5 ((hcond0_5 t).mp h)) ((hcond0_6 t).mpr h6) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) _ _ _ _ _).2.2.2.2.2.2 Set.univ _)
                  isplitl [H0]; · iexact H0
                  isplitl [H1]; · iexact H1
                  isplitl [H2]; · iexact H2
                  isplitl [H3]; · iexact H3
                  isplitl [H4]; · iexact H4
                  isplitl [H5]; · iexact H5
                  isplitl [H6]; · iexact H6
                  isplitl [H7]; · iexact H7
                  isplitl [H8]; · iexact H8
                  isplitl [H9]; · iexact H9
                  isplitl [H10]; · iexact H10
                  isplitl [H11]; · iexact H11
                  isplitl [H12]; · iexists _; iexact H12
                  isplitl [H13]; · iexact H13
                  isplitl [H14]; · iexact H14
                  isplitl [H15]; · iexact H15
                  isplitl [HS0]; · iexact HS0
                  isplitl [HS1]; · iexact HS1
                  iintro ⟨H0, H1, H2, H3, H4, H5, H6, H7, H8, H9, H10, H11, ⟨%e12, H12⟩, ⟨%e13, H13⟩, ⟨%e14, H14⟩, ⟨%e15, H15⟩, ⟨%es0, HS0⟩, ⟨%es1, HS1⟩⟩
                  isplitl [HS0 HS1 Hg]
                  · isplitl [HS0 HS1]
                    · isplitl [HS0]
                      · unfold owns; iexists _; isplitr
                        swap; · iexact HS0
                        ipureintro; exact View.read_writes_of_cover _ _ _ _ _ (scover0_B_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _)
                      unfold owns; iexists _; isplitr
                      swap; · iexact HS1
                      ipureintro; exact View.read_writes_of_cover _ _ _ _ _ (scover0_B_1 c _ _ _ _ _ _ _ _ _ _ _ _ _ _ _ _ _ _ _ _ _ _ _ _ _ _ _ _ _ _ _ _ _ _ _ _ _ _ _ _ _ _ _ _ _ _ _ _ _ _ _ _ _ _ _ _ _ _ _ _ _)
                    iexact Hg
                  isplitl [Ho]; · iexact Ho
                  isplitl [H0]; · iexact H0
                  isplitl [H1]; · iexact H1
                  isplitl [H2]; · iexact H2
                  isplitl [H3]; · iexact H3
                  isplitl [H4]; · iexact H4
                  isplitl [H5]; · iexact H5
                  isplitl [H6]; · iexact H6
                  isplitl [H7]; · iexact H7
                  isplitl [H8]; · iexact H8
                  isplitl [H9]; · iexact H9
                  isplitl [H10]; · iexact H10
                  isplitl [H11]; · iexact H11
                  isplitl [H12]
                  · unfold owns; iexists _; isplitr
                    swap; · iexact H12
                    ipureintro; exact View.read_writes_of_cover _ _ _ _ _ (cover0_B_12 c _ _ _ _ _ _ _ _ _ _ _ _ _ _ _ _ _ _ _ _ _ _ _ _ _ _ _ _ _ _ _ _ _ _ _ _ _ _ _ _ _ _ _ _ _ _ _ _ _ _ _ _ _ _ _ _ _ _ _ _ _)
                  isplitl [H13]
                  · unfold owns; iexists _; isplitr
                    swap; · iexact H13
                    ipureintro; exact View.read_writes_of_cover _ _ _ _ _ (cover0_B_13 c _ _ _ _ _ _ _ _ _ _ _ _ _ _ _ _ _ _ _ _ _ _ _ _ _ _ _ _ _ _ _ _ _ _ _ _ _ _ _ _ _ _ _ _ _ _ _ _ _ _ _ _ _ _ _ _ _ _ _ _ _)
                  isplitl [H14]
                  · unfold owns; iexists _; isplitr
                    swap; · iexact H14
                    ipureintro; exact View.read_writes_of_cover _ _ _ _ _ (cover0_B_14 c _ _ _ _ _ _ _ _ _ _ _ _ _ _ _ _ _ _ _ _ _ _ _ _ _ _ _ _ _ _ _ _ _ _ _ _ _ _ _ _ _ _ _ _ _ _ _ _ _ _ _ _ _ _ _ _ _ _ _ _ _)
                  unfold owns; iexists _; isplitr
                  swap; · iexact H15
                  ipureintro; exact View.read_writes_of_cover _ _ _ _ _ (cover0_B_15 c _ _ _ _ _ _ _ _ _ _ _ _ _ _ _ _ _ _ _ _ _ _ _ _ _ _ _ _ _ _ _ _ _ _ _ _ _ _ _ _ _ _ _ _ _ _ _ _ _ _ _ _ _ _ _ _ _ _ _ _ _)
              · exfalso; omega
          · exfalso; omega
      · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexists _; iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 8 := N_0; omega)

/-! ## The run and the frame -/

-- `θ_run_frame_track_shared`'s implicit arguments are found by unifying its conclusion with this one, which takes unfolding plain
-- definitions in a metavariable's type
set_option backward.isDefEq.respectTransparency.types false in
/-- The same, with every semaphore at zero in the end. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- Every run ends, with every array of the pipeline at what the data say and every other buffer as the region found it. -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

/-- The kernel's frame, at any values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.Kernel3Ideal.Gen

end
-- ==== Proof.Conv.lean ====
module

public import Idealize.ShloMosaic.Lib.Pipeline.ValueKit
public import Idealize.ShloMosaic.Lib.Pointwise

@[expose] public section

set_option maxRecDepth 16384

noncomputable section

/-! The causal convolution over three rows of a column, and the sigmoid. -/

namespace Cert.Conv

open Idealize.ShloMosaic

/-- The column read with 8 zero rows before it. -/
def past (x : Fin 4096 → EReal) (n : Nat) : EReal := if h : 8 ≤ n ∧ n < 4104 then x ⟨n - 8, by omega⟩ else 0

theorem past_of {x : Fin 4096 → EReal} {n : Nat} (t : Fin 4096) (h : n = t.val + 8) : past x n = x t := by
  subst h
  unfold past
  rw [dif_pos ⟨by omega, by omega⟩]
  exact congrArg x (Fin.ext (by simp))

theorem past_zero {x : Fin 4096 → EReal} {n : Nat} (h : n < 8) : past x n = 0 := by
  unfold past
  rw [dif_neg (by omega)]

/-- The convolution at row `t`: the rows `t - 2`, `t - 1` and `t`, weighted. -/
def conv (w : Fin 3 → EReal) (x : Fin 4096 → EReal) (t : Nat) : EReal :=
  w 0 * past x (t + 6) + w 1 * past x (t + 7) + w 2 * past x (t + 8)

/-- The sigmoid. -/
def sgm (c : EReal) : EReal := Ideal.div 1 (1 + Ideal.exp (-c))

end Cert.Conv

end
-- ==== Proof.Finite.lean ====
module

public import Idealize.ShloMosaic.Lib.Pipeline.ValueKit
public import Idealize.ShloMosaic.Lib.Pointwise
public import Idealize.ShloMosaic.Lib.ReduceAll
public import proofs.«01_k».proof.Proof.Rms
public import proofs.«01_k».proof.Proof.Conv

@[expose] public section

set_option maxRecDepth 16384

noncomputable section

/-! Finite numbers, closed under what the gradients compute, and a finiteness precondition read entry by entry. -/

namespace Cert.Finite

open Idealize.ShloMosaic Cert.Rms Cert.Conv

open scoped BigOperators

/-- A finite number. -/
def IsReal (x : EReal) : Prop := ∃ r : ℝ, x = (r : EReal)

variable {x y : EReal}

theorem IsReal.coe (r : ℝ) : IsReal (r : EReal) := ⟨r, rfl⟩

theorem IsReal.zero : IsReal 0 := ⟨0, rfl⟩

theorem IsReal.add (hx : IsReal x) (hy : IsReal y) : IsReal (x + y) := by
  obtain ⟨a, rfl⟩ := hx
  obtain ⟨b, rfl⟩ := hy
  exact ⟨a + b, by push_cast; rfl⟩

theorem IsReal.mul (hx : IsReal x) (hy : IsReal y) : IsReal (x * y) := by
  obtain ⟨a, rfl⟩ := hx
  obtain ⟨b, rfl⟩ := hy
  exact ⟨a * b, by push_cast; rfl⟩

theorem IsReal.neg (hx : IsReal x) : IsReal (-x) := by
  obtain ⟨a, rfl⟩ := hx
  exact ⟨-a, by push_cast; rfl⟩

theorem IsReal.sub (hx : IsReal x) (hy : IsReal y) : IsReal (x - y) := by
  obtain ⟨a, rfl⟩ := hx
  obtain ⟨b, rfl⟩ := hy
  exact ⟨a - b, by push_cast; rfl⟩

theorem IsReal.sum {ι : Type*} (s : Finset ι) {f : ι → EReal} (h : ∀ i ∈ s, IsReal (f i)) : IsReal (∑ i ∈ s, f i) := by
  classical
  induction s using Finset.induction_on with
  | empty => simpa using IsReal.zero
  | insert a s ha ih =>
    rw [Finset.sum_insert ha]
    exact (h a (Finset.mem_insert_self _ _)).add (ih fun i hi => h i (Finset.mem_insert_of_mem hi))

theorem IsReal.past {u : Fin 4096 → EReal} (h : ∀ i, IsReal (u i)) (n : Nat) : IsReal (past u n) := by
  unfold Cert.Conv.past
  split
  · exact h _
  · exact IsReal.zero

theorem IsReal.conv {w : Fin 3 → EReal} {u : Fin 4096 → EReal} (hw : ∀ k, IsReal (w k)) (hu : ∀ i, IsReal (u i)) (t : Nat) :
    IsReal (conv w u t) :=
  (((hw 0).mul (IsReal.past hu _)).add ((hw 1).mul (IsReal.past hu _))).add ((hw 2).mul (IsReal.past hu _))

theorem IsReal.sgm (hx : IsReal x) : IsReal (sgm x) := by
  obtain ⟨a, rfl⟩ := hx
  refine ⟨(1 + Real.exp (-a))⁻¹, ?_⟩
  have h : (1 : EReal) + Ideal.exp (-(a : EReal)) = ((1 + Real.exp (-a) : ℝ) : EReal) := by
    rw [← EReal.coe_neg, Ideal.exp_coe]
    push_cast
    rfl
  have h0 : (1 + Real.exp (-a) : ℝ) ≠ 0 := by positivity
  rw [Cert.Conv.sgm, h, Ideal.div, if_neg (by exact_mod_cast h0), one_mul, ← EReal.coe_inv]

theorem IsReal.divN (hx : IsReal x) : IsReal (Ideal.div x cN) := by
  rw [div_cN]
  exact hx.mul (IsReal.coe _)

theorem IsReal.rr {n : ℕ} {v : Fin n → EReal} (h : ∀ k, IsReal (v k)) : IsReal (rr v) := by
  rcases msq_cases v with e | ⟨r, hr, e⟩
  · obtain ⟨c, hc, ec⟩ := cEps_pos
    have : IsReal (msq v) := (IsReal.divN (IsReal.sum _ fun k _ => (h k).mul (h k))).add ⟨c, ec⟩
    obtain ⟨a, ha⟩ := this
    rw [e] at ha
    exact absurd ha (by simp)
  · rw [Cert.Rms.rr, e]
    exact ⟨(Real.sqrt r)⁻¹, by simp [not_lt.mpr hr.le, hr.ne']⟩

theorem IsReal.bwd {n : ℕ} {v w : Fin n → EReal} (hv : ∀ k, IsReal (v k)) (hw : ∀ k, IsReal (w k)) (j : Fin n) : IsReal (bwd v w j) :=
  ((IsReal.rr hv).mul (hw j)).sub
    (((hv j).mul (((IsReal.rr hv).mul (IsReal.rr hv)).mul (IsReal.rr hv))).mul (IsReal.divN (IsReal.sum _ fun k _ => (hw k).mul (hv k))))

/-- The derivative of `c * s` in its two forms, where `s` is the sigmoid of `c`. -/
theorem silu_slope {d c s : EReal} (hd : IsReal d) (hc : IsReal c) (hs : IsReal s) :
    d * s + c * d * (s * (1 - s)) = d * (s * (1 + c * (1 - s))) := by
  obtain ⟨d, rfl⟩ := hd
  obtain ⟨c, rfl⟩ := hc
  obtain ⟨s, rfl⟩ := hs
  have h1 : (1 : EReal) = ((1 : ℝ) : EReal) := rfl
  rw [h1]
  norm_cast
  ring

/-- One comparison of the precondition: the absolute value is below infinity. -/
theorem isReal_of_abs_lt (h : Ideal.cmp .olt (max x (-x)) (Ideal.ofBits .f32 0x7F800000#32) = 1#1) : IsReal x := by
  have h1 : Ideal.ofBits .f32 0x7F800000#32 = ⊤ := by
    simp [Ideal.ofBits, Ideal.ieee]
  rw [h1] at h
  induction x with
  | bot => simp [Ideal.cmp] at h
  | top => simp [Ideal.cmp] at h
  | coe r => exact ⟨r, rfl⟩

/-- The precondition's conjunct of one array, read at an entry. -/
theorem all_real {s u : Shape} {axes : List (Fin s.rank)} (a : FVec Ideal s .f32) (b : FVec Ideal s .f32) (hb : ∀ i, b i = Ideal.ofBits .f32 0x7F800000#32)
    (init : u.Idx → BitVec 1) (h : s.ReducesTo axes ⟨0, ![]⟩) (hu : 0 < u.numel) (j : (⟨0, ![]⟩ : Shape).Idx)
    (e : Host.reduce IntOp.andi (cmpf (F := Ideal) .olt (Host.absf a) b) init h hu j = 1#1) (i : s.Idx) : IsReal (a i) := by
  haveI : Subsingleton (⟨0, ![]⟩ : Shape).Idx := ⟨fun p q => funext fun k => k.elim0⟩
  have h1 := Host.reduce_andi_all _ _ _ _ j e i
  refine isReal_of_abs_lt ?_
  rw [← hb i]
  exact h1

end Cert.Finite

end
-- ==== Proof.PoolCum.lean ====
module

public import proofs.«01_k».proof.Proof.PoolSum
public import proofs.«01_k».proof.Proof.Finite

@[expose] public section

set_option maxRecDepth 16384

noncomputable section

/-! Cumulative sums along the rows: a window's sum is the difference of two of them when the column is finite. -/

namespace Cert.PoolSum

open Idealize.ShloMosaic Cert.Finite

open scoped BigOperators

/-- The sum of the rows up to row `t`. -/
def cum (x : Fin 4096 → EReal) (t : Nat) : EReal := ∑ k ∈ Finset.range (t + 1), trail x k

/-- The sum of the rows from row `t` on. -/
def rcum (x : Fin 4096 → EReal) (t : Nat) : EReal := ∑ k ∈ Finset.range 4096, trail x (t + k)

theorem trail_real {x : Fin 4096 → EReal} (hx : ∀ i, IsReal (x i)) (n : Nat) : IsReal (trail x n) := by
  unfold trail
  split
  · exact hx _
  · exact IsReal.zero

theorem lead_real {x : Fin 4096 → EReal} (hx : ∀ i, IsReal (x i)) (n : Nat) : IsReal (lead x n) := by
  unfold lead
  split
  · exact hx _
  · exact IsReal.zero

theorem add_sub_self {a b : EReal} (ha : IsReal a) (hb : IsReal b) : (a + b) - a = b := by
  obtain ⟨a, rfl⟩ := ha
  obtain ⟨b, rfl⟩ := hb
  norm_cast
  ring

theorem lead_back (x : Fin 4096 → EReal) {t k : Nat} (ht : t < 4096) (hk : k ≤ t) : lead x (t + 16 - k) = trail x (t - k) := by
  rw [lead_of (x := x) ⟨t - k, by omega⟩ (by show t + 16 - k = t - k + 16; omega), trail_of ⟨t - k, by omega⟩ rfl]

/-- The difference of the cumulative sums at the two ends of a window is the window's sum. -/
theorem window_back {x : Fin 4096 → EReal} (hx : ∀ i, IsReal (x i)) {w t : Nat} (hw : w ≤ 16) (ht : t < 4096) :
    cum x t - (if t < w then 0 else cum x (t - w)) = backSum x w t := by
  unfold backSum cum
  split
  · next h =>
    rw [sub_zero, ← Finset.sum_range_reflect]
    obtain ⟨d, rfl⟩ : ∃ d, w = (t + 1) + d := ⟨w - (t + 1), by omega⟩
    rw [Finset.sum_range_add (fun k => lead x (t + 16 - k)) (t + 1) d, Finset.sum_eq_zero (s := Finset.range d) fun k hk => ?_, add_zero]
    · refine Finset.sum_congr rfl fun k hk => ?_
      rw [lead_back x ht (by have := Finset.mem_range.mp hk; omega)]
      exact congrArg (trail x) (show t + 1 - 1 - k = t - k by omega)
    · exact lead_zero (by have := Finset.mem_range.mp hk; omega)
  · next h =>
    have e : (∑ k ∈ Finset.range (t + 1), trail x k)
        = (∑ k ∈ Finset.range (t - w + 1), trail x k) + ∑ k ∈ Finset.range w, lead x (t + 16 - k) := by
      rw [show t + 1 = (t - w + 1) + w by omega, Finset.sum_range_add]
      refine congrArg₂ (· + ·) rfl ?_
      rw [← Finset.sum_range_reflect]
      refine Finset.sum_congr rfl fun k hk => ?_
      have := Finset.mem_range.mp hk
      rw [lead_back x ht (by omega)]
      exact congrArg (trail x) (by omega)
    rw [e]
    exact add_sub_self (IsReal.sum _ fun k _ => trail_real hx k) (IsReal.sum _ fun k _ => lead_real hx _)

/-- The column less itself `w` rows on, as the transpose of the two reads of the cumulative sums leaves it. -/
def less (x : Fin 4096 → EReal) (w : Nat) (i : Fin 4096) : EReal := x i + -trail x (i.val + w)

theorem coe_sum (s : Finset ℕ) (f : ℕ → ℝ) : (∑ k ∈ s, ((f k : ℝ) : EReal)) = ((∑ k ∈ s, f k : ℝ) : EReal) := by
  classical
  induction s using Finset.induction_on with
  | empty => simp
  | insert a s ha ih => rw [Finset.sum_insert ha, Finset.sum_insert ha, ih, EReal.coe_add]

theorem window_fwd {x : Fin 4096 → EReal} (hx : ∀ i, IsReal (x i)) (w t : Nat) :
    rcum (less x w) t = fwdSum x w t := by
  obtain ⟨f, hf⟩ : ∃ f : Nat → ℝ, ∀ n, trail x n = ((f n : ℝ) : EReal) := ⟨fun n => (trail_real hx n).choose, fun n => (trail_real hx n).choose_spec⟩
  have hz : ∀ n, 4096 ≤ n → f n = 0 := fun n hn => by
    have := (hf n).symm.trans (trail_zero hn)
    exact_mod_cast this
  have hd : ∀ n, trail (less x w) n = ((f n - f (n + w) : ℝ) : EReal) := fun n => by
    by_cases h : n < 4096
    · rw [trail_of ⟨n, h⟩ rfl]
      unfold less
      rw [← trail_of (x := x) ⟨n, h⟩ rfl, hf, hf]
      push_cast
      rfl
    · rw [trail_zero (by omega), hz n (by omega), hz (n + w) (by omega)]
      simp
  have key : (∑ k ∈ Finset.range 4096, (f (t + k) - f (t + k + w))) = ∑ k ∈ Finset.range w, f (t + k) := by
    have h1 := Finset.sum_range_add (fun k => f (t + k)) 4096 w
    have h2 := Finset.sum_range_add (fun k => f (t + k)) w 4096
    rw [Nat.add_comm w 4096] at h2
    rw [Finset.sum_eq_zero (s := Finset.range w) fun k _ => hz (t + (4096 + k)) (by omega), add_zero] at h1
    rw [Finset.sum_sub_distrib, ← h1, h2]
    have h3 : (∑ k ∈ Finset.range 4096, f (t + (w + k))) = ∑ k ∈ Finset.range 4096, f (t + k + w) :=
      Finset.sum_congr rfl fun k _ => congrArg f (by omega)
    rw [h3]
    ring
  unfold rcum fwdSum
  rw [Finset.sum_congr rfl fun k _ => hd (t + k), Finset.sum_congr rfl fun k _ => hf (t + k), coe_sum _ fun k => f (t + k) - f (t + k + w), coe_sum _ fun k => f (t + k), key]

theorem foldl_add {ι : Type} (g : ι → EReal) (l : List ι) (a : EReal) : l.foldl (fun r n => r + g n) a = a + (l.map g).sum := by
  induction l generalizing a with
  | nil => simp
  | cons b l ih => rw [List.foldl_cons, ih, List.map_cons, List.sum_cons, add_assoc]

/-- The window's positions. -/
def positions (N : Nat) : (⟨3, ![N, 1, 1]⟩ : Shape).Idx ≃ Fin N where
  toFun p := p 0
  invFun n := ix3 n 0 0
  left_inv p := by
    funext a
    match a with
    | 0 => rfl
    | 1 => exact Subsingleton.elim (α := Fin 1) _ _
    | 2 => exact Subsingleton.elim (α := Fin 1) _ _
  right_inv n := rfl

/-- A window sum along the rows, over every row. -/
theorem window_at {N A B L H : Nat} (x : FVec Ideal ⟨3, ![N, A, B]⟩ .f32) (init : FVec Ideal ⟨0, ![]⟩ .f32)
    (h : (⟨3, ![N, A, B]⟩ : Shape).ReduceWindows ![N, 1, 1] ![1, 1, 1] ![L, 0, 0] ![H, 0, 0] ⟨3, ![N, A, B]⟩) (hu : 0 < (⟨0, ![]⟩ : Shape).numel)
    (hi : init (Shape.Idx.first hu) = 0) (t : Fin N) (g : Fin A) (c : Fin B) :
    Host.reduceWindowAdd (F := Ideal) (t := ⟨3, ![N, A, B]⟩) ![N, 1, 1] ![1, 1, 1] ![L, 0, 0] ![H, 0, 0] x init h hu (ix3 t g c)
      = ∑ n : Fin N, if hin : L ≤ t.val + n.val ∧ t.val + n.val - L < N then x (ix3 ⟨t.val + n.val - L, hin.2⟩ g c) else 0 := by
  have e : Host.reduceWindowAdd (F := Ideal) (t := ⟨3, ![N, A, B]⟩) ![N, 1, 1] ![1, 1, 1] ![L, 0, 0] ![H, 0, 0] x init h hu (ix3 t g c)
      = Host.reduceWindow (fun a b : EReal => a + b) (t := ⟨3, ![N, A, B]⟩) ![N, 1, 1] ![1, 1, 1] ![L, 0, 0] ![H, 0, 0] x (fun _ : (⟨0, ![]⟩ : Shape).Idx => (0 : EReal)) h hu (ix3 t g c) := by
    rw [← hi]
    rfl
  rw [e]
  unfold Host.reduceWindow
  refine (foldl_add _ _ _).trans ?_
  rw [zero_add, ← Fin.sum_univ_def]
  refine Fintype.sum_equiv ((⟨3, ![N, 1, 1]⟩ : Shape).rowMajor.symm.trans (positions N)) _ _ fun q => ?_
  have h1 : ((⟨3, ![N, 1, 1]⟩ : Shape).rowMajor.symm q 1).val < 1 := ((⟨3, ![N, 1, 1]⟩ : Shape).rowMajor.symm q 1).isLt
  have h2 : ((⟨3, ![N, 1, 1]⟩ : Shape).rowMajor.symm q 2).val < 1 := ((⟨3, ![N, 1, 1]⟩ : Shape).rowMajor.symm q 2).isLt
  have hg := g.isLt
  have hb := c.isLt
  by_cases hc : L ≤ t.val + ((⟨3, ![N, 1, 1]⟩ : Shape).rowMajor.symm q 0).val ∧ t.val + ((⟨3, ![N, 1, 1]⟩ : Shape).rowMajor.symm q 0).val - L < N
  · refine Eq.trans ?_ (dif_pos hc).symm
    refine (dif_pos ?_).trans (congrArg x (funext fun a => Fin.ext ?_))
    · intro a
      match a with
      | 0 =>
        show L ≤ t.val * 1 + ((⟨3, ![N, 1, 1]⟩ : Shape).rowMajor.symm q 0).val ∧ t.val * 1 + ((⟨3, ![N, 1, 1]⟩ : Shape).rowMajor.symm q 0).val - L < N
        rw [mul_one]
        exact hc
      | 1 =>
        show 0 ≤ g.val * 1 + ((⟨3, ![N, 1, 1]⟩ : Shape).rowMajor.symm q 1).val ∧ g.val * 1 + ((⟨3, ![N, 1, 1]⟩ : Shape).rowMajor.symm q 1).val - 0 < A
        omega
      | 2 =>
        show 0 ≤ c.val * 1 + ((⟨3, ![N, 1, 1]⟩ : Shape).rowMajor.symm q 2).val ∧ c.val * 1 + ((⟨3, ![N, 1, 1]⟩ : Shape).rowMajor.symm q 2).val - 0 < B
        omega
    · match a with
      | 0 =>
        show t.val * 1 + ((⟨3, ![N, 1, 1]⟩ : Shape).rowMajor.symm q 0).val - L = t.val + ((⟨3, ![N, 1, 1]⟩ : Shape).rowMajor.symm q 0).val - L
        rw [mul_one]
      | 1 =>
        show g.val * 1 + ((⟨3, ![N, 1, 1]⟩ : Shape).rowMajor.symm q 1).val - 0 = g.val
        omega
      | 2 =>
        show c.val * 1 + ((⟨3, ![N, 1, 1]⟩ : Shape).rowMajor.symm q 2).val - 0 = c.val
        omega
  · refine Eq.trans ?_ (dif_neg hc).symm
    refine dif_neg fun hall => hc ?_
    have := hall 0
    change L ≤ t.val * 1 + ((⟨3, ![N, 1, 1]⟩ : Shape).rowMajor.symm q 0).val ∧ t.val * 1 + ((⟨3, ![N, 1, 1]⟩ : Shape).rowMajor.symm q 0).val - L < N at this
    rw [mul_one] at this
    exact this

/-- The window sum that ends at a row is the cumulative sum there. -/
theorem sum_cum (y : Fin 4096 → EReal) (t : Fin 4096) :
    (∑ n : Fin 4096, if hin : 4095 ≤ t.val + n.val ∧ t.val + n.val - 4095 < 4096 then y ⟨t.val + n.val - 4095, hin.2⟩ else 0) = cum y t.val := by
  have h1 : ∀ n : Fin 4096, (if hin : 4095 ≤ t.val + n.val ∧ t.val + n.val - 4095 < 4096 then y ⟨t.val + n.val - 4095, hin.2⟩ else 0)
      = if 4095 ≤ t.val + n.val then trail y (t.val + n.val - 4095) else 0 := fun n => by
    by_cases h : 4095 ≤ t.val + n.val
    · rw [dif_pos ⟨h, by omega⟩, if_pos h, trail_of ⟨t.val + n.val - 4095, by omega⟩ rfl]
    · rw [dif_neg (fun k => h k.1), if_neg h]
  rw [Finset.sum_congr rfl fun n _ => h1 n, ← Finset.sum_range (fun n => if 4095 ≤ t.val + n then trail y (t.val + n - 4095) else 0)]
  unfold cum
  have ht := t.isLt
  have h2 : Finset.range 4096 = Finset.range ((4095 - t.val) + (t.val + 1)) := congrArg Finset.range (by omega)
  rw [h2, Finset.sum_range_add (fun n => if 4095 ≤ t.val + n then trail y (t.val + n - 4095) else 0) (4095 - t.val) (t.val + 1)]
  have h3 : ∑ n ∈ Finset.range (4095 - t.val), (if 4095 ≤ t.val + n then trail y (t.val + n - 4095) else 0) = 0 :=
    Finset.sum_eq_zero fun n hn => if_neg (by have := Finset.mem_range.mp hn; omega)
  rw [h3, zero_add]
  refine Finset.sum_congr rfl fun n hn => ?_
  rw [if_pos (by omega)]
  exact congrArg (trail y) (by omega)

/-- The window sum that begins at a row is the sum from there on. -/
theorem sum_rcum (y : Fin 4096 → EReal) (t : Fin 4096) :
    (∑ n : Fin 4096, if hin : 0 ≤ t.val + n.val ∧ t.val + n.val - 0 < 4096 then y ⟨t.val + n.val - 0, hin.2⟩ else 0) = rcum y t.val := by
  unfold rcum
  rw [Finset.sum_range]
  refine Finset.sum_congr rfl fun n _ => ?_
  by_cases h : t.val + n.val < 4096
  · rw [dif_pos ⟨by omega, by omega⟩, trail_of ⟨t.val + n.val - 0, by omega⟩ (by show t.val + n.val = t.val + n.val - 0; omega)]
  · rw [dif_neg (by omega), trail_zero (by omega)]

theorem rcum_congr {x y : Fin 4096 → EReal} (h : ∀ i, x i = y i) (t : Nat) : rcum x t = rcum y t := congrArg (fun f => rcum f t) (funext h)

/-- A window's length is a nonzero number. -/
theorem cnt_real (t : Fin 4096) (g : Fin 4) (c : Fin 96) : ∃ r : ℝ, r ≠ 0 ∧ cnt (BitVec.ofNat 32 t.val) (g.val * 96 + c.val) = (r : EReal) := by
  have ha : (IntOp.addi (BitVec.ofNat 32 t.val) 1#32).toInt = t.val + 1 := by
    unfold IntOp.addi
    have ht := t.isLt
    rw [BitVec.toInt_eq_toNat_of_lt] <;> simp [BitVec.toNat_add] <;> omega
  have hb : (BitVec.ofNat 32 (width (g.val * 96 + c.val))).toInt = width (g.val * 96 + c.val) ∧ 0 < width (g.val * 96 + c.val) := by
    unfold width
    have hd : (g.val * 96 + c.val) / 96 = g.val := by omega
    rw [hd]
    clear hd ha
    revert g
    decide
  have hm : 0 < (IntOp.minsi (IntOp.addi (BitVec.ofNat 32 t.val) 1#32) (BitVec.ofNat 32 (width (g.val * 96 + c.val)))).toInt := by
    unfold IntOp.minsi
    split
    · rw [ha]; omega
    · rw [hb.1]; exact_mod_cast hb.2
  exact ⟨_, by exact_mod_cast hm.ne', rfl⟩

theorem div_real {x c : EReal} (hx : IsReal x) (hc : ∃ r : ℝ, r ≠ 0 ∧ c = (r : EReal)) : IsReal (Ideal.div x c) := by
  obtain ⟨a, rfl⟩ := hx
  obtain ⟨r, hr, rfl⟩ := hc
  refine ⟨a * r⁻¹, ?_⟩
  rw [Ideal.div, if_neg (by exact_mod_cast hr), ← EReal.coe_inv]
  push_cast
  rfl

end Cert.PoolSum

end
-- ==== Proof.PoolRef.lean ====
module

public import proofs.«01_k».proof.Proof.Gen.Reference3Ideal.Read
public import proofs.«01_k».proof.Proof.PoolCum

@[expose] public section

set_option maxRecDepth 16384

noncomputable section

/-! The pooled columns of the reference, entry by entry. -/

namespace Cert.PoolRef

open Idealize.ShloMosaic Cert.Reference3Ideal Cert.Reference3Ideal.Read Cert.PoolSum Cert.Conv Cert.Finite

open scoped BigOperators

variable (x0 : FVec Ideal S4096x6912 .f32) (x1 x2 : FVec Ideal S4096x384 .f32) (x3 : FVec Ideal S4096x6912 .bf16) (x4 : FVec Ideal S4x96x96 .f32)
  (x5 : FVec Ideal S384 .f32) (x6 : FVec Ideal S3x384 .f32)

/-- Channel `c` of group `g`, and back. -/
abbrev chan (g : Fin 4) (c : Fin 96) : Fin 384 := ⟨g.val * 96 + c.val, by omega⟩
abbrev grp (j : Fin 384) : Fin 4 := ⟨j.val / 96, by omega⟩
abbrev lane (j : Fin 384) : Fin 96 := ⟨j.val % 96, by omega⟩

theorem chan_grp (j : Fin 384) : chan (grp j) (lane j) = j := Fin.ext (by show j.val / 96 * 96 + j.val % 96 = j.val; omega)

/-- The four columns of channel `j`. -/
abbrev acol (j : Fin 384) : Fin 4096 → EReal := fun i => x0 (ix2 i ⟨j.val, by omega⟩)
abbrev xcol (j : Fin 384) : Fin 4096 → EReal := fun i => x0 (ix2 i ⟨384 + j.val, by omega⟩)
abbrev bcol (j : Fin 384) : Fin 4096 → EReal := fun i => x0 (ix2 i ⟨768 + j.val, by omega⟩)
abbrev ccol (j : Fin 384) : Fin 4096 → EReal := fun i => x0 (ix2 i ⟨1152 + j.val, by omega⟩)

/-- A window's length at row `t`. -/
abbrev cntr (t : Fin 4096) (j : Fin 384) : EReal := cnt (BitVec.ofNat 32 t.val) j.val

/-- The window's mean, less the row itself. -/
def pooled (t : Fin 4096) (j : Fin 384) : EReal := Ideal.div (backSum (acol x0 j) (width j.val) t.val) (cntr t j) - acol x0 j t

/-- The channels of a group mixed. -/
def mixed (t : Fin 4096) (j : Fin 384) : EReal := ∑ c : Fin 96, pooled x0 t (chan (grp j) c) * x4 (ix3 (grp j) c (lane j))

theorem v4_at (t : Fin 4096) (g : Fin 4) (c : Fin 96) : val_main_v4 (F := Ideal) x0 (ix3 t g c) = acol x0 (chan g c) t := by
  pointwise [val_main_v4, val_main_v0]

theorem v5_at (t : Fin 4096) (g : Fin 4) (c : Fin 96) : val_main_v5 (F := Ideal) x0 (ix3 t g c) = cum (acol x0 (chan g c)) t.val := by
  unfold val_main_v5
  refine (window_at (N := 4096) (A := 4) (B := 96) (L := 4095) (H := 0) (val_main_v4 (F := Ideal) x0) (val_main_call0_call0_v0 (F := Ideal))
    _ _ Ideal.ofBits_zero_f32 t g c).trans (Eq.trans (Finset.sum_congr rfl fun n _ => ?_) (sum_cum (acol x0 (chan g c)) t))
  by_cases h : 4095 ≤ t.val + n.val ∧ t.val + n.val - 4095 < 4096
  · rw [dif_pos h, dif_pos h, v4_at]
  · rw [dif_neg h, dif_neg h]

/-- Group 0: windows of 2 rows. -/
theorem width_0 (c : Fin 96) : width (0 * 96 + c.val) = 2 := by
  unfold width
  rw [show (0 * 96 + c.val) / 96 = 0 by omega]
  rfl

theorem pooled_0 (hx : ∀ i, IsReal (x0 i)) (t : Fin 4096) (c : Fin 96) : val_main_v24 (F := Ideal) x0 (ix2 t c) = pooled x0 t (chan 0 c) := by
  have e : val_main_v24 (F := Ideal) x0 (ix2 t c)
      = Ideal.div (val_main_v5 (F := Ideal) x0 (ix3 t 0 c)
          - if h : t.val < 2 then 0 else val_main_v5 (F := Ideal) x0 (ix3 ⟨t.val - 2, by omega⟩ 0 c))
          (FloatOps.sitofp (F := Ideal) .f32 (IntOp.minsi (IntOp.addi (BitVec.ofNat 32 t.val) 1#32) 2#32)) - val_main_v4 (F := Ideal) x0 (ix3 t 0 c) := by
    pointwise [val_main_v24, val_main_v23, val_main_v22, val_main_v21, val_main_v20, val_main_v19, val_main_v18, val_main_v17, val_main_v16, val_main_v15, val_main_v14, val_main_v13, val_main_v11, val_main_v10, val_main_v9, val_main_v8, val_main_v7, val_main_v6, val_main_cst, val_main_c, val_main_c_1]
  rw [e, v5_at, v4_at]
  unfold pooled cntr cnt
  refine congrArg₂ (· - ·) (congrArg₂ Ideal.div ?_ ?_) rfl
  · rw [← window_back (x := acol x0 (chan 0 c)) (fun i => hx _) (w := width (chan 0 c).val) ((width_0 c).le.trans (by decide)) t.isLt]
    rw [show width (chan 0 c).val = 2 from width_0 c]
    refine congrArg₂ (· - ·) rfl ?_
    by_cases h : t.val < 2
    · rw [dif_pos h, if_pos h]
    · rw [dif_neg h, if_neg h, v5_at]
  · rw [show width (chan 0 c).val = 2 from width_0 c]

/-- Group 1: windows of 4 rows. -/
theorem width_1 (c : Fin 96) : width (1 * 96 + c.val) = 4 := by
  unfold width
  rw [show (1 * 96 + c.val) / 96 = 1 by omega]
  rfl

theorem pooled_1 (hx : ∀ i, IsReal (x0 i)) (t : Fin 4096) (c : Fin 96) : val_main_v42 (F := Ideal) x0 (ix2 t c) = pooled x0 t (chan 1 c) := by
  have e : val_main_v42 (F := Ideal) x0 (ix2 t c)
      = Ideal.div (val_main_v5 (F := Ideal) x0 (ix3 t 1 c)
          - if h : t.val < 4 then 0 else val_main_v5 (F := Ideal) x0 (ix3 ⟨t.val - 4, by omega⟩ 1 c))
          (FloatOps.sitofp (F := Ideal) .f32 (IntOp.minsi (IntOp.addi (BitVec.ofNat 32 t.val) 1#32) 4#32)) - val_main_v4 (F := Ideal) x0 (ix3 t 1 c) := by
    pointwise [val_main_v42, val_main_v41, val_main_v40, val_main_v39, val_main_v38, val_main_v37, val_main_v36, val_main_v35, val_main_v34, val_main_v33, val_main_v32, val_main_v31, val_main_v29, val_main_v28, val_main_v27, val_main_v26, val_main_v25, val_main_v6, val_main_cst_2, val_main_c_4, val_main_c_5]
  rw [e, v5_at, v4_at]
  unfold pooled cntr cnt
  refine congrArg₂ (· - ·) (congrArg₂ Ideal.div ?_ ?_) rfl
  · rw [← window_back (x := acol x0 (chan 1 c)) (fun i => hx _) (w := width (chan 1 c).val) ((width_1 c).le.trans (by decide)) t.isLt]
    rw [show width (chan 1 c).val = 4 from width_1 c]
    refine congrArg₂ (· - ·) rfl ?_
    by_cases h : t.val < 4
    · rw [dif_pos h, if_pos h]
    · rw [dif_neg h, if_neg h, v5_at]
  · rw [show width (chan 1 c).val = 4 from width_1 c]

/-- Group 2: windows of 8 rows. -/
theorem width_2 (c : Fin 96) : width (2 * 96 + c.val) = 8 := by
  unfold width
  rw [show (2 * 96 + c.val) / 96 = 2 by omega]
  rfl

theorem pooled_2 (hx : ∀ i, IsReal (x0 i)) (t : Fin 4096) (c : Fin 96) : val_main_v60 (F := Ideal) x0 (ix2 t c) = pooled x0 t (chan 2 c) := by
  have e : val_main_v60 (F := Ideal) x0 (ix2 t c)
      = Ideal.div (val_main_v5 (F := Ideal) x0 (ix3 t 2 c)
          - if h : t.val < 8 then 0 else val_main_v5 (F := Ideal) x0 (ix3 ⟨t.val - 8, by omega⟩ 2 c))
          (FloatOps.sitofp (F := Ideal) .f32 (IntOp.minsi (IntOp.addi (BitVec.ofNat 32 t.val) 1#32) 8#32)) - val_main_v4 (F := Ideal) x0 (ix3 t 2 c) := by
    pointwise [val_main_v60, val_main_v59, val_main_v58, val_main_v57, val_main_v56, val_main_v55, val_main_v54, val_main_v53, val_main_v52, val_main_v51, val_main_v50, val_main_v49, val_main_v47, val_main_v46, val_main_v45, val_main_v44, val_main_v43, val_main_v6, val_main_cst_6, val_main_c_8, val_main_c_9]
  rw [e, v5_at, v4_at]
  unfold pooled cntr cnt
  refine congrArg₂ (· - ·) (congrArg₂ Ideal.div ?_ ?_) rfl
  · rw [← window_back (x := acol x0 (chan 2 c)) (fun i => hx _) (w := width (chan 2 c).val) ((width_2 c).le.trans (by decide)) t.isLt]
    rw [show width (chan 2 c).val = 8 from width_2 c]
    refine congrArg₂ (· - ·) rfl ?_
    by_cases h : t.val < 8
    · rw [dif_pos h, if_pos h]
    · rw [dif_neg h, if_neg h, v5_at]
  · rw [show width (chan 2 c).val = 8 from width_2 c]

/-- Group 3: windows of 16 rows. -/
theorem width_3 (c : Fin 96) : width (3 * 96 + c.val) = 16 := by
  unfold width
  rw [show (3 * 96 + c.val) / 96 = 3 by omega]
  rfl

theorem pooled_3 (hx : ∀ i, IsReal (x0 i)) (t : Fin 4096) (c : Fin 96) : val_main_v78 (F := Ideal) x0 (ix2 t c) = pooled x0 t (chan 3 c) := by
  have e : val_main_v78 (F := Ideal) x0 (ix2 t c)
      = Ideal.div (val_main_v5 (F := Ideal) x0 (ix3 t 3 c)
          - if h : t.val < 16 then 0 else val_main_v5 (F := Ideal) x0 (ix3 ⟨t.val - 16, by omega⟩ 3 c))
          (FloatOps.sitofp (F := Ideal) .f32 (IntOp.minsi (IntOp.addi (BitVec.ofNat 32 t.val) 1#32) 16#32)) - val_main_v4 (F := Ideal) x0 (ix3 t 3 c) := by
    pointwise [val_main_v78, val_main_v77, val_main_v76, val_main_v75, val_main_v74, val_main_v73, val_main_v72, val_main_v71, val_main_v70, val_main_v69, val_main_v68, val_main_v67, val_main_v65, val_main_v64, val_main_v63, val_main_v62, val_main_v61, val_main_v6, val_main_cst_10, val_main_c_12, val_main_c_13]
  rw [e, v5_at, v4_at]
  unfold pooled cntr cnt
  refine congrArg₂ (· - ·) (congrArg₂ Ideal.div ?_ ?_) rfl
  · rw [← window_back (x := acol x0 (chan 3 c)) (fun i => hx _) (w := width (chan 3 c).val) ((width_3 c).le.trans (by decide)) t.isLt]
    rw [show width (chan 3 c).val = 16 from width_3 c]
    refine congrArg₂ (· - ·) rfl ?_
    by_cases h : t.val < 16
    · rw [dif_pos h, if_pos h]
    · rw [dif_neg h, if_neg h, v5_at]
  · rw [show width (chan 3 c).val = 16 from width_3 c]

theorem pooled_at (hx : ∀ i, IsReal (x0 i)) (t : Fin 4096) (g : Fin 4) (c : Fin 96) : val_main_v83 (F := Ideal) x0 (ix3 t g c) = pooled x0 t (chan g c) := by
  have e : val_main_v83 (F := Ideal) x0 (ix3 t g c)
      = if h : g.val < 1 then val_main_v24 (F := Ideal) x0 (ix2 t c) else if h : g.val - 1 < 1 then val_main_v42 (F := Ideal) x0 (ix2 t c) else
          if h : g.val - 1 - 1 < 1 then val_main_v60 (F := Ideal) x0 (ix2 t c) else val_main_v78 (F := Ideal) x0 (ix2 t c) := by
    pointwise [val_main_v83, val_main_v82, val_main_v81, val_main_v80, val_main_v79]
  rw [e, pooled_0 x0 hx, pooled_1 x0 hx, pooled_2 x0 hx, pooled_3 x0 hx]
  obtain ⟨g, hg⟩ := g
  obtain rfl | rfl | rfl | rfl : g = 0 ∨ g = 1 ∨ g = 2 ∨ g = 3 := by omega
  all_goals rfl

theorem mixed_at (hx : ∀ i, IsReal (x0 i)) (t : Fin 4096) (j : Fin 384) : val_main_v86 (F := Ideal) x0 x4 (ix2 t j) = mixed x0 x4 t j := by
  have e : val_main_v86 (F := Ideal) x0 x4 (ix2 t j)
      = ∑ c : Fin 96, x4 (ix3 (grp j) c (lane j)) * val_main_v83 (F := Ideal) x0 (ix3 t (grp j) c) := by
    pointwise [val_main_v86, val_main_v85, val_main_v84]
  rw [e]
  exact Finset.sum_congr rfl fun c _ => by rw [pooled_at x0 hx, mul_comm]

/-- The scale's gradient. -/
theorem ref_dps (hx : ∀ i, IsReal (x0 i)) (j : Fin 384) : val_main_v234 (F := Ideal) x0 x1 x4 (ix2 0 j) = ∑ t : Fin 4096, x1 (ix2 t j) * mixed x0 x4 t j := by
  have e : val_main_v234 (F := Ideal) x0 x1 x4 (ix2 0 j) = ∑ t : Fin 4096, val_main_v86 (F := Ideal) x0 x4 (ix2 t j) * x1 (ix2 t j) := by
    pointwise [val_main_v234, val_main_v157, val_main_v154, val_main_v153, val_main_v152, val_main_cst_28, val_main_cst_29]
    simp only [Finset.univ_unique, Finset.sum_singleton, Ideal.ofBits_zero_f32, zero_add]
  rw [e]
  exact Finset.sum_congr rfl fun t _ => by rw [mixed_at x0 x4 hx, mul_comm]

/-- The gradient of the mixed channels. -/
abbrev dmix (t : Fin 4096) (j : Fin 384) : EReal := x1 (ix2 t j) * x5 (ix1 j)

theorem dmix_at (g : Fin 4) (c : Fin 96) (t : Fin 4096) : val_main_v159 (F := Ideal) x1 x5 (ix3 g c t) = dmix x1 x5 t (chan g c) := by
  pointwise [val_main_v159, val_main_v158, val_main_v156, val_main_v155, val_main_v87]

/-- The mixing weights' gradient: four copies side by side, of which the one of the row's own group is claimed. -/
theorem ref_dpw (hx : ∀ i, IsReal (x0 i)) (l j : Fin 384) (h : l.val / 96 = j.val / 96) :
    val_main_v236 (F := Ideal) x0 x1 x5 (ix2 l j) = ∑ t : Fin 4096, pooled x0 t l * dmix x1 x5 t j := by
  have e : val_main_v236 (F := Ideal) x0 x1 x5 (ix2 l j) = val_main_v235 (F := Ideal) x0 x1 x5 (ix2 l (lane j)) := by
    have e' : val_main_v236 (F := Ideal) x0 x1 x5 (ix2 l j)
        = if h : j.val < 96 then val_main_v235 (F := Ideal) x0 x1 x5 (ix2 l ⟨j.val, h⟩) else if h : j.val - 96 < 96 then val_main_v235 (F := Ideal) x0 x1 x5 (ix2 l ⟨j.val - 96, by omega⟩) else
            if h : j.val - 96 - 96 < 96 then val_main_v235 (F := Ideal) x0 x1 x5 (ix2 l ⟨j.val - 96 - 96, by omega⟩) else val_main_v235 (F := Ideal) x0 x1 x5 (ix2 l ⟨j.val - 96 - 96 - 96, by omega⟩) := by
      pointwise [val_main_v236]
    rw [e']
    split
    · exact congrArg (val_main_v235 (F := Ideal) x0 x1 x5) (congrArg (ix2 l) (Fin.ext (by show j.val = j.val % 96; omega)))
    split
    · exact congrArg (val_main_v235 (F := Ideal) x0 x1 x5) (congrArg (ix2 l) (Fin.ext (by show j.val - 96 = j.val % 96; omega)))
    split
    · exact congrArg (val_main_v235 (F := Ideal) x0 x1 x5) (congrArg (ix2 l) (Fin.ext (by show j.val - 96 - 96 = j.val % 96; omega)))
    · exact congrArg (val_main_v235 (F := Ideal) x0 x1 x5) (congrArg (ix2 l) (Fin.ext (by show j.val - 96 - 96 - 96 = j.val % 96; omega)))
  have e2 : val_main_v235 (F := Ideal) x0 x1 x5 (ix2 l (lane j))
      = ∑ t : Fin 4096, val_main_v159 (F := Ideal) x1 x5 (ix3 (grp l) (lane j) t) * val_main_v83 (F := Ideal) x0 (ix3 t (grp l) (lane l)) := by
    pointwise [val_main_v235, val_main_v163, val_main_v162]
  rw [e, e2]
  refine Finset.sum_congr rfl fun t _ => ?_
  rw [dmix_at, pooled_at x0 hx, chan_grp, mul_comm, show grp l = grp j from Fin.ext h, chan_grp]

end Cert.PoolRef

end
-- ==== Proof.PoolRefBack.lean ====
module

public import proofs.«01_k».proof.Proof.Gen.Reference3Ideal.Read
public import proofs.«01_k».proof.Proof.PoolRef

@[expose] public section

set_option maxRecDepth 16384

noncomputable section

/-! The gradient of the pooled columns, entry by entry. -/

namespace Cert.PoolRef

open Idealize.ShloMosaic Cert.Reference3Ideal Cert.Reference3Ideal.Read Cert.PoolSum Cert.Conv Cert.Finite

open scoped BigOperators

variable (x0 : FVec Ideal S4096x6912 .f32) (x1 x2 : FVec Ideal S4096x384 .f32) (x3 : FVec Ideal S4096x6912 .bf16) (x4 : FVec Ideal S4x96x96 .f32)
  (x5 : FVec Ideal S384 .f32) (x6 : FVec Ideal S3x384 .f32)

theorem grp_chan (g : Fin 4) (c : Fin 96) : grp (chan g c) = g := Fin.ext (by show (g.val * 96 + c.val) / 96 = g.val; omega)
theorem lane_chan (g : Fin 4) (c : Fin 96) : lane (chan g c) = c := Fin.ext (by show (g.val * 96 + c.val) % 96 = c.val; omega)

/-- The gradient of the pooled columns. -/
def dpool (t : Fin 4096) (j : Fin 384) : EReal := ∑ d : Fin 96, dmix x1 x5 t (chan (grp j) d) * x4 (ix3 (grp j) (lane j) d)

/-- Over the window's length: column `j`. -/
def share (j : Fin 384) (t : Fin 4096) : EReal := Ideal.div (dpool x1 x4 x5 t j) (cntr t j)

/-- The gradient of the columns before the pooling. -/
def dacol (t : Fin 4096) (j : Fin 384) : EReal := fwdSum (share x1 x4 x5 j) (width j.val) t.val - dpool x1 x4 x5 t j

/-- The arguments the pooling reads are finite. -/
def Ok : Prop := (∀ i, IsReal (x0 i)) ∧ (∀ i, IsReal (x1 i)) ∧ (∀ i, IsReal (x4 i)) ∧ (∀ i, IsReal (x5 i))

variable {x0 x1 x4 x5}

theorem dpool_real (h : Ok x0 x1 x4 x5) (t : Fin 4096) (j : Fin 384) : IsReal (dpool x1 x4 x5 t j) :=
  IsReal.sum _ fun d _ => ((h.2.1 _).mul (h.2.2.2 _)).mul (h.2.2.1 _)

theorem cntr_real (t : Fin 4096) (j : Fin 384) : ∃ r : ℝ, r ≠ 0 ∧ cntr t j = (r : EReal) := by
  have e := cnt_real t (grp j) (lane j)
  rwa [show (grp j).val * 96 + (lane j).val = j.val by show j.val / 96 * 96 + j.val % 96 = j.val; omega] at e

theorem share_real (h : Ok x0 x1 x4 x5) (j : Fin 384) (t : Fin 4096) : IsReal (share x1 x4 x5 j t) :=
  div_real (dpool_real h t j) (cntr_real t j)

variable (x0 x1 x4 x5)

theorem dpool_at (t : Fin 4096) (g : Fin 4) (c : Fin 96) : val_main_v161 (F := Ideal) x1 x4 x5 (ix3 t g c) = dpool x1 x4 x5 t (chan g c) := by
  have e : val_main_v161 (F := Ideal) x1 x4 x5 (ix3 t g c) = ∑ d : Fin 96, val_main_v159 (F := Ideal) x1 x5 (ix3 g d t) * x4 (ix3 g c d) := by
    pointwise [val_main_v161, val_main_v160]
  rw [e]
  unfold dpool
  rw [grp_chan, lane_chan]
  exact Finset.sum_congr rfl fun d _ => by rw [dmix_at]

theorem minus_at (t : Fin 4096) (g : Fin 4) (c : Fin 96) : val_main_v215 (F := Ideal) x1 x4 x5 (ix3 t g c) = -dpool x1 x4 x5 t (chan g c) := by
  have e : val_main_v215 (F := Ideal) x1 x4 x5 (ix3 t g c)
      = (((if h : 3 ≤ g.val ∧ g.val - 3 < 1 then -val_main_v161 (F := Ideal) x1 x4 x5 (ix3 t 3 c) else 0)
            + if h : 2 ≤ g.val ∧ g.val - 2 < 1 then -val_main_v161 (F := Ideal) x1 x4 x5 (ix3 t 2 c) else 0)
          + if h : 1 ≤ g.val ∧ g.val - 1 < 1 then -val_main_v161 (F := Ideal) x1 x4 x5 (ix3 t 1 c) else 0)
        + if h : g.val < 1 then -val_main_v161 (F := Ideal) x1 x4 x5 (ix3 t 0 c) else 0 := by
    pointwise [val_main_v215, val_main_v214, val_main_v213, val_main_v212, val_main_v201, val_main_v200, val_main_v199, val_main_v198, val_main_v187,
      val_main_v186, val_main_v185, val_main_v184, val_main_v174, val_main_v173, val_main_v172, val_main_v171, val_main_v170, val_main_v169, val_main_v168,
      val_main_v167, val_main_v166, val_main_v165, val_main_v164, val_main_cst_30, val_main_cst_33, val_main_cst_36, val_main_cst_39]
  rw [e, dpool_at, dpool_at, dpool_at, dpool_at]
  obtain ⟨g, hg⟩ := g
  obtain rfl | rfl | rfl | rfl : g = 0 ∨ g = 1 ∨ g = 2 ∨ g = 3 := by omega
  · rw [dif_neg (by simp), dif_neg (by simp), dif_neg (by simp), dif_pos (by simp), add_zero, add_zero, zero_add]; rfl
  · rw [dif_neg (by simp), dif_neg (by simp), dif_pos (by simp), dif_neg (by simp), add_zero, add_zero, zero_add]; rfl
  · rw [dif_neg (by simp), dif_pos (by simp), dif_neg (by simp), dif_neg (by simp), add_zero, add_zero, zero_add]; rfl
  · rw [dif_pos (by simp), dif_neg (by simp), dif_neg (by simp), dif_neg (by simp), add_zero, add_zero, add_zero]; rfl

theorem share_0 (t : Fin 4096) (c : Fin 96) : val_main_v217 (F := Ideal) x1 x4 x5 (ix2 t c) = share x1 x4 x5 (chan 0 c) t := by
  have e : val_main_v217 (F := Ideal) x1 x4 x5 (ix2 t c)
      = Ideal.div (val_main_v161 (F := Ideal) x1 x4 x5 (ix3 t 0 c))
          (FloatOps.sitofp (F := Ideal) .f32 (IntOp.minsi (IntOp.addi (BitVec.ofNat 32 t.val) 1#32) 2#32)) := by
    pointwise [val_main_v217, val_main_v216, val_main_v165, val_main_v164, val_main_v18, val_main_v17, val_main_v16, val_main_v15, val_main_v14, val_main_v13, val_main_c, val_main_c_1, val_main_v6]
  rw [e, dpool_at]
  unfold share cntr cnt
  rw [show width (chan 0 c).val = 2 from width_0 c]

theorem less_0 (t : Fin 4096) (c : Fin 96) : val_main_v222 (F := Ideal) x1 x4 x5 (ix2 t c) = less (share x1 x4 x5 (chan 0 c)) 2 t := by
  have e : val_main_v222 (F := Ideal) x1 x4 x5 (ix2 t c)
      = val_main_v217 (F := Ideal) x1 x4 x5 (ix2 t c) + if h : t.val < 4094 then -val_main_v217 (F := Ideal) x1 x4 x5 (ix2 ⟨2 + t.val, by omega⟩ c) else 0 := by
    pointwise [val_main_v222, val_main_v221, val_main_v220, val_main_v218, val_main_cst_40]
  rw [e, share_0]
  unfold less
  refine congrArg₂ (· + ·) rfl ?_
  by_cases h : t.val < 4094
  · rw [dif_pos h, share_0, trail_of ⟨2 + t.val, by omega⟩ (by show t.val + 2 = 2 + t.val; omega)]
  · rw [dif_neg h, trail_zero (by omega), neg_zero]

theorem share_1 (t : Fin 4096) (c : Fin 96) : val_main_v203 (F := Ideal) x1 x4 x5 (ix2 t c) = share x1 x4 x5 (chan 1 c) t := by
  have e : val_main_v203 (F := Ideal) x1 x4 x5 (ix2 t c)
      = Ideal.div (val_main_v161 (F := Ideal) x1 x4 x5 (ix3 t 1 c))
          (FloatOps.sitofp (F := Ideal) .f32 (IntOp.minsi (IntOp.addi (BitVec.ofNat 32 t.val) 1#32) 4#32)) := by
    pointwise [val_main_v203, val_main_v202, val_main_v167, val_main_v166, val_main_v36, val_main_v35, val_main_v34, val_main_v33, val_main_v32, val_main_v31, val_main_c_4, val_main_c_5, val_main_v6]
  rw [e, dpool_at]
  unfold share cntr cnt
  rw [show width (chan 1 c).val = 4 from width_1 c]

theorem less_1 (t : Fin 4096) (c : Fin 96) : val_main_v208 (F := Ideal) x1 x4 x5 (ix2 t c) = less (share x1 x4 x5 (chan 1 c)) 4 t := by
  have e : val_main_v208 (F := Ideal) x1 x4 x5 (ix2 t c)
      = val_main_v203 (F := Ideal) x1 x4 x5 (ix2 t c) + if h : t.val < 4092 then -val_main_v203 (F := Ideal) x1 x4 x5 (ix2 ⟨4 + t.val, by omega⟩ c) else 0 := by
    pointwise [val_main_v208, val_main_v207, val_main_v206, val_main_v204, val_main_cst_37]
  rw [e, share_1]
  unfold less
  refine congrArg₂ (· + ·) rfl ?_
  by_cases h : t.val < 4092
  · rw [dif_pos h, share_1, trail_of ⟨4 + t.val, by omega⟩ (by show t.val + 4 = 4 + t.val; omega)]
  · rw [dif_neg h, trail_zero (by omega), neg_zero]

theorem share_2 (t : Fin 4096) (c : Fin 96) : val_main_v189 (F := Ideal) x1 x4 x5 (ix2 t c) = share x1 x4 x5 (chan 2 c) t := by
  have e : val_main_v189 (F := Ideal) x1 x4 x5 (ix2 t c)
      = Ideal.div (val_main_v161 (F := Ideal) x1 x4 x5 (ix3 t 2 c))
          (FloatOps.sitofp (F := Ideal) .f32 (IntOp.minsi (IntOp.addi (BitVec.ofNat 32 t.val) 1#32) 8#32)) := by
    pointwise [val_main_v189, val_main_v188, val_main_v169, val_main_v168, val_main_v54, val_main_v53, val_main_v52, val_main_v51, val_main_v50, val_main_v49, val_main_c_8, val_main_c_9, val_main_v6]
  rw [e, dpool_at]
  unfold share cntr cnt
  rw [show width (chan 2 c).val = 8 from width_2 c]

theorem less_2 (t : Fin 4096) (c : Fin 96) : val_main_v194 (F := Ideal) x1 x4 x5 (ix2 t c) = less (share x1 x4 x5 (chan 2 c)) 8 t := by
  have e : val_main_v194 (F := Ideal) x1 x4 x5 (ix2 t c)
      = val_main_v189 (F := Ideal) x1 x4 x5 (ix2 t c) + if h : t.val < 4088 then -val_main_v189 (F := Ideal) x1 x4 x5 (ix2 ⟨8 + t.val, by omega⟩ c) else 0 := by
    pointwise [val_main_v194, val_main_v193, val_main_v192, val_main_v190, val_main_cst_34]
  rw [e, share_2]
  unfold less
  refine congrArg₂ (· + ·) rfl ?_
  by_cases h : t.val < 4088
  · rw [dif_pos h, share_2, trail_of ⟨8 + t.val, by omega⟩ (by show t.val + 8 = 8 + t.val; omega)]
  · rw [dif_neg h, trail_zero (by omega), neg_zero]

theorem share_3 (t : Fin 4096) (c : Fin 96) : val_main_v176 (F := Ideal) x1 x4 x5 (ix2 t c) = share x1 x4 x5 (chan 3 c) t := by
  have e : val_main_v176 (F := Ideal) x1 x4 x5 (ix2 t c)
      = Ideal.div (val_main_v161 (F := Ideal) x1 x4 x5 (ix3 t 3 c))
          (FloatOps.sitofp (F := Ideal) .f32 (IntOp.minsi (IntOp.addi (BitVec.ofNat 32 t.val) 1#32) 16#32)) := by
    pointwise [val_main_v176, val_main_v175, val_main_v171, val_main_v170, val_main_v72, val_main_v71, val_main_v70, val_main_v69, val_main_v68, val_main_v67, val_main_c_12, val_main_c_13, val_main_v6]
  rw [e, dpool_at]
  unfold share cntr cnt
  rw [show width (chan 3 c).val = 16 from width_3 c]

theorem less_3 (t : Fin 4096) (c : Fin 96) : val_main_v181 (F := Ideal) x1 x4 x5 (ix2 t c) = less (share x1 x4 x5 (chan 3 c)) 16 t := by
  have e : val_main_v181 (F := Ideal) x1 x4 x5 (ix2 t c)
      = val_main_v176 (F := Ideal) x1 x4 x5 (ix2 t c) + if h : t.val < 4080 then -val_main_v176 (F := Ideal) x1 x4 x5 (ix2 ⟨16 + t.val, by omega⟩ c) else 0 := by
    pointwise [val_main_v181, val_main_v180, val_main_v179, val_main_v177, val_main_cst_31]
  rw [e, share_3]
  unfold less
  refine congrArg₂ (· + ·) rfl ?_
  by_cases h : t.val < 4080
  · rw [dif_pos h, share_3, trail_of ⟨16 + t.val, by omega⟩ (by show t.val + 16 = 16 + t.val; omega)]
  · rw [dif_neg h, trail_zero (by omega), neg_zero]

theorem less_at (t : Fin 4096) (g : Fin 4) (c : Fin 96) :
    val_main_v225 (F := Ideal) x1 x4 x5 (ix3 t g c) = less (share x1 x4 x5 (chan g c)) (width (chan g c).val) t := by
  have e : val_main_v225 (F := Ideal) x1 x4 x5 (ix3 t g c)
      = (((if h : 3 ≤ g.val ∧ g.val - 3 < 1 then val_main_v181 (F := Ideal) x1 x4 x5 (ix2 t c) else 0)
            + if h : 2 ≤ g.val ∧ g.val - 2 < 1 then val_main_v194 (F := Ideal) x1 x4 x5 (ix2 t c) else 0)
          + if h : 1 ≤ g.val ∧ g.val - 1 < 1 then val_main_v208 (F := Ideal) x1 x4 x5 (ix2 t c) else 0)
        + if h : g.val < 1 then val_main_v222 (F := Ideal) x1 x4 x5 (ix2 t c) else 0 := by
    pointwise [val_main_v225, val_main_v224, val_main_v223, val_main_v211, val_main_v210, val_main_v209, val_main_v197, val_main_v196, val_main_v195,
      val_main_v183, val_main_v182, val_main_cst_32, val_main_cst_35, val_main_cst_38, val_main_cst_41]
  rw [e, less_0, less_1, less_2, less_3]
  obtain ⟨g, hg⟩ := g
  obtain rfl | rfl | rfl | rfl : g = 0 ∨ g = 1 ∨ g = 2 ∨ g = 3 := by omega
  · rw [dif_neg (by simp), dif_neg (by simp), dif_neg (by simp), dif_pos (by simp), add_zero, add_zero, zero_add]
    exact (congrArg (fun w => less (share x1 x4 x5 (chan 0 c)) w t) (width_0 c)).symm
  · rw [dif_neg (by simp), dif_neg (by simp), dif_pos (by simp), dif_neg (by simp), add_zero, add_zero, zero_add]
    exact (congrArg (fun w => less (share x1 x4 x5 (chan 1 c)) w t) (width_1 c)).symm
  · rw [dif_neg (by simp), dif_pos (by simp), dif_neg (by simp), dif_neg (by simp), add_zero, add_zero, zero_add]
    exact (congrArg (fun w => less (share x1 x4 x5 (chan 2 c)) w t) (width_2 c)).symm
  · rw [dif_pos (by simp), dif_neg (by simp), dif_neg (by simp), dif_neg (by simp), add_zero, add_zero, add_zero]
    exact (congrArg (fun w => less (share x1 x4 x5 (chan 3 c)) w t) (width_3 c)).symm

theorem sum_at (h : Ok x0 x1 x4 x5) (t : Fin 4096) (g : Fin 4) (c : Fin 96) :
    val_main_v226 (F := Ideal) x1 x4 x5 (ix3 t g c) = fwdSum (share x1 x4 x5 (chan g c)) (width (chan g c).val) t.val := by
  unfold val_main_v226
  refine (window_at (N := 4096) (A := 4) (B := 96) (L := 0) (H := 4095) (val_main_v225 (F := Ideal) x1 x4 x5) (val_main_call1_call0_v0 (F := Ideal))
    _ _ Ideal.ofBits_zero_f32 t g c).trans ?_
  refine (Finset.sum_congr rfl fun n _ => ?_).trans
    ((sum_rcum (less (share x1 x4 x5 (chan g c)) (width (chan g c).val)) t).trans (window_fwd (x := share x1 x4 x5 (chan g c)) (fun i => share_real h _ i) _ _))
  by_cases hc : 0 ≤ t.val + n.val ∧ t.val + n.val - 0 < 4096
  · rw [dif_pos hc, dif_pos hc, less_at]
  · rw [dif_neg hc, dif_neg hc]

theorem dacol_at (h : Ok x0 x1 x4 x5) (t : Fin 4096) (j : Fin 384) : val_main_v228 (F := Ideal) x1 x4 x5 (ix2 t j) = dacol x1 x4 x5 t j := by
  have e : val_main_v228 (F := Ideal) x1 x4 x5 (ix2 t j)
      = val_main_v215 (F := Ideal) x1 x4 x5 (ix3 t (grp j) (lane j)) + val_main_v226 (F := Ideal) x1 x4 x5 (ix3 t (grp j) (lane j)) := by
    pointwise [val_main_v228, val_main_v227]
  rw [e, minus_at, sum_at x0 x1 x4 x5 h, chan_grp, add_comm, ← sub_eq_add_neg]
  rfl

end Cert.PoolRef

end
-- ==== Proof.Shift.lean ====
module

public import proofs.«01_k».proof.Proof.Conv

@[expose] public section

noncomputable section

/-! The column read past its end, and the sum of products with a shifted column. -/

namespace Cert.Conv

open scoped BigOperators

/-- The column read with zero rows after it. -/
def after (x : Fin 4096 → EReal) (n : Nat) : EReal := if h : n < 4096 then x ⟨n, h⟩ else 0

theorem after_of {x : Fin 4096 → EReal} {n : Nat} (t : Fin 4096) (h : n = t.val) : after x n = x t := by
  subst h
  unfold after
  rw [dif_pos t.isLt]

theorem after_zero {x : Fin 4096 → EReal} {n : Nat} (h : 4096 ≤ n) : after x n = 0 := by
  unfold after
  rw [dif_neg (by omega)]

/-- Shifting one factor down is shifting the other up. -/
theorem sum_shift (x d : Fin 4096 → EReal) (k : Nat) (hk : k ≤ 8) :
    (∑ t : Fin 4096, x t * after d (t.val + k)) = ∑ i : Fin 4096, d i * past x (i.val + (8 - k)) := by
  have h1 : ∀ t : Fin 4096, x t * after d (t.val + k) = ∑ i : Fin 4096, if i.val = t.val + k then x t * d i else 0 := by
    intro t
    by_cases h : t.val + k < 4096
    · rw [Finset.sum_eq_single (⟨t.val + k, h⟩ : Fin 4096) (fun b _ hb => if_neg fun e => hb (Fin.ext e))
        (fun hb => absurd (Finset.mem_univ _) hb), if_pos rfl, after_of ⟨t.val + k, h⟩ rfl]
    · rw [after_zero (by omega), mul_zero]
      exact (Finset.sum_eq_zero fun b _ => if_neg (by have := b.isLt; omega)).symm
  have h2 : ∀ i : Fin 4096, d i * past x (i.val + (8 - k)) = ∑ t : Fin 4096, if i.val = t.val + k then x t * d i else 0 := by
    intro i
    by_cases h : k ≤ i.val
    · rw [Finset.sum_eq_single (⟨i.val - k, by omega⟩ : Fin 4096)
        (fun b _ hb => if_neg fun e => hb (Fin.ext (by show b.val = i.val - k; omega)))
        (fun hb => absurd (Finset.mem_univ _) hb), if_pos (by show i.val = i.val - k + k; omega),
        past_of (⟨i.val - k, by omega⟩ : Fin 4096) (by show i.val + (8 - k) = i.val - k + 8; omega), mul_comm]
    · rw [past_zero (by omega), mul_zero]
      exact (Finset.sum_eq_zero fun b _ => if_neg (by omega)).symm
  rw [Finset.sum_congr rfl fun t _ => h1 t, Finset.sum_congr rfl fun i _ => h2 i, Finset.sum_comm]

end Cert.Conv

end
-- ==== Proof.PoolRefConv.lean ====
module

public import proofs.«01_k».proof.Proof.Gen.Reference3Ideal.Read
public import proofs.«01_k».proof.Proof.PoolRefBack
public import proofs.«01_k».proof.Proof.Shift

@[expose] public section

set_option maxRecDepth 16384

noncomputable section

/-! The convolution's gradient, and the results that hold it. -/

namespace Cert.PoolRef

open Idealize.ShloMosaic Cert.Reference3Ideal Cert.Reference3Ideal.Read Cert.PoolSum Cert.Conv Cert.Finite

open scoped BigOperators

variable (x0 : FVec Ideal S4096x6912 .f32) (x1 x2 : FVec Ideal S4096x384 .f32) (x3 : FVec Ideal S4096x6912 .bf16) (x4 : FVec Ideal S4x96x96 .f32)
  (x5 : FVec Ideal S384 .f32) (x6 : FVec Ideal S3x384 .f32)

/-- The convolution's weights of column `j`, the column it reads and the gradient of what it gives. -/
abbrev wcol (j : Fin 384) : Fin 3 → EReal := fun k => x6 (ix2 k j)
abbrev zcol (j : Fin 384) : Fin 4096 → EReal := fun i => ccol x0 j i * xcol x0 j i
abbrev gcol (j : Fin 384) : Fin 4096 → EReal := fun i => bcol x0 j i * x2 (ix2 i j)

/-- The gradient of the column before the convolution. -/
def dz (t : Fin 4096) (j : Fin 384) : EReal :=
  x6 (ix2 2 j) * gcol x0 x2 j t + x6 (ix2 1 j) * after (gcol x0 x2 j) (t.val + 1) + x6 (ix2 0 j) * after (gcol x0 x2 j) (t.val + 2)

theorem ext_at (n : Fin 4098) (j : Fin 384) : val_main_v92 (F := Ideal) x0 (ix2 n j) = past (zcol x0 j) (n.val + 6) := by
  pointwise [val_main_v92, val_main_v91, val_main_v90, val_main_v3, val_main_v1, val_main_cst_14]
  split
  · next h => exact (past_zero (by omega)).symm
  · next h => exact (past_of (x := zcol x0 j) ⟨n.val - 2, by omega⟩ (by show n.val + 6 = n.val - 2 + 8; omega)).symm

theorem conv_at (t : Fin 4096) (j : Fin 384) : val_main_v113 (F := Ideal) x0 x6 (ix2 t j) = conv (wcol x6 j) (zcol x0 j) t.val := by
  have e : val_main_v113 (F := Ideal) x0 x6 (ix2 t j)
      = (x6 (ix2 0 j) * val_main_v92 (F := Ideal) x0 (ix2 ⟨t.val, by omega⟩ j) + x6 (ix2 1 j) * val_main_v92 (F := Ideal) x0 (ix2 ⟨1 + t.val, by omega⟩ j))
        + x6 (ix2 2 j) * val_main_v92 (F := Ideal) x0 (ix2 ⟨2 + t.val, by omega⟩ j) := by
    pointwise [val_main_v113, val_main_v112, val_main_v111, val_main_v110, val_main_v109, val_main_v108, val_main_v107, val_main_v106, val_main_v105, val_main_v104,
      val_main_v103, val_main_v102, val_main_v101, val_main_v100, val_main_v99, val_main_v98, val_main_v97, val_main_v96, val_main_v95, val_main_v94]
  rw [e, ext_at, ext_at, ext_at]
  unfold conv
  rw [show 1 + t.val + 6 = t.val + 7 by omega, show 2 + t.val + 6 = t.val + 8 by omega]

theorem gcol_at (t : Fin 4096) (j : Fin 384) : val_main_v115 (F := Ideal) x0 x2 (ix2 t j) = gcol x0 x2 j t := by
  pointwise [val_main_v115, val_main_v2]

theorem dz_at (i : Fin 4096) (j : Fin 384) : val_main_v149 (F := Ideal) x0 x2 x6 (ix2 i j) = dz x0 x2 x6 i j := by
  have e : val_main_v149 (F := Ideal) x0 x2 x6 (ix2 i j)
      = (x6 (ix2 2 j) * val_main_v115 (F := Ideal) x0 x2 (ix2 i j)
          + if h : 1 ≤ 2 + i.val ∧ 2 + i.val - 1 < 4096 then x6 (ix2 1 j) * val_main_v115 (F := Ideal) x0 x2 (ix2 ⟨2 + i.val - 1, h.2⟩ j) else 0)
        + if h : 2 + i.val < 4096 then x6 (ix2 0 j) * val_main_v115 (F := Ideal) x0 x2 (ix2 ⟨2 + i.val, h⟩ j) else 0 := by
    pointwise [val_main_v149, val_main_v144, val_main_v143, val_main_v138, val_main_v137, val_main_v133, val_main_v132, val_main_v127, val_main_v126, val_main_v123,
      val_main_v118, val_main_v117, val_main_v110, val_main_v108, val_main_v107, val_main_v103, val_main_v101, val_main_v100, val_main_v97, val_main_v95, val_main_v94,
      val_main_cst_18, val_main_cst_22, val_main_cst_26]
  rw [e, gcol_at]
  unfold dz
  refine congrArg₂ (· + ·) (congrArg₂ (· + ·) rfl ?_) ?_
  · by_cases hi : i.val + 1 < 4096
    · rw [dif_pos ⟨by omega, by omega⟩, gcol_at, after_of ⟨2 + i.val - 1, by omega⟩ (by show i.val + 1 = 2 + i.val - 1; omega)]
    · rw [dif_neg (by omega), after_zero (by omega), mul_zero]
  · by_cases hi : i.val + 2 < 4096
    · rw [dif_pos (by omega), gcol_at, after_of ⟨2 + i.val, by omega⟩ (by show i.val + 2 = 2 + i.val; omega)]
    · rw [dif_neg (by omega), after_zero (by omega), mul_zero]

theorem dx_at (i : Fin 4096) (j : Fin 384) : val_main_v150 (F := Ideal) x0 x2 x6 (ix2 i j) = dz x0 x2 x6 i j * ccol x0 j i := by
  have e : val_main_v150 (F := Ideal) x0 x2 x6 (ix2 i j) = ccol x0 j i * val_main_v149 (F := Ideal) x0 x2 x6 (ix2 i j) := by
    pointwise [val_main_v150, val_main_v3]
  rw [e, dz_at, mul_comm]

theorem dc_at (i : Fin 4096) (j : Fin 384) : val_main_v151 (F := Ideal) x0 x2 x6 (ix2 i j) = dz x0 x2 x6 i j * xcol x0 j i := by
  have e : val_main_v151 (F := Ideal) x0 x2 x6 (ix2 i j) = val_main_v149 (F := Ideal) x0 x2 x6 (ix2 i j) * xcol x0 j i := by
    pointwise [val_main_v151, val_main_v1]
  rw [e, dz_at]

theorem db_at (i : Fin 4096) (j : Fin 384) : val_main_v116 (F := Ideal) x0 x2 x6 (ix2 i j) = x2 (ix2 i j) * conv (wcol x6 j) (zcol x0 j) i.val := by
  have e : val_main_v116 (F := Ideal) x0 x2 x6 (ix2 i j) = x2 (ix2 i j) * val_main_v113 (F := Ideal) x0 x6 (ix2 i j) := by
    pointwise [val_main_v116]
  rw [e, conv_at]

/-- The gradient of the convolution's weights. -/
theorem ref_dcw (k : Fin 3) (j : Fin 384) :
    val_main_v147 (F := Ideal) x0 x2 (ix2 k j) = ∑ i : Fin 4096, gcol x0 x2 j i * past (zcol x0 j) (i.val + (6 + k.val)) := by
  have e2 : val_main_v122 (F := Ideal) x0 x2 (ix1 j) = ∑ i : Fin 4096, gcol x0 x2 j i * past (zcol x0 j) (i.val + 8) := by
    have e : val_main_v122 (F := Ideal) x0 x2 (ix1 j)
        = ∑ i : Fin 4096, val_main_v115 (F := Ideal) x0 x2 (ix2 i j) * val_main_v92 (F := Ideal) x0 (ix2 ⟨2 + i.val, by omega⟩ j) := by
      pointwise [val_main_v122, val_main_v121, val_main_v120, val_main_v119, val_main_v109, val_main_cst_16, val_main_cst_17]
      simp only [Finset.univ_unique, Finset.sum_singleton, Ideal.ofBits_zero_f32, zero_add]
    refine e.trans (Finset.sum_congr rfl fun i _ => congrArg₂ (· * ·) (gcol_at x0 x2 i j) ((ext_at x0 _ j).trans ?_))
    exact congrArg (past (zcol x0 j)) (show 2 + i.val + 6 = i.val + 8 by omega)
  have e1 : val_main_v131 (F := Ideal) x0 x2 (ix1 j) = ∑ i : Fin 4096, gcol x0 x2 j i * past (zcol x0 j) (i.val + 7) := by
    have e : val_main_v131 (F := Ideal) x0 x2 (ix1 j)
        = ∑ i : Fin 4096, val_main_v115 (F := Ideal) x0 x2 (ix2 i j) * val_main_v92 (F := Ideal) x0 (ix2 ⟨1 + i.val, by omega⟩ j) := by
      pointwise [val_main_v131, val_main_v130, val_main_v129, val_main_v128, val_main_v102, val_main_cst_20, val_main_cst_21]
      simp only [Finset.univ_unique, Finset.sum_singleton, Ideal.ofBits_zero_f32, zero_add]
    refine e.trans (Finset.sum_congr rfl fun i _ => congrArg₂ (· * ·) (gcol_at x0 x2 i j) ((ext_at x0 _ j).trans ?_))
    exact congrArg (past (zcol x0 j)) (show 1 + i.val + 6 = i.val + 7 by omega)
  have e0 : val_main_v142 (F := Ideal) x0 x2 (ix1 j) = ∑ i : Fin 4096, gcol x0 x2 j i * past (zcol x0 j) (i.val + 6) := by
    have e : val_main_v142 (F := Ideal) x0 x2 (ix1 j)
        = ∑ i : Fin 4096, val_main_v115 (F := Ideal) x0 x2 (ix2 i j) * val_main_v92 (F := Ideal) x0 (ix2 ⟨i.val, by omega⟩ j) := by
      pointwise [val_main_v142, val_main_v141, val_main_v140, val_main_v139, val_main_v96, val_main_cst_24, val_main_cst_25]
      simp only [Finset.univ_unique, Finset.sum_singleton, Ideal.ofBits_zero_f32, zero_add]
    refine e.trans (Finset.sum_congr rfl fun i _ => congrArg₂ (· * ·) (gcol_at x0 x2 i j) ((ext_at x0 _ j).trans ?_))
    exact congrArg (past (zcol x0 j)) (show i.val + 6 = i.val + 6 by omega)
  have e : val_main_v147 (F := Ideal) x0 x2 (ix2 k j)
      = ((if _ : 2 ≤ k.val ∧ k.val - 2 < 1 then val_main_v122 (F := Ideal) x0 x2 (ix1 j) else 0)
          + if _ : 1 ≤ k.val ∧ k.val - 1 < 1 then val_main_v131 (F := Ideal) x0 x2 (ix1 j) else 0)
        + if _ : k.val < 1 then val_main_v142 (F := Ideal) x0 x2 (ix1 j) else 0 := by
    pointwise [val_main_v147, val_main_v146, val_main_v145, val_main_v136, val_main_v135, val_main_v134, val_main_v125, val_main_v124, val_main_cst_19, val_main_cst_23,
      val_main_cst_27]
  rw [e, e2, e1, e0]
  obtain ⟨k, hk⟩ := k
  obtain rfl | rfl | rfl : k = 0 ∨ k = 1 ∨ k = 2 := by omega
  · rw [dif_neg (by simp), dif_neg (by simp), dif_pos (by simp), add_zero, zero_add]
    exact Finset.sum_congr rfl fun i _ => rfl
  · rw [dif_neg (by simp), dif_pos (by simp), dif_neg (by simp), zero_add, add_zero]
    exact Finset.sum_congr rfl fun i _ => rfl
  · rw [dif_pos (by simp), dif_neg (by simp), dif_neg (by simp), add_zero, add_zero]
    exact Finset.sum_congr rfl fun i _ => rfl

/-! ## The first result: its columns from 3072 to 4608 are these gradients, the others the argument's -/

theorem du_split (i : Fin 4096) (y : Fin 6912) : val_main_v233 (F := Ideal) x0 x1 x2 x3 x4 x5 x6 (ix2 i y)
      = if h : y.val < 3072 then x3 (ix2 i y) else if h : y.val - 3072 < 1536 then val_main_v229 (F := Ideal) x0 x1 x2 x4 x5 x6 (ix2 i ⟨y.val - 3072, h⟩) else x3 (ix2 i y) := by
  have e : val_main_v233 (F := Ideal) x0 x1 x2 x3 x4 x5 x6 (ix2 i y)
      = if h : y.val < 3072 then x3 (ix2 i ⟨y.val, by omega⟩) else if h : y.val - 3072 < 1536 then val_main_v229 (F := Ideal) x0 x1 x2 x4 x5 x6 (ix2 i ⟨y.val - 3072, h⟩)
          else x3 (ix2 i ⟨4608 + (y.val - 3072 - 1536), by omega⟩) := by
    pointwise [val_main_v233, val_main_v232, val_main_v231, val_main_v230]
  rw [e]
  by_cases h : y.val < 3072
  · rw [dif_pos h, dif_pos h]
  rw [dif_neg h, dif_neg h]
  by_cases h2 : y.val - 3072 < 1536
  · rw [dif_pos h2, dif_pos h2]
  · rw [dif_neg h2, dif_neg h2]
    exact congrArg x3 (congrArg (ix2 i) (Fin.ext (by show 4608 + (y.val - 3072 - 1536) = y.val; omega)))

theorem cols_split (i : Fin 4096) (y : Fin 1536) : val_main_v229 (F := Ideal) x0 x1 x2 x4 x5 x6 (ix2 i y)
      = if h : y.val < 384 then val_main_v228 (F := Ideal) x1 x4 x5 (ix2 i ⟨y.val, h⟩) else if h : y.val - 384 < 384 then val_main_v150 (F := Ideal) x0 x2 x6 (ix2 i ⟨y.val - 384, h⟩) else
          if h : y.val - 384 - 384 < 384 then val_main_v116 (F := Ideal) x0 x2 x6 (ix2 i ⟨y.val - 384 - 384, h⟩) else val_main_v151 (F := Ideal) x0 x2 x6 (ix2 i ⟨y.val - 384 - 384 - 384, by omega⟩) := by
  pointwise [val_main_v229]

end Cert.PoolRef

end
-- ==== Proof.PoolRead.lean ====
module

public import proofs.«01_k».proof.Proof.PoolBlock
public import proofs.«01_k».proof.Proof.PoolFrame
public import proofs.«01_k».proof.Proof.PoolRefConv
public import proofs.«01_k».proof.Proof.Sums
public import Idealize.ShloMosaic.Lib.WordCmp
public import Idealize.ShloMosaic.Lib.StableHlo.RunClose

@[expose] public section

set_option maxRecDepth 16384

noncomputable section

/-! What each block of the call's operands holds. The grid runs from the last rows to the first. -/

namespace Cert.PoolRead

open Idealize.ShloMosaic Idealize.ShloMosaic.TcCoe Idealize.SL.Sem Cert.Kernel3Ideal Cert.Kernel3Ideal.Gen Cert.Conv Cert.PoolSum
open Cert.PoolRef (chan grp lane acol xcol bcol ccol)

open scoped BigOperators

variable (m : (ℓ : Loc nD τ sig) → Buf (Elt Ideal) ℓ)

theorem idx : ∀ t : Fin cfg0.N, win0_0.index t = ![7 - t.val, 8] ∧ win0_1.index t = ![7 - t.val, 9] ∧ win0_2.index t = ![7 - t.val, 10]
    ∧ win0_3.index t = ![7 - t.val, 11] ∧ win0_4.index t = ![32 * (7 - t.val) - 1, 8] ∧ win0_5.index t = ![32 * (7 - t.val) - 1, 9]
    ∧ win0_6.index t = ![32 * (7 - t.val) - 1, 11] ∧ win0_7.index t = ![7 - t.val, 0] ∧ win0_8.index t = ![7 - t.val, 0] ∧ win0_9.index t = ![0, 0]
    ∧ win0_10.index t = ![0, 0] ∧ win0_11.index t = ![0, 0] ∧ win0_12.index t = ![7 - t.val, 2] ∧ win0_13.index t = ![0, 0]
    ∧ win0_14.index t = ![0, 0] ∧ win0_15.index t = ![0, 0] :=
  (by decide +kernel : ∀ t : Fin grid0.N, _)

theorem lt8 (t : Fin cfg0.N) : t.val < 8 := t.isLt

/-- The array's row that row `r` of the block at point `t` is. -/
def row (t : Fin cfg0.N) (r : Fin 512) : Fin 4096 :=
  ⟨(7 - t.val) * 512 + r.val, by have := lt8 t; omega⟩

/-- Row `q` of the 16 rows before the block at point `t`, which is not the array's first block. -/
def head (t : Fin cfg0.N) (h : t.val < 7) (q : Fin 16) : Fin 4096 :=
  ⟨(7 - t.val) * 512 - 16 + q.val, by omega⟩

/-- The arguments of the call, at their types. -/
abbrev A0 (c : Dev nD) : FVec Ideal S4096x6912 .f32 := m ((c.tc : Thread nD τ).loc main_arg0)
abbrev A1 (c : Dev nD) : FVec Ideal S4096x384 .f32 := m ((c.tc : Thread nD τ).loc main_arg1)
abbrev A2 (c : Dev nD) : FVec Ideal S4096x384 .f32 := m ((c.tc : Thread nD τ).loc main_arg2)
abbrev A3 (c : Dev nD) : FVec Ideal S4096x6912 .bf16 := m ((c.tc : Thread nD τ).loc main_arg3)
abbrev A4 (c : Dev nD) : FVec Ideal S4x96x96 .f32 := m ((c.tc : Thread nD τ).loc main_arg4)
abbrev A5 (c : Dev nD) : FVec Ideal S384 .f32 := m ((c.tc : Thread nD τ).loc main_arg5)
abbrev A6 (c : Dev nD) : FVec Ideal S3x384 .f32 := m ((c.tc : Thread nD τ).loc main_arg6)

theorem emb12 (t : Fin cfg0.N) (y : ((cfg0.win 12).xblock (cfg0.grid.coords t)).Idx) (r : Fin 512) (l : Fin 1536) (h0 : (y 0).val = r.val) (h1 : (y 1).val = l.val) :
    ((cfg0.win 12).blk t).view.emb y = ix2 (row t r) ⟨3072 + l.val, by omega⟩ := by
  blk_ext [idx t, row]
  all_goals omega

theorem da_at (c : Dev nD) (t : Fin cfg0.N) (r : Fin 512) (j : Fin 384) :
    (iblk m c 7 t : FVec Ideal S512x384 .f32) (ix2 r j) = A1 m c (ix2 (row t r) j) := by
  blk_ext [iblk, V, idx t, row]

theorem dy_at (c : Dev nD) (t : Fin cfg0.N) (r : Fin 512) (j : Fin 384) :
    (iblk m c 8 t : FVec Ideal S512x384 .f32) (ix2 r j) = A2 m c (ix2 (row t r) j) := by
  blk_ext [iblk, V, idx t, row]

theorem cw_at (c : Dev nD) (t : Fin cfg0.N) (k : Fin 3) (j : Fin 384) :
    (iblk m c 11 t : FVec Ideal S3x384 .f32) (ix2 k j) = A6 m c (ix2 k j) := by
  blk_ext [iblk, V, idx t]

theorem sc_at (c : Dev nD) (t : Fin cfg0.N) (k : Fin 384) :
    (iblk m c 10 t : FVec Ideal S1x384 .f32) (ix2 0 k) = A5 m c (ix1 k) := by
  have e : ((cfg0.win 10).blk t).view.emb (ix2 0 k) = ix2 0 k := by blk_ext [idx t]
  show V m c main_v18 (((cfg0.win 10).blk t).view.emb (ix2 0 k)) = _
  rw [e]
  refine Eq.trans (b := (shapeCast S1x384 (A5 m c) shapeCasts_S384_S1x384 : FVec Ideal S1x384 .f32) (ix2 0 k)) rfl ?_
  pointwise

/-- The rows as the call reads them: their last 3072 columns first. -/
theorem rolled (c : Dev nD) (i : Fin 4096) (y : Fin 1536) :
    (V m c main_v3 : FVec Ideal S4096x6912 .bf16) (ix2 i ⟨3072 + y.val, by omega⟩) = A0 m c (ix2 i ⟨y.val, by omega⟩) := by
  refine Eq.trans (b := (concatenate S4096x6912 1 [⟨S4096x3072, extractStridedSlice S4096x3072 ![0, 3840] (A0 m c) slices_S4096x6912_S4096x3072_0_3840⟩,
    ⟨S4096x3840, extractStridedSlice S4096x3840 ![0, 0] (A0 m c) slices_S4096x6912_S4096x3840_0_0⟩] concatenates_S4096x3072_S4096x3840_S4096x6912_d1 : FVec Ideal S4096x6912 .f32)
      (ix2 i ⟨3072 + y.val, by omega⟩)) rfl ?_
  pointwise
  first
    | (rw [dif_neg (by omega)]; exact congrArg (fun q => A0 m c (ix2 i q)) (Fin.ext (by first | (show 3072 + y.val - 3072 = y.val; omega) | (show 0 + (3072 + y.val - 3072) = y.val; omega))))
    | skip

theorem a_at (c : Dev nD) (t : Fin cfg0.N) (r : Fin 512) (j : Fin 384) :
    (iblk m c 0 t : FVec Ideal S512x384 .bf16) (ix2 r j) = acol (A0 m c) j (row t r) := by
  have e : ((cfg0.win 0).blk t).view.emb (ix2 r j) = ix2 (row t r) ⟨3072 + j.val, by omega⟩ := by blk_ext [idx t, row]
  show V m c main_v3 (((cfg0.win 0).blk t).view.emb (ix2 r j)) = _
  rw [e]
  exact rolled m c (row t r) ⟨j.val, by omega⟩

theorem x_at (c : Dev nD) (t : Fin cfg0.N) (r : Fin 512) (j : Fin 384) :
    (iblk m c 1 t : FVec Ideal S512x384 .bf16) (ix2 r j) = xcol (A0 m c) j (row t r) := by
  have e : ((cfg0.win 1).blk t).view.emb (ix2 r j) = ix2 (row t r) ⟨3072 + (384 + j.val), by omega⟩ := by blk_ext [idx t, row]
  show V m c main_v3 (((cfg0.win 1).blk t).view.emb (ix2 r j)) = _
  rw [e]
  exact rolled m c (row t r) ⟨384 + j.val, by omega⟩

theorem b_at (c : Dev nD) (t : Fin cfg0.N) (r : Fin 512) (j : Fin 384) :
    (iblk m c 2 t : FVec Ideal S512x384 .bf16) (ix2 r j) = bcol (A0 m c) j (row t r) := by
  have e : ((cfg0.win 2).blk t).view.emb (ix2 r j) = ix2 (row t r) ⟨3072 + (768 + j.val), by omega⟩ := by blk_ext [idx t, row]
  show V m c main_v3 (((cfg0.win 2).blk t).view.emb (ix2 r j)) = _
  rw [e]
  exact rolled m c (row t r) ⟨768 + j.val, by omega⟩

theorem c_at (c : Dev nD) (t : Fin cfg0.N) (r : Fin 512) (j : Fin 384) :
    (iblk m c 3 t : FVec Ideal S512x384 .bf16) (ix2 r j) = ccol (A0 m c) j (row t r) := by
  have e : ((cfg0.win 3).blk t).view.emb (ix2 r j) = ix2 (row t r) ⟨3072 + (1152 + j.val), by omega⟩ := by blk_ext [idx t, row]
  show V m c main_v3 (((cfg0.win 3).blk t).view.emb (ix2 r j)) = _
  rw [e]
  exact rolled m c (row t r) ⟨1152 + j.val, by omega⟩

theorem ah_at (c : Dev nD) (t : Fin cfg0.N) (h : t.val < 7) (q : Fin 16) (j : Fin 384) :
    (iblk m c 4 t : FVec Ideal S16x384 .bf16) (ix2 q j) = acol (A0 m c) j (head t h q) := by
  have e : ((cfg0.win 4).blk t).view.emb (ix2 q j) = ix2 (head t h q) ⟨3072 + j.val, by omega⟩ := by blk_ext [idx t, head]
  show V m c main_v3 (((cfg0.win 4).blk t).view.emb (ix2 q j)) = _
  rw [e]
  exact rolled m c (head t h q) ⟨j.val, by omega⟩

theorem xh_at (c : Dev nD) (t : Fin cfg0.N) (h : t.val < 7) (q : Fin 16) (j : Fin 384) :
    (iblk m c 5 t : FVec Ideal S16x384 .bf16) (ix2 q j) = xcol (A0 m c) j (head t h q) := by
  have e : ((cfg0.win 5).blk t).view.emb (ix2 q j) = ix2 (head t h q) ⟨3072 + (384 + j.val), by omega⟩ := by blk_ext [idx t, head]
  show V m c main_v3 (((cfg0.win 5).blk t).view.emb (ix2 q j)) = _
  rw [e]
  exact rolled m c (head t h q) ⟨384 + j.val, by omega⟩

theorem ch_at (c : Dev nD) (t : Fin cfg0.N) (h : t.val < 7) (q : Fin 16) (j : Fin 384) :
    (iblk m c 6 t : FVec Ideal S16x384 .bf16) (ix2 q j) = ccol (A0 m c) j (head t h q) := by
  have e : ((cfg0.win 6).blk t).view.emb (ix2 q j) = ix2 (head t h q) ⟨3072 + (1152 + j.val), by omega⟩ := by blk_ext [idx t, head]
  show V m c main_v3 (((cfg0.win 6).blk t).view.emb (ix2 q j)) = _
  rw [e]
  exact rolled m c (head t h q) ⟨1152 + j.val, by omega⟩

/-! The number of the block, as the call computes it. -/

/-- The block's number. -/
abbrev num (t : Fin cfg0.N) : BitVec 32 := Scalar.subi 7#32 (BitVec.ofNat 32 (grid0.coords t 0).val)

theorem num_mul : ∀ t : Fin cfg0.N, Scalar.muli (num t) 512#32 = BitVec.ofNat 32 ((7 - t.val) * 512) :=
  (by decide +kernel : ∀ t : Fin grid0.N, _)

theorem num_row (t : Fin cfg0.N) (r : Fin 512) : IntOp.addi (Scalar.muli (num t) 512#32) (BitVec.ofNat 32 r.val) = BitVec.ofNat 32 (row t r).val := by
  rw [num_mul t]
  exact (BitVec.ofNat_add _ _).symm

theorem flag_int : ∀ t : Fin cfg0.N, ((Scalar.extui (Scalar.cmpi .sgt (num t) 0#32) : BitVec 32)).toInt = if t.val = 7 then 0 else 1 :=
  (by decide +kernel : ∀ t : Fin grid0.N, _)

theorem flag_at (t : Fin cfg0.N) : k0_pay7 (F := Ideal) (grid0.coords t) = if t.val = 7 then 0 else 1 := by
  refine Eq.trans (b := (((((Scalar.extui (Scalar.cmpi .sgt (num t) 0#32) : BitVec 32)).toInt : ℤ) : ℝ) : EReal)) rfl ?_
  rw [flag_int t]
  split <;> simp

/-! The group weights, set along the diagonal of a square of 384 columns. -/

/-- Entry `(l, j)` of the square. -/
def wblk (w : FVec Ideal S4x96x96 .f32) (l j : Fin 384) : EReal := if l.val / 96 = j.val / 96 then w (ix3 (grp j) (lane l) (lane j)) else 0

/-- The square with one group set at its place. -/
def put (x : FVec Ideal S384x384 .bf16) (u : FVec Ideal S96x96 .bf16) (i : BitVec 32) : FVec Ideal S384x384 .bf16 :=
  Host.dynamicUpdateSlice x u (fun k => BitVec.toInt ((![constantI S_ 32 i, constantI S_ 32 i] : Fin 2 → IVec S_ 32) k (Shape.Idx.first h_S_))) updateFits_S384x384_S96x96

/-- The group's weights. -/
def one0 (w : FVec Ideal S4x96x96 .f32) : FVec Ideal S96x96 .bf16 :=
  shapeCast S96x96 (extractStridedSlice S1x96x96 ![0, 0, 0] (w : FVec Ideal S4x96x96 .bf16) slices_S4x96x96_S1x96x96_0_0_0) shapeCasts_S1x96x96_S96x96
def one1 (w : FVec Ideal S4x96x96 .f32) : FVec Ideal S96x96 .bf16 :=
  shapeCast S96x96 (extractStridedSlice S1x96x96 ![1, 0, 0] (w : FVec Ideal S4x96x96 .bf16) slices_S4x96x96_S1x96x96_1_0_0) shapeCasts_S1x96x96_S96x96
def one2 (w : FVec Ideal S4x96x96 .f32) : FVec Ideal S96x96 .bf16 :=
  shapeCast S96x96 (extractStridedSlice S1x96x96 ![2, 0, 0] (w : FVec Ideal S4x96x96 .bf16) slices_S4x96x96_S1x96x96_2_0_0) shapeCasts_S1x96x96_S96x96
def one3 (w : FVec Ideal S4x96x96 .f32) : FVec Ideal S96x96 .bf16 :=
  shapeCast S96x96 (extractStridedSlice S1x96x96 ![3, 0, 0] (w : FVec Ideal S4x96x96 .bf16) slices_S4x96x96_S1x96x96_3_0_0) shapeCasts_S1x96x96_S96x96

theorem one0_at (w : FVec Ideal S4x96x96 .f32) (a b : Fin 96) : one0 w (ix2 a b) = w (ix3 0 a b) := by pointwise [one0]
theorem one1_at (w : FVec Ideal S4x96x96 .f32) (a b : Fin 96) : one1 w (ix2 a b) = w (ix3 1 a b) := by pointwise [one1]
theorem one2_at (w : FVec Ideal S4x96x96 .f32) (a b : Fin 96) : one2 w (ix2 a b) = w (ix3 2 a b) := by pointwise [one2]
theorem one3_at (w : FVec Ideal S4x96x96 .f32) (a b : Fin 96) : one3 w (ix2 a b) = w (ix3 3 a b) := by pointwise [one3]

theorem put_at (x : FVec Ideal S384x384 .bf16) (u : FVec Ideal S96x96 .bf16) (i : BitVec 32) (g : Fin 4)
    (h : i.toInt = ((g.val * 96 : Nat) : Int)) (l j : Fin 384) :
    put x u i (ix2 l j) = if l.val / 96 = g.val ∧ j.val / 96 = g.val then u (ix2 (lane l) (lane j)) else x (ix2 l j) := by
  have hs : S384x384.Slices ![g.val * 96, g.val * 96] S96x96 := ⟨rfl, fun a => by
    have := g.isLt
    fin_cases a
    · show g.val * 96 + 96 ≤ 384; omega
    · show g.val * 96 + 96 ≤ 384; omega⟩
  unfold put
  rw [WordCmp.dynamicUpdateSlice_eq_update x u _ updateFits_S384x384_S96x96 ![g.val * 96, g.val * 96] hs (fun a => by
    fin_cases a
    · exact h
    · exact h)]
  unfold updateSlice
  by_cases hg : l.val / 96 = g.val ∧ j.val / 96 = g.val
  · rw [if_pos hg]
    refine (dif_pos ?_).trans ?_
    · intro a
      fin_cases a
      · show g.val * 96 ≤ l.val ∧ l.val < g.val * 96 + 96; omega
      · show g.val * 96 ≤ j.val ∧ j.val < g.val * 96 + 96; omega
    · refine congrArg u (funext fun a => ?_)
      fin_cases a
      · exact Fin.ext (by show l.val - g.val * 96 = l.val % 96; omega)
      · exact Fin.ext (by show j.val - g.val * 96 = j.val % 96; omega)
  · rw [if_neg hg]
    refine dif_neg fun hin => hg ?_
    have h0 : g.val * 96 ≤ l.val ∧ l.val < g.val * 96 + 96 := hin 0
    have h1 : g.val * 96 ≤ j.val ∧ j.val < g.val * 96 + 96 := hin 1
    omega

theorem square (c : Dev nD) : (V m c main_v17 : FVec Ideal S384x384 .bf16)
    = put (put (put (put (broadcastInDim S384x384 ![] bcast_S_S384x384 (constant (F := Ideal) S_ .bf16 0x0000#16))
        (one0 (A4 m c)) 0#32) (one1 (A4 m c)) 96#32) (one2 (A4 m c)) 192#32) (one3 (A4 m c)) 288#32 := by
  show StableHlo.after hostOps0 (fun b => m (c, b)) main_v17 = _
  unfold hostOps0
  after_results_simp_entrywise
  rfl

theorem w_at (c : Dev nD) (t : Fin cfg0.N) (l j : Fin 384) :
    (iblk m c 9 t : FVec Ideal S384x384 .bf16) (ix2 l j) = wblk (A4 m c) l j := by
  have e : ((cfg0.win 9).blk t).view.emb (ix2 l j) = ix2 l j := by blk_ext [idx t]
  show V m c main_v17 (((cfg0.win 9).blk t).view.emb (ix2 l j)) = _
  rw [e]
  refine (congrFun (square m c) (ix2 l j)).trans ?_
  rw [put_at _ _ _ 3 (by decide), put_at _ _ _ 2 (by decide), put_at _ _ _ 1 (by decide), put_at _ _ _ 0 (by decide)]
  rw [one0_at, one1_at, one2_at, one3_at]
  have hz : (broadcastInDim S384x384 ![] bcast_S_S384x384 (constant (F := Ideal) S_ .bf16 0x0000#16) : FVec Ideal S384x384 .bf16) (ix2 l j) = 0 := by
    pointwise
  rw [hz]
  have hl := l.isLt
  have hj := j.isLt
  unfold wblk
  obtain h | h | h | h : j.val / 96 = 0 ∨ j.val / 96 = 1 ∨ j.val / 96 = 2 ∨ j.val / 96 = 3 := by omega
  · rw [show grp j = 0 from Fin.ext h]
    simp [h]
  · rw [show grp j = 1 from Fin.ext h]
    simp [h]
  · rw [show grp j = 2 from Fin.ext h]
    simp [h]
  · rw [show grp j = 3 from Fin.ext h]
    simp [h]

/-- A sum over the channels of one group. -/
theorem sum_group (f : Fin 384 → EReal) (g : Fin 4) : (∑ l : Fin 384, if l.val / 96 = g.val then f l else 0) = ∑ c : Fin 96, f (chan g c) := by
  rw [← Cert.Sums.sum_blocks (A := 4) (n := 96) rfl (fun l : Fin 384 => if l.val / 96 = g.val then f l else 0)]
  rw [Finset.sum_eq_single g (fun b _ hb => Finset.sum_eq_zero fun r _ => if_neg ?_) (fun h => absurd (Finset.mem_univ _) h)]
  · refine Finset.sum_congr rfl fun r _ => if_pos ?_
    show (g.val * 96 + r.val) / 96 = g.val
    omega
  · intro h
    have h' : (b.val * 96 + r.val) / 96 = g.val := h
    exact hb (Fin.ext (by omega))

end Cert.PoolRead

end
-- ==== Proof.PoolTile.lean ====
module

public import proofs.«01_k».proof.Proof.PoolRead

@[expose] public section

set_option maxRecDepth 16384

noncomputable section

/-! What each step of the call computes on the block at a point, in terms of the rows and columns of the whole arrays. -/

namespace Cert.PoolTile

open Idealize.ShloMosaic Idealize.ShloMosaic.TcCoe Idealize.SL.Sem Cert.Kernel3Ideal Cert.Kernel3Ideal.Gen Cert.Conv Cert.PoolSum Cert.PoolBlock Cert.PoolRead
open Cert.PoolRef (chan grp lane acol xcol bcol ccol pooled mixed dmix dpool share dacol wcol zcol gcol dz cntr grp_chan lane_chan)

open scoped BigOperators

variable (m : (ℓ : Loc nD τ sig) → Buf (Elt Ideal) ℓ)

theorem width_le : ∀ j : Fin 384, width j.val ≤ 16 := by decide +kernel

/-! The block's steps, named. -/

/-- The window sums. -/
abbrev W (c : Dev nD) (t : Fin cfg0.N) : FVec Ideal S512x384 .f32 := k0_pay9 (F := Ideal) (grid0.coords t) (iblk m c 0 t) (iblk m c 4 t)

/-- The pooled columns. -/
abbrev P (c : Dev nD) (t : Fin cfg0.N) : FVec Ideal S512x384 .bf16 :=
  k0_pay12 (F := Ideal) (k0_pay8 (F := Ideal) (iblk m c 0 t)) (Scalar.muli (num t) 512#32) (W m c t) (iota .tc S512x384 32 [1] iota_S512x384_d1_w32) k0_pay10 k0_pay11

/-- The pooled columns' gradient. -/
abbrev H (c : Dev nD) (t : Fin cfg0.N) : FVec Ideal S512x384 .f32 := k0_pay14 (F := Ideal) (iblk m c 7 t) (iblk m c 10 t) (iblk m c 9 t)

/-- The convolution's column. -/
abbrev Z (c : Dev nD) (t : Fin cfg0.N) : FVec Ideal S512x384 .f32 := k0_pay27 (F := Ideal) (iblk m c 1 t) (iblk m c 3 t)

/-- The convolved column's gradient. -/
abbrev G (c : Dev nD) (t : Fin cfg0.N) : FVec Ideal S512x384 .f32 := k0_pay32 (F := Ideal) (k0_pay25 (F := Ideal) (iblk m c 2 t)) (iblk m c 8 t)

theorem pay8_at (v : FVec Ideal S512x384 .bf16) (r : Fin 512) (j : Fin 384) : k0_pay8 (F := Ideal) v (ix2 r j) = v (ix2 r j) := by pointwise [k0_pay8]
theorem pay24_at (v : FVec Ideal S512x384 .bf16) (r : Fin 512) (j : Fin 384) : k0_pay24 (F := Ideal) v (ix2 r j) = v (ix2 r j) := by pointwise [k0_pay24]
theorem pay25_at (v : FVec Ideal S512x384 .bf16) (r : Fin 512) (j : Fin 384) : k0_pay25 (F := Ideal) v (ix2 r j) = v (ix2 r j) := by pointwise [k0_pay25]
theorem pay26_at (v : FVec Ideal S512x384 .bf16) (r : Fin 512) (j : Fin 384) : k0_pay26 (F := Ideal) v (ix2 r j) = v (ix2 r j) := by pointwise [k0_pay26]
theorem pay27_at (v w : FVec Ideal S512x384 .bf16) (r : Fin 512) (j : Fin 384) : k0_pay27 (F := Ideal) v w (ix2 r j) = w (ix2 r j) * v (ix2 r j) := by
  pointwise [k0_pay27, k0_pay26, k0_pay24]
theorem pay28_at (v : FVec Ideal S16x384 .bf16) (r : Fin 16) (j : Fin 384) : k0_pay28 (F := Ideal) v (ix2 r j) = v (ix2 r j) := by pointwise [k0_pay28]
theorem pay32_at (v w : FVec Ideal S512x384 .f32) (r : Fin 512) (j : Fin 384) : k0_pay32 (F := Ideal) v w (ix2 r j) = w (ix2 r j) * v (ix2 r j) := by
  pointwise [k0_pay32]
theorem pay5_at (q : Fin 16) (j : Fin 384) : k0_pay5 (F := Ideal) (ix2 q j) = 0 := by pointwise [k0_pay5]
theorem pay6_at (q : Fin 8) (j : Fin 384) : k0_pay6 (F := Ideal) (ix2 q j) = 0 := by pointwise [k0_pay6]

/-! The pooling. -/

theorem ext_at (c : Dev nD) (t : Fin cfg0.N) (j : Fin 384) (q : Fin 528) :
    ext9 (grid0.coords t) (iblk m c 0 t) (iblk m c 4 t) j q = lead (acol (A0 m c) j) ((7 - t.val) * 512 + q.val) := by
  have ht := lt8 t
  unfold ext9
  rw [flag_at t]
  split
  · next h =>
    by_cases h7 : t.val = 7
    · rw [if_pos h7, mul_zero, lead_zero (by omega)]
    · rw [if_neg h7, mul_one, ah_at m c t (by omega)]
      exact (lead_of _ (by show (7 - t.val) * 512 + q.val = (7 - t.val) * 512 - 16 + q.val + 16; omega)).symm
  · next h =>
    refine (a_at m c t _ j).trans (lead_of _ ?_).symm
    show (7 - t.val) * 512 + q.val = (7 - t.val) * 512 + (q.val - 16) + 16
    omega

theorem back_at (c : Dev nD) (t : Fin cfg0.N) (r : Fin 512) (j : Fin 384) : W m c t (ix2 r j) = backSum (acol (A0 m c) j) (width j.val) (row t r).val := by
  refine (pay9_at _ _ _ r j (F := fun n => lead (acol (A0 m c) j) ((7 - t.val) * 512 + n)) (ext_at m c t j)).trans (Finset.sum_congr rfl fun k hk => congrArg _ ?_)
  have h1 := width_le j
  have h2 := Finset.mem_range.mp hk
  show (7 - t.val) * 512 + (r.val + 16 - k) = (7 - t.val) * 512 + r.val + 16 - k
  omega

theorem pooled_at (c : Dev nD) (t : Fin cfg0.N) (r : Fin 512) (j : Fin 384) : P m c t (ix2 r j) = pooled (A0 m c) (row t r) j := by
  refine (pay12_at _ _ _ r j).trans ?_
  rw [num_row, back_at, pay8_at, a_at]
  rfl

theorem dmix_at (c : Dev nD) (t : Fin cfg0.N) (r : Fin 512) (j : Fin 384) :
    k0_pay13 (F := Ideal) (iblk m c 7 t) (iblk m c 10 t) (ix2 r j) = dmix (A1 m c) (A5 m c) (row t r) j :=
  (pay13_at _ _ r j).trans (congrArg₂ (· * ·) (da_at m c t r j) (sc_at m c t j))

theorem dpool_at (c : Dev nD) (t : Fin cfg0.N) (r : Fin 512) (j : Fin 384) : H m c t (ix2 r j) = dpool (A1 m c) (A4 m c) (A5 m c) (row t r) j := by
  refine (pay14_at _ _ _ r j).trans ?_
  refine (Finset.sum_congr rfl fun l _ => (congrArg₂ (fun a b : EReal => a * b) (congrArg₂ (fun a b : EReal => a * b) (da_at m c t r l) (sc_at m c t l)) (w_at m c t j l)).trans
    (?_ : _ = if l.val / 96 = (grp j).val then dmix (A1 m c) (A5 m c) (row t r) l * A4 m c (ix3 (grp l) (lane j) (lane l)) else 0)).trans ?_
  · unfold wblk
    by_cases h : j.val / 96 = l.val / 96
    · rw [if_pos h, if_pos h.symm]
    · rw [if_neg h, if_neg (fun e => h e.symm), mul_zero]
  · refine (sum_group _ (grp j)).trans (Finset.sum_congr rfl fun d _ => ?_)
    rw [grp_chan, lane_chan]

theorem mixed_at (c : Dev nD) (t : Fin cfg0.N) (r : Fin 512) (j : Fin 384) :
    (∑ l : Fin 384, P m c t (ix2 r l) * (iblk m c 9 t : FVec Ideal S384x384 .bf16) (ix2 l j)) = mixed (A0 m c) (A4 m c) (row t r) j := by
  refine (Finset.sum_congr rfl fun l _ => (congrArg₂ (fun a b : EReal => a * b) (pooled_at m c t r l) (w_at m c t l j)).trans
    (?_ : _ = if l.val / 96 = (grp j).val then pooled (A0 m c) (row t r) l * A4 m c (ix3 (grp j) (lane l) (lane j)) else 0)).trans ?_
  · unfold wblk
    by_cases h : l.val / 96 = j.val / 96
    · rw [if_pos h, if_pos h]
    · rw [if_neg h, if_neg h, mul_zero]
  · refine (sum_group _ (grp j)).trans (Finset.sum_congr rfl fun d _ => ?_)
    rw [lane_chan]

/-- The gradient's share of column `j`. -/
abbrev sh (c : Dev nD) (j : Fin 384) : Fin 4096 → EReal := share (A1 m c) (A4 m c) (A5 m c) j

theorem share_at (c : Dev nD) (t : Fin cfg0.N) (r : Fin 512) (j : Fin 384) : k0_pay19 (F := Ideal) (num t) (H m c t) (ix2 r j) = sh m c j (row t r) := by
  refine (pay19_at _ _ r j).trans ?_
  rw [num_row, dpool_at]
  rfl

/-- What the 16 carried rows hold before the block at point `t`: the shares of the rows below it. -/
def BelowS (c : Dev nD) (t : Fin cfg0.N) (z : FVec Ideal S16x384 .f32) : Prop :=
  ∀ (j : Fin 384) (q : Fin 16), z (ix2 q j) = trail (sh m c j) ((7 - t.val) * 512 + 512 + q.val)

theorem dacol_at (c : Dev nD) (t : Fin cfg0.N) {z : FVec Ideal S16x384 .f32} (hz : BelowS m c t z) (r : Fin 512) (j : Fin 384) :
    k0_pay22 (F := Ideal) (H m c t) (k0_pay20 (F := Ideal) (num t) (H m c t) z) (k0_pay21 (F := Ideal) (num t) (H m c t) z) (ix2 r j)
      = dacol (A1 m c) (A4 m c) (A5 m c) (row t r) j := by
  refine (pay22_at (num t) (H m c t) z r j (F := fun n => trail (sh m c j) ((7 - t.val) * 512 + n)) fun q => ?_).trans ?_
  · unfold ext22
    split
    · exact (share_at m c t _ j).trans (trail_of _ rfl).symm
    · next h =>
      refine (hz j _).trans (congrArg _ ?_)
      show (7 - t.val) * 512 + 512 + (q.val - 512) = (7 - t.val) * 512 + q.val
      omega
  · rw [dpool_at]
    refine congrArg₂ (fun a b : EReal => a - b) (Finset.sum_congr rfl fun k _ => congrArg _ ?_) rfl
    show (7 - t.val) * 512 + (r.val + k) = (7 - t.val) * 512 + r.val + k
    omega

/-! The convolution. -/

theorem z_at (c : Dev nD) (t : Fin cfg0.N) (r : Fin 512) (j : Fin 384) : Z m c t (ix2 r j) = zcol (A0 m c) j (row t r) :=
  (pay27_at _ _ r j).trans (congrArg₂ (· * ·) (c_at m c t r j) (x_at m c t r j))

theorem z_past (c : Dev nD) (t : Fin cfg0.N) (j : Fin 384) (r : Fin 512) :
    Z m c t (ix2 r j) = (fun n => past (zcol (A0 m c) j) ((7 - t.val) * 512 + n)) (r.val + 8) :=
  (z_at m c t r j).trans (past_of _ (by show (7 - t.val) * 512 + (r.val + 8) = (7 - t.val) * 512 + r.val + 8; omega)).symm

theorem halo_past (c : Dev nD) (t : Fin cfg0.N) (j : Fin 384) (q : Fin 8) :
    k0_pay28 (F := Ideal) (iblk m c 5 t) (ix2 ⟨q.val + 8, by omega⟩ j) * (iblk m c 6 t : FVec Ideal S16x384 .bf16) (ix2 ⟨q.val + 8, by omega⟩ j) * k0_pay7 (F := Ideal) (grid0.coords t)
      = (fun n => past (zcol (A0 m c) j) ((7 - t.val) * 512 + n)) q.val := by
  have ht := lt8 t
  rw [flag_at t]
  by_cases h7 : t.val = 7
  · rw [if_pos h7, mul_zero]
    exact (past_zero (by omega)).symm
  · rw [if_neg h7, mul_one, pay28_at, xh_at m c t (by omega), ch_at m c t (by omega), mul_comm]
    exact (past_of (x := zcol (A0 m c) j) _ (by show (7 - t.val) * 512 + q.val = (7 - t.val) * 512 - 16 + (q.val + 8) + 8; omega)).symm

theorem z1_at (c : Dev nD) (t : Fin cfg0.N) (r : Fin 512) (j : Fin 384) :
    k0_pay30 (F := Ideal) (k0_pay7 (F := Ideal) (grid0.coords t)) (Z m c t) (k0_pay28 (F := Ideal) (iblk m c 5 t)) (iblk m c 6 t) (ix2 r j)
      = past (zcol (A0 m c) j) ((row t r).val + 7) := by
  refine (pay30_at _ _ _ _ r j (F := fun n => past (zcol (A0 m c) j) ((7 - t.val) * 512 + n)) (halo_past m c t j) (z_past m c t j)).trans (congrArg _ ?_)
  show (7 - t.val) * 512 + (r.val + 7) = (7 - t.val) * 512 + r.val + 7
  omega

theorem z2_at (c : Dev nD) (t : Fin cfg0.N) (r : Fin 512) (j : Fin 384) :
    k0_pay31 (F := Ideal) (k0_pay7 (F := Ideal) (grid0.coords t)) (Z m c t) (k0_pay28 (F := Ideal) (iblk m c 5 t)) (iblk m c 6 t) (ix2 r j)
      = past (zcol (A0 m c) j) ((row t r).val + 6) := by
  refine (pay31_at _ _ _ _ r j (F := fun n => past (zcol (A0 m c) j) ((7 - t.val) * 512 + n)) (halo_past m c t j) (z_past m c t j)).trans (congrArg _ ?_)
  show (7 - t.val) * 512 + (r.val + 6) = (7 - t.val) * 512 + r.val + 6
  omega

theorem z0_at (c : Dev nD) (t : Fin cfg0.N) (r : Fin 512) (j : Fin 384) : Z m c t (ix2 r j) = past (zcol (A0 m c) j) ((row t r).val + 8) :=
  (z_at m c t r j).trans (past_of _ rfl).symm

theorem db_at (c : Dev nD) (t : Fin cfg0.N) (r : Fin 512) (j : Fin 384) :
    k0_pay35 (F := Ideal) (k0_pay7 (F := Ideal) (grid0.coords t)) (Z m c t) (iblk m c 11 t) (k0_pay28 (F := Ideal) (iblk m c 5 t)) (iblk m c 6 t) (iblk m c 8 t) (ix2 r j)
      = A2 m c (ix2 (row t r) j) * conv (wcol (A6 m c) j) (zcol (A0 m c) j) (row t r).val := by
  refine (pay35_at _ _ _ _ _ _ r j).trans (congrArg₂ (· * ·) (dy_at m c t r j) (congrArg₂ (· + ·) (congrArg₂ (· + ·) ?_ ?_) ?_))
  · exact congrArg₂ (· * ·) (cw_at m c t 0 j) (z2_at m c t r j)
  · exact congrArg₂ (· * ·) (cw_at m c t 1 j) (z1_at m c t r j)
  · exact congrArg₂ (· * ·) (cw_at m c t 2 j) (z0_at m c t r j)

/-- The convolved column's gradient over all rows. -/
abbrev gc (c : Dev nD) (j : Fin 384) : Fin 4096 → EReal := gcol (A0 m c) (A2 m c) j

theorem g_at (c : Dev nD) (t : Fin cfg0.N) (r : Fin 512) (j : Fin 384) : G m c t (ix2 r j) = gc m c j (row t r) := by
  refine (pay32_at _ _ r j).trans ((congrArg₂ (fun a b : EReal => a * b) (dy_at m c t r j) ((pay25_at _ r j).trans (b_at m c t r j))).trans (mul_comm _ _))

/-- What the 8 carried rows hold before the block at point `t`: the gradients of the rows below it. -/
def BelowG (c : Dev nD) (t : Fin cfg0.N) (z : FVec Ideal S8x384 .f32) : Prop :=
  ∀ (j : Fin 384) (q : Fin 8), z (ix2 q j) = after (gc m c j) ((7 - t.val) * 512 + 512 + q.val)

theorem dz_at (c : Dev nD) (t : Fin cfg0.N) {z : FVec Ideal S8x384 .f32} (hz : BelowG m c t z) (r : Fin 512) (j : Fin 384) :
    k0_pay33 (F := Ideal) (k0_pay25 (F := Ideal) (iblk m c 2 t)) (iblk m c 11 t) (iblk m c 8 t) z (ix2 r j) = dz (A0 m c) (A2 m c) (A6 m c) (row t r) j := by
  refine (pay33_at _ _ _ _ r j (F := fun n => after (gc m c j) ((7 - t.val) * 512 + n)) (fun r => ?_) fun q => ?_).trans ?_
  · exact ((pay32_at _ _ r j).symm.trans (g_at m c t r j)).trans (after_of _ rfl).symm
  · refine (hz j q).trans (congrArg _ ?_)
    show (7 - t.val) * 512 + 512 + q.val = (7 - t.val) * 512 + (q.val + 512)
    omega
  · refine congrArg₂ (· + ·) (congrArg₂ (· + ·) ?_ ?_) ?_
    · exact congrArg₂ (· * ·) (cw_at m c t 2 j) (after_of _ rfl)
    · exact congrArg₂ (· * ·) (cw_at m c t 1 j) rfl
    · exact congrArg₂ (· * ·) (cw_at m c t 0 j) rfl

theorem dx_at (c : Dev nD) (t : Fin cfg0.N) {z : FVec Ideal S8x384 .f32} (hz : BelowG m c t z) (r : Fin 512) (j : Fin 384) :
    k0_pay34 (F := Ideal) (k0_pay25 (F := Ideal) (iblk m c 2 t)) (k0_pay26 (F := Ideal) (iblk m c 3 t)) (iblk m c 11 t) (iblk m c 8 t) z (ix2 r j)
      = dz (A0 m c) (A2 m c) (A6 m c) (row t r) j * ccol (A0 m c) j (row t r) :=
  (pay34_at _ _ _ _ _ r j).trans (congrArg₂ (· * ·) (dz_at m c t hz r j) ((pay26_at _ r j).trans (c_at m c t r j)))

theorem dc_at (c : Dev nD) (t : Fin cfg0.N) {z : FVec Ideal S8x384 .f32} (hz : BelowG m c t z) (r : Fin 512) (j : Fin 384) :
    k0_pay1 (F := Ideal) (k0_pay24 (F := Ideal) (iblk m c 1 t)) (k0_pay33 (F := Ideal) (k0_pay25 (F := Ideal) (iblk m c 2 t)) (iblk m c 11 t) (iblk m c 8 t) z) (ix2 r j)
      = dz (A0 m c) (A2 m c) (A6 m c) (row t r) j * xcol (A0 m c) j (row t r) :=
  (pay1_at _ _ r j).trans (congrArg₂ (· * ·) (dz_at m c t hz r j) ((pay24_at _ r j).trans (x_at m c t r j)))

/-! The rows a block leaves for the next. -/

theorem belowS_zero (c : Dev nD) (t : Fin cfg0.N) (h0 : t.val % 8 = 0) : BelowS m c t (k0_pay5 (F := Ideal)) := by
  intro j q
  have := lt8 t
  exact (pay5_at q j).trans (trail_zero (by omega)).symm

theorem belowG_zero (c : Dev nD) (t : Fin cfg0.N) (h0 : t.val % 8 = 0) : BelowG m c t (k0_pay6 (F := Ideal)) := by
  intro j q
  have := lt8 t
  exact (pay6_at q j).trans (after_zero (by omega)).symm

theorem not_one_le (t : Fin cfg0.N) (h0 : t.val % 8 = 0) : ¬ 1 ≤ t.val := by
  have := lt8 t
  omega

theorem one_le (t : Fin cfg0.N) (h0 : ¬ t.val % 8 = 0) : 1 ≤ t.val := by omega

theorem carriedS (c : Dev nD) (t : Fin cfg0.N) (q : Fin 16) (j : Fin 384) :
    ((outsAt0 m c t.val t.isLt).2.2.2.2.1 : FVec Ideal S16x384 .f32) (ix2 q j) = sh m c j (row t ⟨q.val, by omega⟩) := by
  by_cases h0 : t.val % 8 = 0
  · rw [outsAt0_A m c t h0 h0 (not_one_le t h0) h0 (not_one_le t h0) h0 (not_one_le t h0)]
    frame_out
    exact (pay23_at _ q j).trans (share_at m c t _ j)
  · rw [outsAt0_B m c t h0 h0 (one_le t h0) h0 (one_le t h0) h0 (one_le t h0)]
    frame_out
    exact (pay23_at _ q j).trans (share_at m c t _ j)

theorem carriedG (c : Dev nD) (t : Fin cfg0.N) (q : Fin 8) (j : Fin 384) :
    ((outsAt0 m c t.val t.isLt).2.2.2.2.2 : FVec Ideal S8x384 .f32) (ix2 q j) = gc m c j (row t ⟨q.val, by omega⟩) := by
  by_cases h0 : t.val % 8 = 0
  · rw [outsAt0_A m c t h0 h0 (not_one_le t h0) h0 (not_one_le t h0) h0 (not_one_le t h0)]
    frame_out
    exact (pay4_at _ q j).trans (g_at m c t _ j)
  · rw [outsAt0_B m c t h0 h0 (one_le t h0) h0 (one_le t h0) h0 (one_le t h0)]
    frame_out
    exact (pay4_at _ q j).trans (g_at m c t _ j)

theorem belowS_step (c : Dev nD) (t : Fin cfg0.N) (h0 : ¬ t.val % 8 = 0) (h : t.val - 1 < cfg0.N) :
    BelowS m c t (outsAt0 m c (t.val - 1) h).2.2.2.2.1 := by
  intro j q
  refine (carriedS m c ⟨t.val - 1, h⟩ q j).trans (trail_of _ ?_).symm
  show (7 - t.val) * 512 + 512 + q.val = (7 - (t.val - 1)) * 512 + q.val
  have := lt8 t
  omega

theorem belowG_step (c : Dev nD) (t : Fin cfg0.N) (h0 : ¬ t.val % 8 = 0) (h : t.val - 1 < cfg0.N) :
    BelowG m c t (outsAt0 m c (t.val - 1) h).2.2.2.2.2 := by
  intro j q
  refine (carriedG m c ⟨t.val - 1, h⟩ q j).trans (after_of _ ?_).symm
  show (7 - t.val) * 512 + 512 + q.val = (7 - (t.val - 1)) * 512 + q.val
  have := lt8 t
  omega

end Cert.PoolTile

end
-- ==== Proof.PoolValue.lean ====
module

public import proofs.«01_k».proof.Proof.PoolTile
public import Idealize.ShloMosaic.Lib.Pipeline.ReadBack
public import Idealize.ShloMosaic.Lib.Pipeline.ValueKit.Partial

@[expose] public section

set_option maxRecDepth 16384

noncomputable section

/-! The four arrays the call leaves. -/

namespace Cert.PoolValue

open Idealize.ShloMosaic Idealize.ShloMosaic.TcCoe Idealize.SL.Sem Cert.Kernel3Ideal Cert.Kernel3Ideal.Gen Cert.Conv Cert.PoolSum Cert.PoolBlock Cert.PoolRead Cert.PoolTile
open Cert.PoolRef (chan grp lane acol xcol bcol ccol pooled mixed dmix dpool share dacol wcol zcol gcol dz Ok)
open Idealize.ShloMosaic.Pipeline (Dat)

open scoped BigOperators

variable (m : (ℓ : Loc nD τ sig) → Buf (Elt Ideal) ℓ)

/-- The reference's first result. -/
abbrev R (c : Dev nD) : FVec Ideal S4096x6912 .bf16 :=
  Cert.Reference3Ideal.Read.val_main_v233 (F := Ideal) (A0 m c) (A1 m c) (A2 m c) (A3 m c) (A4 m c) (A5 m c) (A6 m c)

theorem mid (c : Dev nD) (i : Fin 4096) (y : Fin 1536) : R m c (ix2 i ⟨3072 + y.val, by omega⟩)
    = Cert.Reference3Ideal.Read.val_main_v229 (F := Ideal) (A0 m c) (A1 m c) (A2 m c) (A4 m c) (A5 m c) (A6 m c) (ix2 i y) := by
  refine (Cert.PoolRef.du_split _ _ _ _ _ _ _ i _).trans ((dif_neg (by show ¬ 3072 + y.val < 3072; omega)).trans ((dif_pos (by show 3072 + y.val - 3072 < 1536; omega)).trans ?_))
  exact congrArg (fun q => Cert.Reference3Ideal.Read.val_main_v229 (F := Ideal) (A0 m c) (A1 m c) (A2 m c) (A4 m c) (A5 m c) (A6 m c) (ix2 i q))
    (Fin.ext (by show 3072 + y.val - 3072 = y.val; omega))

theorem ref_da (c : Dev nD) (ok : Ok (A0 m c) (A1 m c) (A4 m c) (A5 m c)) (i : Fin 4096) (j : Fin 384) :
    R m c (ix2 i ⟨3072 + j.val, by omega⟩) = dacol (A1 m c) (A4 m c) (A5 m c) i j := by
  refine (mid m c i ⟨j.val, by omega⟩).trans ((Cert.PoolRef.cols_split _ _ _ _ _ _ i _).trans ((dif_pos j.isLt).trans ?_))
  exact Cert.PoolRef.dacol_at _ _ _ _ ok i j

theorem ref_dx (c : Dev nD) (i : Fin 4096) (j : Fin 384) :
    R m c (ix2 i ⟨3072 + (384 + j.val), by omega⟩) = dz (A0 m c) (A2 m c) (A6 m c) i j * ccol (A0 m c) j i := by
  refine (mid m c i ⟨384 + j.val, by omega⟩).trans ((Cert.PoolRef.cols_split _ _ _ _ _ _ i _).trans ((dif_neg (by show ¬ 384 + j.val < 384; omega)).trans
    ((dif_pos (by show 384 + j.val - 384 < 384; omega)).trans ?_)))
  refine Eq.trans (congrArg _ (congrArg (ix2 i) (Fin.ext ?_))) (Cert.PoolRef.dx_at _ _ _ i j)
  show 384 + j.val - 384 = j.val
  omega

theorem ref_db (c : Dev nD) (i : Fin 4096) (j : Fin 384) :
    R m c (ix2 i ⟨3072 + (768 + j.val), by omega⟩) = A2 m c (ix2 i j) * conv (wcol (A6 m c) j) (zcol (A0 m c) j) i.val := by
  refine (mid m c i ⟨768 + j.val, by omega⟩).trans ((Cert.PoolRef.cols_split _ _ _ _ _ _ i _).trans ((dif_neg (by show ¬ 768 + j.val < 384; omega)).trans
    ((dif_neg (by show ¬ 768 + j.val - 384 < 384; omega)).trans ((dif_pos (by show 768 + j.val - 384 - 384 < 384; omega)).trans ?_))))
  refine Eq.trans (congrArg _ (congrArg (ix2 i) (Fin.ext ?_))) (Cert.PoolRef.db_at _ _ _ i j)
  show 768 + j.val - 384 - 384 = j.val
  omega

theorem ref_dc (c : Dev nD) (i : Fin 4096) (j : Fin 384) :
    R m c (ix2 i ⟨3072 + (1152 + j.val), by omega⟩) = dz (A0 m c) (A2 m c) (A6 m c) i j * xcol (A0 m c) j i := by
  refine (mid m c i ⟨1152 + j.val, by omega⟩).trans ((Cert.PoolRef.cols_split _ _ _ _ _ _ i _).trans ((dif_neg (by show ¬ 1152 + j.val < 384; omega)).trans
    ((dif_neg (by show ¬ 1152 + j.val - 384 < 384; omega)).trans ((dif_neg (by show ¬ 1152 + j.val - 384 - 384 < 384; omega)).trans ?_))))
  refine Eq.trans (congrArg _ (congrArg (ix2 i) (Fin.ext ?_))) (Cert.PoolRef.dc_at _ _ _ i j)
  show 1152 + j.val - 384 - 384 - 384 = j.val
  omega

/-- Outside the four column groups the array keeps what it held. -/
theorem ref_rest (c : Dev nD) (i : Fin 4096) (y : Fin 6912) (h : ¬ y.val / 1536 = 2) : R m c (ix2 i y) = A3 m c (ix2 i y) := by
  refine (Cert.PoolRef.du_split _ _ _ _ _ _ _ i y).trans ?_
  split
  · rfl
  · rw [dif_neg (by omega)]

/-! The four column groups of a block. -/

theorem at_col (c : Dev nD) (i : Fin 4096) {a b : Nat} (h : a = b) (ha : a < 6912) (hb : b < 6912) : R m c (ix2 i ⟨a, ha⟩) = R m c (ix2 i ⟨b, hb⟩) := by
  subst h
  rfl

theorem piece_c (c : Dev nD) (t : Fin cfg0.N) {z : FVec Ideal S8x384 .f32} (hz : BelowG m c t z) (r : Fin 512) (l : Fin 1536) (x : S512x384.Idx) (k0 : r.val = (x 0).val) (k1 : l.val = 1152 + (x 1).val) :
    k0_pay1 (F := Ideal) (k0_pay24 (F := Ideal) (iblk m c 1 t)) (k0_pay33 (F := Ideal) (k0_pay25 (F := Ideal) (iblk m c 2 t)) (iblk m c 11 t) (iblk m c 8 t) z) x
      = R m c (ix2 (row t r) ⟨3072 + l.val, by omega⟩) := by
  idx_vars x
  obtain rfl : r = x0 := Fin.ext k0
  have hx : x1.val < 384 := x1.isLt
  have hl : l.val = 1152 + x1.val := k1
  refine Eq.trans ?_ (at_col m c (row t r) (show 3072 + (1152 + x1.val) = 3072 + l.val by omega) (by omega) (by omega))
  exact (dc_at m c t hz r x1).trans (ref_dc m c (row t r) x1).symm

theorem piece_b (c : Dev nD) (t : Fin cfg0.N) (r : Fin 512) (l : Fin 1536) (x : S512x384.Idx) (k0 : r.val = (x 0).val) (k1 : l.val = 768 + (x 1).val) :
    k0_pay35 (F := Ideal) (k0_pay7 (F := Ideal) (grid0.coords t)) (Z m c t) (iblk m c 11 t) (k0_pay28 (F := Ideal) (iblk m c 5 t)) (iblk m c 6 t) (iblk m c 8 t) x
      = R m c (ix2 (row t r) ⟨3072 + l.val, by omega⟩) := by
  idx_vars x
  obtain rfl : r = x0 := Fin.ext k0
  have hx : x1.val < 384 := x1.isLt
  have hl : l.val = 768 + x1.val := k1
  refine Eq.trans ?_ (at_col m c (row t r) (show 3072 + (768 + x1.val) = 3072 + l.val by omega) (by omega) (by omega))
  exact (db_at m c t r x1).trans (ref_db m c (row t r) x1).symm

theorem piece_x (c : Dev nD) (t : Fin cfg0.N) {z : FVec Ideal S8x384 .f32} (hz : BelowG m c t z) (r : Fin 512) (l : Fin 1536) (x : S512x384.Idx) (k0 : r.val = (x 0).val) (k1 : l.val = 384 + (x 1).val) :
    k0_pay34 (F := Ideal) (k0_pay25 (F := Ideal) (iblk m c 2 t)) (k0_pay26 (F := Ideal) (iblk m c 3 t)) (iblk m c 11 t) (iblk m c 8 t) z x
      = R m c (ix2 (row t r) ⟨3072 + l.val, by omega⟩) := by
  idx_vars x
  obtain rfl : r = x0 := Fin.ext k0
  have hx : x1.val < 384 := x1.isLt
  have hl : l.val = 384 + x1.val := k1
  refine Eq.trans ?_ (at_col m c (row t r) (show 3072 + (384 + x1.val) = 3072 + l.val by omega) (by omega) (by omega))
  exact (dx_at m c t hz r x1).trans (ref_dx m c (row t r) x1).symm

theorem piece_a (c : Dev nD) (ok : Ok (A0 m c) (A1 m c) (A4 m c) (A5 m c)) (t : Fin cfg0.N) {z : FVec Ideal S16x384 .f32} (hz : BelowS m c t z) (r : Fin 512) (l : Fin 1536) (x : S512x384.Idx) (k0 : r.val = (x 0).val) (k1 : l.val = (x 1).val) :
    k0_pay22 (F := Ideal) (H m c t) (k0_pay20 (F := Ideal) (num t) (H m c t) z) (k0_pay21 (F := Ideal) (num t) (H m c t) z) x
      = R m c (ix2 (row t r) ⟨3072 + l.val, by omega⟩) := by
  idx_vars x
  obtain rfl : r = x0 := Fin.ext k0
  have hx : x1.val < 384 := x1.isLt
  have hl : l.val = x1.val := k1
  refine Eq.trans ?_ (at_col m c (row t r) (show 3072 + (x1.val) = 3072 + l.val by omega) (by omega) (by omega))
  exact (dacol_at m c t hz r x1).trans (ref_da m c ok (row t r) x1).symm

set_option maxHeartbeats 2000000 in
theorem block (c : Dev nD) (ok : Ok (A0 m c) (A1 m c) (A4 m c) (A5 m c)) (t : Fin cfg0.N) (y : S512x1536.Idx) :
    ((outsAt0 m c t.val t.isLt).1 : FVec Ideal S512x1536 .bf16) y = R m c (ix2 (row t (y 0)) ⟨3072 + (y 1).val, Nat.lt_of_lt_of_le (Nat.add_lt_add_left (y 1).isLt 3072) (show 3072 + 1536 ≤ 6912 by omega)⟩) := by
  by_cases e0 : t.val % 8 = 0
  · have hs := belowS_zero m c t e0
    have hg := belowG_zero m c t e0
    rw [outsAt0_A m c t e0 e0 (not_one_le t e0) e0 (not_one_le t e0) e0 (not_one_le t e0)]
    frame_out
    canon_tiles x k
    · exact piece_c m c t hg (y 0) (y 1) x (by omega) (by omega)
    · exact piece_b m c t (y 0) (y 1) x (by omega) (by omega)
    · exact piece_x m c t hg (y 0) (y 1) x (by omega) (by omega)
    · exact piece_a m c ok t hs (y 0) (y 1) x (by omega) (by omega)
  · have hs := belowS_step m c t e0 (Nat.lt_of_le_of_lt (Nat.sub_le _ _) t.isLt)
    have hg := belowG_step m c t e0 (Nat.lt_of_le_of_lt (Nat.sub_le _ _) t.isLt)
    rw [outsAt0_B m c t e0 e0 (one_le t e0) e0 (one_le t e0) e0 (one_le t e0)]
    frame_out
    rw [read_unread_whole, read_unread_whole]
    canon_tiles x k
    · exact piece_c m c t hg (y 0) (y 1) x (by omega) (by omega)
    · exact piece_b m c t (y 0) (y 1) x (by omega) (by omega)
    · exact piece_x m c t hg (y 0) (y 1) x (by omega) (by omega)
    · exact piece_a m c ok t hs (y 0) (y 1) x (by omega) (by omega)

theorem block_emb (c : Dev nD) (ok : Ok (A0 m c) (A1 m c) (A4 m c) (A5 m c)) (t : Fin cfg0.N) (y : ((cfg0.win 12).xblock (cfg0.grid.coords t)).Idx) :
    ((outsAt0 m c t.val t.isLt).1 : FVec Ideal S512x1536 .bf16) ((cfg0.win 12).xinj (cfg0.grid.coords t) y) = R m c (((cfg0.win 12).blk t).view.emb y) := by
  generalize hx : (cfg0.win 12).xinj (cfg0.grid.coords t) y = v
  have hy : ∀ a, (y a).val = (v a).val := fun a => congrArg Fin.val (congrFun hx a)
  clear hx
  revert hy
  idx_vars v
  intro hy
  exact (block m c ok t (ix2 v0 v1)).trans (congrArg (R m c) (emb12 t y v0 v1 (hy 0) (hy 1))).symm

theorem final12 (c : Dev nD) (ok : Ok (A0 m c) (A1 m c) (A4 m c) (A5 m c)) : (dats m 0 c).arrAt 12 (cfgs 0).N = R m c := by
  refine (dats m 0 c).arrAt_eq_of_coversWhere_of_agree 12 _ (fun β => β (1 : Fin 2) = 2) (by decide +kernel) (fun t hf y => ?_) (fun j hj => ?_)
  · refine Eq.trans ?_ (block_emb m c ok t y)
    blk_simp
    rw [after0_12]
  · blk_simp [Pipeline.Window.cell_apply] at hj
    idx_vars j
    exact (ref_rest m c j0 j1 hj).symm

/-- What the block at point `t` adds to the scale's gradient. -/
def sterm (c : Dev nD) (t : Fin cfg0.N) (j : Fin 384) : EReal := ∑ r : Fin 512, A1 m c (ix2 (row t r) j) * mixed (A0 m c) (A4 m c) (row t r) j

theorem point13 (c : Dev nD) (t : Fin cfg0.N) (j : Fin 384) :
    k0_pay15 (F := Ideal) (k0_pay8 (F := Ideal) (iblk m c 0 t)) (Scalar.muli (num t) 512#32) (W m c t) (iota .tc S512x384 32 [1] iota_S512x384_d1_w32) k0_pay10 k0_pay11
      (iblk m c 9 t) (iblk m c 7 t) (ix2 0 j) = sterm m c t j :=
  (pay15_at _ _ _ _ _ _ _ _ j).trans (Finset.sum_congr rfl fun r _ => congrArg₂ (fun a b : EReal => a * b) (da_at m c t r j) (mixed_at m c t r j))

/-- A sum over the rows, block by block from the last. -/
theorem sum_rows (f : Fin 4096 → EReal) : (∑ t : Fin 8, ∑ r : Fin 512, f (row t r)) = ∑ i : Fin 4096, f i := by
  rw [← Cert.Sums.sum_blocks (A := 8) (n := 512) rfl f, ← Equiv.sum_comp Fin.revPerm]
  refine Finset.sum_congr rfl fun t _ => Finset.sum_congr rfl fun r _ => congrArg f (Fin.ext ?_)
  show (7 - t.rev.val) * 512 + r.val = t.val * 512 + r.val
  rw [Fin.val_rev]
  omega

theorem final13 (c : Dev nD) (ok : Ok (A0 m c) (A1 m c) (A4 m c) (A5 m c)) : (dats m 0 c).arrAt 13 (cfgs 0).N
    = Cert.Reference3Ideal.Read.val_main_v234 (F := Ideal) (A0 m c) (A1 m c) (A4 m c) := by
  refine (dats m 0 c).arrAt_eq_of_after_last 13 t0_7 (by decide +kernel) _ fun j => ?_
  blk_simp
  rw [after0_13]
  idx_vars j
  obtain rfl : j0 = 0 := Subsingleton.elim _ _
  refine (Pipeline.eq_sum_fin_of_reset_step_apply_last (fun n h (j : Fin 384) => ((outsAt0 m c n h).2.1 : FVec Ideal S1x384 .f32) (ix2 0 j)) 8
    (fun _ => 0) (sterm m c) (fun t h0 j => ?_) (fun t h0 j => ?_) (by decide) t0_7 rfl j1).trans ?_
  · simp only [outsAt0_A m c t h0 h0 (not_one_le t h0) h0 (not_one_le t h0) h0 (not_one_le t h0)]
    frame_out
    rw [zero_add]
    exact point13 m c t j
  · simp only [outsAt0_B m c t h0 h0 (one_le t h0) h0 (one_le t h0) h0 (one_le t h0)]
    frame_out
    exact (pay16_at _ _ j).trans (congrArg _ (point13 m c t j))
  · rw [zero_add]
    refine Eq.trans ?_ (Cert.PoolRef.ref_dps _ _ _ ok.1 j1).symm
    exact sum_rows fun i : Fin 4096 => A1 m c (ix2 i j1) * mixed (A0 m c) (A4 m c) i j1

/-- What the block at point `t` adds to the mixing weights' gradient. -/
def mterm (c : Dev nD) (t : Fin cfg0.N) (y : Fin 384 × Fin 384) : EReal :=
  ∑ r : Fin 512, pooled (A0 m c) (row t r) y.1 * dmix (A1 m c) (A5 m c) (row t r) y.2

theorem point14 (c : Dev nD) (t : Fin cfg0.N) (y : Fin 384 × Fin 384) :
    k0_pay17 (F := Ideal) (P m c t) (k0_pay13 (F := Ideal) (iblk m c 7 t) (iblk m c 10 t)) (ix2 y.1 y.2) = mterm m c t y :=
  (pay17_at _ _ y.1 y.2).trans (Finset.sum_congr rfl fun r _ => congrArg₂ (fun a b : EReal => a * b) (pooled_at m c t r y.1) (dmix_at m c t r y.2))

/-- In the square's blocks on the diagonal. -/
theorem final14 (c : Dev nD) (ok : Ok (A0 m c) (A1 m c) (A4 m c) (A5 m c)) (l j : Fin 384) (h : l.val / 96 = j.val / 96) :
    ((dats m 0 c).arrAt 14 (cfgs 0).N : FVec Ideal S384x384 .f32) (ix2 l j)
      = Cert.Reference3Ideal.Read.val_main_v236 (F := Ideal) (A0 m c) (A1 m c) (A5 m c) (ix2 l j) := by
  have e : (dats m 0 c).arrAt 14 (cfgs 0).N = ((outsAt0 m c t0_7.val t0_7.isLt).2.2.1 : FVec Ideal S384x384 .f32) := by
    refine (dats m 0 c).arrAt_eq_of_after_last 14 t0_7 (by decide +kernel) _ fun j => ?_
    blk_simp
    rw [after0_14]
  refine (congrFun e (ix2 l j)).trans ?_
  refine (Pipeline.eq_sum_fin_of_reset_step_apply_last (fun n h (y : Fin 384 × Fin 384) => ((outsAt0 m c n h).2.2.1 : FVec Ideal S384x384 .f32) (ix2 y.1 y.2)) 8
    (fun _ => 0) (mterm m c) (fun t h0 y => ?_) (fun t h0 y => ?_) (by decide) t0_7 rfl (l, j)).trans ?_
  · simp only [outsAt0_A m c t h0 h0 (not_one_le t h0) h0 (not_one_le t h0) h0 (not_one_le t h0)]
    frame_out
    rw [zero_add]
    exact point14 m c t y
  · simp only [outsAt0_B m c t h0 h0 (one_le t h0) h0 (one_le t h0) h0 (one_le t h0)]
    frame_out
    exact (pay18_at _ _ _ y.1 y.2).trans (congrArg _ (point14 m c t y))
  · rw [zero_add]
    refine Eq.trans ?_ (Cert.PoolRef.ref_dpw _ _ _ ok.1 l j h).symm
    exact sum_rows fun i : Fin 4096 => pooled (A0 m c) i l * dmix (A1 m c) (A5 m c) i j

/-- What the block at point `t` adds to the gradient of the convolution's weights. -/
def wterm (c : Dev nD) (t : Fin cfg0.N) (y : Fin 3 × Fin 384) : EReal :=
  ∑ r : Fin 512, gc m c y.2 (row t r) * past (zcol (A0 m c) y.2) ((row t r).val + (6 + y.1.val))

theorem point15 (c : Dev nD) (t : Fin cfg0.N) (y : Fin 3 × Fin 384) :
    k0_pay2 (F := Ideal) (Z m c t) (k0_pay30 (F := Ideal) (k0_pay7 (F := Ideal) (grid0.coords t)) (Z m c t) (k0_pay28 (F := Ideal) (iblk m c 5 t)) (iblk m c 6 t))
        (k0_pay31 (F := Ideal) (k0_pay7 (F := Ideal) (grid0.coords t)) (Z m c t) (k0_pay28 (F := Ideal) (iblk m c 5 t)) (iblk m c 6 t)) (G m c t) (ix2 y.1 y.2) = wterm m c t y := by
  obtain ⟨⟨k, hk⟩, j⟩ := y
  refine (pay2_at _ _ _ _ _ j).trans (Finset.sum_congr rfl fun r _ => congrArg₂ (fun a b : EReal => a * b) (g_at m c t r j) ?_)
  obtain rfl | rfl | rfl : k = 0 ∨ k = 1 ∨ k = 2 := by omega
  · exact z2_at m c t r j
  · exact z1_at m c t r j
  · exact z0_at m c t r j

theorem final15 (c : Dev nD) : (dats m 0 c).arrAt 15 (cfgs 0).N = Cert.Reference3Ideal.Read.val_main_v147 (F := Ideal) (A0 m c) (A2 m c) := by
  refine (dats m 0 c).arrAt_eq_of_after_last 15 t0_7 (by decide +kernel) _ fun j => ?_
  blk_simp
  rw [after0_15]
  idx_vars j
  refine (Pipeline.eq_sum_fin_of_reset_step_apply_last (fun n h (y : Fin 3 × Fin 384) => ((outsAt0 m c n h).2.2.2.1 : FVec Ideal S3x384 .f32) (ix2 y.1 y.2)) 8
    (fun _ => 0) (wterm m c) (fun t h0 y => ?_) (fun t h0 y => ?_) (by decide) t0_7 rfl (j0, j1)).trans ?_
  · simp only [outsAt0_A m c t h0 h0 (not_one_le t h0) h0 (not_one_le t h0) h0 (not_one_le t h0)]
    frame_out
    rw [zero_add]
    exact point15 m c t y
  · simp only [outsAt0_B m c t h0 h0 (one_le t h0) h0 (one_le t h0) h0 (one_le t h0)]
    frame_out
    exact (pay3_at _ _ _ _ _ y.1 y.2).trans (congrArg _ (point15 m c t y))
  · rw [zero_add]
    refine Eq.trans ?_ (Cert.PoolRef.ref_dcw _ _ j0 j1).symm
    exact sum_rows fun i : Fin 4096 => gc m c j1 i * past (zcol (A0 m c) j1) (i.val + (6 + j0.val))

end Cert.PoolValue

end
-- ==== Proof.PoolRun.lean ====
module

public import proofs.«01_k».proof.Proof.PoolFrame
public import Idealize.ShloMosaic.Lib.Pipeline.Value

@[expose] public section

set_option maxRecDepth 16384

/-! The run of the pooling-and-convolution backward call with its four result arrays named. -/

noncomputable section

namespace Cert.PoolRun

open Cert.Kernel3Ideal Cert.Kernel3Ideal.Gen Idealize.ShloMosaic Idealize.ShloMosaic.TcCoe Idealize.SL.Sem

variable {F : FTy → Type} [FloatOps F] (m : (ℓ : Loc nD τ sig) → Buf (Elt F) ℓ) (ρ : Dev nD → PrngReg)

theorem run_named : θ_run defs (onTc (τ := τ) (main (F := F))) ⟨m, fun _ => 0, ρ⟩ fun r => ∀ c : Dev nD,
      r.2.mem ((c : Thread nD τ).loc main_v19_0) = (dats m 0 c).arrAt 12 cfg0.N
      ∧ r.2.mem ((c : Thread nD τ).loc main_v19_1) = (dats m 0 c).arrAt 13 cfg0.N
      ∧ r.2.mem ((c : Thread nD τ).loc main_v19_2) = (dats m 0 c).arrAt 14 cfg0.N
      ∧ r.2.mem ((c : Thread nD τ).loc main_v19_3) = (dats m 0 c).arrAt 15 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1 12, (h c).1 13, (h c).1 14, (h c).1 15,
      ((h c).2 main_arg0 (Pipeline.mem_restRefs_of main_arg0 (by decide) (by decide))).trans (V_main_arg0 m c),
      ((h c).1 7).trans (((dats m 0 c).arrAt_in 7 rfl _).trans ((A_eq m c 7).trans (V_main_arg1 m c))),
      ((h c).1 8).trans (((dats m 0 c).arrAt_in 8 rfl _).trans ((A_eq m c 8).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).1 11).trans (((dats m 0 c).arrAt_in 11 rfl _).trans ((A_eq m c 11).trans (V_main_arg6 m c)))⟩)
    (run_main m ρ)

end Cert.PoolRun

end
-- ==== Proof.PoolBits.lean ====
/- The frame of the backward call at the machine's own floats: the two printed programs have one text, so the run proved
   for the idealized text at any floats is the run of the other. -/
module

public import proofs.«01_k».proof.Proof.PoolFrame
public import proofs.«01_k».proof.Proof.Gen.Kernel3.Launch

@[expose] public section

set_option maxRecDepth 16384
set_option maxHeartbeats 2000000

noncomputable section

namespace Cert.PoolBits

open Idealize.ShloMosaic Idealize.ShloMosaic.TcCoe Idealize.SL.Sem

variable {F : FTy → Type} [FloatOps F]

/-- The two texts' kernel bodies are one function. -/
theorem body_eq : @Cert.Kernel3.cc0_poolconv_bwd F _ _ = @Cert.Kernel3Ideal.cc0_poolconv_bwd F _ _ := rfl

/-- So are their body tables. -/
theorem defs0_eq : Cert.Kernel3.defs₀ (F := F) = Cert.Kernel3Ideal.defs₀ (F := F) := by
  unfold Cert.Kernel3.defs₀ Cert.Kernel3Ideal.defs₀
  refine congrArg Defs.onTc (funext fun l => funext fun x => ?_)
  obtain rfl : l = 0 := Subsingleton.elim _ _
  obtain ⟨t, s⟩ := x
  show Cert.Kernel3.cc0_poolconv_bwd _ _ _ _ _ _ _ _ _ _ _ _ _ _ _ _ _ _ _ _ _ _ _ _ _ _ _ _ _ _ _ _ _ _ _ _ _ _ _ = _
  rw [body_eq]
  rfl

/-- And so are the tables with the pipelines. -/
theorem defs_eq : Cert.Kernel3.defs (F := F) = Cert.Kernel3Ideal.defs (F := F) :=
  congrArg (Pipeline.defs Cert.Kernel3Ideal.pcfgs) defs0_eq

/-- Their host programs are one. -/
theorem main_eq : Cert.Kernel3.main (F := F) = Cert.Kernel3Ideal.main (F := F) := by
  unfold Cert.Kernel3.main Cert.Kernel3Ideal.main
  rfl

/-- The frame, carried across the equations. -/
theorem frame (m : (ℓ : Loc Cert.Kernel3.nD Cert.Kernel3.τ Cert.Kernel3.sig) → Buf (Elt F) ℓ) (ρ : Dev Cert.Kernel3.nD → PrngReg) : θ_run (Cert.Kernel3.defs (F := F)) (onTc (τ := Cert.Kernel3.τ) (Cert.Kernel3.main (F := F))) ⟨m, fun _ => 0, ρ⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0) := by
  rw [defs_eq, main_eq]
  exact Cert.Kernel3Ideal.Gen.frame m ρ

end Cert.PoolBits

end
-- ==== Proof.PoolClaim.lean ====
module

public import proofs.«01_k».proof.Defs
public import proofs.«01_k».proof.Proof.PoolValue
public import proofs.«01_k».proof.Proof.PoolRun
public import proofs.«01_k».proof.Proof.PoolBits
public import proofs.«01_k».proof.Proof.Finite
public import proofs.«01_k».proof.Proof.Gen.Reference3Ideal.Read
public import proofs.«01_k».proof.Proof.Gen.Pre_finite3
public import proofs.«01_k».proof.Proof.Gen.On_pool_blocks
public import Idealize.ShloMosaic.Lib.Claim
public import Idealize.ShloMosaic.Lib.WordCmp

@[expose] public section

noncomputable section

/-! The claims about the gradient of the cumulative pooling and of the short convolution (`Kernel3`). -/

namespace Cert.PoolClaim

open Idealize.ShloMosaic Idealize.SL.Sem

theorem frame_kernel : Cert.quiescent_Kernel3 := fun m ρ _ => Cert.PoolBits.frame m ρ

theorem frame_ideal : Cert.quiescent_Kernel3Ideal := fun m ρ _ => Cert.Kernel3Ideal.Gen.frame m ρ

theorem frame_ideal_pre : Cert.quiescent_Kernel3Ideal_pre_finite3 := fun m ρ _ => frame_ideal m ρ trivial

theorem frame_reference : Cert.quiescent_Reference3Ideal := fun m ρ _ =>
  (θ_run Cert.Reference3Ideal.defs _ _).mono (fun r h => ⟨fun c => (h c).2.2.2.2, sem_eq_zero_of_no_sems (by decide) r.2⟩)
    (Cert.Reference3Ideal.Value.run m ρ)

theorem frame_reference_pre : Cert.quiescent_Reference3Ideal_pre_finite3 := fun m ρ _ => frame_reference m ρ trivial

/-- The precondition says that every entry of the four arguments it names is a real number. -/
theorem reals {a0 : FVec Ideal Cert.Pre_finite3.S4096x6912 .f32} {a1 a2 : FVec Ideal Cert.Pre_finite3.S4096x384 .f32}
    {a3 : FVec Ideal Cert.Pre_finite3.S4096x6912 .bf16} {a4 : FVec Ideal Cert.Pre_finite3.S4x96x96 .f32} {a5 : FVec Ideal Cert.Pre_finite3.S384 .f32}
    {a6 : FVec Ideal Cert.Pre_finite3.S3x384 .f32}
    (h : Cert.Pre_finite3.fn (F := Ideal) a0 a1 a2 a3 a4 a5 a6 = fun _ => 1#1) : Cert.PoolRef.Ok a0 a1 a4 a5 := by
  have e := congrFun h (fun k => k.elim0)
  obtain ⟨e, e5⟩ := IntOp.andi_eq_one.mp e
  obtain ⟨e, e4⟩ := IntOp.andi_eq_one.mp e
  obtain ⟨e0, e1⟩ := IntOp.andi_eq_one.mp e
  exact ⟨Cert.Finite.all_real _ _ (fun _ => rfl) _ _ _ _ e0, Cert.Finite.all_real _ _ (fun _ => rfl) _ _ _ _ e1,
    Cert.Finite.all_real _ _ (fun _ => rfl) _ _ _ _ e4, Cert.Finite.all_real _ _ (fun _ => rfl) _ _ _ _ e5⟩

/-- The quotient the mask compares, of one coordinate. -/
def quo (x : BitVec 32) : BitVec 32 :=
  Cert.On_pool_blocks.fn_floor_divide (F := Ideal) (fun _ => x) (constantI Cert.On_pool_blocks.S_ 32 96#32) (ix2 0 0)

theorem quo_eq : ∀ l : Fin 384, quo (BitVec.ofNat 32 l.val) = BitVec.ofNat 32 (l.val / 96) := by decide +kernel

/-- Where the mask holds, row and column lie in the same block of the weight. -/
theorem same_block {a0 : FVec Ideal Cert.On_pool_blocks.S4096x6912 .f32} {a1 a2 : FVec Ideal Cert.On_pool_blocks.S4096x384 .f32}
    {a3 : FVec Ideal Cert.On_pool_blocks.S4096x6912 .bf16} {a4 : FVec Ideal Cert.On_pool_blocks.S4x96x96 .f32} {a5 : FVec Ideal Cert.On_pool_blocks.S384 .f32}
    {a6 : FVec Ideal Cert.On_pool_blocks.S3x384 .f32} (l j : Fin 384)
    (h : (Cert.On_pool_blocks.fn (F := Ideal) a0 a1 a2 a3 a4 a5 a6).2.2.1 (ix2 l j) = 1#1) : l.val / 96 = j.val / 96 := by
  have e : IntOp.cmpi .eq (quo (BitVec.ofNat 32 l.val)) (quo (BitVec.ofNat 32 j.val)) = 1#1 := h
  rw [quo_eq, quo_eq] at e
  rw [WordCmp.cmpi_eq_eq] at e
  have e : BitVec.ofNat 32 (l.val / 96) = BitVec.ofNat 32 (j.val / 96) := by
    by_contra hn
    rw [decide_eq_false hn] at e
    exact absurd e (by decide)
  have e := congrArg BitVec.toNat e
  simp only [BitVec.toNat_ofNat] at e
  omega

set_option maxHeartbeats 1000000 in
theorem algebraic : Cert.algebraic_Kernel3Ideal_Reference3Ideal_on_pool_blocks_pre_finite3 := by
  intro m g m' g' hpre hagree
  refine ⟨fun c => (Cert.Kernel3Ideal.Gen.dats m 0 c).arrAt 12 Cert.Kernel3Ideal.cfg0.N, fun c => (Cert.Kernel3Ideal.Gen.dats m 0 c).arrAt 13 Cert.Kernel3Ideal.cfg0.N,
    fun c => (Cert.Kernel3Ideal.Gen.dats m 0 c).arrAt 14 Cert.Kernel3Ideal.cfg0.N, fun c => (Cert.Kernel3Ideal.Gen.dats m 0 c).arrAt 15 Cert.Kernel3Ideal.cfg0.N,
    (θ_run Cert.Kernel3Ideal.defs _ _).mono (fun r h c => ?_) (Cert.PoolRun.run_named m g),
    (θ_run Cert.Reference3Ideal.defs _ _).mono (fun r h c => ?_) (Cert.Reference3Ideal.Value.run m' g')⟩
  · obtain ⟨r0, r1, r2, r3, rest⟩ := h c
    exact ⟨fun i _ => congrFun r0 i, fun i _ => congrFun r1 i, fun i _ => congrFun r2 i, fun i _ => congrFun r3 i, rest⟩
  have ok := reals (hpre c)
  obtain ⟨h0, h1, h2, h3, h4, h5, h6⟩ := hagree c
  obtain ⟨r0, r1, r2, r3, rest⟩ := h c
  refine ⟨fun i _ => (congrFun r0 i).trans ?_, fun i _ => (congrFun r1 i).trans ?_, fun i hi => (congrFun r2 i).trans ?_, fun i _ => (congrFun r3 i).trans ?_, rest⟩
  · rw [Cert.Reference3Ideal.Read.val_main_v233_eq]
    change Cert.Reference3Ideal.Read.val_main_v233 (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) (m' ((c.tc : Thread Cert.Reference3Ideal.nD Cert.Reference3Ideal.τ).loc Cert.Reference3Ideal.main_arg4)) (m' ((c.tc : Thread Cert.Reference3Ideal.nD Cert.Reference3Ideal.τ).loc Cert.Reference3Ideal.main_arg5)) (m' ((c.tc : Thread Cert.Reference3Ideal.nD Cert.Reference3Ideal.τ).loc Cert.Reference3Ideal.main_arg6)) i = _
    rw [h0, h1, h2, h3, h4, h5, h6]
    exact (congrFun (Cert.PoolValue.final12 m c ok) i).symm
  · rw [Cert.Reference3Ideal.Read.val_main_v234_eq]
    change Cert.Reference3Ideal.Read.val_main_v234 (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg4)) i = _
    rw [h0, h1, h4]
    exact (congrFun (Cert.PoolValue.final13 m c ok) i).symm
  · rw [Cert.Reference3Ideal.Read.val_main_v236_eq]
    change Cert.Reference3Ideal.Read.val_main_v236 (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg5)) i = _
    rw [h0, h1, h5]
    revert hi
    idx_vars i
    intro hi
    exact (Cert.PoolValue.final14 m c ok i0 i1 (same_block i0 i1 hi)).symm
  · rw [Cert.Reference3Ideal.Read.val_main_v147_eq]
    change Cert.Reference3Ideal.Read.val_main_v147 (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg2)) i = _
    rw [h0, h2]
    exact (congrFun (Cert.PoolValue.final15 m c) i).symm

end Cert.PoolClaim

end
-- ==== Proof.FfnPreBlock.lean ====
module

public import proofs.«01_k».proof.Proof.Gen.Kernel4Ideal.Frame
public import proofs.«01_k».proof.Proof.Rms
public import Idealize.ShloMosaic.Lib.Pipeline.ValueKit
public import Idealize.ShloMosaic.Lib.Pointwise

@[expose] public section

set_option maxRecDepth 16384

noncomputable section

namespace Cert.FfnPreBlock

open Idealize.ShloMosaic Idealize.ShloMosaic.TcCoe Idealize.SL.Sem Cert.Kernel4Ideal Cert.Kernel4Ideal.Gen Cert.Rms
open Idealize.ShloMosaic.Pipeline (Dat)

open scoped BigOperators

/-- The product of one row of the block with the weights. -/
theorem pay3_at (v0 : FVec Ideal S512x5632 .bf16) (v2 : FVec Ideal S5632x1024 .bf16) (r : Fin 512) (k : Fin 1024) :
    k0_pay3 (F := Ideal) v0 v2 (ix2 r k) = ∑ l : Fin 5632, v0 (ix2 r l) * v2 (ix2 l k) := by
  pointwise [k0_pay3]

theorem pay5_at (v0 : FVec Ideal S512x5632 .bf16) (v2 : FVec Ideal S5632x1024 .bf16) (v5 : FVec Ideal S512x1024 .f32)
    (v6 : FVec Ideal S1x1024 .f32) (v32 : FVec Ideal S512x1024 .f32) (r : Fin 512) (j : Fin 1024) :
    k0_pay5 (F := Ideal) v0 v2 v5 v6 v32 (ix2 r j)
      = v32 (ix2 r j) + bwd (fun k => v5 (ix2 r k)) (fun k => k0_pay3 (F := Ideal) v0 v2 (ix2 r k) * v6 (ix2 0 k)) j := by
  pointwise [k0_pay5, k0_pay4, bwd, rr, msq]

theorem pay1_at (v0 : FVec Ideal S512x5632 .bf16) (v2 : FVec Ideal S5632x1024 .bf16) (v5 : FVec Ideal S512x1024 .f32) (j : Fin 1024) :
    k0_pay1 (k0_pay6 (F := Ideal) v0 v2 v5) (ix2 0 j)
      = ∑ r : Fin 512, k0_pay3 (F := Ideal) v0 v2 (ix2 r j) * (v5 (ix2 r j) * rr fun k => v5 (ix2 r k)) := by
  pointwise [k0_pay1, k0_pay6, k0_pay4, rr, msq]

theorem pay2_at (v38 : FVec Ideal S1024 .f32) (v46 : FVec Ideal S1x1024 .f32) (j : Fin 1024) :
    k0_pay2 (F := Ideal) v38 v46 (ix2 0 j) = v46 (ix2 0 j) + k0_pay1 (F := Ideal) v38 (ix2 0 j) := by
  pointwise [k0_pay2]

end Cert.FfnPreBlock

end
-- ==== Proof.FfnPreRef.lean ====
module

public import proofs.«01_k».proof.Proof.Gen.Reference4Ideal.Read
public import proofs.«01_k».proof.Proof.Rms
public import Idealize.ShloMosaic.Lib.Pipeline.ValueKit
public import Idealize.ShloMosaic.Lib.Pointwise

@[expose] public section

set_option maxRecDepth 16384

noncomputable section

namespace Cert.FfnPreRef

open Idealize.ShloMosaic Cert.Reference4Ideal Cert.Reference4Ideal.Read Cert.Rms

open scoped BigOperators

theorem ref_dx (x0 : FVec Ideal S4096x1024 .f32) (x1 : FVec Ideal S4096x5632 .f32) (x2 : FVec Ideal S1024x5632 .f32)
    (x3 : FVec Ideal S4096x1024 .f32) (x4 : FVec Ideal S1024 .f32) (i : Fin 4096) (j : Fin 1024) :
    val_main_v38 (F := Ideal) x0 x1 x2 x3 x4 (ix2 i j)
      = x0 (ix2 i j) + bwd (fun k => x3 (ix2 i k)) (fun k => (∑ l : Fin 5632, x1 (ix2 i l) * x2 (ix2 k l)) * x4 (ix1 k)) j := by
  rw [← bwd_eq]
  pointwise [val_main_v38, val_main_v37, val_main_v36, val_main_v35, val_main_v34, val_main_v33, val_main_v32, val_main_v31, val_main_v30,
    val_main_v29, val_main_v28, val_main_v27, val_main_v26, val_main_v25, val_main_v24, val_main_v22, val_main_v21, val_main_v20,
    val_main_v17, val_main_v16, val_main_v15, val_main_v14, val_main_v13, val_main_v10, val_main_v9, val_main_v8, val_main_v7, val_main_v6, val_main_v5, val_main_v4, val_main_v3, val_main_v2, val_main_v1, val_main_v0, coef, rr, msq, val_main_cst, val_main_cst_0, val_main_cst_1, val_main_cst_2, val_main_cst_3, val_main_cst_4, val_main_cst_5, val_main_cst_6, val_main_cst_7]
  simp only [Finset.univ_unique, Finset.sum_singleton, Ideal.ofBits_zero_f32, zero_add]

/-- The gain's gradient, as the reference computes it: a sum over all rows. -/
theorem ref_dg (x1 : FVec Ideal S4096x5632 .f32) (x2 : FVec Ideal S1024x5632 .f32)
    (x3 : FVec Ideal S4096x1024 .f32) (j : Fin 1024) :
    val_main_v39 (F := Ideal) x1 x2 x3 (ix2 0 j)
      = ∑ i : Fin 4096, (∑ l : Fin 5632, x1 (ix2 i l) * x2 (ix2 j l)) * (x3 (ix2 i j) * rr fun k => x3 (ix2 i k)) := by
  pointwise [val_main_v39, val_main_v23, val_main_v20, val_main_v19, val_main_v18, val_main_v17, val_main_v12, val_main_v11, val_main_v7, val_main_v6, val_main_v5,
    val_main_v4, val_main_v3, val_main_v2, val_main_v1, val_main_v0, rr, msq, val_main_cst, val_main_cst_0, val_main_cst_1, val_main_cst_3,
    val_main_cst_4]
  simp only [Finset.univ_unique, Finset.sum_singleton]
  exact Finset.sum_congr rfl fun i _ => mul_comm _ _

end Cert.FfnPreRef

end
-- ==== Proof.FfnPreValue.lean ====
module

public import proofs.«01_k».proof.Proof.FfnPreBlock
public import proofs.«01_k».proof.Proof.FfnPreRef
public import proofs.«01_k».proof.Proof.Sums

@[expose] public section

set_option maxRecDepth 16384

noncomputable section

namespace Cert.FfnPreValue

open Idealize.ShloMosaic Idealize.ShloMosaic.TcCoe Idealize.SL.Sem Cert.Kernel4Ideal Cert.Kernel4Ideal.Gen Cert.Rms Cert.FfnPreBlock
open Idealize.ShloMosaic.Pipeline (Dat)

open scoped BigOperators

variable (m : (ℓ : Loc nD τ sig) → Buf (Elt Ideal) ℓ)

theorem idx : ∀ t : Fin cfg0.N, win0_0.index t = ![t.val, 0] ∧ win0_1.index t = ![t.val, 0] ∧ win0_2.index t = ![0, 0]
    ∧ win0_3.index t = ![t.val, 0] ∧ win0_4.index t = ![0, 0] ∧ win0_5.index t = ![t.val, 0] ∧ win0_6.index t = ![0, 0] :=
  (by decide +kernel : ∀ t : Fin grid0.N, _)

/-- The array's row that row `r` of block `t` is. -/
def row (t : Fin cfg0.N) (r : Fin 512) : Fin 4096 :=
  ⟨t.val * 512 + r.val, by have := t.isLt; change t.val < 8 at this; omega⟩

/-- The arguments of the call, at their types. -/
abbrev A0 (c : Dev nD) : FVec Ideal S4096x1024 .f32 := m ((c.tc : Thread nD τ).loc main_arg0)
abbrev A1 (c : Dev nD) : FVec Ideal S4096x5632 .f32 := m ((c.tc : Thread nD τ).loc main_arg1)
abbrev A2 (c : Dev nD) : FVec Ideal S1024x5632 .f32 := m ((c.tc : Thread nD τ).loc main_arg2)
abbrev A3 (c : Dev nD) : FVec Ideal S4096x1024 .f32 := m ((c.tc : Thread nD τ).loc main_arg3)
abbrev A4 (c : Dev nD) : FVec Ideal S1024 .f32 := m ((c.tc : Thread nD τ).loc main_arg4)

theorem emb1 (t : Fin cfg0.N) (r : Fin 512) (l : Fin 5632) :
    ((cfg0.win 1).blk t).view.emb (ix2 r l) = ix2 (row t r) l := by
  blk_ext [idx t, row]

theorem emb2 (t : Fin cfg0.N) (l : Fin 5632) (k : Fin 1024) :
    ((cfg0.win 2).blk t).view.emb (ix2 l k) = ix2 l k := by
  blk_ext [idx t]

theorem emb5 (t : Fin cfg0.N) (r : Fin 512) (l : Fin 1024) :
    ((cfg0.win 5).blk t).view.emb (ix2 r l) = ix2 (row t r) l := by
  blk_ext [idx t, row]

theorem du_at (c : Dev nD) (t : Fin cfg0.N) (r : Fin 512) (l : Fin 5632) :
    (iblk m c 1 t : FVec Ideal S512x5632 .bf16) (ix2 r l) = A1 m c (ix2 (row t r) l) := by
  show V m c main_v0 (((cfg0.win 1).blk t).view.emb (ix2 r l)) = _
  rw [emb1]
  entry_read
  pointwise

theorem wt_at (c : Dev nD) (t : Fin cfg0.N) (l : Fin 5632) (k : Fin 1024) :
    (iblk m c 2 t : FVec Ideal S5632x1024 .bf16) (ix2 l k) = A2 m c (ix2 k l) := by
  show V m c main_v2 (((cfg0.win 2).blk t).view.emb (ix2 l k)) = _
  rw [emb2]
  entry_read
  pointwise

theorem g_at (c : Dev nD) (t : Fin cfg0.N) (k : Fin 1024) :
    (iblk m c 4 t : FVec Ideal S1x1024 .f32) (ix2 0 k) = A4 m c (ix1 k) := by
  have e : ((cfg0.win 4).blk t).view.emb (ix2 0 k) = ix2 0 k := by blk_ext [idx t]
  show V m c main_v3 (((cfg0.win 4).blk t).view.emb (ix2 0 k)) = _
  rw [e]
  entry_read
  pointwise

theorem x_at (c : Dev nD) (t : Fin cfg0.N) (r : Fin 512) (k : Fin 1024) :
    (iblk m c 3 t : FVec Ideal S512x1024 .f32) (ix2 r k) = A3 m c (ix2 (row t r) k) := by
  blk_ext [iblk, V, idx t, row]

theorem dx_at (c : Dev nD) (t : Fin cfg0.N) (r : Fin 512) (k : Fin 1024) :
    (iblk m c 0 t : FVec Ideal S512x1024 .f32) (ix2 r k) = A0 m c (ix2 (row t r) k) := by
  blk_ext [iblk, V, idx t, row]

theorem dh_at (c : Dev nD) (t : Fin cfg0.N) (r : Fin 512) (k : Fin 1024) :
    k0_pay3 (F := Ideal) (iblk m c 1 t) (iblk m c 2 t) (ix2 r k)
      = ∑ l : Fin 5632, A1 m c (ix2 (row t r) l) * A2 m c (ix2 k l) :=
  (pay3_at _ _ r k).trans (Finset.sum_congr rfl fun l _ => congrArg₂ (· * ·) (du_at m c t r l) (wt_at m c t l k))

/-- What a point stores in its block of the input gradient. -/
theorem point5 (c : Dev nD) (t : Fin cfg0.N) (y : S512x1024.Idx) :
    k0_pay5 (F := Ideal) (iblk m c 1 t) (iblk m c 2 t) (iblk m c 3 t) (iblk m c 4 t) (iblk m c 0 t) y
      = Cert.Reference4Ideal.Read.val_main_v38 (F := Ideal) (A0 m c) (A1 m c) (A2 m c) (A3 m c) (A4 m c)
          (((cfg0.win 5).blk t).view.emb y) := by
  idx_vars y
  refine Eq.trans ?_ (congrArg _ (emb5 t y0 y1).symm)
  refine Eq.trans ?_ (Cert.FfnPreRef.ref_dx _ _ _ _ _ (row t y0) y1).symm
  refine (pay5_at _ _ _ _ _ y0 y1).trans (congrArg₂ (· + ·) (dx_at m c t y0 y1) ?_)
  refine congrArg₂ (fun a b => bwd a b y1) (funext fun k => x_at m c t y0 k) (funext fun k => ?_)
  exact congrArg₂ (· * ·) (dh_at m c t y0 k) (g_at m c t k)

theorem final5 (c : Dev nD) : (dats m 0 c).arrAt 5 (cfgs 0).N
    = Cert.Reference4Ideal.Read.val_main_v38 (F := Ideal) (A0 m c) (A1 m c) (A2 m c) (A3 m c) (A4 m c) := by
  refine (dats m 0 c).arrAt_eq_of_covers 5 _ (by decide +kernel) fun t hf y => ?_
  blk_simp
  rw [after0_5]
  by_cases h0 : t.val % 8 = 0
  · have h1 : ¬ 1 ≤ t.val := by have := t.isLt; change t.val < 8 at this; omega
    rw [outsAt0_A m c t h0 h1]
    frame_out
    exact point5 m c t y
  · have h1 : 1 ≤ t.val := by omega
    rw [outsAt0_B m c t h0 h1]
    frame_out
    exact point5 m c t y

/-- What the rows of block `t` add to the gain's gradient. -/
def term (c : Dev nD) (t : Fin cfg0.N) (j : Fin 1024) : EReal :=
  ∑ r : Fin 512, (∑ l : Fin 5632, A1 m c (ix2 (row t r) l) * A2 m c (ix2 j l))
    * (A3 m c (ix2 (row t r) j) * rr fun k => A3 m c (ix2 (row t r) k))

theorem point6 (c : Dev nD) (t : Fin cfg0.N) (j : Fin 1024) :
    k0_pay1 (k0_pay6 (F := Ideal) (iblk m c 1 t) (iblk m c 2 t) (iblk m c 3 t)) (ix2 0 j) = term m c t j := by
  refine (pay1_at _ _ _ j).trans (Finset.sum_congr rfl fun r _ => congrArg₂ (· * ·) (dh_at m c t r j) ?_)
  exact congrArg₂ (fun (a : EReal) (b : Fin 1024 → EReal) => a * rr b) (x_at m c t r j) (funext fun k => x_at m c t r k)

theorem final6 (c : Dev nD) : (dats m 0 c).arrAt 6 (cfgs 0).N
    = Cert.Reference4Ideal.Read.val_main_v39 (F := Ideal) (A1 m c) (A2 m c) (A3 m c) := by
  refine (dats m 0 c).arrAt_eq_of_after_last 6 t0_7 (by decide +kernel) _ fun j => ?_
  blk_simp
  rw [after0_6]
  idx_vars j
  obtain rfl : j0 = 0 := Subsingleton.elim _ _
  refine (Pipeline.eq_sum_fin_of_reset_step_apply_last (fun n h (j : Fin 1024) => ((outsAt0 m c n h).2 : FVec Ideal S1x1024 .f32) (ix2 0 j)) 8
    (fun _ => 0) (term m c) (fun t h0 j => ?_) (fun t h0 j => ?_) (by decide) t0_7 rfl j1).trans ?_
  · have h1 : ¬ 1 ≤ t.val := by have := t.isLt; change t.val < 8 at this; omega
    simp only [outsAt0_A m c t h0 h1]
    frame_out
    rw [zero_add]
    exact point6 m c t j
  · have h1 : 1 ≤ t.val := by omega
    simp only [outsAt0_B m c t h0 h1]
    frame_out
    exact (pay2_at _ _ j).trans (congrArg _ (point6 m c t j))
  · rw [zero_add]
    refine Eq.trans ?_ (Cert.FfnPreRef.ref_dg _ _ _ j1).symm
    exact Cert.Sums.sum_blocks (A := 8) (n := 512) rfl fun i : Fin 4096 => (∑ l : Fin 5632, A1 m c (ix2 i l) * A2 m c (ix2 j1 l))
      * (A3 m c (ix2 i j1) * rr fun k => A3 m c (ix2 i k))

end Cert.FfnPreValue

end
-- ==== Proof.FfnPreClaim.lean ====
module

public import proofs.«01_k».proof.Defs
public import proofs.«01_k».proof.Proof.FfnPreValue
public import proofs.«01_k».proof.Proof.Gen.Kernel4.Frame
public import proofs.«01_k».proof.Proof.Gen.Kernel4Ideal.Value
public import proofs.«01_k».proof.Proof.Gen.Reference4Ideal.Read
public import Idealize.ShloMosaic.Lib.Claim

@[expose] public section

/-! The claims about the gradient of the feed-forward block's norm and up projection (`Kernel4`). -/

namespace Cert.FfnPreClaim

open Idealize.ShloMosaic Idealize.SL.Sem

theorem frame_kernel : Cert.quiescent_Kernel4 := fun m ρ _ => Cert.Kernel4.Gen.frame m ρ

theorem frame_ideal : Cert.quiescent_Kernel4Ideal := fun m ρ _ => Cert.Kernel4Ideal.Gen.frame m ρ

theorem frame_reference : Cert.quiescent_Reference4Ideal := fun m ρ _ =>
  (θ_run Cert.Reference4Ideal.defs _ _).mono (fun r h => ⟨fun c => (h c).2.2, sem_eq_zero_of_no_sems (by decide) r.2⟩)
    (Cert.Reference4Ideal.Value.run m ρ)

theorem algebraic : Cert.algebraic_Kernel4Ideal_Reference4Ideal := by
  intro m g m' g' _ hagree
  refine ⟨_, _, Cert.Kernel4Ideal.Value.run_blocks m g, (θ_run Cert.Reference4Ideal.defs _ _).mono (fun r h c => ?_)
    (Cert.Reference4Ideal.Value.run m' g')⟩
  obtain ⟨h0, h1, h2, h3, h4⟩ := hagree c
  obtain ⟨r0, r1, rest⟩ := h c
  refine ⟨r0.trans ?_, r1.trans ?_, rest⟩
  · rw [Cert.Reference4Ideal.Read.val_main_v38_eq, h0, h1, h2, h3, h4]
    exact (Cert.FfnPreValue.final5 m c).symm
  · rw [Cert.Reference4Ideal.Read.val_main_v39_eq, h1, h2, h3]
    exact (Cert.FfnPreValue.final6 m c).symm

end Cert.FfnPreClaim
-- ==== Proof.DwInValue.lean ====
module

public import proofs.«01_k».proof.Proof.Gen.Kernel5Ideal.Value
public import proofs.«01_k».proof.Proof.Gen.Reference5Ideal.Read
public import proofs.«01_k».proof.Proof.Rms
public import Idealize.ShloMosaic.Lib.Pipeline.ValueKit
public import Idealize.ShloMosaic.Lib.Pointwise

@[expose] public section

set_option maxRecDepth 16384

/-! The gradient of the input projection's weight: a product over the rows of the batch, its result's rows stored with the columns of the gate first in the operand. -/

noncomputable section

namespace Cert.DwInValue

open Idealize.ShloMosaic Idealize.ShloMosaic.TcCoe Idealize.SL.Sem Cert.Kernel5Ideal Cert.Kernel5Ideal.Gen Cert.Rms
open Idealize.ShloMosaic.Pipeline (Dat)

open scoped BigOperators

variable (m : (ℓ : Loc nD τ sig) → Buf (Elt Ideal) ℓ)

/-- The reference: the gradient's entry at row `k` and column `j` sums over the rows of the batch. -/
theorem ref_at (x0 : FVec Ideal S4096x6912 .f32) (x2 : FVec Ideal S4096x1024 .f32) (x3 : FVec Ideal S1024 .f32) (k : Fin 6912) (j : Fin 1024) :
    Cert.Reference5Ideal.Read.val_main_v17 (F := Ideal) x0 x2 x3 (ix2 k j) = ∑ i : Fin 4096, x0 (ix2 i k) * (x2 (ix2 i j) * rr (fun l => x2 (ix2 i l)) * x3 (ix1 j)) := by
  pointwise [Cert.Reference5Ideal.Read.val_main_v0, Cert.Reference5Ideal.Read.val_main_cst, Cert.Reference5Ideal.Read.val_main_v1, Cert.Reference5Ideal.Read.val_main_v2, Cert.Reference5Ideal.Read.val_main_cst_0, Cert.Reference5Ideal.Read.val_main_v3, Cert.Reference5Ideal.Read.val_main_v4, Cert.Reference5Ideal.Read.val_main_cst_1, Cert.Reference5Ideal.Read.val_main_v5, Cert.Reference5Ideal.Read.val_main_v6, Cert.Reference5Ideal.Read.val_main_v7, Cert.Reference5Ideal.Read.val_main_v8, Cert.Reference5Ideal.Read.val_main_v9, Cert.Reference5Ideal.Read.val_main_v10, Cert.Reference5Ideal.Read.val_main_v11, Cert.Reference5Ideal.Read.val_main_v12, Cert.Reference5Ideal.Read.val_main_v13, Cert.Reference5Ideal.Read.val_main_v14, Cert.Reference5Ideal.Read.val_main_v15, Cert.Reference5Ideal.Read.val_main_v16, Cert.Reference5Ideal.Read.val_main_v17, rr, msq, cN, cEps]

/-- What one block computes. -/
theorem pay1_at (v0 : FVec Ideal S4096x768 .bf16) (v2 : FVec Ideal S4096x1024 .bf16) (k : Fin 768) (j : Fin 1024) :
    k0_pay1 (F := Ideal) v0 v2 (ix2 k j) = ∑ i : Fin 4096, v0 (ix2 i k) * v2 (ix2 i j) := by
  pointwise [k0_pay1]

theorem idx : ∀ t : Fin cfg0.N, win0_0.index t = ![0, t.val] ∧ win0_1.index t = ![0, 0]
    ∧ win0_2.index t = ![(t.val + 5) % 9, 0] :=
  (by decide +kernel : ∀ t : Fin grid0.N, _)

/-- The row of the result that row `k` of the block stored at point `t` is. -/
def row (t : Fin cfg0.N) (k : Fin 768) : Fin 6912 :=
  ⟨(t.val + 5) % 9 * 768 + k.val, by have := t.isLt; change t.val < 9 at this; omega⟩

/-- The arguments of the call, at their types. -/
abbrev A0 (c : Dev nD) : FVec Ideal S4096x6912 .f32 := m ((c.tc : Thread nD τ).loc main_arg0)
abbrev A2 (c : Dev nD) : FVec Ideal S4096x1024 .f32 := m ((c.tc : Thread nD τ).loc main_arg2)
abbrev A3 (c : Dev nD) : FVec Ideal S1024 .f32 := m ((c.tc : Thread nD τ).loc main_arg3)

theorem emb2 (t : Fin cfg0.N) (k : Fin 768) (j : Fin 1024) :
    ((cfg0.win 2).blk t).view.emb (ix2 k j) = ix2 (row t k) j := by
  blk_ext [idx t, row]

theorem b_at (c : Dev nD) (t : Fin cfg0.N) (i : Fin 4096) (j : Fin 1024) :
    (iblk m c 1 t : FVec Ideal S4096x1024 .bf16) (ix2 i j) = A2 m c (ix2 i j) * rr (fun l => A2 m c (ix2 i l)) * A3 m c (ix1 j) := by
  have e : ((cfg0.win 1).blk t).view.emb (ix2 i j) = ix2 i j := by blk_ext [idx t]
  show V m c main_v13 (((cfg0.win 1).blk t).view.emb (ix2 i j)) = _
  rw [e]
  entry_read
  pointwise [rr, msq, cN, cEps]

theorem a_lo (c : Dev nD) (i : Fin 4096) (l : Fin 3072) :
    V m c main_v17 (ix2 i ⟨l.val, by omega⟩) = A0 m c (ix2 i ⟨3840 + l.val, by omega⟩) := by
  entry_read
  pointwise

theorem a_hi (c : Dev nD) (i : Fin 4096) (l : Fin 3840) :
    V m c main_v17 (ix2 i ⟨3072 + l.val, by omega⟩) = A0 m c (ix2 i ⟨l.val, by omega⟩) := by
  entry_read
  pointwise

theorem a_at (c : Dev nD) (t : Fin cfg0.N) (i : Fin 4096) (k : Fin 768) :
    (iblk m c 0 t : FVec Ideal S4096x768 .bf16) (ix2 i k) = A0 m c (ix2 i (row t k)) := by
  have ht : t.val < 9 := t.isLt
  have e : ((cfg0.win 0).blk t).view.emb (ix2 i k) = ix2 i ⟨t.val * 768 + k.val, by omega⟩ := by blk_ext [idx t]
  show V m c main_v17 (((cfg0.win 0).blk t).view.emb (ix2 i k)) = _
  rw [e]
  by_cases h : t.val < 4
  · refine (a_lo m c i ⟨t.val * 768 + k.val, by omega⟩).trans (congrArg (fun q => A0 m c (ix2 i q)) (Fin.ext ?_))
    simp only [row]
    omega
  · have e2 : (⟨t.val * 768 + k.val, by omega⟩ : Fin 6912) = ⟨3072 + (⟨t.val * 768 + k.val - 3072, by omega⟩ : Fin 3840).val, by omega⟩ :=
      Fin.ext (by simp only []; omega)
    rw [e2]
    refine (a_hi m c i ⟨t.val * 768 + k.val - 3072, by omega⟩).trans (congrArg (fun q => A0 m c (ix2 i q)) (Fin.ext ?_))
    simp only [row]
    omega

theorem point2 (c : Dev nD) (t : Fin cfg0.N) (y : S768x1024.Idx) :
    k0_pay1 (F := Ideal) (iblk m c 0 t) (iblk m c 1 t) y
      = Cert.Reference5Ideal.Read.val_main_v17 (F := Ideal) (A0 m c) (A2 m c) (A3 m c) (((cfg0.win 2).blk t).view.emb y) := by
  idx_vars y
  refine Eq.trans ?_ (congrArg _ (emb2 t y0 y1).symm)
  refine Eq.trans ?_ (ref_at _ _ _ (row t y0) y1).symm
  refine (pay1_at _ _ y0 y1).trans (Finset.sum_congr rfl fun i _ => ?_)
  exact congrArg₂ (· * ·) (a_at m c t i y0) (b_at m c t i y1)

/-- The array the call leaves is the reference's. -/
theorem final2 (c : Dev nD) : (dats m 0 c).arrAt 2 (cfgs 0).N
    = Cert.Reference5Ideal.Read.val_main_v17 (F := Ideal) (A0 m c) (A2 m c) (A3 m c) := by
  refine (dats m 0 c).arrAt_eq_of_covers 2 _ (by decide +kernel) fun t hf y => ?_
  blk_simp
  rw [after0_2]
  frame_out
  exact point2 m c t y

end Cert.DwInValue

end
-- ==== Proof.DwInClaim.lean ====
module

public import proofs.«01_k».proof.Defs
public import proofs.«01_k».proof.Proof.DwInValue
public import proofs.«01_k».proof.Proof.Gen.Kernel5.Frame
public import Idealize.ShloMosaic.Lib.Claim

@[expose] public section

/-! The claims about `Kernel5`. -/

namespace Cert.DwInClaim

open Idealize.ShloMosaic Idealize.SL.Sem

theorem frame_kernel : Cert.quiescent_Kernel5 := fun m ρ _ => Cert.Kernel5.Gen.frame m ρ

theorem frame_ideal : Cert.quiescent_Kernel5Ideal := fun m ρ _ => Cert.Kernel5Ideal.Gen.frame m ρ

theorem frame_reference : Cert.quiescent_Reference5Ideal := fun m ρ _ =>
  (θ_run Cert.Reference5Ideal.defs _ _).mono (fun r h => ⟨fun c => (h c).2, sem_eq_zero_of_no_sems (by decide) r.2⟩)
    (Cert.Reference5Ideal.Value.run m ρ)

theorem algebraic : Cert.algebraic_Kernel5Ideal_Reference5Ideal := by
  intro m g m' g' _ hagree
  refine ⟨_, Cert.Kernel5Ideal.Value.run_blocks m g, (θ_run Cert.Reference5Ideal.defs _ _).mono (fun r h c => ?_)
    (Cert.Reference5Ideal.Value.run m' g')⟩
  obtain ⟨h0, h1, h2, h3⟩ := hagree c
  obtain ⟨r0, rest⟩ := h c
  refine ⟨r0.trans ?_, rest⟩
  rw [Cert.Reference5Ideal.Read.val_main_v17_eq, h0, h2, h3]
  exact (Cert.DwInValue.final2 m c).symm

end Cert.DwInClaim
-- ==== Proof.DwUpValue.lean ====
module

public import proofs.«01_k».proof.Proof.Gen.Kernel6Ideal.Value
public import proofs.«01_k».proof.Proof.Gen.Reference6Ideal.Read
public import proofs.«01_k».proof.Proof.Rms
public import Idealize.ShloMosaic.Lib.Pipeline.ValueKit
public import Idealize.ShloMosaic.Lib.Pointwise

@[expose] public section

set_option maxRecDepth 16384

/-! The gradient of the up projection's weight: a product over the rows of the batch. -/

noncomputable section

namespace Cert.DwUpValue

open Idealize.ShloMosaic Idealize.ShloMosaic.TcCoe Idealize.SL.Sem Cert.Kernel6Ideal Cert.Kernel6Ideal.Gen Cert.Rms
open Idealize.ShloMosaic.Pipeline (Dat)

open scoped BigOperators

variable (m : (ℓ : Loc nD τ sig) → Buf (Elt Ideal) ℓ)

/-- The reference: the gradient's entry at row `k` and column `j` sums over the rows of the batch. -/
theorem ref_at (x0 : FVec Ideal S4096x5632 .f32) (x2 : FVec Ideal S4096x1024 .f32) (x3 : FVec Ideal S1024 .f32) (k : Fin 5632) (j : Fin 1024) :
    Cert.Reference6Ideal.Read.val_main_v17 (F := Ideal) x0 x2 x3 (ix2 k j) = ∑ i : Fin 4096, x0 (ix2 i k) * (x2 (ix2 i j) * rr (fun l => x2 (ix2 i l)) * x3 (ix1 j)) := by
  pointwise [Cert.Reference6Ideal.Read.val_main_v0, Cert.Reference6Ideal.Read.val_main_cst, Cert.Reference6Ideal.Read.val_main_v1, Cert.Reference6Ideal.Read.val_main_v2, Cert.Reference6Ideal.Read.val_main_cst_0, Cert.Reference6Ideal.Read.val_main_v3, Cert.Reference6Ideal.Read.val_main_v4, Cert.Reference6Ideal.Read.val_main_cst_1, Cert.Reference6Ideal.Read.val_main_v5, Cert.Reference6Ideal.Read.val_main_v6, Cert.Reference6Ideal.Read.val_main_v7, Cert.Reference6Ideal.Read.val_main_v8, Cert.Reference6Ideal.Read.val_main_v9, Cert.Reference6Ideal.Read.val_main_v10, Cert.Reference6Ideal.Read.val_main_v11, Cert.Reference6Ideal.Read.val_main_v12, Cert.Reference6Ideal.Read.val_main_v13, Cert.Reference6Ideal.Read.val_main_v14, Cert.Reference6Ideal.Read.val_main_v15, Cert.Reference6Ideal.Read.val_main_v16, Cert.Reference6Ideal.Read.val_main_v17, rr, msq, cN, cEps]

/-- What one block computes. -/
theorem pay1_at (v0 : FVec Ideal S4096x512 .bf16) (v2 : FVec Ideal S4096x1024 .bf16) (k : Fin 512) (j : Fin 1024) :
    k0_pay1 (F := Ideal) v0 v2 (ix2 k j) = ∑ i : Fin 4096, v0 (ix2 i k) * v2 (ix2 i j) := by
  pointwise [k0_pay1]

theorem idx : ∀ t : Fin cfg0.N, win0_0.index t = ![0, t.val] ∧ win0_1.index t = ![0, 0]
    ∧ win0_2.index t = ![t.val, 0] :=
  (by decide +kernel : ∀ t : Fin grid0.N, _)

/-- The row of the result that row `k` of the block stored at point `t` is. -/
def row (t : Fin cfg0.N) (k : Fin 512) : Fin 5632 :=
  ⟨t.val * 512 + k.val, by have := t.isLt; change t.val < 11 at this; omega⟩

/-- The arguments of the call, at their types. -/
abbrev A0 (c : Dev nD) : FVec Ideal S4096x5632 .f32 := m ((c.tc : Thread nD τ).loc main_arg0)
abbrev A2 (c : Dev nD) : FVec Ideal S4096x1024 .f32 := m ((c.tc : Thread nD τ).loc main_arg2)
abbrev A3 (c : Dev nD) : FVec Ideal S1024 .f32 := m ((c.tc : Thread nD τ).loc main_arg3)

theorem emb2 (t : Fin cfg0.N) (k : Fin 512) (j : Fin 1024) :
    ((cfg0.win 2).blk t).view.emb (ix2 k j) = ix2 (row t k) j := by
  blk_ext [idx t, row]

theorem b_at (c : Dev nD) (t : Fin cfg0.N) (i : Fin 4096) (j : Fin 1024) :
    (iblk m c 1 t : FVec Ideal S4096x1024 .bf16) (ix2 i j) = A2 m c (ix2 i j) * rr (fun l => A2 m c (ix2 i l)) * A3 m c (ix1 j) := by
  have e : ((cfg0.win 1).blk t).view.emb (ix2 i j) = ix2 i j := by blk_ext [idx t]
  show V m c main_v13 (((cfg0.win 1).blk t).view.emb (ix2 i j)) = _
  rw [e]
  entry_read
  pointwise [rr, msq, cN, cEps]

theorem a_at (c : Dev nD) (t : Fin cfg0.N) (i : Fin 4096) (k : Fin 512) :
    (iblk m c 0 t : FVec Ideal S4096x512 .bf16) (ix2 i k) = A0 m c (ix2 i (row t k)) := by
  have ht : t.val < 11 := t.isLt
  have e : ((cfg0.win 0).blk t).view.emb (ix2 i k) = ix2 i (row t k) := by blk_ext [idx t, row]
  show V m c main_v14 (((cfg0.win 0).blk t).view.emb (ix2 i k)) = _
  rw [e]
  entry_read
  pointwise

theorem point2 (c : Dev nD) (t : Fin cfg0.N) (y : S512x1024.Idx) :
    k0_pay1 (F := Ideal) (iblk m c 0 t) (iblk m c 1 t) y
      = Cert.Reference6Ideal.Read.val_main_v17 (F := Ideal) (A0 m c) (A2 m c) (A3 m c) (((cfg0.win 2).blk t).view.emb y) := by
  idx_vars y
  refine Eq.trans ?_ (congrArg _ (emb2 t y0 y1).symm)
  refine Eq.trans ?_ (ref_at _ _ _ (row t y0) y1).symm
  refine (pay1_at _ _ y0 y1).trans (Finset.sum_congr rfl fun i _ => ?_)
  exact congrArg₂ (· * ·) (a_at m c t i y0) (b_at m c t i y1)

/-- The array the call leaves is the reference's. -/
theorem final2 (c : Dev nD) : (dats m 0 c).arrAt 2 (cfgs 0).N
    = Cert.Reference6Ideal.Read.val_main_v17 (F := Ideal) (A0 m c) (A2 m c) (A3 m c) := by
  refine (dats m 0 c).arrAt_eq_of_covers 2 _ (by decide +kernel) fun t hf y => ?_
  blk_simp
  rw [after0_2]
  frame_out
  exact point2 m c t y

end Cert.DwUpValue

end
-- ==== Proof.DwUpClaim.lean ====
module

public import proofs.«01_k».proof.Defs
public import proofs.«01_k».proof.Proof.DwUpValue
public import proofs.«01_k».proof.Proof.Gen.Kernel6.Frame
public import Idealize.ShloMosaic.Lib.Claim

@[expose] public section

/-! The claims about `Kernel6`. -/

namespace Cert.DwUpClaim

open Idealize.ShloMosaic Idealize.SL.Sem

theorem frame_kernel : Cert.quiescent_Kernel6 := fun m ρ _ => Cert.Kernel6.Gen.frame m ρ

theorem frame_ideal : Cert.quiescent_Kernel6Ideal := fun m ρ _ => Cert.Kernel6Ideal.Gen.frame m ρ

theorem frame_reference : Cert.quiescent_Reference6Ideal := fun m ρ _ =>
  (θ_run Cert.Reference6Ideal.defs _ _).mono (fun r h => ⟨fun c => (h c).2, sem_eq_zero_of_no_sems (by decide) r.2⟩)
    (Cert.Reference6Ideal.Value.run m ρ)

theorem algebraic : Cert.algebraic_Kernel6Ideal_Reference6Ideal := by
  intro m g m' g' _ hagree
  refine ⟨_, Cert.Kernel6Ideal.Value.run_blocks m g, (θ_run Cert.Reference6Ideal.defs _ _).mono (fun r h c => ?_)
    (Cert.Reference6Ideal.Value.run m' g')⟩
  obtain ⟨h0, h1, h2, h3⟩ := hagree c
  obtain ⟨r0, rest⟩ := h c
  refine ⟨r0.trans ?_, rest⟩
  rw [Cert.Reference6Ideal.Read.val_main_v17_eq, h0, h2, h3]
  exact (Cert.DwUpValue.final2 m c).symm

end Cert.DwUpClaim
-- ==== Proof.DwDownValue.lean ====
module

public import proofs.«01_k».proof.Proof.Gen.Kernel7Ideal.Value
public import proofs.«01_k».proof.Proof.Gen.Reference7Ideal.Read
public import proofs.«01_k».proof.Proof.Rms
public import Idealize.ShloMosaic.Lib.Pipeline.ValueKit
public import Idealize.ShloMosaic.Lib.Pointwise

@[expose] public section

set_option maxRecDepth 16384

/-! The gradient of the down projection's weight: a product over the rows of the batch. -/

noncomputable section

namespace Cert.DwDownValue

open Idealize.ShloMosaic Idealize.ShloMosaic.TcCoe Idealize.SL.Sem Cert.Kernel7Ideal Cert.Kernel7Ideal.Gen Cert.Rms
open Idealize.ShloMosaic.Pipeline (Dat)

open scoped BigOperators

variable (m : (ℓ : Loc nD τ sig) → Buf (Elt Ideal) ℓ)

/-- The reference: the gradient's entry at row `k` and column `j` sums over the rows of the batch. -/
theorem ref_at (x0 : FVec Ideal S4096x2816 .f32) (x1 : FVec Ideal S4096x1024 .f32) (k : Fin 2816) (j : Fin 1024) :
    Cert.Reference7Ideal.Read.val_main_v3 (F := Ideal) x0 x1 (ix2 k j) = ∑ i : Fin 4096, x0 (ix2 i k) * x1 (ix2 i j) := by
  pointwise [Cert.Reference7Ideal.Read.val_main_v0, Cert.Reference7Ideal.Read.val_main_v1, Cert.Reference7Ideal.Read.val_main_v2, Cert.Reference7Ideal.Read.val_main_v3, rr, msq, cN, cEps]
  exact Finset.sum_congr rfl fun i _ => mul_comm _ _

/-- What one block computes. -/
theorem pay1_at (v0 : FVec Ideal S4096x256 .bf16) (v2 : FVec Ideal S4096x1024 .bf16) (k : Fin 256) (j : Fin 1024) :
    k0_pay1 (F := Ideal) v0 v2 (ix2 k j) = ∑ i : Fin 4096, v0 (ix2 i k) * v2 (ix2 i j) := by
  pointwise [k0_pay1]

theorem idx : ∀ t : Fin cfg0.N, win0_0.index t = ![0, t.val] ∧ win0_1.index t = ![0, 0]
    ∧ win0_2.index t = ![t.val, 0] :=
  (by decide +kernel : ∀ t : Fin grid0.N, _)

/-- The row of the result that row `k` of the block stored at point `t` is. -/
def row (t : Fin cfg0.N) (k : Fin 256) : Fin 2816 :=
  ⟨t.val * 256 + k.val, by have := t.isLt; change t.val < 11 at this; omega⟩

/-- The arguments of the call, at their types. -/
abbrev A0 (c : Dev nD) : FVec Ideal S4096x2816 .f32 := m ((c.tc : Thread nD τ).loc main_arg0)
abbrev A1 (c : Dev nD) : FVec Ideal S4096x1024 .f32 := m ((c.tc : Thread nD τ).loc main_arg1)

theorem emb2 (t : Fin cfg0.N) (k : Fin 256) (j : Fin 1024) :
    ((cfg0.win 2).blk t).view.emb (ix2 k j) = ix2 (row t k) j := by
  blk_ext [idx t, row]

theorem b_at (c : Dev nD) (t : Fin cfg0.N) (i : Fin 4096) (j : Fin 1024) :
    (iblk m c 1 t : FVec Ideal S4096x1024 .bf16) (ix2 i j) = A1 m c (ix2 i j) := by
  have e : ((cfg0.win 1).blk t).view.emb (ix2 i j) = ix2 i j := by blk_ext [idx t]
  show V m c main_v1 (((cfg0.win 1).blk t).view.emb (ix2 i j)) = _
  rw [e]
  entry_read
  pointwise

theorem a_at (c : Dev nD) (t : Fin cfg0.N) (i : Fin 4096) (k : Fin 256) :
    (iblk m c 0 t : FVec Ideal S4096x256 .bf16) (ix2 i k) = A0 m c (ix2 i (row t k)) := by
  have ht : t.val < 11 := t.isLt
  have e : ((cfg0.win 0).blk t).view.emb (ix2 i k) = ix2 i (row t k) := by blk_ext [idx t, row]
  show V m c main_v0 (((cfg0.win 0).blk t).view.emb (ix2 i k)) = _
  rw [e]
  entry_read
  pointwise

theorem point2 (c : Dev nD) (t : Fin cfg0.N) (y : S256x1024.Idx) :
    k0_pay1 (F := Ideal) (iblk m c 0 t) (iblk m c 1 t) y
      = Cert.Reference7Ideal.Read.val_main_v3 (F := Ideal) (A0 m c) (A1 m c) (((cfg0.win 2).blk t).view.emb y) := by
  idx_vars y
  refine Eq.trans ?_ (congrArg _ (emb2 t y0 y1).symm)
  refine Eq.trans ?_ (ref_at _ _ (row t y0) y1).symm
  refine (pay1_at _ _ y0 y1).trans (Finset.sum_congr rfl fun i _ => ?_)
  exact congrArg₂ (· * ·) (a_at m c t i y0) (b_at m c t i y1)

/-- The array the call leaves is the reference's. -/
theorem final2 (c : Dev nD) : (dats m 0 c).arrAt 2 (cfgs 0).N
    = Cert.Reference7Ideal.Read.val_main_v3 (F := Ideal) (A0 m c) (A1 m c) := by
  refine (dats m 0 c).arrAt_eq_of_covers 2 _ (by decide +kernel) fun t hf y => ?_
  blk_simp
  rw [after0_2]
  frame_out
  exact point2 m c t y

end Cert.DwDownValue

end
-- ==== Proof.DwDownClaim.lean ====
module

public import proofs.«01_k».proof.Defs
public import proofs.«01_k».proof.Proof.DwDownValue
public import proofs.«01_k».proof.Proof.Gen.Kernel7.Frame
public import Idealize.ShloMosaic.Lib.Claim

@[expose] public section

/-! The claims about `Kernel7`. -/

namespace Cert.DwDownClaim

open Idealize.ShloMosaic Idealize.SL.Sem

theorem frame_kernel : Cert.quiescent_Kernel7 := fun m ρ _ => Cert.Kernel7.Gen.frame m ρ

theorem frame_ideal : Cert.quiescent_Kernel7Ideal := fun m ρ _ => Cert.Kernel7Ideal.Gen.frame m ρ

theorem frame_reference : Cert.quiescent_Reference7Ideal := fun m ρ _ =>
  (θ_run Cert.Reference7Ideal.defs _ _).mono (fun r h => ⟨fun c => (h c).2, sem_eq_zero_of_no_sems (by decide) r.2⟩)
    (Cert.Reference7Ideal.Value.run m ρ)

theorem algebraic : Cert.algebraic_Kernel7Ideal_Reference7Ideal := by
  intro m g m' g' _ hagree
  refine ⟨_, Cert.Kernel7Ideal.Value.run_blocks m g, (θ_run Cert.Reference7Ideal.defs _ _).mono (fun r h c => ?_)
    (Cert.Reference7Ideal.Value.run m' g')⟩
  obtain ⟨h0, h1, h2⟩ := hagree c
  obtain ⟨r0, rest⟩ := h c
  refine ⟨r0.trans ?_, rest⟩
  rw [Cert.Reference7Ideal.Read.val_main_v3_eq, h0, h1]
  exact (Cert.DwDownValue.final2 m c).symm

end Cert.DwDownClaim
-- ==== Proof.UpBody.lean ====
/-
What one step of the up projection's kernel does, at any values of its blocks.

At the first column block of a row block the step normalises the rows, keeps them in a scratch
buffer and writes them out; at every column block it multiplies the kept rows with the block of
weights.  The two lemmas below say what the buffers hold after a step of each kind.
-/
module

public import proofs.«01_k».proof.Proof.Gen.Kernel8Ideal.Frame
public import proofs.«01_k».proof.Proof.Gen.Kernel8Ideal.Skeleton
public import Idealize.ShloMosaic.Lib.Pipeline.TableIdle
public import Idealize.ShloMosaic.Lib.VecWindow

@[expose] public section

set_option maxRecDepth 16384

noncomputable section

namespace Cert.UpFrame

open Cert.Kernel8Ideal Cert.Kernel8Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ Cert.Kernel8Ideal.sig Unit (Elt F) ℕ (UR Cert.Kernel8Ideal.sig nD τ) ℕ

/-- The normalised rows of a block, as the scratch buffer keeps them. -/
abbrev kept (x : Vec F S2048x1024 .f32) (g : Vec F S1x1024 .f32) : Vec F S2048x1024 .bf16 := k0_pay2 x g

/-- A step at the first column block: whatever the output and scratch buffers held, it leaves the
normalised rows in the scratch and in the second output, and their product with the weights in
the first. -/
theorem first_step (c : Dev nD) (i : grid0.Coords)
    (a2 : Memref Cert.Kernel8Ideal.sig .tc .vmem S2048x1024 .f32) (w2 : a2.IsWhole)
    (a3 : Memref Cert.Kernel8Ideal.sig .tc .vmem S1x1024 .f32) (w3 : a3.IsWhole)
    (a4 : Memref Cert.Kernel8Ideal.sig .tc .vmem S1408x1024 .bf16) (w4 : a4.IsWhole)
    (a5 : Memref Cert.Kernel8Ideal.sig .tc .vmem S2048x1408 .bf16) (w5 : a5.IsWhole)
    (a6 : Memref Cert.Kernel8Ideal.sig .tc .vmem S2048x1024 .bf16) (w6 : a6.IsWhole)
    (a7 : Memref Cert.Kernel8Ideal.sig .tc .vmem S2048x1024 .bf16) (w7 : a7.IsWhole)
    (hc : k0_cond1 i = 1#1)
    (x : Vec F S2048x1024 .f32) (g : Vec F S1x1024 .f32) (w : Vec F S1408x1024 .bf16)
    (E : Set ℕ) (K : PUnit → sProp 𝕄) :
    iprop(owns (c : Thread nD τ) a2 fullShare x ∗ owns (c : Thread nD τ) a3 fullShare g
        ∗ owns (c : Thread nD τ) a4 fullShare w ∗ (∃ d, owns (c : Thread nD τ) a5 fullShare d)
        ∗ (∃ d, owns (c : Thread nD τ) a6 fullShare d) ∗ (∃ d, owns (c : Thread nD τ) a7 fullShare d)
        ∗ (iprop(owns (c : Thread nD τ) a2 fullShare x ∗ owns (c : Thread nD τ) a3 fullShare g
            ∗ owns (c : Thread nD τ) a4 fullShare w
            ∗ owns (c : Thread nD τ) a5 fullShare (k0_pay4 (kept x g) w)
            ∗ owns (c : Thread nD τ) a6 fullShare (k0_pay3 x g)
            ∗ owns (c : Thread nD τ) a7 fullShare (kept x g)) -∗ K ⟨⟩))
      ⊢ wp frame (wpE (defs₀ (F := F)) Variants.none c none) E
          (cc0_up_proj i a2 w2 a3 w3 a4 w4 a5 w5 a6 w6 a7 w7) K := by
  have r2 : a2.view.readAt (Elt F) (Rect.unit (s := S2048x1024) ![0, 0] S2048x1024.size inb_S2048x1024_S2048x1024_0_0).toLoadRect (w2.unread x) = x :=
    (View.readAt_full _ _ _).trans (w2.read_unread x)
  have r3 : a3.view.readAt (Elt F) (Rect.unit (s := S1x1024) ![0, 0] S1x1024.size inb_S1x1024_S1x1024_0_0).toLoadRect (w3.unread g) = g :=
    (View.readAt_full _ _ _).trans (w3.read_unread g)
  have r4 : a4.view.readAt (Elt F) (Rect.unit (s := S1408x1024) ![0, 0] S1408x1024.size inb_S1408x1024_S1408x1024_0_0).toLoadRect (w4.unread w) = w :=
    (View.readAt_full _ _ _).trans (w4.read_unread w)
  simp only [cc0_up_proj_eq_skeleton]; unfold cc0_up_proj_skel
  unfold owns
  iintro ⟨⟨%f2, %h2, H2⟩, ⟨%f3, %h3, H3⟩, ⟨%f4, %h4, H4⟩, ⟨%d5, %f5, -, H5⟩, ⟨%d6, %f6, -, H6⟩, ⟨%d7, %f7, -, H7⟩, Hk⟩
  obtain rfl := w2.eq_unread h2; obtain rfl := w3.eq_unread h3; obtain rfl := w4.eq_unread h4
  sl_exec (disch := sl_exact hc)
  sl_step
  iapply Hk
  isplitl [H2]
  · iexists _; isplitr; · ipureintro; exact w2.read_unread _
    iexact H2
  isplitl [H3]
  · iexists _; isplitr; · ipureintro; exact w3.read_unread _
    iexact H3
  isplitl [H4]
  · iexists _; isplitr; · ipureintro; exact w4.read_unread _
    iexact H4
  isplitl [H5]
  · iexists _; isplitr; swap; · iexact H5
    ipureintro
    exact (View.read_writes_full _ _ _ _ _).trans
      (congrArg (fun z => k0_pay4 z w) (View.readAt_writes_full _ _ _ _ _ _))
  isplitl [H6]
  · iexists _; isplitr; swap; · iexact H6
    ipureintro
    exact View.read_writes_full _ _ _ _ _
  iexists _; isplitr; swap; · iexact H7
  ipureintro
  exact View.read_writes_full _ _ _ _ _

/-- A step at a later column block: the scratch holds the normalised rows and keeps them, the second
output is not touched, and the first output receives the product of the kept rows with this
block of weights. -/
theorem later_step (c : Dev nD) (i : grid0.Coords)
    (a2 : Memref Cert.Kernel8Ideal.sig .tc .vmem S2048x1024 .f32) (w2 : a2.IsWhole)
    (a3 : Memref Cert.Kernel8Ideal.sig .tc .vmem S1x1024 .f32) (w3 : a3.IsWhole)
    (a4 : Memref Cert.Kernel8Ideal.sig .tc .vmem S1408x1024 .bf16) (w4 : a4.IsWhole)
    (a5 : Memref Cert.Kernel8Ideal.sig .tc .vmem S2048x1408 .bf16) (w5 : a5.IsWhole)
    (a6 : Memref Cert.Kernel8Ideal.sig .tc .vmem S2048x1024 .bf16) (w6 : a6.IsWhole)
    (a7 : Memref Cert.Kernel8Ideal.sig .tc .vmem S2048x1024 .bf16) (w7 : a7.IsWhole)
    (hc : ¬k0_cond1 i = 1#1)
    (w : Vec F S1408x1024 .bf16) (s : Vec F S2048x1024 .bf16)
    (E : Set ℕ) (K : PUnit → sProp 𝕄) :
    iprop(owns (c : Thread nD τ) a4 fullShare w ∗ (∃ d, owns (c : Thread nD τ) a5 fullShare d)
        ∗ owns (c : Thread nD τ) a7 fullShare s
        ∗ (iprop(owns (c : Thread nD τ) a4 fullShare w
            ∗ owns (c : Thread nD τ) a5 fullShare (k0_pay4 s w)
            ∗ owns (c : Thread nD τ) a7 fullShare s) -∗ K ⟨⟩))
      ⊢ wp frame (wpE (defs₀ (F := F)) Variants.none c none) E
          (cc0_up_proj i a2 w2 a3 w3 a4 w4 a5 w5 a6 w6 a7 w7) K := by
  have r4 : a4.view.readAt (Elt F) (Rect.unit (s := S1408x1024) ![0, 0] S1408x1024.size inb_S1408x1024_S1408x1024_0_0).toLoadRect (w4.unread w) = w :=
    (View.readAt_full _ _ _).trans (w4.read_unread w)
  have r7 : a7.view.readAt (Elt F) (Rect.unit (s := S2048x1024) ![0, 0] S2048x1024.size inb_S2048x1024_S2048x1024_0_0).toLoadRect (w7.unread s) = s :=
    (View.readAt_full _ _ _).trans (w7.read_unread s)
  simp only [cc0_up_proj_eq_skeleton]; unfold cc0_up_proj_skel
  unfold owns
  iintro ⟨⟨%f4, %h4, H4⟩, ⟨%d5, %f5, -, H5⟩, ⟨%f7, %h7, H7⟩, Hk⟩
  obtain rfl := w4.eq_unread h4; obtain rfl := w7.eq_unread h7
  sl_exec (disch := sl_exact hc)
  sl_step
  iapply Hk
  isplitl [H4]
  · iexists _; isplitr; · ipureintro; exact w4.read_unread _
    iexact H4
  isplitl [H5]
  · iexists _; isplitr; swap; · iexact H5
    ipureintro
    exact View.read_writes_full _ _ _ _ _
  iexists _; isplitr; · ipureintro; exact w7.read_unread _
  iexact H7

end Cert.UpFrame

end
-- ==== Proof.UpFrame.lean ====
/-
The up projection's kernel as a whole, at any values.

Four steps work on one row block.  The first of them normalises the rows; the other three use the
rows it kept.  So after every step the scratch and the second output's buffer hold the normalised
rows of the block the row block's first step read, and the first output's buffer their product
with this step's weights.  That is the invariant below; the run follows from it.
-/
module

public import proofs.«01_k».proof.Proof.UpBody
public import Idealize.ShloMosaic.Lib.Claim

@[expose] public section

set_option maxRecDepth 16384

noncomputable section

namespace Cert.UpFrame

open Cert.Kernel8Ideal Cert.Kernel8Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ Cert.Kernel8Ideal.sig Unit (Elt F) ℕ (UR Cert.Kernel8Ideal.sig nD τ) ℕ

variable (m : (ℓ : Loc nD τ Cert.Kernel8Ideal.sig) → Buf (Elt F) ℓ) (ρ : Dev nD → PrngReg)

/-- The first step of a step's row block. -/
def lead (t : Fin cfg0.N) : Fin cfg0.N := ⟨t.val - t.val % 4, Nat.lt_of_le_of_lt (Nat.sub_le _ _) t.isLt⟩

theorem lead_first (t : Fin cfg0.N) (h : t.val % 4 = 0) : lead t = t :=
  Fin.ext (by simp only [lead]; omega)

/-- A later step has the same first step as the one before it. -/
theorem lead_later (t : Fin cfg0.N) (h : ¬t.val % 4 = 0) :
    lead ⟨t.val - 1, Nat.lt_of_le_of_lt (Nat.sub_le _ _) t.isLt⟩ = lead t :=
  Fin.ext (by simp only [lead]; omega)

/-- The body normalises exactly at the first column block. -/
theorem cond_iff : ∀ t : Fin cfg0.N, k0_cond1 (grid0.coords t) = 1#1 ↔ t.val % 4 = 0 :=
  (by decide +kernel : ∀ t : Fin grid0.N, k0_cond1 (grid0.coords t) = 1#1 ↔ t.val % 4 = 0)

/-- The rows kept after step `t`. -/
def rows (c : Dev nD) (t : Fin cfg0.N) : Vec F S2048x1024 .bf16 :=
  k0_pay2 (iblk m c 0 (lead t)) (iblk m c 1 (lead t))

/-- The rows written out after step `t`. -/
def rowsOut (c : Dev nD) (t : Fin cfg0.N) : Vec F S2048x1024 .bf16 :=
  k0_pay3 (iblk m c 0 (lead t)) (iblk m c 1 (lead t))

/-- The scratch between steps: anything before the first, then the rows the last step kept. -/
def between (c : Dev nD) : (n : ℕ) → n ≤ cfg0.N → sProp 𝕄
  | 0, _ => Pipeline.ΦA spec0 c
  | n + 1, hn => iprop(owns (c : Thread nD τ) (Memref.whole cc0_scratch0 : Memref Cert.Kernel8Ideal.sig .tc .vmem S2048x1024 .bf16)
      fullShare (rows m c ⟨n, hn⟩) ∗ (∃ r, prngReg c r))

theorem between_pos (c : Dev nD) (n : ℕ) (h : n ≤ cfg0.N) (hz : n ≠ 0) :
    between m c n h = iprop(owns (c : Thread nD τ) (Memref.whole cc0_scratch0 : Memref Cert.Kernel8Ideal.sig .tc .vmem S2048x1024 .bf16)
      fullShare (rows m c ⟨n - 1, by omega⟩) ∗ (∃ r, prngReg c r)) := by
  cases n with
  | zero => exact absurd rfl hz
  | succ n => rfl

theorem between_succ (c : Dev nD) (t : Fin cfg0.N) :
    between m c (t.val + 1) t.isLt = iprop(owns (c : Thread nD τ) (Memref.whole cc0_scratch0 : Memref Cert.Kernel8Ideal.sig .tc .vmem S2048x1024 .bf16)
      fullShare (rows m c t) ∗ (∃ r, prngReg c r)) := rfl

/-- Before the first step the scratch holds anything. -/
theorem start_eq (c : Dev nD) : (Pipeline.ΦA spec0 c : sProp 𝕄)
    = iprop((∃ d, owns (c : Thread nD τ) (Memref.whole cc0_scratch0 : Memref Cert.Kernel8Ideal.sig .tc .vmem S2048x1024 .bf16) fullShare d)
        ∗ (∃ r, prngReg c r)) := by
  unfold Pipeline.ΦA; rw [scopedRest0_eq]; simp only [owns_whole]; try rfl

/-- Whatever is between two steps, the scratch holds something. -/
theorem between_some (c : Dev nD) (n : ℕ) (h : n ≤ cfg0.N) :
    between m c n h ⊢ (Pipeline.ΦA spec0 c : sProp 𝕄) := by
  cases n with
  | zero => exact Idealize.SL.BI.Entails.refl _
  | succ n =>
    rw [start_eq, between_pos m c (n + 1) h (Nat.succ_ne_zero n)]
    iintro ⟨H, Hg⟩
    isplitl [H]
    · iexists _; iexact H
    iexact Hg

theorem between_any (c : Dev nD) (n : ℕ) (h : n ≤ cfg0.N) :
    between m c n h ⊢ iprop((∃ d, owns (c : Thread nD τ) (Memref.whole cc0_scratch0 : Memref Cert.Kernel8Ideal.sig .tc .vmem S2048x1024 .bf16) fullShare d)
        ∗ (∃ r, prngReg c r)) := start_eq (F := F) c ▸ between_some m c n h

/-- What every buffer holds after every step. -/
def dats (_ : Fin 1) (c : Dev nD) : Dat τ (Elt F) Unit ℕ (UR Cert.Kernel8Ideal.sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => k0_pay4 (rows m c t) (iblk m c 2 t)
    | ⟨4, _⟩ => rowsOut m c t
  Φ t := between m c t.val (Nat.le_of_lt_succ t.isLt)
  q _ := fullShare
  owed _ := 0

theorem A_eq (c : Dev nD) (w : Fin cfg0.W) : (dats m 0 c).A w = V m c (Pipeline.arrRef spec0 w) := by
  dsimp only [dats]

theorem phi_castSucc (c : Dev nD) (t : Fin cfg0.N) :
    (dats m 0 c).Φ t.castSucc = between m c t.val (Nat.le_of_lt t.isLt) := by
  dsimp only [dats]; exact Dat.Φ_castSucc (between m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = k0_pay4 (rows m c t) (iblk m c 2 t) := by
  dsimp only [dats]
theorem after4 (c : Dev nD) (t : Fin cfg0.N) : (dats m 0 c).after 4 t = rowsOut m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d

/-! ## The second output's buffer through the steps that do not touch it -/

/-- The second output is stored at the first step of a row block only. -/
theorem idle_iff : ∀ t : Fin cfg0.N, cfg0.idle 4 (grid0.coords t) = true ↔ ¬t.val % 4 = 0 := by decide +kernel

/-- Whether nothing has been stored in the second output's buffer since it was last written back. -/
def untouched : ℕ → Bool
  | 0 => true
  | n + 1 => decide ((n + 1) % 4 = 0)

theorem untouched_step : ∀ t : Fin cfg0.N,
    untouched (t.val + 1) = ((cfg0.win 4).flush t || (cfg0.idle 4 (cfg0.grid.coords t) && untouched t.val)) := by
  decide +kernel

theorem not_fresh (t : Fin cfg0.N) (h : ¬t.val % 4 = 0) : cfg0.fresh 4 t.val = false := by
  rw [Pipeline.Cfg.fresh_tab cfg0 4 untouched rfl untouched_step t.val (Nat.le_of_lt t.isLt)]
  obtain ⟨n, hn⟩ := t
  cases n with
  | zero => exact absurd rfl h
  | succ n => exact decide_eq_false h

theorem rowsOut_later (c : Dev nD) (t : Fin cfg0.N) (h : ¬t.val % 4 = 0) :
    rowsOut m c ⟨t.val - 1, Nat.lt_of_le_of_lt (Nat.sub_le _ _) t.isLt⟩ = rowsOut m c t := by
  unfold rowsOut; rw [lead_later t h]

theorem rows_later (c : Dev nD) (t : Fin cfg0.N) (h : ¬t.val % 4 = 0) :
    rows m c ⟨t.val - 1, Nat.lt_of_le_of_lt (Nat.sub_le _ _) t.isLt⟩ = rows m c t := by
  unfold rows; rw [lead_later t h]

/-- At a later step the second output's buffer already holds the row block's rows. -/
theorem before4_later (c : Dev nD) (t : Fin cfg0.N) (h : ¬t.val % 4 = 0) (d) :
    (dats m 0 c).before 4 t d = rowsOut m c t := by
  rw [Dat.before_out_traj _ 4 rfl (fun _ _ => rfl)
    (fun t _ hi _ => by rw [after4, after4]; exact (rowsOut_later m c t ((idle_iff t).mp hi)).symm) t.val t rfl d,
    not_fresh t h, if_neg Bool.false_ne_true, after4]
  exact rowsOut_later m c t h

/-- So a later step that leaves that buffer alone leaves in it what is claimed. -/
theorem leaves4_later (c : Dev nD) (t : Fin cfg0.N) (h : ¬t.val % 4 = 0) (d) :
    owns (c : Thread nD τ) (win0_4.stage (cfg0.slots t 4)) fullShare ((dats m 0 c).before 4 t d)
      ⊢ ((dats m 0 c).leavesExact 4 t : sProp 𝕄) := by
  have hi : cfg0.idle 4 (cfg0.grid.coords t) = true := (idle_iff t).mpr h
  cases hf : (cfg0.win 4).flush t with
  | false =>
    rw [Dat.leavesExact_idle _ 4 t hi hf]
    iintro H
    iexists d
    iexact H
  | true =>
    unfold Dat.leavesExact
    rw [hi, hf, before4_later m c t h d, after4]

theorem leaves4_first (c : Dev nD) (t : Fin cfg0.N) (h : t.val % 4 = 0) :
    ((dats m 0 c).leavesExact 4 t : sProp 𝕄)
      = owns (c : Thread nD τ) (win0_4.stage (cfg0.slots t 4)) fullShare (rowsOut m c t) := by
  have hi : cfg0.idle 4 (cfg0.grid.coords t) = false :=
    Bool.eq_false_iff.mpr fun e => (idle_iff t).mp e h
  unfold Dat.leavesExact
  rw [hi, after4]

/-! ## Every step -/

/-- A step finds the inputs' blocks and the invariant, and leaves the invariant of the next. -/
theorem step (c : Dev nD) (t : Fin cfg0.N) :
    iprop((dats m 0 c).Φ t.castSucc ∗ (dats m 0 c).owesAt () t.castSucc
        ∗ (∃ d, owns (c : Thread nD τ) (win0_0.stage (cfg0.slots t 0)) fullShare ((dats m 0 c).before 0 t d))
        ∗ (∃ d, owns (c : Thread nD τ) (win0_1.stage (cfg0.slots t 1)) fullShare ((dats m 0 c).before 1 t d))
        ∗ (∃ d, owns (c : Thread nD τ) (win0_2.stage (cfg0.slots t 2)) fullShare ((dats m 0 c).before 2 t d))
        ∗ (∃ d, owns (c : Thread nD τ) (win0_3.stage (cfg0.slots t 3)) fullShare ((dats m 0 c).before 3 t d))
        ∗ (∃ d, owns (c : Thread nD τ) (win0_4.stage (cfg0.slots t 4)) fullShare ((dats m 0 c).before 4 t d)))
      ⊢ wp frame (wpE (defs₀ (F := F)) Variants.none c none) Set.univ (bodyAt0 t) (fun _ =>
        iprop((dats m 0 c).Φ t.succ ∗ (dats m 0 c).owesAt () t.succ
          ∗ (dats m 0 c).leavesExact 0 t ∗ (dats m 0 c).leavesExact 1 t ∗ (dats m 0 c).leavesExact 2 t
          ∗ (dats m 0 c).leavesExact 3 t ∗ (dats m 0 c).leavesExact 4 t)) := by
  unfold bodyAt0
  simp only [before0, before1, before2]
  rw [show (dats m 0 c).owesAt () t.succ = (dats m 0 c).owesAt () t.castSucc from rfl,
    show (dats m 0 c).Φ t.succ = between m c (t.val + 1) t.isLt from rfl, phi_castSucc,
    show (dats m 0 c).leavesExact 0 t = owns (c : Thread nD τ) (win0_0.stage (cfg0.slots t 0)) fullShare ((dats m 0 c).after 0 t) from rfl,
    show (dats m 0 c).leavesExact 1 t = owns (c : Thread nD τ) (win0_1.stage (cfg0.slots t 1)) fullShare ((dats m 0 c).after 1 t) from rfl,
    show (dats m 0 c).leavesExact 2 t = owns (c : Thread nD τ) (win0_2.stage (cfg0.slots t 2)) fullShare ((dats m 0 c).after 2 t) from rfl,
    show (dats m 0 c).leavesExact 3 t = owns (c : Thread nD τ) (win0_3.stage (cfg0.slots t 3)) fullShare ((dats m 0 c).after 3 t) from rfl,
    after0, after1, after2, after3]
  by_cases h : t.val % 4 = 0
  · have e0 : rows m c t = kept (iblk m c 0 t) (iblk m c 1 t) := by unfold rows; rw [lead_first t h]
    have e1 : rowsOut m c t = k0_pay3 (iblk m c 0 t) (iblk m c 1 t) := by unfold rowsOut; rw [lead_first t h]
    rw [leaves4_first m c t h, between_succ, e0, e1]
    iintro ⟨HS, Ho, ⟨%d0, H0⟩, ⟨%d1, H1⟩, ⟨%d2, H2⟩, ⟨%d3, H3⟩, ⟨%d4, H4⟩⟩
    ihave HS := (between_any m c t.val (Nat.le_of_lt t.isLt)) $$ HS
    icases HS with ⟨HS, Hg⟩
    iapply (first_step c (grid0.coords t) _ _ _ _ _ _ _ _ _ _ _ _ ((cond_iff t).mpr h)
      (iblk m c 0 t) (iblk m c 1 t) (iblk m c 2 t) Set.univ _)
    isplitl [H0]; · iexact H0
    isplitl [H1]; · iexact H1
    isplitl [H2]; · iexact H2
    isplitl [H3]; · iexists _; iexact H3
    isplitl [H4]; · iexists _; iexact H4
    isplitl [HS]; · iexact HS
    iintro ⟨H0, H1, H2, H3, H4, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    iexact H4
  · rw [between_pos m c t.val _ (fun e => h (by rw [e])), rows_later m c t h, between_succ]
    iintro ⟨⟨HS, Hg⟩, Ho, ⟨%d0, H0⟩, ⟨%d1, H1⟩, ⟨%d2, H2⟩, ⟨%d3, H3⟩, ⟨%d4, H4⟩⟩
    iapply (later_step c (grid0.coords t) _ _ _ _ _ _ _ _ _ _ _ _ (fun e => h ((cond_iff t).mp e))
      (iblk m c 2 t) (rows m c t) Set.univ _)
    isplitl [H2]; · iexact H2
    isplitl [H3]; · iexists _; iexact H3
    isplitl [HS]; · iexact HS
    iintro ⟨H2, H3, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    iapply (leaves4_later m c t h d4)
    iexact H4

theorem obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t from by
    unfold defs₀; rw [Defs.onTc_tc]]
  exact triple_restated (step m c t) rfl .rfl fun _ => .rfl

/-! ## The run -/

set_option backward.isDefEq.respectTransparency.types false in
/-- Every run ends with every array at what the steps above leave in it, and no signal pending. -/
theorem run : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m)
    (hin := fun c => Idealize.SL.BI.Entails.refl _) (hout := fun c => between_some m c cfg0.N le_rfl)

/-- The arguments end as they began. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) ((θ_run defs _ _).mono (fun _ h => h.1) (run m ρ)))
    ((θ_run defs _ _).mono (fun _ h => h.2) (run m ρ))

end Cert.UpFrame

end
-- ==== Proof.UpBits.lean ====
/-
The up projection's frame at the machine's own floats.  The two printed programs have one text, so
the run proved for the idealised text at any floats is the run of the other.
-/
module

public import proofs.«01_k».proof.Proof.UpFrame
public import proofs.«01_k».proof.Proof.Gen.Kernel8.Launch

@[expose] public section

set_option maxRecDepth 16384
set_option maxHeartbeats 2000000

noncomputable section

namespace Cert.UpBits

open Idealize.ShloMosaic Idealize.ShloMosaic.TcCoe Idealize.SL.Sem

variable {F : FTy → Type} [FloatOps F]

/-- The two texts' kernel bodies are one function. -/
theorem body_eq : @Cert.Kernel8.cc0_up_proj F _ _ = @Cert.Kernel8Ideal.cc0_up_proj F _ _ := rfl

/-- So are their body tables. -/
theorem defs0_eq : Cert.Kernel8.defs₀ (F := F) = Cert.Kernel8Ideal.defs₀ (F := F) := by
  unfold Cert.Kernel8.defs₀ Cert.Kernel8Ideal.defs₀
  refine congrArg Defs.onTc (funext fun l => funext fun x => ?_)
  obtain rfl : l = 0 := Subsingleton.elim _ _
  obtain ⟨t, s⟩ := x
  show Cert.Kernel8.cc0_up_proj _ _ _ _ _ _ _ _ _ _ _ _ _ = _
  rw [body_eq]
  rfl

/-- And so are the tables with the pipelines. -/
theorem defs_eq : Cert.Kernel8.defs (F := F) = Cert.Kernel8Ideal.defs (F := F) :=
  congrArg (Pipeline.defs Cert.Kernel8Ideal.pcfgs) defs0_eq

/-- Their host programs are one. -/
theorem main_eq : Cert.Kernel8.main (F := F) = Cert.Kernel8Ideal.main (F := F) := by
  unfold Cert.Kernel8.main Cert.Kernel8Ideal.main
  rfl

/-- The frame, carried across the equations. -/
theorem frame (m : (ℓ : Loc Cert.Kernel8.nD Cert.Kernel8.τ Cert.Kernel8.sig) → Buf (Elt F) ℓ) (ρ : Dev Cert.Kernel8.nD → PrngReg) :
    θ_run (Cert.Kernel8.defs (F := F)) (onTc (τ := Cert.Kernel8.τ) (Cert.Kernel8.main (F := F))) ⟨m, fun _ => 0, ρ⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0) := by
  rw [defs_eq, main_eq]
  exact Cert.UpFrame.frame m ρ

end Cert.UpBits

end
-- ==== Proof.UpRef.lean ====
module

public import proofs.«01_k».proof.Proof.Gen.Reference8Ideal.Read
public import proofs.«01_k».proof.Proof.Rms
public import Idealize.ShloMosaic.Lib.Pipeline.ValueKit
public import Idealize.ShloMosaic.Lib.Pointwise

@[expose] public section

set_option maxRecDepth 16384

noncomputable section

/-! The up projection's reference, entry by entry. -/

namespace Cert.UpRef

open Idealize.ShloMosaic Cert.Reference8Ideal Cert.Reference8Ideal.Read Cert.Rms

open scoped BigOperators

/-- The normalised row. -/
def norm (x0 : FVec Ideal S4096x1024 .f32) (x1 : FVec Ideal S1024 .f32) (i : Fin 4096) (k : Fin 1024) : EReal :=
  x0 (ix2 i k) * rr (fun l => x0 (ix2 i l)) * x1 (ix1 k)

theorem norm_at (x0 : FVec Ideal S4096x1024 .f32) (x1 : FVec Ideal S1024 .f32) (i : Fin 4096) (k : Fin 1024) :
    val_main_v12 (F := Ideal) x0 x1 (ix2 i k) = norm x0 x1 i k := by
  pointwise [val_main_v12, val_main_v11, val_main_v10, val_main_v9, val_main_v8, val_main_v7, val_main_v6, val_main_v5, val_main_v4, val_main_v3,
    val_main_v2, val_main_v1, val_main_v0, val_main_cst, val_main_cst_0, val_main_cst_1, norm, rr, msq]

theorem h_at (x0 : FVec Ideal S4096x1024 .f32) (x1 : FVec Ideal S1024 .f32) (i : Fin 4096) (k : Fin 1024) :
    val_main_v15 (F := Ideal) x0 x1 (ix2 i k) = norm x0 x1 i k := by
  refine Eq.trans ?_ (norm_at x0 x1 i k)
  pointwise [val_main_v15]

/-- The product of the normalised row with a column of the weights. -/
def prod (x0 : FVec Ideal S4096x1024 .f32) (x1 : FVec Ideal S1024 .f32) (x2 : FVec Ideal S1024x5632 .f32) (i : Fin 4096) (j : Fin 5632) : EReal :=
  ∑ l : Fin 1024, norm x0 x1 i l * x2 (ix2 l j)

theorem u_at (x0 : FVec Ideal S4096x1024 .f32) (x1 : FVec Ideal S1024 .f32) (x2 : FVec Ideal S1024x5632 .f32) (i : Fin 4096) (j : Fin 5632) :
    val_main_v14 (F := Ideal) x0 x1 x2 (ix2 i j) = prod x0 x1 x2 i j := by
  have e : val_main_v14 (F := Ideal) x0 x1 x2 (ix2 i j) = ∑ l : Fin 1024, val_main_v12 (F := Ideal) x0 x1 (ix2 i l) * x2 (ix2 l j) := by
    pointwise [val_main_v14, val_main_v13]
  exact e.trans (Finset.sum_congr rfl fun l _ => congrArg₂ (· * ·) (norm_at x0 x1 i l) rfl)

end Cert.UpRef

end
-- ==== Proof.UpValue.lean ====
module

public import proofs.«01_k».proof.Proof.UpFrame
public import proofs.«01_k».proof.Proof.UpRef
public import Idealize.ShloMosaic.Lib.Pipeline.ValueKit
public import Idealize.ShloMosaic.Lib.Pointwise
public import Idealize.ShloMosaic.Lib.Pipeline.Value

@[expose] public section

set_option maxRecDepth 16384

noncomputable section

/-! The two arrays the up projection leaves: the normalised rows, and their product with the weights. -/

namespace Cert.UpValue

open Idealize.ShloMosaic Idealize.ShloMosaic.TcCoe Idealize.SL.Sem Cert.Kernel8Ideal Cert.Kernel8Ideal.Gen Cert.Rms Cert.UpFrame
open Cert.UpRef (norm prod)
open Idealize.ShloMosaic.Pipeline (Dat)

open scoped BigOperators

/-! ## One block -/

theorem pay1_at (x : FVec Ideal S2048x1024 .f32) (g : FVec Ideal S1x1024 .f32) (r : Fin 2048) (k : Fin 1024) :
    k0_pay1 (F := Ideal) x g (ix2 r k) = x (ix2 r k) * rr (fun l => x (ix2 r l)) * g (ix2 0 k) := by
  pointwise [k0_pay1, rr, msq]

theorem pay2_at (x : FVec Ideal S2048x1024 .f32) (g : FVec Ideal S1x1024 .f32) (r : Fin 2048) (k : Fin 1024) :
    k0_pay2 (F := Ideal) x g (ix2 r k) = k0_pay1 (F := Ideal) x g (ix2 r k) := by
  pointwise [k0_pay2]

theorem pay3_at (x : FVec Ideal S2048x1024 .f32) (g : FVec Ideal S1x1024 .f32) (r : Fin 2048) (k : Fin 1024) :
    k0_pay3 (F := Ideal) x g (ix2 r k) = k0_pay1 (F := Ideal) x g (ix2 r k) := by
  pointwise [k0_pay3]

theorem pay4_at (s : FVec Ideal S2048x1024 .bf16) (w : FVec Ideal S1408x1024 .bf16) (r : Fin 2048) (j : Fin 1408) :
    k0_pay4 (F := Ideal) s w (ix2 r j) = ∑ l : Fin 1024, s (ix2 r l) * w (ix2 j l) := by
  pointwise [k0_pay4]

/-! ## Where the blocks lie -/

variable (m : (ℓ : Loc nD τ sig) → Buf (Elt Ideal) ℓ)

theorem idx : ∀ t : Fin cfg0.N, win0_0.index t = ![t.val / 4, 0] ∧ win0_1.index t = ![0, 0] ∧ win0_2.index t = ![t.val % 4, 0]
    ∧ win0_3.index t = ![t.val / 4, t.val % 4] ∧ win0_4.index t = ![t.val / 4, 0] :=
  (by decide +kernel : ∀ t : Fin grid0.N, _)

/-- The array's row that row `r` of step `t`'s row block is. -/
def row (t : Fin cfg0.N) (r : Fin 2048) : Fin 4096 :=
  ⟨t.val / 4 * 2048 + r.val, by have := t.isLt; change t.val < 8 at this; omega⟩

/-- The array's column that column `j` of step `t`'s column block is. -/
def col (t : Fin cfg0.N) (j : Fin 1408) : Fin 5632 := ⟨t.val % 4 * 1408 + j.val, by omega⟩

theorem row_lead (t : Fin cfg0.N) (r : Fin 2048) : row (lead t) r = row t r :=
  Fin.ext (by simp only [row, lead]; omega)

/-- The arguments of the call, at their types. -/
abbrev A0 (c : Dev nD) : FVec Ideal S4096x1024 .f32 := m ((c.tc : Thread nD τ).loc main_arg0)
abbrev A1 (c : Dev nD) : FVec Ideal S1024 .f32 := m ((c.tc : Thread nD τ).loc main_arg1)
abbrev A2 (c : Dev nD) : FVec Ideal S1024x5632 .f32 := m ((c.tc : Thread nD τ).loc main_arg2)

theorem emb3 (t : Fin cfg0.N) (r : Fin 2048) (j : Fin 1408) : ((cfg0.win 3).blk t).view.emb (ix2 r j) = ix2 (row t r) (col t j) := by
  blk_ext [idx t, row, col]

theorem emb4 (t : Fin cfg0.N) (r : Fin 2048) (k : Fin 1024) : ((cfg0.win 4).blk t).view.emb (ix2 r k) = ix2 (row t r) k := by
  blk_ext [idx t, row]

theorem x_at (c : Dev nD) (t : Fin cfg0.N) (r : Fin 2048) (k : Fin 1024) :
    (iblk m c 0 t : FVec Ideal S2048x1024 .f32) (ix2 r k) = A0 m c (ix2 (row t r) k) := by
  blk_ext [iblk, V, idx t, row]

theorem g_at (c : Dev nD) (t : Fin cfg0.N) (k : Fin 1024) :
    (iblk m c 1 t : FVec Ideal S1x1024 .f32) (ix2 0 k) = A1 m c (ix1 k) := by
  have e : ((cfg0.win 1).blk t).view.emb (ix2 0 k) = ix2 0 k := by blk_ext [idx t]
  show V m c main_v0 (((cfg0.win 1).blk t).view.emb (ix2 0 k)) = _
  rw [e]
  entry_read
  pointwise

theorem w_at (c : Dev nD) (t : Fin cfg0.N) (j : Fin 1408) (l : Fin 1024) :
    (iblk m c 2 t : FVec Ideal S1408x1024 .bf16) (ix2 j l) = A2 m c (ix2 l (col t j)) := by
  have e : ((cfg0.win 2).blk t).view.emb (ix2 j l) = ix2 (col t j) l := by blk_ext [idx t, col]
  show V m c main_v2 (((cfg0.win 2).blk t).view.emb (ix2 j l)) = _
  rw [e]
  entry_read
  pointwise

/-! ## What the steps leave -/

theorem norm_lead (c : Dev nD) (t : Fin cfg0.N) (r : Fin 2048) (k : Fin 1024) :
    k0_pay1 (F := Ideal) (iblk m c 0 (lead t)) (iblk m c 1 (lead t)) (ix2 r k) = norm (A0 m c) (A1 m c) (row t r) k := by
  rw [← row_lead t r]
  refine (pay1_at _ _ r k).trans (congrArg₂ (· * ·) ?_ (g_at m c (lead t) k))
  exact congrArg₂ (fun (a : EReal) (b : Fin 1024 → EReal) => a * rr b) (x_at m c (lead t) r k) (funext fun l => x_at m c (lead t) r l)

theorem rows_at (c : Dev nD) (t : Fin cfg0.N) (r : Fin 2048) (k : Fin 1024) :
    rows (F := Ideal) m c t (ix2 r k) = norm (A0 m c) (A1 m c) (row t r) k :=
  (pay2_at _ _ r k).trans (norm_lead m c t r k)

theorem rowsOut_at (c : Dev nD) (t : Fin cfg0.N) (r : Fin 2048) (k : Fin 1024) :
    rowsOut (F := Ideal) m c t (ix2 r k) = norm (A0 m c) (A1 m c) (row t r) k :=
  (pay3_at _ _ r k).trans (norm_lead m c t r k)

theorem prod_at (c : Dev nD) (t : Fin cfg0.N) (r : Fin 2048) (j : Fin 1408) :
    k0_pay4 (F := Ideal) (rows m c t) (iblk m c 2 t) (ix2 r j) = prod (A0 m c) (A1 m c) (A2 m c) (row t r) (col t j) :=
  (pay4_at _ _ r j).trans (Finset.sum_congr rfl fun l _ => congrArg₂ (· * ·) (rows_at m c t r l) (w_at m c t j l))

theorem final3 (c : Dev nD) : (dats m 0 c).arrAt 3 cfg0.N
    = Cert.Reference8Ideal.Read.val_main_v14 (F := Ideal) (A0 m c) (A1 m c) (A2 m c) := by
  refine (dats m 0 c).arrAt_eq_of_covers 3 _ (by decide +kernel) fun t hf y => ?_
  blk_simp
  rw [after3]
  idx_vars y
  refine Eq.trans ?_ (congrArg _ (emb3 t y0 y1).symm)
  exact (prod_at m c t y0 y1).trans (Cert.UpRef.u_at _ _ _ (row t y0) (col t y1)).symm

theorem final4 (c : Dev nD) : (dats m 0 c).arrAt 4 cfg0.N
    = Cert.Reference8Ideal.Read.val_main_v15 (F := Ideal) (A0 m c) (A1 m c) := by
  refine (dats m 0 c).arrAt_eq_of_covers 4 _ (by decide +kernel) fun t hf y => ?_
  blk_simp
  rw [after4]
  idx_vars y
  refine Eq.trans ?_ (congrArg _ (emb4 t y0 y1).symm)
  exact (rowsOut_at m c t y0 y1).trans (Cert.UpRef.h_at _ _ (row t y0) y1).symm

end Cert.UpValue

end
-- ==== Proof.UpProjClaim.lean ====
module

public import proofs.«01_k».proof.Defs
public import proofs.«01_k».proof.Proof.UpBits
public import proofs.«01_k».proof.Proof.UpValue
public import proofs.«01_k».proof.Proof.Gen.Reference8Ideal.Read
public import Idealize.ShloMosaic.Lib.Claim

@[expose] public section

/-! The claims about the up projection (`Kernel8`). -/

namespace Cert.UpProjClaim

open Idealize.ShloMosaic Idealize.ShloMosaic.TcCoe Idealize.SL.Sem

theorem frame_kernel : Cert.quiescent_Kernel8 := fun m ρ _ => Cert.UpBits.frame m ρ

theorem frame_ideal : Cert.quiescent_Kernel8Ideal := fun m ρ _ => Cert.UpFrame.frame m ρ

theorem frame_reference : Cert.quiescent_Reference8Ideal := fun m ρ _ =>
  (θ_run Cert.Reference8Ideal.defs _ _).mono (fun r h => ⟨fun c => (h c).2.2, sem_eq_zero_of_no_sems (by decide) r.2⟩)
    (Cert.Reference8Ideal.Value.run m ρ)

/-- The run with both result arrays named and the arguments unchanged. -/
theorem run_named (m : (ℓ : Loc Cert.Kernel8Ideal.nD Cert.Kernel8Ideal.τ Cert.Kernel8Ideal.sig) → Buf (Elt Ideal) ℓ) (ρ : Dev Cert.Kernel8Ideal.nD → PrngReg) :
    θ_run Cert.Kernel8Ideal.defs (onTc (τ := Cert.Kernel8Ideal.τ) (Cert.Kernel8Ideal.main (F := Ideal))) ⟨m, fun _ => 0, ρ⟩ fun r => ∀ c : Dev Cert.Kernel8Ideal.nD,
      r.2.mem ((c.tc : Thread Cert.Kernel8Ideal.nD Cert.Kernel8Ideal.τ).loc Cert.Kernel8Ideal.main_v3_0) = (Cert.UpFrame.dats m 0 c).arrAt 3 Cert.Kernel8Ideal.cfg0.N
      ∧ r.2.mem ((c.tc : Thread Cert.Kernel8Ideal.nD Cert.Kernel8Ideal.τ).loc Cert.Kernel8Ideal.main_v3_1) = (Cert.UpFrame.dats m 0 c).arrAt 4 Cert.Kernel8Ideal.cfg0.N
      ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2) :=
  (θ_run Cert.Kernel8Ideal.defs _ _).mono (fun _ h c => ⟨(h.1.1 c).1 3, (h.1.1 c).1 4, h.2.1 c⟩)
    (θ_run_and (Cert.UpFrame.run m ρ) (Cert.UpFrame.frame m ρ))

theorem algebraic : Cert.algebraic_Kernel8Ideal_Reference8Ideal := by
  intro m g m' g' _ hagree
  refine ⟨_, _, run_named m g, (θ_run Cert.Reference8Ideal.defs _ _).mono (fun r h c => ?_)
    (Cert.Reference8Ideal.Value.run m' g')⟩
  obtain ⟨h0, h1, h2⟩ := hagree c
  obtain ⟨r0, r1, rest⟩ := h c
  refine ⟨r0.trans ?_, r1.trans ?_, rest⟩
  · rw [Cert.Reference8Ideal.Read.val_main_v14_eq, h0, h1, h2]
    exact (Cert.UpValue.final3 m c).symm
  · rw [Cert.Reference8Ideal.Read.val_main_v15_eq, h0, h1]
    exact (Cert.UpValue.final4 m c).symm

end Cert.UpProjClaim
-- ==== Proof.InBody.lean ====
/-
What one step of the input projection's kernel does, at any values of its blocks.

At the first column block of a row block the step normalises the rows, keeps them in a scratch
buffer and writes them out; at every column block it multiplies the kept rows with the block of
weights.  The two lemmas below say what the buffers hold after a step of each kind.
-/
module

public import proofs.«01_k».proof.Proof.Gen.Kernel9Ideal.Frame
public import proofs.«01_k».proof.Proof.Gen.Kernel9Ideal.Skeleton
public import Idealize.ShloMosaic.Lib.Pipeline.TableIdle
public import Idealize.ShloMosaic.Lib.VecWindow

@[expose] public section

set_option maxRecDepth 16384

noncomputable section

namespace Cert.InFrame

open Cert.Kernel9Ideal Cert.Kernel9Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ Cert.Kernel9Ideal.sig Unit (Elt F) ℕ (UR Cert.Kernel9Ideal.sig nD τ) ℕ

/-- The normalised rows of a block, as the scratch buffer keeps them. -/
abbrev kept (x : Vec F S2048x1024 .f32) (g : Vec F S1x1024 .f32) : Vec F S2048x1024 .bf16 := k0_pay2 x g

/-- A step at the first column block: whatever the output and scratch buffers held, it leaves the
normalised rows in the scratch and in the second output, and their product with the weights in
the first. -/
theorem first_step (c : Dev nD) (i : grid0.Coords)
    (a2 : Memref Cert.Kernel9Ideal.sig .tc .vmem S2048x1024 .f32) (w2 : a2.IsWhole)
    (a3 : Memref Cert.Kernel9Ideal.sig .tc .vmem S1x1024 .f32) (w3 : a3.IsWhole)
    (a4 : Memref Cert.Kernel9Ideal.sig .tc .vmem S768x1024 .bf16) (w4 : a4.IsWhole)
    (a5 : Memref Cert.Kernel9Ideal.sig .tc .vmem S2048x768 .bf16) (w5 : a5.IsWhole)
    (a6 : Memref Cert.Kernel9Ideal.sig .tc .vmem S2048x1024 .bf16) (w6 : a6.IsWhole)
    (a7 : Memref Cert.Kernel9Ideal.sig .tc .vmem S2048x1024 .bf16) (w7 : a7.IsWhole)
    (hc : k0_cond1 i = 1#1)
    (x : Vec F S2048x1024 .f32) (g : Vec F S1x1024 .f32) (w : Vec F S768x1024 .bf16)
    (E : Set ℕ) (K : PUnit → sProp 𝕄) :
    iprop(owns (c : Thread nD τ) a2 fullShare x ∗ owns (c : Thread nD τ) a3 fullShare g
        ∗ owns (c : Thread nD τ) a4 fullShare w ∗ (∃ d, owns (c : Thread nD τ) a5 fullShare d)
        ∗ (∃ d, owns (c : Thread nD τ) a6 fullShare d) ∗ (∃ d, owns (c : Thread nD τ) a7 fullShare d)
        ∗ (iprop(owns (c : Thread nD τ) a2 fullShare x ∗ owns (c : Thread nD τ) a3 fullShare g
            ∗ owns (c : Thread nD τ) a4 fullShare w
            ∗ owns (c : Thread nD τ) a5 fullShare (k0_pay4 (kept x g) w)
            ∗ owns (c : Thread nD τ) a6 fullShare (k0_pay3 x g)
            ∗ owns (c : Thread nD τ) a7 fullShare (kept x g)) -∗ K ⟨⟩))
      ⊢ wp frame (wpE (defs₀ (F := F)) Variants.none c none) E
          (cc0_in_proj i a2 w2 a3 w3 a4 w4 a5 w5 a6 w6 a7 w7) K := by
  have r2 : a2.view.readAt (Elt F) (Rect.unit (s := S2048x1024) ![0, 0] S2048x1024.size inb_S2048x1024_S2048x1024_0_0).toLoadRect (w2.unread x) = x :=
    (View.readAt_full _ _ _).trans (w2.read_unread x)
  have r3 : a3.view.readAt (Elt F) (Rect.unit (s := S1x1024) ![0, 0] S1x1024.size inb_S1x1024_S1x1024_0_0).toLoadRect (w3.unread g) = g :=
    (View.readAt_full _ _ _).trans (w3.read_unread g)
  have r4 : a4.view.readAt (Elt F) (Rect.unit (s := S768x1024) ![0, 0] S768x1024.size inb_S768x1024_S768x1024_0_0).toLoadRect (w4.unread w) = w :=
    (View.readAt_full _ _ _).trans (w4.read_unread w)
  simp only [cc0_in_proj_eq_skeleton]; unfold cc0_in_proj_skel
  unfold owns
  iintro ⟨⟨%f2, %h2, H2⟩, ⟨%f3, %h3, H3⟩, ⟨%f4, %h4, H4⟩, ⟨%d5, %f5, -, H5⟩, ⟨%d6, %f6, -, H6⟩, ⟨%d7, %f7, -, H7⟩, Hk⟩
  obtain rfl := w2.eq_unread h2; obtain rfl := w3.eq_unread h3; obtain rfl := w4.eq_unread h4
  sl_exec (disch := sl_exact hc)
  sl_step
  iapply Hk
  isplitl [H2]
  · iexists _; isplitr; · ipureintro; exact w2.read_unread _
    iexact H2
  isplitl [H3]
  · iexists _; isplitr; · ipureintro; exact w3.read_unread _
    iexact H3
  isplitl [H4]
  · iexists _; isplitr; · ipureintro; exact w4.read_unread _
    iexact H4
  isplitl [H5]
  · iexists _; isplitr; swap; · iexact H5
    ipureintro
    exact (View.read_writes_full _ _ _ _ _).trans
      (congrArg (fun z => k0_pay4 z w) (View.readAt_writes_full _ _ _ _ _ _))
  isplitl [H6]
  · iexists _; isplitr; swap; · iexact H6
    ipureintro
    exact View.read_writes_full _ _ _ _ _
  iexists _; isplitr; swap; · iexact H7
  ipureintro
  exact View.read_writes_full _ _ _ _ _

/-- A step at a later column block: the scratch holds the normalised rows and keeps them, the second
output is not touched, and the first output receives the product of the kept rows with this
block of weights. -/
theorem later_step (c : Dev nD) (i : grid0.Coords)
    (a2 : Memref Cert.Kernel9Ideal.sig .tc .vmem S2048x1024 .f32) (w2 : a2.IsWhole)
    (a3 : Memref Cert.Kernel9Ideal.sig .tc .vmem S1x1024 .f32) (w3 : a3.IsWhole)
    (a4 : Memref Cert.Kernel9Ideal.sig .tc .vmem S768x1024 .bf16) (w4 : a4.IsWhole)
    (a5 : Memref Cert.Kernel9Ideal.sig .tc .vmem S2048x768 .bf16) (w5 : a5.IsWhole)
    (a6 : Memref Cert.Kernel9Ideal.sig .tc .vmem S2048x1024 .bf16) (w6 : a6.IsWhole)
    (a7 : Memref Cert.Kernel9Ideal.sig .tc .vmem S2048x1024 .bf16) (w7 : a7.IsWhole)
    (hc : ¬k0_cond1 i = 1#1)
    (w : Vec F S768x1024 .bf16) (s : Vec F S2048x1024 .bf16)
    (E : Set ℕ) (K : PUnit → sProp 𝕄) :
    iprop(owns (c : Thread nD τ) a4 fullShare w ∗ (∃ d, owns (c : Thread nD τ) a5 fullShare d)
        ∗ owns (c : Thread nD τ) a7 fullShare s
        ∗ (iprop(owns (c : Thread nD τ) a4 fullShare w
            ∗ owns (c : Thread nD τ) a5 fullShare (k0_pay4 s w)
            ∗ owns (c : Thread nD τ) a7 fullShare s) -∗ K ⟨⟩))
      ⊢ wp frame (wpE (defs₀ (F := F)) Variants.none c none) E
          (cc0_in_proj i a2 w2 a3 w3 a4 w4 a5 w5 a6 w6 a7 w7) K := by
  have r4 : a4.view.readAt (Elt F) (Rect.unit (s := S768x1024) ![0, 0] S768x1024.size inb_S768x1024_S768x1024_0_0).toLoadRect (w4.unread w) = w :=
    (View.readAt_full _ _ _).trans (w4.read_unread w)
  have r7 : a7.view.readAt (Elt F) (Rect.unit (s := S2048x1024) ![0, 0] S2048x1024.size inb_S2048x1024_S2048x1024_0_0).toLoadRect (w7.unread s) = s :=
    (View.readAt_full _ _ _).trans (w7.read_unread s)
  simp only [cc0_in_proj_eq_skeleton]; unfold cc0_in_proj_skel
  unfold owns
  iintro ⟨⟨%f4, %h4, H4⟩, ⟨%d5, %f5, -, H5⟩, ⟨%f7, %h7, H7⟩, Hk⟩
  obtain rfl := w4.eq_unread h4; obtain rfl := w7.eq_unread h7
  sl_exec (disch := sl_exact hc)
  sl_step
  iapply Hk
  isplitl [H4]
  · iexists _; isplitr; · ipureintro; exact w4.read_unread _
    iexact H4
  isplitl [H5]
  · iexists _; isplitr; swap; · iexact H5
    ipureintro
    exact View.read_writes_full _ _ _ _ _
  iexists _; isplitr; · ipureintro; exact w7.read_unread _
  iexact H7

end Cert.InFrame

end
-- ==== Proof.InFrame.lean ====
/-
The input projection's kernel as a whole, at any values.

Nine steps work on one row block.  The first of them normalises the rows; the other eight use the
rows it kept.  So after every step the scratch and the second output's buffer hold the normalised
rows of the block the row block's first step read, and the first output's buffer their product
with this step's weights.  That is the invariant below; the run follows from it.
-/
module

public import proofs.«01_k».proof.Proof.InBody
public import Idealize.ShloMosaic.Lib.Claim

@[expose] public section

set_option maxRecDepth 16384

noncomputable section

namespace Cert.InFrame

open Cert.Kernel9Ideal Cert.Kernel9Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ Cert.Kernel9Ideal.sig Unit (Elt F) ℕ (UR Cert.Kernel9Ideal.sig nD τ) ℕ

variable (m : (ℓ : Loc nD τ Cert.Kernel9Ideal.sig) → Buf (Elt F) ℓ) (ρ : Dev nD → PrngReg)

/-- The first step of a step's row block. -/
def lead (t : Fin cfg0.N) : Fin cfg0.N := ⟨t.val - t.val % 9, Nat.lt_of_le_of_lt (Nat.sub_le _ _) t.isLt⟩

theorem lead_first (t : Fin cfg0.N) (h : t.val % 9 = 0) : lead t = t :=
  Fin.ext (by simp only [lead]; omega)

/-- A later step has the same first step as the one before it. -/
theorem lead_later (t : Fin cfg0.N) (h : ¬t.val % 9 = 0) :
    lead ⟨t.val - 1, Nat.lt_of_le_of_lt (Nat.sub_le _ _) t.isLt⟩ = lead t :=
  Fin.ext (by simp only [lead]; omega)

/-- The body normalises exactly at the first column block. -/
theorem cond_iff : ∀ t : Fin cfg0.N, k0_cond1 (grid0.coords t) = 1#1 ↔ t.val % 9 = 0 :=
  (by decide +kernel : ∀ t : Fin grid0.N, k0_cond1 (grid0.coords t) = 1#1 ↔ t.val % 9 = 0)

/-- The rows kept after step `t`. -/
def rows (c : Dev nD) (t : Fin cfg0.N) : Vec F S2048x1024 .bf16 :=
  k0_pay2 (iblk m c 0 (lead t)) (iblk m c 1 (lead t))

/-- The rows written out after step `t`. -/
def rowsOut (c : Dev nD) (t : Fin cfg0.N) : Vec F S2048x1024 .bf16 :=
  k0_pay3 (iblk m c 0 (lead t)) (iblk m c 1 (lead t))

/-- The scratch between steps: anything before the first, then the rows the last step kept. -/
def between (c : Dev nD) : (n : ℕ) → n ≤ cfg0.N → sProp 𝕄
  | 0, _ => Pipeline.ΦA spec0 c
  | n + 1, hn => iprop(owns (c : Thread nD τ) (Memref.whole cc0_scratch0 : Memref Cert.Kernel9Ideal.sig .tc .vmem S2048x1024 .bf16)
      fullShare (rows m c ⟨n, hn⟩) ∗ (∃ r, prngReg c r))

theorem between_pos (c : Dev nD) (n : ℕ) (h : n ≤ cfg0.N) (hz : n ≠ 0) :
    between m c n h = iprop(owns (c : Thread nD τ) (Memref.whole cc0_scratch0 : Memref Cert.Kernel9Ideal.sig .tc .vmem S2048x1024 .bf16)
      fullShare (rows m c ⟨n - 1, by omega⟩) ∗ (∃ r, prngReg c r)) := by
  cases n with
  | zero => exact absurd rfl hz
  | succ n => rfl

theorem between_succ (c : Dev nD) (t : Fin cfg0.N) :
    between m c (t.val + 1) t.isLt = iprop(owns (c : Thread nD τ) (Memref.whole cc0_scratch0 : Memref Cert.Kernel9Ideal.sig .tc .vmem S2048x1024 .bf16)
      fullShare (rows m c t) ∗ (∃ r, prngReg c r)) := rfl

/-- Before the first step the scratch holds anything. -/
theorem start_eq (c : Dev nD) : (Pipeline.ΦA spec0 c : sProp 𝕄)
    = iprop((∃ d, owns (c : Thread nD τ) (Memref.whole cc0_scratch0 : Memref Cert.Kernel9Ideal.sig .tc .vmem S2048x1024 .bf16) fullShare d)
        ∗ (∃ r, prngReg c r)) := by
  unfold Pipeline.ΦA; rw [scopedRest0_eq]; simp only [owns_whole]; try rfl

/-- Whatever is between two steps, the scratch holds something. -/
theorem between_some (c : Dev nD) (n : ℕ) (h : n ≤ cfg0.N) :
    between m c n h ⊢ (Pipeline.ΦA spec0 c : sProp 𝕄) := by
  cases n with
  | zero => exact Idealize.SL.BI.Entails.refl _
  | succ n =>
    rw [start_eq, between_pos m c (n + 1) h (Nat.succ_ne_zero n)]
    iintro ⟨H, Hg⟩
    isplitl [H]
    · iexists _; iexact H
    iexact Hg

theorem between_any (c : Dev nD) (n : ℕ) (h : n ≤ cfg0.N) :
    between m c n h ⊢ iprop((∃ d, owns (c : Thread nD τ) (Memref.whole cc0_scratch0 : Memref Cert.Kernel9Ideal.sig .tc .vmem S2048x1024 .bf16) fullShare d)
        ∗ (∃ r, prngReg c r)) := start_eq (F := F) c ▸ between_some m c n h

/-- What every buffer holds after every step. -/
def dats (_ : Fin 1) (c : Dev nD) : Dat τ (Elt F) Unit ℕ (UR Cert.Kernel9Ideal.sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => k0_pay4 (rows m c t) (iblk m c 2 t)
    | ⟨4, _⟩ => rowsOut m c t
  Φ t := between m c t.val (Nat.le_of_lt_succ t.isLt)
  q _ := fullShare
  owed _ := 0

theorem A_eq (c : Dev nD) (w : Fin cfg0.W) : (dats m 0 c).A w = V m c (Pipeline.arrRef spec0 w) := by
  dsimp only [dats]

theorem phi_castSucc (c : Dev nD) (t : Fin cfg0.N) :
    (dats m 0 c).Φ t.castSucc = between m c t.val (Nat.le_of_lt t.isLt) := by
  dsimp only [dats]; exact Dat.Φ_castSucc (between m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = k0_pay4 (rows m c t) (iblk m c 2 t) := by
  dsimp only [dats]
theorem after4 (c : Dev nD) (t : Fin cfg0.N) : (dats m 0 c).after 4 t = rowsOut m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d

/-! ## The second output's buffer through the steps that do not touch it -/

/-- The second output is stored at the first step of a row block only. -/
theorem idle_iff : ∀ t : Fin cfg0.N, cfg0.idle 4 (grid0.coords t) = true ↔ ¬t.val % 9 = 0 := by decide +kernel

/-- Whether nothing has been stored in the second output's buffer since it was last written back. -/
def untouched : ℕ → Bool
  | 0 => true
  | n + 1 => decide ((n + 1) % 9 = 0)

theorem untouched_step : ∀ t : Fin cfg0.N,
    untouched (t.val + 1) = ((cfg0.win 4).flush t || (cfg0.idle 4 (cfg0.grid.coords t) && untouched t.val)) := by
  decide +kernel

theorem not_fresh (t : Fin cfg0.N) (h : ¬t.val % 9 = 0) : cfg0.fresh 4 t.val = false := by
  rw [Pipeline.Cfg.fresh_tab cfg0 4 untouched rfl untouched_step t.val (Nat.le_of_lt t.isLt)]
  obtain ⟨n, hn⟩ := t
  cases n with
  | zero => exact absurd rfl h
  | succ n => exact decide_eq_false h

theorem rowsOut_later (c : Dev nD) (t : Fin cfg0.N) (h : ¬t.val % 9 = 0) :
    rowsOut m c ⟨t.val - 1, Nat.lt_of_le_of_lt (Nat.sub_le _ _) t.isLt⟩ = rowsOut m c t := by
  unfold rowsOut; rw [lead_later t h]

theorem rows_later (c : Dev nD) (t : Fin cfg0.N) (h : ¬t.val % 9 = 0) :
    rows m c ⟨t.val - 1, Nat.lt_of_le_of_lt (Nat.sub_le _ _) t.isLt⟩ = rows m c t := by
  unfold rows; rw [lead_later t h]

/-- At a later step the second output's buffer already holds the row block's rows. -/
theorem before4_later (c : Dev nD) (t : Fin cfg0.N) (h : ¬t.val % 9 = 0) (d) :
    (dats m 0 c).before 4 t d = rowsOut m c t := by
  rw [Dat.before_out_traj _ 4 rfl (fun _ _ => rfl)
    (fun t _ hi _ => by rw [after4, after4]; exact (rowsOut_later m c t ((idle_iff t).mp hi)).symm) t.val t rfl d,
    not_fresh t h, if_neg Bool.false_ne_true, after4]
  exact rowsOut_later m c t h

/-- So a later step that leaves that buffer alone leaves in it what is claimed. -/
theorem leaves4_later (c : Dev nD) (t : Fin cfg0.N) (h : ¬t.val % 9 = 0) (d) :
    owns (c : Thread nD τ) (win0_4.stage (cfg0.slots t 4)) fullShare ((dats m 0 c).before 4 t d)
      ⊢ ((dats m 0 c).leavesExact 4 t : sProp 𝕄) := by
  have hi : cfg0.idle 4 (cfg0.grid.coords t) = true := (idle_iff t).mpr h
  cases hf : (cfg0.win 4).flush t with
  | false =>
    rw [Dat.leavesExact_idle _ 4 t hi hf]
    iintro H
    iexists d
    iexact H
  | true =>
    unfold Dat.leavesExact
    rw [hi, hf, before4_later m c t h d, after4]

theorem leaves4_first (c : Dev nD) (t : Fin cfg0.N) (h : t.val % 9 = 0) :
    ((dats m 0 c).leavesExact 4 t : sProp 𝕄)
      = owns (c : Thread nD τ) (win0_4.stage (cfg0.slots t 4)) fullShare (rowsOut m c t) := by
  have hi : cfg0.idle 4 (cfg0.grid.coords t) = false :=
    Bool.eq_false_iff.mpr fun e => (idle_iff t).mp e h
  unfold Dat.leavesExact
  rw [hi, after4]

/-! ## Every step -/

/-- A step finds the inputs' blocks and the invariant, and leaves the invariant of the next. -/
theorem step (c : Dev nD) (t : Fin cfg0.N) :
    iprop((dats m 0 c).Φ t.castSucc ∗ (dats m 0 c).owesAt () t.castSucc
        ∗ (∃ d, owns (c : Thread nD τ) (win0_0.stage (cfg0.slots t 0)) fullShare ((dats m 0 c).before 0 t d))
        ∗ (∃ d, owns (c : Thread nD τ) (win0_1.stage (cfg0.slots t 1)) fullShare ((dats m 0 c).before 1 t d))
        ∗ (∃ d, owns (c : Thread nD τ) (win0_2.stage (cfg0.slots t 2)) fullShare ((dats m 0 c).before 2 t d))
        ∗ (∃ d, owns (c : Thread nD τ) (win0_3.stage (cfg0.slots t 3)) fullShare ((dats m 0 c).before 3 t d))
        ∗ (∃ d, owns (c : Thread nD τ) (win0_4.stage (cfg0.slots t 4)) fullShare ((dats m 0 c).before 4 t d)))
      ⊢ wp frame (wpE (defs₀ (F := F)) Variants.none c none) Set.univ (bodyAt0 t) (fun _ =>
        iprop((dats m 0 c).Φ t.succ ∗ (dats m 0 c).owesAt () t.succ
          ∗ (dats m 0 c).leavesExact 0 t ∗ (dats m 0 c).leavesExact 1 t ∗ (dats m 0 c).leavesExact 2 t
          ∗ (dats m 0 c).leavesExact 3 t ∗ (dats m 0 c).leavesExact 4 t)) := by
  unfold bodyAt0
  simp only [before0, before1, before2]
  rw [show (dats m 0 c).owesAt () t.succ = (dats m 0 c).owesAt () t.castSucc from rfl,
    show (dats m 0 c).Φ t.succ = between m c (t.val + 1) t.isLt from rfl, phi_castSucc,
    show (dats m 0 c).leavesExact 0 t = owns (c : Thread nD τ) (win0_0.stage (cfg0.slots t 0)) fullShare ((dats m 0 c).after 0 t) from rfl,
    show (dats m 0 c).leavesExact 1 t = owns (c : Thread nD τ) (win0_1.stage (cfg0.slots t 1)) fullShare ((dats m 0 c).after 1 t) from rfl,
    show (dats m 0 c).leavesExact 2 t = owns (c : Thread nD τ) (win0_2.stage (cfg0.slots t 2)) fullShare ((dats m 0 c).after 2 t) from rfl,
    show (dats m 0 c).leavesExact 3 t = owns (c : Thread nD τ) (win0_3.stage (cfg0.slots t 3)) fullShare ((dats m 0 c).after 3 t) from rfl,
    after0, after1, after2, after3]
  by_cases h : t.val % 9 = 0
  · have e0 : rows m c t = kept (iblk m c 0 t) (iblk m c 1 t) := by unfold rows; rw [lead_first t h]
    have e1 : rowsOut m c t = k0_pay3 (iblk m c 0 t) (iblk m c 1 t) := by unfold rowsOut; rw [lead_first t h]
    rw [leaves4_first m c t h, between_succ, e0, e1]
    iintro ⟨HS, Ho, ⟨%d0, H0⟩, ⟨%d1, H1⟩, ⟨%d2, H2⟩, ⟨%d3, H3⟩, ⟨%d4, H4⟩⟩
    ihave HS := (between_any m c t.val (Nat.le_of_lt t.isLt)) $$ HS
    icases HS with ⟨HS, Hg⟩
    iapply (first_step c (grid0.coords t) _ _ _ _ _ _ _ _ _ _ _ _ ((cond_iff t).mpr h)
      (iblk m c 0 t) (iblk m c 1 t) (iblk m c 2 t) Set.univ _)
    isplitl [H0]; · iexact H0
    isplitl [H1]; · iexact H1
    isplitl [H2]; · iexact H2
    isplitl [H3]; · iexists _; iexact H3
    isplitl [H4]; · iexists _; iexact H4
    isplitl [HS]; · iexact HS
    iintro ⟨H0, H1, H2, H3, H4, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    iexact H4
  · rw [between_pos m c t.val _ (fun e => h (by rw [e])), rows_later m c t h, between_succ]
    iintro ⟨⟨HS, Hg⟩, Ho, ⟨%d0, H0⟩, ⟨%d1, H1⟩, ⟨%d2, H2⟩, ⟨%d3, H3⟩, ⟨%d4, H4⟩⟩
    iapply (later_step c (grid0.coords t) _ _ _ _ _ _ _ _ _ _ _ _ (fun e => h ((cond_iff t).mp e))
      (iblk m c 2 t) (rows m c t) Set.univ _)
    isplitl [H2]; · iexact H2
    isplitl [H3]; · iexists _; iexact H3
    isplitl [HS]; · iexact HS
    iintro ⟨H2, H3, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    iapply (leaves4_later m c t h d4)
    iexact H4

theorem obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t from by
    unfold defs₀; rw [Defs.onTc_tc]]
  exact triple_restated (step m c t) rfl .rfl fun _ => .rfl

/-! ## The run -/

set_option backward.isDefEq.respectTransparency.types false in
/-- Every run ends with every array at what the steps above leave in it, and no signal pending. -/
theorem run : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m)
    (hin := fun c => Idealize.SL.BI.Entails.refl _) (hout := fun c => between_some m c cfg0.N le_rfl)

/-- The arguments end as they began. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) ((θ_run defs _ _).mono (fun _ h => h.1) (run m ρ)))
    ((θ_run defs _ _).mono (fun _ h => h.2) (run m ρ))

end Cert.InFrame

end
-- ==== Proof.InBits.lean ====
/-
The input projection's frame at the machine's own floats.  The two printed programs have one text, so
the run proved for the idealised text at any floats is the run of the other.
-/
module

public import proofs.«01_k».proof.Proof.InFrame
public import proofs.«01_k».proof.Proof.Gen.Kernel9.Launch

@[expose] public section

set_option maxRecDepth 16384
set_option maxHeartbeats 2000000

noncomputable section

namespace Cert.InBits

open Idealize.ShloMosaic Idealize.ShloMosaic.TcCoe Idealize.SL.Sem

variable {F : FTy → Type} [FloatOps F]

/-- The two texts' kernel bodies are one function. -/
theorem body_eq : @Cert.Kernel9.cc0_in_proj F _ _ = @Cert.Kernel9Ideal.cc0_in_proj F _ _ := rfl

/-- So are their body tables. -/
theorem defs0_eq : Cert.Kernel9.defs₀ (F := F) = Cert.Kernel9Ideal.defs₀ (F := F) := by
  unfold Cert.Kernel9.defs₀ Cert.Kernel9Ideal.defs₀
  refine congrArg Defs.onTc (funext fun l => funext fun x => ?_)
  obtain rfl : l = 0 := Subsingleton.elim _ _
  obtain ⟨t, s⟩ := x
  show Cert.Kernel9.cc0_in_proj _ _ _ _ _ _ _ _ _ _ _ _ _ = _
  rw [body_eq]
  rfl

/-- And so are the tables with the pipelines. -/
theorem defs_eq : Cert.Kernel9.defs (F := F) = Cert.Kernel9Ideal.defs (F := F) :=
  congrArg (Pipeline.defs Cert.Kernel9Ideal.pcfgs) defs0_eq

/-- Their host programs are one. -/
theorem main_eq : Cert.Kernel9.main (F := F) = Cert.Kernel9Ideal.main (F := F) := by
  unfold Cert.Kernel9.main Cert.Kernel9Ideal.main
  rfl

/-- The frame, carried across the equations. -/
theorem frame (m : (ℓ : Loc Cert.Kernel9.nD Cert.Kernel9.τ Cert.Kernel9.sig) → Buf (Elt F) ℓ) (ρ : Dev Cert.Kernel9.nD → PrngReg) :
    θ_run (Cert.Kernel9.defs (F := F)) (onTc (τ := Cert.Kernel9.τ) (Cert.Kernel9.main (F := F))) ⟨m, fun _ => 0, ρ⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0) := by
  rw [defs_eq, main_eq]
  exact Cert.InFrame.frame m ρ

end Cert.InBits

end
-- ==== Proof.InRef.lean ====
module

public import proofs.«01_k».proof.Proof.Gen.Reference9Ideal.Read
public import proofs.«01_k».proof.Proof.Rms
public import Idealize.ShloMosaic.Lib.Pipeline.ValueKit
public import Idealize.ShloMosaic.Lib.Pointwise

@[expose] public section

set_option maxRecDepth 16384

noncomputable section

/-! The input projection's reference, entry by entry. -/

namespace Cert.InRef

open Idealize.ShloMosaic Cert.Reference9Ideal Cert.Reference9Ideal.Read Cert.Rms

open scoped BigOperators

/-- The normalised row. -/
def norm (x0 : FVec Ideal S4096x1024 .f32) (x1 : FVec Ideal S1024 .f32) (i : Fin 4096) (k : Fin 1024) : EReal :=
  x0 (ix2 i k) * rr (fun l => x0 (ix2 i l)) * x1 (ix1 k)

theorem norm_at (x0 : FVec Ideal S4096x1024 .f32) (x1 : FVec Ideal S1024 .f32) (i : Fin 4096) (k : Fin 1024) :
    val_main_v12 (F := Ideal) x0 x1 (ix2 i k) = norm x0 x1 i k := by
  pointwise [val_main_v12, val_main_v11, val_main_v10, val_main_v9, val_main_v8, val_main_v7, val_main_v6, val_main_v5, val_main_v4, val_main_v3,
    val_main_v2, val_main_v1, val_main_v0, val_main_cst, val_main_cst_0, val_main_cst_1, norm, rr, msq]

theorem h_at (x0 : FVec Ideal S4096x1024 .f32) (x1 : FVec Ideal S1024 .f32) (i : Fin 4096) (k : Fin 1024) :
    val_main_v18 (F := Ideal) x0 x1 (ix2 i k) = norm x0 x1 i k := by
  refine Eq.trans ?_ (norm_at x0 x1 i k)
  pointwise [val_main_v18]

/-- The product of the normalised row with a column of the weights. -/
def prod (x0 : FVec Ideal S4096x1024 .f32) (x1 : FVec Ideal S1024 .f32) (x2 : FVec Ideal S1024x6912 .f32) (i : Fin 4096) (j : Fin 6912) : EReal :=
  ∑ l : Fin 1024, norm x0 x1 i l * x2 (ix2 l j)

theorem u_at (x0 : FVec Ideal S4096x1024 .f32) (x1 : FVec Ideal S1024 .f32) (x2 : FVec Ideal S1024x6912 .f32) (i : Fin 4096) (j : Fin 6912) :
    val_main_v14 (F := Ideal) x0 x1 x2 (ix2 i j) = prod x0 x1 x2 i j := by
  have e : val_main_v14 (F := Ideal) x0 x1 x2 (ix2 i j) = ∑ l : Fin 1024, val_main_v12 (F := Ideal) x0 x1 (ix2 i l) * x2 (ix2 l j) := by
    pointwise [val_main_v14, val_main_v13]
  exact e.trans (Finset.sum_congr rfl fun l _ => congrArg₂ (· * ·) (norm_at x0 x1 i l) rfl)

/-- Column `j` of the result is this column of the product: the gate's columns come first. -/
def source (j : Fin 6912) : Fin 6912 := ⟨if j.val < 3072 then 3840 + j.val else j.val - 3072, by split <;> omega⟩

theorem p_at (x0 : FVec Ideal S4096x1024 .f32) (x1 : FVec Ideal S1024 .f32) (x2 : FVec Ideal S1024x6912 .f32) (i : Fin 4096) (j : Fin 6912) :
    val_main_v17 (F := Ideal) x0 x1 x2 (ix2 i j) = prod x0 x1 x2 i (source j) := by
  rw [← u_at]
  by_cases h : j.val < 3072
  · have e : source j = ⟨3840 + j.val, by omega⟩ := Fin.ext (if_pos h)
    rw [e]
    pointwise [val_main_v17, val_main_v16, val_main_v15]
    exact dif_pos h
  · have e : source j = ⟨j.val - 3072, by omega⟩ := Fin.ext (if_neg h)
    rw [e]
    pointwise [val_main_v17, val_main_v16, val_main_v15]
    exact dif_neg h

end Cert.InRef

end
-- ==== Proof.InValue.lean ====
module

public import proofs.«01_k».proof.Proof.InFrame
public import proofs.«01_k».proof.Proof.InRef
public import Idealize.ShloMosaic.Lib.Pipeline.ValueKit
public import Idealize.ShloMosaic.Lib.Pointwise
public import Idealize.ShloMosaic.Lib.Pipeline.Value

@[expose] public section

set_option maxRecDepth 16384

noncomputable section

/-! The two arrays the input projection leaves: the normalised rows, and their product with the weights. -/

namespace Cert.InValue

open Idealize.ShloMosaic Idealize.ShloMosaic.TcCoe Idealize.SL.Sem Cert.Kernel9Ideal Cert.Kernel9Ideal.Gen Cert.Rms Cert.InFrame
open Cert.InRef (norm prod source)
open Idealize.ShloMosaic.Pipeline (Dat)

open scoped BigOperators

/-! ## One block -/

theorem pay1_at (x : FVec Ideal S2048x1024 .f32) (g : FVec Ideal S1x1024 .f32) (r : Fin 2048) (k : Fin 1024) :
    k0_pay1 (F := Ideal) x g (ix2 r k) = x (ix2 r k) * rr (fun l => x (ix2 r l)) * g (ix2 0 k) := by
  pointwise [k0_pay1, rr, msq]

theorem pay2_at (x : FVec Ideal S2048x1024 .f32) (g : FVec Ideal S1x1024 .f32) (r : Fin 2048) (k : Fin 1024) :
    k0_pay2 (F := Ideal) x g (ix2 r k) = k0_pay1 (F := Ideal) x g (ix2 r k) := by
  pointwise [k0_pay2]

theorem pay3_at (x : FVec Ideal S2048x1024 .f32) (g : FVec Ideal S1x1024 .f32) (r : Fin 2048) (k : Fin 1024) :
    k0_pay3 (F := Ideal) x g (ix2 r k) = k0_pay1 (F := Ideal) x g (ix2 r k) := by
  pointwise [k0_pay3]

theorem pay4_at (s : FVec Ideal S2048x1024 .bf16) (w : FVec Ideal S768x1024 .bf16) (r : Fin 2048) (j : Fin 768) :
    k0_pay4 (F := Ideal) s w (ix2 r j) = ∑ l : Fin 1024, s (ix2 r l) * w (ix2 j l) := by
  pointwise [k0_pay4]

/-! ## Where the blocks lie -/

variable (m : (ℓ : Loc nD τ sig) → Buf (Elt Ideal) ℓ)

theorem idx : ∀ t : Fin cfg0.N, win0_0.index t = ![t.val / 9, 0] ∧ win0_1.index t = ![0, 0] ∧ win0_2.index t = ![(t.val % 9 + 5) % 9, 0]
    ∧ win0_3.index t = ![t.val / 9, t.val % 9] ∧ win0_4.index t = ![t.val / 9, 0] :=
  (by decide +kernel : ∀ t : Fin grid0.N, _)

/-- The array's row that row `r` of step `t`'s row block is. -/
def row (t : Fin cfg0.N) (r : Fin 2048) : Fin 4096 :=
  ⟨t.val / 9 * 2048 + r.val, by have := t.isLt; change t.val < 18 at this; omega⟩

/-- The array's column that column `j` of step `t`'s column block is. -/
def col (t : Fin cfg0.N) (j : Fin 768) : Fin 6912 := ⟨t.val % 9 * 768 + j.val, by omega⟩

/-- The column of the weights it is computed from. -/
def wcol (t : Fin cfg0.N) (j : Fin 768) : Fin 6912 := ⟨(t.val % 9 + 5) % 9 * 768 + j.val, by omega⟩

theorem sourcecol (t : Fin cfg0.N) (j : Fin 768) : source (col t j) = wcol t j := by
  by_cases h : (col t j).val < 3072
  · exact Fin.ext ((if_pos h).trans (by simp only [col, wcol] at h ⊢; omega))
  · exact Fin.ext ((if_neg h).trans (by simp only [col, wcol] at h ⊢; omega))

theorem row_lead (t : Fin cfg0.N) (r : Fin 2048) : row (lead t) r = row t r :=
  Fin.ext (by simp only [row, lead]; omega)

/-- The arguments of the call, at their types. -/
abbrev A0 (c : Dev nD) : FVec Ideal S4096x1024 .f32 := m ((c.tc : Thread nD τ).loc main_arg0)
abbrev A1 (c : Dev nD) : FVec Ideal S1024 .f32 := m ((c.tc : Thread nD τ).loc main_arg1)
abbrev A2 (c : Dev nD) : FVec Ideal S1024x6912 .f32 := m ((c.tc : Thread nD τ).loc main_arg2)

theorem emb3 (t : Fin cfg0.N) (r : Fin 2048) (j : Fin 768) : ((cfg0.win 3).blk t).view.emb (ix2 r j) = ix2 (row t r) (col t j) := by
  blk_ext [idx t, row, col]

theorem emb4 (t : Fin cfg0.N) (r : Fin 2048) (k : Fin 1024) : ((cfg0.win 4).blk t).view.emb (ix2 r k) = ix2 (row t r) k := by
  blk_ext [idx t, row]

theorem x_at (c : Dev nD) (t : Fin cfg0.N) (r : Fin 2048) (k : Fin 1024) :
    (iblk m c 0 t : FVec Ideal S2048x1024 .f32) (ix2 r k) = A0 m c (ix2 (row t r) k) := by
  blk_ext [iblk, V, idx t, row]

theorem g_at (c : Dev nD) (t : Fin cfg0.N) (k : Fin 1024) :
    (iblk m c 1 t : FVec Ideal S1x1024 .f32) (ix2 0 k) = A1 m c (ix1 k) := by
  have e : ((cfg0.win 1).blk t).view.emb (ix2 0 k) = ix2 0 k := by blk_ext [idx t]
  show V m c main_v0 (((cfg0.win 1).blk t).view.emb (ix2 0 k)) = _
  rw [e]
  entry_read
  pointwise

theorem w_at (c : Dev nD) (t : Fin cfg0.N) (j : Fin 768) (l : Fin 1024) :
    (iblk m c 2 t : FVec Ideal S768x1024 .bf16) (ix2 j l) = A2 m c (ix2 l (source (col t j))) := by
  have e : ((cfg0.win 2).blk t).view.emb (ix2 j l) = ix2 (source (col t j)) l := by
    rw [sourcecol]; blk_ext [idx t, wcol]
  show V m c main_v2 (((cfg0.win 2).blk t).view.emb (ix2 j l)) = _
  rw [e]
  entry_read
  pointwise

/-! ## What the steps leave -/

theorem norm_lead (c : Dev nD) (t : Fin cfg0.N) (r : Fin 2048) (k : Fin 1024) :
    k0_pay1 (F := Ideal) (iblk m c 0 (lead t)) (iblk m c 1 (lead t)) (ix2 r k) = norm (A0 m c) (A1 m c) (row t r) k := by
  rw [← row_lead t r]
  refine (pay1_at _ _ r k).trans (congrArg₂ (· * ·) ?_ (g_at m c (lead t) k))
  exact congrArg₂ (fun (a : EReal) (b : Fin 1024 → EReal) => a * rr b) (x_at m c (lead t) r k) (funext fun l => x_at m c (lead t) r l)

theorem rows_at (c : Dev nD) (t : Fin cfg0.N) (r : Fin 2048) (k : Fin 1024) :
    rows (F := Ideal) m c t (ix2 r k) = norm (A0 m c) (A1 m c) (row t r) k :=
  (pay2_at _ _ r k).trans (norm_lead m c t r k)

theorem rowsOut_at (c : Dev nD) (t : Fin cfg0.N) (r : Fin 2048) (k : Fin 1024) :
    rowsOut (F := Ideal) m c t (ix2 r k) = norm (A0 m c) (A1 m c) (row t r) k :=
  (pay3_at _ _ r k).trans (norm_lead m c t r k)

theorem prod_at (c : Dev nD) (t : Fin cfg0.N) (r : Fin 2048) (j : Fin 768) :
    k0_pay4 (F := Ideal) (rows m c t) (iblk m c 2 t) (ix2 r j) = prod (A0 m c) (A1 m c) (A2 m c) (row t r) (source (col t j)) :=
  (pay4_at _ _ r j).trans (Finset.sum_congr rfl fun l _ => congrArg₂ (· * ·) (rows_at m c t r l) (w_at m c t j l))

theorem final3 (c : Dev nD) : (dats m 0 c).arrAt 3 cfg0.N
    = Cert.Reference9Ideal.Read.val_main_v17 (F := Ideal) (A0 m c) (A1 m c) (A2 m c) := by
  refine (dats m 0 c).arrAt_eq_of_covers 3 _ (by decide +kernel) fun t hf y => ?_
  blk_simp
  rw [after3]
  idx_vars y
  refine Eq.trans ?_ (congrArg _ (emb3 t y0 y1).symm)
  exact (prod_at m c t y0 y1).trans (Cert.InRef.p_at _ _ _ (row t y0) (col t y1)).symm

theorem final4 (c : Dev nD) : (dats m 0 c).arrAt 4 cfg0.N
    = Cert.Reference9Ideal.Read.val_main_v18 (F := Ideal) (A0 m c) (A1 m c) := by
  refine (dats m 0 c).arrAt_eq_of_covers 4 _ (by decide +kernel) fun t hf y => ?_
  blk_simp
  rw [after4]
  idx_vars y
  refine Eq.trans ?_ (congrArg _ (emb4 t y0 y1).symm)
  exact (rowsOut_at m c t y0 y1).trans (Cert.InRef.h_at _ _ (row t y0) y1).symm

end Cert.InValue

end
-- ==== Proof.InProjClaim.lean ====
module

public import proofs.«01_k».proof.Defs
public import proofs.«01_k».proof.Proof.InBits
public import proofs.«01_k».proof.Proof.InValue
public import proofs.«01_k».proof.Proof.Gen.Reference9Ideal.Read
public import Idealize.ShloMosaic.Lib.Claim

@[expose] public section

/-! The claims about the input projection (`Kernel9`). -/

namespace Cert.InProjClaim

open Idealize.ShloMosaic Idealize.ShloMosaic.TcCoe Idealize.SL.Sem

theorem frame_kernel : Cert.quiescent_Kernel9 := fun m ρ _ => Cert.InBits.frame m ρ

theorem frame_ideal : Cert.quiescent_Kernel9Ideal := fun m ρ _ => Cert.InFrame.frame m ρ

theorem frame_reference : Cert.quiescent_Reference9Ideal := fun m ρ _ =>
  (θ_run Cert.Reference9Ideal.defs _ _).mono (fun r h => ⟨fun c => (h c).2.2, sem_eq_zero_of_no_sems (by decide) r.2⟩)
    (Cert.Reference9Ideal.Value.run m ρ)

/-- The run with both result arrays named and the arguments unchanged. -/
theorem run_named (m : (ℓ : Loc Cert.Kernel9Ideal.nD Cert.Kernel9Ideal.τ Cert.Kernel9Ideal.sig) → Buf (Elt Ideal) ℓ) (ρ : Dev Cert.Kernel9Ideal.nD → PrngReg) :
    θ_run Cert.Kernel9Ideal.defs (onTc (τ := Cert.Kernel9Ideal.τ) (Cert.Kernel9Ideal.main (F := Ideal))) ⟨m, fun _ => 0, ρ⟩ fun r => ∀ c : Dev Cert.Kernel9Ideal.nD,
      r.2.mem ((c.tc : Thread Cert.Kernel9Ideal.nD Cert.Kernel9Ideal.τ).loc Cert.Kernel9Ideal.main_v3_0) = (Cert.InFrame.dats m 0 c).arrAt 3 Cert.Kernel9Ideal.cfg0.N
      ∧ r.2.mem ((c.tc : Thread Cert.Kernel9Ideal.nD Cert.Kernel9Ideal.τ).loc Cert.Kernel9Ideal.main_v3_1) = (Cert.InFrame.dats m 0 c).arrAt 4 Cert.Kernel9Ideal.cfg0.N
      ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2) :=
  (θ_run Cert.Kernel9Ideal.defs _ _).mono (fun _ h c => ⟨(h.1.1 c).1 3, (h.1.1 c).1 4, h.2.1 c⟩)
    (θ_run_and (Cert.InFrame.run m ρ) (Cert.InFrame.frame m ρ))

theorem algebraic : Cert.algebraic_Kernel9Ideal_Reference9Ideal := by
  intro m g m' g' _ hagree
  refine ⟨_, _, run_named m g, (θ_run Cert.Reference9Ideal.defs _ _).mono (fun r h c => ?_)
    (Cert.Reference9Ideal.Value.run m' g')⟩
  obtain ⟨h0, h1, h2⟩ := hagree c
  obtain ⟨r0, r1, rest⟩ := h c
  refine ⟨r0.trans ?_, r1.trans ?_, rest⟩
  · rw [Cert.Reference9Ideal.Read.val_main_v17_eq, h0, h1, h2]
    exact (Cert.InValue.final3 m c).symm
  · rw [Cert.Reference9Ideal.Read.val_main_v18_eq, h0, h1]
    exact (Cert.InValue.final4 m c).symm

end Cert.InProjClaim
-- ==== Proof.FfnFwdBlock.lean ====
module

public import proofs.«01_k».proof.Proof.Gen.Kernel10Ideal.Frame
public import proofs.«01_k».proof.Proof.Rms
public import proofs.«01_k».proof.Proof.Conv

@[expose] public section

set_option maxRecDepth 16384

noncomputable section

/-! What one block of 512 rows computes. -/

namespace Cert.FfnFwdBlock

open Idealize.ShloMosaic Idealize.ShloMosaic.TcCoe Idealize.SL.Sem Cert.Kernel10Ideal Cert.Kernel10Ideal.Gen Cert.Rms Cert.Conv

open scoped BigOperators

/-- The convolved columns: the block's rows are rows `T ..` of a column, the carried rows the eight before them. -/
theorem pay5_at (v3 : FVec Ideal S512x2816 .bf16) (v6 : FVec Ideal S8x2816 .f32) (v7 : FVec Ideal S3x2816 .f32) (r : Fin 512) (j : Fin 2816)
    {x : Fin 4096 → EReal} {T : Nat} (h0 : ∀ r : Fin 512, v3 (ix2 r j) = past x (T + r.val + 8)) (h1 : ∀ q : Fin 8, v6 (ix2 q j) = past x (T + q.val)) :
    k0_pay5 (F := Ideal) v3 v6 v7 (ix2 r j) = conv (fun k => v7 (ix2 k j)) x (T + r.val) := by
  pointwise [k0_pay5, k0_pay4, conv]
  refine congrArg₂ (· + ·) (congrArg₂ (· + ·) (congrArg₂ (· * ·) rfl ?_) (congrArg₂ (· * ·) rfl ?_)) (congrArg₂ (· * ·) rfl (h0 r))
  · split
    · exact (h1 _).trans (congrArg (past x) (show T + (8 + r.val + 520 - 2) % 520 = _ by omega))
    · exact (h0 _).trans (congrArg (past x) (show T + ((8 + r.val + 520 - 2) % 520 - 8) + 8 = _ by omega))
  · split
    · exact (h1 _).trans (congrArg (past x) (show T + (8 + r.val + 520 - 1) % 520 = _ by omega))
    · exact (h0 _).trans (congrArg (past x) (show T + ((8 + r.val + 520 - 1) % 520 - 8) + 8 = _ by omega))

theorem pay6_at (v3 : FVec Ideal S512x2816 .bf16) (v6 : FVec Ideal S8x2816 .f32) (v7 : FVec Ideal S3x2816 .f32) (r : Fin 512) (j : Fin 2816) :
    k0_pay6 (F := Ideal) v3 v6 v7 (ix2 r j) = k0_pay5 (F := Ideal) v3 v6 v7 (ix2 r j) := by
  pointwise [k0_pay6]

theorem pay7_at (v3 : FVec Ideal S512x2816 .bf16) (v6 : FVec Ideal S8x2816 .f32) (v7 : FVec Ideal S3x2816 .f32) (v28 : FVec Ideal S512x2816 .bf16)
    (r : Fin 512) (j : Fin 2816) :
    k0_pay7 (F := Ideal) v3 v6 v7 v28 (ix2 r j)
      = k0_pay5 (F := Ideal) v3 v6 v7 (ix2 r j) * sgm (k0_pay5 (F := Ideal) v3 v6 v7 (ix2 r j)) * v28 (ix2 r j) := by
  pointwise [k0_pay7, sgm, Ideal.logistic]

theorem pay8_at (v3 : FVec Ideal S512x2816 .bf16) (v6 : FVec Ideal S8x2816 .f32) (v7 : FVec Ideal S3x2816 .f32) (v28 : FVec Ideal S512x2816 .bf16)
    (v34 : FVec Ideal S2816x1024 .bf16) (r : Fin 512) (k : Fin 1024) :
    k0_pay8 (F := Ideal) v3 v6 v7 v28 v34 (ix2 r k) = ∑ l : Fin 2816, k0_pay7 (F := Ideal) v3 v6 v7 v28 (ix2 r l) * v34 (ix2 l k) := by
  pointwise [k0_pay8]

theorem pay1_at (v36 : FVec Ideal S512x1024 .f32) (v38 : FVec Ideal S512x1024 .f32) (v39 : FVec Ideal S1x1024 .f32) (r : Fin 512) (k : Fin 1024) :
    k0_pay1 (F := Ideal) v36 v38 v39 (ix2 r k) = v38 (ix2 r k) + v36 (ix2 r k) * rr (fun l => v36 (ix2 r l)) * v39 (ix2 0 k) := by
  pointwise [k0_pay1, rr, msq]

theorem pay2_at (v3 : FVec Ideal S512x2816 .bf16) (q : Fin 8) (j : Fin 2816) :
    k0_pay2 (k0_pay4 (F := Ideal) v3) (ix2 q j) = v3 (ix2 ⟨504 + q.val, by omega⟩ j) := by
  pointwise [k0_pay2, k0_pay4]

theorem pay3_at (q : Fin 8) (j : Fin 2816) : k0_pay3 (F := Ideal) (ix2 q j) = 0 := by
  pointwise [k0_pay3]

end Cert.FfnFwdBlock

end
-- ==== Proof.FfnFwdRef.lean ====
module

public import proofs.«01_k».proof.Proof.Gen.Reference10Ideal.Read
public import proofs.«01_k».proof.Proof.Rms
public import proofs.«01_k».proof.Proof.Conv

@[expose] public section

set_option maxRecDepth 16384

noncomputable section

/-! The reference's results, entry by entry. -/

namespace Cert.FfnFwdRef

open Idealize.ShloMosaic Cert.Reference10Ideal Cert.Reference10Ideal.Read Cert.Rms Cert.Conv

open scoped BigOperators

/-- The convolution's weights of column `j`, and the column itself. -/
abbrev wcol (x2 : FVec Ideal S3x2816 .f32) (j : Fin 2816) : Fin 3 → EReal := fun k => x2 (ix2 k j)
abbrev ucol (x1 : FVec Ideal S4096x5632 .f32) (j : Fin 2816) : Fin 4096 → EReal := fun i => x1 (ix2 i ⟨j.val, by omega⟩)

theorem ext_at (x1 : FVec Ideal S4096x5632 .f32) (n : Fin 4098) (j : Fin 2816) :
    val_main_v3 (F := Ideal) x1 (ix2 n j) = past (ucol x1 j) (n.val + 6) := by
  pointwise [val_main_v3, val_main_v2, val_main_v0, val_main_cst]
  split
  · next h => exact (past_zero (by omega)).symm
  · next h => exact (past_of (x := ucol x1 j) ⟨n.val - 2, by omega⟩ (by show n.val + 6 = n.val - 2 + 8; omega)).symm

theorem conv_at (x1 : FVec Ideal S4096x5632 .f32) (x2 : FVec Ideal S3x2816 .f32) (i : Fin 4096) (j : Fin 2816) :
    val_main_v23 (F := Ideal) x1 x2 (ix2 i j) = conv (wcol x2 j) (ucol x1 j) i.val := by
  have e : val_main_v23 (F := Ideal) x1 x2 (ix2 i j)
      = (x2 (ix2 0 j) * val_main_v3 (F := Ideal) x1 (ix2 ⟨i.val, by omega⟩ j) + x2 (ix2 1 j) * val_main_v3 (F := Ideal) x1 (ix2 ⟨1 + i.val, by omega⟩ j))
        + x2 (ix2 2 j) * val_main_v3 (F := Ideal) x1 (ix2 ⟨2 + i.val, by omega⟩ j) := by
    pointwise [val_main_v23, val_main_v22, val_main_v21, val_main_v20, val_main_v19, val_main_v18, val_main_v17, val_main_v16, val_main_v15, val_main_v14,
      val_main_v13, val_main_v12, val_main_v11, val_main_v10, val_main_v9, val_main_v8, val_main_v7, val_main_v6, val_main_v5, val_main_v4]
  rw [e, ext_at, ext_at, ext_at]
  unfold conv
  rw [show 1 + i.val + 6 = i.val + 7 by omega, show 2 + i.val + 6 = i.val + 8 by omega]

theorem c_at (x1 : FVec Ideal S4096x5632 .f32) (x2 : FVec Ideal S3x2816 .f32) (i : Fin 4096) (j : Fin 2816) :
    val_main_v42 (F := Ideal) x1 x2 (ix2 i j) = conv (wcol x2 j) (ucol x1 j) i.val := by
  refine Eq.trans ?_ (conv_at x1 x2 i j)
  pointwise [val_main_v42]

/-- The gated columns. -/
def gate (x1 : FVec Ideal S4096x5632 .f32) (x2 : FVec Ideal S3x2816 .f32) (i : Fin 4096) (j : Fin 2816) : EReal :=
  conv (wcol x2 j) (ucol x1 j) i.val * sgm (conv (wcol x2 j) (ucol x1 j) i.val) * x1 (ix2 i ⟨2816 + j.val, by omega⟩)

theorem gate_at (x1 : FVec Ideal S4096x5632 .f32) (x2 : FVec Ideal S3x2816 .f32) (i : Fin 4096) (j : Fin 2816) :
    val_main_v25 (F := Ideal) x1 x2 (ix2 i j) = gate x1 x2 i j := by
  have e : val_main_v25 (F := Ideal) x1 x2 (ix2 i j)
      = val_main_v23 (F := Ideal) x1 x2 (ix2 i j) * sgm (val_main_v23 (F := Ideal) x1 x2 (ix2 i j)) * x1 (ix2 i ⟨2816 + j.val, by omega⟩) := by
    pointwise [val_main_v25, val_main_v24, val_main_v1, val_main_call0_v5, val_main_call0_v4, val_main_call0_v3, val_main_call0_v2, val_main_call0_v1,
      val_main_call0_v0, val_main_call0_cst, val_main_call0_cst_0, sgm]
  rw [e, conv_at]
  rfl

theorem act_at (x1 : FVec Ideal S4096x5632 .f32) (x2 : FVec Ideal S3x2816 .f32) (i : Fin 4096) (j : Fin 2816) :
    val_main_v27 (F := Ideal) x1 x2 (ix2 i j) = gate x1 x2 i j := by
  refine Eq.trans ?_ (gate_at x1 x2 i j)
  pointwise [val_main_v27]

/-- The down projection of the gated columns. -/
def down (x1 : FVec Ideal S4096x5632 .f32) (x2 : FVec Ideal S3x2816 .f32) (x3 : FVec Ideal S2816x1024 .f32) (i : Fin 4096) (k : Fin 1024) : EReal :=
  ∑ l : Fin 2816, gate x1 x2 i l * x3 (ix2 l k)

theorem y_at (x1 : FVec Ideal S4096x5632 .f32) (x2 : FVec Ideal S3x2816 .f32) (x3 : FVec Ideal S2816x1024 .f32) (i : Fin 4096) (k : Fin 1024) :
    val_main_v26 (F := Ideal) x1 x2 x3 (ix2 i k) = down x1 x2 x3 i k := by
  have e : val_main_v26 (F := Ideal) x1 x2 x3 (ix2 i k) = ∑ l : Fin 2816, val_main_v25 (F := Ideal) x1 x2 (ix2 i l) * x3 (ix2 l k) := by
    pointwise [val_main_v26]
  exact e.trans (Finset.sum_congr rfl fun l _ => congrArg₂ (· * ·) (gate_at x1 x2 i l) rfl)

/-- The residual stream after the block. -/
theorem x_at (x0 : FVec Ideal S4096x1024 .f32) (x1 : FVec Ideal S4096x5632 .f32) (x2 : FVec Ideal S3x2816 .f32) (x3 : FVec Ideal S2816x1024 .f32)
    (x4 : FVec Ideal S1024 .f32) (i : Fin 4096) (k : Fin 1024) :
    val_main_v41 (F := Ideal) x0 x1 x2 x3 x4 (ix2 i k)
      = x0 (ix2 i k) + down x1 x2 x3 i k * rr (fun l => down x1 x2 x3 i l) * x4 (ix1 k) := by
  have e : val_main_v41 (F := Ideal) x0 x1 x2 x3 x4 (ix2 i k)
      = x0 (ix2 i k) + val_main_v26 (F := Ideal) x1 x2 x3 (ix2 i k) * rr (fun l => val_main_v26 (F := Ideal) x1 x2 x3 (ix2 i l)) * x4 (ix1 k) := by
    pointwise [val_main_v41, val_main_v40, val_main_v39, val_main_v38, val_main_v37, val_main_v36, val_main_v35, val_main_v34, val_main_v33, val_main_v32,
      val_main_v31, val_main_v30, val_main_v29, val_main_v28, val_main_cst_0, val_main_cst_1, val_main_cst_2, rr, msq]
  rw [e]
  simp only [y_at]

end Cert.FfnFwdRef

end
-- ==== Proof.FfnFwdValue.lean ====
module

public import proofs.«01_k».proof.Proof.FfnFwdBlock
public import proofs.«01_k».proof.Proof.FfnFwdRef
public import Idealize.ShloMosaic.Lib.Pipeline.ReadBack

@[expose] public section

set_option maxRecDepth 16384

noncomputable section

/-! The arrays the feed-forward call leaves: each block of 512 rows, with the eight rows carried from the block before. -/

namespace Cert.FfnFwdValue

open Idealize.ShloMosaic Idealize.ShloMosaic.TcCoe Idealize.SL.Sem Cert.Kernel10Ideal Cert.Kernel10Ideal.Gen Cert.Rms Cert.Conv Cert.FfnFwdBlock
open Cert.FfnFwdRef (wcol ucol gate down)
open Idealize.ShloMosaic.Pipeline (Dat)

open scoped BigOperators

variable (m : (ℓ : Loc nD τ sig) → Buf (Elt Ideal) ℓ)

theorem idx : ∀ t : Fin cfg0.N, win0_0.index t = ![t.val, 0] ∧ win0_1.index t = ![t.val, 0] ∧ win0_2.index t = ![t.val, 1]
    ∧ win0_3.index t = ![0, 0] ∧ win0_4.index t = ![0, 0] ∧ win0_5.index t = ![0, 0] ∧ win0_6.index t = ![t.val, 0]
    ∧ win0_7.index t = ![t.val, 0] ∧ win0_8.index t = ![t.val, 0] ∧ win0_9.index t = ![t.val, 0] :=
  (by decide +kernel : ∀ t : Fin grid0.N, _)

/-- The array's row that row `r` of block `t` is. -/
def row (t : Fin cfg0.N) (r : Fin 512) : Fin 4096 :=
  ⟨t.val * 512 + r.val, by have := t.isLt; change t.val < 8 at this; omega⟩

/-- The arguments of the call, at their types. -/
abbrev A0 (c : Dev nD) : FVec Ideal S4096x1024 .f32 := m ((c.tc : Thread nD τ).loc main_arg0)
abbrev A1 (c : Dev nD) : FVec Ideal S4096x5632 .f32 := m ((c.tc : Thread nD τ).loc main_arg1)
abbrev A2 (c : Dev nD) : FVec Ideal S3x2816 .f32 := m ((c.tc : Thread nD τ).loc main_arg2)
abbrev A3 (c : Dev nD) : FVec Ideal S2816x1024 .f32 := m ((c.tc : Thread nD τ).loc main_arg3)
abbrev A4 (c : Dev nD) : FVec Ideal S1024 .f32 := m ((c.tc : Thread nD τ).loc main_arg4)

theorem emb6 (t : Fin cfg0.N) (r : Fin 512) (l : Fin 2816) : ((cfg0.win 6).blk t).view.emb (ix2 r l) = ix2 (row t r) l := by
  blk_ext [idx t, row]

theorem emb7 (t : Fin cfg0.N) (r : Fin 512) (l : Fin 1024) : ((cfg0.win 7).blk t).view.emb (ix2 r l) = ix2 (row t r) l := by
  blk_ext [idx t, row]

theorem emb8 (t : Fin cfg0.N) (r : Fin 512) (l : Fin 1024) : ((cfg0.win 8).blk t).view.emb (ix2 r l) = ix2 (row t r) l := by
  blk_ext [idx t, row]

theorem emb9 (t : Fin cfg0.N) (r : Fin 512) (l : Fin 2816) : ((cfg0.win 9).blk t).view.emb (ix2 r l) = ix2 (row t r) l := by
  blk_ext [idx t, row]

theorem ua_at (c : Dev nD) (t : Fin cfg0.N) (r : Fin 512) (j : Fin 2816) :
    (iblk m c 1 t : FVec Ideal S512x2816 .bf16) (ix2 r j) = ucol (A1 m c) j (row t r) := by
  have e : ((cfg0.win 1).blk t).view.emb (ix2 r j) = ix2 (row t r) ⟨j.val, by omega⟩ := by blk_ext [idx t, row]
  show V m c main_v0 (((cfg0.win 1).blk t).view.emb (ix2 r j)) = _
  rw [e]
  entry_read
  pointwise

theorem ub_at (c : Dev nD) (t : Fin cfg0.N) (r : Fin 512) (j : Fin 2816) :
    (iblk m c 2 t : FVec Ideal S512x2816 .bf16) (ix2 r j) = A1 m c (ix2 (row t r) ⟨2816 + j.val, by omega⟩) := by
  have e : ((cfg0.win 2).blk t).view.emb (ix2 r j) = ix2 (row t r) ⟨2816 + j.val, by omega⟩ := by blk_ext [idx t, row]
  show V m c main_v0 (((cfg0.win 2).blk t).view.emb (ix2 r j)) = _
  rw [e]
  entry_read
  pointwise

theorem w_at (c : Dev nD) (t : Fin cfg0.N) (l : Fin 2816) (k : Fin 1024) :
    (iblk m c 4 t : FVec Ideal S2816x1024 .bf16) (ix2 l k) = A3 m c (ix2 l k) := by
  have e : ((cfg0.win 4).blk t).view.emb (ix2 l k) = ix2 l k := by blk_ext [idx t]
  show V m c main_v1 (((cfg0.win 4).blk t).view.emb (ix2 l k)) = _
  rw [e]
  entry_read
  pointwise

theorem g_at (c : Dev nD) (t : Fin cfg0.N) (k : Fin 1024) :
    (iblk m c 5 t : FVec Ideal S1x1024 .f32) (ix2 0 k) = A4 m c (ix1 k) := by
  have e : ((cfg0.win 5).blk t).view.emb (ix2 0 k) = ix2 0 k := by blk_ext [idx t]
  show V m c main_v2 (((cfg0.win 5).blk t).view.emb (ix2 0 k)) = _
  rw [e]
  entry_read
  pointwise

theorem x_at (c : Dev nD) (t : Fin cfg0.N) (r : Fin 512) (k : Fin 1024) :
    (iblk m c 0 t : FVec Ideal S512x1024 .f32) (ix2 r k) = A0 m c (ix2 (row t r) k) := by
  blk_ext [iblk, V, idx t, row]

theorem cw_at (c : Dev nD) (t : Fin cfg0.N) (k : Fin 3) (j : Fin 2816) :
    (iblk m c 3 t : FVec Ideal S3x2816 .f32) (ix2 k j) = A2 m c (ix2 k j) := by
  blk_ext [iblk, V, idx t]

/-- What the carried rows hold before block `t`: the eight rows above it. -/
def Above (c : Dev nD) (t : Fin cfg0.N) (z : FVec Ideal S8x2816 .f32) : Prop :=
  ∀ (q : Fin 8) (j : Fin 2816), z (ix2 q j) = past (ucol (A1 m c) j) (t.val * 512 + q.val)

theorem above_zero (c : Dev nD) (t : Fin cfg0.N) (h0 : t.val % 8 = 0) : Above m c t (k0_pay3 (F := Ideal)) := by
  intro q j
  have := t.isLt
  change t.val < 8 at this
  exact (pay3_at q j).trans (past_zero (by omega)).symm

/-- Every block leaves its last eight rows. -/
theorem carried (c : Dev nD) (t : Fin cfg0.N) (q : Fin 8) (j : Fin 2816) :
    ((outsAt0 m c t.val t.isLt).2.2.2.2 : FVec Ideal S8x2816 .f32) (ix2 q j) = ucol (A1 m c) j (row t ⟨504 + q.val, by omega⟩) := by
  by_cases h0 : t.val % 8 = 0
  · rw [outsAt0_A m c t h0]
    frame_out
    exact (pay2_at _ q j).trans (ua_at m c t _ j)
  · rw [outsAt0_B m c t h0]
    frame_out
    exact (pay2_at _ q j).trans (ua_at m c t _ j)

theorem above_step (c : Dev nD) (t : Fin cfg0.N) (h0 : ¬ t.val % 8 = 0) (h : t.val - 1 < cfg0.N) :
    Above m c t (outsAt0 m c (t.val - 1) h).2.2.2.2 := by
  intro q j
  refine (carried m c ⟨t.val - 1, h⟩ q j).trans (past_of _ ?_).symm
  show t.val * 512 + q.val = (t.val - 1) * 512 + (504 + q.val) + 8
  omega

theorem conv_at (c : Dev nD) (t : Fin cfg0.N) {z : FVec Ideal S8x2816 .f32} (hz : Above m c t z) (r : Fin 512) (j : Fin 2816) :
    k0_pay5 (F := Ideal) (iblk m c 1 t) z (iblk m c 3 t) (ix2 r j) = conv (wcol (A2 m c) j) (ucol (A1 m c) j) (row t r).val := by
  refine (pay5_at _ _ _ r j (x := ucol (A1 m c) j) (T := t.val * 512) (fun r => (ua_at m c t r j).trans (past_of _ rfl).symm) fun q => hz q j).trans ?_
  exact congrArg (fun w => conv w (ucol (A1 m c) j) (row t r).val) (funext fun k => cw_at m c t k j)

theorem gate_at (c : Dev nD) (t : Fin cfg0.N) {z : FVec Ideal S8x2816 .f32} (hz : Above m c t z) (r : Fin 512) (j : Fin 2816) :
    k0_pay7 (F := Ideal) (iblk m c 1 t) z (iblk m c 3 t) (iblk m c 2 t) (ix2 r j) = gate (A1 m c) (A2 m c) (row t r) j := by
  refine (pay7_at _ _ _ _ r j).trans ?_
  exact congrArg₂ (fun a b : EReal => a * sgm a * b) (conv_at m c t hz r j) (ub_at m c t r j)

theorem down_at (c : Dev nD) (t : Fin cfg0.N) {z : FVec Ideal S8x2816 .f32} (hz : Above m c t z) (r : Fin 512) (k : Fin 1024) :
    k0_pay8 (F := Ideal) (iblk m c 1 t) z (iblk m c 3 t) (iblk m c 2 t) (iblk m c 4 t) (ix2 r k) = down (A1 m c) (A2 m c) (A3 m c) (row t r) k :=
  (pay8_at _ _ _ _ _ r k).trans (Finset.sum_congr rfl fun l _ => congrArg₂ (· * ·) (gate_at m c t hz r l) (w_at m c t l k))

theorem point6 (c : Dev nD) (t : Fin cfg0.N) {z : FVec Ideal S8x2816 .f32} (hz : Above m c t z) (y : S512x2816.Idx) :
    k0_pay7 (F := Ideal) (iblk m c 1 t) z (iblk m c 3 t) (iblk m c 2 t) y
      = Cert.Reference10Ideal.Read.val_main_v27 (F := Ideal) (A1 m c) (A2 m c) (((cfg0.win 6).blk t).view.emb y) := by
  idx_vars y
  refine Eq.trans ?_ (congrArg _ (emb6 t y0 y1).symm)
  exact (gate_at m c t hz y0 y1).trans (Cert.FfnFwdRef.act_at _ _ (row t y0) y1).symm

theorem point7 (c : Dev nD) (t : Fin cfg0.N) {z : FVec Ideal S8x2816 .f32} (hz : Above m c t z) (y : S512x1024.Idx) :
    k0_pay8 (F := Ideal) (iblk m c 1 t) z (iblk m c 3 t) (iblk m c 2 t) (iblk m c 4 t) y
      = Cert.Reference10Ideal.Read.val_main_v26 (F := Ideal) (A1 m c) (A2 m c) (A3 m c) (((cfg0.win 7).blk t).view.emb y) := by
  idx_vars y
  refine Eq.trans ?_ (congrArg _ (emb7 t y0 y1).symm)
  exact (down_at m c t hz y0 y1).trans (Cert.FfnFwdRef.y_at _ _ _ (row t y0) y1).symm

theorem point8 (c : Dev nD) (t : Fin cfg0.N) {z : FVec Ideal S8x2816 .f32} (hz : Above m c t z) (y : S512x1024.Idx) :
    k0_pay1 (F := Ideal) (k0_pay8 (F := Ideal) (iblk m c 1 t) z (iblk m c 3 t) (iblk m c 2 t) (iblk m c 4 t)) (iblk m c 0 t) (iblk m c 5 t) y
      = Cert.Reference10Ideal.Read.val_main_v41 (F := Ideal) (A0 m c) (A1 m c) (A2 m c) (A3 m c) (A4 m c) (((cfg0.win 8).blk t).view.emb y) := by
  idx_vars y
  refine Eq.trans ?_ (congrArg _ (emb8 t y0 y1).symm)
  refine Eq.trans ?_ (Cert.FfnFwdRef.x_at _ _ _ _ _ (row t y0) y1).symm
  refine (pay1_at _ _ _ y0 y1).trans (congrArg₂ (· + ·) (x_at m c t y0 y1) (congrArg₂ (· * ·) ?_ (g_at m c t y1)))
  exact congrArg₂ (fun (a : EReal) (b : Fin 1024 → EReal) => a * rr b) (down_at m c t hz y0 y1) (funext fun l => down_at m c t hz y0 l)

theorem point9 (c : Dev nD) (t : Fin cfg0.N) {z : FVec Ideal S8x2816 .f32} (hz : Above m c t z) (y : S512x2816.Idx) :
    k0_pay6 (F := Ideal) (iblk m c 1 t) z (iblk m c 3 t) y
      = Cert.Reference10Ideal.Read.val_main_v42 (F := Ideal) (A1 m c) (A2 m c) (((cfg0.win 9).blk t).view.emb y) := by
  idx_vars y
  refine Eq.trans ?_ (congrArg _ (emb9 t y0 y1).symm)
  exact ((pay6_at _ _ _ y0 y1).trans (conv_at m c t hz y0 y1)).trans (Cert.FfnFwdRef.c_at _ _ (row t y0) y1).symm

theorem final6 (c : Dev nD) : (dats m 0 c).arrAt 6 (cfgs 0).N
    = Cert.Reference10Ideal.Read.val_main_v27 (F := Ideal) (A1 m c) (A2 m c) := by
  refine (dats m 0 c).arrAt_eq_of_covers 6 _ (by decide +kernel) fun t hf y => ?_
  blk_simp
  rw [after0_6]
  by_cases h0 : t.val % 8 = 0
  · rw [outsAt0_A m c t h0]
    frame_out
    exact point6 m c t (above_zero m c t h0) y
  · rw [outsAt0_B m c t h0]
    frame_out
    rw [read_unread_whole]
    exact point6 m c t (above_step m c t h0 (Nat.lt_of_le_of_lt (Nat.sub_le _ _) t.isLt)) y

theorem final7 (c : Dev nD) : (dats m 0 c).arrAt 7 (cfgs 0).N
    = Cert.Reference10Ideal.Read.val_main_v26 (F := Ideal) (A1 m c) (A2 m c) (A3 m c) := by
  refine (dats m 0 c).arrAt_eq_of_covers 7 _ (by decide +kernel) fun t hf y => ?_
  blk_simp
  rw [after0_7]
  by_cases h0 : t.val % 8 = 0
  · rw [outsAt0_A m c t h0]
    frame_out
    exact point7 m c t (above_zero m c t h0) y
  · rw [outsAt0_B m c t h0]
    frame_out
    rw [read_unread_whole]
    exact point7 m c t (above_step m c t h0 (Nat.lt_of_le_of_lt (Nat.sub_le _ _) t.isLt)) y

theorem final8 (c : Dev nD) : (dats m 0 c).arrAt 8 (cfgs 0).N
    = Cert.Reference10Ideal.Read.val_main_v41 (F := Ideal) (A0 m c) (A1 m c) (A2 m c) (A3 m c) (A4 m c) := by
  refine (dats m 0 c).arrAt_eq_of_covers 8 _ (by decide +kernel) fun t hf y => ?_
  blk_simp
  rw [after0_8]
  by_cases h0 : t.val % 8 = 0
  · rw [outsAt0_A m c t h0]
    frame_out
    exact point8 m c t (above_zero m c t h0) y
  · rw [outsAt0_B m c t h0]
    frame_out
    rw [read_unread_whole]
    exact point8 m c t (above_step m c t h0 (Nat.lt_of_le_of_lt (Nat.sub_le _ _) t.isLt)) y

theorem final9 (c : Dev nD) : (dats m 0 c).arrAt 9 (cfgs 0).N
    = Cert.Reference10Ideal.Read.val_main_v42 (F := Ideal) (A1 m c) (A2 m c) := by
  refine (dats m 0 c).arrAt_eq_of_covers 9 _ (by decide +kernel) fun t hf y => ?_
  blk_simp
  rw [after0_9]
  by_cases h0 : t.val % 8 = 0
  · rw [outsAt0_A m c t h0]
    frame_out
    exact point9 m c t (above_zero m c t h0) y
  · rw [outsAt0_B m c t h0]
    frame_out
    rw [read_unread_whole]
    exact point9 m c t (above_step m c t h0 (Nat.lt_of_le_of_lt (Nat.sub_le _ _) t.isLt)) y

end Cert.FfnFwdValue

end
-- ==== Proof.FfnFwdClaim.lean ====
module

public import proofs.«01_k».proof.Defs
public import proofs.«01_k».proof.Proof.FfnFwdValue
public import proofs.«01_k».proof.Proof.Gen.Kernel10.Frame
public import proofs.«01_k».proof.Proof.Gen.Kernel10Ideal.Value
public import proofs.«01_k».proof.Proof.Gen.Reference10Ideal.Read
public import Idealize.ShloMosaic.Lib.Claim

@[expose] public section

/-! The claims about the gated convolutional feed-forward block (`Kernel10`). -/

namespace Cert.FfnFwdClaim

open Idealize.ShloMosaic Idealize.SL.Sem

theorem frame_kernel : Cert.quiescent_Kernel10 := fun m ρ _ => Cert.Kernel10.Gen.frame m ρ

theorem frame_ideal : Cert.quiescent_Kernel10Ideal := fun m ρ _ => Cert.Kernel10Ideal.Gen.frame m ρ

theorem frame_reference : Cert.quiescent_Reference10Ideal := fun m ρ _ =>
  (θ_run Cert.Reference10Ideal.defs _ _).mono (fun r h => ⟨fun c => (h c).2.2.2.2, sem_eq_zero_of_no_sems (by decide) r.2⟩)
    (Cert.Reference10Ideal.Value.run m ρ)

theorem algebraic : Cert.algebraic_Kernel10Ideal_Reference10Ideal := by
  intro m g m' g' _ hagree
  refine ⟨_, _, _, _, Cert.Kernel10Ideal.Value.run_blocks m g, (θ_run Cert.Reference10Ideal.defs _ _).mono (fun r h c => ?_)
    (Cert.Reference10Ideal.Value.run m' g')⟩
  obtain ⟨h0, h1, h2, h3, h4⟩ := hagree c
  obtain ⟨r0, r1, r2, r3, rest⟩ := h c
  refine ⟨r0.trans ?_, r1.trans ?_, r2.trans ?_, r3.trans ?_, rest⟩
  · rw [Cert.Reference10Ideal.Read.val_main_v27_eq, h1, h2]
    exact (Cert.FfnFwdValue.final6 m c).symm
  · rw [Cert.Reference10Ideal.Read.val_main_v26_eq, h1, h2, h3]
    exact (Cert.FfnFwdValue.final7 m c).symm
  · rw [Cert.Reference10Ideal.Read.val_main_v41_eq, h0, h1, h2, h3, h4]
    exact (Cert.FfnFwdValue.final8 m c).symm
  · rw [Cert.Reference10Ideal.Read.val_main_v42_eq, h1, h2]
    exact (Cert.FfnFwdValue.final9 m c).symm

end Cert.FfnFwdClaim
-- ==== Proof.FfnBwdBlock.lean ====
module

public import proofs.«01_k».proof.Proof.Gen.Kernel11Ideal.Frame
public import proofs.«01_k».proof.Proof.Rms
public import proofs.«01_k».proof.Proof.Shift

@[expose] public section

set_option maxRecDepth 16384

noncomputable section

/-! What one block of 256 rows computes. -/

namespace Cert.FfnBwdBlock

open Idealize.ShloMosaic Idealize.ShloMosaic.TcCoe Idealize.SL.Sem Cert.Kernel11Ideal Cert.Kernel11Ideal.Gen Cert.Rms Cert.Conv

open scoped BigOperators

/-- The gradient of the block's output, row by row. -/
theorem pay9_at (v3 v4 : FVec Ideal S256x1024 .f32) (v6 : FVec Ideal S1x1024 .f32) (r : Fin 256) (k : Fin 1024) :
    k0_pay9 (F := Ideal) v3 v4 v6 (ix2 r k) = bwd (fun l => v4 (ix2 r l)) (fun l => v3 (ix2 r l) * v6 (ix2 0 l)) k := by
  pointwise [k0_pay9, k0_pay8, k0_pay7, bwd, rr, msq]

theorem pay12_at (d : FVec Ideal S256x1024 .f32) (r : Fin 256) (k : Fin 1024) : k0_pay12 (F := Ideal) d (ix2 r k) = d (ix2 r k) := by
  pointwise [k0_pay12]

/-- What the block adds to the gain's gradient. -/
theorem pay10_at (v3 v4 : FVec Ideal S256x1024 .f32) (k : Fin 1024) :
    k0_pay10 (F := Ideal) v3 v4 (ix2 0 k) = ∑ r : Fin 256, v3 (ix2 r k) * (v4 (ix2 r k) * rr fun l => v4 (ix2 r l)) := by
  pointwise [k0_pay10, k0_pay8, k0_pay7, rr, msq]

theorem pay11_at (a : FVec Ideal S1x1024 .f32) (b : FVec Ideal S1x1024 .f32) (k : Fin 1024) :
    k0_pay11 (F := Ideal) a b (ix2 0 k) = b (ix2 0 k) + a (ix2 0 k) := by
  pointwise [k0_pay11]

theorem pay13_at (d : FVec Ideal S256x1024 .f32) (w : FVec Ideal S2816x1024 .bf16) (r : Fin 256) (j : Fin 2816) :
    k0_pay13 (F := Ideal) d w (ix2 r j) = ∑ k : Fin 1024, d (ix2 r k) * w (ix2 j k) := by
  pointwise [k0_pay13, k0_pay12]

theorem pay17_at (d : FVec Ideal S256x1024 .f32) (w : FVec Ideal S2816x1024 .bf16) (c : FVec Ideal S256x2816 .bf16) (r : Fin 256) (j : Fin 2816) :
    k0_pay17 (F := Ideal) d w c (ix2 r j) = k0_pay13 (F := Ideal) d w (ix2 r j) * (c (ix2 r j) * sgm (c (ix2 r j))) := by
  pointwise [k0_pay17, k0_pay15, k0_pay16, sgm, Ideal.logistic]

/-- The gradient of the convolved columns. -/
theorem pay18_at (d : FVec Ideal S256x1024 .f32) (w : FVec Ideal S2816x1024 .bf16) (c ub : FVec Ideal S256x2816 .bf16) (r : Fin 256) (j : Fin 2816) :
    k0_pay18 (F := Ideal) d w c ub (ix2 r j)
      = k0_pay13 (F := Ideal) d w (ix2 r j) * ub (ix2 r j) * (sgm (c (ix2 r j)) * (1 + c (ix2 r j) * (1 - sgm (c (ix2 r j))))) := by
  pointwise [k0_pay18, k0_pay15, k0_pay16, sgm, Ideal.logistic]

theorem pay14_at (u : FVec Ideal S256x2816 .bf16) (r : Fin 256) (j : Fin 2816) : k0_pay14 (F := Ideal) u (ix2 r j) = u (ix2 r j) := by
  pointwise [k0_pay14]

theorem pay5_at (d : FVec Ideal S256x2816 .f32) (q : Fin 8) (j : Fin 2816) : k0_pay5 (F := Ideal) d (ix2 q j) = d (ix2 ⟨q.val, by omega⟩ j) := by
  pointwise [k0_pay5]

theorem pay6_at (q : Fin 8) (j : Fin 2816) : k0_pay6 (F := Ideal) (ix2 q j) = 0 := by
  pointwise [k0_pay6]

section Rows

variable (d : FVec Ideal S256x1024 .f32) (w : FVec Ideal S2816x1024 .bf16) (c ub : FVec Ideal S256x2816 .bf16) (z : FVec Ideal S8x2816 .f32) (j : Fin 2816)
variable {x : Fin 4096 → EReal} {T : Nat}

/-- The block's rows with the eight below: rows `T ..` of the column. -/
theorem ext_at (h0 : ∀ r : Fin 256, k0_pay18 (F := Ideal) d w c ub (ix2 r j) = after x (T + r.val)) (h1 : ∀ q : Fin 8, z (ix2 q j) = after x (T + 256 + q.val))
    (n : Fin 264) : k0_pay19 (F := Ideal) d w c ub z (ix2 n j) = after x (T + n.val) := by
  have e : k0_pay19 (F := Ideal) d w c ub z (ix2 n j)
      = if h : n.val < 256 then k0_pay18 (F := Ideal) d w c ub (ix2 ⟨n.val, h⟩ j) else z (ix2 ⟨n.val - 256, by omega⟩ j) := by
    pointwise [k0_pay19]
  rw [e]
  split
  · exact h0 _
  · exact (h1 _).trans (congrArg (after x) (by show T + 256 + (n.val - 256) = T + n.val; omega))

theorem next_at (h0 : ∀ r : Fin 256, k0_pay18 (F := Ideal) d w c ub (ix2 r j) = after x (T + r.val)) (h1 : ∀ q : Fin 8, z (ix2 q j) = after x (T + 256 + q.val))
    (r : Fin 256) : k0_pay20 (F := Ideal) d w c ub z (ix2 r j) = after x (T + r.val + 1) := by
  have e : k0_pay20 (F := Ideal) d w c ub z (ix2 r j) = k0_pay19 (F := Ideal) d w c ub z (ix2 ⟨(r.val + 264 - 263) % 264, by omega⟩ j) := by
    pointwise [k0_pay20]
  rw [e, ext_at d w c ub z j h0 h1]
  exact congrArg (after x) (show T + (r.val + 264 - 263) % 264 = _ by omega)

theorem second_at (h0 : ∀ r : Fin 256, k0_pay18 (F := Ideal) d w c ub (ix2 r j) = after x (T + r.val)) (h1 : ∀ q : Fin 8, z (ix2 q j) = after x (T + 256 + q.val))
    (r : Fin 256) : k0_pay1 (k0_pay19 (F := Ideal) d w c ub z) 262#32 (ix2 r j) = after x (T + r.val + 2) := by
  have e : k0_pay1 (k0_pay19 (F := Ideal) d w c ub z) 262#32 (ix2 r j) = k0_pay19 (F := Ideal) d w c ub z (ix2 ⟨(r.val + 264 - 262) % 264, by omega⟩ j) := by
    pointwise [k0_pay1]
  rw [e, ext_at d w c ub z j h0 h1]
  exact congrArg (after x) (show T + (r.val + 264 - 262) % 264 = _ by omega)

end Rows

theorem pay2_at (w : FVec Ideal S3x2816 .f32) (p : FVec Ideal S256x2816 .f32) (e : FVec Ideal S264x2816 .f32) (n : FVec Ideal S256x2816 .f32) (r : Fin 256) (j : Fin 2816) :
    k0_pay2 (F := Ideal) w p e n 262#32 (ix2 r j)
      = w (ix2 2 j) * p (ix2 r j) + w (ix2 1 j) * n (ix2 r j) + w (ix2 0 j) * k0_pay1 (F := Ideal) e 262#32 (ix2 r j) := by
  pointwise [k0_pay2]

/-- What the block adds to the gradient of the convolution's weights. -/
theorem pay3_at (u p : FVec Ideal S256x2816 .f32) (e : FVec Ideal S264x2816 .f32) (n : FVec Ideal S256x2816 .f32) (j : Fin 2816) :
    k0_pay3 (F := Ideal) u p e n 262#32 (ix2 0 j) = ∑ r : Fin 256, u (ix2 r j) * k0_pay1 (F := Ideal) e 262#32 (ix2 r j)
    ∧ k0_pay3 (F := Ideal) u p e n 262#32 (ix2 1 j) = ∑ r : Fin 256, u (ix2 r j) * n (ix2 r j)
    ∧ k0_pay3 (F := Ideal) u p e n 262#32 (ix2 2 j) = ∑ r : Fin 256, u (ix2 r j) * p (ix2 r j) := by
  refine ⟨?_, ?_, ?_⟩
  · pointwise [k0_pay3]
  · pointwise [k0_pay3]
  · pointwise [k0_pay3]

theorem pay4_at (u p : FVec Ideal S256x2816 .f32) (e : FVec Ideal S264x2816 .f32) (n : FVec Ideal S256x2816 .f32) (b : FVec Ideal S3x2816 .f32) (k : Fin 3) (j : Fin 2816) :
    k0_pay4 (F := Ideal) u p e n 262#32 b (ix2 k j) = b (ix2 k j) + k0_pay3 (F := Ideal) u p e n 262#32 (ix2 k j) := by
  pointwise [k0_pay4]

end Cert.FfnBwdBlock

end
-- ==== Proof.FfnBwdRef.lean ====
module

public import proofs.«01_k».proof.Proof.Gen.Reference11Ideal.Read
public import proofs.«01_k».proof.Proof.Finite
public import proofs.«01_k».proof.Proof.Shift

@[expose] public section

set_option maxRecDepth 16384

noncomputable section

/-! The reference's gradients, entry by entry. -/

namespace Cert.FfnBwdRef

open Idealize.ShloMosaic Cert.Reference11Ideal Cert.Reference11Ideal.Read Cert.Rms Cert.Conv Cert.Finite

open scoped BigOperators

variable (x0 : FVec Ideal S4096x1024 .f32) (x1 : FVec Ideal S4096x5632 .f32) (x2 : FVec Ideal S3x2816 .f32) (x3 : FVec Ideal S2816x1024 .f32)
  (x4 : FVec Ideal S1024 .f32)

/-! ## The forward values -/

/-- The convolution's weights of column `j`, and the column itself. -/
abbrev wcol (j : Fin 2816) : Fin 3 → EReal := fun k => x2 (ix2 k j)
abbrev ucol (j : Fin 2816) : Fin 4096 → EReal := fun i => x1 (ix2 i ⟨j.val, by omega⟩)

/-- The convolved columns. -/
def cv (i : Fin 4096) (j : Fin 2816) : EReal := conv (wcol x2 j) (ucol x1 j) i.val

/-- The gated columns. -/
def gate (i : Fin 4096) (j : Fin 2816) : EReal := cv x1 x2 i j * sgm (cv x1 x2 i j) * x1 (ix2 i ⟨2816 + j.val, by omega⟩)

/-- The down projection. -/
def down (i : Fin 4096) (k : Fin 1024) : EReal := ∑ l : Fin 2816, gate x1 x2 i l * x3 (ix2 l k)

theorem ext_at (n : Fin 4098) (j : Fin 2816) : val_main_v3 (F := Ideal) x1 (ix2 n j) = past (ucol x1 j) (n.val + 6) := by
  pointwise [val_main_v3, val_main_v2, val_main_v0, val_main_cst]
  split
  · next h => exact (past_zero (by omega)).symm
  · next h => exact (past_of (x := ucol x1 j) ⟨n.val - 2, by omega⟩ (by show n.val + 6 = n.val - 2 + 8; omega)).symm

theorem conv_at (i : Fin 4096) (j : Fin 2816) : val_main_v24 (F := Ideal) x1 x2 (ix2 i j) = cv x1 x2 i j := by
  have e : val_main_v24 (F := Ideal) x1 x2 (ix2 i j)
      = (x2 (ix2 0 j) * val_main_v3 (F := Ideal) x1 (ix2 ⟨i.val, by omega⟩ j) + x2 (ix2 1 j) * val_main_v3 (F := Ideal) x1 (ix2 ⟨1 + i.val, by omega⟩ j))
        + x2 (ix2 2 j) * val_main_v3 (F := Ideal) x1 (ix2 ⟨2 + i.val, by omega⟩ j) := by
    pointwise [val_main_v24, val_main_v23, val_main_v22, val_main_v21, val_main_v20, val_main_v19, val_main_v18, val_main_v17, val_main_v16, val_main_v15, val_main_v14,
      val_main_v13, val_main_v12, val_main_v11, val_main_v10, val_main_v9, val_main_v8, val_main_v7, val_main_v6, val_main_v5]
  rw [e, ext_at, ext_at, ext_at]
  unfold cv conv
  rw [show 1 + i.val + 6 = i.val + 7 by omega, show 2 + i.val + 6 = i.val + 8 by omega]

theorem sg_at (i : Fin 4096) (j : Fin 2816) : val_main_v25_2 (F := Ideal) x1 x2 (ix2 i j) = sgm (cv x1 x2 i j) := by
  have e : val_main_v25_2 (F := Ideal) x1 x2 (ix2 i j) = sgm (val_main_v24 (F := Ideal) x1 x2 (ix2 i j)) := by
    pointwise [val_main_v25_2, val_main_call0_v4, val_main_call0_v3, val_main_call0_v2, val_main_call0_v1, val_main_call0_v0, val_main_call0_cst,
      val_main_call0_cst_0, sgm]
  rw [e, conv_at]

theorem act_at (i : Fin 4096) (j : Fin 2816) : val_main_v25_0 (F := Ideal) x1 x2 (ix2 i j) = cv x1 x2 i j * sgm (cv x1 x2 i j) := by
  have e : val_main_v25_0 (F := Ideal) x1 x2 (ix2 i j) = val_main_v24 (F := Ideal) x1 x2 (ix2 i j) * val_main_v25_2 (F := Ideal) x1 x2 (ix2 i j) := by
    pointwise [val_main_v25_0]
  rw [e, conv_at, sg_at]

theorem gate_at (i : Fin 4096) (j : Fin 2816) : val_main_v26 (F := Ideal) x1 x2 (ix2 i j) = gate x1 x2 i j := by
  have e : val_main_v26 (F := Ideal) x1 x2 (ix2 i j) = val_main_v25_0 (F := Ideal) x1 x2 (ix2 i j) * x1 (ix2 i ⟨2816 + j.val, by omega⟩) := by
    pointwise [val_main_v26, val_main_v1]
  rw [e, act_at]
  rfl

theorem down_at (i : Fin 4096) (k : Fin 1024) : val_main_v27 (F := Ideal) x1 x2 x3 (ix2 i k) = down x1 x2 x3 i k := by
  have e : val_main_v27 (F := Ideal) x1 x2 x3 (ix2 i k) = ∑ l : Fin 2816, val_main_v26 (F := Ideal) x1 x2 (ix2 i l) * x3 (ix2 l k) := by
    pointwise [val_main_v27]
  exact e.trans (Finset.sum_congr rfl fun l _ => congrArg₂ (· * ·) (gate_at x1 x2 i l) rfl)

/-! ## The gradients -/

/-- The gradient of the down projection's result. -/
def dy (i : Fin 4096) (k : Fin 1024) : EReal := bwd (fun l => down x1 x2 x3 i l) (fun l => x0 (ix2 i l) * x4 (ix1 l)) k

/-- The gradient of the gated columns. -/
def dact (i : Fin 4096) (j : Fin 2816) : EReal := ∑ k : Fin 1024, dy x0 x1 x2 x3 x4 i k * x3 (ix2 j k)

/-- The gradient of the convolved columns. -/
def dc (i : Fin 4096) (j : Fin 2816) : EReal :=
  dact x0 x1 x2 x3 x4 i j * x1 (ix2 i ⟨2816 + j.val, by omega⟩) * (sgm (cv x1 x2 i j) * (1 + cv x1 x2 i j * (1 - sgm (cv x1 x2 i j))))

/-- Its column `j`. -/
abbrev dcol (j : Fin 2816) : Fin 4096 → EReal := fun i => dc x0 x1 x2 x3 x4 i j

/-- The gradient of the columns before the convolution. -/
def dua (i : Fin 4096) (j : Fin 2816) : EReal :=
  x2 (ix2 2 j) * dcol x0 x1 x2 x3 x4 j i + x2 (ix2 1 j) * after (dcol x0 x1 x2 x3 x4 j) (i.val + 1) + x2 (ix2 0 j) * after (dcol x0 x1 x2 x3 x4 j) (i.val + 2)

/-- The arguments are finite. -/
def Ok : Prop := (∀ i, IsReal (x0 i)) ∧ (∀ i, IsReal (x1 i)) ∧ (∀ i, IsReal (x2 i)) ∧ (∀ i, IsReal (x3 i)) ∧ (∀ i, IsReal (x4 i))

variable {x0 x1 x2 x3 x4}

theorem cv_real (h : Ok x0 x1 x2 x3 x4) (i : Fin 4096) (j : Fin 2816) : IsReal (cv x1 x2 i j) :=
  IsReal.conv (fun k => h.2.2.1 _) (fun k => h.2.1 _) _

theorem down_real (h : Ok x0 x1 x2 x3 x4) (i : Fin 4096) (k : Fin 1024) : IsReal (down x1 x2 x3 i k) :=
  IsReal.sum _ fun l _ => (((cv_real h i l).mul (IsReal.sgm (cv_real h i l))).mul (h.2.1 _)).mul (h.2.2.2.1 _)

theorem dact_real (h : Ok x0 x1 x2 x3 x4) (i : Fin 4096) (j : Fin 2816) : IsReal (dact x0 x1 x2 x3 x4 i j) :=
  IsReal.sum _ fun k _ => (IsReal.bwd (fun l => down_real h i l) (fun l => (h.1 _).mul (h.2.2.2.2 _)) k).mul (h.2.2.2.1 _)

variable (x0 x1 x2 x3 x4)

theorem dy_at (i : Fin 4096) (k : Fin 1024) : val_main_v63 (F := Ideal) x0 x1 x2 x3 x4 (ix2 i k) = dy x0 x1 x2 x3 x4 i k := by
  have e : val_main_v63 (F := Ideal) x0 x1 x2 x3 x4 (ix2 i k)
      = bwd (fun l => val_main_v27 (F := Ideal) x1 x2 x3 (ix2 i l)) (fun l => x0 (ix2 i l) * x4 (ix1 l)) k := by
    rw [← bwd_eq]
    pointwise [val_main_v63, val_main_v62, val_main_v61, val_main_v60, val_main_v59, val_main_v58, val_main_v57, val_main_v56, val_main_v55, val_main_v54,
      val_main_v53, val_main_v52, val_main_v51, val_main_v50, val_main_v48, val_main_v47, val_main_v41, val_main_v38, val_main_v37, val_main_v36, val_main_v35,
      val_main_v34, val_main_v33, val_main_v32, val_main_v31, val_main_v30, val_main_v29, val_main_v28, coef, rr, msq, val_main_cst_1, val_main_cst_2,
      val_main_cst_3, val_main_cst_4, val_main_cst_7, val_main_cst_8, val_main_cst_9]
    simp only [Finset.univ_unique, Finset.sum_singleton, Ideal.ofBits_zero_f32, zero_add]
  rw [e]
  exact congrArg (fun v => bwd v (fun l => x0 (ix2 i l) * x4 (ix1 l)) k) (funext fun l => down_at x1 x2 x3 i l)

/-- The first result. -/
theorem ref_dy (i : Fin 4096) (k : Fin 1024) : val_main_v102 (F := Ideal) x0 x1 x2 x3 x4 (ix2 i k) = dy x0 x1 x2 x3 x4 i k := by
  refine Eq.trans ?_ (dy_at x0 x1 x2 x3 x4 i k)
  pointwise [val_main_v102]

theorem dact_at (i : Fin 4096) (j : Fin 2816) : val_main_v65 (F := Ideal) x0 x1 x2 x3 x4 (ix2 i j) = dact x0 x1 x2 x3 x4 i j := by
  have e : val_main_v65 (F := Ideal) x0 x1 x2 x3 x4 (ix2 i j) = ∑ k : Fin 1024, val_main_v63 (F := Ideal) x0 x1 x2 x3 x4 (ix2 i k) * x3 (ix2 j k) := by
    pointwise [val_main_v65]
  exact e.trans (Finset.sum_congr rfl fun k _ => congrArg₂ (· * ·) (dy_at x0 x1 x2 x3 x4 i k) rfl)

theorem dub_at (i : Fin 4096) (j : Fin 2816) :
    val_main_v66 (F := Ideal) x0 x1 x2 x3 x4 (ix2 i j) = dact x0 x1 x2 x3 x4 i j * (cv x1 x2 i j * sgm (cv x1 x2 i j)) := by
  have e : val_main_v66 (F := Ideal) x0 x1 x2 x3 x4 (ix2 i j)
      = val_main_v25_0 (F := Ideal) x1 x2 (ix2 i j) * val_main_v65 (F := Ideal) x0 x1 x2 x3 x4 (ix2 i j) := by
    pointwise [val_main_v66]
  rw [e, act_at, dact_at, mul_comm]

theorem dc_at (h : Ok x0 x1 x2 x3 x4) (i : Fin 4096) (j : Fin 2816) :
    val_main_v68 (F := Ideal) x0 x1 x2 x3 x4 (ix2 i j) = dcol x0 x1 x2 x3 x4 j i := by
  have e : val_main_v68 (F := Ideal) x0 x1 x2 x3 x4 (ix2 i j)
      = val_main_v65 (F := Ideal) x0 x1 x2 x3 x4 (ix2 i j) * x1 (ix2 i ⟨2816 + j.val, by omega⟩) * val_main_v25_2 (F := Ideal) x1 x2 (ix2 i j)
        + val_main_v24 (F := Ideal) x1 x2 (ix2 i j) * (val_main_v65 (F := Ideal) x0 x1 x2 x3 x4 (ix2 i j) * x1 (ix2 i ⟨2816 + j.val, by omega⟩))
          * (val_main_v25_2 (F := Ideal) x1 x2 (ix2 i j) * (1 - val_main_v25_2 (F := Ideal) x1 x2 (ix2 i j))) := by
    pointwise [val_main_v68, val_main_call1_v2, val_main_call1_v1, val_main_call1_v0, val_main_v67, val_main_v25_1, val_main_call0_v7, val_main_call0_v6,
      val_main_call0_cst_1, val_main_v1]
  rw [e, dact_at, conv_at, sg_at]
  exact silu_slope ((dact_real h i j).mul (h.2.1 _)) (cv_real h i j) (IsReal.sgm (cv_real h i j))

theorem dua_at (h : Ok x0 x1 x2 x3 x4) (i : Fin 4096) (j : Fin 2816) :
    val_main_v101 (F := Ideal) x0 x1 x2 x3 x4 (ix2 i j) = dua x0 x1 x2 x3 x4 i j := by
  have e : val_main_v101 (F := Ideal) x0 x1 x2 x3 x4 (ix2 i j)
      = (x2 (ix2 2 j) * val_main_v68 (F := Ideal) x0 x1 x2 x3 x4 (ix2 i j)
          + if h : 1 ≤ 2 + i.val ∧ 2 + i.val - 1 < 4096 then x2 (ix2 1 j) * val_main_v68 (F := Ideal) x0 x1 x2 x3 x4 (ix2 ⟨2 + i.val - 1, h.2⟩ j) else 0)
        + if h : 2 + i.val < 4096 then x2 (ix2 0 j) * val_main_v68 (F := Ideal) x0 x1 x2 x3 x4 (ix2 ⟨2 + i.val, h⟩ j) else 0 := by
    pointwise [val_main_v101, val_main_v96, val_main_v95, val_main_v90, val_main_v89, val_main_v85, val_main_v84, val_main_v79, val_main_v78, val_main_v75,
      val_main_v70, val_main_v69, val_main_v21, val_main_v19, val_main_v18, val_main_v14, val_main_v12, val_main_v11, val_main_v8, val_main_v6, val_main_v5,
      val_main_cst_12, val_main_cst_16, val_main_cst_20]
  rw [e, dc_at x0 x1 x2 x3 x4 h]
  unfold dua
  refine congrArg₂ (· + ·) (congrArg₂ (· + ·) rfl ?_) ?_
  · by_cases hi : i.val + 1 < 4096
    · rw [dif_pos ⟨by omega, by omega⟩, dc_at x0 x1 x2 x3 x4 h, after_of ⟨2 + i.val - 1, by omega⟩ (by show i.val + 1 = 2 + i.val - 1; omega)]
    · rw [dif_neg (by omega), after_zero (by omega), mul_zero]
  · by_cases hi : i.val + 2 < 4096
    · rw [dif_pos (by omega), dc_at x0 x1 x2 x3 x4 h, after_of ⟨2 + i.val, by omega⟩ (by show i.val + 2 = 2 + i.val; omega)]
    · rw [dif_neg (by omega), after_zero (by omega), mul_zero]

/-- The second result: the first half of its columns, then the second. -/
theorem ref_du_a (h : Ok x0 x1 x2 x3 x4) (i : Fin 4096) (j : Fin 2816) :
    val_main_v104 (F := Ideal) x0 x1 x2 x3 x4 (ix2 i ⟨j.val, by omega⟩) = dua x0 x1 x2 x3 x4 i j := by
  refine Eq.trans ?_ (dua_at x0 x1 x2 x3 x4 h i j)
  have e : val_main_v104 (F := Ideal) x0 x1 x2 x3 x4 (ix2 i ⟨j.val, by omega⟩)
      = if h : j.val < 2816 then val_main_v101 (F := Ideal) x0 x1 x2 x3 x4 (ix2 i ⟨j.val, h⟩)
        else val_main_v66 (F := Ideal) x0 x1 x2 x3 x4 (ix2 i ⟨j.val - 2816, by omega⟩) := by
    pointwise [val_main_v104, val_main_v103]
  exact e.trans (dif_pos j.isLt)

theorem ref_du_b (i : Fin 4096) (j : Fin 2816) :
    val_main_v104 (F := Ideal) x0 x1 x2 x3 x4 (ix2 i ⟨2816 + j.val, by omega⟩) = dact x0 x1 x2 x3 x4 i j * (cv x1 x2 i j * sgm (cv x1 x2 i j)) := by
  refine Eq.trans ?_ (dub_at x0 x1 x2 x3 x4 i j)
  have e : val_main_v104 (F := Ideal) x0 x1 x2 x3 x4 (ix2 i ⟨2816 + j.val, by omega⟩)
      = if h : 2816 + j.val < 2816 then val_main_v101 (F := Ideal) x0 x1 x2 x3 x4 (ix2 i ⟨2816 + j.val, h⟩)
        else val_main_v66 (F := Ideal) x0 x1 x2 x3 x4 (ix2 i ⟨2816 + j.val - 2816, by omega⟩) := by
    pointwise [val_main_v104, val_main_v103]
  rw [e, dif_neg (by omega)]
  exact congrArg (val_main_v66 (F := Ideal) x0 x1 x2 x3 x4) (congrArg (ix2 i) (Fin.ext (by show 2816 + j.val - 2816 = j.val; omega)))

/-- The gain's gradient. -/
theorem ref_dg (k : Fin 1024) :
    val_main_v105 (F := Ideal) x0 x1 x2 x3 (ix2 0 k) = ∑ i : Fin 4096, x0 (ix2 i k) * (down x1 x2 x3 i k * rr fun l => down x1 x2 x3 i l) := by
  have e : val_main_v105 (F := Ideal) x0 x1 x2 x3 (ix2 0 k)
      = ∑ i : Fin 4096, val_main_v27 (F := Ideal) x1 x2 x3 (ix2 i k) * (rr fun l => val_main_v27 (F := Ideal) x1 x2 x3 (ix2 i l)) * x0 (ix2 i k) := by
    pointwise [val_main_v105, val_main_v49, val_main_v46, val_main_v45, val_main_v44, val_main_v40, val_main_v39, val_main_v35,
      val_main_v34, val_main_v33, val_main_v32, val_main_v31, val_main_v30, val_main_v29, val_main_v28, rr, msq, val_main_cst_1, val_main_cst_2,
      val_main_cst_3, val_main_cst_5, val_main_cst_6]
    simp only [Finset.univ_unique, Finset.sum_singleton, Ideal.ofBits_zero_f32, zero_add]
  rw [e]
  simp only [down_at]
  exact Finset.sum_congr rfl fun i _ => mul_comm _ _

/-- The gradient of the convolution's weights. -/
theorem ref_dw (h : Ok x0 x1 x2 x3 x4) (k : Fin 3) (j : Fin 2816) :
    val_main_v99 (F := Ideal) x0 x1 x2 x3 x4 (ix2 k j) = ∑ i : Fin 4096, dcol x0 x1 x2 x3 x4 j i * past (ucol x1 j) (i.val + (6 + k.val)) := by
  have e2 : val_main_v74 (F := Ideal) x0 x1 x2 x3 x4 (ix1 j) = ∑ i : Fin 4096, dcol x0 x1 x2 x3 x4 j i * past (ucol x1 j) (i.val + 8) := by
    have e : val_main_v74 (F := Ideal) x0 x1 x2 x3 x4 (ix1 j)
        = ∑ i : Fin 4096, val_main_v68 (F := Ideal) x0 x1 x2 x3 x4 (ix2 i j) * val_main_v3 (F := Ideal) x1 (ix2 ⟨2 + i.val, by omega⟩ j) := by
      pointwise [val_main_v74, val_main_v73, val_main_v72, val_main_v71, val_main_v20, val_main_cst_10, val_main_cst_11]
      simp only [Finset.univ_unique, Finset.sum_singleton, Ideal.ofBits_zero_f32, zero_add]
    refine e.trans (Finset.sum_congr rfl fun i _ => congrArg₂ (· * ·) (dc_at x0 x1 x2 x3 x4 h i j) ((ext_at x1 _ j).trans ?_))
    exact congrArg (past (ucol x1 j)) (show 2 + i.val + 6 = i.val + 8 by omega)
  have e1 : val_main_v83 (F := Ideal) x0 x1 x2 x3 x4 (ix1 j) = ∑ i : Fin 4096, dcol x0 x1 x2 x3 x4 j i * past (ucol x1 j) (i.val + 7) := by
    have e : val_main_v83 (F := Ideal) x0 x1 x2 x3 x4 (ix1 j)
        = ∑ i : Fin 4096, val_main_v68 (F := Ideal) x0 x1 x2 x3 x4 (ix2 i j) * val_main_v3 (F := Ideal) x1 (ix2 ⟨1 + i.val, by omega⟩ j) := by
      pointwise [val_main_v83, val_main_v82, val_main_v81, val_main_v80, val_main_v13, val_main_cst_14, val_main_cst_15]
      simp only [Finset.univ_unique, Finset.sum_singleton, Ideal.ofBits_zero_f32, zero_add]
    refine e.trans (Finset.sum_congr rfl fun i _ => congrArg₂ (· * ·) (dc_at x0 x1 x2 x3 x4 h i j) ((ext_at x1 _ j).trans ?_))
    exact congrArg (past (ucol x1 j)) (show 1 + i.val + 6 = i.val + 7 by omega)
  have e0 : val_main_v94 (F := Ideal) x0 x1 x2 x3 x4 (ix1 j) = ∑ i : Fin 4096, dcol x0 x1 x2 x3 x4 j i * past (ucol x1 j) (i.val + 6) := by
    have e : val_main_v94 (F := Ideal) x0 x1 x2 x3 x4 (ix1 j)
        = ∑ i : Fin 4096, val_main_v68 (F := Ideal) x0 x1 x2 x3 x4 (ix2 i j) * val_main_v3 (F := Ideal) x1 (ix2 ⟨i.val, by omega⟩ j) := by
      pointwise [val_main_v94, val_main_v93, val_main_v92, val_main_v91, val_main_v7, val_main_cst_18, val_main_cst_19]
      simp only [Finset.univ_unique, Finset.sum_singleton, Ideal.ofBits_zero_f32, zero_add]
    exact e.trans (Finset.sum_congr rfl fun i _ => congrArg₂ (· * ·) (dc_at x0 x1 x2 x3 x4 h i j) (ext_at x1 _ j))
  have e : val_main_v99 (F := Ideal) x0 x1 x2 x3 x4 (ix2 k j)
      = ((if _ : 2 ≤ k.val ∧ k.val - 2 < 1 then val_main_v74 (F := Ideal) x0 x1 x2 x3 x4 (ix1 j) else 0)
          + if _ : 1 ≤ k.val ∧ k.val - 1 < 1 then val_main_v83 (F := Ideal) x0 x1 x2 x3 x4 (ix1 j) else 0)
        + if _ : k.val < 1 then val_main_v94 (F := Ideal) x0 x1 x2 x3 x4 (ix1 j) else 0 := by
    pointwise [val_main_v99, val_main_v98, val_main_v97, val_main_v88, val_main_v87, val_main_v86, val_main_v77, val_main_v76, val_main_cst_13, val_main_cst_17,
      val_main_cst_21]
  rw [e, e2, e1, e0]
  obtain ⟨k, hk⟩ := k
  obtain rfl | rfl | rfl : k = 0 ∨ k = 1 ∨ k = 2 := by omega
  · rw [dif_neg (by simp), dif_neg (by simp), dif_pos (by simp), add_zero, zero_add]
    exact Finset.sum_congr rfl fun i _ => rfl
  · rw [dif_neg (by simp), dif_pos (by simp), dif_neg (by simp), zero_add, add_zero]
    exact Finset.sum_congr rfl fun i _ => rfl
  · rw [dif_pos (by simp), dif_neg (by simp), dif_neg (by simp), add_zero, add_zero]
    exact Finset.sum_congr rfl fun i _ => rfl

end Cert.FfnBwdRef

end
-- ==== Proof.FfnBwdRead.lean ====
module

public import proofs.«01_k».proof.Proof.FfnBwdBlock
public import proofs.«01_k».proof.Proof.FfnBwdRef

@[expose] public section

set_option maxRecDepth 16384

noncomputable section

/-! What each block of the call's operands holds. The grid runs from the last rows to the first. -/

namespace Cert.FfnBwdRead

open Idealize.ShloMosaic Idealize.ShloMosaic.TcCoe Idealize.SL.Sem Cert.Kernel11Ideal Cert.Kernel11Ideal.Gen Cert.Rms Cert.Conv
open Cert.FfnBwdRef (wcol ucol cv down)

open scoped BigOperators

variable (m : (ℓ : Loc nD τ sig) → Buf (Elt Ideal) ℓ)

theorem idx : ∀ t : Fin cfg0.N, win0_0.index t = ![15 - t.val, 0] ∧ win0_1.index t = ![15 - t.val, 0] ∧ win0_2.index t = ![15 - t.val, 0]
    ∧ win0_3.index t = ![15 - t.val, 1] ∧ win0_4.index t = ![15 - t.val, 0] ∧ win0_5.index t = ![0, 0] ∧ win0_6.index t = ![0, 0]
    ∧ win0_7.index t = ![0, 0] ∧ win0_8.index t = ![15 - t.val, 0] ∧ win0_9.index t = ![15 - t.val, 0] ∧ win0_10.index t = ![0, 0]
    ∧ win0_11.index t = ![0, 0] :=
  (by decide +kernel : ∀ t : Fin grid0.N, _)

/-- The array's row that row `r` of the block at point `t` is. -/
def row (t : Fin cfg0.N) (r : Fin 256) : Fin 4096 :=
  ⟨(15 - t.val) * 256 + r.val, by have := t.isLt; change t.val < 16 at this; omega⟩

/-- The arguments of the call, at their types. -/
abbrev A0 (c : Dev nD) : FVec Ideal S4096x1024 .f32 := m ((c.tc : Thread nD τ).loc main_arg0)
abbrev A1 (c : Dev nD) : FVec Ideal S4096x5632 .f32 := m ((c.tc : Thread nD τ).loc main_arg1)
abbrev A2 (c : Dev nD) : FVec Ideal S3x2816 .f32 := m ((c.tc : Thread nD τ).loc main_arg2)
abbrev A3 (c : Dev nD) : FVec Ideal S2816x1024 .f32 := m ((c.tc : Thread nD τ).loc main_arg3)
abbrev A4 (c : Dev nD) : FVec Ideal S1024 .f32 := m ((c.tc : Thread nD τ).loc main_arg4)

theorem emb8 (t : Fin cfg0.N) (r : Fin 256) (l : Fin 1024) : ((cfg0.win 8).blk t).view.emb (ix2 r l) = ix2 (row t r) l := by
  blk_ext [idx t, row]

theorem emb9 (t : Fin cfg0.N) (r : Fin 256) (l : Fin 5632) : ((cfg0.win 9).blk t).view.emb (ix2 r l) = ix2 (row t r) l := by
  blk_ext [idx t, row]

theorem x_at (c : Dev nD) (t : Fin cfg0.N) (r : Fin 256) (k : Fin 1024) :
    (iblk m c 0 t : FVec Ideal S256x1024 .f32) (ix2 r k) = A0 m c (ix2 (row t r) k) := by
  blk_ext [iblk, V, idx t, row]

theorem cw_at (c : Dev nD) (t : Fin cfg0.N) (k : Fin 3) (j : Fin 2816) :
    (iblk m c 5 t : FVec Ideal S3x2816 .f32) (ix2 k j) = A2 m c (ix2 k j) := by
  blk_ext [iblk, V, idx t]

theorem ua_at (c : Dev nD) (t : Fin cfg0.N) (r : Fin 256) (j : Fin 2816) :
    (iblk m c 2 t : FVec Ideal S256x2816 .bf16) (ix2 r j) = ucol (A1 m c) j (row t r) := by
  have e : ((cfg0.win 2).blk t).view.emb (ix2 r j) = ix2 (row t r) ⟨j.val, by omega⟩ := by blk_ext [idx t, row]
  show V m c main_v49 (((cfg0.win 2).blk t).view.emb (ix2 r j)) = _
  rw [e]
  rfl

theorem ub_at (c : Dev nD) (t : Fin cfg0.N) (r : Fin 256) (j : Fin 2816) :
    (iblk m c 3 t : FVec Ideal S256x2816 .bf16) (ix2 r j) = A1 m c (ix2 (row t r) ⟨2816 + j.val, by omega⟩) := by
  have e : ((cfg0.win 3).blk t).view.emb (ix2 r j) = ix2 (row t r) ⟨2816 + j.val, by omega⟩ := by blk_ext [idx t, row]
  show V m c main_v49 (((cfg0.win 3).blk t).view.emb (ix2 r j)) = _
  rw [e]
  rfl

theorem w_at (c : Dev nD) (t : Fin cfg0.N) (l : Fin 2816) (k : Fin 1024) :
    (iblk m c 6 t : FVec Ideal S2816x1024 .bf16) (ix2 l k) = A3 m c (ix2 l k) := by
  have e : ((cfg0.win 6).blk t).view.emb (ix2 l k) = ix2 l k := by blk_ext [idx t]
  show V m c main_v51 (((cfg0.win 6).blk t).view.emb (ix2 l k)) = _
  rw [e]
  rfl

theorem g_at (c : Dev nD) (t : Fin cfg0.N) (k : Fin 1024) :
    (iblk m c 7 t : FVec Ideal S1x1024 .f32) (ix2 0 k) = A4 m c (ix1 k) := by
  have e : ((cfg0.win 7).blk t).view.emb (ix2 0 k) = ix2 0 k := by blk_ext [idx t]
  show V m c main_v52 (((cfg0.win 7).blk t).view.emb (ix2 0 k)) = _
  rw [e]
  refine Eq.trans (b := (shapeCast S1x1024 (A4 m c) shapeCasts_S1024_S1x1024 : FVec Ideal S1x1024 .f32) (ix2 0 k)) rfl ?_
  pointwise

/-- The forward pass's down projection, which the host computes. -/
theorem y_at (c : Dev nD) (t : Fin cfg0.N) (r : Fin 256) (k : Fin 1024) :
    (iblk m c 1 t : FVec Ideal S256x1024 .f32) (ix2 r k) = down (A1 m c) (A2 m c) (A3 m c) (row t r) k := by
  have e : ((cfg0.win 1).blk t).view.emb (ix2 r k) = ix2 (row t r) k := by blk_ext [idx t, row]
  show V m c main_v26 (((cfg0.win 1).blk t).view.emb (ix2 r k)) = _
  rw [e]
  exact Cert.FfnBwdRef.down_at (A1 m c) (A2 m c) (A3 m c) (row t r) k

/-- The forward pass's convolved columns, which the host computes. -/
theorem c_at (c : Dev nD) (t : Fin cfg0.N) (r : Fin 256) (j : Fin 2816) :
    (iblk m c 4 t : FVec Ideal S256x2816 .bf16) (ix2 r j) = cv (A1 m c) (A2 m c) (row t r) j := by
  have e : ((cfg0.win 4).blk t).view.emb (ix2 r j) = ix2 (row t r) j := by blk_ext [idx t, row]
  show V m c main_v50 (((cfg0.win 4).blk t).view.emb (ix2 r j)) = _
  rw [e]
  exact Cert.FfnBwdRef.conv_at (A1 m c) (A2 m c) (row t r) j

end Cert.FfnBwdRead

end
-- ==== Proof.FfnBwdValue.lean ====
module

public import proofs.«01_k».proof.Proof.FfnBwdRead
public import proofs.«01_k».proof.Proof.Sums
public import Idealize.ShloMosaic.Lib.Pipeline.ReadBack

@[expose] public section

set_option maxRecDepth 16384

noncomputable section

/-! The arrays the call leaves: each block of 256 rows, with the eight rows of the convolved columns' gradient carried from the block below. -/

namespace Cert.FfnBwdValue

open Idealize.ShloMosaic Idealize.ShloMosaic.TcCoe Idealize.SL.Sem Cert.Kernel11Ideal Cert.Kernel11Ideal.Gen Cert.Rms Cert.Conv Cert.FfnBwdBlock Cert.FfnBwdRead
open Cert.FfnBwdRef (wcol ucol cv down dy dact dcol dua Ok)
open Idealize.ShloMosaic.Pipeline (Dat)

open scoped BigOperators

variable (m : (ℓ : Loc nD τ sig) → Buf (Elt Ideal) ℓ)

/-- The block's gradient of the down projection's result. -/
abbrev D (c : Dev nD) (t : Fin cfg0.N) : FVec Ideal S256x1024 .f32 := k0_pay9 (F := Ideal) (iblk m c 0 t) (iblk m c 1 t) (iblk m c 7 t)

/-- The block's gradient of the convolved columns. -/
abbrev P (c : Dev nD) (t : Fin cfg0.N) : FVec Ideal S256x2816 .f32 := k0_pay18 (F := Ideal) (D m c t) (iblk m c 6 t) (iblk m c 4 t) (iblk m c 3 t)

/-- The column of that gradient over all rows. -/
abbrev col (c : Dev nD) (j : Fin 2816) : Fin 4096 → EReal := dcol (A0 m c) (A1 m c) (A2 m c) (A3 m c) (A4 m c) j

theorem dy_at (c : Dev nD) (t : Fin cfg0.N) (r : Fin 256) (k : Fin 1024) :
    D m c t (ix2 r k) = dy (A0 m c) (A1 m c) (A2 m c) (A3 m c) (A4 m c) (row t r) k := by
  refine (pay9_at _ _ _ r k).trans ?_
  refine congrArg₂ (fun a b => bwd a b k) (funext fun l => y_at m c t r l) (funext fun l => ?_)
  exact congrArg₂ (· * ·) (x_at m c t r l) (g_at m c t l)

theorem dact_at (c : Dev nD) (t : Fin cfg0.N) (r : Fin 256) (j : Fin 2816) :
    k0_pay13 (F := Ideal) (D m c t) (iblk m c 6 t) (ix2 r j) = dact (A0 m c) (A1 m c) (A2 m c) (A3 m c) (A4 m c) (row t r) j :=
  (pay13_at _ _ r j).trans (Finset.sum_congr rfl fun k _ => congrArg₂ (· * ·) (dy_at m c t r k) (w_at m c t j k))

theorem dc_at (c : Dev nD) (t : Fin cfg0.N) (r : Fin 256) (j : Fin 2816) : P m c t (ix2 r j) = col m c j (row t r) := by
  refine (pay18_at _ _ _ _ r j).trans (congrArg₂ (· * ·) (congrArg₂ (· * ·) (dact_at m c t r j) (ub_at m c t r j)) ?_)
  exact congrArg (fun a : EReal => sgm a * (1 + a * (1 - sgm a))) (c_at m c t r j)

theorem dc_after (c : Dev nD) (t : Fin cfg0.N) (j : Fin 2816) (r : Fin 256) : P m c t (ix2 r j) = after (col m c j) ((15 - t.val) * 256 + r.val) :=
  (dc_at m c t r j).trans (after_of _ rfl).symm

/-- What the carried rows hold before the block at point `t`: the eight rows below it. -/
def Below (c : Dev nD) (t : Fin cfg0.N) (z : FVec Ideal S8x2816 .f32) : Prop :=
  ∀ (j : Fin 2816) (q : Fin 8), z (ix2 q j) = after (col m c j) ((15 - t.val) * 256 + 256 + q.val)

theorem below_zero (c : Dev nD) (t : Fin cfg0.N) (h0 : t.val % 16 = 0) : Below m c t (k0_pay6 (F := Ideal)) := by
  intro j q
  have := t.isLt
  change t.val < 16 at this
  exact (pay6_at q j).trans (after_zero (by omega)).symm

theorem not_one_le (t : Fin cfg0.N) (h0 : t.val % 16 = 0) : ¬ 1 ≤ t.val := by
  have := t.isLt
  change t.val < 16 at this
  omega

theorem one_le (t : Fin cfg0.N) (h0 : ¬ t.val % 16 = 0) : 1 ≤ t.val := by omega

/-- Every block leaves its first eight rows. -/
theorem carried (c : Dev nD) (t : Fin cfg0.N) (q : Fin 8) (j : Fin 2816) :
    ((outsAt0 m c t.val t.isLt).2.2.2.2 : FVec Ideal S8x2816 .f32) (ix2 q j) = col m c j (row t ⟨q.val, by omega⟩) := by
  by_cases h0 : t.val % 16 = 0
  · rw [outsAt0_A m c t h0 h0 (not_one_le t h0) h0 (not_one_le t h0)]
    frame_out
    exact (pay5_at _ q j).trans (dc_at m c t _ j)
  · rw [outsAt0_B m c t h0 h0 (one_le t h0) h0 (one_le t h0)]
    frame_out
    exact (pay5_at _ q j).trans (dc_at m c t _ j)

theorem below_step (c : Dev nD) (t : Fin cfg0.N) (h0 : ¬ t.val % 16 = 0) (h : t.val - 1 < cfg0.N) :
    Below m c t (outsAt0 m c (t.val - 1) h).2.2.2.2 := by
  intro j q
  refine (carried m c ⟨t.val - 1, h⟩ q j).trans (after_of _ ?_).symm
  show (15 - t.val) * 256 + 256 + q.val = (15 - (t.val - 1)) * 256 + q.val
  have := t.isLt
  change t.val < 16 at this
  omega

section Halo

variable (c : Dev nD) (t : Fin cfg0.N) {z : FVec Ideal S8x2816 .f32} (hz : Below m c t z)
include hz

theorem next (r : Fin 256) (j : Fin 2816) :
    k0_pay20 (F := Ideal) (D m c t) (iblk m c 6 t) (iblk m c 4 t) (iblk m c 3 t) z (ix2 r j) = after (col m c j) ((row t r).val + 1) :=
  next_at _ _ _ _ _ j (fun r => dc_after m c t j r) (fun q => hz j q) r

theorem second (r : Fin 256) (j : Fin 2816) :
    k0_pay1 (k0_pay19 (F := Ideal) (D m c t) (iblk m c 6 t) (iblk m c 4 t) (iblk m c 3 t) z) 262#32 (ix2 r j) = after (col m c j) ((row t r).val + 2) :=
  second_at _ _ _ _ _ j (fun r => dc_after m c t j r) (fun q => hz j q) r

theorem dua_at (r : Fin 256) (j : Fin 2816) :
    k0_pay2 (F := Ideal) (iblk m c 5 t) (P m c t) (k0_pay19 (F := Ideal) (D m c t) (iblk m c 6 t) (iblk m c 4 t) (iblk m c 3 t) z)
        (k0_pay20 (F := Ideal) (D m c t) (iblk m c 6 t) (iblk m c 4 t) (iblk m c 3 t) z) 262#32 (ix2 r j)
      = dua (A0 m c) (A1 m c) (A2 m c) (A3 m c) (A4 m c) (row t r) j := by
  refine (pay2_at _ _ _ _ r j).trans (congrArg₂ (· + ·) (congrArg₂ (· + ·) ?_ ?_) ?_)
  · exact congrArg₂ (· * ·) (cw_at m c t 2 j) (dc_at m c t r j)
  · exact congrArg₂ (· * ·) (cw_at m c t 1 j) (next m c t hz r j)
  · exact congrArg₂ (· * ·) (cw_at m c t 0 j) (second m c t hz r j)

end Halo

theorem dub_at (c : Dev nD) (t : Fin cfg0.N) (r : Fin 256) (j : Fin 2816) :
    k0_pay17 (F := Ideal) (D m c t) (iblk m c 6 t) (iblk m c 4 t) (ix2 r j)
      = dact (A0 m c) (A1 m c) (A2 m c) (A3 m c) (A4 m c) (row t r) j * (cv (A1 m c) (A2 m c) (row t r) j * sgm (cv (A1 m c) (A2 m c) (row t r) j)) :=
  (pay17_at _ _ _ r j).trans (congrArg₂ (fun a b : EReal => a * (b * sgm b)) (dact_at m c t r j) (c_at m c t r j))

theorem point8 (c : Dev nD) (t : Fin cfg0.N) (y : S256x1024.Idx) :
    k0_pay12 (F := Ideal) (D m c t) y
      = Cert.Reference11Ideal.Read.val_main_v102 (F := Ideal) (A0 m c) (A1 m c) (A2 m c) (A3 m c) (A4 m c) (((cfg0.win 8).blk t).view.emb y) := by
  idx_vars y
  refine Eq.trans ?_ (congrArg _ (emb8 t y0 y1).symm)
  exact ((pay12_at _ y0 y1).trans (dy_at m c t y0 y1)).trans (Cert.FfnBwdRef.ref_dy _ _ _ _ _ (row t y0) y1).symm

theorem final8 (c : Dev nD) : (dats m 0 c).arrAt 8 (cfgs 0).N
    = Cert.Reference11Ideal.Read.val_main_v102 (F := Ideal) (A0 m c) (A1 m c) (A2 m c) (A3 m c) (A4 m c) := by
  refine (dats m 0 c).arrAt_eq_of_covers 8 _ (by decide +kernel) fun t hf y => ?_
  blk_simp
  rw [after0_8]
  by_cases h0 : t.val % 16 = 0
  · rw [outsAt0_A m c t h0 h0 (not_one_le t h0) h0 (not_one_le t h0)]
    frame_out
    exact point8 m c t y
  · rw [outsAt0_B m c t h0 h0 (one_le t h0) h0 (one_le t h0)]
    frame_out
    exact point8 m c t y

/-- The two halves of a row of the second result. -/
theorem half_a (c : Dev nD) (ok : Ok (A0 m c) (A1 m c) (A2 m c) (A3 m c) (A4 m c)) (t : Fin cfg0.N) {z : FVec Ideal S8x2816 .f32} (hz : Below m c t z)
    (y : S256x5632.Idx) (x : S256x2816.Idx) (k0 : (y 0).val = (x 0).val) (k1 : (y 1).val = (x 1).val) :
    k0_pay2 (F := Ideal) (iblk m c 5 t) (P m c t) (k0_pay19 (F := Ideal) (D m c t) (iblk m c 6 t) (iblk m c 4 t) (iblk m c 3 t) z)
        (k0_pay20 (F := Ideal) (D m c t) (iblk m c 6 t) (iblk m c 4 t) (iblk m c 3 t) z) 262#32 x
      = Cert.Reference11Ideal.Read.val_main_v104 (F := Ideal) (A0 m c) (A1 m c) (A2 m c) (A3 m c) (A4 m c) (((cfg0.win 9).blk t).view.emb y) := by
  idx_vars x
  idx_vars y
  obtain rfl : y0 = x0 := Fin.ext k0
  have hx : x1.val < 2816 := x1.isLt
  obtain rfl : y1 = ⟨x1.val, Nat.lt_of_lt_of_le hx (by decide)⟩ := Fin.ext k1
  refine Eq.trans ?_ (congrArg _ (emb9 t y0 _).symm)
  exact (dua_at m c t hz y0 x1).trans (Cert.FfnBwdRef.ref_du_a _ _ _ _ _ ok (row t y0) x1).symm

theorem half_b (c : Dev nD) (t : Fin cfg0.N) (y : S256x5632.Idx) (x : S256x2816.Idx) (k0 : (y 0).val = (x 0).val) (k1 : (y 1).val = 2816 + (x 1).val) :
    k0_pay17 (F := Ideal) (D m c t) (iblk m c 6 t) (iblk m c 4 t) x
      = Cert.Reference11Ideal.Read.val_main_v104 (F := Ideal) (A0 m c) (A1 m c) (A2 m c) (A3 m c) (A4 m c) (((cfg0.win 9).blk t).view.emb y) := by
  idx_vars x
  idx_vars y
  obtain rfl : y0 = x0 := Fin.ext k0
  have hx : x1.val < 2816 := x1.isLt
  obtain rfl : y1 = ⟨2816 + x1.val, Nat.add_lt_add_left hx 2816⟩ := Fin.ext k1
  refine Eq.trans ?_ (congrArg _ (emb9 t y0 _).symm)
  exact (dub_at m c t y0 x1).trans (Cert.FfnBwdRef.ref_du_b _ _ _ _ _ (row t y0) x1).symm

theorem final9 (c : Dev nD) (ok : Ok (A0 m c) (A1 m c) (A2 m c) (A3 m c) (A4 m c)) : (dats m 0 c).arrAt 9 (cfgs 0).N
    = Cert.Reference11Ideal.Read.val_main_v104 (F := Ideal) (A0 m c) (A1 m c) (A2 m c) (A3 m c) (A4 m c) := by
  refine (dats m 0 c).arrAt_eq_of_covers 9 _ (by decide +kernel) fun t hf y => ?_
  blk_simp
  rw [after0_9]
  by_cases e0 : t.val % 16 = 0
  · have hz := below_zero m c t e0
    rw [outsAt0_A m c t e0 e0 (not_one_le t e0) e0 (not_one_le t e0)]
    frame_out
    canon_tiles x k
    · exact half_a m c ok t hz y x (by omega) (by omega)
    · exact half_b m c t y x (by omega) (by omega)
  · have hz := below_step m c t e0 (Nat.lt_of_le_of_lt (Nat.sub_le _ _) t.isLt)
    rw [outsAt0_B m c t e0 e0 (one_le t e0) e0 (one_le t e0)]
    frame_out
    rw [read_unread_whole]
    canon_tiles x k
    · exact half_a m c ok t hz y x (by omega) (by omega)
    · exact half_b m c t y x (by omega) (by omega)

/-- What the block at point `t` adds to the gain's gradient. -/
def term (c : Dev nD) (t : Fin cfg0.N) (k : Fin 1024) : EReal :=
  ∑ r : Fin 256, A0 m c (ix2 (row t r) k) * (down (A1 m c) (A2 m c) (A3 m c) (row t r) k * rr fun l => down (A1 m c) (A2 m c) (A3 m c) (row t r) l)

theorem point10 (c : Dev nD) (t : Fin cfg0.N) (k : Fin 1024) : k0_pay10 (F := Ideal) (iblk m c 0 t) (iblk m c 1 t) (ix2 0 k) = term m c t k := by
  refine (pay10_at _ _ k).trans (Finset.sum_congr rfl fun r _ => congrArg₂ (· * ·) (x_at m c t r k) ?_)
  exact congrArg₂ (fun (a : EReal) (b : Fin 1024 → EReal) => a * rr b) (y_at m c t r k) (funext fun l => y_at m c t r l)

/-- A sum over the rows, block by block from the last. -/
theorem sum_rows (f : Fin 4096 → EReal) : (∑ t : Fin 16, ∑ r : Fin 256, f (row t r)) = ∑ i : Fin 4096, f i := by
  rw [← Cert.Sums.sum_blocks (A := 16) (n := 256) rfl f, ← Equiv.sum_comp Fin.revPerm]
  refine Finset.sum_congr rfl fun t _ => Finset.sum_congr rfl fun r _ => congrArg f (Fin.ext ?_)
  show (15 - t.rev.val) * 256 + r.val = t.val * 256 + r.val
  rw [Fin.val_rev]
  omega

theorem final10 (c : Dev nD) : (dats m 0 c).arrAt 10 (cfgs 0).N
    = Cert.Reference11Ideal.Read.val_main_v105 (F := Ideal) (A0 m c) (A1 m c) (A2 m c) (A3 m c) := by
  refine (dats m 0 c).arrAt_eq_of_after_last 10 t0_15 (by decide +kernel) _ fun j => ?_
  blk_simp
  rw [after0_10]
  idx_vars j
  obtain rfl : j0 = 0 := Subsingleton.elim _ _
  refine (Pipeline.eq_sum_fin_of_reset_step_apply_last (fun n h (j : Fin 1024) => ((outsAt0 m c n h).2.2.1 : FVec Ideal S1x1024 .f32) (ix2 0 j)) 16
    (fun _ => 0) (term m c) (fun t h0 j => ?_) (fun t h0 j => ?_) (by decide) t0_15 rfl j1).trans ?_
  · simp only [outsAt0_A m c t h0 h0 (not_one_le t h0) h0 (not_one_le t h0)]
    frame_out
    rw [zero_add]
    exact point10 m c t j
  · simp only [outsAt0_B m c t h0 h0 (one_le t h0) h0 (one_le t h0)]
    frame_out
    exact (pay11_at _ _ j).trans (congrArg _ (point10 m c t j))
  · rw [zero_add]
    refine Eq.trans ?_ (Cert.FfnBwdRef.ref_dg _ _ _ _ j1).symm
    exact sum_rows fun i : Fin 4096 => A0 m c (ix2 i j1) * (down (A1 m c) (A2 m c) (A3 m c) i j1 * rr fun l => down (A1 m c) (A2 m c) (A3 m c) i l)

/-- What the block at point `t` adds to the gradient of the convolution's weights. -/
def wterm (c : Dev nD) (t : Fin cfg0.N) (y : Fin 3 × Fin 2816) : EReal :=
  ∑ r : Fin 256, ucol (A1 m c) y.2 (row t r) * after (col m c y.2) ((row t r).val + (2 - y.1.val))

theorem point11 (c : Dev nD) (t : Fin cfg0.N) {z : FVec Ideal S8x2816 .f32} (hz : Below m c t z) (y : Fin 3 × Fin 2816) :
    k0_pay3 (F := Ideal) (k0_pay14 (F := Ideal) (iblk m c 2 t)) (P m c t) (k0_pay19 (F := Ideal) (D m c t) (iblk m c 6 t) (iblk m c 4 t) (iblk m c 3 t) z)
        (k0_pay20 (F := Ideal) (D m c t) (iblk m c 6 t) (iblk m c 4 t) (iblk m c 3 t) z) 262#32 (ix2 y.1 y.2) = wterm m c t y := by
  obtain ⟨⟨k, hk⟩, j⟩ := y
  obtain ⟨e0, e1, e2⟩ := pay3_at (k0_pay14 (F := Ideal) (iblk m c 2 t)) (P m c t) (k0_pay19 (F := Ideal) (D m c t) (iblk m c 6 t) (iblk m c 4 t) (iblk m c 3 t) z)
    (k0_pay20 (F := Ideal) (D m c t) (iblk m c 6 t) (iblk m c 4 t) (iblk m c 3 t) z) j
  have hu : ∀ r : Fin 256, k0_pay14 (F := Ideal) (iblk m c 2 t) (ix2 r j) = ucol (A1 m c) j (row t r) := fun r =>
    (pay14_at _ r j).trans (ua_at m c t r j)
  obtain rfl | rfl | rfl : k = 0 ∨ k = 1 ∨ k = 2 := by omega
  · exact e0.trans (Finset.sum_congr rfl fun r _ => congrArg₂ (· * ·) (hu r) (second m c t hz r j))
  · exact e1.trans (Finset.sum_congr rfl fun r _ => congrArg₂ (· * ·) (hu r) (next m c t hz r j))
  · exact e2.trans (Finset.sum_congr rfl fun r _ => congrArg₂ (· * ·) (hu r) ((dc_at m c t r j).trans (after_of _ rfl).symm))

theorem final11 (c : Dev nD) (ok : Ok (A0 m c) (A1 m c) (A2 m c) (A3 m c) (A4 m c)) : (dats m 0 c).arrAt 11 (cfgs 0).N
    = Cert.Reference11Ideal.Read.val_main_v99 (F := Ideal) (A0 m c) (A1 m c) (A2 m c) (A3 m c) (A4 m c) := by
  refine (dats m 0 c).arrAt_eq_of_after_last 11 t0_15 (by decide +kernel) _ fun j => ?_
  blk_simp
  rw [after0_11]
  idx_vars j
  refine (Pipeline.eq_sum_fin_of_reset_step_apply_last (fun n h (y : Fin 3 × Fin 2816) => ((outsAt0 m c n h).2.2.2.1 : FVec Ideal S3x2816 .f32) (ix2 y.1 y.2)) 16
    (fun _ => 0) (wterm m c) (fun t h0 y => ?_) (fun t h0 y => ?_) (by decide) t0_15 rfl (j0, j1)).trans ?_
  · have hz := below_zero m c t h0
    simp only [outsAt0_A m c t h0 h0 (not_one_le t h0) h0 (not_one_le t h0)]
    frame_out
    rw [zero_add]
    exact point11 m c t hz y
  · have hz := below_step m c t h0 (Nat.lt_of_le_of_lt (Nat.sub_le _ _) t.isLt)
    simp only [outsAt0_B m c t h0 h0 (one_le t h0) h0 (one_le t h0)]
    frame_out
    rw [read_unread_whole]
    exact (pay4_at _ _ _ _ _ y.1 y.2).trans (congrArg _ (point11 m c t hz y))
  · rw [zero_add]
    refine Eq.trans ?_ (Cert.FfnBwdRef.ref_dw _ _ _ _ _ ok j0 j1).symm
    refine (sum_rows fun i : Fin 4096 => ucol (A1 m c) j1 i * after (col m c j1) (i.val + (2 - j0.val))).trans ?_
    refine (sum_shift (ucol (A1 m c) j1) (col m c j1) (2 - j0.val) (by omega)).trans ?_
    rw [show 8 - (2 - j0.val) = 6 + j0.val by omega]

end Cert.FfnBwdValue

end
-- ==== Proof.FfnBwdClaim.lean ====
module

public import proofs.«01_k».proof.Defs
public import proofs.«01_k».proof.Proof.FfnBwdValue
public import proofs.«01_k».proof.Proof.Gen.Kernel11.Frame
public import proofs.«01_k».proof.Proof.Gen.Kernel11Ideal.Value
public import proofs.«01_k».proof.Proof.Gen.Reference11Ideal.Read
public import proofs.«01_k».proof.Proof.Gen.Pre_finite11
public import Idealize.ShloMosaic.Lib.Claim

@[expose] public section

/-! The claims about the gradient of the feed-forward block's gate, convolution and norm (`Kernel11`). -/

namespace Cert.FfnBwdClaim

open Idealize.ShloMosaic Idealize.SL.Sem

theorem frame_kernel : Cert.quiescent_Kernel11 := fun m ρ _ => Cert.Kernel11.Gen.frame m ρ

theorem frame_ideal : Cert.quiescent_Kernel11Ideal := fun m ρ _ => Cert.Kernel11Ideal.Gen.frame m ρ

theorem frame_ideal_pre : Cert.quiescent_Kernel11Ideal_pre_finite11 := fun m ρ _ => frame_ideal m ρ trivial

theorem frame_reference : Cert.quiescent_Reference11Ideal := fun m ρ _ =>
  (θ_run Cert.Reference11Ideal.defs _ _).mono (fun r h => ⟨fun c => (h c).2.2.2.2, sem_eq_zero_of_no_sems (by decide) r.2⟩)
    (Cert.Reference11Ideal.Value.run m ρ)

theorem frame_reference_pre : Cert.quiescent_Reference11Ideal_pre_finite11 := fun m ρ _ => frame_reference m ρ trivial

/-- The precondition says that every entry of every argument is a real number. -/
theorem reals {a0 : FVec Ideal Cert.Pre_finite11.S4096x1024 .f32} {a1 : FVec Ideal Cert.Pre_finite11.S4096x5632 .f32}
    {a2 : FVec Ideal Cert.Pre_finite11.S3x2816 .f32} {a3 : FVec Ideal Cert.Pre_finite11.S2816x1024 .f32} {a4 : FVec Ideal Cert.Pre_finite11.S1024 .f32}
    (h : Cert.Pre_finite11.fn (F := Ideal) a0 a1 a2 a3 a4 = fun _ => 1#1) : Cert.FfnBwdRef.Ok a0 a1 a2 a3 a4 := by
  have e := congrFun h (fun k => k.elim0)
  obtain ⟨e, e4⟩ := IntOp.andi_eq_one.mp e
  obtain ⟨e, e3⟩ := IntOp.andi_eq_one.mp e
  obtain ⟨e, e2⟩ := IntOp.andi_eq_one.mp e
  obtain ⟨e0, e1⟩ := IntOp.andi_eq_one.mp e
  exact ⟨Cert.Finite.all_real _ _ (fun _ => rfl) _ _ _ _ e0, Cert.Finite.all_real _ _ (fun _ => rfl) _ _ _ _ e1,
    Cert.Finite.all_real _ _ (fun _ => rfl) _ _ _ _ e2, Cert.Finite.all_real _ _ (fun _ => rfl) _ _ _ _ e3,
    Cert.Finite.all_real _ _ (fun _ => rfl) _ _ _ _ e4⟩

theorem algebraic : Cert.algebraic_Kernel11Ideal_Reference11Ideal_pre_finite11 := by
  intro m g m' g' hpre hagree
  refine ⟨_, _, _, _, Cert.Kernel11Ideal.Value.run_blocks m g, (θ_run Cert.Reference11Ideal.defs _ _).mono (fun r h c => ?_)
    (Cert.Reference11Ideal.Value.run m' g')⟩
  have ok := reals (hpre c)
  obtain ⟨h0, h1, h2, h3, h4⟩ := hagree c
  obtain ⟨r0, r1, r2, r3, rest⟩ := h c
  refine ⟨r0.trans ?_, r1.trans ?_, r2.trans ?_, r3.trans ?_, rest⟩
  · rw [Cert.Reference11Ideal.Read.val_main_v102_eq]
    change Cert.Reference11Ideal.Read.val_main_v102 (F := Ideal) (m' ((c.tc : Thread Cert.Reference11Ideal.nD Cert.Reference11Ideal.τ).loc Cert.Reference11Ideal.main_arg0)) (m' ((c.tc : Thread Cert.Reference11Ideal.nD Cert.Reference11Ideal.τ).loc Cert.Reference11Ideal.main_arg1)) (m' ((c.tc : Thread Cert.Reference11Ideal.nD Cert.Reference11Ideal.τ).loc Cert.Reference11Ideal.main_arg2)) (m' ((c.tc : Thread Cert.Reference11Ideal.nD Cert.Reference11Ideal.τ).loc Cert.Reference11Ideal.main_arg3)) (m' ((c.tc : Thread Cert.Reference11Ideal.nD Cert.Reference11Ideal.τ).loc Cert.Reference11Ideal.main_arg4)) = _
    rw [h0, h1, h2, h3, h4]
    exact (Cert.FfnBwdValue.final8 m c).symm
  · rw [Cert.Reference11Ideal.Read.val_main_v104_eq]
    change Cert.Reference11Ideal.Read.val_main_v104 (F := Ideal) (m' ((c.tc : Thread Cert.Reference11Ideal.nD Cert.Reference11Ideal.τ).loc Cert.Reference11Ideal.main_arg0)) (m' ((c.tc : Thread Cert.Reference11Ideal.nD Cert.Reference11Ideal.τ).loc Cert.Reference11Ideal.main_arg1)) (m' ((c.tc : Thread Cert.Reference11Ideal.nD Cert.Reference11Ideal.τ).loc Cert.Reference11Ideal.main_arg2)) (m' ((c.tc : Thread Cert.Reference11Ideal.nD Cert.Reference11Ideal.τ).loc Cert.Reference11Ideal.main_arg3)) (m' ((c.tc : Thread Cert.Reference11Ideal.nD Cert.Reference11Ideal.τ).loc Cert.Reference11Ideal.main_arg4)) = _
    rw [h0, h1, h2, h3, h4]
    exact (Cert.FfnBwdValue.final9 m c ok).symm
  · rw [Cert.Reference11Ideal.Read.val_main_v105_eq]
    change Cert.Reference11Ideal.Read.val_main_v105 (F := Ideal) (m' ((c.tc : Thread Cert.Reference11Ideal.nD Cert.Reference11Ideal.τ).loc Cert.Reference11Ideal.main_arg0)) (m' ((c.tc : Thread Cert.Reference11Ideal.nD Cert.Reference11Ideal.τ).loc Cert.Reference11Ideal.main_arg1)) (m' ((c.tc : Thread Cert.Reference11Ideal.nD Cert.Reference11Ideal.τ).loc Cert.Reference11Ideal.main_arg2)) (m' ((c.tc : Thread Cert.Reference11Ideal.nD Cert.Reference11Ideal.τ).loc Cert.Reference11Ideal.main_arg3)) = _
    rw [h0, h1, h2, h3]
    exact (Cert.FfnBwdValue.final10 m c).symm
  · rw [Cert.Reference11Ideal.Read.val_main_v99_eq]
    change Cert.Reference11Ideal.Read.val_main_v99 (F := Ideal) (m' ((c.tc : Thread Cert.Reference11Ideal.nD Cert.Reference11Ideal.τ).loc Cert.Reference11Ideal.main_arg0)) (m' ((c.tc : Thread Cert.Reference11Ideal.nD Cert.Reference11Ideal.τ).loc Cert.Reference11Ideal.main_arg1)) (m' ((c.tc : Thread Cert.Reference11Ideal.nD Cert.Reference11Ideal.τ).loc Cert.Reference11Ideal.main_arg2)) (m' ((c.tc : Thread Cert.Reference11Ideal.nD Cert.Reference11Ideal.τ).loc Cert.Reference11Ideal.main_arg3)) (m' ((c.tc : Thread Cert.Reference11Ideal.nD Cert.Reference11Ideal.τ).loc Cert.Reference11Ideal.main_arg4)) = _
    rw [h0, h1, h2, h3, h4]
    exact (Cert.FfnBwdValue.final11 m c ok).symm

end Cert.FfnBwdClaim
-- ==== Proof.MergeFwdBlock.lean ====
module

public import proofs.«01_k».proof.Proof.Gen.Kernel12Ideal.Frame
public import proofs.«01_k».proof.Proof.Rms
public import proofs.«01_k».proof.Proof.Conv

@[expose] public section

set_option maxRecDepth 16384

noncomputable section

/-! What one block of 512 rows computes. -/

namespace Cert.MergeFwdBlock

open Idealize.ShloMosaic Idealize.ShloMosaic.TcCoe Idealize.SL.Sem Cert.Kernel12Ideal Cert.Kernel12Ideal.Gen Cert.Rms Cert.Conv

open scoped BigOperators

theorem pay3_at (v0 : FVec Ideal S512x1024 .bf16) (v4 : FVec Ideal S512x384 .bf16) (v6 : FVec Ideal S1024x384 .bf16) (v10 : FVec Ideal S512x1024 .bf16)
    (v14 : FVec Ideal S512x384 .bf16) (v16 : FVec Ideal S1024x384 .bf16) (v21 : FVec Ideal S512x1024 .bf16) (v25 : FVec Ideal S512x256 .bf16)
    (v27 : FVec Ideal S1024x256 .bf16) (r : Fin 512) (j : Fin 1024) :
    k0_pay3 (F := Ideal) v0 v4 v6 v10 v14 v16 v21 v25 v27 (ix2 r j)
      = sgm (v0 (ix2 r j)) * (∑ l : Fin 384, v4 (ix2 r l) * v6 (ix2 j l)) + sgm (v10 (ix2 r j)) * (∑ l : Fin 384, v14 (ix2 r l) * v16 (ix2 j l))
        + sgm (v21 (ix2 r j)) * (∑ l : Fin 256, v25 (ix2 r l) * v27 (ix2 j l)) := by
  pointwise [k0_pay3, sgm, Ideal.logistic]

theorem pay1_at (v32 : FVec Ideal S512x1024 .bf16) (v34 : FVec Ideal S1024x1024 .bf16) (r : Fin 512) (k : Fin 1024) :
    k0_pay1 (F := Ideal) v32 v34 (ix2 r k) = ∑ l : Fin 1024, v32 (ix2 r l) * v34 (ix2 l k) := by
  pointwise [k0_pay1]

theorem pay2_at (v32 : FVec Ideal S512x1024 .bf16) (v34 : FVec Ideal S1024x1024 .bf16) (v38 : FVec Ideal S512x1024 .f32) (v39 : FVec Ideal S1x1024 .f32)
    (r : Fin 512) (k : Fin 1024) :
    k0_pay2 (F := Ideal) v32 v34 v38 v39 (ix2 r k)
      = v38 (ix2 r k) + k0_pay1 (F := Ideal) v32 v34 (ix2 r k) * rr (fun l => k0_pay1 (F := Ideal) v32 v34 (ix2 r l)) * v39 (ix2 0 k) := by
  pointwise [k0_pay2, rr, msq]

end Cert.MergeFwdBlock

end
-- ==== Proof.MergeFwdRef.lean ====
module

public import proofs.«01_k».proof.Proof.Gen.Reference12Ideal.Read
public import proofs.«01_k».proof.Proof.Rms
public import proofs.«01_k».proof.Proof.Conv

@[expose] public section

set_option maxRecDepth 16384

noncomputable section

/-! The reference's results, entry by entry. -/

namespace Cert.MergeFwdRef

open Idealize.ShloMosaic Cert.Reference12Ideal Cert.Reference12Ideal.Read Cert.Rms Cert.Conv

open scoped BigOperators

variable (x0 : FVec Ideal S4096x1024 .f32) (x1 : FVec Ideal S4096x6912 .f32) (x2 x3 : FVec Ideal S4096x384 .f32) (x4 : FVec Ideal S4096x256 .f32)
  (x5 x6 : FVec Ideal S384x1024 .f32) (x7 : FVec Ideal S256x1024 .f32) (x8 : FVec Ideal S1024x1024 .f32) (x9 : FVec Ideal S1024 .f32)

/-- The gated sum of the three branches. -/
def merged (i : Fin 4096) (j : Fin 1024) : EReal :=
  sgm (x1 (ix2 i ⟨3840 + j.val, by omega⟩)) * (∑ l : Fin 384, x2 (ix2 i l) * x5 (ix2 l j))
    + sgm (x1 (ix2 i ⟨3840 + (1024 + j.val), by omega⟩)) * (∑ l : Fin 384, x3 (ix2 i l) * x6 (ix2 l j))
    + sgm (x1 (ix2 i ⟨3840 + (2048 + j.val), by omega⟩)) * (∑ l : Fin 256, x4 (ix2 i l) * x7 (ix2 l j))

theorem sum_at (i : Fin 4096) (j : Fin 1024) : val_main_v17 (F := Ideal) x1 x2 x3 x4 x5 x6 x7 (ix2 i j) = merged x1 x2 x3 x4 x5 x6 x7 i j := by
  pointwise [val_main_v17, val_main_v16, val_main_v15, val_main_v14, val_main_v13, val_main_v12, val_main_v11, val_main_v10, val_main_v9, val_main_v8,
    val_main_v7, val_main_v6, val_main_v5, val_main_v4, val_main_v3, val_main_v2, val_main_v1, val_main_v0, val_main_cst, val_main_cst_0, merged, sgm]

theorem merged_at (i : Fin 4096) (j : Fin 1024) : val_main_v19 (F := Ideal) x1 x2 x3 x4 x5 x6 x7 (ix2 i j) = merged x1 x2 x3 x4 x5 x6 x7 i j := by
  refine Eq.trans ?_ (sum_at x1 x2 x3 x4 x5 x6 x7 i j)
  pointwise [val_main_v19]

/-- The output projection of the gated sum. -/
def out (i : Fin 4096) (k : Fin 1024) : EReal := ∑ l : Fin 1024, merged x1 x2 x3 x4 x5 x6 x7 i l * x8 (ix2 l k)

theorem y_at (i : Fin 4096) (k : Fin 1024) : val_main_v18 (F := Ideal) x1 x2 x3 x4 x5 x6 x7 x8 (ix2 i k) = out x1 x2 x3 x4 x5 x6 x7 x8 i k := by
  have e : val_main_v18 (F := Ideal) x1 x2 x3 x4 x5 x6 x7 x8 (ix2 i k)
      = ∑ l : Fin 1024, val_main_v17 (F := Ideal) x1 x2 x3 x4 x5 x6 x7 (ix2 i l) * x8 (ix2 l k) := by
    pointwise [val_main_v18]
  exact e.trans (Finset.sum_congr rfl fun l _ => congrArg₂ (· * ·) (sum_at x1 x2 x3 x4 x5 x6 x7 i l) rfl)

/-- The residual stream after the mixer. -/
theorem x_at (i : Fin 4096) (k : Fin 1024) :
    val_main_v33 (F := Ideal) x0 x1 x2 x3 x4 x5 x6 x7 x8 x9 (ix2 i k)
      = x0 (ix2 i k) + out x1 x2 x3 x4 x5 x6 x7 x8 i k * rr (fun l => out x1 x2 x3 x4 x5 x6 x7 x8 i l) * x9 (ix1 k) := by
  have e : val_main_v33 (F := Ideal) x0 x1 x2 x3 x4 x5 x6 x7 x8 x9 (ix2 i k)
      = x0 (ix2 i k) + val_main_v18 (F := Ideal) x1 x2 x3 x4 x5 x6 x7 x8 (ix2 i k)
          * rr (fun l => val_main_v18 (F := Ideal) x1 x2 x3 x4 x5 x6 x7 x8 (ix2 i l)) * x9 (ix1 k) := by
    pointwise [val_main_v33, val_main_v32, val_main_v31, val_main_v30, val_main_v29, val_main_v28, val_main_v27, val_main_v26, val_main_v25, val_main_v24,
      val_main_v23, val_main_v22, val_main_v21, val_main_v20, val_main_cst_1, val_main_cst_2, val_main_cst_3, rr, msq]
  rw [e]
  simp only [y_at]

end Cert.MergeFwdRef

end
-- ==== Proof.MergeFwdValue.lean ====
module

public import proofs.«01_k».proof.Proof.MergeFwdBlock
public import proofs.«01_k».proof.Proof.MergeFwdRef
public import Idealize.ShloMosaic.Lib.Pipeline.ReadBack

@[expose] public section

set_option maxRecDepth 16384

noncomputable section

/-! The arrays the merge leaves: each block of 512 rows by itself. -/

namespace Cert.MergeFwdValue

open Idealize.ShloMosaic Idealize.ShloMosaic.TcCoe Idealize.SL.Sem Cert.Kernel12Ideal Cert.Kernel12Ideal.Gen Cert.Rms Cert.Conv Cert.MergeFwdBlock
open Cert.MergeFwdRef (merged out)
open Idealize.ShloMosaic.Pipeline (Dat)

open scoped BigOperators

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![0, 0] ∧ win0_6.index t = ![0, 0]
    ∧ win0_7.index t = ![0, 0] ∧ win0_8.index t = ![0, 0] ∧ win0_9.index t = ![0, 0] ∧ win0_10.index t = ![t.val, 0]
    ∧ win0_11.index t = ![t.val, 0] ∧ win0_12.index t = ![t.val, 0] :=
  (by decide +kernel : ∀ t : Fin grid0.N, _)

/-- The array's row that row `r` of block `t` is. -/
def row (t : Fin cfg0.N) (r : Fin 512) : Fin 4096 :=
  ⟨t.val * 512 + r.val, by have := t.isLt; change t.val < 8 at this; omega⟩

/-- The arguments of the call, at their types. -/
abbrev A0 (c : Dev nD) : FVec Ideal S4096x1024 .f32 := m ((c.tc : Thread nD τ).loc main_arg0)
abbrev A1 (c : Dev nD) : FVec Ideal S4096x6912 .f32 := m ((c.tc : Thread nD τ).loc main_arg1)
abbrev A2 (c : Dev nD) : FVec Ideal S4096x384 .f32 := m ((c.tc : Thread nD τ).loc main_arg2)
abbrev A3 (c : Dev nD) : FVec Ideal S4096x384 .f32 := m ((c.tc : Thread nD τ).loc main_arg3)
abbrev A4 (c : Dev nD) : FVec Ideal S4096x256 .f32 := m ((c.tc : Thread nD τ).loc main_arg4)
abbrev A5 (c : Dev nD) : FVec Ideal S384x1024 .f32 := m ((c.tc : Thread nD τ).loc main_arg5)
abbrev A6 (c : Dev nD) : FVec Ideal S384x1024 .f32 := m ((c.tc : Thread nD τ).loc main_arg6)
abbrev A7 (c : Dev nD) : FVec Ideal S256x1024 .f32 := m ((c.tc : Thread nD τ).loc main_arg7)
abbrev A8 (c : Dev nD) : FVec Ideal S1024x1024 .f32 := m ((c.tc : Thread nD τ).loc main_arg8)
abbrev A9 (c : Dev nD) : FVec Ideal S1024 .f32 := m ((c.tc : Thread nD τ).loc main_arg9)

theorem emb10 (t : Fin cfg0.N) (r : Fin 512) (l : Fin 1024) : ((cfg0.win 10).blk t).view.emb (ix2 r l) = ix2 (row t r) l := by
  blk_ext [idx t, row]

theorem emb11 (t : Fin cfg0.N) (r : Fin 512) (l : Fin 1024) : ((cfg0.win 11).blk t).view.emb (ix2 r l) = ix2 (row t r) l := by
  blk_ext [idx t, row]

theorem emb12 (t : Fin cfg0.N) (r : Fin 512) (l : Fin 1024) : ((cfg0.win 12).blk t).view.emb (ix2 r l) = ix2 (row t r) l := by
  blk_ext [idx t, row]

theorem x_at (c : Dev nD) (t : Fin cfg0.N) (r : Fin 512) (k : Fin 1024) :
    (iblk m c 0 t : FVec Ideal S512x1024 .f32) (ix2 r k) = A0 m c (ix2 (row t r) k) := by
  blk_ext [iblk, V, idx t, row]

theorem a_at (c : Dev nD) (t : Fin cfg0.N) (r : Fin 512) (l : Fin 384) :
    (iblk m c 2 t : FVec Ideal S512x384 .bf16) (ix2 r l) = A2 m c (ix2 (row t r) l) := by
  have e : ((cfg0.win 2).blk t).view.emb (ix2 r l) = ix2 (row t r) l := by blk_ext [idx t, row]
  show V m c main_v4 (((cfg0.win 2).blk t).view.emb (ix2 r l)) = _
  rw [e]
  entry_read
  pointwise

theorem b_at (c : Dev nD) (t : Fin cfg0.N) (r : Fin 512) (l : Fin 384) :
    (iblk m c 3 t : FVec Ideal S512x384 .bf16) (ix2 r l) = A3 m c (ix2 (row t r) l) := by
  have e : ((cfg0.win 3).blk t).view.emb (ix2 r l) = ix2 (row t r) l := by blk_ext [idx t, row]
  show V m c main_v5 (((cfg0.win 3).blk t).view.emb (ix2 r l)) = _
  rw [e]
  entry_read
  pointwise

theorem c_at (c : Dev nD) (t : Fin cfg0.N) (r : Fin 512) (l : Fin 256) :
    (iblk m c 4 t : FVec Ideal S512x256 .bf16) (ix2 r l) = A4 m c (ix2 (row t r) l) := by
  have e : ((cfg0.win 4).blk t).view.emb (ix2 r l) = ix2 (row t r) l := by blk_ext [idx t, row]
  show V m c main_v6 (((cfg0.win 4).blk t).view.emb (ix2 r l)) = _
  rw [e]
  entry_read
  pointwise

theorem wa_at (c : Dev nD) (t : Fin cfg0.N) (j : Fin 1024) (l : Fin 384) :
    (iblk m c 5 t : FVec Ideal S1024x384 .bf16) (ix2 j l) = A5 m c (ix2 l j) := by
  have e : ((cfg0.win 5).blk t).view.emb (ix2 j l) = ix2 j l := by blk_ext [idx t]
  show V m c main_v8 (((cfg0.win 5).blk t).view.emb (ix2 j l)) = _
  rw [e]
  entry_read
  pointwise

theorem wb_at (c : Dev nD) (t : Fin cfg0.N) (j : Fin 1024) (l : Fin 384) :
    (iblk m c 6 t : FVec Ideal S1024x384 .bf16) (ix2 j l) = A6 m c (ix2 l j) := by
  have e : ((cfg0.win 6).blk t).view.emb (ix2 j l) = ix2 j l := by blk_ext [idx t]
  show V m c main_v10 (((cfg0.win 6).blk t).view.emb (ix2 j l)) = _
  rw [e]
  entry_read
  pointwise

theorem wc_at (c : Dev nD) (t : Fin cfg0.N) (j : Fin 1024) (l : Fin 256) :
    (iblk m c 7 t : FVec Ideal S1024x256 .bf16) (ix2 j l) = A7 m c (ix2 l j) := by
  have e : ((cfg0.win 7).blk t).view.emb (ix2 j l) = ix2 j l := by blk_ext [idx t]
  show V m c main_v12 (((cfg0.win 7).blk t).view.emb (ix2 j l)) = _
  rw [e]
  entry_read
  pointwise

theorem wo_at (c : Dev nD) (t : Fin cfg0.N) (l k : Fin 1024) :
    (iblk m c 8 t : FVec Ideal S1024x1024 .bf16) (ix2 l k) = A8 m c (ix2 l k) := by
  have e : ((cfg0.win 8).blk t).view.emb (ix2 l k) = ix2 l k := by blk_ext [idx t]
  show V m c main_v13 (((cfg0.win 8).blk t).view.emb (ix2 l k)) = _
  rw [e]
  entry_read
  pointwise

theorem g_at (c : Dev nD) (t : Fin cfg0.N) (k : Fin 1024) :
    (iblk m c 9 t : FVec Ideal S1x1024 .f32) (ix2 0 k) = A9 m c (ix1 k) := by
  have e : ((cfg0.win 9).blk t).view.emb (ix2 0 k) = ix2 0 k := by blk_ext [idx t]
  show V m c main_v14 (((cfg0.win 9).blk t).view.emb (ix2 0 k)) = _
  rw [e]
  entry_read
  pointwise

/-- The gate columns of a block. -/
theorem gate_at (c : Dev nD) (t : Fin cfg0.N) (r : Fin 512) (j : Fin 3072) :
    (X0_1 m c t : FVec Ideal S512x3072 .bf16) (ix2 r j) = A1 m c (ix2 (row t r) ⟨3840 + j.val, by omega⟩) := by
  unfold X0_1 Pipeline.Window.fill
  rw [dif_pos (moved0_1 t _)]
  have e : ((cfg0.win 1).blk t).view.emb (fun a => ⟨((ix2 r j : S512x3072.Idx) a).val, ((cfg0.win 1).moved_iff _ _).mp (moved0_1 t (ix2 r j)) a⟩)
      = ix2 (row t r) ⟨j.val, by omega⟩ := by
    blk_ext [idx t, row]
  show V m c main_v3 (((cfg0.win 1).blk t).view.emb _) = _
  rw [e]
  entry_read
  pointwise

theorem g1_at (c : Dev nD) (t : Fin cfg0.N) (r : Fin 512) (j : Fin 1024) :
    (View.ld (X0_1 m c t) (Rect.unit ![0, 0] ![512, 1024] inb_S512x3072_S512x1024_0_0) : FVec Ideal S512x1024 .bf16) (ix2 r j)
      = A1 m c (ix2 (row t r) ⟨3840 + j.val, by omega⟩) := by
  refine Eq.trans (congrArg (X0_1 m c t) (?_ : _ = (ix2 r ⟨j.val, by omega⟩ : S512x3072.Idx))) (gate_at m c t r _)
  blk_ext <;> simp [Rect.unit]

theorem g2_at (c : Dev nD) (t : Fin cfg0.N) (r : Fin 512) (j : Fin 1024) :
    (View.ld (X0_1 m c t) (Rect.unit ![0, 1024] ![512, 1024] inb_S512x3072_S512x1024_0_1024) : FVec Ideal S512x1024 .bf16) (ix2 r j)
      = A1 m c (ix2 (row t r) ⟨3840 + (1024 + j.val), by omega⟩) := by
  refine Eq.trans (congrArg (X0_1 m c t) (?_ : _ = (ix2 r ⟨1024 + j.val, by omega⟩ : S512x3072.Idx))) (gate_at m c t r _)
  blk_ext <;> simp [Rect.unit]

theorem g3_at (c : Dev nD) (t : Fin cfg0.N) (r : Fin 512) (j : Fin 1024) :
    (View.ld (X0_1 m c t) (Rect.unit ![0, 2048] ![512, 1024] inb_S512x3072_S512x1024_0_2048) : FVec Ideal S512x1024 .bf16) (ix2 r j)
      = A1 m c (ix2 (row t r) ⟨3840 + (2048 + j.val), by omega⟩) := by
  refine Eq.trans (congrArg (X0_1 m c t) (?_ : _ = (ix2 r ⟨2048 + j.val, by omega⟩ : S512x3072.Idx))) (gate_at m c t r _)
  blk_ext <;> simp [Rect.unit]

/-- The gated sum that the body makes of block `t`. -/
abbrev blockSum (c : Dev nD) (t : Fin cfg0.N) : FVec Ideal S512x1024 .bf16 :=
  k0_pay3 (F := Ideal) (View.ld (X0_1 m c t) (Rect.unit ![0, 0] ![512, 1024] inb_S512x3072_S512x1024_0_0)) (iblk m c 2 t) (iblk m c 5 t)
    (View.ld (X0_1 m c t) (Rect.unit ![0, 1024] ![512, 1024] inb_S512x3072_S512x1024_0_1024)) (iblk m c 3 t) (iblk m c 6 t)
    (View.ld (X0_1 m c t) (Rect.unit ![0, 2048] ![512, 1024] inb_S512x3072_S512x1024_0_2048)) (iblk m c 4 t) (iblk m c 7 t)

theorem sum_at (c : Dev nD) (t : Fin cfg0.N) (r : Fin 512) (j : Fin 1024) :
    blockSum m c t (ix2 r j) = merged (A1 m c) (A2 m c) (A3 m c) (A4 m c) (A5 m c) (A6 m c) (A7 m c) (row t r) j := by
  refine (pay3_at _ _ _ _ _ _ _ _ _ r j).trans (congrArg₂ (fun a b : EReal => a + b) (congrArg₂ (fun a b : EReal => a + b) ?_ ?_) ?_)
  · exact congrArg₂ (fun a b : EReal => sgm a * b) (g1_at m c t r j)
      (Finset.sum_congr rfl fun l _ => congrArg₂ (fun a b : EReal => a * b) (a_at m c t r l) (wa_at m c t j l))
  · exact congrArg₂ (fun a b : EReal => sgm a * b) (g2_at m c t r j)
      (Finset.sum_congr rfl fun l _ => congrArg₂ (fun a b : EReal => a * b) (b_at m c t r l) (wb_at m c t j l))
  · exact congrArg₂ (fun a b : EReal => sgm a * b) (g3_at m c t r j)
      (Finset.sum_congr rfl fun l _ => congrArg₂ (fun a b : EReal => a * b) (c_at m c t r l) (wc_at m c t j l))

theorem out_at (c : Dev nD) (t : Fin cfg0.N) (r : Fin 512) (k : Fin 1024) :
    k0_pay1 (F := Ideal) (blockSum m c t) (iblk m c 8 t) (ix2 r k)
      = out (A1 m c) (A2 m c) (A3 m c) (A4 m c) (A5 m c) (A6 m c) (A7 m c) (A8 m c) (row t r) k :=
  (pay1_at _ _ r k).trans (Finset.sum_congr rfl fun l _ => congrArg₂ (fun a b : EReal => a * b) (sum_at m c t r l) (wo_at m c t l k))

theorem point10 (c : Dev nD) (t : Fin cfg0.N) (y : S512x1024.Idx) :
    blockSum m c t y = Cert.Reference12Ideal.Read.val_main_v19 (F := Ideal) (A1 m c) (A2 m c) (A3 m c) (A4 m c) (A5 m c) (A6 m c) (A7 m c)
      (((cfg0.win 10).blk t).view.emb y) := by
  idx_vars y
  refine Eq.trans ?_ (congrArg _ (emb10 t y0 y1).symm)
  exact (sum_at m c t y0 y1).trans (Cert.MergeFwdRef.merged_at _ _ _ _ _ _ _ (row t y0) y1).symm

theorem point11 (c : Dev nD) (t : Fin cfg0.N) (y : S512x1024.Idx) :
    k0_pay1 (F := Ideal) (blockSum m c t) (iblk m c 8 t) y
      = Cert.Reference12Ideal.Read.val_main_v18 (F := Ideal) (A1 m c) (A2 m c) (A3 m c) (A4 m c) (A5 m c) (A6 m c) (A7 m c) (A8 m c)
        (((cfg0.win 11).blk t).view.emb y) := by
  idx_vars y
  refine Eq.trans ?_ (congrArg _ (emb11 t y0 y1).symm)
  exact (out_at m c t y0 y1).trans (Cert.MergeFwdRef.y_at _ _ _ _ _ _ _ _ (row t y0) y1).symm

theorem point12 (c : Dev nD) (t : Fin cfg0.N) (y : S512x1024.Idx) :
    k0_pay2 (F := Ideal) (blockSum m c t) (iblk m c 8 t) (iblk m c 0 t) (iblk m c 9 t) y
      = Cert.Reference12Ideal.Read.val_main_v33 (F := Ideal) (A0 m c) (A1 m c) (A2 m c) (A3 m c) (A4 m c) (A5 m c) (A6 m c) (A7 m c) (A8 m c) (A9 m c)
        (((cfg0.win 12).blk t).view.emb y) := by
  idx_vars y
  refine Eq.trans ?_ (congrArg _ (emb12 t y0 y1).symm)
  refine Eq.trans ?_ (Cert.MergeFwdRef.x_at _ _ _ _ _ _ _ _ _ _ (row t y0) y1).symm
  refine (pay2_at _ _ _ _ y0 y1).trans (congrArg₂ (fun a b : EReal => a + b) (x_at m c t y0 y1) (congrArg₂ (fun a b : EReal => a * b) ?_ (g_at m c t y1)))
  exact congrArg₂ (fun (a : EReal) (b : Fin 1024 → EReal) => a * rr b) (out_at m c t y0 y1) (funext fun l => out_at m c t y0 l)

theorem final10 (c : Dev nD) : (dats m 0 c).arrAt 10 (cfgs 0).N
    = Cert.Reference12Ideal.Read.val_main_v19 (F := Ideal) (A1 m c) (A2 m c) (A3 m c) (A4 m c) (A5 m c) (A6 m c) (A7 m c) := by
  refine (dats m 0 c).arrAt_eq_of_covers 10 _ (by decide +kernel) fun t hf y => ?_
  blk_simp
  rw [after0_10]
  unfold outsAt0
  frame_out
  exact point10 m c t y

theorem final11 (c : Dev nD) : (dats m 0 c).arrAt 11 (cfgs 0).N
    = Cert.Reference12Ideal.Read.val_main_v18 (F := Ideal) (A1 m c) (A2 m c) (A3 m c) (A4 m c) (A5 m c) (A6 m c) (A7 m c) (A8 m c) := by
  refine (dats m 0 c).arrAt_eq_of_covers 11 _ (by decide +kernel) fun t hf y => ?_
  blk_simp
  rw [after0_11]
  unfold outsAt0
  frame_out
  exact point11 m c t y

theorem final12 (c : Dev nD) : (dats m 0 c).arrAt 12 (cfgs 0).N
    = Cert.Reference12Ideal.Read.val_main_v33 (F := Ideal) (A0 m c) (A1 m c) (A2 m c) (A3 m c) (A4 m c) (A5 m c) (A6 m c) (A7 m c) (A8 m c) (A9 m c) := by
  refine (dats m 0 c).arrAt_eq_of_covers 12 _ (by decide +kernel) fun t hf y => ?_
  blk_simp
  rw [after0_12]
  unfold outsAt0
  frame_out
  exact point12 m c t y

end Cert.MergeFwdValue

end
-- ==== Proof.MergeFwdClaim.lean ====
module

public import proofs.«01_k».proof.Defs
public import proofs.«01_k».proof.Proof.MergeFwdValue
public import proofs.«01_k».proof.Proof.Gen.Kernel12.Frame
public import proofs.«01_k».proof.Proof.Gen.Kernel12Ideal.Value
public import proofs.«01_k».proof.Proof.Gen.Reference12Ideal.Read
public import Idealize.ShloMosaic.Lib.Claim

@[expose] public section

/-! The claims about the merge of the three branches (`Kernel12`). -/

namespace Cert.MergeFwdClaim

open Idealize.ShloMosaic Idealize.SL.Sem

theorem frame_kernel : Cert.quiescent_Kernel12 := fun m ρ _ => Cert.Kernel12.Gen.frame m ρ

theorem frame_ideal : Cert.quiescent_Kernel12Ideal := fun m ρ _ => Cert.Kernel12Ideal.Gen.frame m ρ

theorem frame_reference : Cert.quiescent_Reference12Ideal := fun m ρ _ =>
  (θ_run Cert.Reference12Ideal.defs _ _).mono (fun r h => ⟨fun c => (h c).2.2.2, sem_eq_zero_of_no_sems (by decide) r.2⟩)
    (Cert.Reference12Ideal.Value.run m ρ)

theorem algebraic : Cert.algebraic_Kernel12Ideal_Reference12Ideal := by
  intro m g m' g' _ hagree
  refine ⟨_, _, _, Cert.Kernel12Ideal.Value.run_blocks m g, (θ_run Cert.Reference12Ideal.defs _ _).mono (fun r h c => ?_)
    (Cert.Reference12Ideal.Value.run m' g')⟩
  obtain ⟨h0, h1, h2, h3, h4, h5, h6, h7, h8, h9⟩ := hagree c
  obtain ⟨r0, r1, r2, rest⟩ := h c
  refine ⟨r0.trans ?_, r1.trans ?_, r2.trans ?_, rest⟩
  · rw [Cert.Reference12Ideal.Read.val_main_v19_eq, h1, h2, h3, h4, h5, h6, h7]
    exact (Cert.MergeFwdValue.final10 m c).symm
  · rw [Cert.Reference12Ideal.Read.val_main_v18_eq, h1, h2, h3, h4, h5, h6, h7, h8]
    exact (Cert.MergeFwdValue.final11 m c).symm
  · rw [Cert.Reference12Ideal.Read.val_main_v33_eq, h0, h1, h2, h3, h4, h5, h6, h7, h8, h9]
    exact (Cert.MergeFwdValue.final12 m c).symm

end Cert.MergeFwdClaim
-- ==== Proof.Adam.lean ====
module

public import Idealize.ShloMosaic.PureOps.Ideal
public import Idealize.ShloMosaic.PureOps.Ideal.Laws

@[expose] public section

noncomputable section

/-! One step of AdamW on one entry, over the extended reals. -/

namespace Cert.Adam

open Idealize.ShloMosaic

/-- The new first moment, from the gradient and the old moment. -/
def mom (g m : EReal) : EReal := Ideal.ofBits .f32 0x3F666666#32 * m + Ideal.ofBits .f32 0x3DCCCCCD#32 * g

/-- The new second moment. -/
def sec (g v : EReal) : EReal := Ideal.ofBits .f32 0x3F7FBE77#32 * v + Ideal.ofBits .f32 0x3A83126F#32 * (g * g)

/-- The change of the weight: the first moment over the root of the second, both corrected for their start at zero, and the decay. -/
def delta (g w m v : EReal) : EReal :=
  Ideal.ofBits .f32 0xBA83126F#32
    * (Ideal.div (Ideal.div (mom g m) (Ideal.ofBits .f32 0x3F26BD02#32))
        (Ideal.sqrt (Ideal.div (sec g v) (Ideal.ofBits .f32 0x3C231ACC#32)) + Ideal.ofBits .f32 0x322BCC77#32)
      + Ideal.ofBits .f32 0x3C23D70A#32 * w)

/-- The shares of a gradient added in the devices' order, the own one first. -/
def total (o : EReal) (r : Fin 7 → EReal) : EReal := o + r 0 + r 1 + r 2 + r 3 + r 4 + r 5 + r 6

theorem total_eq (o : EReal) (r : Fin 7 → EReal) : o + ∑ d, r d = total o r := by
  simp only [Fin.sum_univ_seven, total, add_assoc]

end Cert.Adam

end
-- ==== Proof.AdamNormValue.lean ====
module

public import proofs.«01_k».proof.Proof.Gen.Kernel13Ideal.Value
public import proofs.«01_k».proof.Proof.Gen.Reference13Ideal.Read
public import proofs.«01_k».proof.Proof.Adam
public import proofs.«01_k».proof.Proof.Conv
public import Idealize.ShloMosaic.Lib.Pipeline.ReadBack

@[expose] public section

set_option maxRecDepth 16384

noncomputable section

/-! The arrays that the update of the norms' gains leaves. -/

namespace Cert.AdamNormValue

open Idealize.ShloMosaic Idealize.ShloMosaic.TcCoe Idealize.SL.Sem Cert.Kernel13Ideal Cert.Kernel13Ideal.Gen Cert.Adam
open Idealize.ShloMosaic.Pipeline (Dat)

variable (m : (ℓ : Loc nD τ sig) → Buf (Elt Ideal) ℓ)

theorem idx : ∀ t : Fin cfg0.N, win0_0.index t = ![t.val, 0, 0] ∧ win0_1.index t = ![t.val, 0, 0] ∧ win0_2.index t = ![t.val, 0, 0]
    ∧ win0_3.index t = ![t.val, 0, 0] ∧ win0_4.index t = ![t.val, 0, 0] ∧ win0_5.index t = ![t.val, 0, 0] ∧ win0_6.index t = ![t.val, 0, 0] :=
  (by decide +kernel : ∀ t : Fin grid0.N, _)

/-- Where entry `y` of block `t` lies in the whole array. -/
def at_ (t : Fin cfg0.N) (y : S1x2x1024.Idx) : S1x2x1024.Idx :=
  ix3 ⟨t.val, t.isLt⟩ ⟨(y 1).val, (y 1).isLt⟩ ⟨(y 2).val, (y 2).isLt⟩

theorem emb (t : Fin cfg0.N) (y : S1x2x1024.Idx) : ((cfg0.win 4).blk t).view.emb y = at_ t y ∧ ((cfg0.win 5).blk t).view.emb y = at_ t y
    ∧ ((cfg0.win 6).blk t).view.emb y = at_ t y := by
  idx_vars y
  refine ⟨?_, ?_, ?_⟩ <;> blk_ext [idx t, at_]

/-- The arguments of the call, at their types. -/
abbrev A0 (c : Dev nD) : FVec Ideal S1x2x1024 .f32 := m ((c.tc : Thread nD τ).loc main_arg0)
abbrev A1 (c : Dev nD) : FVec Ideal S1x2x1024 .f32 := m ((c.tc : Thread nD τ).loc main_arg1)
abbrev A2 (c : Dev nD) : FVec Ideal S1x2x1024 .f32 := m ((c.tc : Thread nD τ).loc main_arg2)
abbrev A3 (c : Dev nD) : FVec Ideal S1x2x1024 .f32 := m ((c.tc : Thread nD τ).loc main_arg3)

theorem in_at (c : Dev nD) (t : Fin cfg0.N) (y : S1x2x1024.Idx) :
    (iblk m c 0 t : FVec Ideal S1x2x1024 .f32) y = A0 m c (at_ t y) ∧ (iblk m c 1 t : FVec Ideal S1x2x1024 .f32) y = A1 m c (at_ t y)
      ∧ (iblk m c 2 t : FVec Ideal S1x2x1024 .f32) y = A2 m c (at_ t y) ∧ (iblk m c 3 t : FVec Ideal S1x2x1024 .f32) y = A3 m c (at_ t y) := by
  idx_vars y
  refine ⟨?_, ?_, ?_, ?_⟩ <;> blk_ext [iblk, V, idx t, at_]

theorem pay5_at (v0 v2 : FVec Ideal S1x2x1024 .f32) (y : S1x2x1024.Idx) : k0_pay5 (F := Ideal) v0 v2 y = mom (v0 y) (v2 y) := by
  idx_vars y
  obtain rfl : y0 = 0 := Subsingleton.elim _ _
  pointwise [k0_pay5, k0_pay3, k0_pay2, mom]

theorem pay6_at (v0 v9 : FVec Ideal S1x2x1024 .f32) (y : S1x2x1024.Idx) : k0_pay6 (F := Ideal) v0 v9 y = sec (v0 y) (v9 y) := by
  idx_vars y
  obtain rfl : y0 = 0 := Subsingleton.elim _ _
  pointwise [k0_pay6, k0_pay4, k0_pay2, sec]

theorem pay1_at (v0 v2 v9 v31 : FVec Ideal S1x2x1024 .f32) (y : S1x2x1024.Idx) :
    k0_pay1 (F := Ideal) (k0_pay7 (F := Ideal) v0 v2 v9) v31 y = delta (v0 y) (v31 y) (v2 y) (v9 y) := by
  idx_vars y
  obtain rfl : y0 = 0 := Subsingleton.elim _ _
  pointwise [k0_pay1, k0_pay7, k0_pay4, k0_pay3, k0_pay2, delta, mom, sec]

section
open Cert.Reference13Ideal.Read

theorem ref_m (x0 x2 : FVec Ideal S1x2x1024 .f32) (i : S1x2x1024.Idx) : val_main_v4 (F := Ideal) x0 x2 i = mom (x0 i) (x2 i) := by
  idx_vars i
  pointwise [val_main_v4, val_main_v3, val_main_v2, val_main_v1, val_main_v0, val_main_cst, val_main_cst_0, mom]

theorem ref_v (x0 x3 : FVec Ideal S1x2x1024 .f32) (i : S1x2x1024.Idx) : val_main_v10 (F := Ideal) x0 x3 i = sec (x0 i) (x3 i) := by
  idx_vars i
  pointwise [val_main_v10, val_main_v9, val_main_v8, val_main_v7, val_main_v6, val_main_v5, val_main_cst_1, val_main_cst_2, sec]

theorem ref_d (x0 x1 x2 x3 : FVec Ideal S1x2x1024 .f32) (i : S1x2x1024.Idx) :
    val_main_v23 (F := Ideal) x0 x1 x2 x3 i = delta (x0 i) (x1 i) (x2 i) (x3 i) := by
  unfold delta
  rw [← ref_m, ← ref_v]
  idx_vars i
  pointwise [val_main_v23, val_main_v22, val_main_v21, val_main_v20, val_main_v19, val_main_v18, val_main_v17, val_main_v16, val_main_v15, val_main_v14,
    val_main_v13, val_main_v12, val_main_v11, val_main_cst_3, val_main_cst_4, val_main_cst_5, val_main_cst_6, val_main_cst_7]

end

theorem final4 (c : Dev nD) : (dats m 0 c).arrAt 4 (cfgs 0).N
    = Cert.Reference13Ideal.Read.val_main_v23 (F := Ideal) (A0 m c) (A1 m c) (A2 m c) (A3 m c) := by
  refine (dats m 0 c).arrAt_eq_of_covers 4 _ (by decide +kernel) fun t hf y => ?_
  blk_simp
  rw [after0_4]
  unfold out0_4
  frame_out
  refine Eq.trans ?_ (congrArg _ (emb t y).1.symm)
  refine ((pay1_at _ _ _ _ y).trans ?_).trans (ref_d _ _ _ _ (at_ t y)).symm
  rw [(in_at m c t y).1, (in_at m c t y).2.1, (in_at m c t y).2.2.1, (in_at m c t y).2.2.2]

theorem final5 (c : Dev nD) : (dats m 0 c).arrAt 5 (cfgs 0).N
    = Cert.Reference13Ideal.Read.val_main_v4 (F := Ideal) (A0 m c) (A2 m c) := by
  refine (dats m 0 c).arrAt_eq_of_covers 5 _ (by decide +kernel) fun t hf y => ?_
  blk_simp
  rw [after0_5]
  unfold out0_5
  frame_out
  refine Eq.trans ?_ (congrArg _ (emb t y).2.1.symm)
  refine ((pay5_at _ _ y).trans ?_).trans (ref_m _ _ (at_ t y)).symm
  rw [(in_at m c t y).1, (in_at m c t y).2.2.1]

theorem final6 (c : Dev nD) : (dats m 0 c).arrAt 6 (cfgs 0).N
    = Cert.Reference13Ideal.Read.val_main_v10 (F := Ideal) (A0 m c) (A3 m c) := by
  refine (dats m 0 c).arrAt_eq_of_covers 6 _ (by decide +kernel) fun t hf y => ?_
  blk_simp
  rw [after0_6]
  unfold out0_6
  frame_out
  refine Eq.trans ?_ (congrArg _ (emb t y).2.2.symm)
  refine ((pay6_at _ _ y).trans ?_).trans (ref_v _ _ (at_ t y)).symm
  rw [(in_at m c t y).1, (in_at m c t y).2.2.2]

end Cert.AdamNormValue

end
-- ==== Proof.AdamNormClaim.lean ====
module

public import proofs.«01_k».proof.Defs
public import proofs.«01_k».proof.Proof.AdamNormValue
public import proofs.«01_k».proof.Proof.Gen.Kernel13.Frame
public import Idealize.ShloMosaic.Lib.Claim

@[expose] public section

/-! The claims about the update of the norms' gains (`Kernel13`). -/

namespace Cert.AdamNormClaim

open Idealize.ShloMosaic Idealize.SL.Sem

theorem frame_kernel : Cert.quiescent_Kernel13 := fun m ρ _ => Cert.Kernel13.Gen.frame m ρ

theorem frame_ideal : Cert.quiescent_Kernel13Ideal := fun m ρ _ => Cert.Kernel13Ideal.Gen.frame m ρ

theorem frame_reference : Cert.quiescent_Reference13Ideal := fun m ρ _ =>
  (θ_run Cert.Reference13Ideal.defs _ _).mono (fun r h => ⟨fun c => (h c).2.2.2, sem_eq_zero_of_no_sems (by decide) r.2⟩)
    (Cert.Reference13Ideal.Value.run m ρ)

theorem algebraic : Cert.algebraic_Kernel13Ideal_Reference13Ideal := by
  intro m g m' g' _ hagree
  refine ⟨_, _, _, Cert.Kernel13Ideal.Value.run_blocks m g, (θ_run Cert.Reference13Ideal.defs _ _).mono (fun r h c => ?_)
    (Cert.Reference13Ideal.Value.run m' g')⟩
  obtain ⟨h0, h1, h2, h3⟩ := hagree c
  obtain ⟨r0, r1, r2, rest⟩ := h c
  refine ⟨r0.trans ?_, r1.trans ?_, r2.trans ?_, rest⟩
  · rw [Cert.Reference13Ideal.Read.val_main_v23_eq, h0, h1, h2, h3]
    exact (Cert.AdamNormValue.final4 m c).symm
  · rw [Cert.Reference13Ideal.Read.val_main_v4_eq, h0, h2]
    exact (Cert.AdamNormValue.final5 m c).symm
  · rw [Cert.Reference13Ideal.Read.val_main_v10_eq, h0, h3]
    exact (Cert.AdamNormValue.final6 m c).symm

end Cert.AdamNormClaim
-- ==== Proof.AdamBranchValue.lean ====
module

public import proofs.«01_k».proof.Proof.Gen.Kernel14Ideal.Value
public import proofs.«01_k».proof.Proof.Gen.Reference14Ideal.Read
public import proofs.«01_k».proof.Proof.Adam
public import proofs.«01_k».proof.Proof.Conv
public import Idealize.ShloMosaic.Lib.Pipeline.ReadBack

@[expose] public section

set_option maxRecDepth 16384

noncomputable section

/-! The arrays that the update of the first two branch weights leaves. -/

namespace Cert.AdamBranchValue

open Idealize.ShloMosaic Idealize.ShloMosaic.TcCoe Idealize.SL.Sem Cert.Kernel14Ideal Cert.Kernel14Ideal.Gen Cert.Adam
open Idealize.ShloMosaic.Pipeline (Dat)

variable (m : (ℓ : Loc nD τ sig) → Buf (Elt Ideal) ℓ)

theorem idx : ∀ t : Fin cfg0.N, win0_0.index t = ![t.val, 0, 0] ∧ win0_1.index t = ![t.val, 0, 0] ∧ win0_2.index t = ![t.val, 0, 0]
    ∧ win0_3.index t = ![t.val, 0, 0] ∧ win0_4.index t = ![t.val, 0, 0] ∧ win0_5.index t = ![t.val, 0, 0] ∧ win0_6.index t = ![t.val, 0, 0] :=
  (by decide +kernel : ∀ t : Fin grid0.N, _)

/-- Where entry `y` of block `t` lies in the whole array. -/
def at_ (t : Fin cfg0.N) (y : S1x384x128.Idx) : S2x384x128.Idx :=
  ix3 ⟨t.val, t.isLt⟩ ⟨(y 1).val, (y 1).isLt⟩ ⟨(y 2).val, (y 2).isLt⟩

theorem emb (t : Fin cfg0.N) (y : S1x384x128.Idx) : ((cfg0.win 4).blk t).view.emb y = at_ t y ∧ ((cfg0.win 5).blk t).view.emb y = at_ t y
    ∧ ((cfg0.win 6).blk t).view.emb y = at_ t y := by
  idx_vars y
  refine ⟨?_, ?_, ?_⟩ <;> blk_ext [idx t, at_]

/-- The arguments of the call, at their types. -/
abbrev A0 (c : Dev nD) : FVec Ideal S2x384x128 .f32 := m ((c.tc : Thread nD τ).loc main_arg0)
abbrev A1 (c : Dev nD) : FVec Ideal S2x384x128 .f32 := m ((c.tc : Thread nD τ).loc main_arg1)
abbrev A2 (c : Dev nD) : FVec Ideal S2x384x128 .f32 := m ((c.tc : Thread nD τ).loc main_arg2)
abbrev A3 (c : Dev nD) : FVec Ideal S2x384x128 .f32 := m ((c.tc : Thread nD τ).loc main_arg3)

theorem in_at (c : Dev nD) (t : Fin cfg0.N) (y : S1x384x128.Idx) :
    (iblk m c 0 t : FVec Ideal S1x384x128 .f32) y = A0 m c (at_ t y) ∧ (iblk m c 1 t : FVec Ideal S1x384x128 .f32) y = A1 m c (at_ t y)
      ∧ (iblk m c 2 t : FVec Ideal S1x384x128 .f32) y = A2 m c (at_ t y) ∧ (iblk m c 3 t : FVec Ideal S1x384x128 .f32) y = A3 m c (at_ t y) := by
  idx_vars y
  refine ⟨?_, ?_, ?_, ?_⟩ <;> blk_ext [iblk, V, idx t, at_]

theorem pay5_at (v0 v2 : FVec Ideal S1x384x128 .f32) (y : S1x384x128.Idx) : k0_pay5 (F := Ideal) v0 v2 y = mom (v0 y) (v2 y) := by
  idx_vars y
  obtain rfl : y0 = 0 := Subsingleton.elim _ _
  pointwise [k0_pay5, k0_pay3, k0_pay2, mom]

theorem pay6_at (v0 v9 : FVec Ideal S1x384x128 .f32) (y : S1x384x128.Idx) : k0_pay6 (F := Ideal) v0 v9 y = sec (v0 y) (v9 y) := by
  idx_vars y
  obtain rfl : y0 = 0 := Subsingleton.elim _ _
  pointwise [k0_pay6, k0_pay4, k0_pay2, sec]

theorem pay1_at (v0 v2 v9 v31 : FVec Ideal S1x384x128 .f32) (y : S1x384x128.Idx) :
    k0_pay1 (F := Ideal) (k0_pay7 (F := Ideal) v0 v2 v9) v31 y = delta (v0 y) (v31 y) (v2 y) (v9 y) := by
  idx_vars y
  obtain rfl : y0 = 0 := Subsingleton.elim _ _
  pointwise [k0_pay1, k0_pay7, k0_pay4, k0_pay3, k0_pay2, delta, mom, sec]

section
open Cert.Reference14Ideal.Read

theorem ref_m (x0 x2 : FVec Ideal S2x384x128 .f32) (i : S2x384x128.Idx) : val_main_v4 (F := Ideal) x0 x2 i = mom (x0 i) (x2 i) := by
  idx_vars i
  pointwise [val_main_v4, val_main_v3, val_main_v2, val_main_v1, val_main_v0, val_main_cst, val_main_cst_0, mom]

theorem ref_v (x0 x3 : FVec Ideal S2x384x128 .f32) (i : S2x384x128.Idx) : val_main_v10 (F := Ideal) x0 x3 i = sec (x0 i) (x3 i) := by
  idx_vars i
  pointwise [val_main_v10, val_main_v9, val_main_v8, val_main_v7, val_main_v6, val_main_v5, val_main_cst_1, val_main_cst_2, sec]

theorem ref_d (x0 x1 x2 x3 : FVec Ideal S2x384x128 .f32) (i : S2x384x128.Idx) :
    val_main_v23 (F := Ideal) x0 x1 x2 x3 i = delta (x0 i) (x1 i) (x2 i) (x3 i) := by
  unfold delta
  rw [← ref_m, ← ref_v]
  idx_vars i
  pointwise [val_main_v23, val_main_v22, val_main_v21, val_main_v20, val_main_v19, val_main_v18, val_main_v17, val_main_v16, val_main_v15, val_main_v14,
    val_main_v13, val_main_v12, val_main_v11, val_main_cst_3, val_main_cst_4, val_main_cst_5, val_main_cst_6, val_main_cst_7]

end

theorem final4 (c : Dev nD) : (dats m 0 c).arrAt 4 (cfgs 0).N
    = Cert.Reference14Ideal.Read.val_main_v23 (F := Ideal) (A0 m c) (A1 m c) (A2 m c) (A3 m c) := by
  refine (dats m 0 c).arrAt_eq_of_covers 4 _ (by decide +kernel) fun t hf y => ?_
  blk_simp
  rw [after0_4]
  unfold out0_4
  frame_out
  refine Eq.trans ?_ (congrArg _ (emb t y).1.symm)
  refine ((pay1_at _ _ _ _ y).trans ?_).trans (ref_d _ _ _ _ (at_ t y)).symm
  rw [(in_at m c t y).1, (in_at m c t y).2.1, (in_at m c t y).2.2.1, (in_at m c t y).2.2.2]

theorem final5 (c : Dev nD) : (dats m 0 c).arrAt 5 (cfgs 0).N
    = Cert.Reference14Ideal.Read.val_main_v4 (F := Ideal) (A0 m c) (A2 m c) := by
  refine (dats m 0 c).arrAt_eq_of_covers 5 _ (by decide +kernel) fun t hf y => ?_
  blk_simp
  rw [after0_5]
  unfold out0_5
  frame_out
  refine Eq.trans ?_ (congrArg _ (emb t y).2.1.symm)
  refine ((pay5_at _ _ y).trans ?_).trans (ref_m _ _ (at_ t y)).symm
  rw [(in_at m c t y).1, (in_at m c t y).2.2.1]

theorem final6 (c : Dev nD) : (dats m 0 c).arrAt 6 (cfgs 0).N
    = Cert.Reference14Ideal.Read.val_main_v10 (F := Ideal) (A0 m c) (A3 m c) := by
  refine (dats m 0 c).arrAt_eq_of_covers 6 _ (by decide +kernel) fun t hf y => ?_
  blk_simp
  rw [after0_6]
  unfold out0_6
  frame_out
  refine Eq.trans ?_ (congrArg _ (emb t y).2.2.symm)
  refine ((pay6_at _ _ y).trans ?_).trans (ref_v _ _ (at_ t y)).symm
  rw [(in_at m c t y).1, (in_at m c t y).2.2.2]

end Cert.AdamBranchValue

end
-- ==== Proof.AdamBranchClaim.lean ====
module

public import proofs.«01_k».proof.Defs
public import proofs.«01_k».proof.Proof.AdamBranchValue
public import proofs.«01_k».proof.Proof.Gen.Kernel14.Frame
public import Idealize.ShloMosaic.Lib.Claim

@[expose] public section

/-! The claims about the update of the first two branch weights (`Kernel14`). -/

namespace Cert.AdamBranchClaim

open Idealize.ShloMosaic Idealize.SL.Sem

theorem frame_kernel : Cert.quiescent_Kernel14 := fun m ρ _ => Cert.Kernel14.Gen.frame m ρ

theorem frame_ideal : Cert.quiescent_Kernel14Ideal := fun m ρ _ => Cert.Kernel14Ideal.Gen.frame m ρ

theorem frame_reference : Cert.quiescent_Reference14Ideal := fun m ρ _ =>
  (θ_run Cert.Reference14Ideal.defs _ _).mono (fun r h => ⟨fun c => (h c).2.2.2, sem_eq_zero_of_no_sems (by decide) r.2⟩)
    (Cert.Reference14Ideal.Value.run m ρ)

theorem algebraic : Cert.algebraic_Kernel14Ideal_Reference14Ideal := by
  intro m g m' g' _ hagree
  refine ⟨_, _, _, Cert.Kernel14Ideal.Value.run_blocks m g, (θ_run Cert.Reference14Ideal.defs _ _).mono (fun r h c => ?_)
    (Cert.Reference14Ideal.Value.run m' g')⟩
  obtain ⟨h0, h1, h2, h3⟩ := hagree c
  obtain ⟨r0, r1, r2, rest⟩ := h c
  refine ⟨r0.trans ?_, r1.trans ?_, r2.trans ?_, rest⟩
  · rw [Cert.Reference14Ideal.Read.val_main_v23_eq, h0, h1, h2, h3]
    exact (Cert.AdamBranchValue.final4 m c).symm
  · rw [Cert.Reference14Ideal.Read.val_main_v4_eq, h0, h2]
    exact (Cert.AdamBranchValue.final5 m c).symm
  · rw [Cert.Reference14Ideal.Read.val_main_v10_eq, h0, h3]
    exact (Cert.AdamBranchValue.final6 m c).symm

end Cert.AdamBranchClaim
-- ==== Proof.AdamBranchCValue.lean ====
module

public import proofs.«01_k».proof.Proof.Gen.Kernel15Ideal.Value
public import proofs.«01_k».proof.Proof.Gen.Reference15Ideal.Read
public import proofs.«01_k».proof.Proof.Adam
public import proofs.«01_k».proof.Proof.Conv
public import Idealize.ShloMosaic.Lib.Pipeline.ReadBack

@[expose] public section

set_option maxRecDepth 16384

noncomputable section

/-! The arrays that the update of the third branch weight leaves. -/

namespace Cert.AdamBranchCValue

open Idealize.ShloMosaic Idealize.ShloMosaic.TcCoe Idealize.SL.Sem Cert.Kernel15Ideal Cert.Kernel15Ideal.Gen Cert.Adam
open Idealize.ShloMosaic.Pipeline (Dat)

variable (m : (ℓ : Loc nD τ sig) → Buf (Elt Ideal) ℓ)

theorem idx : ∀ t : Fin cfg0.N, win0_0.index t = ![t.val, 0, 0] ∧ win0_1.index t = ![t.val, 0, 0] ∧ win0_2.index t = ![t.val, 0, 0]
    ∧ win0_3.index t = ![t.val, 0, 0] ∧ win0_4.index t = ![t.val, 0, 0] ∧ win0_5.index t = ![t.val, 0, 0] ∧ win0_6.index t = ![t.val, 0, 0] :=
  (by decide +kernel : ∀ t : Fin grid0.N, _)

/-- Where entry `y` of block `t` lies in the whole array. -/
def at_ (t : Fin cfg0.N) (y : S1x256x128.Idx) : S2x256x128.Idx :=
  ix3 ⟨t.val, t.isLt⟩ ⟨(y 1).val, (y 1).isLt⟩ ⟨(y 2).val, (y 2).isLt⟩

theorem emb (t : Fin cfg0.N) (y : S1x256x128.Idx) : ((cfg0.win 4).blk t).view.emb y = at_ t y ∧ ((cfg0.win 5).blk t).view.emb y = at_ t y
    ∧ ((cfg0.win 6).blk t).view.emb y = at_ t y := by
  idx_vars y
  refine ⟨?_, ?_, ?_⟩ <;> blk_ext [idx t, at_]

/-- The arguments of the call, at their types. -/
abbrev A0 (c : Dev nD) : FVec Ideal S2x256x128 .f32 := m ((c.tc : Thread nD τ).loc main_arg0)
abbrev A1 (c : Dev nD) : FVec Ideal S2x256x128 .f32 := m ((c.tc : Thread nD τ).loc main_arg1)
abbrev A2 (c : Dev nD) : FVec Ideal S2x256x128 .f32 := m ((c.tc : Thread nD τ).loc main_arg2)
abbrev A3 (c : Dev nD) : FVec Ideal S2x256x128 .f32 := m ((c.tc : Thread nD τ).loc main_arg3)

theorem in_at (c : Dev nD) (t : Fin cfg0.N) (y : S1x256x128.Idx) :
    (iblk m c 0 t : FVec Ideal S1x256x128 .f32) y = A0 m c (at_ t y) ∧ (iblk m c 1 t : FVec Ideal S1x256x128 .f32) y = A1 m c (at_ t y)
      ∧ (iblk m c 2 t : FVec Ideal S1x256x128 .f32) y = A2 m c (at_ t y) ∧ (iblk m c 3 t : FVec Ideal S1x256x128 .f32) y = A3 m c (at_ t y) := by
  idx_vars y
  refine ⟨?_, ?_, ?_, ?_⟩ <;> blk_ext [iblk, V, idx t, at_]

theorem pay5_at (v0 v2 : FVec Ideal S1x256x128 .f32) (y : S1x256x128.Idx) : k0_pay5 (F := Ideal) v0 v2 y = mom (v0 y) (v2 y) := by
  idx_vars y
  obtain rfl : y0 = 0 := Subsingleton.elim _ _
  pointwise [k0_pay5, k0_pay3, k0_pay2, mom]

theorem pay6_at (v0 v9 : FVec Ideal S1x256x128 .f32) (y : S1x256x128.Idx) : k0_pay6 (F := Ideal) v0 v9 y = sec (v0 y) (v9 y) := by
  idx_vars y
  obtain rfl : y0 = 0 := Subsingleton.elim _ _
  pointwise [k0_pay6, k0_pay4, k0_pay2, sec]

theorem pay1_at (v0 v2 v9 v31 : FVec Ideal S1x256x128 .f32) (y : S1x256x128.Idx) :
    k0_pay1 (F := Ideal) (k0_pay7 (F := Ideal) v0 v2 v9) v31 y = delta (v0 y) (v31 y) (v2 y) (v9 y) := by
  idx_vars y
  obtain rfl : y0 = 0 := Subsingleton.elim _ _
  pointwise [k0_pay1, k0_pay7, k0_pay4, k0_pay3, k0_pay2, delta, mom, sec]

section
open Cert.Reference15Ideal.Read

theorem ref_m (x0 x2 : FVec Ideal S2x256x128 .f32) (i : S2x256x128.Idx) : val_main_v4 (F := Ideal) x0 x2 i = mom (x0 i) (x2 i) := by
  idx_vars i
  pointwise [val_main_v4, val_main_v3, val_main_v2, val_main_v1, val_main_v0, val_main_cst, val_main_cst_0, mom]

theorem ref_v (x0 x3 : FVec Ideal S2x256x128 .f32) (i : S2x256x128.Idx) : val_main_v10 (F := Ideal) x0 x3 i = sec (x0 i) (x3 i) := by
  idx_vars i
  pointwise [val_main_v10, val_main_v9, val_main_v8, val_main_v7, val_main_v6, val_main_v5, val_main_cst_1, val_main_cst_2, sec]

theorem ref_d (x0 x1 x2 x3 : FVec Ideal S2x256x128 .f32) (i : S2x256x128.Idx) :
    val_main_v23 (F := Ideal) x0 x1 x2 x3 i = delta (x0 i) (x1 i) (x2 i) (x3 i) := by
  unfold delta
  rw [← ref_m, ← ref_v]
  idx_vars i
  pointwise [val_main_v23, val_main_v22, val_main_v21, val_main_v20, val_main_v19, val_main_v18, val_main_v17, val_main_v16, val_main_v15, val_main_v14,
    val_main_v13, val_main_v12, val_main_v11, val_main_cst_3, val_main_cst_4, val_main_cst_5, val_main_cst_6, val_main_cst_7]

end

theorem final4 (c : Dev nD) : (dats m 0 c).arrAt 4 (cfgs 0).N
    = Cert.Reference15Ideal.Read.val_main_v23 (F := Ideal) (A0 m c) (A1 m c) (A2 m c) (A3 m c) := by
  refine (dats m 0 c).arrAt_eq_of_covers 4 _ (by decide +kernel) fun t hf y => ?_
  blk_simp
  rw [after0_4]
  unfold out0_4
  frame_out
  refine Eq.trans ?_ (congrArg _ (emb t y).1.symm)
  refine ((pay1_at _ _ _ _ y).trans ?_).trans (ref_d _ _ _ _ (at_ t y)).symm
  rw [(in_at m c t y).1, (in_at m c t y).2.1, (in_at m c t y).2.2.1, (in_at m c t y).2.2.2]

theorem final5 (c : Dev nD) : (dats m 0 c).arrAt 5 (cfgs 0).N
    = Cert.Reference15Ideal.Read.val_main_v4 (F := Ideal) (A0 m c) (A2 m c) := by
  refine (dats m 0 c).arrAt_eq_of_covers 5 _ (by decide +kernel) fun t hf y => ?_
  blk_simp
  rw [after0_5]
  unfold out0_5
  frame_out
  refine Eq.trans ?_ (congrArg _ (emb t y).2.1.symm)
  refine ((pay5_at _ _ y).trans ?_).trans (ref_m _ _ (at_ t y)).symm
  rw [(in_at m c t y).1, (in_at m c t y).2.2.1]

theorem final6 (c : Dev nD) : (dats m 0 c).arrAt 6 (cfgs 0).N
    = Cert.Reference15Ideal.Read.val_main_v10 (F := Ideal) (A0 m c) (A3 m c) := by
  refine (dats m 0 c).arrAt_eq_of_covers 6 _ (by decide +kernel) fun t hf y => ?_
  blk_simp
  rw [after0_6]
  unfold out0_6
  frame_out
  refine Eq.trans ?_ (congrArg _ (emb t y).2.2.symm)
  refine ((pay6_at _ _ y).trans ?_).trans (ref_v _ _ (at_ t y)).symm
  rw [(in_at m c t y).1, (in_at m c t y).2.2.2]

end Cert.AdamBranchCValue

end
-- ==== Proof.AdamBranchCClaim.lean ====
module

public import proofs.«01_k».proof.Defs
public import proofs.«01_k».proof.Proof.AdamBranchCValue
public import proofs.«01_k».proof.Proof.Gen.Kernel15.Frame
public import Idealize.ShloMosaic.Lib.Claim

@[expose] public section

/-! The claims about the update of the third branch weight (`Kernel15`). -/

namespace Cert.AdamBranchCClaim

open Idealize.ShloMosaic Idealize.SL.Sem

theorem frame_kernel : Cert.quiescent_Kernel15 := fun m ρ _ => Cert.Kernel15.Gen.frame m ρ

theorem frame_ideal : Cert.quiescent_Kernel15Ideal := fun m ρ _ => Cert.Kernel15Ideal.Gen.frame m ρ

theorem frame_reference : Cert.quiescent_Reference15Ideal := fun m ρ _ =>
  (θ_run Cert.Reference15Ideal.defs _ _).mono (fun r h => ⟨fun c => (h c).2.2.2, sem_eq_zero_of_no_sems (by decide) r.2⟩)
    (Cert.Reference15Ideal.Value.run m ρ)

theorem algebraic : Cert.algebraic_Kernel15Ideal_Reference15Ideal := by
  intro m g m' g' _ hagree
  refine ⟨_, _, _, Cert.Kernel15Ideal.Value.run_blocks m g, (θ_run Cert.Reference15Ideal.defs _ _).mono (fun r h c => ?_)
    (Cert.Reference15Ideal.Value.run m' g')⟩
  obtain ⟨h0, h1, h2, h3⟩ := hagree c
  obtain ⟨r0, r1, r2, rest⟩ := h c
  refine ⟨r0.trans ?_, r1.trans ?_, r2.trans ?_, rest⟩
  · rw [Cert.Reference15Ideal.Read.val_main_v23_eq, h0, h1, h2, h3]
    exact (Cert.AdamBranchCValue.final4 m c).symm
  · rw [Cert.Reference15Ideal.Read.val_main_v4_eq, h0, h2]
    exact (Cert.AdamBranchCValue.final5 m c).symm
  · rw [Cert.Reference15Ideal.Read.val_main_v10_eq, h0, h3]
    exact (Cert.AdamBranchCValue.final6 m c).symm

end Cert.AdamBranchCClaim
-- ==== Proof.AdamMemOutValue.lean ====
module

public import proofs.«01_k».proof.Proof.Gen.Kernel16Ideal.Value
public import proofs.«01_k».proof.Proof.Gen.Reference16Ideal.Read
public import proofs.«01_k».proof.Proof.Adam
public import proofs.«01_k».proof.Proof.Conv
public import Idealize.ShloMosaic.Lib.Pipeline.ReadBack

@[expose] public section

set_option maxRecDepth 16384

noncomputable section

/-! The arrays that the update of the memory attention's output weight leaves. -/

namespace Cert.AdamMemOutValue

open Idealize.ShloMosaic Idealize.ShloMosaic.TcCoe Idealize.SL.Sem Cert.Kernel16Ideal Cert.Kernel16Ideal.Gen Cert.Adam
open Idealize.ShloMosaic.Pipeline (Dat)

variable (m : (ℓ : Loc nD τ sig) → Buf (Elt Ideal) ℓ)

theorem idx : ∀ t : Fin cfg0.N, win0_0.index t = ![t.val, 0, 0] ∧ win0_1.index t = ![t.val, 0, 0] ∧ win0_2.index t = ![t.val, 0, 0]
    ∧ win0_3.index t = ![t.val, 0, 0] ∧ win0_4.index t = ![t.val, 0, 0] ∧ win0_5.index t = ![t.val, 0, 0] ∧ win0_6.index t = ![t.val, 0, 0] :=
  (by decide +kernel : ∀ t : Fin grid0.N, _)

/-- Where entry `y` of block `t` lies in the whole array. -/
def at_ (t : Fin cfg0.N) (y : S1x512x128.Idx) : S2x512x128.Idx :=
  ix3 ⟨t.val, t.isLt⟩ ⟨(y 1).val, (y 1).isLt⟩ ⟨(y 2).val, (y 2).isLt⟩

theorem emb (t : Fin cfg0.N) (y : S1x512x128.Idx) : ((cfg0.win 4).blk t).view.emb y = at_ t y ∧ ((cfg0.win 5).blk t).view.emb y = at_ t y
    ∧ ((cfg0.win 6).blk t).view.emb y = at_ t y := by
  idx_vars y
  refine ⟨?_, ?_, ?_⟩ <;> blk_ext [idx t, at_]

/-- The arguments of the call, at their types. -/
abbrev A0 (c : Dev nD) : FVec Ideal S2x512x128 .f32 := m ((c.tc : Thread nD τ).loc main_arg0)
abbrev A1 (c : Dev nD) : FVec Ideal S2x512x128 .f32 := m ((c.tc : Thread nD τ).loc main_arg1)
abbrev A2 (c : Dev nD) : FVec Ideal S2x512x128 .f32 := m ((c.tc : Thread nD τ).loc main_arg2)
abbrev A3 (c : Dev nD) : FVec Ideal S2x512x128 .f32 := m ((c.tc : Thread nD τ).loc main_arg3)

theorem in_at (c : Dev nD) (t : Fin cfg0.N) (y : S1x512x128.Idx) :
    (iblk m c 0 t : FVec Ideal S1x512x128 .f32) y = A0 m c (at_ t y) ∧ (iblk m c 1 t : FVec Ideal S1x512x128 .f32) y = A1 m c (at_ t y)
      ∧ (iblk m c 2 t : FVec Ideal S1x512x128 .f32) y = A2 m c (at_ t y) ∧ (iblk m c 3 t : FVec Ideal S1x512x128 .f32) y = A3 m c (at_ t y) := by
  idx_vars y
  refine ⟨?_, ?_, ?_, ?_⟩ <;> blk_ext [iblk, V, idx t, at_]

theorem pay5_at (v0 v2 : FVec Ideal S1x512x128 .f32) (y : S1x512x128.Idx) : k0_pay5 (F := Ideal) v0 v2 y = mom (v0 y) (v2 y) := by
  idx_vars y
  obtain rfl : y0 = 0 := Subsingleton.elim _ _
  pointwise [k0_pay5, k0_pay3, k0_pay2, mom]

theorem pay6_at (v0 v9 : FVec Ideal S1x512x128 .f32) (y : S1x512x128.Idx) : k0_pay6 (F := Ideal) v0 v9 y = sec (v0 y) (v9 y) := by
  idx_vars y
  obtain rfl : y0 = 0 := Subsingleton.elim _ _
  pointwise [k0_pay6, k0_pay4, k0_pay2, sec]

theorem pay1_at (v0 v2 v9 v31 : FVec Ideal S1x512x128 .f32) (y : S1x512x128.Idx) :
    k0_pay1 (F := Ideal) (k0_pay7 (F := Ideal) v0 v2 v9) v31 y = delta (v0 y) (v31 y) (v2 y) (v9 y) := by
  idx_vars y
  obtain rfl : y0 = 0 := Subsingleton.elim _ _
  pointwise [k0_pay1, k0_pay7, k0_pay4, k0_pay3, k0_pay2, delta, mom, sec]

section
open Cert.Reference16Ideal.Read

theorem ref_m (x0 x2 : FVec Ideal S2x512x128 .f32) (i : S2x512x128.Idx) : val_main_v4 (F := Ideal) x0 x2 i = mom (x0 i) (x2 i) := by
  idx_vars i
  pointwise [val_main_v4, val_main_v3, val_main_v2, val_main_v1, val_main_v0, val_main_cst, val_main_cst_0, mom]

theorem ref_v (x0 x3 : FVec Ideal S2x512x128 .f32) (i : S2x512x128.Idx) : val_main_v10 (F := Ideal) x0 x3 i = sec (x0 i) (x3 i) := by
  idx_vars i
  pointwise [val_main_v10, val_main_v9, val_main_v8, val_main_v7, val_main_v6, val_main_v5, val_main_cst_1, val_main_cst_2, sec]

theorem ref_d (x0 x1 x2 x3 : FVec Ideal S2x512x128 .f32) (i : S2x512x128.Idx) :
    val_main_v23 (F := Ideal) x0 x1 x2 x3 i = delta (x0 i) (x1 i) (x2 i) (x3 i) := by
  unfold delta
  rw [← ref_m, ← ref_v]
  idx_vars i
  pointwise [val_main_v23, val_main_v22, val_main_v21, val_main_v20, val_main_v19, val_main_v18, val_main_v17, val_main_v16, val_main_v15, val_main_v14,
    val_main_v13, val_main_v12, val_main_v11, val_main_cst_3, val_main_cst_4, val_main_cst_5, val_main_cst_6, val_main_cst_7]

end

theorem final4 (c : Dev nD) : (dats m 0 c).arrAt 4 (cfgs 0).N
    = Cert.Reference16Ideal.Read.val_main_v23 (F := Ideal) (A0 m c) (A1 m c) (A2 m c) (A3 m c) := by
  refine (dats m 0 c).arrAt_eq_of_covers 4 _ (by decide +kernel) fun t hf y => ?_
  blk_simp
  rw [after0_4]
  unfold out0_4
  frame_out
  refine Eq.trans ?_ (congrArg _ (emb t y).1.symm)
  refine ((pay1_at _ _ _ _ y).trans ?_).trans (ref_d _ _ _ _ (at_ t y)).symm
  rw [(in_at m c t y).1, (in_at m c t y).2.1, (in_at m c t y).2.2.1, (in_at m c t y).2.2.2]

theorem final5 (c : Dev nD) : (dats m 0 c).arrAt 5 (cfgs 0).N
    = Cert.Reference16Ideal.Read.val_main_v4 (F := Ideal) (A0 m c) (A2 m c) := by
  refine (dats m 0 c).arrAt_eq_of_covers 5 _ (by decide +kernel) fun t hf y => ?_
  blk_simp
  rw [after0_5]
  unfold out0_5
  frame_out
  refine Eq.trans ?_ (congrArg _ (emb t y).2.1.symm)
  refine ((pay5_at _ _ y).trans ?_).trans (ref_m _ _ (at_ t y)).symm
  rw [(in_at m c t y).1, (in_at m c t y).2.2.1]

theorem final6 (c : Dev nD) : (dats m 0 c).arrAt 6 (cfgs 0).N
    = Cert.Reference16Ideal.Read.val_main_v10 (F := Ideal) (A0 m c) (A3 m c) := by
  refine (dats m 0 c).arrAt_eq_of_covers 6 _ (by decide +kernel) fun t hf y => ?_
  blk_simp
  rw [after0_6]
  unfold out0_6
  frame_out
  refine Eq.trans ?_ (congrArg _ (emb t y).2.2.symm)
  refine ((pay6_at _ _ y).trans ?_).trans (ref_v _ _ (at_ t y)).symm
  rw [(in_at m c t y).1, (in_at m c t y).2.2.2]

end Cert.AdamMemOutValue

end
-- ==== Proof.AdamMemOutClaim.lean ====
module

public import proofs.«01_k».proof.Defs
public import proofs.«01_k».proof.Proof.AdamMemOutValue
public import proofs.«01_k».proof.Proof.Gen.Kernel16.Frame
public import Idealize.ShloMosaic.Lib.Claim

@[expose] public section

/-! The claims about the update of the memory attention's output weight (`Kernel16`). -/

namespace Cert.AdamMemOutClaim

open Idealize.ShloMosaic Idealize.SL.Sem

theorem frame_kernel : Cert.quiescent_Kernel16 := fun m ρ _ => Cert.Kernel16.Gen.frame m ρ

theorem frame_ideal : Cert.quiescent_Kernel16Ideal := fun m ρ _ => Cert.Kernel16Ideal.Gen.frame m ρ

theorem frame_reference : Cert.quiescent_Reference16Ideal := fun m ρ _ =>
  (θ_run Cert.Reference16Ideal.defs _ _).mono (fun r h => ⟨fun c => (h c).2.2.2, sem_eq_zero_of_no_sems (by decide) r.2⟩)
    (Cert.Reference16Ideal.Value.run m ρ)

theorem algebraic : Cert.algebraic_Kernel16Ideal_Reference16Ideal := by
  intro m g m' g' _ hagree
  refine ⟨_, _, _, Cert.Kernel16Ideal.Value.run_blocks m g, (θ_run Cert.Reference16Ideal.defs _ _).mono (fun r h c => ?_)
    (Cert.Reference16Ideal.Value.run m' g')⟩
  obtain ⟨h0, h1, h2, h3⟩ := hagree c
  obtain ⟨r0, r1, r2, rest⟩ := h c
  refine ⟨r0.trans ?_, r1.trans ?_, r2.trans ?_, rest⟩
  · rw [Cert.Reference16Ideal.Read.val_main_v23_eq, h0, h1, h2, h3]
    exact (Cert.AdamMemOutValue.final4 m c).symm
  · rw [Cert.Reference16Ideal.Read.val_main_v4_eq, h0, h2]
    exact (Cert.AdamMemOutValue.final5 m c).symm
  · rw [Cert.Reference16Ideal.Read.val_main_v10_eq, h0, h3]
    exact (Cert.AdamMemOutValue.final6 m c).symm

end Cert.AdamMemOutClaim
-- ==== Proof.AdamPoolWValue.lean ====
module

public import proofs.«01_k».proof.Proof.Gen.Kernel17Ideal.Value
public import proofs.«01_k».proof.Proof.Gen.Reference17Ideal.Read
public import proofs.«01_k».proof.Proof.Adam
public import proofs.«01_k».proof.Proof.Conv
public import Idealize.ShloMosaic.Lib.Pipeline.ReadBack

@[expose] public section

set_option maxRecDepth 16384

noncomputable section

/-! The arrays that the update of the pooling weight leaves. -/

namespace Cert.AdamPoolWValue

open Idealize.ShloMosaic Idealize.ShloMosaic.TcCoe Idealize.SL.Sem Cert.Kernel17Ideal Cert.Kernel17Ideal.Gen Cert.Adam
open Idealize.ShloMosaic.Pipeline (Dat)

variable (m : (ℓ : Loc nD τ sig) → Buf (Elt Ideal) ℓ)

theorem idx : ∀ t : Fin cfg0.N, win0_0.index t = ![t.val, 0, 0] ∧ win0_1.index t = ![t.val, 0, 0] ∧ win0_2.index t = ![t.val, 0, 0]
    ∧ win0_3.index t = ![t.val, 0, 0] ∧ win0_4.index t = ![t.val, 0, 0] ∧ win0_5.index t = ![t.val, 0, 0] ∧ win0_6.index t = ![t.val, 0, 0] :=
  (by decide +kernel : ∀ t : Fin grid0.N, _)

/-- Where entry `y` of block `t` lies in the whole array. -/
def at_ (t : Fin cfg0.N) (y : S1x96x96.Idx) : S8x96x96.Idx :=
  ix3 ⟨t.val, t.isLt⟩ ⟨(y 1).val, (y 1).isLt⟩ ⟨(y 2).val, (y 2).isLt⟩

theorem emb (t : Fin cfg0.N) (y : S1x96x96.Idx) : ((cfg0.win 4).blk t).view.emb y = at_ t y ∧ ((cfg0.win 5).blk t).view.emb y = at_ t y
    ∧ ((cfg0.win 6).blk t).view.emb y = at_ t y := by
  idx_vars y
  refine ⟨?_, ?_, ?_⟩ <;> blk_ext [idx t, at_]

/-- The arguments of the call, at their types. -/
abbrev A0 (c : Dev nD) : FVec Ideal S8x96x96 .f32 := m ((c.tc : Thread nD τ).loc main_arg0)
abbrev A1 (c : Dev nD) : FVec Ideal S8x96x96 .f32 := m ((c.tc : Thread nD τ).loc main_arg1)
abbrev A2 (c : Dev nD) : FVec Ideal S8x96x96 .f32 := m ((c.tc : Thread nD τ).loc main_arg2)
abbrev A3 (c : Dev nD) : FVec Ideal S8x96x96 .f32 := m ((c.tc : Thread nD τ).loc main_arg3)

theorem in_at (c : Dev nD) (t : Fin cfg0.N) (y : S1x96x96.Idx) :
    (iblk m c 0 t : FVec Ideal S1x96x96 .f32) y = A0 m c (at_ t y) ∧ (iblk m c 1 t : FVec Ideal S1x96x96 .f32) y = A1 m c (at_ t y)
      ∧ (iblk m c 2 t : FVec Ideal S1x96x96 .f32) y = A2 m c (at_ t y) ∧ (iblk m c 3 t : FVec Ideal S1x96x96 .f32) y = A3 m c (at_ t y) := by
  idx_vars y
  refine ⟨?_, ?_, ?_, ?_⟩ <;> blk_ext [iblk, V, idx t, at_]

theorem pay5_at (v0 v2 : FVec Ideal S1x96x96 .f32) (y : S1x96x96.Idx) : k0_pay5 (F := Ideal) v0 v2 y = mom (v0 y) (v2 y) := by
  idx_vars y
  obtain rfl : y0 = 0 := Subsingleton.elim _ _
  pointwise [k0_pay5, k0_pay3, k0_pay2, mom]

theorem pay6_at (v0 v9 : FVec Ideal S1x96x96 .f32) (y : S1x96x96.Idx) : k0_pay6 (F := Ideal) v0 v9 y = sec (v0 y) (v9 y) := by
  idx_vars y
  obtain rfl : y0 = 0 := Subsingleton.elim _ _
  pointwise [k0_pay6, k0_pay4, k0_pay2, sec]

theorem pay1_at (v0 v2 v9 v31 : FVec Ideal S1x96x96 .f32) (y : S1x96x96.Idx) :
    k0_pay1 (F := Ideal) (k0_pay7 (F := Ideal) v0 v2 v9) v31 y = delta (v0 y) (v31 y) (v2 y) (v9 y) := by
  idx_vars y
  obtain rfl : y0 = 0 := Subsingleton.elim _ _
  pointwise [k0_pay1, k0_pay7, k0_pay4, k0_pay3, k0_pay2, delta, mom, sec]

section
open Cert.Reference17Ideal.Read

theorem ref_m (x0 x2 : FVec Ideal S8x96x96 .f32) (i : S8x96x96.Idx) : val_main_v4 (F := Ideal) x0 x2 i = mom (x0 i) (x2 i) := by
  idx_vars i
  pointwise [val_main_v4, val_main_v3, val_main_v2, val_main_v1, val_main_v0, val_main_cst, val_main_cst_0, mom]

theorem ref_v (x0 x3 : FVec Ideal S8x96x96 .f32) (i : S8x96x96.Idx) : val_main_v10 (F := Ideal) x0 x3 i = sec (x0 i) (x3 i) := by
  idx_vars i
  pointwise [val_main_v10, val_main_v9, val_main_v8, val_main_v7, val_main_v6, val_main_v5, val_main_cst_1, val_main_cst_2, sec]

theorem ref_d (x0 x1 x2 x3 : FVec Ideal S8x96x96 .f32) (i : S8x96x96.Idx) :
    val_main_v23 (F := Ideal) x0 x1 x2 x3 i = delta (x0 i) (x1 i) (x2 i) (x3 i) := by
  unfold delta
  rw [← ref_m, ← ref_v]
  idx_vars i
  pointwise [val_main_v23, val_main_v22, val_main_v21, val_main_v20, val_main_v19, val_main_v18, val_main_v17, val_main_v16, val_main_v15, val_main_v14,
    val_main_v13, val_main_v12, val_main_v11, val_main_cst_3, val_main_cst_4, val_main_cst_5, val_main_cst_6, val_main_cst_7]

end

theorem final4 (c : Dev nD) : (dats m 0 c).arrAt 4 (cfgs 0).N
    = Cert.Reference17Ideal.Read.val_main_v23 (F := Ideal) (A0 m c) (A1 m c) (A2 m c) (A3 m c) := by
  refine (dats m 0 c).arrAt_eq_of_covers 4 _ (by decide +kernel) fun t hf y => ?_
  blk_simp
  rw [after0_4]
  unfold out0_4
  frame_out
  refine Eq.trans ?_ (congrArg _ (emb t y).1.symm)
  refine ((pay1_at _ _ _ _ y).trans ?_).trans (ref_d _ _ _ _ (at_ t y)).symm
  rw [(in_at m c t y).1, (in_at m c t y).2.1, (in_at m c t y).2.2.1, (in_at m c t y).2.2.2]

theorem final5 (c : Dev nD) : (dats m 0 c).arrAt 5 (cfgs 0).N
    = Cert.Reference17Ideal.Read.val_main_v4 (F := Ideal) (A0 m c) (A2 m c) := by
  refine (dats m 0 c).arrAt_eq_of_covers 5 _ (by decide +kernel) fun t hf y => ?_
  blk_simp
  rw [after0_5]
  unfold out0_5
  frame_out
  refine Eq.trans ?_ (congrArg _ (emb t y).2.1.symm)
  refine ((pay5_at _ _ y).trans ?_).trans (ref_m _ _ (at_ t y)).symm
  rw [(in_at m c t y).1, (in_at m c t y).2.2.1]

theorem final6 (c : Dev nD) : (dats m 0 c).arrAt 6 (cfgs 0).N
    = Cert.Reference17Ideal.Read.val_main_v10 (F := Ideal) (A0 m c) (A3 m c) := by
  refine (dats m 0 c).arrAt_eq_of_covers 6 _ (by decide +kernel) fun t hf y => ?_
  blk_simp
  rw [after0_6]
  unfold out0_6
  frame_out
  refine Eq.trans ?_ (congrArg _ (emb t y).2.2.symm)
  refine ((pay6_at _ _ y).trans ?_).trans (ref_v _ _ (at_ t y)).symm
  rw [(in_at m c t y).1, (in_at m c t y).2.2.2]

end Cert.AdamPoolWValue

end
-- ==== Proof.AdamPoolWClaim.lean ====
module

public import proofs.«01_k».proof.Defs
public import proofs.«01_k».proof.Proof.AdamPoolWValue
public import proofs.«01_k».proof.Proof.Gen.Kernel17.Frame
public import Idealize.ShloMosaic.Lib.Claim

@[expose] public section

/-! The claims about the update of the pooling weight (`Kernel17`). -/

namespace Cert.AdamPoolWClaim

open Idealize.ShloMosaic Idealize.SL.Sem

theorem frame_kernel : Cert.quiescent_Kernel17 := fun m ρ _ => Cert.Kernel17.Gen.frame m ρ

theorem frame_ideal : Cert.quiescent_Kernel17Ideal := fun m ρ _ => Cert.Kernel17Ideal.Gen.frame m ρ

theorem frame_reference : Cert.quiescent_Reference17Ideal := fun m ρ _ =>
  (θ_run Cert.Reference17Ideal.defs _ _).mono (fun r h => ⟨fun c => (h c).2.2.2, sem_eq_zero_of_no_sems (by decide) r.2⟩)
    (Cert.Reference17Ideal.Value.run m ρ)

theorem algebraic : Cert.algebraic_Kernel17Ideal_Reference17Ideal := by
  intro m g m' g' _ hagree
  refine ⟨_, _, _, Cert.Kernel17Ideal.Value.run_blocks m g, (θ_run Cert.Reference17Ideal.defs _ _).mono (fun r h c => ?_)
    (Cert.Reference17Ideal.Value.run m' g')⟩
  obtain ⟨h0, h1, h2, h3⟩ := hagree c
  obtain ⟨r0, r1, r2, rest⟩ := h c
  refine ⟨r0.trans ?_, r1.trans ?_, r2.trans ?_, rest⟩
  · rw [Cert.Reference17Ideal.Read.val_main_v23_eq, h0, h1, h2, h3]
    exact (Cert.AdamPoolWValue.final4 m c).symm
  · rw [Cert.Reference17Ideal.Read.val_main_v4_eq, h0, h2]
    exact (Cert.AdamPoolWValue.final5 m c).symm
  · rw [Cert.Reference17Ideal.Read.val_main_v10_eq, h0, h3]
    exact (Cert.AdamPoolWValue.final6 m c).symm

end Cert.AdamPoolWClaim
-- ==== Proof.AdamPoolScaleValue.lean ====
module

public import proofs.«01_k».proof.Proof.Gen.Kernel18Ideal.Value
public import proofs.«01_k».proof.Proof.Gen.Reference18Ideal.Read
public import proofs.«01_k».proof.Proof.Adam
public import proofs.«01_k».proof.Proof.Conv
public import Idealize.ShloMosaic.Lib.Pipeline.ReadBack

@[expose] public section

set_option maxRecDepth 16384

noncomputable section

/-! The arrays that the update of the pooling scale leaves. -/

namespace Cert.AdamPoolScaleValue

open Idealize.ShloMosaic Idealize.ShloMosaic.TcCoe Idealize.SL.Sem Cert.Kernel18Ideal Cert.Kernel18Ideal.Gen Cert.Adam
open Idealize.ShloMosaic.Pipeline (Dat)

variable (m : (ℓ : Loc nD τ sig) → Buf (Elt Ideal) ℓ)

theorem idx : ∀ t : Fin cfg0.N, win0_0.index t = ![t.val, 0, 0] ∧ win0_1.index t = ![t.val, 0, 0] ∧ win0_2.index t = ![t.val, 0, 0]
    ∧ win0_3.index t = ![t.val, 0, 0] ∧ win0_4.index t = ![t.val, 0, 0] ∧ win0_5.index t = ![t.val, 0, 0] ∧ win0_6.index t = ![t.val, 0, 0] :=
  (by decide +kernel : ∀ t : Fin grid0.N, _)

/-- Where entry `y` of block `t` lies in the whole array. -/
def at_ (t : Fin cfg0.N) (y : S1x2x384.Idx) : S1x2x384.Idx :=
  ix3 ⟨t.val, t.isLt⟩ ⟨(y 1).val, (y 1).isLt⟩ ⟨(y 2).val, (y 2).isLt⟩

theorem emb (t : Fin cfg0.N) (y : S1x2x384.Idx) : ((cfg0.win 4).blk t).view.emb y = at_ t y ∧ ((cfg0.win 5).blk t).view.emb y = at_ t y
    ∧ ((cfg0.win 6).blk t).view.emb y = at_ t y := by
  idx_vars y
  refine ⟨?_, ?_, ?_⟩ <;> blk_ext [idx t, at_]

/-- The arguments of the call, at their types. -/
abbrev A0 (c : Dev nD) : FVec Ideal S1x2x384 .f32 := m ((c.tc : Thread nD τ).loc main_arg0)
abbrev A1 (c : Dev nD) : FVec Ideal S1x2x384 .f32 := m ((c.tc : Thread nD τ).loc main_arg1)
abbrev A2 (c : Dev nD) : FVec Ideal S1x2x384 .f32 := m ((c.tc : Thread nD τ).loc main_arg2)
abbrev A3 (c : Dev nD) : FVec Ideal S1x2x384 .f32 := m ((c.tc : Thread nD τ).loc main_arg3)

theorem in_at (c : Dev nD) (t : Fin cfg0.N) (y : S1x2x384.Idx) :
    (iblk m c 0 t : FVec Ideal S1x2x384 .f32) y = A0 m c (at_ t y) ∧ (iblk m c 1 t : FVec Ideal S1x2x384 .f32) y = A1 m c (at_ t y)
      ∧ (iblk m c 2 t : FVec Ideal S1x2x384 .f32) y = A2 m c (at_ t y) ∧ (iblk m c 3 t : FVec Ideal S1x2x384 .f32) y = A3 m c (at_ t y) := by
  idx_vars y
  refine ⟨?_, ?_, ?_, ?_⟩ <;> blk_ext [iblk, V, idx t, at_]

theorem pay5_at (v0 v2 : FVec Ideal S1x2x384 .f32) (y : S1x2x384.Idx) : k0_pay5 (F := Ideal) v0 v2 y = mom (v0 y) (v2 y) := by
  idx_vars y
  obtain rfl : y0 = 0 := Subsingleton.elim _ _
  pointwise [k0_pay5, k0_pay3, k0_pay2, mom]

theorem pay6_at (v0 v9 : FVec Ideal S1x2x384 .f32) (y : S1x2x384.Idx) : k0_pay6 (F := Ideal) v0 v9 y = sec (v0 y) (v9 y) := by
  idx_vars y
  obtain rfl : y0 = 0 := Subsingleton.elim _ _
  pointwise [k0_pay6, k0_pay4, k0_pay2, sec]

theorem pay1_at (v0 v2 v9 v31 : FVec Ideal S1x2x384 .f32) (y : S1x2x384.Idx) :
    k0_pay1 (F := Ideal) (k0_pay7 (F := Ideal) v0 v2 v9) v31 y = delta (v0 y) (v31 y) (v2 y) (v9 y) := by
  idx_vars y
  obtain rfl : y0 = 0 := Subsingleton.elim _ _
  pointwise [k0_pay1, k0_pay7, k0_pay4, k0_pay3, k0_pay2, delta, mom, sec]

section
open Cert.Reference18Ideal.Read

theorem ref_m (x0 x2 : FVec Ideal S1x2x384 .f32) (i : S1x2x384.Idx) : val_main_v4 (F := Ideal) x0 x2 i = mom (x0 i) (x2 i) := by
  idx_vars i
  pointwise [val_main_v4, val_main_v3, val_main_v2, val_main_v1, val_main_v0, val_main_cst, val_main_cst_0, mom]

theorem ref_v (x0 x3 : FVec Ideal S1x2x384 .f32) (i : S1x2x384.Idx) : val_main_v10 (F := Ideal) x0 x3 i = sec (x0 i) (x3 i) := by
  idx_vars i
  pointwise [val_main_v10, val_main_v9, val_main_v8, val_main_v7, val_main_v6, val_main_v5, val_main_cst_1, val_main_cst_2, sec]

theorem ref_d (x0 x1 x2 x3 : FVec Ideal S1x2x384 .f32) (i : S1x2x384.Idx) :
    val_main_v23 (F := Ideal) x0 x1 x2 x3 i = delta (x0 i) (x1 i) (x2 i) (x3 i) := by
  unfold delta
  rw [← ref_m, ← ref_v]
  idx_vars i
  pointwise [val_main_v23, val_main_v22, val_main_v21, val_main_v20, val_main_v19, val_main_v18, val_main_v17, val_main_v16, val_main_v15, val_main_v14,
    val_main_v13, val_main_v12, val_main_v11, val_main_cst_3, val_main_cst_4, val_main_cst_5, val_main_cst_6, val_main_cst_7]

end

theorem final4 (c : Dev nD) : (dats m 0 c).arrAt 4 (cfgs 0).N
    = Cert.Reference18Ideal.Read.val_main_v23 (F := Ideal) (A0 m c) (A1 m c) (A2 m c) (A3 m c) := by
  refine (dats m 0 c).arrAt_eq_of_covers 4 _ (by decide +kernel) fun t hf y => ?_
  blk_simp
  rw [after0_4]
  unfold out0_4
  frame_out
  refine Eq.trans ?_ (congrArg _ (emb t y).1.symm)
  refine ((pay1_at _ _ _ _ y).trans ?_).trans (ref_d _ _ _ _ (at_ t y)).symm
  rw [(in_at m c t y).1, (in_at m c t y).2.1, (in_at m c t y).2.2.1, (in_at m c t y).2.2.2]

theorem final5 (c : Dev nD) : (dats m 0 c).arrAt 5 (cfgs 0).N
    = Cert.Reference18Ideal.Read.val_main_v4 (F := Ideal) (A0 m c) (A2 m c) := by
  refine (dats m 0 c).arrAt_eq_of_covers 5 _ (by decide +kernel) fun t hf y => ?_
  blk_simp
  rw [after0_5]
  unfold out0_5
  frame_out
  refine Eq.trans ?_ (congrArg _ (emb t y).2.1.symm)
  refine ((pay5_at _ _ y).trans ?_).trans (ref_m _ _ (at_ t y)).symm
  rw [(in_at m c t y).1, (in_at m c t y).2.2.1]

theorem final6 (c : Dev nD) : (dats m 0 c).arrAt 6 (cfgs 0).N
    = Cert.Reference18Ideal.Read.val_main_v10 (F := Ideal) (A0 m c) (A3 m c) := by
  refine (dats m 0 c).arrAt_eq_of_covers 6 _ (by decide +kernel) fun t hf y => ?_
  blk_simp
  rw [after0_6]
  unfold out0_6
  frame_out
  refine Eq.trans ?_ (congrArg _ (emb t y).2.2.symm)
  refine ((pay6_at _ _ y).trans ?_).trans (ref_v _ _ (at_ t y)).symm
  rw [(in_at m c t y).1, (in_at m c t y).2.2.2]

end Cert.AdamPoolScaleValue

end
-- ==== Proof.AdamPoolScaleClaim.lean ====
module

public import proofs.«01_k».proof.Defs
public import proofs.«01_k».proof.Proof.AdamPoolScaleValue
public import proofs.«01_k».proof.Proof.Gen.Kernel18.Frame
public import Idealize.ShloMosaic.Lib.Claim

@[expose] public section

/-! The claims about the update of the pooling scale (`Kernel18`). -/

namespace Cert.AdamPoolScaleClaim

open Idealize.ShloMosaic Idealize.SL.Sem

theorem frame_kernel : Cert.quiescent_Kernel18 := fun m ρ _ => Cert.Kernel18.Gen.frame m ρ

theorem frame_ideal : Cert.quiescent_Kernel18Ideal := fun m ρ _ => Cert.Kernel18Ideal.Gen.frame m ρ

theorem frame_reference : Cert.quiescent_Reference18Ideal := fun m ρ _ =>
  (θ_run Cert.Reference18Ideal.defs _ _).mono (fun r h => ⟨fun c => (h c).2.2.2, sem_eq_zero_of_no_sems (by decide) r.2⟩)
    (Cert.Reference18Ideal.Value.run m ρ)

theorem algebraic : Cert.algebraic_Kernel18Ideal_Reference18Ideal := by
  intro m g m' g' _ hagree
  refine ⟨_, _, _, Cert.Kernel18Ideal.Value.run_blocks m g, (θ_run Cert.Reference18Ideal.defs _ _).mono (fun r h c => ?_)
    (Cert.Reference18Ideal.Value.run m' g')⟩
  obtain ⟨h0, h1, h2, h3⟩ := hagree c
  obtain ⟨r0, r1, r2, rest⟩ := h c
  refine ⟨r0.trans ?_, r1.trans ?_, r2.trans ?_, rest⟩
  · rw [Cert.Reference18Ideal.Read.val_main_v23_eq, h0, h1, h2, h3]
    exact (Cert.AdamPoolScaleValue.final4 m c).symm
  · rw [Cert.Reference18Ideal.Read.val_main_v4_eq, h0, h2]
    exact (Cert.AdamPoolScaleValue.final5 m c).symm
  · rw [Cert.Reference18Ideal.Read.val_main_v10_eq, h0, h3]
    exact (Cert.AdamPoolScaleValue.final6 m c).symm

end Cert.AdamPoolScaleClaim
-- ==== Proof.AdamConvBValue.lean ====
module

public import proofs.«01_k».proof.Proof.Gen.Kernel19Ideal.Value
public import proofs.«01_k».proof.Proof.Gen.Reference19Ideal.Read
public import proofs.«01_k».proof.Proof.Adam
public import proofs.«01_k».proof.Proof.Conv
public import Idealize.ShloMosaic.Lib.Pipeline.ReadBack

@[expose] public section

set_option maxRecDepth 16384

noncomputable section

/-! The arrays that the update of the short convolution's weight leaves. -/

namespace Cert.AdamConvBValue

open Idealize.ShloMosaic Idealize.ShloMosaic.TcCoe Idealize.SL.Sem Cert.Kernel19Ideal Cert.Kernel19Ideal.Gen Cert.Adam
open Idealize.ShloMosaic.Pipeline (Dat)

variable (m : (ℓ : Loc nD τ sig) → Buf (Elt Ideal) ℓ)

theorem idx : ∀ t : Fin cfg0.N, win0_0.index t = ![t.val, 0, 0] ∧ win0_1.index t = ![t.val, 0, 0] ∧ win0_2.index t = ![t.val, 0, 0]
    ∧ win0_3.index t = ![t.val, 0, 0] ∧ win0_4.index t = ![t.val, 0, 0] ∧ win0_5.index t = ![t.val, 0, 0] ∧ win0_6.index t = ![t.val, 0, 0] :=
  (by decide +kernel : ∀ t : Fin grid0.N, _)

/-- Where entry `y` of block `t` lies in the whole array. -/
def at_ (t : Fin cfg0.N) (y : S1x3x48.Idx) : S2x3x48.Idx :=
  ix3 ⟨t.val, t.isLt⟩ ⟨(y 1).val, (y 1).isLt⟩ ⟨(y 2).val, (y 2).isLt⟩

theorem emb (t : Fin cfg0.N) (y : S1x3x48.Idx) : ((cfg0.win 4).blk t).view.emb y = at_ t y ∧ ((cfg0.win 5).blk t).view.emb y = at_ t y
    ∧ ((cfg0.win 6).blk t).view.emb y = at_ t y := by
  idx_vars y
  refine ⟨?_, ?_, ?_⟩ <;> blk_ext [idx t, at_]

/-- The arguments of the call, at their types. -/
abbrev A0 (c : Dev nD) : FVec Ideal S2x3x48 .f32 := m ((c.tc : Thread nD τ).loc main_arg0)
abbrev A1 (c : Dev nD) : FVec Ideal S2x3x48 .f32 := m ((c.tc : Thread nD τ).loc main_arg1)
abbrev A2 (c : Dev nD) : FVec Ideal S2x3x48 .f32 := m ((c.tc : Thread nD τ).loc main_arg2)
abbrev A3 (c : Dev nD) : FVec Ideal S2x3x48 .f32 := m ((c.tc : Thread nD τ).loc main_arg3)

theorem in_at (c : Dev nD) (t : Fin cfg0.N) (y : S1x3x48.Idx) :
    (iblk m c 0 t : FVec Ideal S1x3x48 .f32) y = A0 m c (at_ t y) ∧ (iblk m c 1 t : FVec Ideal S1x3x48 .f32) y = A1 m c (at_ t y)
      ∧ (iblk m c 2 t : FVec Ideal S1x3x48 .f32) y = A2 m c (at_ t y) ∧ (iblk m c 3 t : FVec Ideal S1x3x48 .f32) y = A3 m c (at_ t y) := by
  idx_vars y
  refine ⟨?_, ?_, ?_, ?_⟩ <;> blk_ext [iblk, V, idx t, at_]

theorem pay5_at (v0 v2 : FVec Ideal S1x3x48 .f32) (y : S1x3x48.Idx) : k0_pay5 (F := Ideal) v0 v2 y = mom (v0 y) (v2 y) := by
  idx_vars y
  obtain rfl : y0 = 0 := Subsingleton.elim _ _
  pointwise [k0_pay5, k0_pay3, k0_pay2, mom]

theorem pay6_at (v0 v9 : FVec Ideal S1x3x48 .f32) (y : S1x3x48.Idx) : k0_pay6 (F := Ideal) v0 v9 y = sec (v0 y) (v9 y) := by
  idx_vars y
  obtain rfl : y0 = 0 := Subsingleton.elim _ _
  pointwise [k0_pay6, k0_pay4, k0_pay2, sec]

theorem pay1_at (v0 v2 v9 v31 : FVec Ideal S1x3x48 .f32) (y : S1x3x48.Idx) :
    k0_pay1 (F := Ideal) (k0_pay7 (F := Ideal) v0 v2 v9) v31 y = delta (v0 y) (v31 y) (v2 y) (v9 y) := by
  idx_vars y
  obtain rfl : y0 = 0 := Subsingleton.elim _ _
  pointwise [k0_pay1, k0_pay7, k0_pay4, k0_pay3, k0_pay2, delta, mom, sec]

section
open Cert.Reference19Ideal.Read

theorem ref_m (x0 x2 : FVec Ideal S2x3x48 .f32) (i : S2x3x48.Idx) : val_main_v4 (F := Ideal) x0 x2 i = mom (x0 i) (x2 i) := by
  idx_vars i
  pointwise [val_main_v4, val_main_v3, val_main_v2, val_main_v1, val_main_v0, val_main_cst, val_main_cst_0, mom]

theorem ref_v (x0 x3 : FVec Ideal S2x3x48 .f32) (i : S2x3x48.Idx) : val_main_v10 (F := Ideal) x0 x3 i = sec (x0 i) (x3 i) := by
  idx_vars i
  pointwise [val_main_v10, val_main_v9, val_main_v8, val_main_v7, val_main_v6, val_main_v5, val_main_cst_1, val_main_cst_2, sec]

theorem ref_d (x0 x1 x2 x3 : FVec Ideal S2x3x48 .f32) (i : S2x3x48.Idx) :
    val_main_v23 (F := Ideal) x0 x1 x2 x3 i = delta (x0 i) (x1 i) (x2 i) (x3 i) := by
  unfold delta
  rw [← ref_m, ← ref_v]
  idx_vars i
  pointwise [val_main_v23, val_main_v22, val_main_v21, val_main_v20, val_main_v19, val_main_v18, val_main_v17, val_main_v16, val_main_v15, val_main_v14,
    val_main_v13, val_main_v12, val_main_v11, val_main_cst_3, val_main_cst_4, val_main_cst_5, val_main_cst_6, val_main_cst_7]

end

theorem final4 (c : Dev nD) : (dats m 0 c).arrAt 4 (cfgs 0).N
    = Cert.Reference19Ideal.Read.val_main_v23 (F := Ideal) (A0 m c) (A1 m c) (A2 m c) (A3 m c) := by
  refine (dats m 0 c).arrAt_eq_of_covers 4 _ (by decide +kernel) fun t hf y => ?_
  blk_simp
  rw [after0_4]
  unfold out0_4
  frame_out
  refine Eq.trans ?_ (congrArg _ (emb t y).1.symm)
  refine ((pay1_at _ _ _ _ y).trans ?_).trans (ref_d _ _ _ _ (at_ t y)).symm
  rw [(in_at m c t y).1, (in_at m c t y).2.1, (in_at m c t y).2.2.1, (in_at m c t y).2.2.2]

theorem final5 (c : Dev nD) : (dats m 0 c).arrAt 5 (cfgs 0).N
    = Cert.Reference19Ideal.Read.val_main_v4 (F := Ideal) (A0 m c) (A2 m c) := by
  refine (dats m 0 c).arrAt_eq_of_covers 5 _ (by decide +kernel) fun t hf y => ?_
  blk_simp
  rw [after0_5]
  unfold out0_5
  frame_out
  refine Eq.trans ?_ (congrArg _ (emb t y).2.1.symm)
  refine ((pay5_at _ _ y).trans ?_).trans (ref_m _ _ (at_ t y)).symm
  rw [(in_at m c t y).1, (in_at m c t y).2.2.1]

theorem final6 (c : Dev nD) : (dats m 0 c).arrAt 6 (cfgs 0).N
    = Cert.Reference19Ideal.Read.val_main_v10 (F := Ideal) (A0 m c) (A3 m c) := by
  refine (dats m 0 c).arrAt_eq_of_covers 6 _ (by decide +kernel) fun t hf y => ?_
  blk_simp
  rw [after0_6]
  unfold out0_6
  frame_out
  refine Eq.trans ?_ (congrArg _ (emb t y).2.2.symm)
  refine ((pay6_at _ _ y).trans ?_).trans (ref_v _ _ (at_ t y)).symm
  rw [(in_at m c t y).1, (in_at m c t y).2.2.2]

end Cert.AdamConvBValue

end
-- ==== Proof.AdamConvBClaim.lean ====
module

public import proofs.«01_k».proof.Defs
public import proofs.«01_k».proof.Proof.AdamConvBValue
public import proofs.«01_k».proof.Proof.Gen.Kernel19.Frame
public import Idealize.ShloMosaic.Lib.Claim

@[expose] public section

/-! The claims about the update of the short convolution's weight (`Kernel19`). -/

namespace Cert.AdamConvBClaim

open Idealize.ShloMosaic Idealize.SL.Sem

theorem frame_kernel : Cert.quiescent_Kernel19 := fun m ρ _ => Cert.Kernel19.Gen.frame m ρ

theorem frame_ideal : Cert.quiescent_Kernel19Ideal := fun m ρ _ => Cert.Kernel19Ideal.Gen.frame m ρ

theorem frame_reference : Cert.quiescent_Reference19Ideal := fun m ρ _ =>
  (θ_run Cert.Reference19Ideal.defs _ _).mono (fun r h => ⟨fun c => (h c).2.2.2, sem_eq_zero_of_no_sems (by decide) r.2⟩)
    (Cert.Reference19Ideal.Value.run m ρ)

theorem algebraic : Cert.algebraic_Kernel19Ideal_Reference19Ideal := by
  intro m g m' g' _ hagree
  refine ⟨_, _, _, Cert.Kernel19Ideal.Value.run_blocks m g, (θ_run Cert.Reference19Ideal.defs _ _).mono (fun r h c => ?_)
    (Cert.Reference19Ideal.Value.run m' g')⟩
  obtain ⟨h0, h1, h2, h3⟩ := hagree c
  obtain ⟨r0, r1, r2, rest⟩ := h c
  refine ⟨r0.trans ?_, r1.trans ?_, r2.trans ?_, rest⟩
  · rw [Cert.Reference19Ideal.Read.val_main_v23_eq, h0, h1, h2, h3]
    exact (Cert.AdamConvBValue.final4 m c).symm
  · rw [Cert.Reference19Ideal.Read.val_main_v4_eq, h0, h2]
    exact (Cert.AdamConvBValue.final5 m c).symm
  · rw [Cert.Reference19Ideal.Read.val_main_v10_eq, h0, h3]
    exact (Cert.AdamConvBValue.final6 m c).symm

end Cert.AdamConvBClaim
-- ==== Proof.AdamConvFValue.lean ====
module

public import proofs.«01_k».proof.Proof.Gen.Kernel20Ideal.Value
public import proofs.«01_k».proof.Proof.Gen.Reference20Ideal.Read
public import proofs.«01_k».proof.Proof.Adam
public import proofs.«01_k».proof.Proof.Conv
public import Idealize.ShloMosaic.Lib.Pipeline.ReadBack

@[expose] public section

set_option maxRecDepth 16384

noncomputable section

/-! The arrays that the update of the feed-forward convolution's weight leaves. -/

namespace Cert.AdamConvFValue

open Idealize.ShloMosaic Idealize.ShloMosaic.TcCoe Idealize.SL.Sem Cert.Kernel20Ideal Cert.Kernel20Ideal.Gen Cert.Adam
open Idealize.ShloMosaic.Pipeline (Dat)

variable (m : (ℓ : Loc nD τ sig) → Buf (Elt Ideal) ℓ)

theorem idx : ∀ t : Fin cfg0.N, win0_0.index t = ![t.val, 0, 0] ∧ win0_1.index t = ![t.val, 0, 0] ∧ win0_2.index t = ![t.val, 0, 0]
    ∧ win0_3.index t = ![t.val, 0, 0] ∧ win0_4.index t = ![t.val, 0, 0] ∧ win0_5.index t = ![t.val, 0, 0] ∧ win0_6.index t = ![t.val, 0, 0] :=
  (by decide +kernel : ∀ t : Fin grid0.N, _)

/-- Where entry `y` of block `t` lies in the whole array. -/
def at_ (t : Fin cfg0.N) (y : S1x3x352.Idx) : S2x3x352.Idx :=
  ix3 ⟨t.val, t.isLt⟩ ⟨(y 1).val, (y 1).isLt⟩ ⟨(y 2).val, (y 2).isLt⟩

theorem emb (t : Fin cfg0.N) (y : S1x3x352.Idx) : ((cfg0.win 4).blk t).view.emb y = at_ t y ∧ ((cfg0.win 5).blk t).view.emb y = at_ t y
    ∧ ((cfg0.win 6).blk t).view.emb y = at_ t y := by
  idx_vars y
  refine ⟨?_, ?_, ?_⟩ <;> blk_ext [idx t, at_]

/-- The arguments of the call, at their types. -/
abbrev A0 (c : Dev nD) : FVec Ideal S2x3x352 .f32 := m ((c.tc : Thread nD τ).loc main_arg0)
abbrev A1 (c : Dev nD) : FVec Ideal S2x3x352 .f32 := m ((c.tc : Thread nD τ).loc main_arg1)
abbrev A2 (c : Dev nD) : FVec Ideal S2x3x352 .f32 := m ((c.tc : Thread nD τ).loc main_arg2)
abbrev A3 (c : Dev nD) : FVec Ideal S2x3x352 .f32 := m ((c.tc : Thread nD τ).loc main_arg3)

theorem in_at (c : Dev nD) (t : Fin cfg0.N) (y : S1x3x352.Idx) :
    (iblk m c 0 t : FVec Ideal S1x3x352 .f32) y = A0 m c (at_ t y) ∧ (iblk m c 1 t : FVec Ideal S1x3x352 .f32) y = A1 m c (at_ t y)
      ∧ (iblk m c 2 t : FVec Ideal S1x3x352 .f32) y = A2 m c (at_ t y) ∧ (iblk m c 3 t : FVec Ideal S1x3x352 .f32) y = A3 m c (at_ t y) := by
  idx_vars y
  refine ⟨?_, ?_, ?_, ?_⟩ <;> blk_ext [iblk, V, idx t, at_]

theorem pay5_at (v0 v2 : FVec Ideal S1x3x352 .f32) (y : S1x3x352.Idx) : k0_pay5 (F := Ideal) v0 v2 y = mom (v0 y) (v2 y) := by
  idx_vars y
  obtain rfl : y0 = 0 := Subsingleton.elim _ _
  pointwise [k0_pay5, k0_pay3, k0_pay2, mom]

theorem pay6_at (v0 v9 : FVec Ideal S1x3x352 .f32) (y : S1x3x352.Idx) : k0_pay6 (F := Ideal) v0 v9 y = sec (v0 y) (v9 y) := by
  idx_vars y
  obtain rfl : y0 = 0 := Subsingleton.elim _ _
  pointwise [k0_pay6, k0_pay4, k0_pay2, sec]

theorem pay1_at (v0 v2 v9 v31 : FVec Ideal S1x3x352 .f32) (y : S1x3x352.Idx) :
    k0_pay1 (F := Ideal) (k0_pay7 (F := Ideal) v0 v2 v9) v31 y = delta (v0 y) (v31 y) (v2 y) (v9 y) := by
  idx_vars y
  obtain rfl : y0 = 0 := Subsingleton.elim _ _
  pointwise [k0_pay1, k0_pay7, k0_pay4, k0_pay3, k0_pay2, delta, mom, sec]

section
open Cert.Reference20Ideal.Read

theorem ref_m (x0 x2 : FVec Ideal S2x3x352 .f32) (i : S2x3x352.Idx) : val_main_v4 (F := Ideal) x0 x2 i = mom (x0 i) (x2 i) := by
  idx_vars i
  pointwise [val_main_v4, val_main_v3, val_main_v2, val_main_v1, val_main_v0, val_main_cst, val_main_cst_0, mom]

theorem ref_v (x0 x3 : FVec Ideal S2x3x352 .f32) (i : S2x3x352.Idx) : val_main_v10 (F := Ideal) x0 x3 i = sec (x0 i) (x3 i) := by
  idx_vars i
  pointwise [val_main_v10, val_main_v9, val_main_v8, val_main_v7, val_main_v6, val_main_v5, val_main_cst_1, val_main_cst_2, sec]

theorem ref_d (x0 x1 x2 x3 : FVec Ideal S2x3x352 .f32) (i : S2x3x352.Idx) :
    val_main_v23 (F := Ideal) x0 x1 x2 x3 i = delta (x0 i) (x1 i) (x2 i) (x3 i) := by
  unfold delta
  rw [← ref_m, ← ref_v]
  idx_vars i
  pointwise [val_main_v23, val_main_v22, val_main_v21, val_main_v20, val_main_v19, val_main_v18, val_main_v17, val_main_v16, val_main_v15, val_main_v14,
    val_main_v13, val_main_v12, val_main_v11, val_main_cst_3, val_main_cst_4, val_main_cst_5, val_main_cst_6, val_main_cst_7]

end

theorem final4 (c : Dev nD) : (dats m 0 c).arrAt 4 (cfgs 0).N
    = Cert.Reference20Ideal.Read.val_main_v23 (F := Ideal) (A0 m c) (A1 m c) (A2 m c) (A3 m c) := by
  refine (dats m 0 c).arrAt_eq_of_covers 4 _ (by decide +kernel) fun t hf y => ?_
  blk_simp
  rw [after0_4]
  unfold out0_4
  frame_out
  refine Eq.trans ?_ (congrArg _ (emb t y).1.symm)
  refine ((pay1_at _ _ _ _ y).trans ?_).trans (ref_d _ _ _ _ (at_ t y)).symm
  rw [(in_at m c t y).1, (in_at m c t y).2.1, (in_at m c t y).2.2.1, (in_at m c t y).2.2.2]

theorem final5 (c : Dev nD) : (dats m 0 c).arrAt 5 (cfgs 0).N
    = Cert.Reference20Ideal.Read.val_main_v4 (F := Ideal) (A0 m c) (A2 m c) := by
  refine (dats m 0 c).arrAt_eq_of_covers 5 _ (by decide +kernel) fun t hf y => ?_
  blk_simp
  rw [after0_5]
  unfold out0_5
  frame_out
  refine Eq.trans ?_ (congrArg _ (emb t y).2.1.symm)
  refine ((pay5_at _ _ y).trans ?_).trans (ref_m _ _ (at_ t y)).symm
  rw [(in_at m c t y).1, (in_at m c t y).2.2.1]

theorem final6 (c : Dev nD) : (dats m 0 c).arrAt 6 (cfgs 0).N
    = Cert.Reference20Ideal.Read.val_main_v10 (F := Ideal) (A0 m c) (A3 m c) := by
  refine (dats m 0 c).arrAt_eq_of_covers 6 _ (by decide +kernel) fun t hf y => ?_
  blk_simp
  rw [after0_6]
  unfold out0_6
  frame_out
  refine Eq.trans ?_ (congrArg _ (emb t y).2.2.symm)
  refine ((pay6_at _ _ y).trans ?_).trans (ref_v _ _ (at_ t y)).symm
  rw [(in_at m c t y).1, (in_at m c t y).2.2.2]

end Cert.AdamConvFValue

end
-- ==== Proof.AdamConvFClaim.lean ====
module

public import proofs.«01_k».proof.Defs
public import proofs.«01_k».proof.Proof.AdamConvFValue
public import proofs.«01_k».proof.Proof.Gen.Kernel20.Frame
public import Idealize.ShloMosaic.Lib.Claim

@[expose] public section

/-! The claims about the update of the feed-forward convolution's weight (`Kernel20`). -/

namespace Cert.AdamConvFClaim

open Idealize.ShloMosaic Idealize.SL.Sem

theorem frame_kernel : Cert.quiescent_Kernel20 := fun m ρ _ => Cert.Kernel20.Gen.frame m ρ

theorem frame_ideal : Cert.quiescent_Kernel20Ideal := fun m ρ _ => Cert.Kernel20Ideal.Gen.frame m ρ

theorem frame_reference : Cert.quiescent_Reference20Ideal := fun m ρ _ =>
  (θ_run Cert.Reference20Ideal.defs _ _).mono (fun r h => ⟨fun c => (h c).2.2.2, sem_eq_zero_of_no_sems (by decide) r.2⟩)
    (Cert.Reference20Ideal.Value.run m ρ)

theorem algebraic : Cert.algebraic_Kernel20Ideal_Reference20Ideal := by
  intro m g m' g' _ hagree
  refine ⟨_, _, _, Cert.Kernel20Ideal.Value.run_blocks m g, (θ_run Cert.Reference20Ideal.defs _ _).mono (fun r h c => ?_)
    (Cert.Reference20Ideal.Value.run m' g')⟩
  obtain ⟨h0, h1, h2, h3⟩ := hagree c
  obtain ⟨r0, r1, r2, rest⟩ := h c
  refine ⟨r0.trans ?_, r1.trans ?_, r2.trans ?_, rest⟩
  · rw [Cert.Reference20Ideal.Read.val_main_v23_eq, h0, h1, h2, h3]
    exact (Cert.AdamConvFValue.final4 m c).symm
  · rw [Cert.Reference20Ideal.Read.val_main_v4_eq, h0, h2]
    exact (Cert.AdamConvFValue.final5 m c).symm
  · rw [Cert.Reference20Ideal.Read.val_main_v10_eq, h0, h3]
    exact (Cert.AdamConvFValue.final6 m c).symm

end Cert.AdamConvFClaim
-- ==== Proof.SumOutValue.lean ====
module

public import proofs.«01_k».proof.Proof.Gen.Kernel21Ideal.Value
public import proofs.«01_k».proof.Proof.Gen.Reference21Ideal.Read
public import proofs.«01_k».proof.Proof.Adam
public import proofs.«01_k».proof.Proof.Conv
public import Idealize.ShloMosaic.Lib.Pipeline.ReadBack

@[expose] public section

set_option maxRecDepth 16384

noncomputable section

/-! The arrays that the sum of the devices' shares and the update of the output projection's weight leave. -/

namespace Cert.SumOutValue

open Idealize.ShloMosaic Idealize.ShloMosaic.TcCoe Idealize.SL.Sem Cert.Kernel21Ideal Cert.Kernel21Ideal.Gen Cert.Adam
open Idealize.ShloMosaic.Pipeline (Dat)

abbrev Bl := FVec Ideal S1x128x1024 .f32
abbrev Sh := FVec Ideal S1x128x1024 .bf16
abbrev Al := FVec Ideal S8x128x1024 .bf16
abbrev Wt := FVec Ideal S2x128x1024 .f32
abbrev Rc := FVec Ideal S8x128x1024 .bf16

variable (m : (ℓ : Loc nD τ sig) → Buf (Elt Ideal) ℓ)

theorem idx : ∀ t : Fin cfg0.N, win0_4.index t = ![t.val / 1, t.val % 1, 0] ∧ win0_5.index t = ![t.val / 1, t.val % 1, 0]
    ∧ win0_6.index t = ![t.val / 1, t.val % 1, 0] ∧ win0_7.index t = ![t.val / 1, t.val % 1, 0] ∧ win0_8.index t = ![t.val / 1, t.val % 1, 0]
    ∧ win0_9.index t = ![t.val / 1, t.val % 1, 0] ∧ win0_10.index t = ![t.val / 1, t.val % 1, 0] :=
  (by decide +kernel : ∀ t : Fin grid0.N, _)

/-- While the first layer is summed, its shares move with the point. -/
theorem idxA : ∀ t : Fin cfg0.N, t.val % 2 = 0 → win0_0.index t = ![0, t.val % 1, 0] ∧ win0_1.index t = ![0, t.val % 1, 0] ∧ t.val / 1 = 0 :=
  (by decide +kernel : ∀ t : Fin grid0.N, _)

/-- While the second layer is summed, its shares do. -/
theorem idxB : ∀ t : Fin cfg0.N, t.val % 2 = 1 → win0_2.index t = ![0, t.val % 1, 0] ∧ win0_3.index t = ![0, t.val % 1, 0] ∧ t.val / 1 = 1 :=
  (by decide +kernel : ∀ t : Fin grid0.N, _)

/-- The array's row that row `r` of block `t` is. -/
def row (t : Fin cfg0.N) (r : Fin 128) : Fin 128 := ⟨t.val % 1 * 128 + r.val, by omega⟩

/-- The layer of block `t`. -/
def layer (t : Fin cfg0.N) : Fin 2 := ⟨t.val / 1, by have := t.isLt; change t.val < 2 at this; omega⟩

/-- Where entry `y` of block `t` lies in the whole array. -/
def at_ (t : Fin cfg0.N) (y : S1x128x1024.Idx) : S2x128x1024.Idx := ix3 (layer t) (row t (y 1)) (y 2)

theorem emb (t : Fin cfg0.N) (y : S1x128x1024.Idx) : ((cfg0.win 7).blk t).view.emb y = at_ t y ∧ ((cfg0.win 8).blk t).view.emb y = at_ t y
    ∧ ((cfg0.win 9).blk t).view.emb y = at_ t y ∧ ((cfg0.win 10).blk t).view.emb y = at_ t y := by
  idx_vars y
  refine ⟨?_, ?_, ?_, ?_⟩ <;> blk_ext [idx t, at_, row, layer]

variable (c : Dev nD)

/-- The arguments of the call, at their types. -/
abbrev A0 : Al := m ((c.tc : Thread nD τ).loc main_arg0)
abbrev A1 : Al := m ((c.tc : Thread nD τ).loc main_arg1)
abbrev A2 : Al := m ((c.tc : Thread nD τ).loc main_arg2)
abbrev A3 : Al := m ((c.tc : Thread nD τ).loc main_arg3)
abbrev A4 : Wt := m ((c.tc : Thread nD τ).loc main_arg4)
abbrev A5 : Wt := m ((c.tc : Thread nD τ).loc main_arg5)
abbrev A6 : Wt := m ((c.tc : Thread nD τ).loc main_arg6)

theorem in_at (t : Fin cfg0.N) (y : S1x128x1024.Idx) : (iblk m c 4 t : Bl) y = A4 m c (at_ t y)
    ∧ (iblk m c 5 t : Bl) y = A5 m c (at_ t y) ∧ (iblk m c 6 t : Bl) y = A6 m c (at_ t y) := by
  idx_vars y
  refine ⟨?_, ?_, ?_⟩ <;> blk_ext [iblk, V, idx t, at_, row, layer]

theorem shareA (t : Fin cfg0.N) (h : t.val % 2 = 0) (d : Fin 8) (r : Fin 128) (j : Fin 1024) :
    (iblk m c 0 t : Al) (ix3 d r j) = A1 m c (ix3 d (row t r) j)
      ∧ (iblk m c 1 t : Sh) (ix3 0 r j) = A0 m c (ix3 0 (row t r) j) := by
  refine ⟨?_, ?_⟩ <;> blk_ext [iblk, V, idxA t h, row]

theorem shareB (t : Fin cfg0.N) (h : t.val % 2 = 1) (d : Fin 8) (r : Fin 128) (j : Fin 1024) :
    (iblk m c 2 t : Al) (ix3 d r j) = A3 m c (ix3 d (row t r) j)
      ∧ (iblk m c 3 t : Sh) (ix3 0 r j) = A2 m c (ix3 0 (row t r) j) := by
  refine ⟨?_, ?_⟩ <;> blk_ext [iblk, V, idxB t h, row]

theorem pay6_at (o a0 o1 a1 o2 a2 o3 a3 o4 a4 o5 a5 o6 a6 o7 a7 : Sh) (r : Fin 128) (j : Fin 1024) :
    k0_pay6 (F := Ideal) (k0_pay2 (F := Ideal) o a0 o1 a1 o2 a2 o3 a3) (k0_pay3 (F := Ideal) o4) a4 o5 a5 o6 a6 o7 a7 (ix3 0 r j)
      = total (o (ix3 0 r j)) ![a1 (ix3 0 r j), a2 (ix3 0 r j), a3 (ix3 0 r j), a4 (ix3 0 r j), a5 (ix3 0 r j), a6 (ix3 0 r j), a7 (ix3 0 r j)] := by
  pointwise [k0_pay6, k0_pay2, k0_pay3, total]

section
open Cert.Reference21Ideal.Read
variable (x0 x1 x2 x3 : Al)

theorem ref_g0 (r : Fin 128) (j : Fin 1024) :
    val_main_v12 (F := Ideal) x0 x1 x2 x3 (ix3 0 r j) = total (x0 (ix3 0 r j)) fun d => x1 (ix3 ⟨1 + d.val, by omega⟩ r j) := by
  rw [← total_eq]
  pointwise [val_main_v12, val_main_v10, val_main_v4, val_main_v3, val_main_v2, val_main_v1, val_main_v0, val_main_cst]
  rw [Fin.sum_univ_one]

theorem ref_g1 (r : Fin 128) (j : Fin 1024) :
    val_main_v12 (F := Ideal) x0 x1 x2 x3 (ix3 1 r j) = total (x2 (ix3 0 r j)) fun d => x3 (ix3 ⟨1 + d.val, by omega⟩ r j) := by
  rw [← total_eq]
  pointwise [val_main_v12, val_main_v11, val_main_v9, val_main_v8, val_main_v7, val_main_v6, val_main_v5, val_main_cst_0]
  rw [Fin.sum_univ_one]

theorem ref_m (x5 : Wt) (i : S2x128x1024.Idx) :
    val_main_v17 (F := Ideal) x0 x1 x2 x3 x5 i = mom (val_main_v12 (F := Ideal) x0 x1 x2 x3 i) (x5 i) := by
  unfold val_main_v17 val_main_v16
  generalize val_main_v12 (F := Ideal) x0 x1 x2 x3 = g
  idx_vars i
  pointwise [val_main_v15, val_main_v14, val_main_v13, val_main_cst_1, val_main_cst_2, mom]

theorem ref_v (x6 : Wt) (i : S2x128x1024.Idx) :
    val_main_v23 (F := Ideal) x0 x1 x2 x3 x6 i = sec (val_main_v12 (F := Ideal) x0 x1 x2 x3 i) (x6 i) := by
  unfold val_main_v23 val_main_v22 val_main_v20
  generalize val_main_v12 (F := Ideal) x0 x1 x2 x3 = g
  idx_vars i
  pointwise [val_main_v21, val_main_v19, val_main_v18, val_main_cst_3, val_main_cst_4, sec]

theorem ref_d (x4 x5 x6 : Wt) (i : S2x128x1024.Idx) :
    val_main_v36 (F := Ideal) x0 x1 x2 x3 x4 x5 x6 i = delta (val_main_v12 (F := Ideal) x0 x1 x2 x3 i) (x4 i) (x5 i) (x6 i) := by
  unfold delta
  rw [← ref_m, ← ref_v]
  unfold val_main_v36 val_main_v34 val_main_v31 val_main_v30 val_main_v28 val_main_v27 val_main_v25
  generalize val_main_v17 (F := Ideal) x0 x1 x2 x3 x5 = u
  generalize val_main_v23 (F := Ideal) x0 x1 x2 x3 x6 = v
  idx_vars i
  pointwise [val_main_v35, val_main_v33, val_main_v32, val_main_v29, val_main_v26, val_main_v24, val_main_cst_5, val_main_cst_6, val_main_cst_7,
    val_main_cst_8, val_main_cst_9]

end

theorem pay11_at (g v : Bl) (y : S1x128x1024.Idx) : k0_pay11 (F := Ideal) g v y = mom (g y) (v y) := by
  idx_vars y
  obtain rfl : y0 = 0 := Subsingleton.elim _ _
  pointwise [k0_pay11, k0_pay9, k0_pay8, mom]

theorem pay12_at (g v : Bl) (y : S1x128x1024.Idx) : k0_pay12 (F := Ideal) g v y = sec (g y) (v y) := by
  idx_vars y
  obtain rfl : y0 = 0 := Subsingleton.elim _ _
  pointwise [k0_pay12, k0_pay10, k0_pay8, sec]

theorem pay1_at (g w u v : Bl) (y : S1x128x1024.Idx) :
    k0_pay1 (F := Ideal) (k0_pay9 (F := Ideal) g u) (k0_pay10 (F := Ideal) g v) (k0_pay13 (F := Ideal)) w y = delta (g y) (w y) (u y) (v y) := by
  idx_vars y
  obtain rfl : y0 = 0 := Subsingleton.elim _ _
  pointwise [k0_pay1, k0_pay13, k0_pay10, k0_pay9, k0_pay8, delta, mom, sec]

/-- The reference's gradient, step and moments. -/
abbrev G : Wt := Cert.Reference21Ideal.Read.val_main_v12 (F := Ideal) (A0 m c) (A1 m c) (A2 m c) (A3 m c)
abbrev RD : Wt := Cert.Reference21Ideal.Read.val_main_v36 (F := Ideal) (A0 m c) (A1 m c) (A2 m c) (A3 m c) (A4 m c) (A5 m c) (A6 m c)
abbrev RM : Wt := Cert.Reference21Ideal.Read.val_main_v17 (F := Ideal) (A0 m c) (A1 m c) (A2 m c) (A3 m c) (A5 m c)
abbrev RV : Wt := Cert.Reference21Ideal.Read.val_main_v23 (F := Ideal) (A0 m c) (A1 m c) (A2 m c) (A3 m c) (A6 m c)

/-- Device `k`'s share in a block. -/
abbrev one (r : Rc) (k : ℕ) (h : ∀ a, ![k, 0, 0] a + S1x128x1024.size a ≤ S8x128x1024.size a) : Sh := fun x => r ((Rect.unit (s := S8x128x1024) ![k, 0, 0] S1x128x1024.size h).idx x)

/-- The sum of the shares in a block, as the body adds them. -/
abbrev gsum (r : Al) (o : Sh) : Bl :=
  k0_pay6 (F := Ideal) (k0_pay2 (F := Ideal) o (one r 0 inb_S8x128x1024_S1x128x1024_0_0_0) o (one r 1 inb_S8x128x1024_S1x128x1024_1_0_0) o (one r 2 inb_S8x128x1024_S1x128x1024_2_0_0) o (one r 3 inb_S8x128x1024_S1x128x1024_3_0_0))
    (k0_pay3 (F := Ideal) o) (one r 4 inb_S8x128x1024_S1x128x1024_4_0_0) o (one r 5 inb_S8x128x1024_S1x128x1024_5_0_0) o (one r 6 inb_S8x128x1024_S1x128x1024_6_0_0) o (one r 7 inb_S8x128x1024_S1x128x1024_7_0_0)

/-- The second layer's sum is written as the first one's. -/
theorem again : @k0_pay7 = @k0_pay6 ∧ @k0_pay4 = @k0_pay2 ∧ @k0_pay5 = @k0_pay3 := ⟨rfl, rfl, rfl⟩

theorem gsum_at (r : Al) (o : Sh) (q : Fin 128) (j : Fin 1024) :
    gsum r o (ix3 0 q j) = total (o (ix3 0 q j)) fun d => r (ix3 ⟨1 + d.val, by omega⟩ q j) := by
  refine (pay6_at _ _ _ _ _ _ _ _ _ _ _ _ _ _ _ _ q j).trans (congrArg (total _) (funext fun d => ?_))
  fin_cases d <;> refine congrArg r ?_ <;> blk_ext <;> simp [Rect.unit]

theorem gradA (t : Fin cfg0.N) (h : t.val % 2 = 0) (y : S1x128x1024.Idx) : gsum (iblk m c 0 t) (iblk m c 1 t) y = G m c (at_ t y) := by
  idx_vars y
  obtain rfl : y0 = 0 := Subsingleton.elim _ _
  have e : layer t = 0 := Fin.ext (idxA t h).2.2
  refine ((gsum_at _ _ y1 y2).trans ?_).trans ((ref_g0 _ _ _ _ (row t y1) y2).symm.trans (congrArg (fun l => G m c (ix3 l (row t y1) y2)) e.symm))
  exact congrArg₂ total (shareA m c t h 0 y1 y2).2 (funext fun d => (shareA m c t h _ y1 y2).1)

theorem gradB (t : Fin cfg0.N) (h : t.val % 2 = 1) (y : S1x128x1024.Idx) : gsum (iblk m c 2 t) (iblk m c 3 t) y = G m c (at_ t y) := by
  idx_vars y
  obtain rfl : y0 = 0 := Subsingleton.elim _ _
  have e : layer t = 1 := Fin.ext (idxB t h).2.2
  refine ((gsum_at _ _ y1 y2).trans ?_).trans ((ref_g1 _ _ _ _ (row t y1) y2).symm.trans (congrArg (fun l => G m c (ix3 l (row t y1) y2)) e.symm))
  exact congrArg₂ total (shareB m c t h 0 y1 y2).2 (funext fun d => (shareB m c t h _ y1 y2).1)

theorem point8 (t : Fin cfg0.N) (y : S1x128x1024.Idx) (g : Bl) (hg : g y = G m c (at_ t y)) :
    k0_pay1 (F := Ideal) (k0_pay9 (F := Ideal) g (iblk m c 5 t)) (k0_pay10 (F := Ideal) g (iblk m c 6 t)) (k0_pay13 (F := Ideal)) (iblk m c 4 t) y
      = RD m c (at_ t y) := by
  refine (pay1_at _ _ _ _ y).trans (Eq.trans ?_ (ref_d _ _ _ _ _ _ _ (at_ t y)).symm)
  rw [hg, (in_at m c t y).1, (in_at m c t y).2.1, (in_at m c t y).2.2]

theorem point9 (t : Fin cfg0.N) (y : S1x128x1024.Idx) (g : Bl) (hg : g y = G m c (at_ t y)) :
    k0_pay11 (F := Ideal) g (iblk m c 5 t) y = RM m c (at_ t y) := by
  refine (pay11_at _ _ y).trans (Eq.trans ?_ (ref_m _ _ _ _ _ (at_ t y)).symm)
  rw [hg, (in_at m c t y).2.1]

theorem point10 (t : Fin cfg0.N) (y : S1x128x1024.Idx) (g : Bl) (hg : g y = G m c (at_ t y)) :
    k0_pay12 (F := Ideal) g (iblk m c 6 t) y = RV m c (at_ t y) := by
  refine (pay12_at _ _ y).trans (Eq.trans ?_ (ref_v _ _ _ _ _ (at_ t y)).symm)
  rw [hg, (in_at m c t y).2.2]

/-- What the body leaves at a point: the gradient's block, and the step taken from it. -/
theorem outs (t : Fin cfg0.N) : ∃ g : Bl, (∀ y, g y = G m c (at_ t y)) ∧ (outsAt0 m c t.val t.isLt).1 = g
    ∧ (outsAt0 m c t.val t.isLt).2.1 = k0_pay1 (F := Ideal) (k0_pay9 (F := Ideal) g (iblk m c 5 t)) (k0_pay10 (F := Ideal) g (iblk m c 6 t)) (k0_pay13 (F := Ideal)) (iblk m c 4 t)
    ∧ (outsAt0 m c t.val t.isLt).2.2.1 = k0_pay11 (F := Ideal) g (iblk m c 5 t) ∧ (outsAt0 m c t.val t.isLt).2.2.2 = k0_pay12 (F := Ideal) g (iblk m c 6 t) := by
  by_cases h : t.val % 2 = 0
  · rw [outsAt0_A m c t h (by omega)]
    refine ⟨gsum (iblk m c 0 t) (iblk m c 1 t), gradA m c t h, ?_, ?_, ?_, ?_⟩ <;> frame_out <;> rfl
  · have h' : t.val % 2 = 1 := by omega
    rw [outsAt0_B m c t h h']
    refine ⟨gsum (iblk m c 2 t) (iblk m c 3 t), gradB m c t h', ?_, ?_, ?_, ?_⟩ <;> frame_out <;> rw [again.1, again.2.1, again.2.2] <;> rfl

theorem final7 : (dats m 0 c).arrAt 7 (cfgs 0).N = G m c := by
  refine (dats m 0 c).arrAt_eq_of_covers 7 _ (by decide +kernel) fun t hf y => ?_
  blk_simp
  obtain ⟨g, hg, e, -⟩ := outs m c t
  rw [after0_7, e]
  exact (hg y).trans (congrArg _ (emb t y).1.symm)

theorem final8 : (dats m 0 c).arrAt 8 (cfgs 0).N = RD m c := by
  refine (dats m 0 c).arrAt_eq_of_covers 8 _ (by decide +kernel) fun t hf y => ?_
  blk_simp
  obtain ⟨g, hg, -, e, -⟩ := outs m c t
  rw [after0_8, e]
  exact (point8 m c t y g (hg y)).trans (congrArg _ (emb t y).2.1.symm)

theorem final9 : (dats m 0 c).arrAt 9 (cfgs 0).N = RM m c := by
  refine (dats m 0 c).arrAt_eq_of_covers 9 _ (by decide +kernel) fun t hf y => ?_
  blk_simp
  obtain ⟨g, hg, -, -, e, -⟩ := outs m c t
  rw [after0_9, e]
  exact (point9 m c t y g (hg y)).trans (congrArg _ (emb t y).2.2.1.symm)

theorem final10 : (dats m 0 c).arrAt 10 (cfgs 0).N = RV m c := by
  refine (dats m 0 c).arrAt_eq_of_covers 10 _ (by decide +kernel) fun t hf y => ?_
  blk_simp
  obtain ⟨g, hg, -, -, -, e⟩ := outs m c t
  rw [after0_10, e]
  exact (point10 m c t y g (hg y)).trans (congrArg _ (emb t y).2.2.2.symm)

end Cert.SumOutValue

end
-- ==== Proof.SumOutClaim.lean ====
module

public import proofs.«01_k».proof.Defs
public import proofs.«01_k».proof.Proof.SumOutValue
public import proofs.«01_k».proof.Proof.Gen.Kernel21.Frame
public import Idealize.ShloMosaic.Lib.Claim

@[expose] public section

/-! The claims about the sum of the shares and the update of the output projection's weight (`Kernel21`). -/

namespace Cert.SumOutClaim

open Idealize.ShloMosaic Idealize.SL.Sem Cert.Reference21Ideal.Read

theorem frame_kernel : Cert.quiescent_Kernel21 := fun m ρ _ => Cert.Kernel21.Gen.frame m ρ

theorem frame_ideal : Cert.quiescent_Kernel21Ideal := fun m ρ _ => Cert.Kernel21Ideal.Gen.frame m ρ

theorem frame_reference : Cert.quiescent_Reference21Ideal := fun m ρ _ =>
  (θ_run Cert.Reference21Ideal.defs _ _).mono (fun r h => ⟨fun c => (h c).2.2.2.2, sem_eq_zero_of_no_sems (by decide) r.2⟩)
    (Cert.Reference21Ideal.Value.run m ρ)

theorem algebraic : Cert.algebraic_Kernel21Ideal_Reference21Ideal := by
  intro m g m' g' _ hagree
  refine ⟨_, _, _, _, Cert.Kernel21Ideal.Value.run_blocks m g, (θ_run Cert.Reference21Ideal.defs _ _).mono (fun r h c => ?_)
    (Cert.Reference21Ideal.Value.run m' g')⟩
  obtain ⟨h0, h1, h2, h3, h4, h5, h6⟩ := hagree c
  obtain ⟨r0, r1, r2, r3, rest⟩ := h c
  refine ⟨r0.trans ?_, r1.trans ?_, r2.trans ?_, r3.trans ?_, rest⟩
  · rw [val_main_v12_eq, h0, h1, h2, h3]
    exact (Cert.SumOutValue.final7 m c).symm
  · rw [val_main_v36_eq, h0, h1, h2, h3, h4, h5, h6]
    exact (Cert.SumOutValue.final8 m c).symm
  · rw [val_main_v17_eq, h0, h1, h2, h3, h5]
    exact (Cert.SumOutValue.final9 m c).symm
  · rw [val_main_v23_eq, h0, h1, h2, h3, h6]
    exact (Cert.SumOutValue.final10 m c).symm

end Cert.SumOutClaim
-- ==== Proof.SumMqValue.lean ====
module

public import proofs.«01_k».proof.Proof.Gen.Kernel22Ideal.Value
public import proofs.«01_k».proof.Proof.Gen.Reference22Ideal.Read
public import proofs.«01_k».proof.Proof.Adam
public import proofs.«01_k».proof.Proof.Conv
public import Idealize.ShloMosaic.Lib.Pipeline.ReadBack

@[expose] public section

set_option maxRecDepth 16384

noncomputable section

/-! The arrays that the sum of the devices' shares and the update of the memory attention's query weight leave. -/

namespace Cert.SumMqValue

open Idealize.ShloMosaic Idealize.ShloMosaic.TcCoe Idealize.SL.Sem Cert.Kernel22Ideal Cert.Kernel22Ideal.Gen Cert.Adam
open Idealize.ShloMosaic.Pipeline (Dat)

abbrev Bl := FVec Ideal S1x128x512 .f32
abbrev Sh := FVec Ideal S1x128x512 .bf16
abbrev Al := FVec Ideal S8x128x512 .bf16
abbrev Wt := FVec Ideal S2x128x512 .f32
abbrev Rc := FVec Ideal S8x128x512 .bf16

variable (m : (ℓ : Loc nD τ sig) → Buf (Elt Ideal) ℓ)

theorem idx : ∀ t : Fin cfg0.N, win0_4.index t = ![t.val / 1, t.val % 1, 0] ∧ win0_5.index t = ![t.val / 1, t.val % 1, 0]
    ∧ win0_6.index t = ![t.val / 1, t.val % 1, 0] ∧ win0_7.index t = ![t.val / 1, t.val % 1, 0] ∧ win0_8.index t = ![t.val / 1, t.val % 1, 0]
    ∧ win0_9.index t = ![t.val / 1, t.val % 1, 0] ∧ win0_10.index t = ![t.val / 1, t.val % 1, 0] :=
  (by decide +kernel : ∀ t : Fin grid0.N, _)

/-- While the first layer is summed, its shares move with the point. -/
theorem idxA : ∀ t : Fin cfg0.N, t.val % 2 = 0 → win0_0.index t = ![0, t.val % 1, 0] ∧ win0_1.index t = ![0, t.val % 1, 0] ∧ t.val / 1 = 0 :=
  (by decide +kernel : ∀ t : Fin grid0.N, _)

/-- While the second layer is summed, its shares do. -/
theorem idxB : ∀ t : Fin cfg0.N, t.val % 2 = 1 → win0_2.index t = ![0, t.val % 1, 0] ∧ win0_3.index t = ![0, t.val % 1, 0] ∧ t.val / 1 = 1 :=
  (by decide +kernel : ∀ t : Fin grid0.N, _)

/-- The array's row that row `r` of block `t` is. -/
def row (t : Fin cfg0.N) (r : Fin 128) : Fin 128 := ⟨t.val % 1 * 128 + r.val, by omega⟩

/-- The layer of block `t`. -/
def layer (t : Fin cfg0.N) : Fin 2 := ⟨t.val / 1, by have := t.isLt; change t.val < 2 at this; omega⟩

/-- Where entry `y` of block `t` lies in the whole array. -/
def at_ (t : Fin cfg0.N) (y : S1x128x512.Idx) : S2x128x512.Idx := ix3 (layer t) (row t (y 1)) (y 2)

theorem emb (t : Fin cfg0.N) (y : S1x128x512.Idx) : ((cfg0.win 7).blk t).view.emb y = at_ t y ∧ ((cfg0.win 8).blk t).view.emb y = at_ t y
    ∧ ((cfg0.win 9).blk t).view.emb y = at_ t y ∧ ((cfg0.win 10).blk t).view.emb y = at_ t y := by
  idx_vars y
  refine ⟨?_, ?_, ?_, ?_⟩ <;> blk_ext [idx t, at_, row, layer]

variable (c : Dev nD)

/-- The arguments of the call, at their types. -/
abbrev A0 : Al := m ((c.tc : Thread nD τ).loc main_arg0)
abbrev A1 : Al := m ((c.tc : Thread nD τ).loc main_arg1)
abbrev A2 : Al := m ((c.tc : Thread nD τ).loc main_arg2)
abbrev A3 : Al := m ((c.tc : Thread nD τ).loc main_arg3)
abbrev A4 : Wt := m ((c.tc : Thread nD τ).loc main_arg4)
abbrev A5 : Wt := m ((c.tc : Thread nD τ).loc main_arg5)
abbrev A6 : Wt := m ((c.tc : Thread nD τ).loc main_arg6)

theorem in_at (t : Fin cfg0.N) (y : S1x128x512.Idx) : (iblk m c 4 t : Bl) y = A4 m c (at_ t y)
    ∧ (iblk m c 5 t : Bl) y = A5 m c (at_ t y) ∧ (iblk m c 6 t : Bl) y = A6 m c (at_ t y) := by
  idx_vars y
  refine ⟨?_, ?_, ?_⟩ <;> blk_ext [iblk, V, idx t, at_, row, layer]

theorem shareA (t : Fin cfg0.N) (h : t.val % 2 = 0) (d : Fin 8) (r : Fin 128) (j : Fin 512) :
    (iblk m c 0 t : Al) (ix3 d r j) = A1 m c (ix3 d (row t r) j)
      ∧ (iblk m c 1 t : Sh) (ix3 0 r j) = A0 m c (ix3 0 (row t r) j) := by
  refine ⟨?_, ?_⟩ <;> blk_ext [iblk, V, idxA t h, row]

theorem shareB (t : Fin cfg0.N) (h : t.val % 2 = 1) (d : Fin 8) (r : Fin 128) (j : Fin 512) :
    (iblk m c 2 t : Al) (ix3 d r j) = A3 m c (ix3 d (row t r) j)
      ∧ (iblk m c 3 t : Sh) (ix3 0 r j) = A2 m c (ix3 0 (row t r) j) := by
  refine ⟨?_, ?_⟩ <;> blk_ext [iblk, V, idxB t h, row]

theorem pay6_at (o a0 o1 a1 o2 a2 o3 a3 o4 a4 o5 a5 o6 a6 o7 a7 : Sh) (r : Fin 128) (j : Fin 512) :
    k0_pay6 (F := Ideal) (k0_pay2 (F := Ideal) o a0 o1 a1 o2 a2 o3 a3) (k0_pay3 (F := Ideal) o4) a4 o5 a5 o6 a6 o7 a7 (ix3 0 r j)
      = total (o (ix3 0 r j)) ![a1 (ix3 0 r j), a2 (ix3 0 r j), a3 (ix3 0 r j), a4 (ix3 0 r j), a5 (ix3 0 r j), a6 (ix3 0 r j), a7 (ix3 0 r j)] := by
  pointwise [k0_pay6, k0_pay2, k0_pay3, total]

section
open Cert.Reference22Ideal.Read
variable (x0 x1 x2 x3 : Al)

theorem ref_g0 (r : Fin 128) (j : Fin 512) :
    val_main_v12 (F := Ideal) x0 x1 x2 x3 (ix3 0 r j) = total (x0 (ix3 0 r j)) fun d => x1 (ix3 ⟨1 + d.val, by omega⟩ r j) := by
  rw [← total_eq]
  pointwise [val_main_v12, val_main_v10, val_main_v4, val_main_v3, val_main_v2, val_main_v1, val_main_v0, val_main_cst]
  rw [Fin.sum_univ_one]

theorem ref_g1 (r : Fin 128) (j : Fin 512) :
    val_main_v12 (F := Ideal) x0 x1 x2 x3 (ix3 1 r j) = total (x2 (ix3 0 r j)) fun d => x3 (ix3 ⟨1 + d.val, by omega⟩ r j) := by
  rw [← total_eq]
  pointwise [val_main_v12, val_main_v11, val_main_v9, val_main_v8, val_main_v7, val_main_v6, val_main_v5, val_main_cst_0]
  rw [Fin.sum_univ_one]

theorem ref_m (x5 : Wt) (i : S2x128x512.Idx) :
    val_main_v17 (F := Ideal) x0 x1 x2 x3 x5 i = mom (val_main_v12 (F := Ideal) x0 x1 x2 x3 i) (x5 i) := by
  unfold val_main_v17 val_main_v16
  generalize val_main_v12 (F := Ideal) x0 x1 x2 x3 = g
  idx_vars i
  pointwise [val_main_v15, val_main_v14, val_main_v13, val_main_cst_1, val_main_cst_2, mom]

theorem ref_v (x6 : Wt) (i : S2x128x512.Idx) :
    val_main_v23 (F := Ideal) x0 x1 x2 x3 x6 i = sec (val_main_v12 (F := Ideal) x0 x1 x2 x3 i) (x6 i) := by
  unfold val_main_v23 val_main_v22 val_main_v20
  generalize val_main_v12 (F := Ideal) x0 x1 x2 x3 = g
  idx_vars i
  pointwise [val_main_v21, val_main_v19, val_main_v18, val_main_cst_3, val_main_cst_4, sec]

theorem ref_d (x4 x5 x6 : Wt) (i : S2x128x512.Idx) :
    val_main_v36 (F := Ideal) x0 x1 x2 x3 x4 x5 x6 i = delta (val_main_v12 (F := Ideal) x0 x1 x2 x3 i) (x4 i) (x5 i) (x6 i) := by
  unfold delta
  rw [← ref_m, ← ref_v]
  unfold val_main_v36 val_main_v34 val_main_v31 val_main_v30 val_main_v28 val_main_v27 val_main_v25
  generalize val_main_v17 (F := Ideal) x0 x1 x2 x3 x5 = u
  generalize val_main_v23 (F := Ideal) x0 x1 x2 x3 x6 = v
  idx_vars i
  pointwise [val_main_v35, val_main_v33, val_main_v32, val_main_v29, val_main_v26, val_main_v24, val_main_cst_5, val_main_cst_6, val_main_cst_7,
    val_main_cst_8, val_main_cst_9]

end

theorem pay11_at (g v : Bl) (y : S1x128x512.Idx) : k0_pay11 (F := Ideal) g v y = mom (g y) (v y) := by
  idx_vars y
  obtain rfl : y0 = 0 := Subsingleton.elim _ _
  pointwise [k0_pay11, k0_pay9, k0_pay8, mom]

theorem pay12_at (g v : Bl) (y : S1x128x512.Idx) : k0_pay12 (F := Ideal) g v y = sec (g y) (v y) := by
  idx_vars y
  obtain rfl : y0 = 0 := Subsingleton.elim _ _
  pointwise [k0_pay12, k0_pay10, k0_pay8, sec]

theorem pay1_at (g w u v : Bl) (y : S1x128x512.Idx) :
    k0_pay1 (F := Ideal) (k0_pay9 (F := Ideal) g u) (k0_pay10 (F := Ideal) g v) (k0_pay13 (F := Ideal)) w y = delta (g y) (w y) (u y) (v y) := by
  idx_vars y
  obtain rfl : y0 = 0 := Subsingleton.elim _ _
  pointwise [k0_pay1, k0_pay13, k0_pay10, k0_pay9, k0_pay8, delta, mom, sec]

/-- The reference's gradient, step and moments. -/
abbrev G : Wt := Cert.Reference22Ideal.Read.val_main_v12 (F := Ideal) (A0 m c) (A1 m c) (A2 m c) (A3 m c)
abbrev RD : Wt := Cert.Reference22Ideal.Read.val_main_v36 (F := Ideal) (A0 m c) (A1 m c) (A2 m c) (A3 m c) (A4 m c) (A5 m c) (A6 m c)
abbrev RM : Wt := Cert.Reference22Ideal.Read.val_main_v17 (F := Ideal) (A0 m c) (A1 m c) (A2 m c) (A3 m c) (A5 m c)
abbrev RV : Wt := Cert.Reference22Ideal.Read.val_main_v23 (F := Ideal) (A0 m c) (A1 m c) (A2 m c) (A3 m c) (A6 m c)

/-- Device `k`'s share in a block. -/
abbrev one (r : Rc) (k : ℕ) (h : ∀ a, ![k, 0, 0] a + S1x128x512.size a ≤ S8x128x512.size a) : Sh := fun x => r ((Rect.unit (s := S8x128x512) ![k, 0, 0] S1x128x512.size h).idx x)

/-- The sum of the shares in a block, as the body adds them. -/
abbrev gsum (r : Al) (o : Sh) : Bl :=
  k0_pay6 (F := Ideal) (k0_pay2 (F := Ideal) o (one r 0 inb_S8x128x512_S1x128x512_0_0_0) o (one r 1 inb_S8x128x512_S1x128x512_1_0_0) o (one r 2 inb_S8x128x512_S1x128x512_2_0_0) o (one r 3 inb_S8x128x512_S1x128x512_3_0_0))
    (k0_pay3 (F := Ideal) o) (one r 4 inb_S8x128x512_S1x128x512_4_0_0) o (one r 5 inb_S8x128x512_S1x128x512_5_0_0) o (one r 6 inb_S8x128x512_S1x128x512_6_0_0) o (one r 7 inb_S8x128x512_S1x128x512_7_0_0)

/-- The second layer's sum is written as the first one's. -/
theorem again : @k0_pay7 = @k0_pay6 ∧ @k0_pay4 = @k0_pay2 ∧ @k0_pay5 = @k0_pay3 := ⟨rfl, rfl, rfl⟩

theorem gsum_at (r : Al) (o : Sh) (q : Fin 128) (j : Fin 512) :
    gsum r o (ix3 0 q j) = total (o (ix3 0 q j)) fun d => r (ix3 ⟨1 + d.val, by omega⟩ q j) := by
  refine (pay6_at _ _ _ _ _ _ _ _ _ _ _ _ _ _ _ _ q j).trans (congrArg (total _) (funext fun d => ?_))
  fin_cases d <;> refine congrArg r ?_ <;> blk_ext <;> simp [Rect.unit]

theorem gradA (t : Fin cfg0.N) (h : t.val % 2 = 0) (y : S1x128x512.Idx) : gsum (iblk m c 0 t) (iblk m c 1 t) y = G m c (at_ t y) := by
  idx_vars y
  obtain rfl : y0 = 0 := Subsingleton.elim _ _
  have e : layer t = 0 := Fin.ext (idxA t h).2.2
  refine ((gsum_at _ _ y1 y2).trans ?_).trans ((ref_g0 _ _ _ _ (row t y1) y2).symm.trans (congrArg (fun l => G m c (ix3 l (row t y1) y2)) e.symm))
  exact congrArg₂ total (shareA m c t h 0 y1 y2).2 (funext fun d => (shareA m c t h _ y1 y2).1)

theorem gradB (t : Fin cfg0.N) (h : t.val % 2 = 1) (y : S1x128x512.Idx) : gsum (iblk m c 2 t) (iblk m c 3 t) y = G m c (at_ t y) := by
  idx_vars y
  obtain rfl : y0 = 0 := Subsingleton.elim _ _
  have e : layer t = 1 := Fin.ext (idxB t h).2.2
  refine ((gsum_at _ _ y1 y2).trans ?_).trans ((ref_g1 _ _ _ _ (row t y1) y2).symm.trans (congrArg (fun l => G m c (ix3 l (row t y1) y2)) e.symm))
  exact congrArg₂ total (shareB m c t h 0 y1 y2).2 (funext fun d => (shareB m c t h _ y1 y2).1)

theorem point8 (t : Fin cfg0.N) (y : S1x128x512.Idx) (g : Bl) (hg : g y = G m c (at_ t y)) :
    k0_pay1 (F := Ideal) (k0_pay9 (F := Ideal) g (iblk m c 5 t)) (k0_pay10 (F := Ideal) g (iblk m c 6 t)) (k0_pay13 (F := Ideal)) (iblk m c 4 t) y
      = RD m c (at_ t y) := by
  refine (pay1_at _ _ _ _ y).trans (Eq.trans ?_ (ref_d _ _ _ _ _ _ _ (at_ t y)).symm)
  rw [hg, (in_at m c t y).1, (in_at m c t y).2.1, (in_at m c t y).2.2]

theorem point9 (t : Fin cfg0.N) (y : S1x128x512.Idx) (g : Bl) (hg : g y = G m c (at_ t y)) :
    k0_pay11 (F := Ideal) g (iblk m c 5 t) y = RM m c (at_ t y) := by
  refine (pay11_at _ _ y).trans (Eq.trans ?_ (ref_m _ _ _ _ _ (at_ t y)).symm)
  rw [hg, (in_at m c t y).2.1]

theorem point10 (t : Fin cfg0.N) (y : S1x128x512.Idx) (g : Bl) (hg : g y = G m c (at_ t y)) :
    k0_pay12 (F := Ideal) g (iblk m c 6 t) y = RV m c (at_ t y) := by
  refine (pay12_at _ _ y).trans (Eq.trans ?_ (ref_v _ _ _ _ _ (at_ t y)).symm)
  rw [hg, (in_at m c t y).2.2]

/-- What the body leaves at a point: the gradient's block, and the step taken from it. -/
theorem outs (t : Fin cfg0.N) : ∃ g : Bl, (∀ y, g y = G m c (at_ t y)) ∧ (outsAt0 m c t.val t.isLt).1 = g
    ∧ (outsAt0 m c t.val t.isLt).2.1 = k0_pay1 (F := Ideal) (k0_pay9 (F := Ideal) g (iblk m c 5 t)) (k0_pay10 (F := Ideal) g (iblk m c 6 t)) (k0_pay13 (F := Ideal)) (iblk m c 4 t)
    ∧ (outsAt0 m c t.val t.isLt).2.2.1 = k0_pay11 (F := Ideal) g (iblk m c 5 t) ∧ (outsAt0 m c t.val t.isLt).2.2.2 = k0_pay12 (F := Ideal) g (iblk m c 6 t) := by
  by_cases h : t.val % 2 = 0
  · rw [outsAt0_A m c t h (by omega)]
    refine ⟨gsum (iblk m c 0 t) (iblk m c 1 t), gradA m c t h, ?_, ?_, ?_, ?_⟩ <;> frame_out <;> rfl
  · have h' : t.val % 2 = 1 := by omega
    rw [outsAt0_B m c t h h']
    refine ⟨gsum (iblk m c 2 t) (iblk m c 3 t), gradB m c t h', ?_, ?_, ?_, ?_⟩ <;> frame_out <;> rw [again.1, again.2.1, again.2.2] <;> rfl

theorem final7 : (dats m 0 c).arrAt 7 (cfgs 0).N = G m c := by
  refine (dats m 0 c).arrAt_eq_of_covers 7 _ (by decide +kernel) fun t hf y => ?_
  blk_simp
  obtain ⟨g, hg, e, -⟩ := outs m c t
  rw [after0_7, e]
  exact (hg y).trans (congrArg _ (emb t y).1.symm)

theorem final8 : (dats m 0 c).arrAt 8 (cfgs 0).N = RD m c := by
  refine (dats m 0 c).arrAt_eq_of_covers 8 _ (by decide +kernel) fun t hf y => ?_
  blk_simp
  obtain ⟨g, hg, -, e, -⟩ := outs m c t
  rw [after0_8, e]
  exact (point8 m c t y g (hg y)).trans (congrArg _ (emb t y).2.1.symm)

theorem final9 : (dats m 0 c).arrAt 9 (cfgs 0).N = RM m c := by
  refine (dats m 0 c).arrAt_eq_of_covers 9 _ (by decide +kernel) fun t hf y => ?_
  blk_simp
  obtain ⟨g, hg, -, -, e, -⟩ := outs m c t
  rw [after0_9, e]
  exact (point9 m c t y g (hg y)).trans (congrArg _ (emb t y).2.2.1.symm)

theorem final10 : (dats m 0 c).arrAt 10 (cfgs 0).N = RV m c := by
  refine (dats m 0 c).arrAt_eq_of_covers 10 _ (by decide +kernel) fun t hf y => ?_
  blk_simp
  obtain ⟨g, hg, -, -, -, e⟩ := outs m c t
  rw [after0_10, e]
  exact (point10 m c t y g (hg y)).trans (congrArg _ (emb t y).2.2.2.symm)

end Cert.SumMqValue

end
-- ==== Proof.SumMqClaim.lean ====
module

public import proofs.«01_k».proof.Defs
public import proofs.«01_k».proof.Proof.SumMqValue
public import proofs.«01_k».proof.Proof.Gen.Kernel22.Frame
public import Idealize.ShloMosaic.Lib.Claim

@[expose] public section

/-! The claims about the sum of the shares and the update of the memory attention's query weight (`Kernel22`). -/

namespace Cert.SumMqClaim

open Idealize.ShloMosaic Idealize.SL.Sem Cert.Reference22Ideal.Read

theorem frame_kernel : Cert.quiescent_Kernel22 := fun m ρ _ => Cert.Kernel22.Gen.frame m ρ

theorem frame_ideal : Cert.quiescent_Kernel22Ideal := fun m ρ _ => Cert.Kernel22Ideal.Gen.frame m ρ

theorem frame_reference : Cert.quiescent_Reference22Ideal := fun m ρ _ =>
  (θ_run Cert.Reference22Ideal.defs _ _).mono (fun r h => ⟨fun c => (h c).2.2.2.2, sem_eq_zero_of_no_sems (by decide) r.2⟩)
    (Cert.Reference22Ideal.Value.run m ρ)

theorem algebraic : Cert.algebraic_Kernel22Ideal_Reference22Ideal := by
  intro m g m' g' _ hagree
  refine ⟨_, _, _, _, Cert.Kernel22Ideal.Value.run_blocks m g, (θ_run Cert.Reference22Ideal.defs _ _).mono (fun r h c => ?_)
    (Cert.Reference22Ideal.Value.run m' g')⟩
  obtain ⟨h0, h1, h2, h3, h4, h5, h6⟩ := hagree c
  obtain ⟨r0, r1, r2, r3, rest⟩ := h c
  refine ⟨r0.trans ?_, r1.trans ?_, r2.trans ?_, r3.trans ?_, rest⟩
  · rw [val_main_v12_eq, h0, h1, h2, h3]
    exact (Cert.SumMqValue.final7 m c).symm
  · rw [val_main_v36_eq, h0, h1, h2, h3, h4, h5, h6]
    exact (Cert.SumMqValue.final8 m c).symm
  · rw [val_main_v17_eq, h0, h1, h2, h3, h5]
    exact (Cert.SumMqValue.final9 m c).symm
  · rw [val_main_v23_eq, h0, h1, h2, h3, h6]
    exact (Cert.SumMqValue.final10 m c).symm

end Cert.SumMqClaim
-- ==== Proof.SumDownValue.lean ====
module

public import proofs.«01_k».proof.Proof.Gen.Kernel23Ideal.Value
public import proofs.«01_k».proof.Proof.Gen.Reference23Ideal.Read
public import proofs.«01_k».proof.Proof.Adam
public import proofs.«01_k».proof.Proof.Conv
public import Idealize.ShloMosaic.Lib.Pipeline.ReadBack

@[expose] public section

set_option maxRecDepth 16384

noncomputable section

/-! The arrays that the sum of the devices' shares and the update of the down projection's weight leave. -/

namespace Cert.SumDownValue

open Idealize.ShloMosaic Idealize.ShloMosaic.TcCoe Idealize.SL.Sem Cert.Kernel23Ideal Cert.Kernel23Ideal.Gen Cert.Adam
open Idealize.ShloMosaic.Pipeline (Dat)

abbrev Bl := FVec Ideal S1x176x1024 .f32
abbrev Sh := FVec Ideal S1x176x1024 .bf16
abbrev Al := FVec Ideal S8x352x1024 .bf16
abbrev Wt := FVec Ideal S2x352x1024 .f32
abbrev Rc := FVec Ideal S8x176x1024 .bf16

variable (m : (ℓ : Loc nD τ sig) → Buf (Elt Ideal) ℓ)

theorem idx : ∀ t : Fin cfg0.N, win0_4.index t = ![t.val / 2, t.val % 2, 0] ∧ win0_5.index t = ![t.val / 2, t.val % 2, 0]
    ∧ win0_6.index t = ![t.val / 2, t.val % 2, 0] ∧ win0_7.index t = ![t.val / 2, t.val % 2, 0] ∧ win0_8.index t = ![t.val / 2, t.val % 2, 0]
    ∧ win0_9.index t = ![t.val / 2, t.val % 2, 0] ∧ win0_10.index t = ![t.val / 2, t.val % 2, 0] :=
  (by decide +kernel : ∀ t : Fin grid0.N, _)

/-- While the first layer is summed, its shares move with the point. -/
theorem idxA : ∀ t : Fin cfg0.N, t.val < 2 → win0_0.index t = ![0, t.val % 2, 0] ∧ win0_1.index t = ![0, t.val % 2, 0] ∧ t.val / 2 = 0 :=
  (by decide +kernel : ∀ t : Fin grid0.N, _)

/-- While the second layer is summed, its shares do. -/
theorem idxB : ∀ t : Fin cfg0.N, 2 ≤ t.val → win0_2.index t = ![0, t.val % 2, 0] ∧ win0_3.index t = ![0, t.val % 2, 0] ∧ t.val / 2 = 1 :=
  (by decide +kernel : ∀ t : Fin grid0.N, _)

/-- The array's row that row `r` of block `t` is. -/
def row (t : Fin cfg0.N) (r : Fin 176) : Fin 352 := ⟨t.val % 2 * 176 + r.val, by omega⟩

/-- The layer of block `t`. -/
def layer (t : Fin cfg0.N) : Fin 2 := ⟨t.val / 2, by have := t.isLt; change t.val < 4 at this; omega⟩

/-- Where entry `y` of block `t` lies in the whole array. -/
def at_ (t : Fin cfg0.N) (y : S1x176x1024.Idx) : S2x352x1024.Idx := ix3 (layer t) (row t (y 1)) (y 2)

theorem emb (t : Fin cfg0.N) (y : S1x176x1024.Idx) : ((cfg0.win 7).blk t).view.emb y = at_ t y ∧ ((cfg0.win 8).blk t).view.emb y = at_ t y
    ∧ ((cfg0.win 9).blk t).view.emb y = at_ t y ∧ ((cfg0.win 10).blk t).view.emb y = at_ t y := by
  idx_vars y
  refine ⟨?_, ?_, ?_, ?_⟩ <;> blk_ext [idx t, at_, row, layer]

variable (c : Dev nD)

/-- The arguments of the call, at their types. -/
abbrev A0 : Al := m ((c.tc : Thread nD τ).loc main_arg0)
abbrev A1 : Al := m ((c.tc : Thread nD τ).loc main_arg1)
abbrev A2 : Al := m ((c.tc : Thread nD τ).loc main_arg2)
abbrev A3 : Al := m ((c.tc : Thread nD τ).loc main_arg3)
abbrev A4 : Wt := m ((c.tc : Thread nD τ).loc main_arg4)
abbrev A5 : Wt := m ((c.tc : Thread nD τ).loc main_arg5)
abbrev A6 : Wt := m ((c.tc : Thread nD τ).loc main_arg6)

theorem in_at (t : Fin cfg0.N) (y : S1x176x1024.Idx) : (iblk m c 4 t : Bl) y = A4 m c (at_ t y)
    ∧ (iblk m c 5 t : Bl) y = A5 m c (at_ t y) ∧ (iblk m c 6 t : Bl) y = A6 m c (at_ t y) := by
  idx_vars y
  refine ⟨?_, ?_, ?_⟩ <;> blk_ext [iblk, V, idx t, at_, row, layer]

theorem shareA (t : Fin cfg0.N) (h : t.val < 2) (d : Fin 8) (r : Fin 176) (j : Fin 1024) :
    (iblk m c 0 t : Rc) (ix3 d r j) = A1 m c (ix3 d (row t r) j)
      ∧ (iblk m c 1 t : Sh) (ix3 0 r j) = A0 m c (ix3 0 (row t r) j) := by
  refine ⟨?_, ?_⟩ <;> blk_ext [iblk, V, idxA t h, row]

theorem shareB (t : Fin cfg0.N) (h : 2 ≤ t.val) (d : Fin 8) (r : Fin 176) (j : Fin 1024) :
    (iblk m c 2 t : Rc) (ix3 d r j) = A3 m c (ix3 d (row t r) j)
      ∧ (iblk m c 3 t : Sh) (ix3 0 r j) = A2 m c (ix3 0 (row t r) j) := by
  refine ⟨?_, ?_⟩ <;> blk_ext [iblk, V, idxB t h, row]

theorem pay6_at (o a0 o1 a1 o2 a2 o3 a3 o4 a4 o5 a5 o6 a6 o7 a7 : Sh) (r : Fin 176) (j : Fin 1024) :
    k0_pay6 (F := Ideal) (k0_pay2 (F := Ideal) o a0 o1 a1 o2 a2 o3 a3) (k0_pay3 (F := Ideal) o4) a4 o5 a5 o6 a6 o7 a7 (ix3 0 r j)
      = total (o (ix3 0 r j)) ![a1 (ix3 0 r j), a2 (ix3 0 r j), a3 (ix3 0 r j), a4 (ix3 0 r j), a5 (ix3 0 r j), a6 (ix3 0 r j), a7 (ix3 0 r j)] := by
  pointwise [k0_pay6, k0_pay2, k0_pay3, total]

section
open Cert.Reference23Ideal.Read
variable (x0 x1 x2 x3 : Al)

theorem ref_g0 (r : Fin 352) (j : Fin 1024) :
    val_main_v12 (F := Ideal) x0 x1 x2 x3 (ix3 0 r j) = total (x0 (ix3 0 r j)) fun d => x1 (ix3 ⟨1 + d.val, by omega⟩ r j) := by
  rw [← total_eq]
  pointwise [val_main_v12, val_main_v10, val_main_v4, val_main_v3, val_main_v2, val_main_v1, val_main_v0, val_main_cst]
  rw [Fin.sum_univ_one]

theorem ref_g1 (r : Fin 352) (j : Fin 1024) :
    val_main_v12 (F := Ideal) x0 x1 x2 x3 (ix3 1 r j) = total (x2 (ix3 0 r j)) fun d => x3 (ix3 ⟨1 + d.val, by omega⟩ r j) := by
  rw [← total_eq]
  pointwise [val_main_v12, val_main_v11, val_main_v9, val_main_v8, val_main_v7, val_main_v6, val_main_v5, val_main_cst_0]
  rw [Fin.sum_univ_one]

theorem ref_m (x5 : Wt) (i : S2x352x1024.Idx) :
    val_main_v17 (F := Ideal) x0 x1 x2 x3 x5 i = mom (val_main_v12 (F := Ideal) x0 x1 x2 x3 i) (x5 i) := by
  unfold val_main_v17 val_main_v16
  generalize val_main_v12 (F := Ideal) x0 x1 x2 x3 = g
  idx_vars i
  pointwise [val_main_v15, val_main_v14, val_main_v13, val_main_cst_1, val_main_cst_2, mom]

theorem ref_v (x6 : Wt) (i : S2x352x1024.Idx) :
    val_main_v23 (F := Ideal) x0 x1 x2 x3 x6 i = sec (val_main_v12 (F := Ideal) x0 x1 x2 x3 i) (x6 i) := by
  unfold val_main_v23 val_main_v22 val_main_v20
  generalize val_main_v12 (F := Ideal) x0 x1 x2 x3 = g
  idx_vars i
  pointwise [val_main_v21, val_main_v19, val_main_v18, val_main_cst_3, val_main_cst_4, sec]

theorem ref_d (x4 x5 x6 : Wt) (i : S2x352x1024.Idx) :
    val_main_v36 (F := Ideal) x0 x1 x2 x3 x4 x5 x6 i = delta (val_main_v12 (F := Ideal) x0 x1 x2 x3 i) (x4 i) (x5 i) (x6 i) := by
  unfold delta
  rw [← ref_m, ← ref_v]
  unfold val_main_v36 val_main_v34 val_main_v31 val_main_v30 val_main_v28 val_main_v27 val_main_v25
  generalize val_main_v17 (F := Ideal) x0 x1 x2 x3 x5 = u
  generalize val_main_v23 (F := Ideal) x0 x1 x2 x3 x6 = v
  idx_vars i
  pointwise [val_main_v35, val_main_v33, val_main_v32, val_main_v29, val_main_v26, val_main_v24, val_main_cst_5, val_main_cst_6, val_main_cst_7,
    val_main_cst_8, val_main_cst_9]

end

theorem pay11_at (g v : Bl) (y : S1x176x1024.Idx) : k0_pay11 (F := Ideal) g v y = mom (g y) (v y) := by
  idx_vars y
  obtain rfl : y0 = 0 := Subsingleton.elim _ _
  pointwise [k0_pay11, k0_pay9, k0_pay8, mom]

theorem pay12_at (g v : Bl) (y : S1x176x1024.Idx) : k0_pay12 (F := Ideal) g v y = sec (g y) (v y) := by
  idx_vars y
  obtain rfl : y0 = 0 := Subsingleton.elim _ _
  pointwise [k0_pay12, k0_pay10, k0_pay8, sec]

theorem pay1_at (g w u v : Bl) (y : S1x176x1024.Idx) :
    k0_pay1 (F := Ideal) (k0_pay9 (F := Ideal) g u) (k0_pay10 (F := Ideal) g v) (k0_pay13 (F := Ideal)) w y = delta (g y) (w y) (u y) (v y) := by
  idx_vars y
  obtain rfl : y0 = 0 := Subsingleton.elim _ _
  pointwise [k0_pay1, k0_pay13, k0_pay10, k0_pay9, k0_pay8, delta, mom, sec]

/-- The reference's gradient, step and moments. -/
abbrev G : Wt := Cert.Reference23Ideal.Read.val_main_v12 (F := Ideal) (A0 m c) (A1 m c) (A2 m c) (A3 m c)
abbrev RD : Wt := Cert.Reference23Ideal.Read.val_main_v36 (F := Ideal) (A0 m c) (A1 m c) (A2 m c) (A3 m c) (A4 m c) (A5 m c) (A6 m c)
abbrev RM : Wt := Cert.Reference23Ideal.Read.val_main_v17 (F := Ideal) (A0 m c) (A1 m c) (A2 m c) (A3 m c) (A5 m c)
abbrev RV : Wt := Cert.Reference23Ideal.Read.val_main_v23 (F := Ideal) (A0 m c) (A1 m c) (A2 m c) (A3 m c) (A6 m c)

/-- Device `k`'s share in a block. -/
abbrev one (r : Rc) (k : ℕ) (h : ∀ a, ![k, 0, 0] a + S1x176x1024.size a ≤ S8x176x1024.size a) : Sh := fun x => r ((Rect.unit (s := S8x176x1024) ![k, 0, 0] S1x176x1024.size h).idx x)

/-- The sum of the shares in a block, as the body adds them. -/
abbrev gsum (r : Rc) (o : Sh) : Bl :=
  k0_pay6 (F := Ideal) (k0_pay2 (F := Ideal) o (one r 0 inb_S8x176x1024_S1x176x1024_0_0_0) o (one r 1 inb_S8x176x1024_S1x176x1024_1_0_0) o (one r 2 inb_S8x176x1024_S1x176x1024_2_0_0) o (one r 3 inb_S8x176x1024_S1x176x1024_3_0_0))
    (k0_pay3 (F := Ideal) o) (one r 4 inb_S8x176x1024_S1x176x1024_4_0_0) o (one r 5 inb_S8x176x1024_S1x176x1024_5_0_0) o (one r 6 inb_S8x176x1024_S1x176x1024_6_0_0) o (one r 7 inb_S8x176x1024_S1x176x1024_7_0_0)

/-- The second layer's sum is written as the first one's. -/
theorem again : @k0_pay7 = @k0_pay6 ∧ @k0_pay4 = @k0_pay2 ∧ @k0_pay5 = @k0_pay3 := ⟨rfl, rfl, rfl⟩

theorem gsum_at (r : Rc) (o : Sh) (q : Fin 176) (j : Fin 1024) :
    gsum r o (ix3 0 q j) = total (o (ix3 0 q j)) fun d => r (ix3 ⟨1 + d.val, by omega⟩ q j) := by
  refine (pay6_at _ _ _ _ _ _ _ _ _ _ _ _ _ _ _ _ q j).trans (congrArg (total _) (funext fun d => ?_))
  fin_cases d <;> refine congrArg r ?_ <;> blk_ext <;> simp [Rect.unit]

theorem gradA (t : Fin cfg0.N) (h : t.val < 2) (y : S1x176x1024.Idx) : gsum (iblk m c 0 t) (iblk m c 1 t) y = G m c (at_ t y) := by
  idx_vars y
  obtain rfl : y0 = 0 := Subsingleton.elim _ _
  have e : layer t = 0 := Fin.ext (idxA t h).2.2
  refine ((gsum_at _ _ y1 y2).trans ?_).trans ((ref_g0 _ _ _ _ (row t y1) y2).symm.trans (congrArg (fun l => G m c (ix3 l (row t y1) y2)) e.symm))
  exact congrArg₂ total (shareA m c t h 0 y1 y2).2 (funext fun d => (shareA m c t h _ y1 y2).1)

theorem gradB (t : Fin cfg0.N) (h : 2 ≤ t.val) (y : S1x176x1024.Idx) : gsum (iblk m c 2 t) (iblk m c 3 t) y = G m c (at_ t y) := by
  idx_vars y
  obtain rfl : y0 = 0 := Subsingleton.elim _ _
  have e : layer t = 1 := Fin.ext (idxB t h).2.2
  refine ((gsum_at _ _ y1 y2).trans ?_).trans ((ref_g1 _ _ _ _ (row t y1) y2).symm.trans (congrArg (fun l => G m c (ix3 l (row t y1) y2)) e.symm))
  exact congrArg₂ total (shareB m c t h 0 y1 y2).2 (funext fun d => (shareB m c t h _ y1 y2).1)

theorem point8 (t : Fin cfg0.N) (y : S1x176x1024.Idx) (g : Bl) (hg : g y = G m c (at_ t y)) :
    k0_pay1 (F := Ideal) (k0_pay9 (F := Ideal) g (iblk m c 5 t)) (k0_pay10 (F := Ideal) g (iblk m c 6 t)) (k0_pay13 (F := Ideal)) (iblk m c 4 t) y
      = RD m c (at_ t y) := by
  refine (pay1_at _ _ _ _ y).trans (Eq.trans ?_ (ref_d _ _ _ _ _ _ _ (at_ t y)).symm)
  rw [hg, (in_at m c t y).1, (in_at m c t y).2.1, (in_at m c t y).2.2]

theorem point9 (t : Fin cfg0.N) (y : S1x176x1024.Idx) (g : Bl) (hg : g y = G m c (at_ t y)) :
    k0_pay11 (F := Ideal) g (iblk m c 5 t) y = RM m c (at_ t y) := by
  refine (pay11_at _ _ y).trans (Eq.trans ?_ (ref_m _ _ _ _ _ (at_ t y)).symm)
  rw [hg, (in_at m c t y).2.1]

theorem point10 (t : Fin cfg0.N) (y : S1x176x1024.Idx) (g : Bl) (hg : g y = G m c (at_ t y)) :
    k0_pay12 (F := Ideal) g (iblk m c 6 t) y = RV m c (at_ t y) := by
  refine (pay12_at _ _ y).trans (Eq.trans ?_ (ref_v _ _ _ _ _ (at_ t y)).symm)
  rw [hg, (in_at m c t y).2.2]

/-- What the body leaves at a point: the gradient's block, and the step taken from it. -/
theorem outs (t : Fin cfg0.N) : ∃ g : Bl, (∀ y, g y = G m c (at_ t y)) ∧ (outsAt0 m c t.val t.isLt).1 = g
    ∧ (outsAt0 m c t.val t.isLt).2.1 = k0_pay1 (F := Ideal) (k0_pay9 (F := Ideal) g (iblk m c 5 t)) (k0_pay10 (F := Ideal) g (iblk m c 6 t)) (k0_pay13 (F := Ideal)) (iblk m c 4 t)
    ∧ (outsAt0 m c t.val t.isLt).2.2.1 = k0_pay11 (F := Ideal) g (iblk m c 5 t) ∧ (outsAt0 m c t.val t.isLt).2.2.2 = k0_pay12 (F := Ideal) g (iblk m c 6 t) := by
  by_cases h : t.val < 2
  · rw [outsAt0_A m c t h (by omega)]
    refine ⟨gsum (iblk m c 0 t) (iblk m c 1 t), gradA m c t h, ?_, ?_, ?_, ?_⟩ <;> frame_out <;> rfl
  · have h' : 2 ≤ t.val := by omega
    rw [outsAt0_B m c t h h']
    refine ⟨gsum (iblk m c 2 t) (iblk m c 3 t), gradB m c t h', ?_, ?_, ?_, ?_⟩ <;> frame_out <;> rw [again.1, again.2.1, again.2.2] <;> rfl

theorem final7 : (dats m 0 c).arrAt 7 (cfgs 0).N = G m c := by
  refine (dats m 0 c).arrAt_eq_of_covers 7 _ (by decide +kernel) fun t hf y => ?_
  blk_simp
  obtain ⟨g, hg, e, -⟩ := outs m c t
  rw [after0_7, e]
  exact (hg y).trans (congrArg _ (emb t y).1.symm)

theorem final8 : (dats m 0 c).arrAt 8 (cfgs 0).N = RD m c := by
  refine (dats m 0 c).arrAt_eq_of_covers 8 _ (by decide +kernel) fun t hf y => ?_
  blk_simp
  obtain ⟨g, hg, -, e, -⟩ := outs m c t
  rw [after0_8, e]
  exact (point8 m c t y g (hg y)).trans (congrArg _ (emb t y).2.1.symm)

theorem final9 : (dats m 0 c).arrAt 9 (cfgs 0).N = RM m c := by
  refine (dats m 0 c).arrAt_eq_of_covers 9 _ (by decide +kernel) fun t hf y => ?_
  blk_simp
  obtain ⟨g, hg, -, -, e, -⟩ := outs m c t
  rw [after0_9, e]
  exact (point9 m c t y g (hg y)).trans (congrArg _ (emb t y).2.2.1.symm)

theorem final10 : (dats m 0 c).arrAt 10 (cfgs 0).N = RV m c := by
  refine (dats m 0 c).arrAt_eq_of_covers 10 _ (by decide +kernel) fun t hf y => ?_
  blk_simp
  obtain ⟨g, hg, -, -, -, e⟩ := outs m c t
  rw [after0_10, e]
  exact (point10 m c t y g (hg y)).trans (congrArg _ (emb t y).2.2.2.symm)

end Cert.SumDownValue

end
-- ==== Proof.SumDownClaim.lean ====
module

public import proofs.«01_k».proof.Defs
public import proofs.«01_k».proof.Proof.SumDownValue
public import proofs.«01_k».proof.Proof.Gen.Kernel23.Frame
public import Idealize.ShloMosaic.Lib.Claim

@[expose] public section

/-! The claims about the sum of the shares and the update of the down projection's weight (`Kernel23`). -/

namespace Cert.SumDownClaim

open Idealize.ShloMosaic Idealize.SL.Sem Cert.Reference23Ideal.Read

theorem frame_kernel : Cert.quiescent_Kernel23 := fun m ρ _ => Cert.Kernel23.Gen.frame m ρ

theorem frame_ideal : Cert.quiescent_Kernel23Ideal := fun m ρ _ => Cert.Kernel23Ideal.Gen.frame m ρ

theorem frame_reference : Cert.quiescent_Reference23Ideal := fun m ρ _ =>
  (θ_run Cert.Reference23Ideal.defs _ _).mono (fun r h => ⟨fun c => (h c).2.2.2.2, sem_eq_zero_of_no_sems (by decide) r.2⟩)
    (Cert.Reference23Ideal.Value.run m ρ)

theorem algebraic : Cert.algebraic_Kernel23Ideal_Reference23Ideal := by
  intro m g m' g' _ hagree
  refine ⟨_, _, _, _, Cert.Kernel23Ideal.Value.run_blocks m g, (θ_run Cert.Reference23Ideal.defs _ _).mono (fun r h c => ?_)
    (Cert.Reference23Ideal.Value.run m' g')⟩
  obtain ⟨h0, h1, h2, h3, h4, h5, h6⟩ := hagree c
  obtain ⟨r0, r1, r2, r3, rest⟩ := h c
  refine ⟨r0.trans ?_, r1.trans ?_, r2.trans ?_, r3.trans ?_, rest⟩
  · rw [val_main_v12_eq, h0, h1, h2, h3]
    exact (Cert.SumDownValue.final7 m c).symm
  · rw [val_main_v36_eq, h0, h1, h2, h3, h4, h5, h6]
    exact (Cert.SumDownValue.final8 m c).symm
  · rw [val_main_v17_eq, h0, h1, h2, h3, h5]
    exact (Cert.SumDownValue.final9 m c).symm
  · rw [val_main_v23_eq, h0, h1, h2, h3, h6]
    exact (Cert.SumDownValue.final10 m c).symm

end Cert.SumDownClaim
-- ==== Proof.SumUpValue.lean ====
module

public import proofs.«01_k».proof.Proof.Gen.Kernel24Ideal.Value
public import proofs.«01_k».proof.Proof.Gen.Reference24Ideal.Read
public import proofs.«01_k».proof.Proof.Adam
public import proofs.«01_k».proof.Proof.Conv
public import Idealize.ShloMosaic.Lib.Pipeline.ReadBack

@[expose] public section

set_option maxRecDepth 16384

noncomputable section

/-! The arrays that the sum of the devices' shares and the update of the up projection's weight leave. -/

namespace Cert.SumUpValue

open Idealize.ShloMosaic Idealize.ShloMosaic.TcCoe Idealize.SL.Sem Cert.Kernel24Ideal Cert.Kernel24Ideal.Gen Cert.Adam
open Idealize.ShloMosaic.Pipeline (Dat)

abbrev Bl := FVec Ideal S1x176x1024 .f32
abbrev Sh := FVec Ideal S1x176x1024 .bf16
abbrev Al := FVec Ideal S8x704x1024 .bf16
abbrev Wt := FVec Ideal S2x704x1024 .f32
abbrev Rc := FVec Ideal S8x176x1024 .bf16

variable (m : (ℓ : Loc nD τ sig) → Buf (Elt Ideal) ℓ)

theorem idx : ∀ t : Fin cfg0.N, win0_4.index t = ![t.val / 4, t.val % 4, 0] ∧ win0_5.index t = ![t.val / 4, t.val % 4, 0]
    ∧ win0_6.index t = ![t.val / 4, t.val % 4, 0] ∧ win0_7.index t = ![t.val / 4, t.val % 4, 0] ∧ win0_8.index t = ![t.val / 4, t.val % 4, 0]
    ∧ win0_9.index t = ![t.val / 4, t.val % 4, 0] ∧ win0_10.index t = ![t.val / 4, t.val % 4, 0] :=
  (by decide +kernel : ∀ t : Fin grid0.N, _)

/-- While the first layer is summed, its shares move with the point. -/
theorem idxA : ∀ t : Fin cfg0.N, t.val < 4 → win0_0.index t = ![0, t.val % 4, 0] ∧ win0_1.index t = ![0, t.val % 4, 0] ∧ t.val / 4 = 0 :=
  (by decide +kernel : ∀ t : Fin grid0.N, _)

/-- While the second layer is summed, its shares do. -/
theorem idxB : ∀ t : Fin cfg0.N, 4 ≤ t.val → win0_2.index t = ![0, t.val % 4, 0] ∧ win0_3.index t = ![0, t.val % 4, 0] ∧ t.val / 4 = 1 :=
  (by decide +kernel : ∀ t : Fin grid0.N, _)

/-- The array's row that row `r` of block `t` is. -/
def row (t : Fin cfg0.N) (r : Fin 176) : Fin 704 := ⟨t.val % 4 * 176 + r.val, by omega⟩

/-- The layer of block `t`. -/
def layer (t : Fin cfg0.N) : Fin 2 := ⟨t.val / 4, by have := t.isLt; change t.val < 8 at this; omega⟩

/-- Where entry `y` of block `t` lies in the whole array. -/
def at_ (t : Fin cfg0.N) (y : S1x176x1024.Idx) : S2x704x1024.Idx := ix3 (layer t) (row t (y 1)) (y 2)

theorem emb (t : Fin cfg0.N) (y : S1x176x1024.Idx) : ((cfg0.win 7).blk t).view.emb y = at_ t y ∧ ((cfg0.win 8).blk t).view.emb y = at_ t y
    ∧ ((cfg0.win 9).blk t).view.emb y = at_ t y ∧ ((cfg0.win 10).blk t).view.emb y = at_ t y := by
  idx_vars y
  refine ⟨?_, ?_, ?_, ?_⟩ <;> blk_ext [idx t, at_, row, layer]

variable (c : Dev nD)

/-- The arguments of the call, at their types. -/
abbrev A0 : Al := m ((c.tc : Thread nD τ).loc main_arg0)
abbrev A1 : Al := m ((c.tc : Thread nD τ).loc main_arg1)
abbrev A2 : Al := m ((c.tc : Thread nD τ).loc main_arg2)
abbrev A3 : Al := m ((c.tc : Thread nD τ).loc main_arg3)
abbrev A4 : Wt := m ((c.tc : Thread nD τ).loc main_arg4)
abbrev A5 : Wt := m ((c.tc : Thread nD τ).loc main_arg5)
abbrev A6 : Wt := m ((c.tc : Thread nD τ).loc main_arg6)

theorem in_at (t : Fin cfg0.N) (y : S1x176x1024.Idx) : (iblk m c 4 t : Bl) y = A4 m c (at_ t y)
    ∧ (iblk m c 5 t : Bl) y = A5 m c (at_ t y) ∧ (iblk m c 6 t : Bl) y = A6 m c (at_ t y) := by
  idx_vars y
  refine ⟨?_, ?_, ?_⟩ <;> blk_ext [iblk, V, idx t, at_, row, layer]

theorem shareA (t : Fin cfg0.N) (h : t.val < 4) (d : Fin 8) (r : Fin 176) (j : Fin 1024) :
    (iblk m c 0 t : Rc) (ix3 d r j) = A1 m c (ix3 d (row t r) j)
      ∧ (iblk m c 1 t : Sh) (ix3 0 r j) = A0 m c (ix3 0 (row t r) j) := by
  refine ⟨?_, ?_⟩ <;> blk_ext [iblk, V, idxA t h, row]

theorem shareB (t : Fin cfg0.N) (h : 4 ≤ t.val) (d : Fin 8) (r : Fin 176) (j : Fin 1024) :
    (iblk m c 2 t : Rc) (ix3 d r j) = A3 m c (ix3 d (row t r) j)
      ∧ (iblk m c 3 t : Sh) (ix3 0 r j) = A2 m c (ix3 0 (row t r) j) := by
  refine ⟨?_, ?_⟩ <;> blk_ext [iblk, V, idxB t h, row]

theorem pay6_at (o a0 o1 a1 o2 a2 o3 a3 o4 a4 o5 a5 o6 a6 o7 a7 : Sh) (r : Fin 176) (j : Fin 1024) :
    k0_pay6 (F := Ideal) (k0_pay2 (F := Ideal) o a0 o1 a1 o2 a2 o3 a3) (k0_pay3 (F := Ideal) o4) a4 o5 a5 o6 a6 o7 a7 (ix3 0 r j)
      = total (o (ix3 0 r j)) ![a1 (ix3 0 r j), a2 (ix3 0 r j), a3 (ix3 0 r j), a4 (ix3 0 r j), a5 (ix3 0 r j), a6 (ix3 0 r j), a7 (ix3 0 r j)] := by
  pointwise [k0_pay6, k0_pay2, k0_pay3, total]

section
open Cert.Reference24Ideal.Read
variable (x0 x1 x2 x3 : Al)

theorem ref_g0 (r : Fin 704) (j : Fin 1024) :
    val_main_v12 (F := Ideal) x0 x1 x2 x3 (ix3 0 r j) = total (x0 (ix3 0 r j)) fun d => x1 (ix3 ⟨1 + d.val, by omega⟩ r j) := by
  rw [← total_eq]
  pointwise [val_main_v12, val_main_v10, val_main_v4, val_main_v3, val_main_v2, val_main_v1, val_main_v0, val_main_cst]
  rw [Fin.sum_univ_one]

theorem ref_g1 (r : Fin 704) (j : Fin 1024) :
    val_main_v12 (F := Ideal) x0 x1 x2 x3 (ix3 1 r j) = total (x2 (ix3 0 r j)) fun d => x3 (ix3 ⟨1 + d.val, by omega⟩ r j) := by
  rw [← total_eq]
  pointwise [val_main_v12, val_main_v11, val_main_v9, val_main_v8, val_main_v7, val_main_v6, val_main_v5, val_main_cst_0]
  rw [Fin.sum_univ_one]

theorem ref_m (x5 : Wt) (i : S2x704x1024.Idx) :
    val_main_v17 (F := Ideal) x0 x1 x2 x3 x5 i = mom (val_main_v12 (F := Ideal) x0 x1 x2 x3 i) (x5 i) := by
  unfold val_main_v17 val_main_v16
  generalize val_main_v12 (F := Ideal) x0 x1 x2 x3 = g
  idx_vars i
  pointwise [val_main_v15, val_main_v14, val_main_v13, val_main_cst_1, val_main_cst_2, mom]

theorem ref_v (x6 : Wt) (i : S2x704x1024.Idx) :
    val_main_v23 (F := Ideal) x0 x1 x2 x3 x6 i = sec (val_main_v12 (F := Ideal) x0 x1 x2 x3 i) (x6 i) := by
  unfold val_main_v23 val_main_v22 val_main_v20
  generalize val_main_v12 (F := Ideal) x0 x1 x2 x3 = g
  idx_vars i
  pointwise [val_main_v21, val_main_v19, val_main_v18, val_main_cst_3, val_main_cst_4, sec]

theorem ref_d (x4 x5 x6 : Wt) (i : S2x704x1024.Idx) :
    val_main_v36 (F := Ideal) x0 x1 x2 x3 x4 x5 x6 i = delta (val_main_v12 (F := Ideal) x0 x1 x2 x3 i) (x4 i) (x5 i) (x6 i) := by
  unfold delta
  rw [← ref_m, ← ref_v]
  unfold val_main_v36 val_main_v34 val_main_v31 val_main_v30 val_main_v28 val_main_v27 val_main_v25
  generalize val_main_v17 (F := Ideal) x0 x1 x2 x3 x5 = u
  generalize val_main_v23 (F := Ideal) x0 x1 x2 x3 x6 = v
  idx_vars i
  pointwise [val_main_v35, val_main_v33, val_main_v32, val_main_v29, val_main_v26, val_main_v24, val_main_cst_5, val_main_cst_6, val_main_cst_7,
    val_main_cst_8, val_main_cst_9]

end

theorem pay11_at (g v : Bl) (y : S1x176x1024.Idx) : k0_pay11 (F := Ideal) g v y = mom (g y) (v y) := by
  idx_vars y
  obtain rfl : y0 = 0 := Subsingleton.elim _ _
  pointwise [k0_pay11, k0_pay9, k0_pay8, mom]

theorem pay12_at (g v : Bl) (y : S1x176x1024.Idx) : k0_pay12 (F := Ideal) g v y = sec (g y) (v y) := by
  idx_vars y
  obtain rfl : y0 = 0 := Subsingleton.elim _ _
  pointwise [k0_pay12, k0_pay10, k0_pay8, sec]

theorem pay1_at (g w u v : Bl) (y : S1x176x1024.Idx) :
    k0_pay1 (F := Ideal) (k0_pay9 (F := Ideal) g u) (k0_pay10 (F := Ideal) g v) (k0_pay13 (F := Ideal)) w y = delta (g y) (w y) (u y) (v y) := by
  idx_vars y
  obtain rfl : y0 = 0 := Subsingleton.elim _ _
  pointwise [k0_pay1, k0_pay13, k0_pay10, k0_pay9, k0_pay8, delta, mom, sec]

/-- The reference's gradient, step and moments. -/
abbrev G : Wt := Cert.Reference24Ideal.Read.val_main_v12 (F := Ideal) (A0 m c) (A1 m c) (A2 m c) (A3 m c)
abbrev RD : Wt := Cert.Reference24Ideal.Read.val_main_v36 (F := Ideal) (A0 m c) (A1 m c) (A2 m c) (A3 m c) (A4 m c) (A5 m c) (A6 m c)
abbrev RM : Wt := Cert.Reference24Ideal.Read.val_main_v17 (F := Ideal) (A0 m c) (A1 m c) (A2 m c) (A3 m c) (A5 m c)
abbrev RV : Wt := Cert.Reference24Ideal.Read.val_main_v23 (F := Ideal) (A0 m c) (A1 m c) (A2 m c) (A3 m c) (A6 m c)

/-- Device `k`'s share in a block. -/
abbrev one (r : Rc) (k : ℕ) (h : ∀ a, ![k, 0, 0] a + S1x176x1024.size a ≤ S8x176x1024.size a) : Sh := fun x => r ((Rect.unit (s := S8x176x1024) ![k, 0, 0] S1x176x1024.size h).idx x)

/-- The sum of the shares in a block, as the body adds them. -/
abbrev gsum (r : Rc) (o : Sh) : Bl :=
  k0_pay6 (F := Ideal) (k0_pay2 (F := Ideal) o (one r 0 inb_S8x176x1024_S1x176x1024_0_0_0) o (one r 1 inb_S8x176x1024_S1x176x1024_1_0_0) o (one r 2 inb_S8x176x1024_S1x176x1024_2_0_0) o (one r 3 inb_S8x176x1024_S1x176x1024_3_0_0))
    (k0_pay3 (F := Ideal) o) (one r 4 inb_S8x176x1024_S1x176x1024_4_0_0) o (one r 5 inb_S8x176x1024_S1x176x1024_5_0_0) o (one r 6 inb_S8x176x1024_S1x176x1024_6_0_0) o (one r 7 inb_S8x176x1024_S1x176x1024_7_0_0)

/-- The second layer's sum is written as the first one's. -/
theorem again : @k0_pay7 = @k0_pay6 ∧ @k0_pay4 = @k0_pay2 ∧ @k0_pay5 = @k0_pay3 := ⟨rfl, rfl, rfl⟩

theorem gsum_at (r : Rc) (o : Sh) (q : Fin 176) (j : Fin 1024) :
    gsum r o (ix3 0 q j) = total (o (ix3 0 q j)) fun d => r (ix3 ⟨1 + d.val, by omega⟩ q j) := by
  refine (pay6_at _ _ _ _ _ _ _ _ _ _ _ _ _ _ _ _ q j).trans (congrArg (total _) (funext fun d => ?_))
  fin_cases d <;> refine congrArg r ?_ <;> blk_ext <;> simp [Rect.unit]

theorem gradA (t : Fin cfg0.N) (h : t.val < 4) (y : S1x176x1024.Idx) : gsum (iblk m c 0 t) (iblk m c 1 t) y = G m c (at_ t y) := by
  idx_vars y
  obtain rfl : y0 = 0 := Subsingleton.elim _ _
  have e : layer t = 0 := Fin.ext (idxA t h).2.2
  refine ((gsum_at _ _ y1 y2).trans ?_).trans ((ref_g0 _ _ _ _ (row t y1) y2).symm.trans (congrArg (fun l => G m c (ix3 l (row t y1) y2)) e.symm))
  exact congrArg₂ total (shareA m c t h 0 y1 y2).2 (funext fun d => (shareA m c t h _ y1 y2).1)

theorem gradB (t : Fin cfg0.N) (h : 4 ≤ t.val) (y : S1x176x1024.Idx) : gsum (iblk m c 2 t) (iblk m c 3 t) y = G m c (at_ t y) := by
  idx_vars y
  obtain rfl : y0 = 0 := Subsingleton.elim _ _
  have e : layer t = 1 := Fin.ext (idxB t h).2.2
  refine ((gsum_at _ _ y1 y2).trans ?_).trans ((ref_g1 _ _ _ _ (row t y1) y2).symm.trans (congrArg (fun l => G m c (ix3 l (row t y1) y2)) e.symm))
  exact congrArg₂ total (shareB m c t h 0 y1 y2).2 (funext fun d => (shareB m c t h _ y1 y2).1)

theorem point8 (t : Fin cfg0.N) (y : S1x176x1024.Idx) (g : Bl) (hg : g y = G m c (at_ t y)) :
    k0_pay1 (F := Ideal) (k0_pay9 (F := Ideal) g (iblk m c 5 t)) (k0_pay10 (F := Ideal) g (iblk m c 6 t)) (k0_pay13 (F := Ideal)) (iblk m c 4 t) y
      = RD m c (at_ t y) := by
  refine (pay1_at _ _ _ _ y).trans (Eq.trans ?_ (ref_d _ _ _ _ _ _ _ (at_ t y)).symm)
  rw [hg, (in_at m c t y).1, (in_at m c t y).2.1, (in_at m c t y).2.2]

theorem point9 (t : Fin cfg0.N) (y : S1x176x1024.Idx) (g : Bl) (hg : g y = G m c (at_ t y)) :
    k0_pay11 (F := Ideal) g (iblk m c 5 t) y = RM m c (at_ t y) := by
  refine (pay11_at _ _ y).trans (Eq.trans ?_ (ref_m _ _ _ _ _ (at_ t y)).symm)
  rw [hg, (in_at m c t y).2.1]

theorem point10 (t : Fin cfg0.N) (y : S1x176x1024.Idx) (g : Bl) (hg : g y = G m c (at_ t y)) :
    k0_pay12 (F := Ideal) g (iblk m c 6 t) y = RV m c (at_ t y) := by
  refine (pay12_at _ _ y).trans (Eq.trans ?_ (ref_v _ _ _ _ _ (at_ t y)).symm)
  rw [hg, (in_at m c t y).2.2]

/-- What the body leaves at a point: the gradient's block, and the step taken from it. -/
theorem outs (t : Fin cfg0.N) : ∃ g : Bl, (∀ y, g y = G m c (at_ t y)) ∧ (outsAt0 m c t.val t.isLt).1 = g
    ∧ (outsAt0 m c t.val t.isLt).2.1 = k0_pay1 (F := Ideal) (k0_pay9 (F := Ideal) g (iblk m c 5 t)) (k0_pay10 (F := Ideal) g (iblk m c 6 t)) (k0_pay13 (F := Ideal)) (iblk m c 4 t)
    ∧ (outsAt0 m c t.val t.isLt).2.2.1 = k0_pay11 (F := Ideal) g (iblk m c 5 t) ∧ (outsAt0 m c t.val t.isLt).2.2.2 = k0_pay12 (F := Ideal) g (iblk m c 6 t) := by
  by_cases h : t.val < 4
  · rw [outsAt0_A m c t h (by omega)]
    refine ⟨gsum (iblk m c 0 t) (iblk m c 1 t), gradA m c t h, ?_, ?_, ?_, ?_⟩ <;> frame_out <;> rfl
  · have h' : 4 ≤ t.val := by omega
    rw [outsAt0_B m c t h h']
    refine ⟨gsum (iblk m c 2 t) (iblk m c 3 t), gradB m c t h', ?_, ?_, ?_, ?_⟩ <;> frame_out <;> rw [again.1, again.2.1, again.2.2] <;> rfl

theorem final7 : (dats m 0 c).arrAt 7 (cfgs 0).N = G m c := by
  refine (dats m 0 c).arrAt_eq_of_covers 7 _ (by decide +kernel) fun t hf y => ?_
  blk_simp
  obtain ⟨g, hg, e, -⟩ := outs m c t
  rw [after0_7, e]
  exact (hg y).trans (congrArg _ (emb t y).1.symm)

theorem final8 : (dats m 0 c).arrAt 8 (cfgs 0).N = RD m c := by
  refine (dats m 0 c).arrAt_eq_of_covers 8 _ (by decide +kernel) fun t hf y => ?_
  blk_simp
  obtain ⟨g, hg, -, e, -⟩ := outs m c t
  rw [after0_8, e]
  exact (point8 m c t y g (hg y)).trans (congrArg _ (emb t y).2.1.symm)

theorem final9 : (dats m 0 c).arrAt 9 (cfgs 0).N = RM m c := by
  refine (dats m 0 c).arrAt_eq_of_covers 9 _ (by decide +kernel) fun t hf y => ?_
  blk_simp
  obtain ⟨g, hg, -, -, e, -⟩ := outs m c t
  rw [after0_9, e]
  exact (point9 m c t y g (hg y)).trans (congrArg _ (emb t y).2.2.1.symm)

theorem final10 : (dats m 0 c).arrAt 10 (cfgs 0).N = RV m c := by
  refine (dats m 0 c).arrAt_eq_of_covers 10 _ (by decide +kernel) fun t hf y => ?_
  blk_simp
  obtain ⟨g, hg, -, -, -, e⟩ := outs m c t
  rw [after0_10, e]
  exact (point10 m c t y g (hg y)).trans (congrArg _ (emb t y).2.2.2.symm)

end Cert.SumUpValue

end
-- ==== Proof.SumUpClaim.lean ====
module

public import proofs.«01_k».proof.Defs
public import proofs.«01_k».proof.Proof.SumUpValue
public import proofs.«01_k».proof.Proof.Gen.Kernel24.Frame
public import Idealize.ShloMosaic.Lib.Claim

@[expose] public section

/-! The claims about the sum of the shares and the update of the up projection's weight (`Kernel24`). -/

namespace Cert.SumUpClaim

open Idealize.ShloMosaic Idealize.SL.Sem Cert.Reference24Ideal.Read

theorem frame_kernel : Cert.quiescent_Kernel24 := fun m ρ _ => Cert.Kernel24.Gen.frame m ρ

theorem frame_ideal : Cert.quiescent_Kernel24Ideal := fun m ρ _ => Cert.Kernel24Ideal.Gen.frame m ρ

theorem frame_reference : Cert.quiescent_Reference24Ideal := fun m ρ _ =>
  (θ_run Cert.Reference24Ideal.defs _ _).mono (fun r h => ⟨fun c => (h c).2.2.2.2, sem_eq_zero_of_no_sems (by decide) r.2⟩)
    (Cert.Reference24Ideal.Value.run m ρ)

theorem algebraic : Cert.algebraic_Kernel24Ideal_Reference24Ideal := by
  intro m g m' g' _ hagree
  refine ⟨_, _, _, _, Cert.Kernel24Ideal.Value.run_blocks m g, (θ_run Cert.Reference24Ideal.defs _ _).mono (fun r h c => ?_)
    (Cert.Reference24Ideal.Value.run m' g')⟩
  obtain ⟨h0, h1, h2, h3, h4, h5, h6⟩ := hagree c
  obtain ⟨r0, r1, r2, r3, rest⟩ := h c
  refine ⟨r0.trans ?_, r1.trans ?_, r2.trans ?_, r3.trans ?_, rest⟩
  · rw [val_main_v12_eq, h0, h1, h2, h3]
    exact (Cert.SumUpValue.final7 m c).symm
  · rw [val_main_v36_eq, h0, h1, h2, h3, h4, h5, h6]
    exact (Cert.SumUpValue.final8 m c).symm
  · rw [val_main_v17_eq, h0, h1, h2, h3, h5]
    exact (Cert.SumUpValue.final9 m c).symm
  · rw [val_main_v23_eq, h0, h1, h2, h3, h6]
    exact (Cert.SumUpValue.final10 m c).symm

end Cert.SumUpClaim
-- ==== Proof.SumInValue.lean ====
module

public import proofs.«01_k».proof.Proof.Gen.Kernel25Ideal.Value
public import proofs.«01_k».proof.Proof.Gen.Reference25Ideal.Read
public import proofs.«01_k».proof.Proof.Adam
public import proofs.«01_k».proof.Proof.Conv
public import Idealize.ShloMosaic.Lib.Pipeline.ReadBack

@[expose] public section

set_option maxRecDepth 16384

noncomputable section

/-! The arrays that the sum of the devices' shares and the update of the input projection's weight leave. -/

namespace Cert.SumInValue

open Idealize.ShloMosaic Idealize.ShloMosaic.TcCoe Idealize.SL.Sem Cert.Kernel25Ideal Cert.Kernel25Ideal.Gen Cert.Adam
open Idealize.ShloMosaic.Pipeline (Dat)

abbrev Bl := FVec Ideal S1x144x1024 .f32
abbrev Sh := FVec Ideal S1x144x1024 .bf16
abbrev Al := FVec Ideal S8x864x1024 .bf16
abbrev Wt := FVec Ideal S2x864x1024 .f32
abbrev Rc := FVec Ideal S8x144x1024 .bf16

variable (m : (ℓ : Loc nD τ sig) → Buf (Elt Ideal) ℓ)

theorem idx : ∀ t : Fin cfg0.N, win0_4.index t = ![t.val / 6, t.val % 6, 0] ∧ win0_5.index t = ![t.val / 6, t.val % 6, 0]
    ∧ win0_6.index t = ![t.val / 6, t.val % 6, 0] ∧ win0_7.index t = ![t.val / 6, t.val % 6, 0] ∧ win0_8.index t = ![t.val / 6, t.val % 6, 0]
    ∧ win0_9.index t = ![t.val / 6, t.val % 6, 0] ∧ win0_10.index t = ![t.val / 6, t.val % 6, 0] :=
  (by decide +kernel : ∀ t : Fin grid0.N, _)

/-- While the first layer is summed, its shares move with the point. -/
theorem idxA : ∀ t : Fin cfg0.N, t.val < 6 → win0_0.index t = ![0, t.val % 6, 0] ∧ win0_1.index t = ![0, t.val % 6, 0] ∧ t.val / 6 = 0 :=
  (by decide +kernel : ∀ t : Fin grid0.N, _)

/-- While the second layer is summed, its shares do. -/
theorem idxB : ∀ t : Fin cfg0.N, 6 ≤ t.val → win0_2.index t = ![0, t.val % 6, 0] ∧ win0_3.index t = ![0, t.val % 6, 0] ∧ t.val / 6 = 1 :=
  (by decide +kernel : ∀ t : Fin grid0.N, _)

/-- The array's row that row `r` of block `t` is. -/
def row (t : Fin cfg0.N) (r : Fin 144) : Fin 864 := ⟨t.val % 6 * 144 + r.val, by omega⟩

/-- The layer of block `t`. -/
def layer (t : Fin cfg0.N) : Fin 2 := ⟨t.val / 6, by have := t.isLt; change t.val < 12 at this; omega⟩

/-- Where entry `y` of block `t` lies in the whole array. -/
def at_ (t : Fin cfg0.N) (y : S1x144x1024.Idx) : S2x864x1024.Idx := ix3 (layer t) (row t (y 1)) (y 2)

theorem emb (t : Fin cfg0.N) (y : S1x144x1024.Idx) : ((cfg0.win 7).blk t).view.emb y = at_ t y ∧ ((cfg0.win 8).blk t).view.emb y = at_ t y
    ∧ ((cfg0.win 9).blk t).view.emb y = at_ t y ∧ ((cfg0.win 10).blk t).view.emb y = at_ t y := by
  idx_vars y
  refine ⟨?_, ?_, ?_, ?_⟩ <;> blk_ext [idx t, at_, row, layer]

variable (c : Dev nD)

/-- The arguments of the call, at their types. -/
abbrev A0 : Al := m ((c.tc : Thread nD τ).loc main_arg0)
abbrev A1 : Al := m ((c.tc : Thread nD τ).loc main_arg1)
abbrev A2 : Al := m ((c.tc : Thread nD τ).loc main_arg2)
abbrev A3 : Al := m ((c.tc : Thread nD τ).loc main_arg3)
abbrev A4 : Wt := m ((c.tc : Thread nD τ).loc main_arg4)
abbrev A5 : Wt := m ((c.tc : Thread nD τ).loc main_arg5)
abbrev A6 : Wt := m ((c.tc : Thread nD τ).loc main_arg6)

theorem in_at (t : Fin cfg0.N) (y : S1x144x1024.Idx) : (iblk m c 4 t : Bl) y = A4 m c (at_ t y)
    ∧ (iblk m c 5 t : Bl) y = A5 m c (at_ t y) ∧ (iblk m c 6 t : Bl) y = A6 m c (at_ t y) := by
  idx_vars y
  refine ⟨?_, ?_, ?_⟩ <;> blk_ext [iblk, V, idx t, at_, row, layer]

theorem shareA (t : Fin cfg0.N) (h : t.val < 6) (d : Fin 8) (r : Fin 144) (j : Fin 1024) :
    (iblk m c 0 t : Rc) (ix3 d r j) = A1 m c (ix3 d (row t r) j)
      ∧ (iblk m c 1 t : Sh) (ix3 0 r j) = A0 m c (ix3 0 (row t r) j) := by
  refine ⟨?_, ?_⟩ <;> blk_ext [iblk, V, idxA t h, row]

theorem shareB (t : Fin cfg0.N) (h : 6 ≤ t.val) (d : Fin 8) (r : Fin 144) (j : Fin 1024) :
    (iblk m c 2 t : Rc) (ix3 d r j) = A3 m c (ix3 d (row t r) j)
      ∧ (iblk m c 3 t : Sh) (ix3 0 r j) = A2 m c (ix3 0 (row t r) j) := by
  refine ⟨?_, ?_⟩ <;> blk_ext [iblk, V, idxB t h, row]

theorem pay6_at (o a0 o1 a1 o2 a2 o3 a3 o4 a4 o5 a5 o6 a6 o7 a7 : Sh) (r : Fin 144) (j : Fin 1024) :
    k0_pay6 (F := Ideal) (k0_pay2 (F := Ideal) o a0 o1 a1 o2 a2 o3 a3) (k0_pay3 (F := Ideal) o4) a4 o5 a5 o6 a6 o7 a7 (ix3 0 r j)
      = total (o (ix3 0 r j)) ![a1 (ix3 0 r j), a2 (ix3 0 r j), a3 (ix3 0 r j), a4 (ix3 0 r j), a5 (ix3 0 r j), a6 (ix3 0 r j), a7 (ix3 0 r j)] := by
  pointwise [k0_pay6, k0_pay2, k0_pay3, total]

section
open Cert.Reference25Ideal.Read
variable (x0 x1 x2 x3 : Al)

theorem ref_g0 (r : Fin 864) (j : Fin 1024) :
    val_main_v12 (F := Ideal) x0 x1 x2 x3 (ix3 0 r j) = total (x0 (ix3 0 r j)) fun d => x1 (ix3 ⟨1 + d.val, by omega⟩ r j) := by
  rw [← total_eq]
  pointwise [val_main_v12, val_main_v10, val_main_v4, val_main_v3, val_main_v2, val_main_v1, val_main_v0, val_main_cst]
  rw [Fin.sum_univ_one]

theorem ref_g1 (r : Fin 864) (j : Fin 1024) :
    val_main_v12 (F := Ideal) x0 x1 x2 x3 (ix3 1 r j) = total (x2 (ix3 0 r j)) fun d => x3 (ix3 ⟨1 + d.val, by omega⟩ r j) := by
  rw [← total_eq]
  pointwise [val_main_v12, val_main_v11, val_main_v9, val_main_v8, val_main_v7, val_main_v6, val_main_v5, val_main_cst_0]
  rw [Fin.sum_univ_one]

theorem ref_m (x5 : Wt) (i : S2x864x1024.Idx) :
    val_main_v17 (F := Ideal) x0 x1 x2 x3 x5 i = mom (val_main_v12 (F := Ideal) x0 x1 x2 x3 i) (x5 i) := by
  unfold val_main_v17 val_main_v16
  generalize val_main_v12 (F := Ideal) x0 x1 x2 x3 = g
  idx_vars i
  pointwise [val_main_v15, val_main_v14, val_main_v13, val_main_cst_1, val_main_cst_2, mom]

theorem ref_v (x6 : Wt) (i : S2x864x1024.Idx) :
    val_main_v23 (F := Ideal) x0 x1 x2 x3 x6 i = sec (val_main_v12 (F := Ideal) x0 x1 x2 x3 i) (x6 i) := by
  unfold val_main_v23 val_main_v22 val_main_v20
  generalize val_main_v12 (F := Ideal) x0 x1 x2 x3 = g
  idx_vars i
  pointwise [val_main_v21, val_main_v19, val_main_v18, val_main_cst_3, val_main_cst_4, sec]

theorem ref_d (x4 x5 x6 : Wt) (i : S2x864x1024.Idx) :
    val_main_v36 (F := Ideal) x0 x1 x2 x3 x4 x5 x6 i = delta (val_main_v12 (F := Ideal) x0 x1 x2 x3 i) (x4 i) (x5 i) (x6 i) := by
  unfold delta
  rw [← ref_m, ← ref_v]
  unfold val_main_v36 val_main_v34 val_main_v31 val_main_v30 val_main_v28 val_main_v27 val_main_v25
  generalize val_main_v17 (F := Ideal) x0 x1 x2 x3 x5 = u
  generalize val_main_v23 (F := Ideal) x0 x1 x2 x3 x6 = v
  idx_vars i
  pointwise [val_main_v35, val_main_v33, val_main_v32, val_main_v29, val_main_v26, val_main_v24, val_main_cst_5, val_main_cst_6, val_main_cst_7,
    val_main_cst_8, val_main_cst_9]

end

theorem pay11_at (g v : Bl) (y : S1x144x1024.Idx) : k0_pay11 (F := Ideal) g v y = mom (g y) (v y) := by
  idx_vars y
  obtain rfl : y0 = 0 := Subsingleton.elim _ _
  pointwise [k0_pay11, k0_pay9, k0_pay8, mom]

theorem pay12_at (g v : Bl) (y : S1x144x1024.Idx) : k0_pay12 (F := Ideal) g v y = sec (g y) (v y) := by
  idx_vars y
  obtain rfl : y0 = 0 := Subsingleton.elim _ _
  pointwise [k0_pay12, k0_pay10, k0_pay8, sec]

theorem pay1_at (g w u v : Bl) (y : S1x144x1024.Idx) :
    k0_pay1 (F := Ideal) (k0_pay9 (F := Ideal) g u) (k0_pay10 (F := Ideal) g v) (k0_pay13 (F := Ideal)) w y = delta (g y) (w y) (u y) (v y) := by
  idx_vars y
  obtain rfl : y0 = 0 := Subsingleton.elim _ _
  pointwise [k0_pay1, k0_pay13, k0_pay10, k0_pay9, k0_pay8, delta, mom, sec]

/-- The reference's gradient, step and moments. -/
abbrev G : Wt := Cert.Reference25Ideal.Read.val_main_v12 (F := Ideal) (A0 m c) (A1 m c) (A2 m c) (A3 m c)
abbrev RD : Wt := Cert.Reference25Ideal.Read.val_main_v36 (F := Ideal) (A0 m c) (A1 m c) (A2 m c) (A3 m c) (A4 m c) (A5 m c) (A6 m c)
abbrev RM : Wt := Cert.Reference25Ideal.Read.val_main_v17 (F := Ideal) (A0 m c) (A1 m c) (A2 m c) (A3 m c) (A5 m c)
abbrev RV : Wt := Cert.Reference25Ideal.Read.val_main_v23 (F := Ideal) (A0 m c) (A1 m c) (A2 m c) (A3 m c) (A6 m c)

/-- Device `k`'s share in a block. -/
abbrev one (r : Rc) (k : ℕ) (h : ∀ a, ![k, 0, 0] a + S1x144x1024.size a ≤ S8x144x1024.size a) : Sh := fun x => r ((Rect.unit (s := S8x144x1024) ![k, 0, 0] S1x144x1024.size h).idx x)

/-- The sum of the shares in a block, as the body adds them. -/
abbrev gsum (r : Rc) (o : Sh) : Bl :=
  k0_pay6 (F := Ideal) (k0_pay2 (F := Ideal) o (one r 0 inb_S8x144x1024_S1x144x1024_0_0_0) o (one r 1 inb_S8x144x1024_S1x144x1024_1_0_0) o (one r 2 inb_S8x144x1024_S1x144x1024_2_0_0) o (one r 3 inb_S8x144x1024_S1x144x1024_3_0_0))
    (k0_pay3 (F := Ideal) o) (one r 4 inb_S8x144x1024_S1x144x1024_4_0_0) o (one r 5 inb_S8x144x1024_S1x144x1024_5_0_0) o (one r 6 inb_S8x144x1024_S1x144x1024_6_0_0) o (one r 7 inb_S8x144x1024_S1x144x1024_7_0_0)

/-- The second layer's sum is written as the first one's. -/
theorem again : @k0_pay7 = @k0_pay6 ∧ @k0_pay4 = @k0_pay2 ∧ @k0_pay5 = @k0_pay3 := ⟨rfl, rfl, rfl⟩

theorem gsum_at (r : Rc) (o : Sh) (q : Fin 144) (j : Fin 1024) :
    gsum r o (ix3 0 q j) = total (o (ix3 0 q j)) fun d => r (ix3 ⟨1 + d.val, by omega⟩ q j) := by
  refine (pay6_at _ _ _ _ _ _ _ _ _ _ _ _ _ _ _ _ q j).trans (congrArg (total _) (funext fun d => ?_))
  fin_cases d <;> refine congrArg r ?_ <;> blk_ext <;> simp [Rect.unit]

theorem gradA (t : Fin cfg0.N) (h : t.val < 6) (y : S1x144x1024.Idx) : gsum (iblk m c 0 t) (iblk m c 1 t) y = G m c (at_ t y) := by
  idx_vars y
  obtain rfl : y0 = 0 := Subsingleton.elim _ _
  have e : layer t = 0 := Fin.ext (idxA t h).2.2
  refine ((gsum_at _ _ y1 y2).trans ?_).trans ((ref_g0 _ _ _ _ (row t y1) y2).symm.trans (congrArg (fun l => G m c (ix3 l (row t y1) y2)) e.symm))
  exact congrArg₂ total (shareA m c t h 0 y1 y2).2 (funext fun d => (shareA m c t h _ y1 y2).1)

theorem gradB (t : Fin cfg0.N) (h : 6 ≤ t.val) (y : S1x144x1024.Idx) : gsum (iblk m c 2 t) (iblk m c 3 t) y = G m c (at_ t y) := by
  idx_vars y
  obtain rfl : y0 = 0 := Subsingleton.elim _ _
  have e : layer t = 1 := Fin.ext (idxB t h).2.2
  refine ((gsum_at _ _ y1 y2).trans ?_).trans ((ref_g1 _ _ _ _ (row t y1) y2).symm.trans (congrArg (fun l => G m c (ix3 l (row t y1) y2)) e.symm))
  exact congrArg₂ total (shareB m c t h 0 y1 y2).2 (funext fun d => (shareB m c t h _ y1 y2).1)

theorem point8 (t : Fin cfg0.N) (y : S1x144x1024.Idx) (g : Bl) (hg : g y = G m c (at_ t y)) :
    k0_pay1 (F := Ideal) (k0_pay9 (F := Ideal) g (iblk m c 5 t)) (k0_pay10 (F := Ideal) g (iblk m c 6 t)) (k0_pay13 (F := Ideal)) (iblk m c 4 t) y
      = RD m c (at_ t y) := by
  refine (pay1_at _ _ _ _ y).trans (Eq.trans ?_ (ref_d _ _ _ _ _ _ _ (at_ t y)).symm)
  rw [hg, (in_at m c t y).1, (in_at m c t y).2.1, (in_at m c t y).2.2]

theorem point9 (t : Fin cfg0.N) (y : S1x144x1024.Idx) (g : Bl) (hg : g y = G m c (at_ t y)) :
    k0_pay11 (F := Ideal) g (iblk m c 5 t) y = RM m c (at_ t y) := by
  refine (pay11_at _ _ y).trans (Eq.trans ?_ (ref_m _ _ _ _ _ (at_ t y)).symm)
  rw [hg, (in_at m c t y).2.1]

theorem point10 (t : Fin cfg0.N) (y : S1x144x1024.Idx) (g : Bl) (hg : g y = G m c (at_ t y)) :
    k0_pay12 (F := Ideal) g (iblk m c 6 t) y = RV m c (at_ t y) := by
  refine (pay12_at _ _ y).trans (Eq.trans ?_ (ref_v _ _ _ _ _ (at_ t y)).symm)
  rw [hg, (in_at m c t y).2.2]

/-- What the body leaves at a point: the gradient's block, and the step taken from it. -/
theorem outs (t : Fin cfg0.N) : ∃ g : Bl, (∀ y, g y = G m c (at_ t y)) ∧ (outsAt0 m c t.val t.isLt).1 = g
    ∧ (outsAt0 m c t.val t.isLt).2.1 = k0_pay1 (F := Ideal) (k0_pay9 (F := Ideal) g (iblk m c 5 t)) (k0_pay10 (F := Ideal) g (iblk m c 6 t)) (k0_pay13 (F := Ideal)) (iblk m c 4 t)
    ∧ (outsAt0 m c t.val t.isLt).2.2.1 = k0_pay11 (F := Ideal) g (iblk m c 5 t) ∧ (outsAt0 m c t.val t.isLt).2.2.2 = k0_pay12 (F := Ideal) g (iblk m c 6 t) := by
  by_cases h : t.val < 6
  · rw [outsAt0_A m c t h (by omega)]
    refine ⟨gsum (iblk m c 0 t) (iblk m c 1 t), gradA m c t h, ?_, ?_, ?_, ?_⟩ <;> frame_out <;> rfl
  · have h' : 6 ≤ t.val := by omega
    rw [outsAt0_B m c t h h']
    refine ⟨gsum (iblk m c 2 t) (iblk m c 3 t), gradB m c t h', ?_, ?_, ?_, ?_⟩ <;> frame_out <;> rw [again.1, again.2.1, again.2.2] <;> rfl

theorem final7 : (dats m 0 c).arrAt 7 (cfgs 0).N = G m c := by
  refine (dats m 0 c).arrAt_eq_of_covers 7 _ (by decide +kernel) fun t hf y => ?_
  blk_simp
  obtain ⟨g, hg, e, -⟩ := outs m c t
  rw [after0_7, e]
  exact (hg y).trans (congrArg _ (emb t y).1.symm)

theorem final8 : (dats m 0 c).arrAt 8 (cfgs 0).N = RD m c := by
  refine (dats m 0 c).arrAt_eq_of_covers 8 _ (by decide +kernel) fun t hf y => ?_
  blk_simp
  obtain ⟨g, hg, -, e, -⟩ := outs m c t
  rw [after0_8, e]
  exact (point8 m c t y g (hg y)).trans (congrArg _ (emb t y).2.1.symm)

theorem final9 : (dats m 0 c).arrAt 9 (cfgs 0).N = RM m c := by
  refine (dats m 0 c).arrAt_eq_of_covers 9 _ (by decide +kernel) fun t hf y => ?_
  blk_simp
  obtain ⟨g, hg, -, -, e, -⟩ := outs m c t
  rw [after0_9, e]
  exact (point9 m c t y g (hg y)).trans (congrArg _ (emb t y).2.2.1.symm)

theorem final10 : (dats m 0 c).arrAt 10 (cfgs 0).N = RV m c := by
  refine (dats m 0 c).arrAt_eq_of_covers 10 _ (by decide +kernel) fun t hf y => ?_
  blk_simp
  obtain ⟨g, hg, -, -, -, e⟩ := outs m c t
  rw [after0_10, e]
  exact (point10 m c t y g (hg y)).trans (congrArg _ (emb t y).2.2.2.symm)

end Cert.SumInValue

end
-- ==== Proof.SumInClaim.lean ====
module

public import proofs.«01_k».proof.Defs
public import proofs.«01_k».proof.Proof.SumInValue
public import proofs.«01_k».proof.Proof.Gen.Kernel25.Frame
public import Idealize.ShloMosaic.Lib.Claim

@[expose] public section

/-! The claims about the sum of the shares and the update of the input projection's weight (`Kernel25`). -/

namespace Cert.SumInClaim

open Idealize.ShloMosaic Idealize.SL.Sem Cert.Reference25Ideal.Read

theorem frame_kernel : Cert.quiescent_Kernel25 := fun m ρ _ => Cert.Kernel25.Gen.frame m ρ

theorem frame_ideal : Cert.quiescent_Kernel25Ideal := fun m ρ _ => Cert.Kernel25Ideal.Gen.frame m ρ

theorem frame_reference : Cert.quiescent_Reference25Ideal := fun m ρ _ =>
  (θ_run Cert.Reference25Ideal.defs _ _).mono (fun r h => ⟨fun c => (h c).2.2.2.2, sem_eq_zero_of_no_sems (by decide) r.2⟩)
    (Cert.Reference25Ideal.Value.run m ρ)

theorem algebraic : Cert.algebraic_Kernel25Ideal_Reference25Ideal := by
  intro m g m' g' _ hagree
  refine ⟨_, _, _, _, Cert.Kernel25Ideal.Value.run_blocks m g, (θ_run Cert.Reference25Ideal.defs _ _).mono (fun r h c => ?_)
    (Cert.Reference25Ideal.Value.run m' g')⟩
  obtain ⟨h0, h1, h2, h3, h4, h5, h6⟩ := hagree c
  obtain ⟨r0, r1, r2, r3, rest⟩ := h c
  refine ⟨r0.trans ?_, r1.trans ?_, r2.trans ?_, r3.trans ?_, rest⟩
  · rw [val_main_v12_eq, h0, h1, h2, h3]
    exact (Cert.SumInValue.final7 m c).symm
  · rw [val_main_v36_eq, h0, h1, h2, h3, h4, h5, h6]
    exact (Cert.SumInValue.final8 m c).symm
  · rw [val_main_v17_eq, h0, h1, h2, h3, h5]
    exact (Cert.SumInValue.final9 m c).symm
  · rw [val_main_v23_eq, h0, h1, h2, h3, h6]
    exact (Cert.SumInValue.final10 m c).symm

end Cert.SumInClaim
-- ==== Proof.lean ====
module

public import proofs.«01_k».proof.Defs
public import proofs.«01_k».proof.Proof.MixClaim
public import proofs.«01_k».proof.Proof.PoolClaim
public import proofs.«01_k».proof.Proof.FfnPreClaim
public import proofs.«01_k».proof.Proof.DwInClaim
public import proofs.«01_k».proof.Proof.DwUpClaim
public import proofs.«01_k».proof.Proof.DwDownClaim
public import proofs.«01_k».proof.Proof.UpProjClaim
public import proofs.«01_k».proof.Proof.InProjClaim
public import proofs.«01_k».proof.Proof.FfnFwdClaim
public import proofs.«01_k».proof.Proof.FfnBwdClaim
public import proofs.«01_k».proof.Proof.MergeFwdClaim
public import proofs.«01_k».proof.Proof.AdamNormClaim
public import proofs.«01_k».proof.Proof.AdamBranchClaim
public import proofs.«01_k».proof.Proof.AdamBranchCClaim
public import proofs.«01_k».proof.Proof.AdamMemOutClaim
public import proofs.«01_k».proof.Proof.AdamPoolWClaim
public import proofs.«01_k».proof.Proof.AdamPoolScaleClaim
public import proofs.«01_k».proof.Proof.AdamConvBClaim
public import proofs.«01_k».proof.Proof.AdamConvFClaim
public import proofs.«01_k».proof.Proof.SumOutClaim
public import proofs.«01_k».proof.Proof.SumMqClaim
public import proofs.«01_k».proof.Proof.SumDownClaim
public import proofs.«01_k».proof.Proof.SumUpClaim
public import proofs.«01_k».proof.Proof.SumInClaim

@[expose] public section

noncomputable section

namespace Cert.Proof

open Idealize.ShloMosaic Idealize.SL.Sem Cert.Kernel

theorem claim : Cert.Claim := ⟨
  Cert.Kernel.Gen.facts,
  Cert.KernelIdeal.Gen.facts,
  Cert.ReferenceIdeal.Gen.facts,
  Cert.Kernel3.Gen.facts,
  Cert.Kernel3Ideal.Gen.facts,
  Cert.Reference3Ideal.Gen.facts,
  Cert.Kernel4.Gen.facts,
  Cert.Kernel4Ideal.Gen.facts,
  Cert.Reference4Ideal.Gen.facts,
  Cert.Kernel5.Gen.facts,
  Cert.Kernel5Ideal.Gen.facts,
  Cert.Reference5Ideal.Gen.facts,
  Cert.Kernel6.Gen.facts,
  Cert.Kernel6Ideal.Gen.facts,
  Cert.Reference6Ideal.Gen.facts,
  Cert.Kernel7.Gen.facts,
  Cert.Kernel7Ideal.Gen.facts,
  Cert.Reference7Ideal.Gen.facts,
  Cert.Kernel8.Gen.facts,
  Cert.Kernel8Ideal.Gen.facts,
  Cert.Reference8Ideal.Gen.facts,
  Cert.Kernel9.Gen.facts,
  Cert.Kernel9Ideal.Gen.facts,
  Cert.Reference9Ideal.Gen.facts,
  Cert.Kernel10.Gen.facts,
  Cert.Kernel10Ideal.Gen.facts,
  Cert.Reference10Ideal.Gen.facts,
  Cert.Kernel11.Gen.facts,
  Cert.Kernel11Ideal.Gen.facts,
  Cert.Reference11Ideal.Gen.facts,
  Cert.Kernel12.Gen.facts,
  Cert.Kernel12Ideal.Gen.facts,
  Cert.Reference12Ideal.Gen.facts,
  Cert.Kernel13.Gen.facts,
  Cert.Kernel13Ideal.Gen.facts,
  Cert.Reference13Ideal.Gen.facts,
  Cert.Kernel14.Gen.facts,
  Cert.Kernel14Ideal.Gen.facts,
  Cert.Reference14Ideal.Gen.facts,
  Cert.Kernel15.Gen.facts,
  Cert.Kernel15Ideal.Gen.facts,
  Cert.Reference15Ideal.Gen.facts,
  Cert.Kernel16.Gen.facts,
  Cert.Kernel16Ideal.Gen.facts,
  Cert.Reference16Ideal.Gen.facts,
  Cert.Kernel17.Gen.facts,
  Cert.Kernel17Ideal.Gen.facts,
  Cert.Reference17Ideal.Gen.facts,
  Cert.Kernel18.Gen.facts,
  Cert.Kernel18Ideal.Gen.facts,
  Cert.Reference18Ideal.Gen.facts,
  Cert.Kernel19.Gen.facts,
  Cert.Kernel19Ideal.Gen.facts,
  Cert.Reference19Ideal.Gen.facts,
  Cert.Kernel20.Gen.facts,
  Cert.Kernel20Ideal.Gen.facts,
  Cert.Reference20Ideal.Gen.facts,
  Cert.Kernel21.Gen.facts,
  Cert.Kernel21Ideal.Gen.facts,
  Cert.Reference21Ideal.Gen.facts,
  Cert.Kernel22.Gen.facts,
  Cert.Kernel22Ideal.Gen.facts,
  Cert.Reference22Ideal.Gen.facts,
  Cert.Kernel23.Gen.facts,
  Cert.Kernel23Ideal.Gen.facts,
  Cert.Reference23Ideal.Gen.facts,
  Cert.Kernel24.Gen.facts,
  Cert.Kernel24Ideal.Gen.facts,
  Cert.Reference24Ideal.Gen.facts,
  Cert.Kernel25.Gen.facts,
  Cert.Kernel25Ideal.Gen.facts,
  Cert.Reference25Ideal.Gen.facts,
  Cert.Pre_finite3.Gen.facts,
  Cert.Pre_finite11.Gen.facts,
  Cert.On_pool_blocks.Gen.facts,
  MixClaim.frame_kernel,
  MixClaim.frame_ideal,
  MixClaim.frame_reference,
  PoolClaim.frame_kernel,
  PoolClaim.frame_ideal,
  PoolClaim.frame_ideal_pre,
  PoolClaim.frame_reference,
  PoolClaim.frame_reference_pre,
  FfnPreClaim.frame_kernel,
  FfnPreClaim.frame_ideal,
  FfnPreClaim.frame_reference,
  DwInClaim.frame_kernel,
  DwInClaim.frame_ideal,
  DwInClaim.frame_reference,
  DwUpClaim.frame_kernel,
  DwUpClaim.frame_ideal,
  DwUpClaim.frame_reference,
  DwDownClaim.frame_kernel,
  DwDownClaim.frame_ideal,
  DwDownClaim.frame_reference,
  UpProjClaim.frame_kernel,
  UpProjClaim.frame_ideal,
  UpProjClaim.frame_reference,
  InProjClaim.frame_kernel,
  InProjClaim.frame_ideal,
  InProjClaim.frame_reference,
  FfnFwdClaim.frame_kernel,
  FfnFwdClaim.frame_ideal,
  FfnFwdClaim.frame_reference,
  FfnBwdClaim.frame_kernel,
  FfnBwdClaim.frame_ideal,
  FfnBwdClaim.frame_ideal_pre,
  FfnBwdClaim.frame_reference,
  FfnBwdClaim.frame_reference_pre,
  MergeFwdClaim.frame_kernel,
  MergeFwdClaim.frame_ideal,
  MergeFwdClaim.frame_reference,
  AdamNormClaim.frame_kernel,
  AdamNormClaim.frame_ideal,
  AdamNormClaim.frame_reference,
  AdamBranchClaim.frame_kernel,
  AdamBranchClaim.frame_ideal,
  AdamBranchClaim.frame_reference,
  AdamBranchCClaim.frame_kernel,
  AdamBranchCClaim.frame_ideal,
  AdamBranchCClaim.frame_reference,
  AdamMemOutClaim.frame_kernel,
  AdamMemOutClaim.frame_ideal,
  AdamMemOutClaim.frame_reference,
  AdamPoolWClaim.frame_kernel,
  AdamPoolWClaim.frame_ideal,
  AdamPoolWClaim.frame_reference,
  AdamPoolScaleClaim.frame_kernel,
  AdamPoolScaleClaim.frame_ideal,
  AdamPoolScaleClaim.frame_reference,
  AdamConvBClaim.frame_kernel,
  AdamConvBClaim.frame_ideal,
  AdamConvBClaim.frame_reference,
  AdamConvFClaim.frame_kernel,
  AdamConvFClaim.frame_ideal,
  AdamConvFClaim.frame_reference,
  SumOutClaim.frame_kernel,
  SumOutClaim.frame_ideal,
  SumOutClaim.frame_reference,
  SumMqClaim.frame_kernel,
  SumMqClaim.frame_ideal,
  SumMqClaim.frame_reference,
  SumDownClaim.frame_kernel,
  SumDownClaim.frame_ideal,
  SumDownClaim.frame_reference,
  SumUpClaim.frame_kernel,
  SumUpClaim.frame_ideal,
  SumUpClaim.frame_reference,
  SumInClaim.frame_kernel,
  SumInClaim.frame_ideal,
  SumInClaim.frame_reference,
  trivial,
  MixClaim.algebraic,
  trivial,
  PoolClaim.algebraic,
  trivial,
  FfnPreClaim.algebraic,
  trivial,
  DwInClaim.algebraic,
  trivial,
  DwUpClaim.algebraic,
  trivial,
  DwDownClaim.algebraic,
  trivial,
  UpProjClaim.algebraic,
  trivial,
  InProjClaim.algebraic,
  trivial,
  FfnFwdClaim.algebraic,
  trivial,
  FfnBwdClaim.algebraic,
  trivial,
  MergeFwdClaim.algebraic,
  trivial,
  AdamNormClaim.algebraic,
  trivial,
  AdamBranchClaim.algebraic,
  trivial,
  AdamBranchCClaim.algebraic,
  trivial,
  AdamMemOutClaim.algebraic,
  trivial,
  AdamPoolWClaim.algebraic,
  trivial,
  AdamPoolScaleClaim.algebraic,
  trivial,
  AdamConvBClaim.algebraic,
  trivial,
  AdamConvFClaim.algebraic,
  trivial,
  SumOutClaim.algebraic,
  trivial,
  SumMqClaim.algebraic,
  trivial,
  SumDownClaim.algebraic,
  trivial,
  SumUpClaim.algebraic,
  trivial,
  SumInClaim.algebraic⟩

end Cert.Proof

end
